-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_Fdx (m : (ℓ : Loc Cert.Fdx.nD Cert.Fdx.τ Cert.Fdx.sig) → Buf (Elt Bits) ℓ) : Prop :=
  True

def Pre_FdxIdeal (m : (ℓ : Loc Cert.FdxIdeal.nD Cert.FdxIdeal.τ Cert.FdxIdeal.sig) → Buf (Elt Ideal) ℓ) : Prop :=
  True

def Pre_FdxRefIdeal (m : (ℓ : Loc Cert.FdxRefIdeal.nD Cert.FdxRefIdeal.τ Cert.FdxRefIdeal.sig) → Buf (Elt Ideal) ℓ) : Prop :=
  True

def Pre_Fdwq (m : (ℓ : Loc Cert.Fdwq.nD Cert.Fdwq.τ Cert.Fdwq.sig) → Buf (Elt Bits) ℓ) : Prop :=
  True

def Pre_FdwqIdeal (m : (ℓ : Loc Cert.FdwqIdeal.nD Cert.FdwqIdeal.τ Cert.FdwqIdeal.sig) → Buf (Elt Ideal) ℓ) : Prop :=
  True

def Pre_FdwqRefIdeal (m : (ℓ : Loc Cert.FdwqRefIdeal.nD Cert.FdwqRefIdeal.τ Cert.FdwqRefIdeal.sig) → Buf (Elt Ideal) ℓ) : Prop :=
  True

def Pre_Fdwg (m : (ℓ : Loc Cert.Fdwg.nD Cert.Fdwg.τ Cert.Fdwg.sig) → Buf (Elt Bits) ℓ) : Prop :=
  True

def Pre_FdwgIdeal (m : (ℓ : Loc Cert.FdwgIdeal.nD Cert.FdwgIdeal.τ Cert.FdwgIdeal.sig) → Buf (Elt Ideal) ℓ) : Prop :=
  True

def Pre_FdwgRefIdeal (m : (ℓ : Loc Cert.FdwgRefIdeal.nD Cert.FdwgRefIdeal.τ Cert.FdwgRefIdeal.sig) → Buf (Elt Ideal) ℓ) : Prop :=
  True

def Pre_Fqkv (m : (ℓ : Loc Cert.Fqkv.nD Cert.Fqkv.τ Cert.Fqkv.sig) → Buf (Elt Bits) ℓ) : Prop :=
  True

def Pre_FqkvIdeal (m : (ℓ : Loc Cert.FqkvIdeal.nD Cert.FqkvIdeal.τ Cert.FqkvIdeal.sig) → Buf (Elt Ideal) ℓ) : Prop :=
  True

def Pre_FqkvRefIdeal (m : (ℓ : Loc Cert.FqkvRefIdeal.nD Cert.FqkvRefIdeal.τ Cert.FqkvRefIdeal.sig) → Buf (Elt Ideal) ℓ) : Prop :=
  True

def Pre_Fgate (m : (ℓ : Loc Cert.Fgate.nD Cert.Fgate.τ Cert.Fgate.sig) → Buf (Elt Bits) ℓ) : Prop :=
  True

def Pre_FgateIdeal (m : (ℓ : Loc Cert.FgateIdeal.nD Cert.FgateIdeal.τ Cert.FgateIdeal.sig) → Buf (Elt Ideal) ℓ) : Prop :=
  True

def Pre_FgateRefIdeal (m : (ℓ : Loc Cert.FgateRefIdeal.nD Cert.FgateRefIdeal.τ Cert.FgateRefIdeal.sig) → Buf (Elt Ideal) ℓ) : Prop :=
  True

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite_mla [hPre_finite_mla : Cert.Pre_finite_mla.Facts] (m : (ℓ : Loc Cert.MlaIdeal.nD Cert.MlaIdeal.τ Cert.MlaIdeal.sig) → Buf (Elt Ideal) ℓ) : Prop :=
  ∀ c : Dev Cert.MlaIdeal.nD,
    (Cert.Pre_finite_mla.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5))).1 = (fun _ => 1#1)
    ∧ (Cert.Pre_finite_mla.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5))).2.1 = (fun _ => 1#1)
    ∧ (Cert.Pre_finite_mla.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5))).2.2.1 = (fun _ => 1#1)
    ∧ (Cert.Pre_finite_mla.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5))).2.2.2.1 = (fun _ => 1#1)
    ∧ (Cert.Pre_finite_mla.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5))).2.2.2.2.1 = (fun _ => 1#1)
    ∧ (Cert.Pre_finite_mla.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5))).2.2.2.2.2 = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_finite_mla [hPre_finite_mla : Cert.Pre_finite_mla.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite_mla.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5))).1 = (fun _ => 1#1)
    ∧ (Cert.Pre_finite_mla.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5))).2.1 = (fun _ => 1#1)
    ∧ (Cert.Pre_finite_mla.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5))).2.2.1 = (fun _ => 1#1)
    ∧ (Cert.Pre_finite_mla.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5))).2.2.2.1 = (fun _ => 1#1)
    ∧ (Cert.Pre_finite_mla.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5))).2.2.2.2.1 = (fun _ => 1#1)
    ∧ (Cert.Pre_finite_mla.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1)
      ∧ r.2.mem ((c.tc : Thread Cert.Dw.nD Cert.Dw.τ).loc Cert.Dw.main_arg2) = m ((c.tc : Thread Cert.Dw.nD Cert.Dw.τ).loc Cert.Dw.main_arg2))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
      ∧ r.2.mem ((c.tc : Thread Cert.DwIdeal.nD Cert.DwIdeal.τ).loc Cert.DwIdeal.main_arg2) = m ((c.tc : Thread Cert.DwIdeal.nD Cert.DwIdeal.τ).loc Cert.DwIdeal.main_arg2))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1)
      ∧ r.2.mem ((c.tc : Thread Cert.DwRefIdeal.nD Cert.DwRefIdeal.τ).loc Cert.DwRefIdeal.main_arg2) = m ((c.tc : Thread Cert.DwRefIdeal.nD Cert.DwRefIdeal.τ).loc Cert.DwRefIdeal.main_arg2))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_Fdx [hFdx : Cert.Fdx.Facts] : Prop :=
  ∀ (m : (ℓ : Loc Cert.Fdx.nD Cert.Fdx.τ Cert.Fdx.sig) → Buf (Elt Bits) ℓ) (g : Dev Cert.Fdx.nD → PrngReg), Pre_Fdx m →
    θ_run (Cert.Fdx.defs (F := Bits)) (onTc (τ := Cert.Fdx.τ) (Cert.Fdx.main (F := Bits))) ⟨m, fun _ => 0, g⟩ (fun r => (∀ c : Dev Cert.Fdx.nD,
      r.2.mem ((c.tc : Thread Cert.Fdx.nD Cert.Fdx.τ).loc Cert.Fdx.main_arg0) = m ((c.tc : Thread Cert.Fdx.nD Cert.Fdx.τ).loc Cert.Fdx.main_arg0)
      ∧ r.2.mem ((c.tc : Thread Cert.Fdx.nD Cert.Fdx.τ).loc Cert.Fdx.main_arg1) = m ((c.tc : Thread Cert.Fdx.nD Cert.Fdx.τ).loc Cert.Fdx.main_arg1)
      ∧ r.2.mem ((c.tc : Thread Cert.Fdx.nD Cert.Fdx.τ).loc Cert.Fdx.main_arg2) = m ((c.tc : Thread Cert.Fdx.nD Cert.Fdx.τ).loc Cert.Fdx.main_arg2))
      ∧ r.2.sem = fun _ => 0)

def quiescent_FdxIdeal [hFdxIdeal : Cert.FdxIdeal.Facts] : Prop :=
  ∀ (m : (ℓ : Loc Cert.FdxIdeal.nD Cert.FdxIdeal.τ Cert.FdxIdeal.sig) → Buf (Elt Ideal) ℓ) (g : Dev Cert.FdxIdeal.nD → PrngReg), Pre_FdxIdeal m →
    θ_run (Cert.FdxIdeal.defs (F := Ideal)) (onTc (τ := Cert.FdxIdeal.τ) (Cert.FdxIdeal.main (F := Ideal))) ⟨m, fun _ => 0, g⟩ (fun r => (∀ c : Dev Cert.FdxIdeal.nD,
      r.2.mem ((c.tc : Thread Cert.FdxIdeal.nD Cert.FdxIdeal.τ).loc Cert.FdxIdeal.main_arg0) = m ((c.tc : Thread Cert.FdxIdeal.nD Cert.FdxIdeal.τ).loc Cert.FdxIdeal.main_arg0)
      ∧ r.2.mem ((c.tc : Thread Cert.FdxIdeal.nD Cert.FdxIdeal.τ).loc Cert.FdxIdeal.main_arg1) = m ((c.tc : Thread Cert.FdxIdeal.nD Cert.FdxIdeal.τ).loc Cert.FdxIdeal.main_arg1)
      ∧ r.2.mem ((c.tc : Thread Cert.FdxIdeal.nD Cert.FdxIdeal.τ).loc Cert.FdxIdeal.main_arg2) = m ((c.tc : Thread Cert.FdxIdeal.nD Cert.FdxIdeal.τ).loc Cert.FdxIdeal.main_arg2))
      ∧ r.2.sem = fun _ => 0)

def quiescent_FdxRefIdeal [hFdxRefIdeal : Cert.FdxRefIdeal.Facts] : Prop :=
  ∀ (m : (ℓ : Loc Cert.FdxRefIdeal.nD Cert.FdxRefIdeal.τ Cert.FdxRefIdeal.sig) → Buf (Elt Ideal) ℓ) (g : Dev Cert.FdxRefIdeal.nD → PrngReg), Pre_FdxRefIdeal m →
    θ_run (Cert.FdxRefIdeal.defs (F := Ideal)) (onTc (τ := Cert.FdxRefIdeal.τ) (Cert.FdxRefIdeal.main (F := Ideal))) ⟨m, fun _ => 0, g⟩ (fun r => (∀ c : Dev Cert.FdxRefIdeal.nD,
      r.2.mem ((c.tc : Thread Cert.FdxRefIdeal.nD Cert.FdxRefIdeal.τ).loc Cert.FdxRefIdeal.main_arg0) = m ((c.tc : Thread Cert.FdxRefIdeal.nD Cert.FdxRefIdeal.τ).loc Cert.FdxRefIdeal.main_arg0)
      ∧ r.2.mem ((c.tc : Thread Cert.FdxRefIdeal.nD Cert.FdxRefIdeal.τ).loc Cert.FdxRefIdeal.main_arg1) = m ((c.tc : Thread Cert.FdxRefIdeal.nD Cert.FdxRefIdeal.τ).loc Cert.FdxRefIdeal.main_arg1)
      ∧ r.2.mem ((c.tc : Thread Cert.FdxRefIdeal.nD Cert.FdxRefIdeal.τ).loc Cert.FdxRefIdeal.main_arg2) = m ((c.tc : Thread Cert.FdxRefIdeal.nD Cert.FdxRefIdeal.τ).loc Cert.FdxRefIdeal.main_arg2))
      ∧ r.2.sem = fun _ => 0)

def quiescent_Fdwq [hFdwq : Cert.Fdwq.Facts] : Prop :=
  ∀ (m : (ℓ : Loc Cert.Fdwq.nD Cert.Fdwq.τ Cert.Fdwq.sig) → Buf (Elt Bits) ℓ) (g : Dev Cert.Fdwq.nD → PrngReg), Pre_Fdwq m →
    θ_run (Cert.Fdwq.defs (F := Bits)) (onTc (τ := Cert.Fdwq.τ) (Cert.Fdwq.main (F := Bits))) ⟨m, fun _ => 0, g⟩ (fun r => (∀ c : Dev Cert.Fdwq.nD,
      r.2.mem ((c.tc : Thread Cert.Fdwq.nD Cert.Fdwq.τ).loc Cert.Fdwq.main_arg0) = m ((c.tc : Thread Cert.Fdwq.nD Cert.Fdwq.τ).loc Cert.Fdwq.main_arg0)
      ∧ r.2.mem ((c.tc : Thread Cert.Fdwq.nD Cert.Fdwq.τ).loc Cert.Fdwq.main_arg1) = m ((c.tc : Thread Cert.Fdwq.nD Cert.Fdwq.τ).loc Cert.Fdwq.main_arg1))
      ∧ r.2.sem = fun _ => 0)

def quiescent_FdwqIdeal [hFdwqIdeal : Cert.FdwqIdeal.Facts] : Prop :=
  ∀ (m : (ℓ : Loc Cert.FdwqIdeal.nD Cert.FdwqIdeal.τ Cert.FdwqIdeal.sig) → Buf (Elt Ideal) ℓ) (g : Dev Cert.FdwqIdeal.nD → PrngReg), Pre_FdwqIdeal m →
    θ_run (Cert.FdwqIdeal.defs (F := Ideal)) (onTc (τ := Cert.FdwqIdeal.τ) (Cert.FdwqIdeal.main (F := Ideal))) ⟨m, fun _ => 0, g⟩ (fun r => (∀ c : Dev Cert.FdwqIdeal.nD,
      r.2.mem ((c.tc : Thread Cert.FdwqIdeal.nD Cert.FdwqIdeal.τ).loc Cert.FdwqIdeal.main_arg0) = m ((c.tc : Thread Cert.FdwqIdeal.nD Cert.FdwqIdeal.τ).loc Cert.FdwqIdeal.main_arg0)
      ∧ r.2.mem ((c.tc : Thread Cert.FdwqIdeal.nD Cert.FdwqIdeal.τ).loc Cert.FdwqIdeal.main_arg1) = m ((c.tc : Thread Cert.FdwqIdeal.nD Cert.FdwqIdeal.τ).loc Cert.FdwqIdeal.main_arg1))
      ∧ r.2.sem = fun _ => 0)

def quiescent_FdwqRefIdeal [hFdwqRefIdeal : Cert.FdwqRefIdeal.Facts] : Prop :=
  ∀ (m : (ℓ : Loc Cert.FdwqRefIdeal.nD Cert.FdwqRefIdeal.τ Cert.FdwqRefIdeal.sig) → Buf (Elt Ideal) ℓ) (g : Dev Cert.FdwqRefIdeal.nD → PrngReg), Pre_FdwqRefIdeal m →
    θ_run (Cert.FdwqRefIdeal.defs (F := Ideal)) (onTc (τ := Cert.FdwqRefIdeal.τ) (Cert.FdwqRefIdeal.main (F := Ideal))) ⟨m, fun _ => 0, g⟩ (fun r => (∀ c : Dev Cert.FdwqRefIdeal.nD,
      r.2.mem ((c.tc : Thread Cert.FdwqRefIdeal.nD Cert.FdwqRefIdeal.τ).loc Cert.FdwqRefIdeal.main_arg0) = m ((c.tc : Thread Cert.FdwqRefIdeal.nD Cert.FdwqRefIdeal.τ).loc Cert.FdwqRefIdeal.main_arg0)
      ∧ r.2.mem ((c.tc : Thread Cert.FdwqRefIdeal.nD Cert.FdwqRefIdeal.τ).loc Cert.FdwqRefIdeal.main_arg1) = m ((c.tc : Thread Cert.FdwqRefIdeal.nD Cert.FdwqRefIdeal.τ).loc Cert.FdwqRefIdeal.main_arg1))
      ∧ r.2.sem = fun _ => 0)

def quiescent_Fdwg [hFdwg : Cert.Fdwg.Facts] : Prop :=
  ∀ (m : (ℓ : Loc Cert.Fdwg.nD Cert.Fdwg.τ Cert.Fdwg.sig) → Buf (Elt Bits) ℓ) (g : Dev Cert.Fdwg.nD → PrngReg), Pre_Fdwg m →
    θ_run (Cert.Fdwg.defs (F := Bits)) (onTc (τ := Cert.Fdwg.τ) (Cert.Fdwg.main (F := Bits))) ⟨m, fun _ => 0, g⟩ (fun r => (∀ c : Dev Cert.Fdwg.nD,
      r.2.mem ((c.tc : Thread Cert.Fdwg.nD Cert.Fdwg.τ).loc Cert.Fdwg.main_arg0) = m ((c.tc : Thread Cert.Fdwg.nD Cert.Fdwg.τ).loc Cert.Fdwg.main_arg0)
      ∧ r.2.mem ((c.tc : Thread Cert.Fdwg.nD Cert.Fdwg.τ).loc Cert.Fdwg.main_arg1) = m ((c.tc : Thread Cert.Fdwg.nD Cert.Fdwg.τ).loc Cert.Fdwg.main_arg1))
      ∧ r.2.sem = fun _ => 0)

def quiescent_FdwgIdeal [hFdwgIdeal : Cert.FdwgIdeal.Facts] : Prop :=
  ∀ (m : (ℓ : Loc Cert.FdwgIdeal.nD Cert.FdwgIdeal.τ Cert.FdwgIdeal.sig) → Buf (Elt Ideal) ℓ) (g : Dev Cert.FdwgIdeal.nD → PrngReg), Pre_FdwgIdeal m →
    θ_run (Cert.FdwgIdeal.defs (F := Ideal)) (onTc (τ := Cert.FdwgIdeal.τ) (Cert.FdwgIdeal.main (F := Ideal))) ⟨m, fun _ => 0, g⟩ (fun r => (∀ c : Dev Cert.FdwgIdeal.nD,
      r.2.mem ((c.tc : Thread Cert.FdwgIdeal.nD Cert.FdwgIdeal.τ).loc Cert.FdwgIdeal.main_arg0) = m ((c.tc : Thread Cert.FdwgIdeal.nD Cert.FdwgIdeal.τ).loc Cert.FdwgIdeal.main_arg0)
      ∧ r.2.mem ((c.tc : Thread Cert.FdwgIdeal.nD Cert.FdwgIdeal.τ).loc Cert.FdwgIdeal.main_arg1) = m ((c.tc : Thread Cert.FdwgIdeal.nD Cert.FdwgIdeal.τ).loc Cert.FdwgIdeal.main_arg1))
      ∧ r.2.sem = fun _ => 0)

def quiescent_FdwgRefIdeal [hFdwgRefIdeal : Cert.FdwgRefIdeal.Facts] : Prop :=
  ∀ (m : (ℓ : Loc Cert.FdwgRefIdeal.nD Cert.FdwgRefIdeal.τ Cert.FdwgRefIdeal.sig) → Buf (Elt Ideal) ℓ) (g : Dev Cert.FdwgRefIdeal.nD → PrngReg), Pre_FdwgRefIdeal m →
    θ_run (Cert.FdwgRefIdeal.defs (F := Ideal)) (onTc (τ := Cert.FdwgRefIdeal.τ) (Cert.FdwgRefIdeal.main (F := Ideal))) ⟨m, fun _ => 0, g⟩ (fun r => (∀ c : Dev Cert.FdwgRefIdeal.nD,
      r.2.mem ((c.tc : Thread Cert.FdwgRefIdeal.nD Cert.FdwgRefIdeal.τ).loc Cert.FdwgRefIdeal.main_arg0) = m ((c.tc : Thread Cert.FdwgRefIdeal.nD Cert.FdwgRefIdeal.τ).loc Cert.FdwgRefIdeal.main_arg0)
      ∧ r.2.mem ((c.tc : Thread Cert.FdwgRefIdeal.nD Cert.FdwgRefIdeal.τ).loc Cert.FdwgRefIdeal.main_arg1) = m ((c.tc : Thread Cert.FdwgRefIdeal.nD Cert.FdwgRefIdeal.τ).loc Cert.FdwgRefIdeal.main_arg1))
      ∧ r.2.sem = fun _ => 0)

def quiescent_Fqkv [hFqkv : Cert.Fqkv.Facts] : Prop :=
  ∀ (m : (ℓ : Loc Cert.Fqkv.nD Cert.Fqkv.τ Cert.Fqkv.sig) → Buf (Elt Bits) ℓ) (g : Dev Cert.Fqkv.nD → PrngReg), Pre_Fqkv m →
    θ_run (Cert.Fqkv.defs (F := Bits)) (onTc (τ := Cert.Fqkv.τ) (Cert.Fqkv.main (F := Bits))) ⟨m, fun _ => 0, g⟩ (fun r => (∀ c : Dev Cert.Fqkv.nD,
      r.2.mem ((c.tc : Thread Cert.Fqkv.nD Cert.Fqkv.τ).loc Cert.Fqkv.main_arg0) = m ((c.tc : Thread Cert.Fqkv.nD Cert.Fqkv.τ).loc Cert.Fqkv.main_arg0)
      ∧ r.2.mem ((c.tc : Thread Cert.Fqkv.nD Cert.Fqkv.τ).loc Cert.Fqkv.main_arg1) = m ((c.tc : Thread Cert.Fqkv.nD Cert.Fqkv.τ).loc Cert.Fqkv.main_arg1))
      ∧ r.2.sem = fun _ => 0)

def quiescent_FqkvIdeal [hFqkvIdeal : Cert.FqkvIdeal.Facts] : Prop :=
  ∀ (m : (ℓ : Loc Cert.FqkvIdeal.nD Cert.FqkvIdeal.τ Cert.FqkvIdeal.sig) → Buf (Elt Ideal) ℓ) (g : Dev Cert.FqkvIdeal.nD → PrngReg), Pre_FqkvIdeal m →
    θ_run (Cert.FqkvIdeal.defs (F := Ideal)) (onTc (τ := Cert.FqkvIdeal.τ) (Cert.FqkvIdeal.main (F := Ideal))) ⟨m, fun _ => 0, g⟩ (fun r => (∀ c : Dev Cert.FqkvIdeal.nD,
      r.2.mem ((c.tc : Thread Cert.FqkvIdeal.nD Cert.FqkvIdeal.τ).loc Cert.FqkvIdeal.main_arg0) = m ((c.tc : Thread Cert.FqkvIdeal.nD Cert.FqkvIdeal.τ).loc Cert.FqkvIdeal.main_arg0)
      ∧ r.2.mem ((c.tc : Thread Cert.FqkvIdeal.nD Cert.FqkvIdeal.τ).loc Cert.FqkvIdeal.main_arg1) = m ((c.tc : Thread Cert.FqkvIdeal.nD Cert.FqkvIdeal.τ).loc Cert.FqkvIdeal.main_arg1))
      ∧ r.2.sem = fun _ => 0)

def quiescent_FqkvRefIdeal [hFqkvRefIdeal : Cert.FqkvRefIdeal.Facts] : Prop :=
  ∀ (m : (ℓ : Loc Cert.FqkvRefIdeal.nD Cert.FqkvRefIdeal.τ Cert.FqkvRefIdeal.sig) → Buf (Elt Ideal) ℓ) (g : Dev Cert.FqkvRefIdeal.nD → PrngReg), Pre_FqkvRefIdeal m →
    θ_run (Cert.FqkvRefIdeal.defs (F := Ideal)) (onTc (τ := Cert.FqkvRefIdeal.τ) (Cert.FqkvRefIdeal.main (F := Ideal))) ⟨m, fun _ => 0, g⟩ (fun r => (∀ c : Dev Cert.FqkvRefIdeal.nD,
      r.2.mem ((c.tc : Thread Cert.FqkvRefIdeal.nD Cert.FqkvRefIdeal.τ).loc Cert.FqkvRefIdeal.main_arg0) = m ((c.tc : Thread Cert.FqkvRefIdeal.nD Cert.FqkvRefIdeal.τ).loc Cert.FqkvRefIdeal.main_arg0)
      ∧ r.2.mem ((c.tc : Thread Cert.FqkvRefIdeal.nD Cert.FqkvRefIdeal.τ).loc Cert.FqkvRefIdeal.main_arg1) = m ((c.tc : Thread Cert.FqkvRefIdeal.nD Cert.FqkvRefIdeal.τ).loc Cert.FqkvRefIdeal.main_arg1))
      ∧ r.2.sem = fun _ => 0)

def quiescent_Fgate [hFgate : Cert.Fgate.Facts] : Prop :=
  ∀ (m : (ℓ : Loc Cert.Fgate.nD Cert.Fgate.τ Cert.Fgate.sig) → Buf (Elt Bits) ℓ) (g : Dev Cert.Fgate.nD → PrngReg), Pre_Fgate m →
    θ_run (Cert.Fgate.defs (F := Bits)) (onTc (τ := Cert.Fgate.τ) (Cert.Fgate.main (F := Bits))) ⟨m, fun _ => 0, g⟩ (fun r => (∀ c : Dev Cert.Fgate.nD,
      r.2.mem ((c.tc : Thread Cert.Fgate.nD Cert.Fgate.τ).loc Cert.Fgate.main_arg0) = m ((c.tc : Thread Cert.Fgate.nD Cert.Fgate.τ).loc Cert.Fgate.main_arg0)
      ∧ r.2.mem ((c.tc : Thread Cert.Fgate.nD Cert.Fgate.τ).loc Cert.Fgate.main_arg1) = m ((c.tc : Thread Cert.Fgate.nD Cert.Fgate.τ).loc Cert.Fgate.main_arg1))
      ∧ r.2.sem = fun _ => 0)

def quiescent_FgateIdeal [hFgateIdeal : Cert.FgateIdeal.Facts] : Prop :=
  ∀ (m : (ℓ : Loc Cert.FgateIdeal.nD Cert.FgateIdeal.τ Cert.FgateIdeal.sig) → Buf (Elt Ideal) ℓ) (g : Dev Cert.FgateIdeal.nD → PrngReg), Pre_FgateIdeal m →
    θ_run (Cert.FgateIdeal.defs (F := Ideal)) (onTc (τ := Cert.FgateIdeal.τ) (Cert.FgateIdeal.main (F := Ideal))) ⟨m, fun _ => 0, g⟩ (fun r => (∀ c : Dev Cert.FgateIdeal.nD,
      r.2.mem ((c.tc : Thread Cert.FgateIdeal.nD Cert.FgateIdeal.τ).loc Cert.FgateIdeal.main_arg0) = m ((c.tc : Thread Cert.FgateIdeal.nD Cert.FgateIdeal.τ).loc Cert.FgateIdeal.main_arg0)
      ∧ r.2.mem ((c.tc : Thread Cert.FgateIdeal.nD Cert.FgateIdeal.τ).loc Cert.FgateIdeal.main_arg1) = m ((c.tc : Thread Cert.FgateIdeal.nD Cert.FgateIdeal.τ).loc Cert.FgateIdeal.main_arg1))
      ∧ r.2.sem = fun _ => 0)

def quiescent_FgateRefIdeal [hFgateRefIdeal : Cert.FgateRefIdeal.Facts] : Prop :=
  ∀ (m : (ℓ : Loc Cert.FgateRefIdeal.nD Cert.FgateRefIdeal.τ Cert.FgateRefIdeal.sig) → Buf (Elt Ideal) ℓ) (g : Dev Cert.FgateRefIdeal.nD → PrngReg), Pre_FgateRefIdeal m →
    θ_run (Cert.FgateRefIdeal.defs (F := Ideal)) (onTc (τ := Cert.FgateRefIdeal.τ) (Cert.FgateRefIdeal.main (F := Ideal))) ⟨m, fun _ => 0, g⟩ (fun r => (∀ c : Dev Cert.FgateRefIdeal.nD,
      r.2.mem ((c.tc : Thread Cert.FgateRefIdeal.nD Cert.FgateRefIdeal.τ).loc Cert.FgateRefIdeal.main_arg0) = m ((c.tc : Thread Cert.FgateRefIdeal.nD Cert.FgateRefIdeal.τ).loc Cert.FgateRefIdeal.main_arg0)
      ∧ r.2.mem ((c.tc : Thread Cert.FgateRefIdeal.nD Cert.FgateRefIdeal.τ).loc Cert.FgateRefIdeal.main_arg1) = m ((c.tc : Thread Cert.FgateRefIdeal.nD Cert.FgateRefIdeal.τ).loc Cert.FgateRefIdeal.main_arg1))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4)
      ∧ r.2.mem ((c.tc : Thread Cert.Mla.nD Cert.Mla.τ).loc Cert.Mla.main_arg5) = m ((c.tc : Thread Cert.Mla.nD Cert.Mla.τ).loc Cert.Mla.main_arg5))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5))
      ∧ r.2.sem = fun _ => 0)

def quiescent_MlaIdeal_pre_finite_mla [hMlaIdeal : Cert.MlaIdeal.Facts] [hPre_finite_mla : Cert.Pre_finite_mla.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite_mla m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5))
      ∧ r.2.sem = fun _ => 0)

def quiescent_MlaRefIdeal_pre_finite_mla [hMlaRefIdeal : Cert.MlaRefIdeal.Facts] [hPre_finite_mla : Cert.Pre_finite_mla.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite_mla m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v54)) (v1 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)) →
    ∃ (v0 : (c : Dev Cert.DxIdeal.nD) → Buf (Elt Ideal) ((c.tc : Thread Cert.DxIdeal.nD Cert.DxIdeal.τ).loc Cert.DxIdeal.main_v0)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v0) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v9) = v0 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2))

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)
      ∧ m' ((c.tc : Thread Cert.DwRefIdeal.nD Cert.DwRefIdeal.τ).loc Cert.DwRefIdeal.main_arg2) = m ((c.tc : Thread Cert.DwIdeal.nD Cert.DwIdeal.τ).loc Cert.DwIdeal.main_arg2)) →
    ∃ (v0 : (c : Dev Cert.DwIdeal.nD) → Buf (Elt Ideal) ((c.tc : Thread Cert.DwIdeal.nD Cert.DwIdeal.τ).loc Cert.DwIdeal.main_v2)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v2) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
          ∧ r.2.mem ((c.tc : Thread Cert.DwIdeal.nD Cert.DwIdeal.τ).loc Cert.DwIdeal.main_arg2) = m ((c.tc : Thread Cert.DwIdeal.nD Cert.DwIdeal.τ).loc Cert.DwIdeal.main_arg2))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v11) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1)
          ∧ r.2.mem ((c.tc : Thread Cert.DwRefIdeal.nD Cert.DwRefIdeal.τ).loc Cert.DwRefIdeal.main_arg2) = m' ((c.tc : Thread Cert.DwRefIdeal.nD Cert.DwRefIdeal.τ).loc Cert.DwRefIdeal.main_arg2))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v0)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v4) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v3) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v3) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v2)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v2) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v5) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_Fdx_FdxIdeal : Prop :=
  True

def algebraic_FdxIdeal_FdxRefIdeal [hFdxIdeal : Cert.FdxIdeal.Facts] [hFdxRefIdeal : Cert.FdxRefIdeal.Facts] : Prop :=
  ∀ (m : (ℓ : Loc Cert.FdxIdeal.nD Cert.FdxIdeal.τ Cert.FdxIdeal.sig) → Buf (Elt Ideal) ℓ) (g : Dev Cert.FdxIdeal.nD → PrngReg)
    (m' : (ℓ : Loc Cert.FdxRefIdeal.nD Cert.FdxRefIdeal.τ Cert.FdxRefIdeal.sig) → Buf (Elt Ideal) ℓ) (g' : Dev Cert.FdxRefIdeal.nD → PrngReg), Pre_FdxIdeal m →
    (∀ c : Dev Cert.FdxIdeal.nD,
      m' ((c.tc : Thread Cert.FdxRefIdeal.nD Cert.FdxRefIdeal.τ).loc Cert.FdxRefIdeal.main_arg0) = m ((c.tc : Thread Cert.FdxIdeal.nD Cert.FdxIdeal.τ).loc Cert.FdxIdeal.main_arg0)
      ∧ m' ((c.tc : Thread Cert.FdxRefIdeal.nD Cert.FdxRefIdeal.τ).loc Cert.FdxRefIdeal.main_arg1) = m ((c.tc : Thread Cert.FdxIdeal.nD Cert.FdxIdeal.τ).loc Cert.FdxIdeal.main_arg1)
      ∧ m' ((c.tc : Thread Cert.FdxRefIdeal.nD Cert.FdxRefIdeal.τ).loc Cert.FdxRefIdeal.main_arg2) = m ((c.tc : Thread Cert.FdxIdeal.nD Cert.FdxIdeal.τ).loc Cert.FdxIdeal.main_arg2)) →
    ∃ (v0 : (c : Dev Cert.FdxIdeal.nD) → Buf (Elt Ideal) ((c.tc : Thread Cert.FdxIdeal.nD Cert.FdxIdeal.τ).loc Cert.FdxIdeal.main_v0)),
      θ_run (Cert.FdxIdeal.defs (F := Ideal)) (onTc (τ := Cert.FdxIdeal.τ) (Cert.FdxIdeal.main (F := Ideal))) ⟨m, fun _ => 0, g⟩ (fun r => ∀ c : Dev Cert.FdxIdeal.nD,
          r.2.mem ((c.tc : Thread Cert.FdxIdeal.nD Cert.FdxIdeal.τ).loc Cert.FdxIdeal.main_v0) = v0 c
          ∧ r.2.mem ((c.tc : Thread Cert.FdxIdeal.nD Cert.FdxIdeal.τ).loc Cert.FdxIdeal.main_arg0) = m ((c.tc : Thread Cert.FdxIdeal.nD Cert.FdxIdeal.τ).loc Cert.FdxIdeal.main_arg0)
          ∧ r.2.mem ((c.tc : Thread Cert.FdxIdeal.nD Cert.FdxIdeal.τ).loc Cert.FdxIdeal.main_arg1) = m ((c.tc : Thread Cert.FdxIdeal.nD Cert.FdxIdeal.τ).loc Cert.FdxIdeal.main_arg1)
          ∧ r.2.mem ((c.tc : Thread Cert.FdxIdeal.nD Cert.FdxIdeal.τ).loc Cert.FdxIdeal.main_arg2) = m ((c.tc : Thread Cert.FdxIdeal.nD Cert.FdxIdeal.τ).loc Cert.FdxIdeal.main_arg2))
      ∧ θ_run (Cert.FdxRefIdeal.defs (F := Ideal)) (onTc (τ := Cert.FdxRefIdeal.τ) (Cert.FdxRefIdeal.main (F := Ideal))) ⟨m', fun _ => 0, g'⟩ (fun r => ∀ c : Dev Cert.FdxRefIdeal.nD,
          r.2.mem ((c.tc : Thread Cert.FdxRefIdeal.nD Cert.FdxRefIdeal.τ).loc Cert.FdxRefIdeal.main_v9) = v0 c
          ∧ r.2.mem ((c.tc : Thread Cert.FdxRefIdeal.nD Cert.FdxRefIdeal.τ).loc Cert.FdxRefIdeal.main_arg0) = m' ((c.tc : Thread Cert.FdxRefIdeal.nD Cert.FdxRefIdeal.τ).loc Cert.FdxRefIdeal.main_arg0)
          ∧ r.2.mem ((c.tc : Thread Cert.FdxRefIdeal.nD Cert.FdxRefIdeal.τ).loc Cert.FdxRefIdeal.main_arg1) = m' ((c.tc : Thread Cert.FdxRefIdeal.nD Cert.FdxRefIdeal.τ).loc Cert.FdxRefIdeal.main_arg1)
          ∧ r.2.mem ((c.tc : Thread Cert.FdxRefIdeal.nD Cert.FdxRefIdeal.τ).loc Cert.FdxRefIdeal.main_arg2) = m' ((c.tc : Thread Cert.FdxRefIdeal.nD Cert.FdxRefIdeal.τ).loc Cert.FdxRefIdeal.main_arg2))

def preserves_Fdwq_FdwqIdeal : Prop :=
  True

def algebraic_FdwqIdeal_FdwqRefIdeal [hFdwqIdeal : Cert.FdwqIdeal.Facts] [hFdwqRefIdeal : Cert.FdwqRefIdeal.Facts] : Prop :=
  ∀ (m : (ℓ : Loc Cert.FdwqIdeal.nD Cert.FdwqIdeal.τ Cert.FdwqIdeal.sig) → Buf (Elt Ideal) ℓ) (g : Dev Cert.FdwqIdeal.nD → PrngReg)
    (m' : (ℓ : Loc Cert.FdwqRefIdeal.nD Cert.FdwqRefIdeal.τ Cert.FdwqRefIdeal.sig) → Buf (Elt Ideal) ℓ) (g' : Dev Cert.FdwqRefIdeal.nD → PrngReg), Pre_FdwqIdeal m →
    (∀ c : Dev Cert.FdwqIdeal.nD,
      m' ((c.tc : Thread Cert.FdwqRefIdeal.nD Cert.FdwqRefIdeal.τ).loc Cert.FdwqRefIdeal.main_arg0) = m ((c.tc : Thread Cert.FdwqIdeal.nD Cert.FdwqIdeal.τ).loc Cert.FdwqIdeal.main_arg0)
      ∧ m' ((c.tc : Thread Cert.FdwqRefIdeal.nD Cert.FdwqRefIdeal.τ).loc Cert.FdwqRefIdeal.main_arg1) = m ((c.tc : Thread Cert.FdwqIdeal.nD Cert.FdwqIdeal.τ).loc Cert.FdwqIdeal.main_arg1)) →
    ∃ (v0 : (c : Dev Cert.FdwqIdeal.nD) → Buf (Elt Ideal) ((c.tc : Thread Cert.FdwqIdeal.nD Cert.FdwqIdeal.τ).loc Cert.FdwqIdeal.main_v2)),
      θ_run (Cert.FdwqIdeal.defs (F := Ideal)) (onTc (τ := Cert.FdwqIdeal.τ) (Cert.FdwqIdeal.main (F := Ideal))) ⟨m, fun _ => 0, g⟩ (fun r => ∀ c : Dev Cert.FdwqIdeal.nD,
          r.2.mem ((c.tc : Thread Cert.FdwqIdeal.nD Cert.FdwqIdeal.τ).loc Cert.FdwqIdeal.main_v2) = v0 c
          ∧ r.2.mem ((c.tc : Thread Cert.FdwqIdeal.nD Cert.FdwqIdeal.τ).loc Cert.FdwqIdeal.main_arg0) = m ((c.tc : Thread Cert.FdwqIdeal.nD Cert.FdwqIdeal.τ).loc Cert.FdwqIdeal.main_arg0)
          ∧ r.2.mem ((c.tc : Thread Cert.FdwqIdeal.nD Cert.FdwqIdeal.τ).loc Cert.FdwqIdeal.main_arg1) = m ((c.tc : Thread Cert.FdwqIdeal.nD Cert.FdwqIdeal.τ).loc Cert.FdwqIdeal.main_arg1))
      ∧ θ_run (Cert.FdwqRefIdeal.defs (F := Ideal)) (onTc (τ := Cert.FdwqRefIdeal.τ) (Cert.FdwqRefIdeal.main (F := Ideal))) ⟨m', fun _ => 0, g'⟩ (fun r => ∀ c : Dev Cert.FdwqRefIdeal.nD,
          r.2.mem ((c.tc : Thread Cert.FdwqRefIdeal.nD Cert.FdwqRefIdeal.τ).loc Cert.FdwqRefIdeal.main_v4) = v0 c
          ∧ r.2.mem ((c.tc : Thread Cert.FdwqRefIdeal.nD Cert.FdwqRefIdeal.τ).loc Cert.FdwqRefIdeal.main_arg0) = m' ((c.tc : Thread Cert.FdwqRefIdeal.nD Cert.FdwqRefIdeal.τ).loc Cert.FdwqRefIdeal.main_arg0)
          ∧ r.2.mem ((c.tc : Thread Cert.FdwqRefIdeal.nD Cert.FdwqRefIdeal.τ).loc Cert.FdwqRefIdeal.main_arg1) = m' ((c.tc : Thread Cert.FdwqRefIdeal.nD Cert.FdwqRefIdeal.τ).loc Cert.FdwqRefIdeal.main_arg1))

def preserves_Fdwg_FdwgIdeal : Prop :=
  True

def algebraic_FdwgIdeal_FdwgRefIdeal [hFdwgIdeal : Cert.FdwgIdeal.Facts] [hFdwgRefIdeal : Cert.FdwgRefIdeal.Facts] : Prop :=
  ∀ (m : (ℓ : Loc Cert.FdwgIdeal.nD Cert.FdwgIdeal.τ Cert.FdwgIdeal.sig) → Buf (Elt Ideal) ℓ) (g : Dev Cert.FdwgIdeal.nD → PrngReg)
    (m' : (ℓ : Loc Cert.FdwgRefIdeal.nD Cert.FdwgRefIdeal.τ Cert.FdwgRefIdeal.sig) → Buf (Elt Ideal) ℓ) (g' : Dev Cert.FdwgRefIdeal.nD → PrngReg), Pre_FdwgIdeal m →
    (∀ c : Dev Cert.FdwgIdeal.nD,
      m' ((c.tc : Thread Cert.FdwgRefIdeal.nD Cert.FdwgRefIdeal.τ).loc Cert.FdwgRefIdeal.main_arg0) = m ((c.tc : Thread Cert.FdwgIdeal.nD Cert.FdwgIdeal.τ).loc Cert.FdwgIdeal.main_arg0)
      ∧ m' ((c.tc : Thread Cert.FdwgRefIdeal.nD Cert.FdwgRefIdeal.τ).loc Cert.FdwgRefIdeal.main_arg1) = m ((c.tc : Thread Cert.FdwgIdeal.nD Cert.FdwgIdeal.τ).loc Cert.FdwgIdeal.main_arg1)) →
    ∃ (v0 : (c : Dev Cert.FdwgIdeal.nD) → Buf (Elt Ideal) ((c.tc : Thread Cert.FdwgIdeal.nD Cert.FdwgIdeal.τ).loc Cert.FdwgIdeal.main_v2)),
      θ_run (Cert.FdwgIdeal.defs (F := Ideal)) (onTc (τ := Cert.FdwgIdeal.τ) (Cert.FdwgIdeal.main (F := Ideal))) ⟨m, fun _ => 0, g⟩ (fun r => ∀ c : Dev Cert.FdwgIdeal.nD,
          r.2.mem ((c.tc : Thread Cert.FdwgIdeal.nD Cert.FdwgIdeal.τ).loc Cert.FdwgIdeal.main_v2) = v0 c
          ∧ r.2.mem ((c.tc : Thread Cert.FdwgIdeal.nD Cert.FdwgIdeal.τ).loc Cert.FdwgIdeal.main_arg0) = m ((c.tc : Thread Cert.FdwgIdeal.nD Cert.FdwgIdeal.τ).loc Cert.FdwgIdeal.main_arg0)
          ∧ r.2.mem ((c.tc : Thread Cert.FdwgIdeal.nD Cert.FdwgIdeal.τ).loc Cert.FdwgIdeal.main_arg1) = m ((c.tc : Thread Cert.FdwgIdeal.nD Cert.FdwgIdeal.τ).loc Cert.FdwgIdeal.main_arg1))
      ∧ θ_run (Cert.FdwgRefIdeal.defs (F := Ideal)) (onTc (τ := Cert.FdwgRefIdeal.τ) (Cert.FdwgRefIdeal.main (F := Ideal))) ⟨m', fun _ => 0, g'⟩ (fun r => ∀ c : Dev Cert.FdwgRefIdeal.nD,
          r.2.mem ((c.tc : Thread Cert.FdwgRefIdeal.nD Cert.FdwgRefIdeal.τ).loc Cert.FdwgRefIdeal.main_v3) = v0 c
          ∧ r.2.mem ((c.tc : Thread Cert.FdwgRefIdeal.nD Cert.FdwgRefIdeal.τ).loc Cert.FdwgRefIdeal.main_arg0) = m' ((c.tc : Thread Cert.FdwgRefIdeal.nD Cert.FdwgRefIdeal.τ).loc Cert.FdwgRefIdeal.main_arg0)
          ∧ r.2.mem ((c.tc : Thread Cert.FdwgRefIdeal.nD Cert.FdwgRefIdeal.τ).loc Cert.FdwgRefIdeal.main_arg1) = m' ((c.tc : Thread Cert.FdwgRefIdeal.nD Cert.FdwgRefIdeal.τ).loc Cert.FdwgRefIdeal.main_arg1))

def preserves_Fqkv_FqkvIdeal : Prop :=
  True

def algebraic_FqkvIdeal_FqkvRefIdeal [hFqkvIdeal : Cert.FqkvIdeal.Facts] [hFqkvRefIdeal : Cert.FqkvRefIdeal.Facts] : Prop :=
  ∀ (m : (ℓ : Loc Cert.FqkvIdeal.nD Cert.FqkvIdeal.τ Cert.FqkvIdeal.sig) → Buf (Elt Ideal) ℓ) (g : Dev Cert.FqkvIdeal.nD → PrngReg)
    (m' : (ℓ : Loc Cert.FqkvRefIdeal.nD Cert.FqkvRefIdeal.τ Cert.FqkvRefIdeal.sig) → Buf (Elt Ideal) ℓ) (g' : Dev Cert.FqkvRefIdeal.nD → PrngReg), Pre_FqkvIdeal m →
    (∀ c : Dev Cert.FqkvIdeal.nD,
      m' ((c.tc : Thread Cert.FqkvRefIdeal.nD Cert.FqkvRefIdeal.τ).loc Cert.FqkvRefIdeal.main_arg0) = m ((c.tc : Thread Cert.FqkvIdeal.nD Cert.FqkvIdeal.τ).loc Cert.FqkvIdeal.main_arg0)
      ∧ m' ((c.tc : Thread Cert.FqkvRefIdeal.nD Cert.FqkvRefIdeal.τ).loc Cert.FqkvRefIdeal.main_arg1) = m ((c.tc : Thread Cert.FqkvIdeal.nD Cert.FqkvIdeal.τ).loc Cert.FqkvIdeal.main_arg1)) →
    ∃ (v0 : (c : Dev Cert.FqkvIdeal.nD) → Buf (Elt Ideal) ((c.tc : Thread Cert.FqkvIdeal.nD Cert.FqkvIdeal.τ).loc Cert.FqkvIdeal.main_v0)),
      θ_run (Cert.FqkvIdeal.defs (F := Ideal)) (onTc (τ := Cert.FqkvIdeal.τ) (Cert.FqkvIdeal.main (F := Ideal))) ⟨m, fun _ => 0, g⟩ (fun r => ∀ c : Dev Cert.FqkvIdeal.nD,
          r.2.mem ((c.tc : Thread Cert.FqkvIdeal.nD Cert.FqkvIdeal.τ).loc Cert.FqkvIdeal.main_v0) = v0 c
          ∧ r.2.mem ((c.tc : Thread Cert.FqkvIdeal.nD Cert.FqkvIdeal.τ).loc Cert.FqkvIdeal.main_arg0) = m ((c.tc : Thread Cert.FqkvIdeal.nD Cert.FqkvIdeal.τ).loc Cert.FqkvIdeal.main_arg0)
          ∧ r.2.mem ((c.tc : Thread Cert.FqkvIdeal.nD Cert.FqkvIdeal.τ).loc Cert.FqkvIdeal.main_arg1) = m ((c.tc : Thread Cert.FqkvIdeal.nD Cert.FqkvIdeal.τ).loc Cert.FqkvIdeal.main_arg1))
      ∧ θ_run (Cert.FqkvRefIdeal.defs (F := Ideal)) (onTc (τ := Cert.FqkvRefIdeal.τ) (Cert.FqkvRefIdeal.main (F := Ideal))) ⟨m', fun _ => 0, g'⟩ (fun r => ∀ c : Dev Cert.FqkvRefIdeal.nD,
          r.2.mem ((c.tc : Thread Cert.FqkvRefIdeal.nD Cert.FqkvRefIdeal.τ).loc Cert.FqkvRefIdeal.main_v4) = v0 c
          ∧ r.2.mem ((c.tc : Thread Cert.FqkvRefIdeal.nD Cert.FqkvRefIdeal.τ).loc Cert.FqkvRefIdeal.main_arg0) = m' ((c.tc : Thread Cert.FqkvRefIdeal.nD Cert.FqkvRefIdeal.τ).loc Cert.FqkvRefIdeal.main_arg0)
          ∧ r.2.mem ((c.tc : Thread Cert.FqkvRefIdeal.nD Cert.FqkvRefIdeal.τ).loc Cert.FqkvRefIdeal.main_arg1) = m' ((c.tc : Thread Cert.FqkvRefIdeal.nD Cert.FqkvRefIdeal.τ).loc Cert.FqkvRefIdeal.main_arg1))

def preserves_Fgate_FgateIdeal : Prop :=
  True

def algebraic_FgateIdeal_FgateRefIdeal [hFgateIdeal : Cert.FgateIdeal.Facts] [hFgateRefIdeal : Cert.FgateRefIdeal.Facts] : Prop :=
  ∀ (m : (ℓ : Loc Cert.FgateIdeal.nD Cert.FgateIdeal.τ Cert.FgateIdeal.sig) → Buf (Elt Ideal) ℓ) (g : Dev Cert.FgateIdeal.nD → PrngReg)
    (m' : (ℓ : Loc Cert.FgateRefIdeal.nD Cert.FgateRefIdeal.τ Cert.FgateRefIdeal.sig) → Buf (Elt Ideal) ℓ) (g' : Dev Cert.FgateRefIdeal.nD → PrngReg), Pre_FgateIdeal m →
    (∀ c : Dev Cert.FgateIdeal.nD,
      m' ((c.tc : Thread Cert.FgateRefIdeal.nD Cert.FgateRefIdeal.τ).loc Cert.FgateRefIdeal.main_arg0) = m ((c.tc : Thread Cert.FgateIdeal.nD Cert.FgateIdeal.τ).loc Cert.FgateIdeal.main_arg0)
      ∧ m' ((c.tc : Thread Cert.FgateRefIdeal.nD Cert.FgateRefIdeal.τ).loc Cert.FgateRefIdeal.main_arg1) = m ((c.tc : Thread Cert.FgateIdeal.nD Cert.FgateIdeal.τ).loc Cert.FgateIdeal.main_arg1)) →
    ∃ (v0 : (c : Dev Cert.FgateIdeal.nD) → Buf (Elt Ideal) ((c.tc : Thread Cert.FgateIdeal.nD Cert.FgateIdeal.τ).loc Cert.FgateIdeal.main_v0)),
      θ_run (Cert.FgateIdeal.defs (F := Ideal)) (onTc (τ := Cert.FgateIdeal.τ) (Cert.FgateIdeal.main (F := Ideal))) ⟨m, fun _ => 0, g⟩ (fun r => ∀ c : Dev Cert.FgateIdeal.nD,
          r.2.mem ((c.tc : Thread Cert.FgateIdeal.nD Cert.FgateIdeal.τ).loc Cert.FgateIdeal.main_v0) = v0 c
          ∧ r.2.mem ((c.tc : Thread Cert.FgateIdeal.nD Cert.FgateIdeal.τ).loc Cert.FgateIdeal.main_arg0) = m ((c.tc : Thread Cert.FgateIdeal.nD Cert.FgateIdeal.τ).loc Cert.FgateIdeal.main_arg0)
          ∧ r.2.mem ((c.tc : Thread Cert.FgateIdeal.nD Cert.FgateIdeal.τ).loc Cert.FgateIdeal.main_arg1) = m ((c.tc : Thread Cert.FgateIdeal.nD Cert.FgateIdeal.τ).loc Cert.FgateIdeal.main_arg1))
      ∧ θ_run (Cert.FgateRefIdeal.defs (F := Ideal)) (onTc (τ := Cert.FgateRefIdeal.τ) (Cert.FgateRefIdeal.main (F := Ideal))) ⟨m', fun _ => 0, g'⟩ (fun r => ∀ c : Dev Cert.FgateRefIdeal.nD,
          r.2.mem ((c.tc : Thread Cert.FgateRefIdeal.nD Cert.FgateRefIdeal.τ).loc Cert.FgateRefIdeal.main_v3) = v0 c
          ∧ r.2.mem ((c.tc : Thread Cert.FgateRefIdeal.nD Cert.FgateRefIdeal.τ).loc Cert.FgateRefIdeal.main_arg0) = m' ((c.tc : Thread Cert.FgateRefIdeal.nD Cert.FgateRefIdeal.τ).loc Cert.FgateRefIdeal.main_arg0)
          ∧ r.2.mem ((c.tc : Thread Cert.FgateRefIdeal.nD Cert.FgateRefIdeal.τ).loc Cert.FgateRefIdeal.main_arg1) = m' ((c.tc : Thread Cert.FgateRefIdeal.nD Cert.FgateRefIdeal.τ).loc Cert.FgateRefIdeal.main_arg1))

def preserves_Mla_MlaIdeal : Prop :=
  True

def algebraic_MlaIdeal_MlaRefIdeal_pre_finite_mla [hMlaIdeal : Cert.MlaIdeal.Facts] [hMlaRefIdeal : Cert.MlaRefIdeal.Facts] [hPre_finite_mla : Cert.Pre_finite_mla.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_finite_mla m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)
      ∧ m' ((c.tc : Thread Cert.MlaRefIdeal.nD Cert.MlaRefIdeal.τ).loc Cert.MlaRefIdeal.main_arg4) = m ((c.tc : Thread Cert.MlaIdeal.nD Cert.MlaIdeal.τ).loc Cert.MlaIdeal.main_arg4)
      ∧ m' ((c.tc : Thread Cert.MlaRefIdeal.nD Cert.MlaRefIdeal.τ).loc Cert.MlaRefIdeal.main_arg5) = m ((c.tc : Thread Cert.MlaIdeal.nD Cert.MlaIdeal.τ).loc Cert.MlaIdeal.main_arg5)) →
    ∃ (v0 : (c : Dev Cert.MlaIdeal.nD) → Buf (Elt Ideal) ((c.tc : Thread Cert.MlaIdeal.nD Cert.MlaIdeal.τ).loc Cert.MlaIdeal.main_v52)) (v1 : (c : Dev Cert.MlaIdeal.nD) → Buf (Elt Ideal) ((c.tc : Thread Cert.MlaIdeal.nD Cert.MlaIdeal.τ).loc Cert.MlaIdeal.main_v53)) (v2 : (c : Dev Cert.MlaIdeal.nD) → Buf (Elt Ideal) ((c.tc : Thread Cert.MlaIdeal.nD Cert.MlaIdeal.τ).loc Cert.MlaIdeal.main_v54)) (v3 : (c : Dev Cert.MlaIdeal.nD) → Buf (Elt Ideal) ((c.tc : Thread Cert.MlaIdeal.nD Cert.MlaIdeal.τ).loc Cert.MlaIdeal.main_v55)) (v4 : (c : Dev Cert.MlaIdeal.nD) → Buf (Elt Ideal) ((c.tc : Thread Cert.MlaIdeal.nD Cert.MlaIdeal.τ).loc Cert.MlaIdeal.main_v56)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v52) = v0 c
          ∧ r.2.mem ((c.tc : Thread Cert.MlaIdeal.nD Cert.MlaIdeal.τ).loc Cert.MlaIdeal.main_v53) = v1 c
          ∧ r.2.mem ((c.tc : Thread Cert.MlaIdeal.nD Cert.MlaIdeal.τ).loc Cert.MlaIdeal.main_v54) = v2 c
          ∧ r.2.mem ((c.tc : Thread Cert.MlaIdeal.nD Cert.MlaIdeal.τ).loc Cert.MlaIdeal.main_v55) = v3 c
          ∧ r.2.mem ((c.tc : Thread Cert.MlaIdeal.nD Cert.MlaIdeal.τ).loc Cert.MlaIdeal.main_v56) = v4 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
          ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
          ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v71) = v0 c
          ∧ r.2.mem ((c.tc : Thread Cert.MlaRefIdeal.nD Cert.MlaRefIdeal.τ).loc Cert.MlaRefIdeal.main_v69) = v1 c
          ∧ r.2.mem ((c.tc : Thread Cert.MlaRefIdeal.nD Cert.MlaRefIdeal.τ).loc Cert.MlaRefIdeal.main_v72) = v2 c
          ∧ r.2.mem ((c.tc : Thread Cert.MlaRefIdeal.nD Cert.MlaRefIdeal.τ).loc Cert.MlaRefIdeal.main_v68) = v3 c
          ∧ r.2.mem ((c.tc : Thread Cert.MlaRefIdeal.nD Cert.MlaRefIdeal.τ).loc Cert.MlaRefIdeal.main_v73) = v4 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4)
          ∧ r.2.mem ((c.tc : Thread Cert.MlaRefIdeal.nD Cert.MlaRefIdeal.τ).loc Cert.MlaRefIdeal.main_arg5) = m' ((c.tc : Thread Cert.MlaRefIdeal.nD Cert.MlaRefIdeal.τ).loc Cert.MlaRefIdeal.main_arg5))

def Claim : Prop :=
  ∃ (hKernel : Cert.Kernel.Facts) (hKernelIdeal : Cert.KernelIdeal.Facts) (hReferenceIdeal : Cert.ReferenceIdeal.Facts) (hDx : Cert.Dx.Facts) (hDxIdeal : Cert.DxIdeal.Facts) (hDxRefIdeal : Cert.DxRefIdeal.Facts) (hDw : Cert.Dw.Facts) (hDwIdeal : Cert.DwIdeal.Facts) (hDwRefIdeal : Cert.DwRefIdeal.Facts) (hQkv : Cert.Qkv.Facts) (hQkvIdeal : Cert.QkvIdeal.Facts) (hQkvRefIdeal : Cert.QkvRefIdeal.Facts) (hGate : Cert.Gate.Facts) (hGateIdeal : Cert.GateIdeal.Facts) (hGateRefIdeal : Cert.GateRefIdeal.Facts) (hOut : Cert.Out.Facts) (hOutIdeal : Cert.OutIdeal.Facts) (hOutRefIdeal : Cert.OutRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hFdx : Cert.Fdx.Facts) (hFdxIdeal : Cert.FdxIdeal.Facts) (hFdxRefIdeal : Cert.FdxRefIdeal.Facts) (hFdwq : Cert.Fdwq.Facts) (hFdwqIdeal : Cert.FdwqIdeal.Facts) (hFdwqRefIdeal : Cert.FdwqRefIdeal.Facts) (hFdwg : Cert.Fdwg.Facts) (hFdwgIdeal : Cert.FdwgIdeal.Facts) (hFdwgRefIdeal : Cert.FdwgRefIdeal.Facts) (hFqkv : Cert.Fqkv.Facts) (hFqkvIdeal : Cert.FqkvIdeal.Facts) (hFqkvRefIdeal : Cert.FqkvRefIdeal.Facts) (hFgate : Cert.Fgate.Facts) (hFgateIdeal : Cert.FgateIdeal.Facts) (hFgateRefIdeal : Cert.FgateRefIdeal.Facts) (hMla : Cert.Mla.Facts) (hMlaIdeal : Cert.MlaIdeal.Facts) (hMlaRefIdeal : Cert.MlaRefIdeal.Facts) (hPre_finite : Cert.Pre_finite.Facts) (hPre_finite_mla : Cert.Pre_finite_mla.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Dx (hDx := hDx)
    ∧ quiescent_DxIdeal (hDxIdeal := hDxIdeal)
    ∧ quiescent_DxRefIdeal (hDxRefIdeal := hDxRefIdeal)
    ∧ quiescent_Dw (hDw := hDw)
    ∧ quiescent_DwIdeal (hDwIdeal := hDwIdeal)
    ∧ quiescent_DwRefIdeal (hDwRefIdeal := hDwRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Gate (hGate := hGate)
    ∧ quiescent_GateIdeal (hGateIdeal := hGateIdeal)
    ∧ quiescent_GateRefIdeal (hGateRefIdeal := hGateRefIdeal)
    ∧ quiescent_Out (hOut := hOut)
    ∧ quiescent_OutIdeal (hOutIdeal := hOutIdeal)
    ∧ quiescent_OutRefIdeal (hOutRefIdeal := hOutRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_Fdx (hFdx := hFdx)
    ∧ quiescent_FdxIdeal (hFdxIdeal := hFdxIdeal)
    ∧ quiescent_FdxRefIdeal (hFdxRefIdeal := hFdxRefIdeal)
    ∧ quiescent_Fdwq (hFdwq := hFdwq)
    ∧ quiescent_FdwqIdeal (hFdwqIdeal := hFdwqIdeal)
    ∧ quiescent_FdwqRefIdeal (hFdwqRefIdeal := hFdwqRefIdeal)
    ∧ quiescent_Fdwg (hFdwg := hFdwg)
    ∧ quiescent_FdwgIdeal (hFdwgIdeal := hFdwgIdeal)
    ∧ quiescent_FdwgRefIdeal (hFdwgRefIdeal := hFdwgRefIdeal)
    ∧ quiescent_Fqkv (hFqkv := hFqkv)
    ∧ quiescent_FqkvIdeal (hFqkvIdeal := hFqkvIdeal)
    ∧ quiescent_FqkvRefIdeal (hFqkvRefIdeal := hFqkvRefIdeal)
    ∧ quiescent_Fgate (hFgate := hFgate)
    ∧ quiescent_FgateIdeal (hFgateIdeal := hFgateIdeal)
    ∧ quiescent_FgateRefIdeal (hFgateRefIdeal := hFgateRefIdeal)
    ∧ quiescent_Mla (hMla := hMla)
    ∧ quiescent_MlaIdeal (hMlaIdeal := hMlaIdeal)
    ∧ quiescent_MlaIdeal_pre_finite_mla (hMlaIdeal := hMlaIdeal) (hPre_finite_mla := hPre_finite_mla)
    ∧ quiescent_MlaRefIdeal (hMlaRefIdeal := hMlaRefIdeal)
    ∧ quiescent_MlaRefIdeal_pre_finite_mla (hMlaRefIdeal := hMlaRefIdeal) (hPre_finite_mla := hPre_finite_mla)
    ∧ preserves_Kernel_KernelIdeal
    ∧ algebraic_KernelIdeal_ReferenceIdeal_pre_finite (hKernelIdeal := hKernelIdeal) (hReferenceIdeal := hReferenceIdeal) (hPre_finite := hPre_finite)
    ∧ preserves_Dx_DxIdeal
    ∧ algebraic_DxIdeal_DxRefIdeal (hDxIdeal := hDxIdeal) (hDxRefIdeal := hDxRefIdeal)
    ∧ preserves_Dw_DwIdeal
    ∧ algebraic_DwIdeal_DwRefIdeal (hDwIdeal := hDwIdeal) (hDwRefIdeal := hDwRefIdeal)
    ∧ preserves_Qkv_QkvIdeal
    ∧ algebraic_QkvIdeal_QkvRefIdeal (hQkvIdeal := hQkvIdeal) (hQkvRefIdeal := hQkvRefIdeal)
    ∧ preserves_Gate_GateIdeal
    ∧ algebraic_GateIdeal_GateRefIdeal (hGateIdeal := hGateIdeal) (hGateRefIdeal := hGateRefIdeal)
    ∧ preserves_Out_OutIdeal
    ∧ algebraic_OutIdeal_OutRefIdeal (hOutIdeal := hOutIdeal) (hOutRefIdeal := hOutRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_Fdx_FdxIdeal
    ∧ algebraic_FdxIdeal_FdxRefIdeal (hFdxIdeal := hFdxIdeal) (hFdxRefIdeal := hFdxRefIdeal)
    ∧ preserves_Fdwq_FdwqIdeal
    ∧ algebraic_FdwqIdeal_FdwqRefIdeal (hFdwqIdeal := hFdwqIdeal) (hFdwqRefIdeal := hFdwqRefIdeal)
    ∧ preserves_Fdwg_FdwgIdeal
    ∧ algebraic_FdwgIdeal_FdwgRefIdeal (hFdwgIdeal := hFdwgIdeal) (hFdwgRefIdeal := hFdwgRefIdeal)
    ∧ preserves_Fqkv_FqkvIdeal
    ∧ algebraic_FqkvIdeal_FqkvRefIdeal (hFqkvIdeal := hFqkvIdeal) (hFqkvRefIdeal := hFqkvRefIdeal)
    ∧ preserves_Fgate_FgateIdeal
    ∧ algebraic_FgateIdeal_FgateRefIdeal (hFgateIdeal := hFgateIdeal) (hFgateRefIdeal := hFgateRefIdeal)
    ∧ preserves_Mla_MlaIdeal
    ∧ algebraic_MlaIdeal_MlaRefIdeal_pre_finite_mla (hMlaIdeal := hMlaIdeal) (hMlaRefIdeal := hMlaRefIdeal) (hPre_finite_mla := hPre_finite_mla)
-- ==== Pre_finite.lean ====
abbrev S4096x6144 : Shape := ⟨2, ![4096, 6144]⟩
abbrev S4096x16 : Shape := ⟨2, ![4096, 16]⟩
abbrev S4096x2048 : Shape := ⟨2, ![4096, 2048]⟩
abbrev S_ : Shape := ⟨0, ![]⟩

class Facts : Prop where
  bitsLt_bf16_f32 : FTy.bits .bf16 < FTy.bits .f32
  bcast_S_S4096x6144 : S_.BroadcastsInDim S4096x6144 (![] : Fin 0 → Fin S4096x6144.rank)
  bcast_S_S4096x16 : S_.BroadcastsInDim S4096x16 (![] : Fin 0 → Fin S4096x16.rank)
  bcast_S_S4096x2048 : S_.BroadcastsInDim S4096x2048 (![] : Fin 0 → Fin S4096x2048.rank)

variable [Facts]

def fn {F : FTy → Type} [FloatOps F] (main_arg0 : FVec F S4096x6144 .bf16) (main_arg1 : FVec F S4096x16 .f32) (main_arg2 : FVec F S4096x2048 .bf16) : IVec S4096x6144 1 × IVec S4096x16 1 × IVec S4096x2048 1 :=
  let main_v0 : FVec F S4096x6144 .f32 := (extf .f32 · bitsLt_bf16_f32) main_arg0
  let main_v1 : FVec F S4096x6144 .f32 := Host.absf main_v0
  let main_cst : FVec F S_ .f32 := constant S_ .f32 0x7F800000#32
  let main_v2 : FVec F S4096x6144 .f32 := broadcastInDim S4096x6144 ![] bcast_S_S4096x6144 main_cst
  let main_v3 : IVec S4096x6144 1 := cmpf .olt main_v1 main_v2
  let main_v4 : FVec F S4096x16 .f32 := Host.absf main_arg1
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_v7 : FVec F S4096x2048 .f32 := (extf .f32 · bitsLt_bf16_f32) main_arg2
  let main_v8 : FVec F S4096x2048 .f32 := Host.absf main_v7
  let main_cst_1 : FVec F S_ .f32 := constant S_ .f32 0x7F800000#32
  let main_v9 : FVec F S4096x2048 .f32 := broadcastInDim S4096x2048 ![] bcast_S_S4096x2048 main_cst_1
  let main_v10 : IVec S4096x2048 1 := cmpf .olt main_v8 main_v9
  (main_v3, main_v6, main_v10)
-- ==== Pre_finite_mla.lean ====
abbrev S16x4096x128 : Shape := ⟨3, ![16, 4096, 128]⟩
abbrev S16x4096x64 : Shape := ⟨3, ![16, 4096, 64]⟩
abbrev S4096x64 : Shape := ⟨2, ![4096, 64]⟩
abbrev S_ : Shape := ⟨0, ![]⟩

class Facts : Prop where
  bitsLt_bf16_f32 : FTy.bits .bf16 < FTy.bits .f32
  bcast_S_S16x4096x128 : S_.BroadcastsInDim S16x4096x128 (![] : Fin 0 → Fin S16x4096x128.rank)
  bcast_S_S16x4096x64 : S_.BroadcastsInDim S16x4096x64 (![] : Fin 0 → Fin S16x4096x64.rank)
  bcast_S_S4096x64 : S_.BroadcastsInDim S4096x64 (![] : Fin 0 → Fin S4096x64.rank)

variable [Facts]

def fn_part1 {F : FTy → Type} [FloatOps F] (main_arg5 : FVec F S16x4096x128 .bf16) (main_v3 : IVec S16x4096x128 1) (main_v7 : IVec S16x4096x64 1) (main_v11 : IVec S16x4096x128 1) (main_v15 : IVec S4096x64 1) (main_v17 : FVec F S16x4096x128 .f32) (main_v18 : FVec F S16x4096x128 .f32) : IVec S16x4096x128 1 × IVec S16x4096x64 1 × IVec S16x4096x128 1 × IVec S4096x64 1 × IVec S16x4096x128 1 × IVec S16x4096x128 1 :=
  let main_v19 : IVec S16x4096x128 1 := cmpf .olt main_v17 main_v18
  let main_v20 : FVec F S16x4096x128 .f32 := (extf .f32 · bitsLt_bf16_f32) main_arg5
  let main_v21 : FVec F S16x4096x128 .f32 := Host.absf main_v20
  let main_cst_4 : FVec F S_ .f32 := constant S_ .f32 0x7F800000#32
  let main_v22 : FVec F S16x4096x128 .f32 := broadcastInDim S16x4096x128 ![] bcast_S_S16x4096x128 main_cst_4
  let main_v23 : IVec S16x4096x128 1 := cmpf .olt main_v21 main_v22
  (main_v3, main_v7, main_v11, main_v15, main_v19, main_v23)

def fn {F : FTy → Type} [FloatOps F] (main_arg0 : FVec F S16x4096x128 .bf16) (main_arg1 : FVec F S16x4096x64 .bf16) (main_arg2 : FVec F S16x4096x128 .bf16) (main_arg3 : FVec F S4096x64 .bf16) (main_arg4 : FVec F S16x4096x128 .bf16) (main_arg5 : FVec F S16x4096x128 .bf16) : IVec S16x4096x128 1 × IVec S16x4096x64 1 × IVec S16x4096x128 1 × IVec S4096x64 1 × IVec S16x4096x128 1 × IVec S16x4096x128 1 :=
  let main_v0 : FVec F S16x4096x128 .f32 := (extf .f32 · bitsLt_bf16_f32) main_arg0
  let main_v1 : FVec F S16x4096x128 .f32 := Host.absf main_v0
  let main_cst : FVec F S_ .f32 := constant S_ .f32 0x7F800000#32
  let main_v2 : FVec F S16x4096x128 .f32 := broadcastInDim S16x4096x128 ![] bcast_S_S16x4096x128 main_cst
  let main_v3 : IVec S16x4096x128 1 := cmpf .olt main_v1 main_v2
  let main_v4 : FVec F S16x4096x64 .f32 := (extf .f32 · bitsLt_bf16_f32) main_arg1
  let main_v5 : FVec F S16x4096x64 .f32 := Host.absf main_v4
  let main_cst_0 : FVec F S_ .f32 := constant S_ .f32 0x7F800000#32
  let main_v6 : FVec F S16x4096x64 .f32 := broadcastInDim S16x4096x64 ![] bcast_S_S16x4096x64 main_cst_0
  let main_v7 : IVec S16x4096x64 1 := cmpf .olt main_v5 main_v6
  let main_v8 : FVec F S16x4096x128 .f32 := (extf .f32 · bitsLt_bf16_f32) main_arg2
  let main_v9 : FVec F S16x4096x128 .f32 := Host.absf main_v8
  let main_cst_1 : FVec F S_ .f32 := constant S_ .f32 0x7F800000#32
  let main_v10 : FVec F S16x4096x128 .f32 := broadcastInDim S16x4096x128 ![] bcast_S_S16x4096x128 main_cst_1
  let main_v11 : IVec S16x4096x128 1 := cmpf .olt main_v9 main_v10
  let main_v12 : FVec F S4096x64 .f32 := (extf .f32 · bitsLt_bf16_f32) main_arg3
  let main_v13 : FVec F S4096x64 .f32 := Host.absf main_v12
  let main_cst_2 : FVec F S_ .f32 := constant S_ .f32 0x7F800000#32
  let main_v14 : FVec F S4096x64 .f32 := broadcastInDim S4096x64 ![] bcast_S_S4096x64 main_cst_2
  let main_v15 : IVec S4096x64 1 := cmpf .olt main_v13 main_v14
  let main_v16 : FVec F S16x4096x128 .f32 := (extf .f32 · bitsLt_bf16_f32) main_arg4
  let main_v17 : FVec F S16x4096x128 .f32 := Host.absf main_v16
  let main_cst_3 : FVec F S_ .f32 := constant S_ .f32 0x7F800000#32
  let main_v18 : FVec F S16x4096x128 .f32 := broadcastInDim S16x4096x128 ![] bcast_S_S16x4096x128 main_cst_3
  fn_part1 (F := F) main_arg5 main_v3 main_v7 main_v11 main_v15 main_v17 main_v18
-- ==== Kernel.lean ====
abbrev S4096x6144 : Shape := ⟨2, ![4096, 6144]⟩
abbrev S4096x16 : Shape := ⟨2, ![4096, 16]⟩
abbrev S4096x2048 : Shape := ⟨2, ![4096, 2048]⟩
abbrev S4096x16x128 : Shape := ⟨3, ![4096, 16, 128]⟩
abbrev S16x4096x128 : Shape := ⟨3, ![16, 4096, 128]⟩
abbrev S16x4096x4096 : Shape := ⟨3, ![16, 4096, 4096]⟩
abbrev S_ : Shape := ⟨0, ![]⟩
abbrev S16x4096 : Shape := ⟨2, ![16, 4096]⟩
abbrev S16x4096x1 : Shape := ⟨3, ![16, 4096, 1]⟩
abbrev S16x1x4096 : Shape := ⟨3, ![16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x8x1x512 : Shape := ⟨4, ![16, 8, 1, 512]⟩
abbrev S512x128 : Shape := ⟨2, ![512, 128]⟩
abbrev S4096x128 : Shape := ⟨2, ![4096, 128]⟩
abbrev S1x512x1 : Shape := ⟨3, ![1, 512, 1]⟩
abbrev S1x8x1x512 : Shape := ⟨4, ![1, 8, 1, 512]⟩
abbrev S8x128x512 : Shape := ⟨3, ![8, 128, 512]⟩
abbrev S8x1x512 : Shape := ⟨3, ![8, 1, 512]⟩
abbrev S512x1 : Shape := ⟨2, ![512, 1]⟩
abbrev S128x512 : Shape := ⟨2, ![128, 512]⟩
abbrev S512x512 : Shape := ⟨2, ![512, 512]⟩
abbrev S1x1x1x512 : Shape := ⟨4, ![1, 1, 1, 512]⟩
abbrev S1x512 : Shape := ⟨2, ![1, 512]⟩
abbrev S1x128x512 : Shape := ⟨3, ![1, 128, 512]⟩
abbrev S1x1x512 : Shape := ⟨3, ![1, 1, 512]⟩
abbrev S512 : Shape := ⟨1, ![512]⟩

abbrev nBuf : Space → Nat
  | .hbm => 70
  | .vmem => 31
  | .smem => 0
  | _ => 0

abbrev bufTy : (tb : Table) → Fin (tcTables nBuf tb) → BufTy
  | .hbm, ⟨0, _⟩ => ⟨S4096x6144, .bf16⟩
  | .hbm, ⟨1, _⟩ => ⟨S4096x16, .f32⟩
  | .hbm, ⟨2, _⟩ => ⟨S4096x2048, .bf16⟩
  | .hbm, ⟨3, _⟩ => ⟨S4096x6144, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x16x128, .f32⟩
  | .hbm, ⟨8, _⟩ => ⟨S16x4096x128, .f32⟩
  | .hbm, ⟨9, _⟩ => ⟨S4096x16x128, .f32⟩
  | .hbm, ⟨10, _⟩ => ⟨S16x4096x128, .f32⟩
  | .hbm, ⟨11, _⟩ => ⟨S4096x16x128, .f32⟩
  | .hbm, ⟨12, _⟩ => ⟨S16x4096x128, .f32⟩
  | .hbm, ⟨13, _⟩ => ⟨S16x4096x4096, .f32⟩
  | .hbm, ⟨14, _⟩ => ⟨S_, .f32⟩
  | .hbm, ⟨15, _⟩ => ⟨S16x4096x4096, .f32⟩
  | .hbm, ⟨16, _⟩ => ⟨S16x4096x4096, .f32⟩
  | .hbm, ⟨17, _⟩ => ⟨S16x4096, .f32⟩
  | .hbm, ⟨18, _⟩ => ⟨S16x4096x1, .f32⟩
  | .hbm, ⟨19, _⟩ => ⟨S16x4096x4096, .f32⟩
  | .hbm, ⟨20, _⟩ => ⟨S16x4096x4096, .f32⟩
  | .hbm, ⟨21, _⟩ => ⟨S16x1x4096, .f32⟩
  | .hbm, ⟨22, _⟩ => ⟨S16x4096x4096, .f32⟩
  | .hbm, ⟨23, _⟩ => ⟨S16x4096x4096, .f32⟩
  | .hbm, ⟨24, _⟩ => ⟨S4096, .i32⟩
  | .hbm, ⟨25, _⟩ => ⟨S1x4096, .i32⟩
  | .hbm, ⟨26, _⟩ => ⟨S4096, .i32⟩
  | .hbm, ⟨27, _⟩ => ⟨S4096x1, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S_, .f32⟩
  | .hbm, ⟨32, _⟩ => ⟨S_, .f32⟩
  | .hbm, ⟨33, _⟩ => ⟨S16x4096x4096, .i1⟩
  | .hbm, ⟨34, _⟩ => ⟨S16x4096x4096, .f32⟩
  | .hbm, ⟨35, _⟩ => ⟨S16x4096x4096, .f32⟩
  | .hbm, ⟨36, _⟩ => ⟨S_, .f32⟩
  | .hbm, ⟨37, _⟩ => ⟨S16x4096, .f32⟩
  | .hbm, ⟨38, _⟩ => ⟨S16x4096x1, .f32⟩
  | .hbm, ⟨39, _⟩ => ⟨S16x4096x4096, .f32⟩
  | .hbm, ⟨40, _⟩ => ⟨S16x4096x4096, .f32⟩
  | .hbm, ⟨41, _⟩ => ⟨S16x4096x4096, .f32⟩
  | .hbm, ⟨42, _⟩ => ⟨S_, .f32⟩
  | .hbm, ⟨43, _⟩ => ⟨S16x4096, .f32⟩
  | .hbm, ⟨44, _⟩ => ⟨S16x4096x1, .f32⟩
  | .hbm, ⟨45, _⟩ => ⟨S16x4096x1, .f32⟩
  | .hbm, ⟨46, _⟩ => ⟨S16x4096x1, .f32⟩
  | .hbm, ⟨47, _⟩ => ⟨S16x4096x4096, .f32⟩
  | .hbm, ⟨48, _⟩ => ⟨S16x4096x4096, .f32⟩
  | .hbm, ⟨49, _⟩ => ⟨S16x4096x128, .f32⟩
  | .hbm, ⟨50, _⟩ => ⟨S4096x2048, .f32⟩
  | .hbm, ⟨51, _⟩ => ⟨S4096x16x128, .f32⟩
  | .hbm, ⟨52, _⟩ => ⟨S16x4096x128, .f32⟩
  | .hbm, ⟨53, _⟩ => ⟨S16x4096x128, .f32⟩
  | .hbm, ⟨54, _⟩ => ⟨S_, .f32⟩
  | .hbm, ⟨55, _⟩ => ⟨S16x4096, .f32⟩
  | .hbm, ⟨56, _⟩ => ⟨S16x4096x1, .f32⟩
  | .hbm, ⟨57, _⟩ => ⟨S16x4096, .f32⟩
  | .hbm, ⟨58, _⟩ => ⟨S16x4096x1, .f32⟩
  | .hbm, ⟨59, _⟩ => ⟨S16x8x1x512, .f32⟩
  | .hbm, ⟨60, _⟩ => ⟨S4096x2048, .bf16⟩
  | .hbm, ⟨61, _⟩ => ⟨S4096x2048, .bf16⟩
  | .hbm, ⟨62, _⟩ => ⟨S4096x2048, .bf16⟩
  | .hbm, ⟨63, _⟩ => ⟨S16x8x1x512, .f32⟩
  | .hbm, ⟨64, _⟩ => ⟨S16x4096x1, .f32⟩
  | .hbm, ⟨65, _⟩ => ⟨S16x4096, .f32⟩
  | .hbm, ⟨66, _⟩ => ⟨S16x4096, .f32⟩
  | .hbm, ⟨67, _⟩ => ⟨S16x4096, .f32⟩
  | .hbm, ⟨68, _⟩ => ⟨S4096x16, .f32⟩
  | .hbm, ⟨69, _⟩ => ⟨S4096x6144, .bf16⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S512x128, .bf16⟩
  | .local _ .vmem, ⟨7, _⟩ => ⟨S512x128, .bf16⟩
  | .local _ .vmem, ⟨8, _⟩ => ⟨S1x512x1, .f32⟩
  | .local _ .vmem, ⟨9, _⟩ => ⟨S1x512x1, .f32⟩
  | .local _ .vmem, ⟨10, _⟩ => ⟨S1x512x1, .f32⟩
  | .local _ .vmem, ⟨11, _⟩ => ⟨S1x512x1, .f32⟩
  | .local _ .vmem, ⟨12, _⟩ => ⟨S1x512x1, .f32⟩
  | .local _ .vmem, ⟨13, _⟩ => ⟨S1x512x1, .f32⟩
  | .local _ .vmem, ⟨14, _⟩ => ⟨S1x8x1x512, .f32⟩
  | .local _ .vmem, ⟨15, _⟩ => ⟨S1x8x1x512, .f32⟩
  | .local _ .vmem, ⟨16, _⟩ => ⟨S512x128, .bf16⟩
  | .local _ .vmem, ⟨17, _⟩ => ⟨S512x128, .bf16⟩
  | .local _ .vmem, ⟨18, _⟩ => ⟨S4096x128, .bf16⟩
  | .local _ .vmem, ⟨19, _⟩ => ⟨S4096x128, .bf16⟩
  | .local _ .vmem, ⟨20, _⟩ => ⟨S4096x128, .bf16⟩
  | .local _ .vmem, ⟨21, _⟩ => ⟨S4096x128, .bf16⟩
  | .local _ .vmem, ⟨22, _⟩ => ⟨S1x8x1x512, .f32⟩
  | .local _ .vmem, ⟨23, _⟩ => ⟨S1x8x1x512, .f32⟩
  | .local _ .vmem, ⟨24, _⟩ => ⟨S1x512x1, .f32⟩
  | .local _ .vmem, ⟨25, _⟩ => ⟨S1x512x1, .f32⟩
  | .local _ .vmem, ⟨26, _⟩ => ⟨S512x128, .f32⟩
  | .local _ .vmem, ⟨27, _⟩ => ⟨S8x128x512, .f32⟩
  | .local _ .vmem, ⟨28, _⟩ => ⟨S8x128x512, .f32⟩
  | .local _ .vmem, ⟨29, _⟩ => ⟨S8x1x512, .f32⟩
  | .local _ .vmem, ⟨30, _⟩ => ⟨S512x1, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_3 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49_0 : Ref sig .tc := ⟨.hbm, 60, rfl⟩
abbrev main_v49_1 : Ref sig .tc := ⟨.hbm, 61, rfl⟩
abbrev main_v49_2 : Ref sig .tc := ⟨.hbm, 62, rfl⟩
abbrev main_v49_3 : Ref sig .tc := ⟨.hbm, 63, rfl⟩
abbrev main_v49_4 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![16, 8], ![false, false]⟩

@[reducible] def k0_t1_loop (i : grid0.Coords) : Scf.Loop 32 :=
  let c0_i32_22 : BitVec 32 := 0#32
  let arg1 : BitVec 32 := BitVec.ofNat 32 (i 1).val
  let c0_i32_15 : BitVec 32 := 0#32
  let v24 : BitVec 1 := Scalar.cmpi .sgt arg1 c0_i32_15
  let v25 : BitVec 32 := Scalar.extui v24
  let c0_i32_16 : BitVec 32 := 0#32
  let v26 : BitVec 1 := Scalar.cmpi .slt arg1 c0_i32_16
  let v27 : BitVec 32 := Scalar.extui v26
  let v28 : BitVec 32 := Scalar.subi v25 v27
  let c1_i32 : BitVec 32 := 1#32
  let c0_i32_17 : BitVec 32 := 0#32
  let v29 : BitVec 1 := Scalar.cmpi .sgt c1_i32 c0_i32_17
  let v30 : BitVec 32 := Scalar.extui v29
  let c0_i32_18 : BitVec 32 := 0#32
  let v31 : BitVec 1 := Scalar.cmpi .slt c1_i32 c0_i32_18
  let v32 : BitVec 32 := Scalar.extui v31
  let v33 : BitVec 32 := Scalar.subi v30 v32
  let v34 : BitVec 1 := Scalar.cmpi .ne v28 v33
  let v35 : BitVec 32 := Scalar.remsi arg1 c1_i32
  let c0_i32_19 : BitVec 32 := 0#32
  let v36 : BitVec 1 := Scalar.cmpi .ne v35 c0_i32_19
  let v37 : BitVec 1 := Scalar.andi v34 v36
  let v23 : BitVec 32 := Scalar.divsi arg1 c1_i32
  let c1_i32_20 : BitVec 32 := 1#32
  let v38 : BitVec 32 := Scalar.subi v23 c1_i32_20
  let v39 : BitVec 32 := Scalar.select v37 v38 v23
  let v40 : BitVec 32 := Scalar.subi v39 c0_i32_22
  let c1_i32_23 : BitVec 32 := 1#32
  let v42 : BitVec 32 := Scalar.divsi v40 c1_i32_23
  let v43 : BitVec 32 := Scalar.muli v42 c1_i32_23
  let v44 : BitVec 32 := Scalar.addi c0_i32_22 v43
  let c1_i32_24 : BitVec 32 := 1#32
  ⟨c0_i32_22, v44, c1_i32_24⟩
def k0_mult1 (i : grid0.Coords) (k0_t1 : Fin (k0_t1_loop i).trips) : BitVec 32 :=
  let c0_i32_22 : BitVec 32 := 0#32
  let c1_i32_24 : BitVec 32 := 1#32
  let arg20 : BitVec 32 := Scf.iv c0_i32_22 c1_i32_24 k0_t1
  let c512_i32_85 : BitVec 32 := 512#32
  let v157 : BitVec 32 := Scalar.muli arg20 c512_i32_85
  v157
def k0_off1 (i : grid0.Coords) (k0_t1 : Fin (k0_t1_loop i).trips) : Fin 2 → Nat :=
  let c0_i32_22 : BitVec 32 := 0#32
  let c1_i32_24 : BitVec 32 := 1#32
  let arg20 : BitVec 32 := Scf.iv c0_i32_22 c1_i32_24 k0_t1
  let c512_i32_85 : BitVec 32 := 512#32
  let v157 : BitVec 32 := Scalar.muli arg20 c512_i32_85
  let v158 : BitVec 32 := v157
  let v159 : Index := Scalar.indexCast v158
  let c0_86 : Index := 0#32
  ![v159.toNat, 0]
def k0_off2 (i : grid0.Coords) (k0_t1 : Fin (k0_t1_loop i).trips) : Fin 4 → Nat :=
  let c0_92 : Index := 0#32
  let c0_i32_22 : BitVec 32 := 0#32
  let c1_i32_24 : BitVec 32 := 1#32
  let arg20 : BitVec 32 := Scf.iv c0_i32_22 c1_i32_24 k0_t1
  let v168 : Index := Scalar.indexCast arg20
  let c0_93 : Index := 0#32
  let c0_94 : Index := 0#32
  ![0, v168.toNat, 0, 0]
def k0_off3 (i : grid0.Coords) (k0_t1 : Fin (k0_t1_loop i).trips) : Fin 3 → Nat :=
  let c0_i32_22 : BitVec 32 := 0#32
  let c1_i32_24 : BitVec 32 := 1#32
  let arg20 : BitVec 32 := Scf.iv c0_i32_22 c1_i32_24 k0_t1
  let v176 : Index := Scalar.indexCast arg20
  let c0_95 : Index := 0#32
  let c0_96 : Index := 0#32
  ![v176.toNat, 0, 0]
def k0_off4 (i : grid0.Coords) (k0_t1 : Fin (k0_t1_loop i).trips) : Fin 3 → Nat :=
  let c0_i32_22 : BitVec 32 := 0#32
  let c1_i32_24 : BitVec 32 := 1#32
  let arg20 : BitVec 32 := Scf.iv c0_i32_22 c1_i32_24 k0_t1
  let v192 : Index := Scalar.indexCast arg20
  let c0_102 : Index := 0#32
  let c0_103 : Index := 0#32
  ![v192.toNat, 0, 0]
@[reducible] def k0_t2_loop (i : grid0.Coords) : Scf.Loop 32 :=
  let c0_i32_22 : BitVec 32 := 0#32
  let arg1 : BitVec 32 := BitVec.ofNat 32 (i 1).val
  let c0_i32_15 : BitVec 32 := 0#32
  let v24 : BitVec 1 := Scalar.cmpi .sgt arg1 c0_i32_15
  let v25 : BitVec 32 := Scalar.extui v24
  let c0_i32_16 : BitVec 32 := 0#32
  let v26 : BitVec 1 := Scalar.cmpi .slt arg1 c0_i32_16
  let v27 : BitVec 32 := Scalar.extui v26
  let v28 : BitVec 32 := Scalar.subi v25 v27
  let c1_i32 : BitVec 32 := 1#32
  let c0_i32_17 : BitVec 32 := 0#32
  let v29 : BitVec 1 := Scalar.cmpi .sgt c1_i32 c0_i32_17
  let v30 : BitVec 32 := Scalar.extui v29
  let c0_i32_18 : BitVec 32 := 0#32
  let v31 : BitVec 1 := Scalar.cmpi .slt c1_i32 c0_i32_18
  let v32 : BitVec 32 := Scalar.extui v31
  let v33 : BitVec 32 := Scalar.subi v30 v32
  let v34 : BitVec 1 := Scalar.cmpi .ne v28 v33
  let v35 : BitVec 32 := Scalar.remsi arg1 c1_i32
  let c0_i32_19 : BitVec 32 := 0#32
  let v36 : BitVec 1 := Scalar.cmpi .ne v35 c0_i32_19
  let v37 : BitVec 1 := Scalar.andi v34 v36
  let v23 : BitVec 32 := Scalar.divsi arg1 c1_i32
  let c1_i32_20 : BitVec 32 := 1#32
  let v38 : BitVec 32 := Scalar.subi v23 c1_i32_20
  let v39 : BitVec 32 := Scalar.select v37 v38 v23
  let v40 : BitVec 32 := Scalar.subi v39 c0_i32_22
  let c1_i32_23 : BitVec 32 := 1#32
  let v42 : BitVec 32 := Scalar.divsi v40 c1_i32_23
  let v43 : BitVec 32 := Scalar.muli v42 c1_i32_23
  let v44 : BitVec 32 := Scalar.addi c0_i32_22 v43
  let v41 : BitVec 32 := Scalar.addi c0_i32_22 v40
  let c1_i32_25 : BitVec 32 := 1#32
  ⟨v44, v41, c1_i32_25⟩
def k0_mult2 (i : grid0.Coords) (k0_t2 : Fin (k0_t2_loop i).trips) : BitVec 32 :=
  let c0_i32_22 : BitVec 32 := 0#32
  let arg1 : BitVec 32 := BitVec.ofNat 32 (i 1).val
  let c0_i32_15 : BitVec 32 := 0#32
  let v24 : BitVec 1 := Scalar.cmpi .sgt arg1 c0_i32_15
  let v25 : BitVec 32 := Scalar.extui v24
  let c0_i32_16 : BitVec 32 := 0#32
  let v26 : BitVec 1 := Scalar.cmpi .slt arg1 c0_i32_16
  let v27 : BitVec 32 := Scalar.extui v26
  let v28 : BitVec 32 := Scalar.subi v25 v27
  let c1_i32 : BitVec 32 := 1#32
  let c0_i32_17 : BitVec 32 := 0#32
  let v29 : BitVec 1 := Scalar.cmpi .sgt c1_i32 c0_i32_17
  let v30 : BitVec 32 := Scalar.extui v29
  let c0_i32_18 : BitVec 32 := 0#32
  let v31 : BitVec 1 := Scalar.cmpi .slt c1_i32 c0_i32_18
  let v32 : BitVec 32 := Scalar.extui v31
  let v33 : BitVec 32 := Scalar.subi v30 v32
  let v34 : BitVec 1 := Scalar.cmpi .ne v28 v33
  let v35 : BitVec 32 := Scalar.remsi arg1 c1_i32
  let c0_i32_19 : BitVec 32 := 0#32
  let v36 : BitVec 1 := Scalar.cmpi .ne v35 c0_i32_19
  let v37 : BitVec 1 := Scalar.andi v34 v36
  let v23 : BitVec 32 := Scalar.divsi arg1 c1_i32
  let c1_i32_20 : BitVec 32 := 1#32
  let v38 : BitVec 32 := Scalar.subi v23 c1_i32_20
  let v39 : BitVec 32 := Scalar.select v37 v38 v23
  let v40 : BitVec 32 := Scalar.subi v39 c0_i32_22
  let c1_i32_23 : BitVec 32 := 1#32
  let v42 : BitVec 32 := Scalar.divsi v40 c1_i32_23
  let v43 : BitVec 32 := Scalar.muli v42 c1_i32_23
  let v44 : BitVec 32 := Scalar.addi c0_i32_22 v43
  let c1_i32_25 : BitVec 32 := 1#32
  let arg20 : BitVec 32 := Scf.iv v44 c1_i32_25 k0_t2
  let c512_i32_85 : BitVec 32 := 512#32
  let v157 : BitVec 32 := Scalar.muli arg20 c512_i32_85
  v157
def k0_off5 (i : grid0.Coords) (k0_t2 : Fin (k0_t2_loop i).trips) : Fin 2 → Nat :=
  let c0_i32_22 : BitVec 32 := 0#32
  let arg1 : BitVec 32 := BitVec.ofNat 32 (i 1).val
  let c0_i32_15 : BitVec 32 := 0#32
  let v24 : BitVec 1 := Scalar.cmpi .sgt arg1 c0_i32_15
  let v25 : BitVec 32 := Scalar.extui v24
  let c0_i32_16 : BitVec 32 := 0#32
  let v26 : BitVec 1 := Scalar.cmpi .slt arg1 c0_i32_16
  let v27 : BitVec 32 := Scalar.extui v26
  let v28 : BitVec 32 := Scalar.subi v25 v27
  let c1_i32 : BitVec 32 := 1#32
  let c0_i32_17 : BitVec 32 := 0#32
  let v29 : BitVec 1 := Scalar.cmpi .sgt c1_i32 c0_i32_17
  let v30 : BitVec 32 := Scalar.extui v29
  let c0_i32_18 : BitVec 32 := 0#32
  let v31 : BitVec 1 := Scalar.cmpi .slt c1_i32 c0_i32_18
  let v32 : BitVec 32 := Scalar.extui v31
  let v33 : BitVec 32 := Scalar.subi v30 v32
  let v34 : BitVec 1 := Scalar.cmpi .ne v28 v33
  let v35 : BitVec 32 := Scalar.remsi arg1 c1_i32
  let c0_i32_19 : BitVec 32 := 0#32
  let v36 : BitVec 1 := Scalar.cmpi .ne v35 c0_i32_19
  let v37 : BitVec 1 := Scalar.andi v34 v36
  let v23 : BitVec 32 := Scalar.divsi arg1 c1_i32
  let c1_i32_20 : BitVec 32 := 1#32
  let v38 : BitVec 32 := Scalar.subi v23 c1_i32_20
  let v39 : BitVec 32 := Scalar.select v37 v38 v23
  let v40 : BitVec 32 := Scalar.subi v39 c0_i32_22
  let c1_i32_23 : BitVec 32 := 1#32
  let v42 : BitVec 32 := Scalar.divsi v40 c1_i32_23
  let v43 : BitVec 32 := Scalar.muli v42 c1_i32_23
  let v44 : BitVec 32 := Scalar.addi c0_i32_22 v43
  let c1_i32_25 : BitVec 32 := 1#32
  let arg20 : BitVec 32 := Scf.iv v44 c1_i32_25 k0_t2
  let c512_i32_85 : BitVec 32 := 512#32
  let v157 : BitVec 32 := Scalar.muli arg20 c512_i32_85
  let v158 : BitVec 32 := v157
  let v159 : Index := Scalar.indexCast v158
  let c0_86 : Index := 0#32
  ![v159.toNat, 0]
def k0_off6 (i : grid0.Coords) (k0_t2 : Fin (k0_t2_loop i).trips) : Fin 4 → Nat :=
  let c0_92 : Index := 0#32
  let c0_i32_22 : BitVec 32 := 0#32
  let arg1 : BitVec 32 := BitVec.ofNat 32 (i 1).val
  let c0_i32_15 : BitVec 32 := 0#32
  let v24 : BitVec 1 := Scalar.cmpi .sgt arg1 c0_i32_15
  let v25 : BitVec 32 := Scalar.extui v24
  let c0_i32_16 : BitVec 32 := 0#32
  let v26 : BitVec 1 := Scalar.cmpi .slt arg1 c0_i32_16
  let v27 : BitVec 32 := Scalar.extui v26
  let v28 : BitVec 32 := Scalar.subi v25 v27
  let c1_i32 : BitVec 32 := 1#32
  let c0_i32_17 : BitVec 32 := 0#32
  let v29 : BitVec 1 := Scalar.cmpi .sgt c1_i32 c0_i32_17
  let v30 : BitVec 32 := Scalar.extui v29
  let c0_i32_18 : BitVec 32 := 0#32
  let v31 : BitVec 1 := Scalar.cmpi .slt c1_i32 c0_i32_18
  let v32 : BitVec 32 := Scalar.extui v31
  let v33 : BitVec 32 := Scalar.subi v30 v32
  let v34 : BitVec 1 := Scalar.cmpi .ne v28 v33
  let v35 : BitVec 32 := Scalar.remsi arg1 c1_i32
  let c0_i32_19 : BitVec 32 := 0#32
  let v36 : BitVec 1 := Scalar.cmpi .ne v35 c0_i32_19
  let v37 : BitVec 1 := Scalar.andi v34 v36
  let v23 : BitVec 32 := Scalar.divsi arg1 c1_i32
  let c1_i32_20 : BitVec 32 := 1#32
  let v38 : BitVec 32 := Scalar.subi v23 c1_i32_20
  let v39 : BitVec 32 := Scalar.select v37 v38 v23
  let v40 : BitVec 32 := Scalar.subi v39 c0_i32_22
  let c1_i32_23 : BitVec 32 := 1#32
  let v42 : BitVec 32 := Scalar.divsi v40 c1_i32_23
  let v43 : BitVec 32 := Scalar.muli v42 c1_i32_23
  let v44 : BitVec 32 := Scalar.addi c0_i32_22 v43
  let c1_i32_25 : BitVec 32 := 1#32
  let arg20 : BitVec 32 := Scf.iv v44 c1_i32_25 k0_t2
  let v168 : Index := Scalar.indexCast arg20
  let c0_93 : Index := 0#32
  let c0_94 : Index := 0#32
  ![0, v168.toNat, 0, 0]
def k0_off7 (i : grid0.Coords) (k0_t2 : Fin (k0_t2_loop i).trips) : Fin 3 → Nat :=
  let c0_i32_22 : BitVec 32 := 0#32
  let arg1 : BitVec 32 := BitVec.ofNat 32 (i 1).val
  let c0_i32_15 : BitVec 32 := 0#32
  let v24 : BitVec 1 := Scalar.cmpi .sgt arg1 c0_i32_15
  let v25 : BitVec 32 := Scalar.extui v24
  let c0_i32_16 : BitVec 32 := 0#32
  let v26 : BitVec 1 := Scalar.cmpi .slt arg1 c0_i32_16
  let v27 : BitVec 32 := Scalar.extui v26
  let v28 : BitVec 32 := Scalar.subi v25 v27
  let c1_i32 : BitVec 32 := 1#32
  let c0_i32_17 : BitVec 32 := 0#32
  let v29 : BitVec 1 := Scalar.cmpi .sgt c1_i32 c0_i32_17
  let v30 : BitVec 32 := Scalar.extui v29
  let c0_i32_18 : BitVec 32 := 0#32
  let v31 : BitVec 1 := Scalar.cmpi .slt c1_i32 c0_i32_18
  let v32 : BitVec 32 := Scalar.extui v31
  let v33 : BitVec 32 := Scalar.subi v30 v32
  let v34 : BitVec 1 := Scalar.cmpi .ne v28 v33
  let v35 : BitVec 32 := Scalar.remsi arg1 c1_i32
  let c0_i32_19 : BitVec 32 := 0#32
  let v36 : BitVec 1 := Scalar.cmpi .ne v35 c0_i32_19
  let v37 : BitVec 1 := Scalar.andi v34 v36
  let v23 : BitVec 32 := Scalar.divsi arg1 c1_i32
  let c1_i32_20 : BitVec 32 := 1#32
  let v38 : BitVec 32 := Scalar.subi v23 c1_i32_20
  let v39 : BitVec 32 := Scalar.select v37 v38 v23
  let v40 : BitVec 32 := Scalar.subi v39 c0_i32_22
  let c1_i32_23 : BitVec 32 := 1#32
  let v42 : BitVec 32 := Scalar.divsi v40 c1_i32_23
  let v43 : BitVec 32 := Scalar.muli v42 c1_i32_23
  let v44 : BitVec 32 := Scalar.addi c0_i32_22 v43
  let c1_i32_25 : BitVec 32 := 1#32
  let arg20 : BitVec 32 := Scf.iv v44 c1_i32_25 k0_t2
  let v176 : Index := Scalar.indexCast arg20
  let c0_95 : Index := 0#32
  let c0_96 : Index := 0#32
  ![v176.toNat, 0, 0]
def k0_off8 (i : grid0.Coords) (k0_t2 : Fin (k0_t2_loop i).trips) : Fin 3 → Nat :=
  let c0_i32_22 : BitVec 32 := 0#32
  let arg1 : BitVec 32 := BitVec.ofNat 32 (i 1).val
  let c0_i32_15 : BitVec 32 := 0#32
  let v24 : BitVec 1 := Scalar.cmpi .sgt arg1 c0_i32_15
  let v25 : BitVec 32 := Scalar.extui v24
  let c0_i32_16 : BitVec 32 := 0#32
  let v26 : BitVec 1 := Scalar.cmpi .slt arg1 c0_i32_16
  let v27 : BitVec 32 := Scalar.extui v26
  let v28 : BitVec 32 := Scalar.subi v25 v27
  let c1_i32 : BitVec 32 := 1#32
  let c0_i32_17 : BitVec 32 := 0#32
  let v29 : BitVec 1 := Scalar.cmpi .sgt c1_i32 c0_i32_17
  let v30 : BitVec 32 := Scalar.extui v29
  let c0_i32_18 : BitVec 32 := 0#32
  let v31 : BitVec 1 := Scalar.cmpi .slt c1_i32 c0_i32_18
  let v32 : BitVec 32 := Scalar.extui v31
  let v33 : BitVec 32 := Scalar.subi v30 v32
  let v34 : BitVec 1 := Scalar.cmpi .ne v28 v33
  let v35 : BitVec 32 := Scalar.remsi arg1 c1_i32
  let c0_i32_19 : BitVec 32 := 0#32
  let v36 : BitVec 1 := Scalar.cmpi .ne v35 c0_i32_19
  let v37 : BitVec 1 := Scalar.andi v34 v36
  let v23 : BitVec 32 := Scalar.divsi arg1 c1_i32
  let c1_i32_20 : BitVec 32 := 1#32
  let v38 : BitVec 32 := Scalar.subi v23 c1_i32_20
  let v39 : BitVec 32 := Scalar.select v37 v38 v23
  let v40 : BitVec 32 := Scalar.subi v39 c0_i32_22
  let c1_i32_23 : BitVec 32 := 1#32
  let v42 : BitVec 32 := Scalar.divsi v40 c1_i32_23
  let v43 : BitVec 32 := Scalar.muli v42 c1_i32_23
  let v44 : BitVec 32 := Scalar.addi c0_i32_22 v43
  let c1_i32_25 : BitVec 32 := 1#32
  let arg20 : BitVec 32 := Scf.iv v44 c1_i32_25 k0_t2
  let v192 : Index := Scalar.indexCast arg20
  let c0_102 : Index := 0#32
  let c0_103 : Index := 0#32
  ![v192.toNat, 0, 0]
def k0_mult3 (i : grid0.Coords) : BitVec 32 :=
  let arg1 : BitVec 32 := BitVec.ofNat 32 (i 1).val
  let c0_i32_27 : BitVec 32 := 0#32
  let v46 : BitVec 1 := Scalar.cmpi .sgt arg1 c0_i32_27
  let v47 : BitVec 32 := Scalar.extui v46
  let c0_i32_28 : BitVec 32 := 0#32
  let v48 : BitVec 1 := Scalar.cmpi .slt arg1 c0_i32_28
  let v49 : BitVec 32 := Scalar.extui v48
  let v50 : BitVec 32 := Scalar.subi v47 v49
  let c1_i32_26 : BitVec 32 := 1#32
  let c0_i32_29 : BitVec 32 := 0#32
  let v51 : BitVec 1 := Scalar.cmpi .sgt c1_i32_26 c0_i32_29
  let v52 : BitVec 32 := Scalar.extui v51
  let c0_i32_30 : BitVec 32 := 0#32
  let v53 : BitVec 1 := Scalar.cmpi .slt c1_i32_26 c0_i32_30
  let v54 : BitVec 32 := Scalar.extui v53
  let v55 : BitVec 32 := Scalar.subi v52 v54
  let v56 : BitVec 1 := Scalar.cmpi .ne v50 v55
  let v57 : BitVec 32 := Scalar.remsi arg1 c1_i32_26
  let c0_i32_31 : BitVec 32 := 0#32
  let v58 : BitVec 1 := Scalar.cmpi .ne v57 c0_i32_31
  let v59 : BitVec 1 := Scalar.andi v56 v58
  let v45 : BitVec 32 := Scalar.divsi arg1 c1_i32_26
  let c1_i32_32 : BitVec 32 := 1#32
  let v60 : BitVec 32 := Scalar.subi v45 c1_i32_32
  let v61 : BitVec 32 := Scalar.select v59 v60 v45
  let c512_i32 : BitVec 32 := 512#32
  let v62 : BitVec 32 := Scalar.muli v61 c512_i32
  v62
def k0_off9 (i : grid0.Coords) : Fin 2 → Nat :=
  let arg1 : BitVec 32 := BitVec.ofNat 32 (i 1).val
  let c0_i32_27 : BitVec 32 := 0#32
  let v46 : BitVec 1 := Scalar.cmpi .sgt arg1 c0_i32_27
  let v47 : BitVec 32 := Scalar.extui v46
  let c0_i32_28 : BitVec 32 := 0#32
  let v48 : BitVec 1 := Scalar.cmpi .slt arg1 c0_i32_28
  let v49 : BitVec 32 := Scalar.extui v48
  let v50 : BitVec 32 := Scalar.subi v47 v49
  let c1_i32_26 : BitVec 32 := 1#32
  let c0_i32_29 : BitVec 32 := 0#32
  let v51 : BitVec 1 := Scalar.cmpi .sgt c1_i32_26 c0_i32_29
  let v52 : BitVec 32 := Scalar.extui v51
  let c0_i32_30 : BitVec 32 := 0#32
  let v53 : BitVec 1 := Scalar.cmpi .slt c1_i32_26 c0_i32_30
  let v54 : BitVec 32 := Scalar.extui v53
  let v55 : BitVec 32 := Scalar.subi v52 v54
  let v56 : BitVec 1 := Scalar.cmpi .ne v50 v55
  let v57 : BitVec 32 := Scalar.remsi arg1 c1_i32_26
  let c0_i32_31 : BitVec 32 := 0#32
  let v58 : BitVec 1 := Scalar.cmpi .ne v57 c0_i32_31
  let v59 : BitVec 1 := Scalar.andi v56 v58
  let v45 : BitVec 32 := Scalar.divsi arg1 c1_i32_26
  let c1_i32_32 : BitVec 32 := 1#32
  let v60 : BitVec 32 := Scalar.subi v45 c1_i32_32
  let v61 : BitVec 32 := Scalar.select v59 v60 v45
  let c512_i32 : BitVec 32 := 512#32
  let v62 : BitVec 32 := Scalar.muli v61 c512_i32
  let v63 : BitVec 32 := v62
  let v64 : Index := Scalar.indexCast v63
  let c0_33 : Index := 0#32
  ![v64.toNat, 0]
def k0_off10 (i : grid0.Coords) : Fin 4 → Nat :=
  let c0_39 : Index := 0#32
  let arg1 : BitVec 32 := BitVec.ofNat 32 (i 1).val
  let c0_i32_27 : BitVec 32 := 0#32
  let v46 : BitVec 1 := Scalar.cmpi .sgt arg1 c0_i32_27
  let v47 : BitVec 32 := Scalar.extui v46
  let c0_i32_28 : BitVec 32 := 0#32
  let v48 : BitVec 1 := Scalar.cmpi .slt arg1 c0_i32_28
  let v49 : BitVec 32 := Scalar.extui v48
  let v50 : BitVec 32 := Scalar.subi v47 v49
  let c1_i32_26 : BitVec 32 := 1#32
  let c0_i32_29 : BitVec 32 := 0#32
  let v51 : BitVec 1 := Scalar.cmpi .sgt c1_i32_26 c0_i32_29
  let v52 : BitVec 32 := Scalar.extui v51
  let c0_i32_30 : BitVec 32 := 0#32
  let v53 : BitVec 1 := Scalar.cmpi .slt c1_i32_26 c0_i32_30
  let v54 : BitVec 32 := Scalar.extui v53
  let v55 : BitVec 32 := Scalar.subi v52 v54
  let v56 : BitVec 1 := Scalar.cmpi .ne v50 v55
  let v57 : BitVec 32 := Scalar.remsi arg1 c1_i32_26
  let c0_i32_31 : BitVec 32 := 0#32
  let v58 : BitVec 1 := Scalar.cmpi .ne v57 c0_i32_31
  let v59 : BitVec 1 := Scalar.andi v56 v58
  let v45 : BitVec 32 := Scalar.divsi arg1 c1_i32_26
  let c1_i32_32 : BitVec 32 := 1#32
  let v60 : BitVec 32 := Scalar.subi v45 c1_i32_32
  let v61 : BitVec 32 := Scalar.select v59 v60 v45
  let v73 : Index := Scalar.indexCast v61
  let c0_40 : Index := 0#32
  let c0_41 : Index := 0#32
  ![0, v73.toNat, 0, 0]
def k0_off11 (i : grid0.Coords) : Fin 3 → Nat :=
  let arg1 : BitVec 32 := BitVec.ofNat 32 (i 1).val
  let c0_i32_27 : BitVec 32 := 0#32
  let v46 : BitVec 1 := Scalar.cmpi .sgt arg1 c0_i32_27
  let v47 : BitVec 32 := Scalar.extui v46
  let c0_i32_28 : BitVec 32 := 0#32
  let v48 : BitVec 1 := Scalar.cmpi .slt arg1 c0_i32_28
  let v49 : BitVec 32 := Scalar.extui v48
  let v50 : BitVec 32 := Scalar.subi v47 v49
  let c1_i32_26 : BitVec 32 := 1#32
  let c0_i32_29 : BitVec 32 := 0#32
  let v51 : BitVec 1 := Scalar.cmpi .sgt c1_i32_26 c0_i32_29
  let v52 : BitVec 32 := Scalar.extui v51
  let c0_i32_30 : BitVec 32 := 0#32
  let v53 : BitVec 1 := Scalar.cmpi .slt c1_i32_26 c0_i32_30
  let v54 : BitVec 32 := Scalar.extui v53
  let v55 : BitVec 32 := Scalar.subi v52 v54
  let v56 : BitVec 1 := Scalar.cmpi .ne v50 v55
  let v57 : BitVec 32 := Scalar.remsi arg1 c1_i32_26
  let c0_i32_31 : BitVec 32 := 0#32
  let v58 : BitVec 1 := Scalar.cmpi .ne v57 c0_i32_31
  let v59 : BitVec 1 := Scalar.andi v56 v58
  let v45 : BitVec 32 := Scalar.divsi arg1 c1_i32_26
  let c1_i32_32 : BitVec 32 := 1#32
  let v60 : BitVec 32 := Scalar.subi v45 c1_i32_32
  let v61 : BitVec 32 := Scalar.select v59 v60 v45
  let v96 : Index := Scalar.indexCast v61
  let c0_47 : Index := 0#32
  let c0_48 : Index := 0#32
  ![v96.toNat, 0, 0]
def k0_off12 (i : grid0.Coords) : Fin 3 → Nat :=
  let arg1 : BitVec 32 := BitVec.ofNat 32 (i 1).val
  let c0_i32_27 : BitVec 32 := 0#32
  let v46 : BitVec 1 := Scalar.cmpi .sgt arg1 c0_i32_27
  let v47 : BitVec 32 := Scalar.extui v46
  let c0_i32_28 : BitVec 32 := 0#32
  let v48 : BitVec 1 := Scalar.cmpi .slt arg1 c0_i32_28
  let v49 : BitVec 32 := Scalar.extui v48
  let v50 : BitVec 32 := Scalar.subi v47 v49
  let c1_i32_26 : BitVec 32 := 1#32
  let c0_i32_29 : BitVec 32 := 0#32
  let v51 : BitVec 1 := Scalar.cmpi .sgt c1_i32_26 c0_i32_29
  let v52 : BitVec 32 := Scalar.extui v51
  let c0_i32_30 : BitVec 32 := 0#32
  let v53 : BitVec 1 := Scalar.cmpi .slt c1_i32_26 c0_i32_30
  let v54 : BitVec 32 := Scalar.extui v53
  let v55 : BitVec 32 := Scalar.subi v52 v54
  let v56 : BitVec 1 := Scalar.cmpi .ne v50 v55
  let v57 : BitVec 32 := Scalar.remsi arg1 c1_i32_26
  let c0_i32_31 : BitVec 32 := 0#32
  let v58 : BitVec 1 := Scalar.cmpi .ne v57 c0_i32_31
  let v59 : BitVec 1 := Scalar.andi v56 v58
  let v45 : BitVec 32 := Scalar.divsi arg1 c1_i32_26
  let c1_i32_32 : BitVec 32 := 1#32
  let v60 : BitVec 32 := Scalar.subi v45 c1_i32_32
  let v61 : BitVec 32 := Scalar.select v59 v60 v45
  let v112 : Index := Scalar.indexCast v61
  let c0_54 : Index := 0#32
  let c0_55 : Index := 0#32
  ![v112.toNat, 0, 0]
def k0_cond2 (i : grid0.Coords) : BitVec 1 :=
  let arg1 : BitVec 32 := BitVec.ofNat 32 (i 1).val
  let c7_i32 : BitVec 32 := 7#32
  let v154 : BitVec 1 := Scalar.cmpi .eq arg1 c7_i32
  let v155 : BitVec 32 := Scalar.extui v154
  let c0_i32_84 : BitVec 32 := 0#32
  let v156 : BitVec 1 := Scalar.cmpi .ne v155 c0_i32_84
  v156

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S4096x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S4096x6144 : Shape := ⟨2, ![4096, 6144]⟩
abbrev S4096x16 : Shape := ⟨2, ![4096, 16]⟩
abbrev S4096x2048 : Shape := ⟨2, ![4096, 2048]⟩
abbrev S4096x16x128 : Shape := ⟨3, ![4096, 16, 128]⟩
abbrev S16x4096x128 : Shape := ⟨3, ![16, 4096, 128]⟩
abbrev S16x4096x4096 : Shape := ⟨3, ![16, 4096, 4096]⟩
abbrev S_ : Shape := ⟨0, ![]⟩
abbrev S16x4096 : Shape := ⟨2, ![16, 4096]⟩
abbrev S16x4096x1 : Shape := ⟨3, ![16, 4096, 1]⟩
abbrev S16x1x4096 : Shape := ⟨3, ![16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x128x4096 : Shape := ⟨3, ![16, 128, 4096]⟩

abbrev nBuf : Space → Nat
  | .hbm => 126
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S4096x16, .f32⟩
  | .hbm, ⟨2, _⟩ => ⟨S4096x2048, .bf16⟩
  | .hbm, ⟨3, _⟩ => ⟨S4096x6144, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x16x128, .f32⟩
  | .hbm, ⟨8, _⟩ => ⟨S16x4096x128, .f32⟩
  | .hbm, ⟨9, _⟩ => ⟨S4096x16x128, .f32⟩
  | .hbm, ⟨10, _⟩ => ⟨S16x4096x128, .f32⟩
  | .hbm, ⟨11, _⟩ => ⟨S4096x16x128, .f32⟩
  | .hbm, ⟨12, _⟩ => ⟨S16x4096x128, .f32⟩
  | .hbm, ⟨13, _⟩ => ⟨S16x4096x4096, .f32⟩
  | .hbm, ⟨14, _⟩ => ⟨S_, .f32⟩
  | .hbm, ⟨15, _⟩ => ⟨S16x4096x4096, .f32⟩
  | .hbm, ⟨16, _⟩ => ⟨S16x4096x4096, .f32⟩
  | .hbm, ⟨17, _⟩ => ⟨S16x4096, .f32⟩
  | .hbm, ⟨18, _⟩ => ⟨S16x4096x1, .f32⟩
  | .hbm, ⟨19, _⟩ => ⟨S16x4096x4096, .f32⟩
  | .hbm, ⟨20, _⟩ => ⟨S16x4096x4096, .f32⟩
  | .hbm, ⟨21, _⟩ => ⟨S16x1x4096, .f32⟩
  | .hbm, ⟨22, _⟩ => ⟨S16x4096x4096, .f32⟩
  | .hbm, ⟨23, _⟩ => ⟨S16x4096x4096, .f32⟩
  | .hbm, ⟨24, _⟩ => ⟨S4096, .i32⟩
  | .hbm, ⟨25, _⟩ => ⟨S1x4096, .i32⟩
  | .hbm, ⟨26, _⟩ => ⟨S4096, .i32⟩
  | .hbm, ⟨27, _⟩ => ⟨S4096x1, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S_, .f32⟩
  | .hbm, ⟨32, _⟩ => ⟨S_, .f32⟩
  | .hbm, ⟨33, _⟩ => ⟨S16x4096x4096, .i1⟩
  | .hbm, ⟨34, _⟩ => ⟨S16x4096x4096, .f32⟩
  | .hbm, ⟨35, _⟩ => ⟨S16x4096x4096, .f32⟩
  | .hbm, ⟨36, _⟩ => ⟨S_, .f32⟩
  | .hbm, ⟨37, _⟩ => ⟨S16x4096x4096, .f32⟩
  | .hbm, ⟨38, _⟩ => ⟨S_, .f32⟩
  | .hbm, ⟨39, _⟩ => ⟨S16x4096, .f32⟩
  | .hbm, ⟨40, _⟩ => ⟨S16x4096x1, .f32⟩
  | .hbm, ⟨41, _⟩ => ⟨S16x4096x4096, .f32⟩
  | .hbm, ⟨42, _⟩ => ⟨S16x4096x4096, .i1⟩
  | .hbm, ⟨43, _⟩ => ⟨S16x4096x4096, .f32⟩
  | .hbm, ⟨44, _⟩ => ⟨S_, .f32⟩
  | .hbm, ⟨45, _⟩ => ⟨S16x4096, .f32⟩
  | .hbm, ⟨46, _⟩ => ⟨S_, .f32⟩
  | .hbm, ⟨47, _⟩ => ⟨S16x4096, .f32⟩
  | .hbm, ⟨48, _⟩ => ⟨S16x4096, .f32⟩
  | .hbm, ⟨49, _⟩ => ⟨S_, .f32⟩
  | .hbm, ⟨50, _⟩ => ⟨S16x4096, .f32⟩
  | .hbm, ⟨51, _⟩ => ⟨S16x4096, .i1⟩
  | .hbm, ⟨52, _⟩ => ⟨S_, .f32⟩
  | .hbm, ⟨53, _⟩ => ⟨S16x4096, .f32⟩
  | .hbm, ⟨54, _⟩ => ⟨S16x4096, .i1⟩
  | .hbm, ⟨55, _⟩ => ⟨S_, .f32⟩
  | .hbm, ⟨56, _⟩ => ⟨S16x4096, .f32⟩
  | .hbm, ⟨57, _⟩ => ⟨S_, .f32⟩
  | .hbm, ⟨58, _⟩ => ⟨S16x4096, .f32⟩
  | .hbm, ⟨59, _⟩ => ⟨S_, .f32⟩
  | .hbm, ⟨60, _⟩ => ⟨S16x4096, .f32⟩
  | .hbm, ⟨61, _⟩ => ⟨S16x4096, .f32⟩
  | .hbm, ⟨62, _⟩ => ⟨S16x4096, .f32⟩
  | .hbm, ⟨63, _⟩ => ⟨S16x4096x1, .f32⟩
  | .hbm, ⟨64, _⟩ => ⟨S16x4096x4096, .f32⟩
  | .hbm, ⟨65, _⟩ => ⟨S16x4096x4096, .f32⟩
  | .hbm, ⟨66, _⟩ => ⟨S16x4096x4096, .f32⟩
  | .hbm, ⟨67, _⟩ => ⟨S_, .f32⟩
  | .hbm, ⟨68, _⟩ => ⟨S16x4096, .f32⟩
  | .hbm, ⟨69, _⟩ => ⟨S16x4096x1, .f32⟩
  | .hbm, ⟨70, _⟩ => ⟨S16x4096x4096, .f32⟩
  | .hbm, ⟨71, _⟩ => ⟨S16x4096x4096, .f32⟩
  | .hbm, ⟨72, _⟩ => ⟨S16x4096x1, .f32⟩
  | .hbm, ⟨73, _⟩ => ⟨S_, .f32⟩
  | .hbm, ⟨74, _⟩ => ⟨S16x4096x1, .f32⟩
  | .hbm, ⟨75, _⟩ => ⟨S16x4096x1, .f32⟩
  | .hbm, ⟨76, _⟩ => ⟨S16x4096x128, .f32⟩
  | .hbm, ⟨77, _⟩ => ⟨S4096x2048, .f32⟩
  | .hbm, ⟨78, _⟩ => ⟨S4096x16x128, .f32⟩
  | .hbm, ⟨79, _⟩ => ⟨S16x4096x128, .f32⟩
  | .hbm, ⟨80, _⟩ => ⟨S16x128x4096, .f32⟩
  | .hbm, ⟨81, _⟩ => ⟨S16x4096x128, .f32⟩
  | .hbm, ⟨82, _⟩ => ⟨S16x4096x4096, .f32⟩
  | .hbm, ⟨83, _⟩ => ⟨S16x4096x4096, .f32⟩
  | .hbm, ⟨84, _⟩ => ⟨S16x4096x4096, .f32⟩
  | .hbm, ⟨85, _⟩ => ⟨S16x4096x4096, .f32⟩
  | .hbm, ⟨86, _⟩ => ⟨S_, .f32⟩
  | .hbm, ⟨87, _⟩ => ⟨S16x4096, .f32⟩
  | .hbm, ⟨88, _⟩ => ⟨S16x4096x1, .f32⟩
  | .hbm, ⟨89, _⟩ => ⟨S16x4096x1, .f32⟩
  | .hbm, ⟨90, _⟩ => ⟨S16x4096x4096, .f32⟩
  | .hbm, ⟨91, _⟩ => ⟨S16x4096x4096, .f32⟩
  | .hbm, ⟨92, _⟩ => ⟨S_, .f32⟩
  | .hbm, ⟨93, _⟩ => ⟨S16x4096, .f32⟩
  | .hbm, ⟨94, _⟩ => ⟨S16x4096x4096, .f32⟩
  | .hbm, ⟨95, _⟩ => ⟨S16x4096x4096, .f32⟩
  | .hbm, ⟨96, _⟩ => ⟨S16x4096x4096, .f32⟩
  | .hbm, ⟨97, _⟩ => ⟨S_, .f32⟩
  | .hbm, ⟨98, _⟩ => ⟨S16x4096x4096, .f32⟩
  | .hbm, ⟨99, _⟩ => ⟨S16x4096x4096, .f32⟩
  | .hbm, ⟨100, _⟩ => ⟨S16x4096x4096, .f32⟩
  | .hbm, ⟨101, _⟩ => ⟨S_, .f32⟩
  | .hbm, ⟨102, _⟩ => ⟨S16x4096, .f32⟩
  | .hbm, ⟨103, _⟩ => ⟨S16x1x4096, .f32⟩
  | .hbm, ⟨104, _⟩ => ⟨S_, .f32⟩
  | .hbm, ⟨105, _⟩ => ⟨S16x4096, .f32⟩
  | .hbm, ⟨106, _⟩ => ⟨S_, .f32⟩
  | .hbm, ⟨107, _⟩ => ⟨S16x4096, .f32⟩
  | .hbm, ⟨108, _⟩ => ⟨S16x4096x1, .f32⟩
  | .hbm, ⟨109, _⟩ => ⟨S_, .f32⟩
  | .hbm, ⟨110, _⟩ => ⟨S16x4096, .f32⟩
  | .hbm, ⟨111, _⟩ => ⟨S16x4096, .f32⟩
  | .hbm, ⟨112, _⟩ => ⟨S4096x16, .f32⟩
  | .hbm, ⟨113, _⟩ => ⟨S_, .f32⟩
  | .hbm, ⟨114, _⟩ => ⟨S16x4096x4096, .f32⟩
  | .hbm, ⟨115, _⟩ => ⟨S16x4096x4096, .f32⟩
  | .hbm, ⟨116, _⟩ => ⟨S16x4096x128, .f32⟩
  | .hbm, ⟨117, _⟩ => ⟨S16x4096x128, .f32⟩
  | .hbm, ⟨118, _⟩ => ⟨S4096x16x128, .f32⟩
  | .hbm, ⟨119, _⟩ => ⟨S4096x2048, .f32⟩
  | .hbm, ⟨120, _⟩ => ⟨S4096x16x128, .f32⟩
  | .hbm, ⟨121, _⟩ => ⟨S4096x2048, .f32⟩
  | .hbm, ⟨122, _⟩ => ⟨S4096x16x128, .f32⟩
  | .hbm, ⟨123, _⟩ => ⟨S4096x2048, .f32⟩
  | .hbm, ⟨124, _⟩ => ⟨S4096x6144, .f32⟩
  | .hbm, ⟨125, _⟩ => ⟨S4096x6144, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_call0_v0 : Ref sig .tc := ⟨.hbm, 32, rfl⟩
abbrev main_v27_1 : Ref sig .tc := ⟨.hbm, 33, rfl⟩
abbrev main_call0_v2 : Ref sig .tc := ⟨.hbm, 34, rfl⟩
abbrev main_v27_0 : Ref sig .tc := ⟨.hbm, 35, rfl⟩
abbrev main_call0_cst : Ref sig .tc := ⟨.hbm, 36, rfl⟩
abbrev main_v27_2 : Ref sig .tc := ⟨.hbm, 37, rfl⟩
abbrev main_cst_1 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_11 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_12 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_call1_cst : Ref sig .tc := ⟨.hbm, 97, rfl⟩
abbrev main_call1_v0 : Ref sig .tc := ⟨.hbm, 98, rfl⟩
abbrev main_v75 : Ref sig .tc := ⟨.hbm, 99, rfl⟩
abbrev main_v76 : Ref sig .tc := ⟨.hbm, 100, rfl⟩
abbrev main_cst_13 : Ref sig .tc := ⟨.hbm, 101, rfl⟩
abbrev main_v77 : Ref sig .tc := ⟨.hbm, 102, rfl⟩
abbrev main_v78 : Ref sig .tc := ⟨.hbm, 103, rfl⟩
abbrev main_cst_14 : Ref sig .tc := ⟨.hbm, 104, rfl⟩
abbrev main_v79 : Ref sig .tc := ⟨.hbm, 105, rfl⟩
abbrev main_cst_15 : Ref sig .tc := ⟨.hbm, 106, rfl⟩
abbrev main_v80 : Ref sig .tc := ⟨.hbm, 107, rfl⟩
abbrev main_v81 : Ref sig .tc := ⟨.hbm, 108, rfl⟩
abbrev main_cst_16 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_17 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩

abbrev nD : Nat := 1
abbrev τ : Topo := Topo.v7x

variable {F : FTy → Type} [FloatOps F]
-- ==== Dx.lean ====
abbrev S4096x6144 : Shape := ⟨2, ![4096, 6144]⟩
abbrev S4096x2048 : Shape := ⟨2, ![4096, 2048]⟩
abbrev S1024x8192 : Shape := ⟨2, ![1024, 8192]⟩
abbrev S4096x1024 : Shape := ⟨2, ![4096, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x6144, .bf16⟩
  | .hbm, ⟨1, _⟩ => ⟨S4096x2048, .f32⟩
  | .hbm, ⟨2, _⟩ => ⟨S1024x8192, .bf16⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 8], ![false, false, false]⟩

def k0_cond4 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.minsi arg2 c5_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.subi arg2 c6_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DxRefIdeal.lean ====
abbrev S4096x6144 : Shape := ⟨2, ![4096, 6144]⟩
abbrev S4096x2048 : Shape := ⟨2, ![4096, 2048]⟩
abbrev S1024x8192 : Shape := ⟨2, ![1024, 8192]⟩
abbrev S_ : Shape := ⟨0, ![]⟩
abbrev S4096x1024 : Shape := ⟨2, ![4096, 1024]⟩
abbrev S4096x8192 : Shape := ⟨2, ![4096, 8192]⟩

abbrev nBuf : Space → Nat
  | .hbm => 16
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S4096x2048, .f32⟩
  | .hbm, ⟨2, _⟩ => ⟨S1024x8192, .bf16⟩
  | .hbm, ⟨3, _⟩ => ⟨S_, .f32⟩
  | .hbm, ⟨4, _⟩ => ⟨S4096x1024, .f32⟩
  | .hbm, ⟨5, _⟩ => ⟨S1024x8192, .f32⟩
  | .hbm, ⟨6, _⟩ => ⟨S4096x8192, .f32⟩
  | .hbm, ⟨7, _⟩ => ⟨S4096x6144, .f32⟩
  | .hbm, ⟨8, _⟩ => ⟨S4096x2048, .f32⟩
  | .hbm, ⟨9, _⟩ => ⟨S4096x6144, .f32⟩
  | .hbm, ⟨10, _⟩ => ⟨S_, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x1024, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Dw.lean ====
abbrev S4096x1024 : Shape := ⟨2, ![4096, 1024]⟩
abbrev S4096x6144 : Shape := ⟨2, ![4096, 6144]⟩
abbrev S4096x2048 : Shape := ⟨2, ![4096, 2048]⟩
abbrev S1024x4096 : Shape := ⟨2, ![1024, 4096]⟩
abbrev S2x4x1024x1024 : Shape := ⟨4, ![2, 4, 1024, 1024]⟩
abbrev S1024x1024 : Shape := ⟨2, ![1024, 1024]⟩
abbrev S1x1x1024x1024 : Shape := ⟨4, ![1, 1, 1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x6144, .bf16⟩
  | .hbm, ⟨2, _⟩ => ⟨S4096x2048, .f32⟩
  | .hbm, ⟨3, _⟩ => ⟨S1024x4096, .f32⟩
  | .hbm, ⟨4, _⟩ => ⟨S1024x4096, .bf16⟩
  | .hbm, ⟨5, _⟩ => ⟨S2x4x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 8, 4], ![false, false, false]⟩

def k0_cond4 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 1 := Scalar.cmpi .slt arg1 c6_i32
  let c3_i32 : BitVec 32 := 3#32
  let v1 : BitVec 32 := Scalar.select v0 arg2 c3_i32
  let c5_i32 : BitVec 32 := 5#32
  let v2 : BitVec 32 := Scalar.minsi arg1 c5_i32
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 1 := Scalar.cmpi .slt arg1 c6_i32
  let c0_i32 : BitVec 32 := 0#32
  let v1 : BitVec 32 := Scalar.select v0 c0_i32 arg2
  let c6_i32_0 : BitVec 32 := 6#32
  let v2 : BitVec 32 := Scalar.subi arg1 c6_i32_0
  let c0_i32_1 : BitVec 32 := 0#32
  let v3 : BitVec 32 := Scalar.maxsi v2 c0_i32_1
  let c0_i32_2 : BitVec 32 := 0#32
  ![v1.toNat, v3.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg1 c2_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg1 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, arg0.toNat, c0_i32_10.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DwRefIdeal.lean ====
abbrev S4096x1024 : Shape := ⟨2, ![4096, 1024]⟩
abbrev S4096x6144 : Shape := ⟨2, ![4096, 6144]⟩
abbrev S4096x2048 : Shape := ⟨2, ![4096, 2048]⟩
abbrev S_ : Shape := ⟨0, ![]⟩
abbrev S1024x8192 : Shape := ⟨2, ![1024, 8192]⟩
abbrev S4096x8192 : Shape := ⟨2, ![4096, 8192]⟩
abbrev S8192x1024 : Shape := ⟨2, ![8192, 1024]⟩
abbrev S1024x4x2x1024 : Shape := ⟨4, ![1024, 4, 2, 1024]⟩
abbrev S2x4x1024x1024 : Shape := ⟨4, ![2, 4, 1024, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x6144, .bf16⟩
  | .hbm, ⟨2, _⟩ => ⟨S4096x2048, .f32⟩
  | .hbm, ⟨3, _⟩ => ⟨S_, .f32⟩
  | .hbm, ⟨4, _⟩ => ⟨S1024x8192, .f32⟩
  | .hbm, ⟨5, _⟩ => ⟨S4096x8192, .f32⟩
  | .hbm, ⟨6, _⟩ => ⟨S4096x6144, .f32⟩
  | .hbm, ⟨7, _⟩ => ⟨S4096x2048, .f32⟩
  | .hbm, ⟨8, _⟩ => ⟨S4096x6144, .f32⟩
  | .hbm, ⟨9, _⟩ => ⟨S_, .f32⟩
  | .hbm, ⟨10, _⟩ => ⟨S4096x8192, .f32⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S8192x1024, .f32⟩
  | .hbm, ⟨15, _⟩ => ⟨S1024x8192, .f32⟩
  | .hbm, ⟨16, _⟩ => ⟨S1024x4x2x1024, .f32⟩
  | .hbm, ⟨17, _⟩ => ⟨S2x4x1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Qkv.lean ====
abbrev S4096x1024 : Shape := ⟨2, ![4096, 1024]⟩
abbrev S1024x8192 : Shape := ⟨2, ![1024, 8192]⟩
abbrev S4096x6144 : Shape := ⟨2, ![4096, 6144]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x8192, .bf16⟩
  | .hbm, ⟨2, _⟩ => ⟨S4096x6144, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvRefIdeal.lean ====
abbrev S4096x1024 : Shape := ⟨2, ![4096, 1024]⟩
abbrev S1024x8192 : Shape := ⟨2, ![1024, 8192]⟩
abbrev S4096x8192 : Shape := ⟨2, ![4096, 8192]⟩
abbrev S4096x6144 : Shape := ⟨2, ![4096, 6144]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x8192, .bf16⟩
  | .hbm, ⟨2, _⟩ => ⟨S1024x8192, .f32⟩
  | .hbm, ⟨3, _⟩ => ⟨S4096x8192, .f32⟩
  | .hbm, ⟨4, _⟩ => ⟨S4096x6144, .f32⟩
  | .hbm, ⟨5, _⟩ => ⟨S4096x2048, .f32⟩
  | .hbm, ⟨6, _⟩ => ⟨S4096x6144, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Gate.lean ====
abbrev S4096x1024 : Shape := ⟨2, ![4096, 1024]⟩
abbrev S1024x8192 : Shape := ⟨2, ![1024, 8192]⟩
abbrev S4096x2048 : Shape := ⟨2, ![4096, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x8192, .bf16⟩
  | .hbm, ⟨2, _⟩ => ⟨S4096x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi arg1 c6_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateRefIdeal.lean ====
abbrev S4096x1024 : Shape := ⟨2, ![4096, 1024]⟩
abbrev S1024x8192 : Shape := ⟨2, ![1024, 8192]⟩
abbrev S4096x8192 : Shape := ⟨2, ![4096, 8192]⟩
abbrev S4096x6144 : Shape := ⟨2, ![4096, 6144]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x8192, .bf16⟩
  | .hbm, ⟨2, _⟩ => ⟨S1024x8192, .f32⟩
  | .hbm, ⟨3, _⟩ => ⟨S4096x8192, .f32⟩
  | .hbm, ⟨4, _⟩ => ⟨S4096x6144, .f32⟩
  | .hbm, ⟨5, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Out.lean ====
abbrev S4096x2048 : Shape := ⟨2, ![4096, 2048]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S2048x1024, .bf16⟩
  | .hbm, ⟨2, _⟩ => ⟨S4096x1024, .f32⟩
  | .hbm, ⟨3, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRefIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x1024, .bf16⟩
  | .hbm, ⟨2, _⟩ => ⟨S4096x1024, .f32⟩
  | .hbm, ⟨3, _⟩ => ⟨S2048x1024, .f32⟩
  | .hbm, ⟨4, _⟩ => ⟨S4096x1024, .f32⟩
  | .hbm, ⟨5, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutDx.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S2048x1024, .bf16⟩
  | .hbm, ⟨2, _⟩ => ⟨S4096x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2048x1024, .bf16⟩
  | .hbm, ⟨2, _⟩ => ⟨S_, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDw.lean ====
abbrev S4096x2048 : Shape := ⟨2, ![4096, 2048]⟩
abbrev S4096x1024 : Shape := ⟨2, ![4096, 1024]⟩
abbrev S2048x4096 : Shape := ⟨2, ![2048, 4096]⟩
abbrev S2x4x256x1024 : Shape := ⟨4, ![2, 4, 256, 1024]⟩
abbrev S256x1024 : Shape := ⟨2, ![256, 1024]⟩
abbrev S1024x1024 : Shape := ⟨2, ![1024, 1024]⟩
abbrev S1x1x256x1024 : Shape := ⟨4, ![1, 1, 256, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S2048x4096, .f32⟩
  | .hbm, ⟨3, _⟩ => ⟨S2048x4096, .bf16⟩
  | .hbm, ⟨4, _⟩ => ⟨S2x4x256x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1x256x1024, .f32⟩
  | .local _ .vmem, ⟨5, _⟩ => ⟨S1x1x256x1024, .f32⟩
  | .local _ .vmem, ⟨6, _⟩ => ⟨S256x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, c0_i32_10.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩
abbrev S4x2x256x1024 : Shape := ⟨4, ![4, 2, 256, 1024]⟩
abbrev S2x4x256x1024 : Shape := ⟨4, ![2, 4, 256, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S_, .f32⟩
  | .hbm, ⟨3, _⟩ => ⟨S2048x1024, .f32⟩
  | .hbm, ⟨4, _⟩ => ⟨S4096x1024, .f32⟩
  | .hbm, ⟨5, _⟩ => ⟨S1024x2048, .f32⟩
  | .hbm, ⟨6, _⟩ => ⟨S2048x1024, .f32⟩
  | .hbm, ⟨7, _⟩ => ⟨S4x2x256x1024, .f32⟩
  | .hbm, ⟨8, _⟩ => ⟨S2x4x256x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Fdx.lean ====
abbrev S4096x6144 : Shape := ⟨2, ![4096, 6144]⟩
abbrev S4096x2048 : Shape := ⟨2, ![4096, 2048]⟩
abbrev S1024x8208 : Shape := ⟨2, ![1024, 8208]⟩
abbrev S4096x1024 : Shape := ⟨2, ![4096, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x6144, .bf16⟩
  | .hbm, ⟨1, _⟩ => ⟨S4096x2048, .f32⟩
  | .hbm, ⟨2, _⟩ => ⟨S1024x8208, .bf16⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 8], ![false, false, false]⟩

def k0_cond4 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.minsi arg2 c5_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.subi arg2 c6_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FdxRefIdeal.lean ====
abbrev S4096x6144 : Shape := ⟨2, ![4096, 6144]⟩
abbrev S4096x2048 : Shape := ⟨2, ![4096, 2048]⟩
abbrev S1024x8208 : Shape := ⟨2, ![1024, 8208]⟩
abbrev S_ : Shape := ⟨0, ![]⟩
abbrev S4096x1024 : Shape := ⟨2, ![4096, 1024]⟩
abbrev S4096x8208 : Shape := ⟨2, ![4096, 8208]⟩

abbrev nBuf : Space → Nat
  | .hbm => 16
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S4096x2048, .f32⟩
  | .hbm, ⟨2, _⟩ => ⟨S1024x8208, .bf16⟩
  | .hbm, ⟨3, _⟩ => ⟨S_, .f32⟩
  | .hbm, ⟨4, _⟩ => ⟨S4096x1024, .f32⟩
  | .hbm, ⟨5, _⟩ => ⟨S1024x8208, .f32⟩
  | .hbm, ⟨6, _⟩ => ⟨S4096x8208, .f32⟩
  | .hbm, ⟨7, _⟩ => ⟨S4096x6144, .f32⟩
  | .hbm, ⟨8, _⟩ => ⟨S4096x2048, .f32⟩
  | .hbm, ⟨9, _⟩ => ⟨S4096x6144, .f32⟩
  | .hbm, ⟨10, _⟩ => ⟨S_, .f32⟩
  | .hbm, ⟨11, _⟩ => ⟨S4096x8208, .f32⟩
  | .hbm, ⟨12, _⟩ => ⟨S_, .f32⟩
  | .hbm, ⟨13, _⟩ => ⟨S4096x8208, .f32⟩
  | .hbm, ⟨14, _⟩ => ⟨S4096x8208, .f32⟩
  | .hbm, ⟨15, _⟩ => ⟨S4096x1024, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Fdwq.lean ====
abbrev S4096x1024 : Shape := ⟨2, ![4096, 1024]⟩
abbrev S4096x6144 : Shape := ⟨2, ![4096, 6144]⟩
abbrev S1024x4096 : Shape := ⟨2, ![1024, 4096]⟩
abbrev S1024x6144 : Shape := ⟨2, ![1024, 6144]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x6144, .bf16⟩
  | .hbm, ⟨2, _⟩ => ⟨S1024x4096, .f32⟩
  | .hbm, ⟨3, _⟩ => ⟨S1024x4096, .bf16⟩
  | .hbm, ⟨4, _⟩ => ⟨S1024x6144, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 6, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FdwqRefIdeal.lean ====
abbrev S4096x1024 : Shape := ⟨2, ![4096, 1024]⟩
abbrev S4096x6144 : Shape := ⟨2, ![4096, 6144]⟩
abbrev S_ : Shape := ⟨0, ![]⟩
abbrev S1024x6144 : Shape := ⟨2, ![1024, 6144]⟩
abbrev S6144x1024 : Shape := ⟨2, ![6144, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x6144, .bf16⟩
  | .hbm, ⟨2, _⟩ => ⟨S_, .f32⟩
  | .hbm, ⟨3, _⟩ => ⟨S1024x6144, .f32⟩
  | .hbm, ⟨4, _⟩ => ⟨S4096x6144, .f32⟩
  | .hbm, ⟨5, _⟩ => ⟨S4096x6144, .f32⟩
  | .hbm, ⟨6, _⟩ => ⟨S6144x1024, .f32⟩
  | .hbm, ⟨7, _⟩ => ⟨S1024x6144, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Fdwg.lean ====
abbrev S4096x1024 : Shape := ⟨2, ![4096, 1024]⟩
abbrev S4096x2048 : Shape := ⟨2, ![4096, 2048]⟩
abbrev S1024x4096 : Shape := ⟨2, ![1024, 4096]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S1024x4096, .f32⟩
  | .hbm, ⟨3, _⟩ => ⟨S1024x4096, .bf16⟩
  | .hbm, ⟨4, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FdwgRefIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S2048x1024, .f32⟩
  | .hbm, ⟨6, _⟩ => ⟨S1024x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Fqkv.lean ====
abbrev S4096x1024 : Shape := ⟨2, ![4096, 1024]⟩
abbrev S1024x8208 : Shape := ⟨2, ![1024, 8208]⟩
abbrev S4096x6144 : Shape := ⟨2, ![4096, 6144]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x8208, .bf16⟩
  | .hbm, ⟨2, _⟩ => ⟨S4096x6144, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FqkvRefIdeal.lean ====
abbrev S4096x1024 : Shape := ⟨2, ![4096, 1024]⟩
abbrev S1024x8208 : Shape := ⟨2, ![1024, 8208]⟩
abbrev S4096x8208 : Shape := ⟨2, ![4096, 8208]⟩
abbrev S4096x6144 : Shape := ⟨2, ![4096, 6144]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x8208, .bf16⟩
  | .hbm, ⟨2, _⟩ => ⟨S1024x8208, .f32⟩
  | .hbm, ⟨3, _⟩ => ⟨S4096x8208, .f32⟩
  | .hbm, ⟨4, _⟩ => ⟨S4096x6144, .f32⟩
  | .hbm, ⟨5, _⟩ => ⟨S4096x2048, .f32⟩
  | .hbm, ⟨6, _⟩ => ⟨S4096x6144, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Fgate.lean ====
abbrev S4096x1024 : Shape := ⟨2, ![4096, 1024]⟩
abbrev S1024x8208 : Shape := ⟨2, ![1024, 8208]⟩
abbrev S4096x2048 : Shape := ⟨2, ![4096, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x8208, .bf16⟩
  | .hbm, ⟨2, _⟩ => ⟨S4096x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi arg1 c6_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FgateRefIdeal.lean ====
abbrev S4096x1024 : Shape := ⟨2, ![4096, 1024]⟩
abbrev S1024x8208 : Shape := ⟨2, ![1024, 8208]⟩
abbrev S4096x8208 : Shape := ⟨2, ![4096, 8208]⟩
abbrev S4096x6144 : Shape := ⟨2, ![4096, 6144]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x8208, .bf16⟩
  | .hbm, ⟨2, _⟩ => ⟨S1024x8208, .f32⟩
  | .hbm, ⟨3, _⟩ => ⟨S4096x8208, .f32⟩
  | .hbm, ⟨4, _⟩ => ⟨S4096x6144, .f32⟩
  | .hbm, ⟨5, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Mla.lean ====
abbrev S16x4096x128 : Shape := ⟨3, ![16, 4096, 128]⟩
abbrev S16x4096x64 : Shape := ⟨3, ![16, 4096, 64]⟩
abbrev S4096x64 : Shape := ⟨2, ![4096, 64]⟩
abbrev S16x4096x4096 : Shape := ⟨3, ![16, 4096, 4096]⟩
abbrev S_ : Shape := ⟨0, ![]⟩
abbrev S64 : Shape := ⟨1, ![64]⟩
abbrev S64x1 : Shape := ⟨2, ![64, 1]⟩
abbrev S64x64 : Shape := ⟨2, ![64, 64]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096 : Shape := ⟨2, ![16, 4096]⟩
abbrev S16x4096x1 : Shape := ⟨3, ![16, 4096, 1]⟩
abbrev S16x4096x256 : Shape := ⟨3, ![16, 4096, 256]⟩
abbrev S4096x16x256 : Shape := ⟨3, ![4096, 16, 256]⟩
abbrev S4096x128 : Shape := ⟨2, ![4096, 128]⟩
abbrev S4096x16x128 : Shape := ⟨3, ![4096, 16, 128]⟩
abbrev S4096x2048 : Shape := ⟨2, ![4096, 2048]⟩
abbrev S512x256 : Shape := ⟨2, ![512, 256]⟩
abbrev S512x128 : Shape := ⟨2, ![512, 128]⟩
abbrev S1x512x1 : Shape := ⟨3, ![1, 512, 1]⟩
abbrev S4096x256 : Shape := ⟨2, ![4096, 256]⟩
abbrev S8x128x512 : Shape := ⟨3, ![8, 128, 512]⟩
abbrev S256x512 : Shape := ⟨2, ![256, 512]⟩
abbrev S128x512 : Shape := ⟨2, ![128, 512]⟩
abbrev S512x1 : Shape := ⟨2, ![512, 1]⟩
abbrev S512x512 : Shape := ⟨2, ![512, 512]⟩
abbrev S1x128x512 : Shape := ⟨3, ![1, 128, 512]⟩

abbrev nBuf : Space → Nat
  | .hbm => 75
  | .vmem => 23
  | .smem => 0
  | _ => 0

abbrev bufTy : (tb : Table) → Fin (tcTables nBuf tb) → BufTy
  | .hbm, ⟨0, _⟩ => ⟨S16x4096x128, .bf16⟩
  | .hbm, ⟨1, _⟩ => ⟨S16x4096x64, .bf16⟩
  | .hbm, ⟨2, _⟩ => ⟨S16x4096x128, .bf16⟩
  | .hbm, ⟨3, _⟩ => ⟨S4096x64, .bf16⟩
  | .hbm, ⟨4, _⟩ => ⟨S16x4096x128, .bf16⟩
  | .hbm, ⟨5, _⟩ => ⟨S16x4096x128, .bf16⟩
  | .hbm, ⟨6, _⟩ => ⟨S16x4096x128, .f32⟩
  | .hbm, ⟨7, _⟩ => ⟨S16x4096x64, .f32⟩
  | .hbm, ⟨8, _⟩ => ⟨S16x4096x128, .f32⟩
  | .hbm, ⟨9, _⟩ => ⟨S4096x64, .f32⟩
  | .hbm, ⟨10, _⟩ => ⟨S16x4096x4096, .f32⟩
  | .hbm, ⟨11, _⟩ => ⟨S16x4096x4096, .f32⟩
  | .hbm, ⟨12, _⟩ => ⟨S16x4096x4096, .f32⟩
  | .hbm, ⟨13, _⟩ => ⟨S_, .f32⟩
  | .hbm, ⟨14, _⟩ => ⟨S16x4096x4096, .f32⟩
  | .hbm, ⟨15, _⟩ => ⟨S16x4096x4096, .f32⟩
  | .hbm, ⟨16, _⟩ => ⟨S64, .i32⟩
  | .hbm, ⟨17, _⟩ => ⟨S64x1, .i32⟩
  | .hbm, ⟨18, _⟩ => ⟨S64x64, .i32⟩
  | .hbm, ⟨19, _⟩ => ⟨S4096, .i32⟩
  | .hbm, ⟨20, _⟩ => ⟨S1x4096, .i32⟩
  | .hbm, ⟨21, _⟩ => ⟨S4096x1, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S_, .f32⟩
  | .hbm, ⟨26, _⟩ => ⟨S_, .f32⟩
  | .hbm, ⟨27, _⟩ => ⟨S16x4096x4096, .i1⟩
  | .hbm, ⟨28, _⟩ => ⟨S16x4096x4096, .f32⟩
  | .hbm, ⟨29, _⟩ => ⟨S16x4096x4096, .f32⟩
  | .hbm, ⟨30, _⟩ => ⟨S_, .f32⟩
  | .hbm, ⟨31, _⟩ => ⟨S16x4096, .f32⟩
  | .hbm, ⟨32, _⟩ => ⟨S16x4096x1, .f32⟩
  | .hbm, ⟨33, _⟩ => ⟨S16x4096x4096, .f32⟩
  | .hbm, ⟨34, _⟩ => ⟨S16x4096x4096, .f32⟩
  | .hbm, ⟨35, _⟩ => ⟨S16x4096x4096, .f32⟩
  | .hbm, ⟨36, _⟩ => ⟨S_, .f32⟩
  | .hbm, ⟨37, _⟩ => ⟨S16x4096, .f32⟩
  | .hbm, ⟨38, _⟩ => ⟨S16x4096x1, .f32⟩
  | .hbm, ⟨39, _⟩ => ⟨S16x4096x1, .f32⟩
  | .hbm, ⟨40, _⟩ => ⟨S16x4096x1, .f32⟩
  | .hbm, ⟨41, _⟩ => ⟨S16x4096x4096, .f32⟩
  | .hbm, ⟨42, _⟩ => ⟨S16x4096x4096, .f32⟩
  | .hbm, ⟨43, _⟩ => ⟨S16x4096x128, .f32⟩
  | .hbm, ⟨44, _⟩ => ⟨S16x4096x128, .f32⟩
  | .hbm, ⟨45, _⟩ => ⟨S16x4096x128, .f32⟩
  | .hbm, ⟨46, _⟩ => ⟨S16x4096x128, .f32⟩
  | .hbm, ⟨47, _⟩ => ⟨S_, .f32⟩
  | .hbm, ⟨48, _⟩ => ⟨S16x4096, .f32⟩
  | .hbm, ⟨49, _⟩ => ⟨S16x4096x1, .f32⟩
  | .hbm, ⟨50, _⟩ => ⟨S_, .bf16⟩
  | .hbm, ⟨51, _⟩ => ⟨S16x4096x64, .bf16⟩
  | .hbm, ⟨52, _⟩ => ⟨S16x4096x256, .bf16⟩
  | .hbm, ⟨53, _⟩ => ⟨S4096x16x256, .bf16⟩
  | .hbm, ⟨54, _⟩ => ⟨S4096x4096, .bf16⟩
  | .hbm, ⟨55, _⟩ => ⟨S16x4096x256, .bf16⟩
  | .hbm, ⟨56, _⟩ => ⟨S4096x16x256, .bf16⟩
  | .hbm, ⟨57, _⟩ => ⟨S4096x4096, .bf16⟩
  | .hbm, ⟨58, _⟩ => ⟨S_, .bf16⟩
  | .hbm, ⟨59, _⟩ => ⟨S4096x64, .bf16⟩
  | .hbm, ⟨60, _⟩ => ⟨S4096x128, .bf16⟩
  | .hbm, ⟨61, _⟩ => ⟨S4096x16x128, .bf16⟩
  | .hbm, ⟨62, _⟩ => ⟨S4096x2048, .bf16⟩
  | .hbm, ⟨63, _⟩ => ⟨S4096x4096, .f32⟩
  | .hbm, ⟨64, _⟩ => ⟨S4096x4096, .bf16⟩
  | .hbm, ⟨65, _⟩ => ⟨S4096x128, .f32⟩
  | .hbm, ⟨66, _⟩ => ⟨S4096x16x256, .f32⟩
  | .hbm, ⟨67, _⟩ => ⟨S16x4096x256, .f32⟩
  | .hbm, ⟨68, _⟩ => ⟨S4096x16x256, .bf16⟩
  | .hbm, ⟨69, _⟩ => ⟨S16x4096x256, .bf16⟩
  | .hbm, ⟨70, _⟩ => ⟨S16x4096x128, .f32⟩
  | .hbm, ⟨71, _⟩ => ⟨S16x4096x64, .f32⟩
  | .hbm, ⟨72, _⟩ => ⟨S16x4096x128, .bf16⟩
  | .hbm, ⟨73, _⟩ => ⟨S4096x64, .f32⟩
  | .hbm, ⟨74, _⟩ => ⟨S16x4096x128, .bf16⟩
  | .local _ .vmem, ⟨0, _⟩ => ⟨S512x256, .bf16⟩
  | .local _ .vmem, ⟨1, _⟩ => ⟨S512x256, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S512x128, .bf16⟩
  | .local _ .vmem, ⟨8, _⟩ => ⟨S512x128, .bf16⟩
  | .local _ .vmem, ⟨9, _⟩ => ⟨S1x512x1, .f32⟩
  | .local _ .vmem, ⟨10, _⟩ => ⟨S1x512x1, .f32⟩
  | .local _ .vmem, ⟨11, _⟩ => ⟨S1x512x1, .f32⟩
  | .local _ .vmem, ⟨12, _⟩ => ⟨S1x512x1, .f32⟩
  | .local _ .vmem, ⟨13, _⟩ => ⟨S512x256, .f32⟩
  | .local _ .vmem, ⟨14, _⟩ => ⟨S512x256, .f32⟩
  | .local _ .vmem, ⟨15, _⟩ => ⟨S4096x256, .bf16⟩
  | .local _ .vmem, ⟨16, _⟩ => ⟨S4096x256, .bf16⟩
  | .local _ .vmem, ⟨17, _⟩ => ⟨S4096x128, .f32⟩
  | .local _ .vmem, ⟨18, _⟩ => ⟨S512x256, .f32⟩
  | .local _ .vmem, ⟨19, _⟩ => ⟨S8x128x512, .f32⟩
  | .local _ .vmem, ⟨20, _⟩ => ⟨S8x128x512, .f32⟩
  | .local _ .vmem, ⟨21, _⟩ => ⟨S8x128x512, .f32⟩
  | .local _ .vmem, ⟨22, _⟩ => ⟨S4096x256, .bf16⟩
  | _, _ => ⟨S16x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47_0 : Ref sig .tc := ⟨.hbm, 63, rfl⟩
abbrev main_v47_1 : Ref sig .tc := ⟨.hbm, 64, rfl⟩
abbrev main_v47_2 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![16, 8], ![false, false]⟩

@[reducible] def k0_t1_loop (i : grid0.Coords) : Scf.Loop 32 :=
  let c0_i32_22 : BitVec 32 := 0#32
  let arg1 : BitVec 32 := BitVec.ofNat 32 (i 1).val
  let c0_i32_15 : BitVec 32 := 0#32
  let v27 : BitVec 1 := Scalar.cmpi .sgt arg1 c0_i32_15
  let v28 : BitVec 32 := Scalar.extui v27
  let c0_i32_16 : BitVec 32 := 0#32
  let v29 : BitVec 1 := Scalar.cmpi .slt arg1 c0_i32_16
  let v30 : BitVec 32 := Scalar.extui v29
  let v31 : BitVec 32 := Scalar.subi v28 v30
  let c1_i32 : BitVec 32 := 1#32
  let c0_i32_17 : BitVec 32 := 0#32
  let v32 : BitVec 1 := Scalar.cmpi .sgt c1_i32 c0_i32_17
  let v33 : BitVec 32 := Scalar.extui v32
  let c0_i32_18 : BitVec 32 := 0#32
  let v34 : BitVec 1 := Scalar.cmpi .slt c1_i32 c0_i32_18
  let v35 : BitVec 32 := Scalar.extui v34
  let v36 : BitVec 32 := Scalar.subi v33 v35
  let v37 : BitVec 1 := Scalar.cmpi .ne v31 v36
  let v38 : BitVec 32 := Scalar.remsi arg1 c1_i32
  let c0_i32_19 : BitVec 32 := 0#32
  let v39 : BitVec 1 := Scalar.cmpi .ne v38 c0_i32_19
  let v40 : BitVec 1 := Scalar.andi v37 v39
  let v26 : BitVec 32 := Scalar.divsi arg1 c1_i32
  let c1_i32_20 : BitVec 32 := 1#32
  let v41 : BitVec 32 := Scalar.subi v26 c1_i32_20
  let v42 : BitVec 32 := Scalar.select v40 v41 v26
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_24 : BitVec 32 := 1#32
  ⟨c0_i32_22, v47, c1_i32_24⟩
def k0_mult1 (i : grid0.Coords) (k0_t1 : Fin (k0_t1_loop i).trips) : BitVec 32 :=
  let c0_i32_22 : BitVec 32 := 0#32
  let c1_i32_24 : BitVec 32 := 1#32
  let arg17 : BitVec 32 := Scf.iv c0_i32_22 c1_i32_24 k0_t1
  let c512_i32_69 : BitVec 32 := 512#32
  let v145 : BitVec 32 := Scalar.muli arg17 c512_i32_69
  v145
def k0_off1 (i : grid0.Coords) (k0_t1 : Fin (k0_t1_loop i).trips) : Fin 2 → Nat :=
  let c0_i32_22 : BitVec 32 := 0#32
  let c1_i32_24 : BitVec 32 := 1#32
  let arg17 : BitVec 32 := Scf.iv c0_i32_22 c1_i32_24 k0_t1
  let c512_i32_69 : BitVec 32 := 512#32
  let v145 : BitVec 32 := Scalar.muli arg17 c512_i32_69
  let v146 : BitVec 32 := v145
  let v147 : Index := Scalar.indexCast v146
  let c0_70 : Index := 0#32
  ![v147.toNat, 0]
def k0_off2 (i : grid0.Coords) (k0_t1 : Fin (k0_t1_loop i).trips) : Fin 3 → Nat :=
  let c0_i32_22 : BitVec 32 := 0#32
  let c1_i32_24 : BitVec 32 := 1#32
  let arg17 : BitVec 32 := Scf.iv c0_i32_22 c1_i32_24 k0_t1
  let v155 : Index := Scalar.indexCast arg17
  let c0_73 : Index := 0#32
  let c0_74 : Index := 0#32
  ![v155.toNat, 0, 0]
def k0_off3 (i : grid0.Coords) (k0_t1 : Fin (k0_t1_loop i).trips) : Fin 2 → Nat :=
  let c0_i32_22 : BitVec 32 := 0#32
  let c1_i32_24 : BitVec 32 := 1#32
  let arg17 : BitVec 32 := Scf.iv c0_i32_22 c1_i32_24 k0_t1
  let c512_i32_69 : BitVec 32 := 512#32
  let v145 : BitVec 32 := Scalar.muli arg17 c512_i32_69
  let v146 : BitVec 32 := v145
  let v165 : Index := Scalar.indexCast v146
  let c0_78 : Index := 0#32
  ![v165.toNat, 0]
@[reducible] def k0_t2_loop (i : grid0.Coords) : Scf.Loop 32 :=
  let c0_i32_22 : BitVec 32 := 0#32
  let arg1 : BitVec 32 := BitVec.ofNat 32 (i 1).val
  let c0_i32_15 : BitVec 32 := 0#32
  let v27 : BitVec 1 := Scalar.cmpi .sgt arg1 c0_i32_15
  let v28 : BitVec 32 := Scalar.extui v27
  let c0_i32_16 : BitVec 32 := 0#32
  let v29 : BitVec 1 := Scalar.cmpi .slt arg1 c0_i32_16
  let v30 : BitVec 32 := Scalar.extui v29
  let v31 : BitVec 32 := Scalar.subi v28 v30
  let c1_i32 : BitVec 32 := 1#32
  let c0_i32_17 : BitVec 32 := 0#32
  let v32 : BitVec 1 := Scalar.cmpi .sgt c1_i32 c0_i32_17
  let v33 : BitVec 32 := Scalar.extui v32
  let c0_i32_18 : BitVec 32 := 0#32
  let v34 : BitVec 1 := Scalar.cmpi .slt c1_i32 c0_i32_18
  let v35 : BitVec 32 := Scalar.extui v34
  let v36 : BitVec 32 := Scalar.subi v33 v35
  let v37 : BitVec 1 := Scalar.cmpi .ne v31 v36
  let v38 : BitVec 32 := Scalar.remsi arg1 c1_i32
  let c0_i32_19 : BitVec 32 := 0#32
  let v39 : BitVec 1 := Scalar.cmpi .ne v38 c0_i32_19
  let v40 : BitVec 1 := Scalar.andi v37 v39
  let v26 : BitVec 32 := Scalar.divsi arg1 c1_i32
  let c1_i32_20 : BitVec 32 := 1#32
  let v41 : BitVec 32 := Scalar.subi v26 c1_i32_20
  let v42 : BitVec 32 := Scalar.select v40 v41 v26
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let v44 : BitVec 32 := Scalar.addi c0_i32_22 v43
  let c1_i32_25 : BitVec 32 := 1#32
  ⟨v47, v44, c1_i32_25⟩
def k0_mult2 (i : grid0.Coords) (k0_t2 : Fin (k0_t2_loop i).trips) : BitVec 32 :=
  let c0_i32_22 : BitVec 32 := 0#32
  let arg1 : BitVec 32 := BitVec.ofNat 32 (i 1).val
  let c0_i32_15 : BitVec 32 := 0#32
  let v27 : BitVec 1 := Scalar.cmpi .sgt arg1 c0_i32_15
  let v28 : BitVec 32 := Scalar.extui v27
  let c0_i32_16 : BitVec 32 := 0#32
  let v29 : BitVec 1 := Scalar.cmpi .slt arg1 c0_i32_16
  let v30 : BitVec 32 := Scalar.extui v29
  let v31 : BitVec 32 := Scalar.subi v28 v30
  let c1_i32 : BitVec 32 := 1#32
  let c0_i32_17 : BitVec 32 := 0#32
  let v32 : BitVec 1 := Scalar.cmpi .sgt c1_i32 c0_i32_17
  let v33 : BitVec 32 := Scalar.extui v32
  let c0_i32_18 : BitVec 32 := 0#32
  let v34 : BitVec 1 := Scalar.cmpi .slt c1_i32 c0_i32_18
  let v35 : BitVec 32 := Scalar.extui v34
  let v36 : BitVec 32 := Scalar.subi v33 v35
  let v37 : BitVec 1 := Scalar.cmpi .ne v31 v36
  let v38 : BitVec 32 := Scalar.remsi arg1 c1_i32
  let c0_i32_19 : BitVec 32 := 0#32
  let v39 : BitVec 1 := Scalar.cmpi .ne v38 c0_i32_19
  let v40 : BitVec 1 := Scalar.andi v37 v39
  let v26 : BitVec 32 := Scalar.divsi arg1 c1_i32
  let c1_i32_20 : BitVec 32 := 1#32
  let v41 : BitVec 32 := Scalar.subi v26 c1_i32_20
  let v42 : BitVec 32 := Scalar.select v40 v41 v26
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t2
  let c512_i32_69 : BitVec 32 := 512#32
  let v145 : BitVec 32 := Scalar.muli arg17 c512_i32_69
  v145
def k0_off4 (i : grid0.Coords) (k0_t2 : Fin (k0_t2_loop i).trips) : Fin 2 → Nat :=
  let c0_i32_22 : BitVec 32 := 0#32
  let arg1 : BitVec 32 := BitVec.ofNat 32 (i 1).val
  let c0_i32_15 : BitVec 32 := 0#32
  let v27 : BitVec 1 := Scalar.cmpi .sgt arg1 c0_i32_15
  let v28 : BitVec 32 := Scalar.extui v27
  let c0_i32_16 : BitVec 32 := 0#32
  let v29 : BitVec 1 := Scalar.cmpi .slt arg1 c0_i32_16
  let v30 : BitVec 32 := Scalar.extui v29
  let v31 : BitVec 32 := Scalar.subi v28 v30
  let c1_i32 : BitVec 32 := 1#32
  let c0_i32_17 : BitVec 32 := 0#32
  let v32 : BitVec 1 := Scalar.cmpi .sgt c1_i32 c0_i32_17
  let v33 : BitVec 32 := Scalar.extui v32
  let c0_i32_18 : BitVec 32 := 0#32
  let v34 : BitVec 1 := Scalar.cmpi .slt c1_i32 c0_i32_18
  let v35 : BitVec 32 := Scalar.extui v34
  let v36 : BitVec 32 := Scalar.subi v33 v35
  let v37 : BitVec 1 := Scalar.cmpi .ne v31 v36
  let v38 : BitVec 32 := Scalar.remsi arg1 c1_i32
  let c0_i32_19 : BitVec 32 := 0#32
  let v39 : BitVec 1 := Scalar.cmpi .ne v38 c0_i32_19
  let v40 : BitVec 1 := Scalar.andi v37 v39
  let v26 : BitVec 32 := Scalar.divsi arg1 c1_i32
  let c1_i32_20 : BitVec 32 := 1#32
  let v41 : BitVec 32 := Scalar.subi v26 c1_i32_20
  let v42 : BitVec 32 := Scalar.select v40 v41 v26
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t2
  let c512_i32_69 : BitVec 32 := 512#32
  let v145 : BitVec 32 := Scalar.muli arg17 c512_i32_69
  let v146 : BitVec 32 := v145
  let v147 : Index := Scalar.indexCast v146
  let c0_70 : Index := 0#32
  ![v147.toNat, 0]
def k0_off5 (i : grid0.Coords) (k0_t2 : Fin (k0_t2_loop i).trips) : Fin 3 → Nat :=
  let c0_i32_22 : BitVec 32 := 0#32
  let arg1 : BitVec 32 := BitVec.ofNat 32 (i 1).val
  let c0_i32_15 : BitVec 32 := 0#32
  let v27 : BitVec 1 := Scalar.cmpi .sgt arg1 c0_i32_15
  let v28 : BitVec 32 := Scalar.extui v27
  let c0_i32_16 : BitVec 32 := 0#32
  let v29 : BitVec 1 := Scalar.cmpi .slt arg1 c0_i32_16
  let v30 : BitVec 32 := Scalar.extui v29
  let v31 : BitVec 32 := Scalar.subi v28 v30
  let c1_i32 : BitVec 32 := 1#32
  let c0_i32_17 : BitVec 32 := 0#32
  let v32 : BitVec 1 := Scalar.cmpi .sgt c1_i32 c0_i32_17
  let v33 : BitVec 32 := Scalar.extui v32
  let c0_i32_18 : BitVec 32 := 0#32
  let v34 : BitVec 1 := Scalar.cmpi .slt c1_i32 c0_i32_18
  let v35 : BitVec 32 := Scalar.extui v34
  let v36 : BitVec 32 := Scalar.subi v33 v35
  let v37 : BitVec 1 := Scalar.cmpi .ne v31 v36
  let v38 : BitVec 32 := Scalar.remsi arg1 c1_i32
  let c0_i32_19 : BitVec 32 := 0#32
  let v39 : BitVec 1 := Scalar.cmpi .ne v38 c0_i32_19
  let v40 : BitVec 1 := Scalar.andi v37 v39
  let v26 : BitVec 32 := Scalar.divsi arg1 c1_i32
  let c1_i32_20 : BitVec 32 := 1#32
  let v41 : BitVec 32 := Scalar.subi v26 c1_i32_20
  let v42 : BitVec 32 := Scalar.select v40 v41 v26
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t2
  let v155 : Index := Scalar.indexCast arg17
  let c0_73 : Index := 0#32
  let c0_74 : Index := 0#32
  ![v155.toNat, 0, 0]
def k0_off6 (i : grid0.Coords) (k0_t2 : Fin (k0_t2_loop i).trips) : Fin 2 → Nat :=
  let c0_i32_22 : BitVec 32 := 0#32
  let arg1 : BitVec 32 := BitVec.ofNat 32 (i 1).val
  let c0_i32_15 : BitVec 32 := 0#32
  let v27 : BitVec 1 := Scalar.cmpi .sgt arg1 c0_i32_15
  let v28 : BitVec 32 := Scalar.extui v27
  let c0_i32_16 : BitVec 32 := 0#32
  let v29 : BitVec 1 := Scalar.cmpi .slt arg1 c0_i32_16
  let v30 : BitVec 32 := Scalar.extui v29
  let v31 : BitVec 32 := Scalar.subi v28 v30
  let c1_i32 : BitVec 32 := 1#32
  let c0_i32_17 : BitVec 32 := 0#32
  let v32 : BitVec 1 := Scalar.cmpi .sgt c1_i32 c0_i32_17
  let v33 : BitVec 32 := Scalar.extui v32
  let c0_i32_18 : BitVec 32 := 0#32
  let v34 : BitVec 1 := Scalar.cmpi .slt c1_i32 c0_i32_18
  let v35 : BitVec 32 := Scalar.extui v34
  let v36 : BitVec 32 := Scalar.subi v33 v35
  let v37 : BitVec 1 := Scalar.cmpi .ne v31 v36
  let v38 : BitVec 32 := Scalar.remsi arg1 c1_i32
  let c0_i32_19 : BitVec 32 := 0#32
  let v39 : BitVec 1 := Scalar.cmpi .ne v38 c0_i32_19
  let v40 : BitVec 1 := Scalar.andi v37 v39
  let v26 : BitVec 32 := Scalar.divsi arg1 c1_i32
  let c1_i32_20 : BitVec 32 := 1#32
  let v41 : BitVec 32 := Scalar.subi v26 c1_i32_20
  let v42 : BitVec 32 := Scalar.select v40 v41 v26
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t2
  let c512_i32_69 : BitVec 32 := 512#32
  let v145 : BitVec 32 := Scalar.muli arg17 c512_i32_69
  let v146 : BitVec 32 := v145
  let v165 : Index := Scalar.indexCast v146
  let c0_78 : Index := 0#32
  ![v165.toNat, 0]
def k0_mult3 (i : grid0.Coords) : BitVec 32 :=
  let arg1 : BitVec 32 := BitVec.ofNat 32 (i 1).val
  let c0_i32_27 : BitVec 32 := 0#32
  let v49 : BitVec 1 := Scalar.cmpi .sgt arg1 c0_i32_27
  let v50 : BitVec 32 := Scalar.extui v49
  let c0_i32_28 : BitVec 32 := 0#32
  let v51 : BitVec 1 := Scalar.cmpi .slt arg1 c0_i32_28
  let v52 : BitVec 32 := Scalar.extui v51
  let v53 : BitVec 32 := Scalar.subi v50 v52
  let c1_i32_26 : BitVec 32 := 1#32
  let c0_i32_29 : BitVec 32 := 0#32
  let v54 : BitVec 1 := Scalar.cmpi .sgt c1_i32_26 c0_i32_29
  let v55 : BitVec 32 := Scalar.extui v54
  let c0_i32_30 : BitVec 32 := 0#32
  let v56 : BitVec 1 := Scalar.cmpi .slt c1_i32_26 c0_i32_30
  let v57 : BitVec 32 := Scalar.extui v56
  let v58 : BitVec 32 := Scalar.subi v55 v57
  let v59 : BitVec 1 := Scalar.cmpi .ne v53 v58
  let v60 : BitVec 32 := Scalar.remsi arg1 c1_i32_26
  let c0_i32_31 : BitVec 32 := 0#32
  let v61 : BitVec 1 := Scalar.cmpi .ne v60 c0_i32_31
  let v62 : BitVec 1 := Scalar.andi v59 v61
  let v48 : BitVec 32 := Scalar.divsi arg1 c1_i32_26
  let c1_i32_32 : BitVec 32 := 1#32
  let v63 : BitVec 32 := Scalar.subi v48 c1_i32_32
  let v64 : BitVec 32 := Scalar.select v62 v63 v48
  let c512_i32 : BitVec 32 := 512#32
  let v65 : BitVec 32 := Scalar.muli v64 c512_i32
  v65
def k0_off7 (i : grid0.Coords) : Fin 2 → Nat :=
  let arg1 : BitVec 32 := BitVec.ofNat 32 (i 1).val
  let c0_i32_27 : BitVec 32 := 0#32
  let v49 : BitVec 1 := Scalar.cmpi .sgt arg1 c0_i32_27
  let v50 : BitVec 32 := Scalar.extui v49
  let c0_i32_28 : BitVec 32 := 0#32
  let v51 : BitVec 1 := Scalar.cmpi .slt arg1 c0_i32_28
  let v52 : BitVec 32 := Scalar.extui v51
  let v53 : BitVec 32 := Scalar.subi v50 v52
  let c1_i32_26 : BitVec 32 := 1#32
  let c0_i32_29 : BitVec 32 := 0#32
  let v54 : BitVec 1 := Scalar.cmpi .sgt c1_i32_26 c0_i32_29
  let v55 : BitVec 32 := Scalar.extui v54
  let c0_i32_30 : BitVec 32 := 0#32
  let v56 : BitVec 1 := Scalar.cmpi .slt c1_i32_26 c0_i32_30
  let v57 : BitVec 32 := Scalar.extui v56
  let v58 : BitVec 32 := Scalar.subi v55 v57
  let v59 : BitVec 1 := Scalar.cmpi .ne v53 v58
  let v60 : BitVec 32 := Scalar.remsi arg1 c1_i32_26
  let c0_i32_31 : BitVec 32 := 0#32
  let v61 : BitVec 1 := Scalar.cmpi .ne v60 c0_i32_31
  let v62 : BitVec 1 := Scalar.andi v59 v61
  let v48 : BitVec 32 := Scalar.divsi arg1 c1_i32_26
  let c1_i32_32 : BitVec 32 := 1#32
  let v63 : BitVec 32 := Scalar.subi v48 c1_i32_32
  let v64 : BitVec 32 := Scalar.select v62 v63 v48
  let c512_i32 : BitVec 32 := 512#32
  let v65 : BitVec 32 := Scalar.muli v64 c512_i32
  let v66 : BitVec 32 := v65
  let v67 : Index := Scalar.indexCast v66
  let c0_33 : Index := 0#32
  ![v67.toNat, 0]
def k0_off8 (i : grid0.Coords) : Fin 3 → Nat :=
  let arg1 : BitVec 32 := BitVec.ofNat 32 (i 1).val
  let c0_i32_27 : BitVec 32 := 0#32
  let v49 : BitVec 1 := Scalar.cmpi .sgt arg1 c0_i32_27
  let v50 : BitVec 32 := Scalar.extui v49
  let c0_i32_28 : BitVec 32 := 0#32
  let v51 : BitVec 1 := Scalar.cmpi .slt arg1 c0_i32_28
  let v52 : BitVec 32 := Scalar.extui v51
  let v53 : BitVec 32 := Scalar.subi v50 v52
  let c1_i32_26 : BitVec 32 := 1#32
  let c0_i32_29 : BitVec 32 := 0#32
  let v54 : BitVec 1 := Scalar.cmpi .sgt c1_i32_26 c0_i32_29
  let v55 : BitVec 32 := Scalar.extui v54
  let c0_i32_30 : BitVec 32 := 0#32
  let v56 : BitVec 1 := Scalar.cmpi .slt c1_i32_26 c0_i32_30
  let v57 : BitVec 32 := Scalar.extui v56
  let v58 : BitVec 32 := Scalar.subi v55 v57
  let v59 : BitVec 1 := Scalar.cmpi .ne v53 v58
  let v60 : BitVec 32 := Scalar.remsi arg1 c1_i32_26
  let c0_i32_31 : BitVec 32 := 0#32
  let v61 : BitVec 1 := Scalar.cmpi .ne v60 c0_i32_31
  let v62 : BitVec 1 := Scalar.andi v59 v61
  let v48 : BitVec 32 := Scalar.divsi arg1 c1_i32_26
  let c1_i32_32 : BitVec 32 := 1#32
  let v63 : BitVec 32 := Scalar.subi v48 c1_i32_32
  let v64 : BitVec 32 := Scalar.select v62 v63 v48
  let v90 : Index := Scalar.indexCast v64
  let c0_40 : Index := 0#32
  let c0_41 : Index := 0#32
  ![v90.toNat, 0, 0]
def k0_off9 (i : grid0.Coords) : Fin 2 → Nat :=
  let arg1 : BitVec 32 := BitVec.ofNat 32 (i 1).val
  let c0_i32_27 : BitVec 32 := 0#32
  let v49 : BitVec 1 := Scalar.cmpi .sgt arg1 c0_i32_27
  let v50 : BitVec 32 := Scalar.extui v49
  let c0_i32_28 : BitVec 32 := 0#32
  let v51 : BitVec 1 := Scalar.cmpi .slt arg1 c0_i32_28
  let v52 : BitVec 32 := Scalar.extui v51
  let v53 : BitVec 32 := Scalar.subi v50 v52
  let c1_i32_26 : BitVec 32 := 1#32
  let c0_i32_29 : BitVec 32 := 0#32
  let v54 : BitVec 1 := Scalar.cmpi .sgt c1_i32_26 c0_i32_29
  let v55 : BitVec 32 := Scalar.extui v54
  let c0_i32_30 : BitVec 32 := 0#32
  let v56 : BitVec 1 := Scalar.cmpi .slt c1_i32_26 c0_i32_30
  let v57 : BitVec 32 := Scalar.extui v56
  let v58 : BitVec 32 := Scalar.subi v55 v57
  let v59 : BitVec 1 := Scalar.cmpi .ne v53 v58
  let v60 : BitVec 32 := Scalar.remsi arg1 c1_i32_26
  let c0_i32_31 : BitVec 32 := 0#32
  let v61 : BitVec 1 := Scalar.cmpi .ne v60 c0_i32_31
  let v62 : BitVec 1 := Scalar.andi v59 v61
  let v48 : BitVec 32 := Scalar.divsi arg1 c1_i32_26
  let c1_i32_32 : BitVec 32 := 1#32
  let v63 : BitVec 32 := Scalar.subi v48 c1_i32_32
  let v64 : BitVec 32 := Scalar.select v62 v63 v48
  let c512_i32 : BitVec 32 := 512#32
  let v65 : BitVec 32 := Scalar.muli v64 c512_i32
  let v66 : BitVec 32 := v65
  let v100 : Index := Scalar.indexCast v66
  let c0_45 : Index := 0#32
  ![v100.toNat, 0]
def k0_cond3 (i : grid0.Coords) : BitVec 1 :=
  let arg1 : BitVec 32 := BitVec.ofNat 32 (i 1).val
  let c7_i32 : BitVec 32 := 7#32
  let v137 : BitVec 1 := Scalar.cmpi .eq arg1 c7_i32
  let v138 : BitVec 32 := Scalar.extui v137
  let c0_i32_66 : BitVec 32 := 0#32
  let v139 : BitVec 1 := Scalar.cmpi .ne v138 c0_i32_66
  v139

def k0_cond4 (i : grid0.Coords) : BitVec 1 :=
  let arg0 : BitVec 32 := BitVec.ofNat 32 (i 0).val
  let c15_i32 : BitVec 32 := 15#32
  let v140 : BitVec 1 := Scalar.cmpi .eq arg0 c15_i32
  let arg1 : BitVec 32 := BitVec.ofNat 32 (i 1).val
  let c7_i32_67 : BitVec 32 := 7#32
  let v141 : BitVec 1 := Scalar.cmpi .eq arg1 c7_i32_67
  let v142 : BitVec 1 := Scalar.andi v140 v141
  let v143 : BitVec 32 := Scalar.extui v142
  let c0_i32_68 : BitVec 32 := 0#32
  let v144 : BitVec 1 := Scalar.cmpi .ne v143 c0_i32_68
  v144

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4096x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4096x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S4096x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== MlaRefIdeal.lean ====
abbrev S16x4096x128 : Shape := ⟨3, ![16, 4096, 128]⟩
abbrev S16x4096x64 : Shape := ⟨3, ![16, 4096, 64]⟩
abbrev S4096x64 : Shape := ⟨2, ![4096, 64]⟩
abbrev S16x4096x4096 : Shape := ⟨3, ![16, 4096, 4096]⟩
abbrev S_ : Shape := ⟨0, ![]⟩
abbrev S64 : Shape := ⟨1, ![64]⟩
abbrev S64x1 : Shape := ⟨2, ![64, 1]⟩
abbrev S64x64 : Shape := ⟨2, ![64, 64]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096 : Shape := ⟨2, ![16, 4096]⟩
abbrev S16x4096x1 : Shape := ⟨3, ![16, 4096, 1]⟩
abbrev S16x128x4096 : Shape := ⟨3, ![16, 128, 4096]⟩

abbrev nBuf : Space → Nat
  | .hbm => 102
  | .vmem => 0
  | .smem => 0
  | _ => 0

abbrev bufTy : (tb : Table) → Fin (tcTables nBuf tb) → BufTy
  | .hbm, ⟨0, _⟩ => ⟨S16x4096x128, .bf16⟩
  | .hbm, ⟨1, _⟩ => ⟨S16x4096x64, .bf16⟩
  | .hbm, ⟨2, _⟩ => ⟨S16x4096x128, .bf16⟩
  | .hbm, ⟨3, _⟩ => ⟨S4096x64, .bf16⟩
  | .hbm, ⟨4, _⟩ => ⟨S16x4096x128, .bf16⟩
  | .hbm, ⟨5, _⟩ => ⟨S16x4096x128, .bf16⟩
  | .hbm, ⟨6, _⟩ => ⟨S16x4096x128, .f32⟩
  | .hbm, ⟨7, _⟩ => ⟨S16x4096x64, .f32⟩
  | .hbm, ⟨8, _⟩ => ⟨S16x4096x128, .f32⟩
  | .hbm, ⟨9, _⟩ => ⟨S4096x64, .f32⟩
  | .hbm, ⟨10, _⟩ => ⟨S16x4096x128, .f32⟩
  | .hbm, ⟨11, _⟩ => ⟨S16x4096x4096, .f32⟩
  | .hbm, ⟨12, _⟩ => ⟨S16x4096x4096, .f32⟩
  | .hbm, ⟨13, _⟩ => ⟨S16x4096x4096, .f32⟩
  | .hbm, ⟨14, _⟩ => ⟨S_, .f32⟩
  | .hbm, ⟨15, _⟩ => ⟨S16x4096x4096, .f32⟩
  | .hbm, ⟨16, _⟩ => ⟨S16x4096x4096, .f32⟩
  | .hbm, ⟨17, _⟩ => ⟨S64, .i32⟩
  | .hbm, ⟨18, _⟩ => ⟨S64x1, .i32⟩
  | .hbm, ⟨19, _⟩ => ⟨S64x64, .i32⟩
  | .hbm, ⟨20, _⟩ => ⟨S4096, .i32⟩
  | .hbm, ⟨21, _⟩ => ⟨S1x4096, .i32⟩
  | .hbm, ⟨22, _⟩ => ⟨S4096x1, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S_, .f32⟩
  | .hbm, ⟨27, _⟩ => ⟨S_, .f32⟩
  | .hbm, ⟨28, _⟩ => ⟨S16x4096x4096, .i1⟩
  | .hbm, ⟨29, _⟩ => ⟨S16x4096x4096, .f32⟩
  | .hbm, ⟨30, _⟩ => ⟨S16x4096x4096, .f32⟩
  | .hbm, ⟨31, _⟩ => ⟨S_, .f32⟩
  | .hbm, ⟨32, _⟩ => ⟨S16x4096x4096, .f32⟩
  | .hbm, ⟨33, _⟩ => ⟨S_, .f32⟩
  | .hbm, ⟨34, _⟩ => ⟨S16x4096, .f32⟩
  | .hbm, ⟨35, _⟩ => ⟨S16x4096x1, .f32⟩
  | .hbm, ⟨36, _⟩ => ⟨S16x4096x4096, .f32⟩
  | .hbm, ⟨37, _⟩ => ⟨S16x4096x4096, .i1⟩
  | .hbm, ⟨38, _⟩ => ⟨S16x4096x4096, .f32⟩
  | .hbm, ⟨39, _⟩ => ⟨S_, .f32⟩
  | .hbm, ⟨40, _⟩ => ⟨S16x4096, .f32⟩
  | .hbm, ⟨41, _⟩ => ⟨S_, .f32⟩
  | .hbm, ⟨42, _⟩ => ⟨S16x4096, .f32⟩
  | .hbm, ⟨43, _⟩ => ⟨S16x4096, .f32⟩
  | .hbm, ⟨44, _⟩ => ⟨S_, .f32⟩
  | .hbm, ⟨45, _⟩ => ⟨S16x4096, .f32⟩
  | .hbm, ⟨46, _⟩ => ⟨S16x4096, .i1⟩
  | .hbm, ⟨47, _⟩ => ⟨S_, .f32⟩
  | .hbm, ⟨48, _⟩ => ⟨S16x4096, .f32⟩
  | .hbm, ⟨49, _⟩ => ⟨S16x4096, .i1⟩
  | .hbm, ⟨50, _⟩ => ⟨S_, .f32⟩
  | .hbm, ⟨51, _⟩ => ⟨S16x4096, .f32⟩
  | .hbm, ⟨52, _⟩ => ⟨S_, .f32⟩
  | .hbm, ⟨53, _⟩ => ⟨S16x4096, .f32⟩
  | .hbm, ⟨54, _⟩ => ⟨S_, .f32⟩
  | .hbm, ⟨55, _⟩ => ⟨S16x4096, .f32⟩
  | .hbm, ⟨56, _⟩ => ⟨S16x4096, .f32⟩
  | .hbm, ⟨57, _⟩ => ⟨S16x4096, .f32⟩
  | .hbm, ⟨58, _⟩ => ⟨S16x4096x1, .f32⟩
  | .hbm, ⟨59, _⟩ => ⟨S16x4096x4096, .f32⟩
  | .hbm, ⟨60, _⟩ => ⟨S16x4096x4096, .f32⟩
  | .hbm, ⟨61, _⟩ => ⟨S16x4096x4096, .f32⟩
  | .hbm, ⟨62, _⟩ => ⟨S_, .f32⟩
  | .hbm, ⟨63, _⟩ => ⟨S16x4096, .f32⟩
  | .hbm, ⟨64, _⟩ => ⟨S16x4096x1, .f32⟩
  | .hbm, ⟨65, _⟩ => ⟨S16x4096x4096, .f32⟩
  | .hbm, ⟨66, _⟩ => ⟨S16x4096x4096, .f32⟩
  | .hbm, ⟨67, _⟩ => ⟨S16x4096x1, .f32⟩
  | .hbm, ⟨68, _⟩ => ⟨S_, .f32⟩
  | .hbm, ⟨69, _⟩ => ⟨S16x4096x1, .f32⟩
  | .hbm, ⟨70, _⟩ => ⟨S16x4096x1, .f32⟩
  | .hbm, ⟨71, _⟩ => ⟨S16x4096x128, .f32⟩
  | .hbm, ⟨72, _⟩ => ⟨S16x4096x128, .f32⟩
  | .hbm, ⟨73, _⟩ => ⟨S16x128x4096, .f32⟩
  | .hbm, ⟨74, _⟩ => ⟨S16x4096x128, .f32⟩
  | .hbm, ⟨75, _⟩ => ⟨S16x4096x4096, .f32⟩
  | .hbm, ⟨76, _⟩ => ⟨S16x4096x4096, .f32⟩
  | .hbm, ⟨77, _⟩ => ⟨S16x4096x4096, .f32⟩
  | .hbm, ⟨78, _⟩ => ⟨S16x4096x4096, .f32⟩
  | .hbm, ⟨79, _⟩ => ⟨S_, .f32⟩
  | .hbm, ⟨80, _⟩ => ⟨S16x4096, .f32⟩
  | .hbm, ⟨81, _⟩ => ⟨S16x4096x1, .f32⟩
  | .hbm, ⟨82, _⟩ => ⟨S16x4096x1, .f32⟩
  | .hbm, ⟨83, _⟩ => ⟨S16x4096x4096, .f32⟩
  | .hbm, ⟨84, _⟩ => ⟨S16x4096x4096, .f32⟩
  | .hbm, ⟨85, _⟩ => ⟨S_, .f32⟩
  | .hbm, ⟨86, _⟩ => ⟨S16x4096, .f32⟩
  | .hbm, ⟨87, _⟩ => ⟨S16x4096x4096, .f32⟩
  | .hbm, ⟨88, _⟩ => ⟨S16x4096x4096, .f32⟩
  | .hbm, ⟨89, _⟩ => ⟨S16x4096x4096, .f32⟩
  | .hbm, ⟨90, _⟩ => ⟨S_, .f32⟩
  | .hbm, ⟨91, _⟩ => ⟨S16x4096x4096, .f32⟩
  | .hbm, ⟨92, _⟩ => ⟨S16x4096x4096, .f32⟩
  | .hbm, ⟨93, _⟩ => ⟨S_, .f32⟩
  | .hbm, ⟨94, _⟩ => ⟨S16x4096x4096, .f32⟩
  | .hbm, ⟨95, _⟩ => ⟨S16x4096x4096, .f32⟩
  | .hbm, ⟨96, _⟩ => ⟨S4096x64, .f32⟩
  | .hbm, ⟨97, _⟩ => ⟨S16x4096x64, .f32⟩
  | .hbm, ⟨98, _⟩ => ⟨S16x4096x128, .f32⟩
  | .hbm, ⟨99, _⟩ => ⟨S16x4096x128, .f32⟩
  | .hbm, ⟨100, _⟩ => ⟨S16x4096x128, .bf16⟩
  | .hbm, ⟨101, _⟩ => ⟨S16x4096x128, .bf16⟩
  | _, _ => ⟨S16x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_call0_v0 : Ref sig .tc := ⟨.hbm, 27, rfl⟩
abbrev main_v19_1 : Ref sig .tc := ⟨.hbm, 28, rfl⟩
abbrev main_call0_v2 : Ref sig .tc := ⟨.hbm, 29, rfl⟩
abbrev main_v19_0 : Ref sig .tc := ⟨.hbm, 30, rfl⟩
abbrev main_call0_cst : Ref sig .tc := ⟨.hbm, 31, rfl⟩
abbrev main_v19_2 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_call1_cst : Ref sig .tc := ⟨.hbm, 90, rfl⟩
abbrev main_call1_v0 : Ref sig .tc := ⟨.hbm, 91, rfl⟩
abbrev main_v65 : Ref sig .tc := ⟨.hbm, 92, rfl⟩
abbrev main_cst_13 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩

abbrev nD : Nat := 1
abbrev τ : Topo := Topo.v7x

variable {F : FTy → Type} [FloatOps F]
-- ==== Proof.Pay.lean ====
module

public import proofs.«01_k».proof.Proof.Gen.KernelIdeal.Skeleton
public import Idealize.ShloMosaic.Lib.Pointwise
public import Idealize.ShloMosaic.Lib.WordCmp

@[expose] public section

set_option maxRecDepth 16384

noncomputable section

namespace Cert.KernelIdeal.Bwd

open Idealize.ShloMosaic Cert.KernelIdeal Cert.KernelIdeal.Gen

/-- The factor the scores are multiplied by, as the kernel writes it. -/
abbrev sc : EReal := Ideal.ofBits .f32 0x3DB504F3#32

theorem pay4_at (q : Vec Ideal S512x128 .bf16) (l : FVec Ideal S512x1 .f32) (k : Vec Ideal S512x128 .bf16) (cq : Vec Ideal S1x512x1 .f32) (ck : Vec Ideal S1x1x1x512 .f32) (r s : Fin 512) :
    k0_pay4 q l k cq ck (ix2 r s) = Ideal.exp ((∑ x, q (ix2 r x) * k (ix2 s x)) * sc + cq (ix3 0 r 0) - ck (ix4 0 0 0 s) - l (ix2 r 0)) := by
  pointwise [k0_pay4]

theorem pay5_at (q : Vec Ideal S512x128 .bf16) (gt : FVec Ideal S128x512 .bf16) (l : FVec Ideal S512x1 .f32) (k : Vec Ideal S512x128 .bf16) (cq : Vec Ideal S1x512x1 .f32) (ck : Vec Ideal S1x1x1x512 .f32) (a : Vec Ideal S1x128x512 .f32) (x : Fin 128) (s : Fin 512) :
    k0_pay5 q gt l k cq ck a (ix3 0 x s) = a (ix3 0 x s) + ∑ r : Fin 512, gt (ix2 x r) * k0_pay4 q l k cq ck (ix2 r s) := by
  pointwise [k0_pay5]

theorem pay6_at (q : Vec Ideal S512x128 .bf16) (g : Vec Ideal S512x128 .bf16) (l : FVec Ideal S512x1 .f32) (dl : FVec Ideal S512x1 .f32) (k : Vec Ideal S512x128 .bf16) (cq : Vec Ideal S1x512x1 .f32) (ck : Vec Ideal S1x1x1x512 .f32) (v : Vec Ideal S512x128 .bf16) (r s : Fin 512) :
    k0_pay6 q g l dl k cq ck v (ix2 r s) = k0_pay4 q l k cq ck (ix2 r s) * ((∑ x, g (ix2 r x) * v (ix2 s x)) - dl (ix2 r 0)) := by
  pointwise [k0_pay6]

theorem pay7_at (a : Vec Ideal S1x1x512 .f32) (s : Fin 512) :
    k0_pay7 a (ix2 0 s) = a (ix3 0 0 s) := by
  pointwise [k0_pay7]

theorem pay38_at (w : FVec Ideal S512x512 .f32) (a : FVec Ideal S1x512 .f32) (s : Fin 512) :
    k0_pay38 w a (ix3 0 0 s) = a (ix2 0 s) + ∑ r : Fin 512, w (ix2 r s) := by
  pointwise [k0_pay38]

theorem pay39_at (w : FVec Ideal S512x512 .f32) (a : Vec Ideal S512x1 .f32) (r : Fin 512) :
    k0_pay39 w a (ix2 r 0) = a (ix2 r 0) + ∑ s : Fin 512, w (ix2 r s) := by
  pointwise [k0_pay39]

theorem pay53_at (w : FVec Ideal S512x512 .f32) (a : Vec Ideal S512x1 .f32) (r : Fin 512) :
    k0_pay53 w a (ix2 r 0) = a (ix2 r 0) + ∑ s : Fin 512, w (ix2 r s) := by
  pointwise [k0_pay53]

theorem pay52_at (w : FVec Ideal S512x512 .f32) (a : Vec Ideal S1x1x512 .f32) (s : Fin 512) :
    k0_pay52 w a (ix3 0 0 s) = a (ix3 0 0 s) + ∑ r : Fin 512, w (ix2 r s) := by
  pointwise [k0_pay52]

theorem pay41_at (qt : FVec Ideal S128x512 .bf16) (w : FVec Ideal S512x512 .f32) (a : Vec Ideal S1x128x512 .f32) (x : Fin 128) (s : Fin 512) :
    k0_pay41 qt w a (ix3 0 x s) = a (ix3 0 x s) + ∑ r : Fin 512, qt (ix2 x r) * (w (ix2 r s) * sc) := by
  pointwise [k0_pay41, k0_pay40]

theorem pay55_at (qt : FVec Ideal S128x512 .bf16) (w : FVec Ideal S512x512 .f32) (a : Vec Ideal S1x128x512 .f32) (x : Fin 128) (s : Fin 512) :
    k0_pay55 qt w a (ix3 0 x s) = a (ix3 0 x s) + ∑ r : Fin 512, qt (ix2 x r) * (w (ix2 r s) * sc) := by
  pointwise [k0_pay55, k0_pay54]

theorem pay42_at (k : Vec Ideal S512x128 .bf16) (w : FVec Ideal S512x512 .f32) (a : Vec Ideal S512x128 .f32) (r : Fin 512) (x : Fin 128) :
    k0_pay42 k w a (ix2 r x) = a (ix2 r x) + ∑ s : Fin 512, (w (ix2 r s) * sc) * k (ix2 s x) := by
  pointwise [k0_pay42, k0_pay40]

theorem pay56_at (k : Vec Ideal S512x128 .bf16) (w : FVec Ideal S512x512 .f32) (a : Vec Ideal S512x128 .f32) (r : Fin 512) (x : Fin 128) :
    k0_pay56 k w a (ix2 r x) = a (ix2 r x) + ∑ s : Fin 512, (w (ix2 r s) * sc) * k (ix2 s x) := by
  pointwise [k0_pay56, k0_pay54]

theorem pay32_at (q : Vec Ideal S512x128 .bf16) (x : Fin 128) (r : Fin 512) :
    k0_pay32 q (ix2 x r) = q (ix2 r x) := by
  pointwise [k0_pay32]

theorem pay33_at (q : Vec Ideal S512x128 .bf16) (x : Fin 128) (r : Fin 512) :
    k0_pay33 q (ix2 x r) = q (ix2 r x) := by
  pointwise [k0_pay33]

theorem pay34_at (l : Vec Ideal S1x512x1 .f32) (r : Fin 512) :
    k0_pay34 l (ix2 r 0) = l (ix3 0 r 0) := by
  pointwise [k0_pay34]

theorem pay35_at (l : Vec Ideal S1x512x1 .f32) (r : Fin 512) :
    k0_pay35 l (ix2 r 0) = l (ix3 0 r 0) := by
  pointwise [k0_pay35]

theorem pay48_at (q : Vec Ideal S512x128 .bf16) (k : Vec Ideal S512x128 .bf16) (r s : Fin 512) :
    k0_pay48 q k (ix2 r s) = (∑ x, q (ix2 r x) * k (ix2 s x)) * sc := by
  pointwise [k0_pay48]

theorem mask_at (j : ℕ) (hj : j < 8) (w : BitVec 32) (hw : w = BitVec.ofNat 32 j) (r s : Fin 512) (a b : EReal) :
    Scalar.select
      (IntOp.cmpi CmpIPredicate.sle
        (IntOp.shrsi ArithUnit.vector (IntOp.addi (BitVec.ofNat 32 ↑s) (Scalar.muli w 512#32)) 0#32)
        (IntOp.shrsi ArithUnit.vector (IntOp.addi (BitVec.ofNat 32 ↑r) (Scalar.muli w 512#32)) 0#32)) a b
      = if s.val ≤ r.val then a else b := by
  subst hw
  have h0 : ∀ x : BitVec 32, IntOp.shrsi ArithUnit.vector x 0#32 = x := fun x => by
    simp [IntOp.shrsi]
  have hs := s.isLt
  have hr := r.isLt
  rw [h0, h0]
  have hm : Scalar.muli (BitVec.ofNat 32 j) 512#32 = BitVec.ofNat 32 (j * 512) := WordCmp.muli_ofNat j 512
  rw [hm, WordCmp.addi_ofNat, WordCmp.addi_ofNat]
  by_cases h : s.val ≤ r.val
  · rw [if_pos h, WordCmp.select_of_eq_one ((WordCmp.cmpi_sle_ofNat_eq_one_iff (by omega) (by omega)).2 (by omega))]
  · rw [if_neg h, WordCmp.select_of_eq_zero ((WordCmp.cmpi_sle_ofNat_eq_zero_iff (by omega) (by omega)).2 (by omega))]

theorem pay49_at (j : ℕ) (hj : j < 8) (w1 w2 : BitVec 32) (h1 : w1 = BitVec.ofNat 32 j) (h2 : w2 = BitVec.ofNat 32 j) (l : FVec Ideal S512x1 .f32) (q : Vec Ideal S512x128 .bf16) (k : Vec Ideal S512x128 .bf16) (cq : Vec Ideal S1x512x1 .f32) (ck : Vec Ideal S1x1x1x512 .f32) (r s : Fin 512) :
    k0_pay49 w1 l w2 (k0_pay48 q k) cq ck (ix2 r s) = if s.val ≤ r.val then k0_pay4 q l k cq ck (ix2 r s) else 0 := by
  pointwise [k0_pay49]
  subst h1 h2
  rw [mask_at j hj _ rfl, pay48_at, pay4_at]
theorem pay50_at (w1 w2 : BitVec 32) (gt : FVec Ideal S128x512 .bf16) (l : FVec Ideal S512x1 .f32) (w : FVec Ideal S512x512 .f32) (cq : Vec Ideal S1x512x1 .f32) (ck : Vec Ideal S1x1x1x512 .f32) (a : Vec Ideal S1x128x512 .f32) (x : Fin 128) (s : Fin 512) :
    k0_pay50 w1 gt l w2 w cq ck a (ix3 0 x s) = a (ix3 0 x s) + ∑ r : Fin 512, gt (ix2 x r) * k0_pay49 w1 l w2 w cq ck (ix2 r s) := by
  pointwise [k0_pay50]

theorem pay51_at (w1 w2 : BitVec 32) (g : Vec Ideal S512x128 .bf16) (l : FVec Ideal S512x1 .f32) (dl : FVec Ideal S512x1 .f32) (w : FVec Ideal S512x512 .f32) (cq : Vec Ideal S1x512x1 .f32) (ck : Vec Ideal S1x1x1x512 .f32) (v : Vec Ideal S512x128 .bf16) (r s : Fin 512) :
    k0_pay51 w1 g l dl w2 w cq ck v (ix2 r s) = k0_pay49 w1 l w2 w cq ck (ix2 r s) * ((∑ x, g (ix2 r x) * v (ix2 s x)) - dl (ix2 r 0)) := by
  pointwise [k0_pay51]

section
variable (a : Vec Ideal S1x128x512 .f32) (s : Fin 512) (x : Fin 128)
include a s x

theorem pay12_at :
    k0_pay12 a (ix2 s x) = a (ix3 0 x s) := by
  pointwise [k0_pay12]

theorem pay13_at :
    k0_pay13 a (ix2 s x) = a (ix3 0 x s) := by
  pointwise [k0_pay13]

theorem pay14_at :
    k0_pay14 a (ix2 s x) = a (ix3 0 x s) := by
  pointwise [k0_pay14]

theorem pay15_at :
    k0_pay15 a (ix2 s x) = a (ix3 0 x s) := by
  pointwise [k0_pay15]

theorem pay16_at :
    k0_pay16 a (ix2 s x) = a (ix3 0 x s) := by
  pointwise [k0_pay16]

theorem pay19_at :
    k0_pay19 a (ix2 s x) = a (ix3 0 x s) := by
  pointwise [k0_pay19]

theorem pay20_at :
    k0_pay20 a (ix2 s x) = a (ix3 0 x s) := by
  pointwise [k0_pay20]

theorem pay21_at :
    k0_pay21 a (ix2 s x) = a (ix3 0 x s) := by
  pointwise [k0_pay21]

theorem pay22_at :
    k0_pay22 a (ix2 s x) = a (ix3 0 x s) := by
  pointwise [k0_pay22]

theorem pay24_at :
    k0_pay24 a (ix2 s x) = a (ix3 0 x s) := by
  pointwise [k0_pay24]

theorem pay25_at :
    k0_pay25 a (ix2 s x) = a (ix3 0 x s) := by
  pointwise [k0_pay25]

theorem pay26_at :
    k0_pay26 a (ix2 s x) = a (ix3 0 x s) := by
  pointwise [k0_pay26]

theorem pay27_at :
    k0_pay27 a (ix2 s x) = a (ix3 0 x s) := by
  pointwise [k0_pay27]

theorem pay28_at :
    k0_pay28 a (ix2 s x) = a (ix3 0 x s) := by
  pointwise [k0_pay28]

theorem pay23_at :
    k0_pay23 a (ix2 s x) = a (ix3 0 x s) := by
  pointwise [k0_pay23]

theorem pay18_at :
    k0_pay18 (k0_pay17 a) (ix2 s x) = a (ix3 0 x s) := by
  pointwise [k0_pay18, k0_pay17]

end

theorem pay1_at (a : Vec Ideal S512x128 .f32) (r : Fin 512) (x : Fin 128) :
    k0_pay1 a (ix2 r x) = a (ix2 r x) := by
  pointwise [k0_pay1]

theorem pay2_at (a : Vec Ideal S512x1 .f32) (r : Fin 512) :
    k0_pay2 a (ix3 0 r 0) = a (ix2 r 0) := by
  pointwise [k0_pay2]

theorem pay3_at (a : Vec Ideal S8x1x512 .f32) (j : Fin 8) (s : Fin 512) :
    k0_pay3 a (ix4 0 j 0 s) = a (ix3 j 0 s) := by
  pointwise [k0_pay3]

theorem pay29_at (j : Fin 8) (x : Fin 128) (s : Fin 512) :
    k0_pay29 (F := Ideal) (ix3 j x s) = 0 := by
  pointwise [k0_pay29]

theorem pay30_at (j : Fin 8) (x : Fin 128) (s : Fin 512) :
    k0_pay30 (F := Ideal) (ix3 j x s) = 0 := by
  pointwise [k0_pay30]

theorem pay31_at (j : Fin 8) (s : Fin 512) :
    k0_pay31 (F := Ideal) (ix3 j 0 s) = 0 := by
  pointwise [k0_pay31]

theorem pay36_at (r : Fin 512) (x : Fin 128) :
    k0_pay36 (F := Ideal) (ix2 r x) = 0 := by
  pointwise [k0_pay36]

theorem pay37_at (r : Fin 512) :
    k0_pay37 (F := Ideal) (ix2 r 0) = 0 := by
  pointwise [k0_pay37]

end Cert.KernelIdeal.Bwd

end
-- ==== Proof.Spec.lean ====
module

public import proofs.«01_k».proof.Proof.Pay

@[expose] public section

set_option maxRecDepth 16384

noncomputable section

namespace Cert.KernelIdeal.Bwd

open Idealize.ShloMosaic

/-- Row `s` of key block `j` among all the keys. -/
def key (j : Fin 8) (s : Fin 512) : Fin 4096 := ⟨512 * j.val + s.val, by omega⟩

/-- What a grid point reads: its block of 512 query rows (`q`, the result's gradient `g`, the row's log-sum `l`, the
row's `dl`, the row's gate `cq`), all keys and values, the keys' gates. -/
structure Pt where
  q : Fin 512 → Fin 128 → EReal
  g : Fin 512 → Fin 128 → EReal
  l : Fin 512 → EReal
  dl : Fin 512 → EReal
  cq : Fin 512 → EReal
  k : Fin 4096 → Fin 128 → EReal
  v : Fin 4096 → Fin 128 → EReal
  ck : Fin 8 → Fin 512 → EReal

namespace Pt

variable (p : Pt)

/-- The weight of a key for a row, without the mask. -/
def E (j : Fin 8) (r s : Fin 512) : EReal :=
  Ideal.exp ((∑ x, p.q r x * p.k (key j s) x) * sc + p.cq r - p.ck j s - p.l r)

/-- The gradient of the weight, less the row's share. -/
def D (j : Fin 8) (r s : Fin 512) : EReal := (∑ x, p.g r x * p.v (key j s) x) - p.dl r

/-- The masked weight when the rows are block `n` of the queries. -/
def M (n : ℕ) (j : Fin 8) (r s : Fin 512) : EReal :=
  if j.val < n then p.E j r s else if j.val = n then (if s.val ≤ r.val then p.E j r s else 0) else 0

/-- The gradient of the logit. -/
def Z (n : ℕ) (j : Fin 8) (r s : Fin 512) : EReal := p.M n j r s * p.D j r s

def tq (W : Fin 512 → Fin 512 → EReal) (j : Fin 8) (r : Fin 512) (x : Fin 128) : EReal := ∑ s, W r s * sc * p.k (key j s) x
def tk (W : Fin 512 → Fin 512 → EReal) (x : Fin 128) (s : Fin 512) : EReal := ∑ r, p.q r x * (W r s * sc)
def tv (W : Fin 512 → Fin 512 → EReal) (x : Fin 128) (s : Fin 512) : EReal := ∑ r, p.g r x * W r s
def ts (W : Fin 512 → Fin 512 → EReal) (s : Fin 512) : EReal := ∑ r, W r s
def tr (W : Fin 512 → Fin 512 → EReal) (r : Fin 512) : EReal := ∑ s, W r s

end Pt

/-- The sum of the first `n` of eight terms. -/
theorem sum_lt_succ (f : Fin 8 → EReal) (n : ℕ) (j : Fin 8) (hj : j.val = n) :
    (∑ i : Fin 8, if i.val < n + 1 then f i else 0) = (∑ i : Fin 8, if i.val < n then f i else 0) + f j := by
  have h : ∀ i : Fin 8, (if i.val < n + 1 then f i else 0) = (if i.val < n then f i else 0) + (if i = j then f j else 0) := by
    intro i
    by_cases h1 : i = j
    · subst h1; simp [hj]
    · have h2 : i.val ≠ n := fun h => h1 (Fin.ext (h.trans hj.symm))
      rw [if_neg h1, add_zero]
      exact if_congr (by omega) rfl rfl
  rw [Finset.sum_congr rfl fun i _ => h i, Finset.sum_add_distrib]
  simp

namespace Pt

variable (p : Pt)

theorem Z_lt (n : ℕ) (j : Fin 8) (h : j.val < n) : p.Z n j = fun r s => p.E j r s * p.D j r s := by
  funext r s
  simp only [Z, M, if_pos h]

theorem M_lt (n : ℕ) (j : Fin 8) (h : j.val < n) : p.M n j = p.E j := by
  funext r s
  simp only [M, if_pos h]

theorem M_gt (n : ℕ) (j : Fin 8) (h : n < j.val) : p.M n j = fun _ _ => 0 := by
  funext r s
  simp only [M, if_neg (show ¬ j.val < n by omega), if_neg (show ¬ j.val = n by omega)]

theorem Z_gt (n : ℕ) (j : Fin 8) (h : n < j.val) : p.Z n j = fun _ _ => 0 := by
  funext r s
  simp only [Z, M_gt p n j h, zero_mul]

theorem M_eq (n : ℕ) (j : Fin 8) (h : j.val = n) (r s : Fin 512) : p.M n j r s = if s.val ≤ r.val then p.E j r s else 0 := by
  simp only [M, if_neg (show ¬ j.val < n by omega), if_pos h]

theorem tk_zero (x : Fin 128) (s : Fin 512) : p.tk (fun _ _ => 0) x s = 0 := by simp [tk]
theorem tv_zero (x : Fin 128) (s : Fin 512) : p.tv (fun _ _ => 0) x s = 0 := by simp [tv]
theorem tq_zero (j : Fin 8) (r : Fin 512) (x : Fin 128) : p.tq (fun _ _ => 0) j r x = 0 := by simp [tq]
theorem ts_zero (s : Fin 512) : ts (fun _ _ => 0) s = 0 := by simp [ts]
theorem tr_zero (r : Fin 512) : tr (fun _ _ => 0) r = 0 := by simp [tr]

/-- The sum over the earlier blocks and the last block's term is the sum over all. -/
theorem total (n : ℕ) (nb : Fin 8) (hn : nb.val = n) (f g : Fin 8 → EReal) (h1 : ∀ j, j.val < n → f j = g j) (h2 : ∀ j, n < j.val → g j = 0) :
    (∑ j : Fin 8, if j.val < n then f j else 0) + g nb = ∑ j, g j := by
  have h0 : (∑ j : Fin 8, if j.val < n then f j else 0) = ∑ j : Fin 8, if j.val < n then g j else 0 :=
    Finset.sum_congr rfl fun j _ => by
      split_ifs with h
      · exact h1 j h
      · rfl
  rw [h0, ← sum_lt_succ g n nb hn]
  refine Finset.sum_congr rfl fun j _ => ?_
  split_ifs with h
  · rfl
  · exact (h2 j (by omega)).symm

theorem tq_total (n : ℕ) (nb : Fin 8) (hn : nb.val = n) (r : Fin 512) (x : Fin 128) :
    (∑ j : Fin 8, if j.val < n then p.tq (fun r s => p.E j r s * p.D j r s) j r x else 0) + p.tq (p.Z n nb) nb r x = ∑ j, p.tq (p.Z n j) j r x :=
  total n nb hn _ (fun j => p.tq (p.Z n j) j r x) (fun j h => by rw [Z_lt p n j h]) (fun j h => by rw [Z_gt p n j h, tq_zero])

theorem tr_total (n : ℕ) (nb : Fin 8) (hn : nb.val = n) (r : Fin 512) :
    (∑ j : Fin 8, if j.val < n then tr (fun r s => p.E j r s * p.D j r s) r else 0) + tr (p.Z n nb) r = ∑ j, tr (p.Z n j) r :=
  total n nb hn _ (fun j => tr (p.Z n j) r) (fun j h => by rw [Z_lt p n j h]) (fun j h => by rw [Z_gt p n j h, tr_zero])

theorem tk_ne (n : ℕ) (j : Fin 8) (h : j.val ≠ n) (x : Fin 128) (s : Fin 512) :
    (if j.val < n then p.tk (fun r s => p.E j r s * p.D j r s) x s else 0) = p.tk (p.Z n j) x s := by
  split_ifs with h1
  · rw [Z_lt p n j h1]
  · rw [Z_gt p n j (by omega), tk_zero]

theorem tv_ne (n : ℕ) (j : Fin 8) (h : j.val ≠ n) (x : Fin 128) (s : Fin 512) :
    (if j.val < n then p.tv (p.E j) x s else 0) = p.tv (p.M n j) x s := by
  split_ifs with h1
  · rw [M_lt p n j h1]
  · rw [M_gt p n j (by omega), tv_zero]

theorem ts_ne (n : ℕ) (j : Fin 8) (h : j.val ≠ n) (s : Fin 512) :
    (if j.val < n then ts (fun r s => p.E j r s * p.D j r s) s else 0) = ts (p.Z n j) s := by
  split_ifs with h1
  · rw [Z_lt p n j h1]
  · rw [Z_gt p n j (by omega), ts_zero]

end Pt

end Cert.KernelIdeal.Bwd

end
-- ==== Proof.Slab.lean ====
module

public import Idealize.ShloMosaic.Lib.Pipeline.ValueKit
public import Idealize.ShloMosaic.Lib.Writes

@[expose] public section

set_option maxRecDepth 16384

noncomputable section

namespace Cert.Slab

open Idealize.ShloMosaic

variable {Val : EltTy → Type} {sig : RefSig} {κ : Kind} {sp : Space} {e : EltTy}

/-- The shape of `n` slabs of `a` rows by `b` columns. -/
abbrev S3 (n a b : ℕ) : Shape := ⟨3, ![n, a, b]⟩

abbrev S2 (a b : ℕ) : Shape := ⟨2, ![a, b]⟩

abbrev S4 (c n a b : ℕ) : Shape := ⟨4, ![c, n, a, b]⟩

/-- Slab `j`'s rectangle sends `(0, x, y)` to `(j, x, y)`. -/
theorem slab_emb {n a b : ℕ} (j : Fin n) (off : Fin 3 → ℕ) (h : off = ![j.val, 0, 0])
    (inb : ∀ d, off d + (S3 1 a b).size d ≤ (S3 n a b).size d) (x : Fin a) (y : Fin b) :
    (Rect.unit (s := S3 n a b) off (S3 1 a b).size inb).emb (ix3 0 x y) = ix3 j x y := by
  subst h
  funext d
  apply Fin.ext
  rw [Rect.emb_apply]
  match d with
  | ⟨0, _⟩ => show j.val + 1 * 0 = j.val; omega
  | ⟨1, _⟩ => show 0 + 1 * x.val = x.val; omega
  | ⟨2, _⟩ => show 0 + 1 * y.val = y.val; omega

theorem mem_slab_iff {n a b : ℕ} (j : Fin n) (off : Fin 3 → ℕ) (h : off = ![j.val, 0, 0])
    (inb : ∀ d, off d + (S3 1 a b).size d ≤ (S3 n a b).size d) (j' : Fin n) (x : Fin a) (y : Fin b) :
    ix3 j' x y ∈ (Rect.unit (s := S3 n a b) off (S3 1 a b).size inb).set ↔ j' = j := by
  subst h
  rw [Rect.mem_set_unit]
  constructor
  · intro hy
    have h0 := hy 0
    apply Fin.ext
    have h1 : j.val ≤ j'.val ∧ j'.val < j.val + 1 := h0
    omega
  · rintro rfl d
    match d with
    | ⟨0, _⟩ => show j'.val ≤ j'.val ∧ j'.val < j'.val + 1; omega
    | ⟨1, _⟩ => have := x.isLt; show 0 ≤ x.val ∧ x.val < 0 + a; omega
    | ⟨2, _⟩ => have := y.isLt; show 0 ≤ y.val ∧ y.val < 0 + b; omega

/-- What a buffer of slabs reads after a store of slab `j` in front of the stores `L`. -/
theorem read_slab {n a b : ℕ} (v : View sig κ sp (S3 n a b) e) (f : v.ty.Contents Val) (j : Fin n) (off : Fin 3 → ℕ)
    (h : off = ![j.val, 0, 0]) (inb : ∀ d, off d + (S3 1 a b).size d ≤ (S3 n a b).size d)
    (w : (Rect.unit (s := S3 n a b) off (S3 1 a b).size inb).shape.Idx → Val e) (L : List (View.Piece Val (S3 n a b) e))
    (j' : Fin n) (x : Fin a) (y : Fin b) :
    v.read Val (v.writes Val f (⟨Rect.unit (s := S3 n a b) off (S3 1 a b).size inb, w⟩ :: L)) (ix3 j' x y)
      = if j' = j then w (ix3 0 x y) else v.read Val (v.writes Val f L) (ix3 j' x y) := by
  by_cases hj : j' = j
  · subst hj
    rw [if_pos rfl]
    exact View.read_writes_cons_hit v f _ w L _ _ (slab_emb j' off h inb x y)
  · rw [if_neg hj]
    exact View.read_writes_cons_miss v f _ L _ (by rw [mem_slab_iff j off h inb]; exact hj)

/-- A load of slab `j`, read inside. -/
theorem readAt_slab {n a b : ℕ} (v : View sig κ sp (S3 n a b) e) (f : v.ty.Contents Val) (j : Fin n) (off : Fin 3 → ℕ)
    (h : off = ![j.val, 0, 0]) (inb : ∀ d, off d + (S3 1 a b).size d ≤ (S3 n a b).size d) (x : Fin a) (y : Fin b) :
    View.readAt Val v (Rect.unit (s := S3 n a b) off (S3 1 a b).size inb).toLoadRect f (ix3 0 x y) = v.read Val f (ix3 j x y) := by
  rw [View.readAt_eq_ld]
  exact congrArg (v.read Val f) (slab_emb j off h inb x y)

/-- A load of `a` rows from row `o` on, read inside. -/
theorem readAt_rows {n a b : ℕ} (v : View sig κ sp (S2 n b) e) (f : v.ty.Contents Val) (o : ℕ) (off : Fin 2 → ℕ)
    (h : off = ![o, 0]) (inb : ∀ d, off d + (S2 a b).size d ≤ (S2 n b).size d) (x : Fin a) (y : Fin b) (k : Fin n) (hk : k.val = o + x.val) :
    View.readAt Val v (Rect.unit (s := S2 n b) off (S2 a b).size inb).toLoadRect f (ix2 x y) = v.read Val f (ix2 k y) := by
  subst h
  rw [View.readAt_eq_ld]
  refine congrArg (v.read Val f) (funext fun d => Fin.ext ?_)
  show ((Rect.unit (s := S2 n b) ![o, 0] (S2 a b).size inb).emb (ix2 x y) d).val = _
  rw [Rect.emb_apply]
  match d with
  | ⟨0, _⟩ => show o + 1 * x.val = k.val; omega
  | ⟨1, _⟩ => show 0 + 1 * y.val = y.val; omega

/-- A load of slab `j` of a rank-four buffer, read inside. -/
theorem readAt_slab4 {n c a b : ℕ} (v : View sig κ sp (S4 c n a b) e) (f : v.ty.Contents Val) (j : Fin n) (off : Fin 4 → ℕ)
    (h : off = ![0, j.val, 0, 0]) (inb : ∀ d, off d + (S4 c 1 a b).size d ≤ (S4 c n a b).size d) (z : Fin c) (x : Fin a) (y : Fin b) :
    View.readAt Val v (Rect.unit (s := S4 c n a b) off (S4 c 1 a b).size inb).toLoadRect f (ix4 z 0 x y) = v.read Val f (ix4 z j x y) := by
  subst h
  rw [View.readAt_eq_ld]
  refine congrArg (v.read Val f) (funext fun d => Fin.ext ?_)
  show ((Rect.unit (s := S4 c n a b) ![0, j.val, 0, 0] (S4 c 1 a b).size inb).emb (ix4 z 0 x y) d).val = _
  rw [Rect.emb_apply]
  match d with
  | ⟨0, _⟩ => show 0 + 1 * z.val = z.val; omega
  | ⟨1, _⟩ => show j.val + 1 * 0 = j.val; omega
  | ⟨2, _⟩ => show 0 + 1 * x.val = x.val; omega
  | ⟨3, _⟩ => show 0 + 1 * y.val = y.val; omega

/-- What a buffer of `n` rows reads after a store of `a` rows from row `o` on. -/
theorem read_rows {n a b : ℕ} (v : View sig κ sp (S2 n b) e) (f : v.ty.Contents Val) (o : ℕ) (off : Fin 2 → ℕ)
    (h : off = ![o, 0]) (inb : ∀ d, off d + (S2 a b).size d ≤ (S2 n b).size d)
    (w : (Rect.unit (s := S2 n b) off (S2 a b).size inb).shape.Idx → Val e) (L : List (View.Piece Val (S2 n b) e))
    (k : Fin n) (x : Fin a) (y : Fin b) (p : Prop) [Decidable p] (hit : p → k.val = o + x.val) (miss : ¬ p → ¬ (o ≤ k.val ∧ k.val < o + a)) :
    v.read Val (v.writes Val f (⟨Rect.unit (s := S2 n b) off (S2 a b).size inb, w⟩ :: L)) (ix2 k y)
      = if p then w (ix2 x y) else v.read Val (v.writes Val f L) (ix2 k y) := by
  subst h
  by_cases hp : p
  · rw [if_pos hp]
    refine View.read_writes_cons_hit v f _ w L _ _ (funext fun d => Fin.ext ?_)
    have hk := hit hp
    rw [Rect.emb_apply]
    match d with
    | ⟨0, _⟩ => show o + 1 * x.val = k.val; omega
    | ⟨1, _⟩ => show 0 + 1 * y.val = y.val; omega
  · rw [if_neg hp]
    refine View.read_writes_cons_miss v f _ L _ ?_
    rw [Rect.mem_set_unit]
    exact fun hy => miss hp (hy 0)

section
variable {s : Shape} (v : View sig κ sp s e) (f : v.ty.Contents Val)
include s v f

theorem writes_app (Y H : List (View.Piece Val s e)) :
    v.writes Val f (Y ++ H) = v.writes Val (v.writes Val f H) Y := by
  induction Y with
  | nil => rfl
  | cons p L ih => exact congrArg (fun g => (v.slice p.1).write Val g p.2 Finset.univ) ih

theorem nil_app (X Y H : List (View.Piece Val s e)) (hX : X = []) :
    v.writes Val f (X ++ (Y ++ H)) = v.writes Val (v.writes Val f H) Y := by
  subst hX
  exact writes_app v f Y H

theorem nil_app' (X Y : List (View.Piece Val s e)) (hX : X = []) :
    v.writes Val f (X ++ Y) = v.writes Val f Y := by
  subst hX
  rfl

theorem read_nil_app (X Y H : List (View.Piece Val s e)) (hX : X = []) (i : s.Idx) :
    v.read Val (v.writes Val f (X ++ (Y ++ H))) i = v.read Val (v.writes Val (v.writes Val f H) Y) i := by
  rw [nil_app v f X Y H hX]

theorem read_nil_app' (X Y : List (View.Piece Val s e)) (hX : X = []) (i : s.Idx) :
    v.read Val (v.writes Val f (X ++ Y)) i = v.read Val (v.writes Val f Y) i := by
  rw [nil_app' v f X Y hX]

/-- What a buffer reads after a store of all of it. -/
theorem read_whole (off : Fin s.rank → ℕ) (h : off = fun _ => 0)
    (inb : ∀ d, off d + s.size d ≤ s.size d) (w : (Rect.unit (s := s) off s.size inb).shape.Idx → Val e)
    (L : List (View.Piece Val s e)) (i : s.Idx) :
    v.read Val (v.writes Val f (⟨Rect.unit (s := s) off s.size inb, w⟩ :: L)) i = w i := by
  subst h
  refine View.read_writes_cons_hit v f _ w L i i (funext fun d => Fin.ext ?_)
  rw [Rect.emb_apply]
  show 0 + 1 * (i d).val = (i d).val
  omega

/-- A load of all of a buffer. -/
theorem readAt_whole (off : Fin s.rank → ℕ) (h : off = fun _ => 0)
    (inb : ∀ d, off d + s.size d ≤ s.size d) (i : s.Idx) :
    View.readAt Val v (Rect.unit (s := s) off s.size inb).toLoadRect f i = v.read Val f i := by
  subst h
  rw [View.readAt_eq_ld]
  refine congrArg (v.read Val f) (funext fun d => Fin.ext ?_)
  show ((Rect.unit (s := s) (fun _ => 0) s.size inb).emb i d).val = _
  rw [Rect.emb_apply]
  show 0 + 1 * (i d).val = (i d).val
  omega

end

end Cert.Slab

end
-- ==== Proof.Step.lean ====
module

public import proofs.«01_k».proof.Proof.Gen.KernelIdeal.Loops
public import proofs.«01_k».proof.Proof.Spec
public import proofs.«01_k».proof.Proof.Slab

@[expose] public section

set_option maxRecDepth 16384

noncomputable section

namespace Cert.KernelIdeal.Bwd

open Idealize.ShloMosaic Cert.KernelIdeal Cert.KernelIdeal.Gen Cert.Slab

theorem trips_eq : ∀ i : grid0.Coords, (k0_t1_loop i).trips = (i 1).val := by
  decide +kernel

theorem trips2_eq : ∀ i : grid0.Coords, (k0_t2_loop i).trips = 0 := by
  decide +kernel

variable {𝒱 : Variants} {c : Dev nD} {bd : Option 𝒱.V} {i : grid0.Coords} {u2 : Memref sig .tc .vmem S512x128 .bf16} {z2 : u2.IsWhole} {u3 : Memref sig .tc .vmem S4096x128 .bf16} {z3 : u3.IsWhole} {u4 : Memref sig .tc .vmem S4096x128 .bf16} {z4 : u4.IsWhole} {u5 : Memref sig .tc .vmem S512x128 .bf16} {z5 : u5.IsWhole} {u6 : Memref sig .tc .vmem S1x512x1 .f32} {z6 : u6.IsWhole} {u7 : Memref sig .tc .vmem S1x512x1 .f32} {z7 : u7.IsWhole} {u8 : Memref sig .tc .vmem S1x512x1 .f32} {z8 : u8.IsWhole} {u9 : Memref sig .tc .vmem S1x8x1x512 .f32} {z9 : u9.IsWhole} {u10 : Memref sig .tc .vmem S512x128 .bf16} {z10 : u10.IsWhole} {u11 : Memref sig .tc .vmem S4096x128 .bf16} {z11 : u11.IsWhole} {u12 : Memref sig .tc .vmem S4096x128 .bf16} {z12 : u12.IsWhole} {u13 : Memref sig .tc .vmem S1x8x1x512 .f32} {z13 : u13.IsWhole} {u14 : Memref sig .tc .vmem S1x512x1 .f32} {z14 : u14.IsWhole} {u15 : Memref sig .tc .vmem S512x128 .f32} {z15 : u15.IsWhole} {u16 : Memref sig .tc .vmem S8x128x512 .f32} {z16 : u16.IsWhole} {u17 : Memref sig .tc .vmem S8x128x512 .f32} {z17 : u17.IsWhole} {u18 : Memref sig .tc .vmem S8x1x512 .f32} {z18 : u18.IsWhole} {u19 : Memref sig .tc .vmem S512x1 .f32} {z19 : u19.IsWhole} {u1 : BitVec 32} {v3 : Vec Ideal S512x128 .bf16} {v4 : Vec Ideal S512x128 .bf16} {v7 : FVec Ideal S128x512 .bf16} {v10 : FVec Ideal S128x512 .bf16} {v12 : FVec Ideal S512x1 .f32} {v14 : FVec Ideal S512x1 .f32} {c1_i32 : BitVec 32} {v23 : BitVec 32} {v28 : BitVec 32} {v30 : BitVec 32} {v31 : BitVec 1} {X3 : BufTy.Contents (Elt Ideal) u3.view.ty} {X4 : BufTy.Contents (Elt Ideal) u4.view.ty} {X8 : BufTy.Contents (Elt Ideal) u8.view.ty} {X9 : BufTy.Contents (Elt Ideal) u9.view.ty}

section
variable (p : Pt) (hq : ∀ r x, v3 (ix2 r x) = p.q r x) (hg : ∀ r x, v4 (ix2 r x) = p.g r x) (hqt : ∀ x r, v7 (ix2 x r) = p.q r x) (hgt : ∀ x r, v10 (ix2 x r) = p.g r x)
    (hl : ∀ r, v12 (ix2 r 0) = p.l r) (hdl : ∀ r, v14 (ix2 r 0) = p.dl r) (hk : ∀ r x, u3.view.read (Elt Ideal) X3 (ix2 r x) = p.k r x)
    (hv : ∀ r x, u4.view.read (Elt Ideal) X4 (ix2 r x) = p.v r x) (hcq : ∀ r, u8.view.read (Elt Ideal) X8 (ix3 0 r 0) = p.cq r)
    (hck : ∀ j s, u9.view.read (Elt Ideal) X9 (ix4 0 j 0 s) = p.ck j s)
include hq hg hqt hgt hl hdl hk hv hcq hck

section
variable (k : Fin (k0_t1_loop i).trips) (j : Fin 8) (hj : j.val = k.val)
include hj

theorem keyAt (s : Fin 512) (x : Fin 128) :
    View.readAt (Elt Ideal) u3.view (Rect.unit (s := S4096x128) (k0_off1 i k) ![512, 128] (k0_off1_inb i k)).toLoadRect X3 (ix2 s x) = p.k (key j s) x := by
  rw [← hk]
  exact readAt_rows u3.view X3 (512 * k.val) _ (k0_off1_eq i k) _ s x (key j s) (by show 512 * j.val + s.val = _; rw [hj])

theorem valAt (s : Fin 512) (x : Fin 128) :
    View.readAt (Elt Ideal) u4.view (Rect.unit (s := S4096x128) (k0_off1 i k) ![512, 128] (k0_off1_inb i k)).toLoadRect X4 (ix2 s x) = p.v (key j s) x := by
  rw [← hv]
  exact readAt_rows u4.view X4 (512 * k.val) _ (k0_off1_eq i k) _ s x (key j s) (by show 512 * j.val + s.val = _; rw [hj])

theorem gateAt (s : Fin 512) :
    View.readAt (Elt Ideal) u9.view (Rect.unit (s := S1x8x1x512) (k0_off2 i k) ![1, 1, 1, 512] (k0_off2_inb i k)).toLoadRect X9 (ix4 0 0 0 s) = p.ck j s := by
  rw [← hck]
  exact readAt_slab4 u9.view X9 j _ (by rw [hj]; exact k0_off2_eq i k) _ 0 0 s

end

/-- The pieces of the blocks read so far, buffer by buffer. -/
abbrev LT := List (View.Piece (Elt Ideal) S512x128 .f32) × List (View.Piece (Elt Ideal) S8x128x512 .f32) × List (View.Piece (Elt Ideal) S8x128x512 .f32) × List (View.Piece (Elt Ideal) S8x1x512 .f32) × List (View.Piece (Elt Ideal) S512x1 .f32)

/-- What one round that read `B` on top of the lists `L` leaves on each buffer. -/
abbrev Trip (f15 : BufTy.Contents (Elt Ideal) u15.view.ty) (f16 : BufTy.Contents (Elt Ideal) u16.view.ty) (f17 : BufTy.Contents (Elt Ideal) u17.view.ty) (f18 : BufTy.Contents (Elt Ideal) u18.view.ty) (f19 : BufTy.Contents (Elt Ideal) u19.view.ty) (G15 : BufTy.Contents (Elt Ideal) u15.view.ty) (G16 : BufTy.Contents (Elt Ideal) u16.view.ty) (G17 : BufTy.Contents (Elt Ideal) u17.view.ty) (G18 : BufTy.Contents (Elt Ideal) u18.view.ty) (G19 : BufTy.Contents (Elt Ideal) u19.view.ty) (L15 : List (View.Piece (Elt Ideal) S512x128 .f32)) (L16 : List (View.Piece (Elt Ideal) S8x128x512 .f32)) (L17 : List (View.Piece (Elt Ideal) S8x128x512 .f32)) (L18 : List (View.Piece (Elt Ideal) S8x1x512 .f32)) (L19 : List (View.Piece (Elt Ideal) S512x1 .f32)) (j : Fin 8) (B : LT) : Prop :=
    (∀ r x, u15.view.read (Elt Ideal) (u15.view.writes (Elt Ideal) G15 (B.1 ++ L15)) (ix2 r x) = u15.view.read (Elt Ideal) f15 (ix2 r x) + p.tq (fun r s => p.E j r s * p.D j r s) j r x)
    ∧ (∀ j' x s, u16.view.read (Elt Ideal) (u16.view.writes (Elt Ideal) G16 (B.2.1 ++ L16)) (ix3 j' x s) = if j' = j then u16.view.read (Elt Ideal) f16 (ix3 j x s) + p.tk (fun r s => p.E j r s * p.D j r s) x s else u16.view.read (Elt Ideal) (u16.view.writes (Elt Ideal) G16 (L16)) (ix3 j' x s))
    ∧ (∀ j' x s, u17.view.read (Elt Ideal) (u17.view.writes (Elt Ideal) G17 (B.2.2.1 ++ L17)) (ix3 j' x s) = if j' = j then u17.view.read (Elt Ideal) f17 (ix3 j x s) + p.tv (p.E j) x s else u17.view.read (Elt Ideal) (u17.view.writes (Elt Ideal) G17 (L17)) (ix3 j' x s))
    ∧ (∀ j' s, u18.view.read (Elt Ideal) (u18.view.writes (Elt Ideal) G18 (B.2.2.2.1 ++ L18)) (ix3 j' 0 s) = if j' = j then u18.view.read (Elt Ideal) f18 (ix3 j 0 s) + Pt.ts (fun r s => p.E j r s * p.D j r s) s else u18.view.read (Elt Ideal) (u18.view.writes (Elt Ideal) G18 (L18)) (ix3 j' 0 s))
    ∧ (∀ r, u19.view.read (Elt Ideal) (u19.view.writes (Elt Ideal) G19 (B.2.2.2.2 ++ L19)) (ix2 r 0) = u19.view.read (Elt Ideal) f19 (ix2 r 0) + Pt.tr (fun r s => p.E j r s * p.D j r s) r)

set_option maxHeartbeats 2000000 in
/-- One trip of the loop over the earlier key blocks adds its block's terms. -/
theorem trip_reads (k : Fin (k0_t1_loop i).trips) (f15 : BufTy.Contents (Elt Ideal) u15.view.ty) (f16 : BufTy.Contents (Elt Ideal) u16.view.ty) (f17 : BufTy.Contents (Elt Ideal) u17.view.ty) (f18 : BufTy.Contents (Elt Ideal) u18.view.ty) (f19 : BufTy.Contents (Elt Ideal) u19.view.ty) (G15 : BufTy.Contents (Elt Ideal) u15.view.ty) (G16 : BufTy.Contents (Elt Ideal) u16.view.ty) (G17 : BufTy.Contents (Elt Ideal) u17.view.ty) (G18 : BufTy.Contents (Elt Ideal) u18.view.ty) (G19 : BufTy.Contents (Elt Ideal) u19.view.ty) (L15 : List (View.Piece (Elt Ideal) S512x128 .f32)) (L16 : List (View.Piece (Elt Ideal) S8x128x512 .f32)) (L17 : List (View.Piece (Elt Ideal) S8x128x512 .f32)) (L18 : List (View.Piece (Elt Ideal) S8x1x512 .f32)) (L19 : List (View.Piece (Elt Ideal) S512x1 .f32)) (j : Fin 8) (hj : j.val = k.val) :
    Trip p f15 f16 f17 f18 f19 G15 G16 G17 G18 G19 L15 L16 L17 L18 L19 j (tripL_k0_t1 (F := Ideal) 𝒱 c bd i u2 z2 u3 z3 u4 z4 u5 z5 u6 z6 u7 z7 u8 z8 u9 z9 u10 z10 u11 z11 u12 z12 u13 z13 u14 z14 u15 z15 u16 z16 u17 z17 u18 z18 u19 z19 u1 v3 v4 v7 v10 v12 v14 c1_i32 v23 v28 v30 v31 X3 X4 X8 X9 k f15 f16 f17 f18 f19) := by
  have hK := keyAt _ hq hg hqt hgt hl hdl hk hv hcq hck (i := i) (k := k) (j := j) (hj := hj)
  have hV := valAt _ hq hg hqt hgt hl hdl hk hv hcq hck (i := i) (k := k) (j := j) (hj := hj)
  have hC := gateAt _ hq hg hqt hgt hl hdl hk hv hcq hck (i := i) (k := k) (j := j) (hj := hj)
  have hQ : ∀ r, View.readAt (Elt Ideal) u8.view (Rect.unit (s := S1x512x1) ![0, 0, 0] ![1, 512, 1] inb_S1x512x1_S1x512x1_0_0_0).toLoadRect X8 (ix3 0 r 0) = p.cq r := fun r =>
    (readAt_whole u8.view X8 ![0, 0, 0] (by decide) inb_S1x512x1_S1x512x1_0_0_0 (ix3 0 r 0)).trans (hcq r)
  unfold tripL_k0_t1 trip_k0_t1
  dsimp only
  have hE : ∀ r s, k0_pay4 v3 v12 (View.readAt (Elt Ideal) u3.view (Rect.unit (s := S4096x128) (k0_off1 i k) ![512, 128] (k0_off1_inb i k)).toLoadRect X3)
      (View.readAt (Elt Ideal) u8.view (Rect.unit (s := S1x512x1) ![0, 0, 0] ![1, 512, 1] inb_S1x512x1_S1x512x1_0_0_0).toLoadRect X8)
      (View.readAt (Elt Ideal) u9.view (Rect.unit (s := S1x8x1x512) (k0_off2 i k) ![1, 1, 1, 512] (k0_off2_inb i k)).toLoadRect X9) (ix2 r s) = p.E j r s := by
    intro r s
    rw [pay4_at, hQ, hC, hl]
    simp only [hq, hK]
    rfl
  have hW : ∀ r s, trip_k0_t1.sl.r_1 i u3 u4 u8 u9 v3 v4 v12 v14 X3 X4 X8 X9 k (ix2 r s) = p.E j r s * p.D j r s := by
    intro r s
    unfold trip_k0_t1.sl.r_1
    refine (pay6_at _ _ _ _ _ _ _ _ _ _).trans ?_
    rw [hE, hdl]
    simp only [hg, hV]
    rfl
  refine ⟨fun r x => ?_, fun j' x s => ?_, fun j' x s => ?_, fun j' s => ?_, fun r => ?_⟩
  · refine (read_whole u15.view G15 ![0, 0] (by decide) _ _ L15 (ix2 r x)).trans ?_
    refine (pay42_at _ _ _ r x).trans (congrArg₂ _ (readAt_whole u15.view f15 ![0, 0] (by decide) _ (ix2 r x)) ?_)
    unfold trip_k0_t1.sl.r
    simp only [hW, hK]
    rfl
  · refine (read_slab u16.view G16 j _ (by rw [hj]; exact k0_off3_eq i k) _ _ L16 j' x s).trans (if_congr Iff.rfl ?_ rfl)
    refine (pay41_at _ _ _ x s).trans (congrArg₂ _ (readAt_slab u16.view f16 j _ (by rw [hj]; exact k0_off3_eq i k) _ x s) ?_)
    simp only [hW, hqt]
    rfl
  · refine (read_slab u17.view G17 j _ (by rw [hj]; exact k0_off3_eq i k) _ _ L17 j' x s).trans (if_congr Iff.rfl ?_ rfl)
    refine (pay5_at _ _ _ _ _ _ _ x s).trans (congrArg₂ _ (readAt_slab u17.view f17 j _ (by rw [hj]; exact k0_off3_eq i k) _ x s) ?_)
    simp only [hE, hgt]
    rfl
  · refine (read_slab u18.view G18 j _ (by rw [hj]; exact k0_off4_eq i k) _ _ L18 j' 0 s).trans (if_congr Iff.rfl ?_ rfl)
    refine (pay38_at _ _ s).trans (congrArg₂ _ ?_ ?_)
    · unfold trip_k0_t1.sl.r_2
      exact (pay7_at _ s).trans (readAt_slab u18.view f18 j _ (by rw [hj]; exact k0_off4_eq i k) _ 0 s)
    · simp only [hW]
      rfl
  · refine (read_whole u19.view G19 ![0, 0] (by decide) _ _ L19 (ix2 r 0)).trans ?_
    refine (pay39_at _ _ r).trans (congrArg₂ _ (readAt_whole u19.view f19 ![0, 0] (by decide) _ (ix2 r 0)) ?_)
    simp only [hW]
    rfl

/-- What a loop that read `B` before stage `n` leaves on each buffer. -/
abbrev Left (G15 : BufTy.Contents (Elt Ideal) u15.view.ty) (G16 : BufTy.Contents (Elt Ideal) u16.view.ty) (G17 : BufTy.Contents (Elt Ideal) u17.view.ty) (G18 : BufTy.Contents (Elt Ideal) u18.view.ty) (G19 : BufTy.Contents (Elt Ideal) u19.view.ty) (n : ℕ) (B : LT) : Prop :=
    (∀ r x, u15.view.read (Elt Ideal) (u15.view.writes (Elt Ideal) G15 (B.1)) (ix2 r x) = u15.view.read (Elt Ideal) G15 (ix2 r x) + ∑ j : Fin 8, if j.val < n then p.tq (fun r s => p.E j r s * p.D j r s) j r x else 0)
    ∧ (∀ j x s, u16.view.read (Elt Ideal) (u16.view.writes (Elt Ideal) G16 (B.2.1)) (ix3 j x s) = u16.view.read (Elt Ideal) G16 (ix3 j x s) + if j.val < n then p.tk (fun r s => p.E j r s * p.D j r s) x s else 0)
    ∧ (∀ j x s, u17.view.read (Elt Ideal) (u17.view.writes (Elt Ideal) G17 (B.2.2.1)) (ix3 j x s) = u17.view.read (Elt Ideal) G17 (ix3 j x s) + if j.val < n then p.tv (p.E j) x s else 0)
    ∧ (∀ j s, u18.view.read (Elt Ideal) (u18.view.writes (Elt Ideal) G18 (B.2.2.2.1)) (ix3 j 0 s) = u18.view.read (Elt Ideal) G18 (ix3 j 0 s) + if j.val < n then Pt.ts (fun r s => p.E j r s * p.D j r s) s else 0)
    ∧ (∀ r, u19.view.read (Elt Ideal) (u19.view.writes (Elt Ideal) G19 (B.2.2.2.2)) (ix2 r 0) = u19.view.read (Elt Ideal) G19 (ix2 r 0) + ∑ j : Fin 8, if j.val < n then Pt.tr (fun r s => p.E j r s * p.D j r s) r else 0)

set_option maxHeartbeats 2000000 in
/-- What the loop over the earlier key blocks leaves: on each buffer what it found, and its blocks' terms. -/
theorem loop_reads (G15 : BufTy.Contents (Elt Ideal) u15.view.ty) (G16 : BufTy.Contents (Elt Ideal) u16.view.ty) (G17 : BufTy.Contents (Elt Ideal) u17.view.ty) (G18 : BufTy.Contents (Elt Ideal) u18.view.ty) (G19 : BufTy.Contents (Elt Ideal) u19.view.ty) (n : ℕ) (hn : n ≤ (i 1).val) :
    Left p G15 G16 G17 G18 G19 n (pb_k0_t1 (F := Ideal) 𝒱 c bd i u2 z2 u3 z3 u4 z4 u5 z5 u6 z6 u7 z7 u8 z8 u9 z9 u10 z10 u11 z11 u12 z12 u13 z13 u14 z14 u15 z15 u16 z16 u17 z17 u18 z18 u19 z19 u1 v3 v4 v7 v10 v12 v14 c1_i32 v23 v28 v30 v31 X3 X4 X8 X9 G15 G16 G17 G18 G19 n) := by
  induction n with
  | zero =>
    refine ⟨fun r x => ?_, fun j x s => ?_, fun j x s => ?_, fun j s => ?_, fun r => ?_⟩ <;>
      · simp only [Nat.not_lt_zero, if_false, Finset.sum_const_zero, add_zero]
        rfl
  | succ n ih =>
    have hi : (i 1).val < 8 := (i 1).isLt
    obtain ⟨h15, h16, h17, h18, h19⟩ := ih (by omega)
    have hk' : n < (k0_t1_loop i).trips := by rw [trips_eq]; omega
    have hs := pb_k0_t1_succ (F := Ideal) 𝒱 c bd i u2 z2 u3 z3 u4 z4 u5 z5 u6 z6 u7 z7 u8 z8 u9 z9 u10 z10 u11 z11 u12 z12 u13 z13 u14 z14 u15 z15 u16 z16 u17 z17 u18 z18 u19 z19 u1 v3 v4 v7 v10 v12 v14 c1_i32 v23 v28 v30 v31 X3 X4 X8 X9 G15 G16 G17 G18 G19 ⟨n, hk'⟩
    have key := fun B : LT => trip_reads _ hq hg hqt hgt hl hdl hk hv hcq hck
      (z2 := z2) (z3 := z3) (z4 := z4) (z5 := z5) (z6 := z6) (z7 := z7) (z8 := z8) (z9 := z9) (z10 := z10) (z11 := z11) (z12 := z12) (z13 := z13) (z14 := z14) (z15 := z15) (z16 := z16) (z17 := z17) (z18 := z18) (z19 := z19) (bd := bd) (c := c) (𝒱 := 𝒱)
      (u1 := u1) (c1_i32 := c1_i32) (v23 := v23) (v28 := v28) (v30 := v30) (v31 := v31)
      (k := ⟨n, hk'⟩) (j := ⟨n, by omega⟩) (hj := rfl)
      (f15 := u15.view.writes (Elt Ideal) G15 B.1) (f16 := u16.view.writes (Elt Ideal) G16 B.2.1) (f17 := u17.view.writes (Elt Ideal) G17 B.2.2.1) (f18 := u18.view.writes (Elt Ideal) G18 B.2.2.2.1) (f19 := u19.view.writes (Elt Ideal) G19 B.2.2.2.2)
      (G15 := G15) (G16 := G16) (G17 := G17) (G18 := G18) (G19 := G19)
      (L15 := B.1) (L16 := B.2.1) (L17 := B.2.2.1) (L18 := B.2.2.2.1) (L19 := B.2.2.2.2)
    rw [hs]
    obtain ⟨t15, t16, t17, t18, t19⟩ := key (pb_k0_t1 (F := Ideal) 𝒱 c bd i u2 z2 u3 z3 u4 z4 u5 z5 u6 z6 u7 z7 u8 z8 u9 z9 u10 z10 u11 z11 u12 z12 u13 z13 u14 z14 u15 z15 u16 z16 u17 z17 u18 z18 u19 z19 u1 v3 v4 v7 v10 v12 v14 c1_i32 v23 v28 v30 v31 X3 X4 X8 X9 G15 G16 G17 G18 G19 n)
    refine ⟨fun r x => ?_, fun j x s => ?_, fun j x s => ?_, fun j s => ?_, fun r => ?_⟩
    · refine (t15 r x).trans ?_
      rw [sum_lt_succ _ n ⟨n, by omega⟩ rfl, ← add_assoc, ← h15]
    · refine (t16 j x s).trans ?_
      by_cases h1 : j = ⟨n, by omega⟩
      · rw [if_pos h1, h16]; subst h1; simp
      · have h2 : j.val ≠ n := fun h => h1 (Fin.ext h)
        rw [if_neg h1, h16]; exact congrArg₂ _ rfl (if_congr (by omega) rfl rfl)
    · refine (t17 j x s).trans ?_
      by_cases h1 : j = ⟨n, by omega⟩
      · rw [if_pos h1, h17]; subst h1; simp
      · have h2 : j.val ≠ n := fun h => h1 (Fin.ext h)
        rw [if_neg h1, h17]; exact congrArg₂ _ rfl (if_congr (by omega) rfl rfl)
    · refine (t18 j s).trans ?_
      by_cases h1 : j = ⟨n, by omega⟩
      · rw [if_pos h1, h18]; subst h1; simp
      · have h2 : j.val ≠ n := fun h => h1 (Fin.ext h)
        rw [if_neg h1, h18]; exact congrArg₂ _ rfl (if_congr (by omega) rfl rfl)
    · refine (t19 r).trans ?_
      rw [sum_lt_succ _ n ⟨n, by omega⟩ rfl, ← add_assoc, ← h19]

theorem loop_reads_at {G15 : BufTy.Contents (Elt Ideal) u15.view.ty} {G16 : BufTy.Contents (Elt Ideal) u16.view.ty} {G17 : BufTy.Contents (Elt Ideal) u17.view.ty} {G18 : BufTy.Contents (Elt Ideal) u18.view.ty} {G19 : BufTy.Contents (Elt Ideal) u19.view.ty} {n n' : ℕ} (hn : n = (i 1).val) (hn' : n' = n) :
    Left p G15 G16 G17 G18 G19 n (pb_k0_t1 (F := Ideal) 𝒱 c bd i u2 z2 u3 z3 u4 z4 u5 z5 u6 z6 u7 z7 u8 z8 u9 z9 u10 z10 u11 z11 u12 z12 u13 z13 u14 z14 u15 z15 u16 z16 u17 z17 u18 z18 u19 z19 u1 v3 v4 v7 v10 v12 v14 c1_i32 v23 v28 v30 v31 X3 X4 X8 X9 G15 G16 G17 G18 G19 n') := by
  subst hn'
  exact loop_reads _ hq hg hqt hgt hl hdl hk hv hcq hck (n := n') (hn := by omega) ..

end

section

/-- The loop over the rest of the earlier key blocks makes no trip. -/
theorem pb2_nil {𝒱 : Variants} {c : Dev nD} {bd : Option 𝒱.V} {i : grid0.Coords} {u2 : Memref sig .tc .vmem S512x128 .bf16} {z2 : u2.IsWhole} {u3 : Memref sig .tc .vmem S4096x128 .bf16} {z3 : u3.IsWhole} {u4 : Memref sig .tc .vmem S4096x128 .bf16} {z4 : u4.IsWhole} {u5 : Memref sig .tc .vmem S512x128 .bf16} {z5 : u5.IsWhole} {u6 : Memref sig .tc .vmem S1x512x1 .f32} {z6 : u6.IsWhole} {u7 : Memref sig .tc .vmem S1x512x1 .f32} {z7 : u7.IsWhole} {u8 : Memref sig .tc .vmem S1x512x1 .f32} {z8 : u8.IsWhole} {u9 : Memref sig .tc .vmem S1x8x1x512 .f32} {z9 : u9.IsWhole} {u10 : Memref sig .tc .vmem S512x128 .bf16} {z10 : u10.IsWhole} {u11 : Memref sig .tc .vmem S4096x128 .bf16} {z11 : u11.IsWhole} {u12 : Memref sig .tc .vmem S4096x128 .bf16} {z12 : u12.IsWhole} {u13 : Memref sig .tc .vmem S1x8x1x512 .f32} {z13 : u13.IsWhole} {u14 : Memref sig .tc .vmem S1x512x1 .f32} {z14 : u14.IsWhole} {u15 : Memref sig .tc .vmem S512x128 .f32} {z15 : u15.IsWhole} {u16 : Memref sig .tc .vmem S8x128x512 .f32} {z16 : u16.IsWhole} {u17 : Memref sig .tc .vmem S8x128x512 .f32} {z17 : u17.IsWhole} {u18 : Memref sig .tc .vmem S8x1x512 .f32} {z18 : u18.IsWhole} {u19 : Memref sig .tc .vmem S512x1 .f32} {z19 : u19.IsWhole} {u1 : BitVec 32} {v3 : Vec Ideal S512x128 .bf16} {v4 : Vec Ideal S512x128 .bf16} {v7 : FVec Ideal S128x512 .bf16} {v10 : FVec Ideal S128x512 .bf16} {v12 : FVec Ideal S512x1 .f32} {v14 : FVec Ideal S512x1 .f32} {c1_i32 : BitVec 32} {v23 : BitVec 32} {v28 : BitVec 32} {v30 : BitVec 32} {v31 : BitVec 1} {v44 : BitVec 32} {X3 : BufTy.Contents (Elt Ideal) u3.view.ty} {X4 : BufTy.Contents (Elt Ideal) u4.view.ty} {X8 : BufTy.Contents (Elt Ideal) u8.view.ty} {X9 : BufTy.Contents (Elt Ideal) u9.view.ty} {G15 : BufTy.Contents (Elt Ideal) u15.view.ty} {G16 : BufTy.Contents (Elt Ideal) u16.view.ty} {G17 : BufTy.Contents (Elt Ideal) u17.view.ty} {G18 : BufTy.Contents (Elt Ideal) u18.view.ty} {G19 : BufTy.Contents (Elt Ideal) u19.view.ty} (n : ℕ) (hn : n = 0) :
    (pb_k0_t2 (F := Ideal) 𝒱 c bd i u2 z2 u3 z3 u4 z4 u5 z5 u6 z6 u7 z7 u8 z8 u9 z9 u10 z10 u11 z11 u12 z12 u13 z13 u14 z14 u15 z15 u16 z16 u17 z17 u18 z18 u19 z19 u1 v3 v4 v7 v10 v12 v14 c1_i32 v23 v28 v30 v31 v44 X3 X4 X8 X9 G15 G16 G17 G18 G19 n).1 = [] ∧ (pb_k0_t2 (F := Ideal) 𝒱 c bd i u2 z2 u3 z3 u4 z4 u5 z5 u6 z6 u7 z7 u8 z8 u9 z9 u10 z10 u11 z11 u12 z12 u13 z13 u14 z14 u15 z15 u16 z16 u17 z17 u18 z18 u19 z19 u1 v3 v4 v7 v10 v12 v14 c1_i32 v23 v28 v30 v31 v44 X3 X4 X8 X9 G15 G16 G17 G18 G19 n).2.1 = [] ∧ (pb_k0_t2 (F := Ideal) 𝒱 c bd i u2 z2 u3 z3 u4 z4 u5 z5 u6 z6 u7 z7 u8 z8 u9 z9 u10 z10 u11 z11 u12 z12 u13 z13 u14 z14 u15 z15 u16 z16 u17 z17 u18 z18 u19 z19 u1 v3 v4 v7 v10 v12 v14 c1_i32 v23 v28 v30 v31 v44 X3 X4 X8 X9 G15 G16 G17 G18 G19 n).2.2.1 = [] ∧ (pb_k0_t2 (F := Ideal) 𝒱 c bd i u2 z2 u3 z3 u4 z4 u5 z5 u6 z6 u7 z7 u8 z8 u9 z9 u10 z10 u11 z11 u12 z12 u13 z13 u14 z14 u15 z15 u16 z16 u17 z17 u18 z18 u19 z19 u1 v3 v4 v7 v10 v12 v14 c1_i32 v23 v28 v30 v31 v44 X3 X4 X8 X9 G15 G16 G17 G18 G19 n).2.2.2.1 = [] ∧ (pb_k0_t2 (F := Ideal) 𝒱 c bd i u2 z2 u3 z3 u4 z4 u5 z5 u6 z6 u7 z7 u8 z8 u9 z9 u10 z10 u11 z11 u12 z12 u13 z13 u14 z14 u15 z15 u16 z16 u17 z17 u18 z18 u19 z19 u1 v3 v4 v7 v10 v12 v14 c1_i32 v23 v28 v30 v31 v44 X3 X4 X8 X9 G15 G16 G17 G18 G19 n).2.2.2.2 = [] := by
  subst hn
  exact ⟨rfl, rfl, rfl, rfl, rfl⟩

end

end Cert.KernelIdeal.Bwd

end
-- ==== Proof.CaseA.lean ====
module

public import proofs.«01_k».proof.Proof.Gen.KernelIdeal.Frame.RunC
public import proofs.«01_k».proof.Proof.Step

@[expose] public section

set_option maxRecDepth 16384

noncomputable section

namespace Cert.KernelIdeal.Bwd

open Idealize.ShloMosaic Cert.KernelIdeal Cert.KernelIdeal.Gen Cert.Slab

/-- What a point reads of its eight input blocks. -/
def ptOf (x0 : Vec Ideal S512x128 .bf16) (x1 : Vec Ideal S4096x128 .bf16) (x2 : Vec Ideal S4096x128 .bf16) (x3 : Vec Ideal S512x128 .bf16) (x4 : Vec Ideal S1x512x1 .f32) (x5 : Vec Ideal S1x512x1 .f32) (x6 : Vec Ideal S1x512x1 .f32) (x7 : Vec Ideal S1x8x1x512 .f32) : Pt where
  q r x := x0 (ix2 r x)
  g r x := x3 (ix2 r x)
  l r := x4 (ix3 0 r 0)
  dl r := x5 (ix3 0 r 0)
  cq r := x6 (ix3 0 r 0)
  k r x := x1 (ix2 r x)
  v r x := x2 (ix2 r x)
  ck j s := x7 (ix4 0 j 0 s)

section
variable (c : Dev nD) (i : grid0.Coords) (u2 : Memref sig .tc .vmem S512x128 .bf16) (z2 : u2.IsWhole) (u3 : Memref sig .tc .vmem S4096x128 .bf16) (z3 : u3.IsWhole) (u4 : Memref sig .tc .vmem S4096x128 .bf16) (z4 : u4.IsWhole) (u5 : Memref sig .tc .vmem S512x128 .bf16) (z5 : u5.IsWhole) (u6 : Memref sig .tc .vmem S1x512x1 .f32) (z6 : u6.IsWhole) (u7 : Memref sig .tc .vmem S1x512x1 .f32) (z7 : u7.IsWhole) (u8 : Memref sig .tc .vmem S1x512x1 .f32) (z8 : u8.IsWhole) (u9 : Memref sig .tc .vmem S1x8x1x512 .f32) (z9 : u9.IsWhole) (u10 : Memref sig .tc .vmem S512x128 .bf16) (z10 : u10.IsWhole) (u11 : Memref sig .tc .vmem S4096x128 .bf16) (z11 : u11.IsWhole) (u12 : Memref sig .tc .vmem S4096x128 .bf16) (z12 : u12.IsWhole) (u13 : Memref sig .tc .vmem S1x8x1x512 .f32) (z13 : u13.IsWhole) (u14 : Memref sig .tc .vmem S1x512x1 .f32) (z14 : u14.IsWhole) (u15 : Memref sig .tc .vmem S512x128 .f32) (z15 : u15.IsWhole) (u16 : Memref sig .tc .vmem S8x128x512 .f32) (z16 : u16.IsWhole) (u17 : Memref sig .tc .vmem S8x128x512 .f32) (z17 : u17.IsWhole) (u18 : Memref sig .tc .vmem S8x1x512 .f32) (z18 : u18.IsWhole) (u19 : Memref sig .tc .vmem S512x1 .f32) (z19 : u19.IsWhole) (x0 : Vec Ideal S512x128 .bf16) (x1 : Vec Ideal S4096x128 .bf16) (x2 : Vec Ideal S4096x128 .bf16) (x3 : Vec Ideal S512x128 .bf16) (x4 : Vec Ideal S1x512x1 .f32) (x5 : Vec Ideal S1x512x1 .f32) (x6 : Vec Ideal S1x512x1 .f32) (x7 : Vec Ideal S1x8x1x512 .f32)

theorem hq_A (r : Fin 512) (x : Fin 128) : (kernelRun0_A.sl.r (F := Ideal) c u2 z2 x0) (ix2 r x) = (ptOf x0 x1 x2 x3 x4 x5 x6 x7).q r x := by
  unfold kernelRun0_A.sl.r
  exact (readAt_whole u2.view _ ![0, 0] (by decide) _ (ix2 r x)).trans (congrFun (z2.read_unread x0) _)

theorem hg_A (r : Fin 512) (x : Fin 128) : (kernelRun0_A.sl.r_1 (F := Ideal) c u5 z5 x3) (ix2 r x) = (ptOf x0 x1 x2 x3 x4 x5 x6 x7).g r x := by
  unfold kernelRun0_A.sl.r_1
  exact (readAt_whole u5.view _ ![0, 0] (by decide) _ (ix2 r x)).trans (congrFun (z5.read_unread x3) _)

theorem hqt_A (x : Fin 128) (r : Fin 512) : (kernelRun0_A.sl.r_2 (F := Ideal) c u2 z2 x0) (ix2 x r) = (ptOf x0 x1 x2 x3 x4 x5 x6 x7).q r x := by
  unfold kernelRun0_A.sl.r_2
  exact (pay32_at _ x r).trans ((readAt_whole u2.view _ ![0, 0] (by decide) _ (ix2 r x)).trans (congrFun (z2.read_unread x0) _))

theorem hgt_A (x : Fin 128) (r : Fin 512) : (kernelRun0_A.sl.r_3 (F := Ideal) c u5 z5 x3) (ix2 x r) = (ptOf x0 x1 x2 x3 x4 x5 x6 x7).g r x := by
  unfold kernelRun0_A.sl.r_3
  exact (pay33_at _ x r).trans ((readAt_whole u5.view _ ![0, 0] (by decide) _ (ix2 r x)).trans (congrFun (z5.read_unread x3) _))

theorem hl_A (r : Fin 512) : (kernelRun0_A.sl.r_4 (F := Ideal) c u6 z6 x4) (ix2 r 0) = (ptOf x0 x1 x2 x3 x4 x5 x6 x7).l r := by
  unfold kernelRun0_A.sl.r_4
  exact (pay34_at _ r).trans ((readAt_whole u6.view _ ![0, 0, 0] (by decide) _ (ix3 0 r 0)).trans (congrFun (z6.read_unread x4) _))

theorem hdl_A (r : Fin 512) : (kernelRun0_A.sl.r_5 (F := Ideal) c u7 z7 x5) (ix2 r 0) = (ptOf x0 x1 x2 x3 x4 x5 x6 x7).dl r := by
  unfold kernelRun0_A.sl.r_5
  exact (pay35_at _ r).trans ((readAt_whole u7.view _ ![0, 0, 0] (by decide) _ (ix3 0 r 0)).trans (congrFun (z7.read_unread x5) _))

theorem hyps_A :
    (∀ (r : Fin 512) (x : Fin 128), (kernelRun0_A.sl.r (F := Ideal) c u2 z2 x0) (ix2 r x) = (ptOf x0 x1 x2 x3 x4 x5 x6 x7).q r x)
    ∧ (∀ (r : Fin 512) (x : Fin 128), (kernelRun0_A.sl.r_1 (F := Ideal) c u5 z5 x3) (ix2 r x) = (ptOf x0 x1 x2 x3 x4 x5 x6 x7).g r x)
    ∧ (∀ (x : Fin 128) (r : Fin 512), (kernelRun0_A.sl.r_2 (F := Ideal) c u2 z2 x0) (ix2 x r) = (ptOf x0 x1 x2 x3 x4 x5 x6 x7).q r x)
    ∧ (∀ (x : Fin 128) (r : Fin 512), (kernelRun0_A.sl.r_3 (F := Ideal) c u5 z5 x3) (ix2 x r) = (ptOf x0 x1 x2 x3 x4 x5 x6 x7).g r x)
    ∧ (∀ (r : Fin 512), (kernelRun0_A.sl.r_4 (F := Ideal) c u6 z6 x4) (ix2 r 0) = (ptOf x0 x1 x2 x3 x4 x5 x6 x7).l r)
    ∧ (∀ (r : Fin 512), (kernelRun0_A.sl.r_5 (F := Ideal) c u7 z7 x5) (ix2 r 0) = (ptOf x0 x1 x2 x3 x4 x5 x6 x7).dl r)
    ∧ (∀ r x, u3.view.read (Elt Ideal) (z3.unread x1) (ix2 r x) = (ptOf x0 x1 x2 x3 x4 x5 x6 x7).k r x)
    ∧ (∀ r x, u4.view.read (Elt Ideal) (z4.unread x2) (ix2 r x) = (ptOf x0 x1 x2 x3 x4 x5 x6 x7).v r x)
    ∧ (∀ r, u8.view.read (Elt Ideal) (z8.unread x6) (ix3 0 r 0) = (ptOf x0 x1 x2 x3 x4 x5 x6 x7).cq r)
    ∧ (∀ j s, u9.view.read (Elt Ideal) (z9.unread x7) (ix4 0 j 0 s) = (ptOf x0 x1 x2 x3 x4 x5 x6 x7).ck j s) :=
  ⟨hq_A c u2 z2 x0 x1 x2 x3 x4 x5 x6 x7,
   hg_A c u5 z5 x0 x1 x2 x3 x4 x5 x6 x7,
   hqt_A c u2 z2 x0 x1 x2 x3 x4 x5 x6 x7,
   hgt_A c u5 z5 x0 x1 x2 x3 x4 x5 x6 x7,
   hl_A c u6 z6 x0 x1 x2 x3 x4 x5 x6 x7,
   hdl_A c u7 z7 x0 x1 x2 x3 x4 x5 x6 x7,
   fun r x => congrFun (z3.read_unread (Val := Elt Ideal) x1) _,
   fun r x => congrFun (z4.read_unread (Val := Elt Ideal) x2) _,
   fun r => congrFun (z8.read_unread (Val := Elt Ideal) x6) _,
   fun j s => congrFun (z9.read_unread (Val := Elt Ideal) x7) _⟩

theorem v61_A : (kernelRun0_A.sl.v61 i) = BitVec.ofNat 32 (i 1).val := by
  revert i
  decide +kernel

section
variable (nb : Fin 8) (hnb : nb.val = (i 1).val)
include hnb

theorem hP_A (r s : Fin 512) :
    k0_pay49 (BitVec.ofNat 32 (i 1).val) (kernelRun0_A.sl.r_4 (F := Ideal) c u6 z6 x4) (kernelRun0_A.sl.v61 i) (kernelRun0_A.sl.r_7 (F := Ideal) c i u2 z2 u3 z3 x0 x1)
      (View.readAt (Elt Ideal) u8.view (Rect.unit (s := S1x512x1) ![0, 0, 0] ![1, 512, 1] inb_S1x512x1_S1x512x1_0_0_0).toLoadRect (z8.unread x6))
      (View.readAt (Elt Ideal) u9.view (Rect.unit (s := S1x8x1x512) (k0_off10 i) ![1, 1, 1, 512] (k0_off10_inb i)).toLoadRect (z9.unread x7)) (ix2 r s)
      = (ptOf x0 x1 x2 x3 x4 x5 x6 x7).M (i 1).val nb r s := by
  unfold kernelRun0_A.sl.r_7
  refine (pay49_at nb.val nb.isLt _ _ (by rw [hnb]) (by rw [hnb]; exact v61_A i) _ _ _ _ _ r s).trans ?_
  rw [Pt.M_eq _ _ _ hnb]
  refine if_congr Iff.rfl ?_ rfl
  refine (pay4_at _ _ _ _ _ r s).trans ?_
  have e1 : ∀ x, View.readAt (Elt Ideal) u3.view (Rect.unit (s := S4096x128) (k0_off9 i) ![512, 128] (k0_off9_inb i)).toLoadRect (z3.unread x1) (ix2 s x) = (ptOf x0 x1 x2 x3 x4 x5 x6 x7).k (key nb s) x := fun x =>
    (readAt_rows u3.view _ (512 * nb.val) _ (by rw [hnb]; exact k0_off9_eq i) _ s x (key nb s) rfl).trans (congrFun (z3.read_unread x1) _)
  have e2 : View.readAt (Elt Ideal) u8.view (Rect.unit (s := S1x512x1) ![0, 0, 0] ![1, 512, 1] inb_S1x512x1_S1x512x1_0_0_0).toLoadRect (z8.unread x6) (ix3 0 r 0) = (ptOf x0 x1 x2 x3 x4 x5 x6 x7).cq r :=
    (readAt_whole u8.view _ ![0, 0, 0] (by decide) _ (ix3 0 r 0)).trans (congrFun (z8.read_unread x6) _)
  have e3 : View.readAt (Elt Ideal) u9.view (Rect.unit (s := S1x8x1x512) (k0_off10 i) ![1, 1, 1, 512] (k0_off10_inb i)).toLoadRect (z9.unread x7) (ix4 0 0 0 s) = (ptOf x0 x1 x2 x3 x4 x5 x6 x7).ck nb s :=
    (readAt_slab4 u9.view _ nb _ (by rw [hnb]; exact k0_off10_eq i) _ 0 0 s).trans (congrFun (z9.read_unread x7) _)
  rw [e2, e3, hl_A]
  simp only [hq_A c u2 z2 x0 x1 x2 x3 x4 x5 x6 x7, e1]
  rfl

theorem hZ_A (r s : Fin 512) : (kernelRun0_A.sl.r_8 (F := Ideal) c i u2 z2 u3 z3 u4 z4 u5 z5 u6 z6 u7 z7 u8 z8 u9 z9 x0 x1 x2 x3 x4 x5 x6 x7) (ix2 r s) = (ptOf x0 x1 x2 x3 x4 x5 x6 x7).Z (i 1).val nb r s := by
  unfold kernelRun0_A.sl.r_8
  refine (pay51_at _ _ _ _ _ _ _ _ _ r s).trans ?_
  have e1 : ∀ x, View.readAt (Elt Ideal) u4.view (Rect.unit (s := S4096x128) (k0_off9 i) ![512, 128] (k0_off9_inb i)).toLoadRect (z4.unread x2) (ix2 s x) = (ptOf x0 x1 x2 x3 x4 x5 x6 x7).v (key nb s) x := fun x =>
    (readAt_rows u4.view _ (512 * nb.val) _ (by rw [hnb]; exact k0_off9_eq i) _ s x (key nb s) rfl).trans (congrFun (z4.read_unread x2) _)
  refine congrArg₂ _ (hP_A (nb := nb) (hnb := hnb) ..) ?_
  rw [hdl_A]
  simp only [hg_A c u5 z5 x0 x1 x2 x3 x4 x5 x6 x7, e1]
  rfl

end
end

section
variable (c : Dev nD) (i : grid0.Coords) (u2 : Memref sig .tc .vmem S512x128 .bf16) (z2 : u2.IsWhole) (u3 : Memref sig .tc .vmem S4096x128 .bf16) (z3 : u3.IsWhole) (u4 : Memref sig .tc .vmem S4096x128 .bf16) (z4 : u4.IsWhole) (u5 : Memref sig .tc .vmem S512x128 .bf16) (z5 : u5.IsWhole) (u6 : Memref sig .tc .vmem S1x512x1 .f32) (z6 : u6.IsWhole) (u7 : Memref sig .tc .vmem S1x512x1 .f32) (z7 : u7.IsWhole) (u8 : Memref sig .tc .vmem S1x512x1 .f32) (z8 : u8.IsWhole) (u9 : Memref sig .tc .vmem S1x8x1x512 .f32) (z9 : u9.IsWhole) (u10 : Memref sig .tc .vmem S512x128 .bf16) (z10 : u10.IsWhole) (u11 : Memref sig .tc .vmem S4096x128 .bf16) (z11 : u11.IsWhole) (u12 : Memref sig .tc .vmem S4096x128 .bf16) (z12 : u12.IsWhole) (u13 : Memref sig .tc .vmem S1x8x1x512 .f32) (z13 : u13.IsWhole) (u14 : Memref sig .tc .vmem S1x512x1 .f32) (z14 : u14.IsWhole) (u15 : Memref sig .tc .vmem S512x128 .f32) (z15 : u15.IsWhole) (u16 : Memref sig .tc .vmem S8x128x512 .f32) (z16 : u16.IsWhole) (u17 : Memref sig .tc .vmem S8x128x512 .f32) (z17 : u17.IsWhole) (u18 : Memref sig .tc .vmem S8x1x512 .f32) (z18 : u18.IsWhole) (u19 : Memref sig .tc .vmem S512x1 .f32) (z19 : u19.IsWhole)
include c i u2 z2 u3 z3 u4 z4 u5 z5 u6 z6 u7 z7 u8 z8 u9 z9 u10 z10 u11 z11 u12 z12 u13 z13 u14 z14 u15 z15 u16 z16 u17 z17 u18 z18 u19 z19

section
variable (hc0 : cond0_0 i) (hc1 : ¬cond0_1 i) (x0 : Vec Ideal S512x128 .bf16) (x1 : Vec Ideal S4096x128 .bf16) (x2 : Vec Ideal S4096x128 .bf16) (x3 : Vec Ideal S512x128 .bf16) (x4 : Vec Ideal S1x512x1 .f32) (x5 : Vec Ideal S1x512x1 .f32) (x6 : Vec Ideal S1x512x1 .f32) (x7 : Vec Ideal S1x8x1x512 .f32) (nb : Fin 8) (hnb : nb.val = (i 1).val) (j : Fin 8)
include hc0 hc1 x0 x1 x2 x3 x4 x5 x6 x7 nb hnb j

set_option maxHeartbeats 2000000 in
theorem s1_A (x : Fin 128) (s : Fin 512) :
    u16.view.read (Elt Ideal) (u16.view.writes (Elt Ideal) u16.view.junk (kernelRun0_A (F := Ideal) c i u2 z2 u3 z3 u4 z4 u5 z5 u6 z6 u7 z7 u8 z8 u9 z9 u10 z10 u11 z11 u12 z12 u13 z13 u14 z14 u15 z15 u16 z16 u17 z17 u18 z18 u19 z19 hc0 hc1 x0 x1 x2 x3 x4 x5 x6 x7).2.2.2.2.2.1) (ix3 j x s) = 0 + (ptOf x0 x1 x2 x3 x4 x5 x6 x7).tk ((ptOf x0 x1 x2 x3 x4 x5 x6 x7).Z (i 1).val j) x s := by
  obtain ⟨hq, hg, hqt, hgt, hl, hdl, hk, hv, hcq, hck⟩ := hyps_A c u2 z2 u3 z3 u4 z4 u5 z5 u6 z6 u7 z7 u8 z8 u9 z9 x0 x1 x2 x3 x4 x5 x6 x7
  have hZ := hZ_A c i u2 z2 u3 z3 u4 z4 u5 z5 u6 z6 u7 z7 u8 z8 u9 z9 x0 x1 x2 x3 x4 x5 x6 x7 nb hnb
  unfold kernelRun0_A
  dsimp only
  refine (read_slab u16.view _ nb _ (by rw [hnb]; exact k0_off11_eq i) _ _ _ j x s).trans ?_
  by_cases h : j = nb
  · rw [if_pos h]
    subst h
    refine (pay55_at _ _ _ x s).trans (congrArg₂ _ ?_ ?_)
    · unfold kernelRun0_A.sl.v133
      refine (readAt_slab u16.view _ j _ (by rw [hnb]; exact k0_off11_eq i) _ x s).trans ?_
      refine ((read_nil_app _ _ _ _ _ (pb2_nil _ (trips2_eq i)).2.1 _).trans (((loop_reads_at _ hq hg hqt hgt hl hdl hk hv hcq hck (n := (i 1).val) rfl (trips_eq i)).2.1 j x s).trans (congrArg₂ _ ((read_whole u16.view _ ![0, 0, 0] (by decide) _ _ [] _).trans (pay29_at j x s)) rfl))).trans ?_
      rw [if_neg (by omega), add_zero]
    · simp only [hqt, hZ]; rfl
  · rw [if_neg h]
    refine ((read_nil_app _ _ _ _ _ (pb2_nil _ (trips2_eq i)).2.1 _).trans (((loop_reads_at _ hq hg hqt hgt hl hdl hk hv hcq hck (n := (i 1).val) rfl (trips_eq i)).2.1 j x s).trans (congrArg₂ _ ((read_whole u16.view _ ![0, 0, 0] (by decide) _ _ [] _).trans (pay29_at j x s)) rfl))).trans ?_
    rw [Pt.tk_ne _ _ j (fun h1 => h (Fin.ext (h1.trans hnb.symm)))]

set_option maxHeartbeats 2000000 in
theorem s2_A (x : Fin 128) (s : Fin 512) :
    u17.view.read (Elt Ideal) (u17.view.writes (Elt Ideal) u17.view.junk (kernelRun0_A (F := Ideal) c i u2 z2 u3 z3 u4 z4 u5 z5 u6 z6 u7 z7 u8 z8 u9 z9 u10 z10 u11 z11 u12 z12 u13 z13 u14 z14 u15 z15 u16 z16 u17 z17 u18 z18 u19 z19 hc0 hc1 x0 x1 x2 x3 x4 x5 x6 x7).2.2.2.2.2.2.1) (ix3 j x s) = 0 + (ptOf x0 x1 x2 x3 x4 x5 x6 x7).tv ((ptOf x0 x1 x2 x3 x4 x5 x6 x7).M (i 1).val j) x s := by
  obtain ⟨hq, hg, hqt, hgt, hl, hdl, hk, hv, hcq, hck⟩ := hyps_A c u2 z2 u3 z3 u4 z4 u5 z5 u6 z6 u7 z7 u8 z8 u9 z9 x0 x1 x2 x3 x4 x5 x6 x7
  have hP := hP_A c i u2 z2 u3 z3 u6 z6 u8 z8 u9 z9 x0 x1 x2 x3 x4 x5 x6 x7 nb hnb
  unfold kernelRun0_A
  dsimp only
  refine (read_slab u17.view _ nb _ (by rw [hnb]; exact k0_off11_eq i) _ _ _ j x s).trans ?_
  by_cases h : j = nb
  · rw [if_pos h]
    subst h
    refine (pay50_at _ _ _ _ _ _ _ _ x s).trans (congrArg₂ _ ?_ ?_)
    · unfold kernelRun0_A.sl.v97
      refine (readAt_slab u17.view _ j _ (by rw [hnb]; exact k0_off11_eq i) _ x s).trans ?_
      refine ((read_nil_app _ _ _ _ _ (pb2_nil _ (trips2_eq i)).2.2.1 _).trans (((loop_reads_at _ hq hg hqt hgt hl hdl hk hv hcq hck (n := (i 1).val) rfl (trips_eq i)).2.2.1 j x s).trans (congrArg₂ _ ((read_whole u17.view _ ![0, 0, 0] (by decide) _ _ [] _).trans (pay30_at j x s)) rfl))).trans ?_
      rw [if_neg (by omega), add_zero]
    · simp only [hgt, hP]; rfl
  · rw [if_neg h]
    refine ((read_nil_app _ _ _ _ _ (pb2_nil _ (trips2_eq i)).2.2.1 _).trans (((loop_reads_at _ hq hg hqt hgt hl hdl hk hv hcq hck (n := (i 1).val) rfl (trips_eq i)).2.2.1 j x s).trans (congrArg₂ _ ((read_whole u17.view _ ![0, 0, 0] (by decide) _ _ [] _).trans (pay30_at j x s)) rfl))).trans ?_
    rw [Pt.tv_ne _ _ j (fun h1 => h (Fin.ext (h1.trans hnb.symm)))]

set_option maxHeartbeats 2000000 in
theorem s3_A (s : Fin 512) :
    u18.view.read (Elt Ideal) (u18.view.writes (Elt Ideal) u18.view.junk (kernelRun0_A (F := Ideal) c i u2 z2 u3 z3 u4 z4 u5 z5 u6 z6 u7 z7 u8 z8 u9 z9 u10 z10 u11 z11 u12 z12 u13 z13 u14 z14 u15 z15 u16 z16 u17 z17 u18 z18 u19 z19 hc0 hc1 x0 x1 x2 x3 x4 x5 x6 x7).2.2.2.2.2.2.2.1) (ix3 j 0 s) = 0 + Pt.ts ((ptOf x0 x1 x2 x3 x4 x5 x6 x7).Z (i 1).val j) s := by
  obtain ⟨hq, hg, hqt, hgt, hl, hdl, hk, hv, hcq, hck⟩ := hyps_A c u2 z2 u3 z3 u4 z4 u5 z5 u6 z6 u7 z7 u8 z8 u9 z9 x0 x1 x2 x3 x4 x5 x6 x7
  have hZ := hZ_A c i u2 z2 u3 z3 u4 z4 u5 z5 u6 z6 u7 z7 u8 z8 u9 z9 x0 x1 x2 x3 x4 x5 x6 x7 nb hnb
  unfold kernelRun0_A
  dsimp only
  refine (read_slab u18.view _ nb _ (by rw [hnb]; exact k0_off12_eq i) _ _ _ j 0 s).trans ?_
  by_cases h : j = nb
  · rw [if_pos h]
    subst h
    refine (pay52_at _ _ s).trans (congrArg₂ _ ?_ ?_)
    · unfold kernelRun0_A.sl.v113
      refine (readAt_slab u18.view _ j _ (by rw [hnb]; exact k0_off12_eq i) _ 0 s).trans ?_
      refine ((read_nil_app _ _ _ _ _ (pb2_nil _ (trips2_eq i)).2.2.2.1 _).trans (((loop_reads_at _ hq hg hqt hgt hl hdl hk hv hcq hck (n := (i 1).val) rfl (trips_eq i)).2.2.2.1 j s).trans (congrArg₂ _ ((read_whole u18.view _ ![0, 0, 0] (by decide) _ _ [] _).trans (pay31_at j s)) rfl))).trans ?_
      rw [if_neg (by omega), add_zero]
    · simp only [hZ]; rfl
  · rw [if_neg h]
    refine ((read_nil_app _ _ _ _ _ (pb2_nil _ (trips2_eq i)).2.2.2.1 _).trans (((loop_reads_at _ hq hg hqt hgt hl hdl hk hv hcq hck (n := (i 1).val) rfl (trips_eq i)).2.2.2.1 j s).trans (congrArg₂ _ ((read_whole u18.view _ ![0, 0, 0] (by decide) _ _ [] _).trans (pay31_at j s)) rfl))).trans ?_
    rw [Pt.ts_ne _ _ j (fun h1 => h (Fin.ext (h1.trans hnb.symm)))]

end

set_option maxHeartbeats 2000000 in
theorem dq_A (x0 : Vec Ideal S512x128 .bf16) (x1 : Vec Ideal S4096x128 .bf16) (x2 : Vec Ideal S4096x128 .bf16) (x3 : Vec Ideal S512x128 .bf16) (x4 : Vec Ideal S1x512x1 .f32) (x5 : Vec Ideal S1x512x1 .f32) (x6 : Vec Ideal S1x512x1 .f32) (x7 : Vec Ideal S1x8x1x512 .f32) (nb : Fin 8) (hnb : nb.val = (i 1).val) (r : Fin 512) (x : Fin 128) :
    (kernelRun0_A.sl.v147 (F := Ideal) c i u2 z2 u3 z3 u4 z4 u5 z5 u6 z6 u7 z7 u8 z8 u9 z9 u10 z10 u11 z11 u12 z12 u13 z13 u14 z14 u15 z15 u16 z16 u17 z17 u18 z18 u19 z19 x0 x1 x2 x3 x4 x5 x6 x7) (ix2 r x) = ∑ j, (ptOf x0 x1 x2 x3 x4 x5 x6 x7).tq ((ptOf x0 x1 x2 x3 x4 x5 x6 x7).Z (i 1).val j) j r x := by
  obtain ⟨hq, hg, hqt, hgt, hl, hdl, hk, hv, hcq, hck⟩ := hyps_A c u2 z2 u3 z3 u4 z4 u5 z5 u6 z6 u7 z7 u8 z8 u9 z9 x0 x1 x2 x3 x4 x5 x6 x7
  have hZ := hZ_A c i u2 z2 u3 z3 u4 z4 u5 z5 u6 z6 u7 z7 u8 z8 u9 z9 x0 x1 x2 x3 x4 x5 x6 x7 nb hnb
  have e1 : ∀ s x, (kernelRun0_A.sl.r_6 (F := Ideal) i u3 z3 x1) (ix2 s x) = (ptOf x0 x1 x2 x3 x4 x5 x6 x7).k (key nb s) x := fun s x => by
    unfold kernelRun0_A.sl.r_6
    exact (readAt_rows u3.view _ (512 * nb.val) _ (by rw [hnb]; exact k0_off9_eq i) _ s x (key nb s) rfl).trans (congrFun (z3.read_unread x1) _)
  unfold kernelRun0_A.sl.v147 View.readCov
  refine (readAt_whole u15.view _ ![0, 0] (by decide) _ (ix2 r x)).trans ?_
  unfold kernelRun0_A.sl.HS0_1_1
  refine (read_whole u15.view _ ![0, 0] (by decide) _ _ _ (ix2 r x)).trans ?_
  refine (pay56_at _ _ _ r x).trans ?_
  rw [← Pt.tq_total _ _ nb hnb]
  refine congrArg₂ _ ?_ ?_
  · unfold kernelRun0_A.sl.v141 View.readCov
    refine (readAt_whole u15.view _ ![0, 0] (by decide) _ (ix2 r x)).trans ?_
    refine (read_nil_app _ _ _ _ _ (pb2_nil _ (trips2_eq i)).1 _).trans (((loop_reads_at _ hq hg hqt hgt hl hdl hk hv hcq hck (n := (i 1).val) rfl (trips_eq i)).1 r x).trans ?_)
    unfold kernelRun0_A.sl.HS0_1
    refine (congrArg₂ _ ((read_whole u15.view _ ![0, 0] (by decide) _ _ [] (ix2 r x)).trans (pay36_at r x)) rfl).trans (zero_add _)
  · simp only [hZ, e1]
    rfl

set_option maxHeartbeats 2000000 in
theorem dr_A (x0 : Vec Ideal S512x128 .bf16) (x1 : Vec Ideal S4096x128 .bf16) (x2 : Vec Ideal S4096x128 .bf16) (x3 : Vec Ideal S512x128 .bf16) (x4 : Vec Ideal S1x512x1 .f32) (x5 : Vec Ideal S1x512x1 .f32) (x6 : Vec Ideal S1x512x1 .f32) (x7 : Vec Ideal S1x8x1x512 .f32) (nb : Fin 8) (hnb : nb.val = (i 1).val) (r : Fin 512) :
    (kernelRun0_A.sl.v150 (F := Ideal) c i u2 z2 u3 z3 u4 z4 u5 z5 u6 z6 u7 z7 u8 z8 u9 z9 u10 z10 u11 z11 u12 z12 u13 z13 u14 z14 u15 z15 u16 z16 u17 z17 u18 z18 u19 z19 x0 x1 x2 x3 x4 x5 x6 x7) (ix2 r 0) = ∑ j, Pt.tr ((ptOf x0 x1 x2 x3 x4 x5 x6 x7).Z (i 1).val j) r := by
  obtain ⟨hq, hg, hqt, hgt, hl, hdl, hk, hv, hcq, hck⟩ := hyps_A c u2 z2 u3 z3 u4 z4 u5 z5 u6 z6 u7 z7 u8 z8 u9 z9 x0 x1 x2 x3 x4 x5 x6 x7
  have hZ := hZ_A c i u2 z2 u3 z3 u4 z4 u5 z5 u6 z6 u7 z7 u8 z8 u9 z9 x0 x1 x2 x3 x4 x5 x6 x7 nb hnb
  unfold kernelRun0_A.sl.v150 View.readCov
  refine (readAt_whole u19.view _ ![0, 0] (by decide) _ (ix2 r 0)).trans ?_
  unfold kernelRun0_A.sl.HS4_1_1
  refine (read_whole u19.view _ ![0, 0] (by decide) _ _ _ (ix2 r 0)).trans ?_
  refine (pay53_at _ _ r).trans ?_
  rw [← Pt.tr_total _ _ nb hnb]
  refine congrArg₂ _ ?_ ?_
  · unfold kernelRun0_A.sl.v122 View.readCov
    refine (readAt_whole u19.view _ ![0, 0] (by decide) _ (ix2 r 0)).trans ?_
    refine (read_nil_app _ _ _ _ _ (pb2_nil _ (trips2_eq i)).2.2.2.2 _).trans (((loop_reads_at _ hq hg hqt hgt hl hdl hk hv hcq hck (n := (i 1).val) rfl (trips_eq i)).2.2.2.2 r).trans ?_)
    unfold kernelRun0_A.sl.HS4_1
    refine (congrArg₂ _ ((read_whole u19.view _ ![0, 0] (by decide) _ _ [] (ix2 r 0)).trans (pay37_at r)) rfl).trans (zero_add _)
  · simp only [hZ]
    rfl

theorem o8_A (hc0 : cond0_0 i) (hc1 : ¬cond0_1 i) (x0 : Vec Ideal S512x128 .bf16) (x1 : Vec Ideal S4096x128 .bf16) (x2 : Vec Ideal S4096x128 .bf16) (x3 : Vec Ideal S512x128 .bf16) (x4 : Vec Ideal S1x512x1 .f32) (x5 : Vec Ideal S1x512x1 .f32) (x6 : Vec Ideal S1x512x1 .f32) (x7 : Vec Ideal S1x8x1x512 .f32) (nb : Fin 8) (hnb : nb.val = (i 1).val) (v : View sig .tc .vmem S512x128 .bf16) (f : v.ty.Contents (Elt Ideal)) (r : Fin 512) (x : Fin 128) :
    v.read (Elt Ideal) (v.writes (Elt Ideal) f (kernelRun0_A (F := Ideal) c i u2 z2 u3 z3 u4 z4 u5 z5 u6 z6 u7 z7 u8 z8 u9 z9 u10 z10 u11 z11 u12 z12 u13 z13 u14 z14 u15 z15 u16 z16 u17 z17 u18 z18 u19 z19 hc0 hc1 x0 x1 x2 x3 x4 x5 x6 x7).1) (ix2 r x) = ∑ j, (ptOf x0 x1 x2 x3 x4 x5 x6 x7).tq ((ptOf x0 x1 x2 x3 x4 x5 x6 x7).Z (i 1).val j) j r x := by
  unfold kernelRun0_A
  dsimp only
  refine (read_whole v f ![0, 0] (by decide) _ _ [] (ix2 r x)).trans ((pay1_at _ r x).trans ?_)
  exact dq_A (nb := nb) (hnb := hnb) ..

theorem o12_A (hc0 : cond0_0 i) (hc1 : ¬cond0_1 i) (x0 : Vec Ideal S512x128 .bf16) (x1 : Vec Ideal S4096x128 .bf16) (x2 : Vec Ideal S4096x128 .bf16) (x3 : Vec Ideal S512x128 .bf16) (x4 : Vec Ideal S1x512x1 .f32) (x5 : Vec Ideal S1x512x1 .f32) (x6 : Vec Ideal S1x512x1 .f32) (x7 : Vec Ideal S1x8x1x512 .f32) (nb : Fin 8) (hnb : nb.val = (i 1).val) (v : View sig .tc .vmem S1x512x1 .f32) (f : v.ty.Contents (Elt Ideal)) (r : Fin 512) :
    v.read (Elt Ideal) (v.writes (Elt Ideal) f (kernelRun0_A (F := Ideal) c i u2 z2 u3 z3 u4 z4 u5 z5 u6 z6 u7 z7 u8 z8 u9 z9 u10 z10 u11 z11 u12 z12 u13 z13 u14 z14 u15 z15 u16 z16 u17 z17 u18 z18 u19 z19 hc0 hc1 x0 x1 x2 x3 x4 x5 x6 x7).2.2.2.2.1) (ix3 0 r 0) = ∑ j, Pt.tr ((ptOf x0 x1 x2 x3 x4 x5 x6 x7).Z (i 1).val j) r := by
  unfold kernelRun0_A
  dsimp only
  refine (read_whole v f ![0, 0, 0] (by decide) _ _ [] (ix3 0 r 0)).trans ((pay2_at _ r).trans ?_)
  exact dr_A (nb := nb) (hnb := hnb) ..

end

end Cert.KernelIdeal.Bwd

end
-- ==== Proof.CaseB.lean ====
module

public import proofs.«01_k».proof.Proof.Gen.KernelIdeal.Frame.RunC
public import proofs.«01_k».proof.Proof.Step
public import proofs.«01_k».proof.Proof.CaseA

@[expose] public section

set_option maxRecDepth 16384

noncomputable section

namespace Cert.KernelIdeal.Bwd

open Idealize.ShloMosaic Cert.KernelIdeal Cert.KernelIdeal.Gen Cert.Slab

section
variable (c : Dev nD) (i : grid0.Coords) (u2 : Memref sig .tc .vmem S512x128 .bf16) (z2 : u2.IsWhole) (u3 : Memref sig .tc .vmem S4096x128 .bf16) (z3 : u3.IsWhole) (u4 : Memref sig .tc .vmem S4096x128 .bf16) (z4 : u4.IsWhole) (u5 : Memref sig .tc .vmem S512x128 .bf16) (z5 : u5.IsWhole) (u6 : Memref sig .tc .vmem S1x512x1 .f32) (z6 : u6.IsWhole) (u7 : Memref sig .tc .vmem S1x512x1 .f32) (z7 : u7.IsWhole) (u8 : Memref sig .tc .vmem S1x512x1 .f32) (z8 : u8.IsWhole) (u9 : Memref sig .tc .vmem S1x8x1x512 .f32) (z9 : u9.IsWhole) (u10 : Memref sig .tc .vmem S512x128 .bf16) (z10 : u10.IsWhole) (u11 : Memref sig .tc .vmem S4096x128 .bf16) (z11 : u11.IsWhole) (u12 : Memref sig .tc .vmem S4096x128 .bf16) (z12 : u12.IsWhole) (u13 : Memref sig .tc .vmem S1x8x1x512 .f32) (z13 : u13.IsWhole) (u14 : Memref sig .tc .vmem S1x512x1 .f32) (z14 : u14.IsWhole) (u15 : Memref sig .tc .vmem S512x128 .f32) (z15 : u15.IsWhole) (u16 : Memref sig .tc .vmem S8x128x512 .f32) (z16 : u16.IsWhole) (u17 : Memref sig .tc .vmem S8x128x512 .f32) (z17 : u17.IsWhole) (u18 : Memref sig .tc .vmem S8x1x512 .f32) (z18 : u18.IsWhole) (u19 : Memref sig .tc .vmem S512x1 .f32) (z19 : u19.IsWhole) (x0 : Vec Ideal S512x128 .bf16) (x1 : Vec Ideal S4096x128 .bf16) (x2 : Vec Ideal S4096x128 .bf16) (x3 : Vec Ideal S512x128 .bf16) (x4 : Vec Ideal S1x512x1 .f32) (x5 : Vec Ideal S1x512x1 .f32) (x6 : Vec Ideal S1x512x1 .f32) (x7 : Vec Ideal S1x8x1x512 .f32) (xs1 : Vec Ideal S8x128x512 .f32) (xs2 : Vec Ideal S8x128x512 .f32) (xs3 : Vec Ideal S8x1x512 .f32)

theorem hq_B (r : Fin 512) (x : Fin 128) : (kernelRun0_B.sl.r (F := Ideal) c u2 z2 x0) (ix2 r x) = (ptOf x0 x1 x2 x3 x4 x5 x6 x7).q r x := by
  unfold kernelRun0_B.sl.r
  exact (readAt_whole u2.view _ ![0, 0] (by decide) _ (ix2 r x)).trans (congrFun (z2.read_unread x0) _)

theorem hg_B (r : Fin 512) (x : Fin 128) : (kernelRun0_B.sl.r_1 (F := Ideal) c u5 z5 x3) (ix2 r x) = (ptOf x0 x1 x2 x3 x4 x5 x6 x7).g r x := by
  unfold kernelRun0_B.sl.r_1
  exact (readAt_whole u5.view _ ![0, 0] (by decide) _ (ix2 r x)).trans (congrFun (z5.read_unread x3) _)

theorem hqt_B (x : Fin 128) (r : Fin 512) : (kernelRun0_B.sl.r_2 (F := Ideal) c u2 z2 x0) (ix2 x r) = (ptOf x0 x1 x2 x3 x4 x5 x6 x7).q r x := by
  unfold kernelRun0_B.sl.r_2
  exact (pay32_at _ x r).trans ((readAt_whole u2.view _ ![0, 0] (by decide) _ (ix2 r x)).trans (congrFun (z2.read_unread x0) _))

theorem hgt_B (x : Fin 128) (r : Fin 512) : (kernelRun0_B.sl.r_3 (F := Ideal) c u5 z5 x3) (ix2 x r) = (ptOf x0 x1 x2 x3 x4 x5 x6 x7).g r x := by
  unfold kernelRun0_B.sl.r_3
  exact (pay33_at _ x r).trans ((readAt_whole u5.view _ ![0, 0] (by decide) _ (ix2 r x)).trans (congrFun (z5.read_unread x3) _))

theorem hl_B (r : Fin 512) : (kernelRun0_B.sl.r_4 (F := Ideal) c u6 z6 x4) (ix2 r 0) = (ptOf x0 x1 x2 x3 x4 x5 x6 x7).l r := by
  unfold kernelRun0_B.sl.r_4
  exact (pay34_at _ r).trans ((readAt_whole u6.view _ ![0, 0, 0] (by decide) _ (ix3 0 r 0)).trans (congrFun (z6.read_unread x4) _))

theorem hdl_B (r : Fin 512) : (kernelRun0_B.sl.r_5 (F := Ideal) c u7 z7 x5) (ix2 r 0) = (ptOf x0 x1 x2 x3 x4 x5 x6 x7).dl r := by
  unfold kernelRun0_B.sl.r_5
  exact (pay35_at _ r).trans ((readAt_whole u7.view _ ![0, 0, 0] (by decide) _ (ix3 0 r 0)).trans (congrFun (z7.read_unread x5) _))

theorem hyps_B :
    (∀ (r : Fin 512) (x : Fin 128), (kernelRun0_B.sl.r (F := Ideal) c u2 z2 x0) (ix2 r x) = (ptOf x0 x1 x2 x3 x4 x5 x6 x7).q r x)
    ∧ (∀ (r : Fin 512) (x : Fin 128), (kernelRun0_B.sl.r_1 (F := Ideal) c u5 z5 x3) (ix2 r x) = (ptOf x0 x1 x2 x3 x4 x5 x6 x7).g r x)
    ∧ (∀ (x : Fin 128) (r : Fin 512), (kernelRun0_B.sl.r_2 (F := Ideal) c u2 z2 x0) (ix2 x r) = (ptOf x0 x1 x2 x3 x4 x5 x6 x7).q r x)
    ∧ (∀ (x : Fin 128) (r : Fin 512), (kernelRun0_B.sl.r_3 (F := Ideal) c u5 z5 x3) (ix2 x r) = (ptOf x0 x1 x2 x3 x4 x5 x6 x7).g r x)
    ∧ (∀ (r : Fin 512), (kernelRun0_B.sl.r_4 (F := Ideal) c u6 z6 x4) (ix2 r 0) = (ptOf x0 x1 x2 x3 x4 x5 x6 x7).l r)
    ∧ (∀ (r : Fin 512), (kernelRun0_B.sl.r_5 (F := Ideal) c u7 z7 x5) (ix2 r 0) = (ptOf x0 x1 x2 x3 x4 x5 x6 x7).dl r)
    ∧ (∀ r x, u3.view.read (Elt Ideal) (z3.unread x1) (ix2 r x) = (ptOf x0 x1 x2 x3 x4 x5 x6 x7).k r x)
    ∧ (∀ r x, u4.view.read (Elt Ideal) (z4.unread x2) (ix2 r x) = (ptOf x0 x1 x2 x3 x4 x5 x6 x7).v r x)
    ∧ (∀ r, u8.view.read (Elt Ideal) (z8.unread x6) (ix3 0 r 0) = (ptOf x0 x1 x2 x3 x4 x5 x6 x7).cq r)
    ∧ (∀ j s, u9.view.read (Elt Ideal) (z9.unread x7) (ix4 0 j 0 s) = (ptOf x0 x1 x2 x3 x4 x5 x6 x7).ck j s) :=
  ⟨hq_B c u2 z2 x0 x1 x2 x3 x4 x5 x6 x7,
   hg_B c u5 z5 x0 x1 x2 x3 x4 x5 x6 x7,
   hqt_B c u2 z2 x0 x1 x2 x3 x4 x5 x6 x7,
   hgt_B c u5 z5 x0 x1 x2 x3 x4 x5 x6 x7,
   hl_B c u6 z6 x0 x1 x2 x3 x4 x5 x6 x7,
   hdl_B c u7 z7 x0 x1 x2 x3 x4 x5 x6 x7,
   fun r x => congrFun (z3.read_unread (Val := Elt Ideal) x1) _,
   fun r x => congrFun (z4.read_unread (Val := Elt Ideal) x2) _,
   fun r => congrFun (z8.read_unread (Val := Elt Ideal) x6) _,
   fun j s => congrFun (z9.read_unread (Val := Elt Ideal) x7) _⟩

theorem v61_B : (kernelRun0_B.sl.v61 i) = BitVec.ofNat 32 (i 1).val := by
  revert i
  decide +kernel

section
variable (nb : Fin 8) (hnb : nb.val = (i 1).val)
include hnb

theorem hP_B (r s : Fin 512) :
    k0_pay49 (BitVec.ofNat 32 (i 1).val) (kernelRun0_B.sl.r_4 (F := Ideal) c u6 z6 x4) (kernelRun0_B.sl.v61 i) (kernelRun0_B.sl.r_7 (F := Ideal) c i u2 z2 u3 z3 x0 x1)
      (View.readAt (Elt Ideal) u8.view (Rect.unit (s := S1x512x1) ![0, 0, 0] ![1, 512, 1] inb_S1x512x1_S1x512x1_0_0_0).toLoadRect (z8.unread x6))
      (View.readAt (Elt Ideal) u9.view (Rect.unit (s := S1x8x1x512) (k0_off10 i) ![1, 1, 1, 512] (k0_off10_inb i)).toLoadRect (z9.unread x7)) (ix2 r s)
      = (ptOf x0 x1 x2 x3 x4 x5 x6 x7).M (i 1).val nb r s := by
  unfold kernelRun0_B.sl.r_7
  refine (pay49_at nb.val nb.isLt _ _ (by rw [hnb]) (by rw [hnb]; exact v61_B i) _ _ _ _ _ r s).trans ?_
  rw [Pt.M_eq _ _ _ hnb]
  refine if_congr Iff.rfl ?_ rfl
  refine (pay4_at _ _ _ _ _ r s).trans ?_
  have e1 : ∀ x, View.readAt (Elt Ideal) u3.view (Rect.unit (s := S4096x128) (k0_off9 i) ![512, 128] (k0_off9_inb i)).toLoadRect (z3.unread x1) (ix2 s x) = (ptOf x0 x1 x2 x3 x4 x5 x6 x7).k (key nb s) x := fun x =>
    (readAt_rows u3.view _ (512 * nb.val) _ (by rw [hnb]; exact k0_off9_eq i) _ s x (key nb s) rfl).trans (congrFun (z3.read_unread x1) _)
  have e2 : View.readAt (Elt Ideal) u8.view (Rect.unit (s := S1x512x1) ![0, 0, 0] ![1, 512, 1] inb_S1x512x1_S1x512x1_0_0_0).toLoadRect (z8.unread x6) (ix3 0 r 0) = (ptOf x0 x1 x2 x3 x4 x5 x6 x7).cq r :=
    (readAt_whole u8.view _ ![0, 0, 0] (by decide) _ (ix3 0 r 0)).trans (congrFun (z8.read_unread x6) _)
  have e3 : View.readAt (Elt Ideal) u9.view (Rect.unit (s := S1x8x1x512) (k0_off10 i) ![1, 1, 1, 512] (k0_off10_inb i)).toLoadRect (z9.unread x7) (ix4 0 0 0 s) = (ptOf x0 x1 x2 x3 x4 x5 x6 x7).ck nb s :=
    (readAt_slab4 u9.view _ nb _ (by rw [hnb]; exact k0_off10_eq i) _ 0 0 s).trans (congrFun (z9.read_unread x7) _)
  rw [e2, e3, hl_B]
  simp only [hq_B c u2 z2 x0 x1 x2 x3 x4 x5 x6 x7, e1]
  rfl

theorem hZ_B (r s : Fin 512) : (kernelRun0_B.sl.r_8 (F := Ideal) c i u2 z2 u3 z3 u4 z4 u5 z5 u6 z6 u7 z7 u8 z8 u9 z9 x0 x1 x2 x3 x4 x5 x6 x7) (ix2 r s) = (ptOf x0 x1 x2 x3 x4 x5 x6 x7).Z (i 1).val nb r s := by
  unfold kernelRun0_B.sl.r_8
  refine (pay51_at _ _ _ _ _ _ _ _ _ r s).trans ?_
  have e1 : ∀ x, View.readAt (Elt Ideal) u4.view (Rect.unit (s := S4096x128) (k0_off9 i) ![512, 128] (k0_off9_inb i)).toLoadRect (z4.unread x2) (ix2 s x) = (ptOf x0 x1 x2 x3 x4 x5 x6 x7).v (key nb s) x := fun x =>
    (readAt_rows u4.view _ (512 * nb.val) _ (by rw [hnb]; exact k0_off9_eq i) _ s x (key nb s) rfl).trans (congrFun (z4.read_unread x2) _)
  refine congrArg₂ _ (hP_B (nb := nb) (hnb := hnb) ..) ?_
  rw [hdl_B]
  simp only [hg_B c u5 z5 x0 x1 x2 x3 x4 x5 x6 x7, e1]
  rfl

end
end

section
variable (c : Dev nD) (i : grid0.Coords) (u2 : Memref sig .tc .vmem S512x128 .bf16) (z2 : u2.IsWhole) (u3 : Memref sig .tc .vmem S4096x128 .bf16) (z3 : u3.IsWhole) (u4 : Memref sig .tc .vmem S4096x128 .bf16) (z4 : u4.IsWhole) (u5 : Memref sig .tc .vmem S512x128 .bf16) (z5 : u5.IsWhole) (u6 : Memref sig .tc .vmem S1x512x1 .f32) (z6 : u6.IsWhole) (u7 : Memref sig .tc .vmem S1x512x1 .f32) (z7 : u7.IsWhole) (u8 : Memref sig .tc .vmem S1x512x1 .f32) (z8 : u8.IsWhole) (u9 : Memref sig .tc .vmem S1x8x1x512 .f32) (z9 : u9.IsWhole) (u10 : Memref sig .tc .vmem S512x128 .bf16) (z10 : u10.IsWhole) (u11 : Memref sig .tc .vmem S4096x128 .bf16) (z11 : u11.IsWhole) (u12 : Memref sig .tc .vmem S4096x128 .bf16) (z12 : u12.IsWhole) (u13 : Memref sig .tc .vmem S1x8x1x512 .f32) (z13 : u13.IsWhole) (u14 : Memref sig .tc .vmem S1x512x1 .f32) (z14 : u14.IsWhole) (u15 : Memref sig .tc .vmem S512x128 .f32) (z15 : u15.IsWhole) (u16 : Memref sig .tc .vmem S8x128x512 .f32) (z16 : u16.IsWhole) (u17 : Memref sig .tc .vmem S8x128x512 .f32) (z17 : u17.IsWhole) (u18 : Memref sig .tc .vmem S8x1x512 .f32) (z18 : u18.IsWhole) (u19 : Memref sig .tc .vmem S512x1 .f32) (z19 : u19.IsWhole)
include c i u2 z2 u3 z3 u4 z4 u5 z5 u6 z6 u7 z7 u8 z8 u9 z9 u10 z10 u11 z11 u12 z12 u13 z13 u14 z14 u15 z15 u16 z16 u17 z17 u18 z18 u19 z19

section
variable (hc0 : ¬cond0_0 i) (hc1 : ¬cond0_1 i) (x0 : Vec Ideal S512x128 .bf16) (x1 : Vec Ideal S4096x128 .bf16) (x2 : Vec Ideal S4096x128 .bf16) (x3 : Vec Ideal S512x128 .bf16) (x4 : Vec Ideal S1x512x1 .f32) (x5 : Vec Ideal S1x512x1 .f32) (x6 : Vec Ideal S1x512x1 .f32) (x7 : Vec Ideal S1x8x1x512 .f32) (xs1 : Vec Ideal S8x128x512 .f32) (xs2 : Vec Ideal S8x128x512 .f32) (xs3 : Vec Ideal S8x1x512 .f32) (nb : Fin 8) (hnb : nb.val = (i 1).val) (j : Fin 8)
include hc0 hc1 x0 x1 x2 x3 x4 x5 x6 x7 xs1 xs2 xs3 nb hnb j

set_option maxHeartbeats 2000000 in
theorem s1_B (x : Fin 128) (s : Fin 512) :
    u16.view.read (Elt Ideal) (u16.view.writes (Elt Ideal) (z16.unread xs1) (kernelRun0_B (F := Ideal) c i u2 z2 u3 z3 u4 z4 u5 z5 u6 z6 u7 z7 u8 z8 u9 z9 u10 z10 u11 z11 u12 z12 u13 z13 u14 z14 u15 z15 u16 z16 u17 z17 u18 z18 u19 z19 hc0 hc1 x0 x1 x2 x3 x4 x5 x6 x7 xs1 xs2 xs3).2.2.2.2.2.1) (ix3 j x s) = xs1 (ix3 j x s) + (ptOf x0 x1 x2 x3 x4 x5 x6 x7).tk ((ptOf x0 x1 x2 x3 x4 x5 x6 x7).Z (i 1).val j) x s := by
  obtain ⟨hq, hg, hqt, hgt, hl, hdl, hk, hv, hcq, hck⟩ := hyps_B c u2 z2 u3 z3 u4 z4 u5 z5 u6 z6 u7 z7 u8 z8 u9 z9 x0 x1 x2 x3 x4 x5 x6 x7
  have hZ := hZ_B c i u2 z2 u3 z3 u4 z4 u5 z5 u6 z6 u7 z7 u8 z8 u9 z9 x0 x1 x2 x3 x4 x5 x6 x7 nb hnb
  unfold kernelRun0_B
  dsimp only
  refine (read_slab u16.view _ nb _ (by rw [hnb]; exact k0_off11_eq i) _ _ _ j x s).trans ?_
  by_cases h : j = nb
  · rw [if_pos h]
    subst h
    refine (pay55_at _ _ _ x s).trans (congrArg₂ _ ?_ ?_)
    · unfold kernelRun0_B.sl.v133
      refine (readAt_slab u16.view _ j _ (by rw [hnb]; exact k0_off11_eq i) _ x s).trans ?_
      refine ((read_nil_app' _ _ _ _ (pb2_nil _ (trips2_eq i)).2.1 _).trans (((loop_reads_at _ hq hg hqt hgt hl hdl hk hv hcq hck (n := (i 1).val) rfl (trips_eq i)).2.1 j x s).trans (congrArg₂ _ (congrFun (z16.read_unread (Val := Elt Ideal) xs1) _) rfl))).trans ?_
      rw [if_neg (by omega), add_zero]
    · simp only [hqt, hZ]; rfl
  · rw [if_neg h]
    refine ((read_nil_app' _ _ _ _ (pb2_nil _ (trips2_eq i)).2.1 _).trans (((loop_reads_at _ hq hg hqt hgt hl hdl hk hv hcq hck (n := (i 1).val) rfl (trips_eq i)).2.1 j x s).trans (congrArg₂ _ (congrFun (z16.read_unread (Val := Elt Ideal) xs1) _) rfl))).trans ?_
    rw [Pt.tk_ne _ _ j (fun h1 => h (Fin.ext (h1.trans hnb.symm)))]

set_option maxHeartbeats 2000000 in
theorem s2_B (x : Fin 128) (s : Fin 512) :
    u17.view.read (Elt Ideal) (u17.view.writes (Elt Ideal) (z17.unread xs2) (kernelRun0_B (F := Ideal) c i u2 z2 u3 z3 u4 z4 u5 z5 u6 z6 u7 z7 u8 z8 u9 z9 u10 z10 u11 z11 u12 z12 u13 z13 u14 z14 u15 z15 u16 z16 u17 z17 u18 z18 u19 z19 hc0 hc1 x0 x1 x2 x3 x4 x5 x6 x7 xs1 xs2 xs3).2.2.2.2.2.2.1) (ix3 j x s) = xs2 (ix3 j x s) + (ptOf x0 x1 x2 x3 x4 x5 x6 x7).tv ((ptOf x0 x1 x2 x3 x4 x5 x6 x7).M (i 1).val j) x s := by
  obtain ⟨hq, hg, hqt, hgt, hl, hdl, hk, hv, hcq, hck⟩ := hyps_B c u2 z2 u3 z3 u4 z4 u5 z5 u6 z6 u7 z7 u8 z8 u9 z9 x0 x1 x2 x3 x4 x5 x6 x7
  have hP := hP_B c i u2 z2 u3 z3 u6 z6 u8 z8 u9 z9 x0 x1 x2 x3 x4 x5 x6 x7 nb hnb
  unfold kernelRun0_B
  dsimp only
  refine (read_slab u17.view _ nb _ (by rw [hnb]; exact k0_off11_eq i) _ _ _ j x s).trans ?_
  by_cases h : j = nb
  · rw [if_pos h]
    subst h
    refine (pay50_at _ _ _ _ _ _ _ _ x s).trans (congrArg₂ _ ?_ ?_)
    · unfold kernelRun0_B.sl.v97
      refine (readAt_slab u17.view _ j _ (by rw [hnb]; exact k0_off11_eq i) _ x s).trans ?_
      refine ((read_nil_app' _ _ _ _ (pb2_nil _ (trips2_eq i)).2.2.1 _).trans (((loop_reads_at _ hq hg hqt hgt hl hdl hk hv hcq hck (n := (i 1).val) rfl (trips_eq i)).2.2.1 j x s).trans (congrArg₂ _ (congrFun (z17.read_unread (Val := Elt Ideal) xs2) _) rfl))).trans ?_
      rw [if_neg (by omega), add_zero]
    · simp only [hgt, hP]; rfl
  · rw [if_neg h]
    refine ((read_nil_app' _ _ _ _ (pb2_nil _ (trips2_eq i)).2.2.1 _).trans (((loop_reads_at _ hq hg hqt hgt hl hdl hk hv hcq hck (n := (i 1).val) rfl (trips_eq i)).2.2.1 j x s).trans (congrArg₂ _ (congrFun (z17.read_unread (Val := Elt Ideal) xs2) _) rfl))).trans ?_
    rw [Pt.tv_ne _ _ j (fun h1 => h (Fin.ext (h1.trans hnb.symm)))]

set_option maxHeartbeats 2000000 in
theorem s3_B (s : Fin 512) :
    u18.view.read (Elt Ideal) (u18.view.writes (Elt Ideal) (z18.unread xs3) (kernelRun0_B (F := Ideal) c i u2 z2 u3 z3 u4 z4 u5 z5 u6 z6 u7 z7 u8 z8 u9 z9 u10 z10 u11 z11 u12 z12 u13 z13 u14 z14 u15 z15 u16 z16 u17 z17 u18 z18 u19 z19 hc0 hc1 x0 x1 x2 x3 x4 x5 x6 x7 xs1 xs2 xs3).2.2.2.2.2.2.2.1) (ix3 j 0 s) = xs3 (ix3 j 0 s) + Pt.ts ((ptOf x0 x1 x2 x3 x4 x5 x6 x7).Z (i 1).val j) s := by
  obtain ⟨hq, hg, hqt, hgt, hl, hdl, hk, hv, hcq, hck⟩ := hyps_B c u2 z2 u3 z3 u4 z4 u5 z5 u6 z6 u7 z7 u8 z8 u9 z9 x0 x1 x2 x3 x4 x5 x6 x7
  have hZ := hZ_B c i u2 z2 u3 z3 u4 z4 u5 z5 u6 z6 u7 z7 u8 z8 u9 z9 x0 x1 x2 x3 x4 x5 x6 x7 nb hnb
  unfold kernelRun0_B
  dsimp only
  refine (read_slab u18.view _ nb _ (by rw [hnb]; exact k0_off12_eq i) _ _ _ j 0 s).trans ?_
  by_cases h : j = nb
  · rw [if_pos h]
    subst h
    refine (pay52_at _ _ s).trans (congrArg₂ _ ?_ ?_)
    · unfold kernelRun0_B.sl.v113
      refine (readAt_slab u18.view _ j _ (by rw [hnb]; exact k0_off12_eq i) _ 0 s).trans ?_
      refine ((read_nil_app' _ _ _ _ (pb2_nil _ (trips2_eq i)).2.2.2.1 _).trans (((loop_reads_at _ hq hg hqt hgt hl hdl hk hv hcq hck (n := (i 1).val) rfl (trips_eq i)).2.2.2.1 j s).trans (congrArg₂ _ (congrFun (z18.read_unread (Val := Elt Ideal) xs3) _) rfl))).trans ?_
      rw [if_neg (by omega), add_zero]
    · simp only [hZ]; rfl
  · rw [if_neg h]
    refine ((read_nil_app' _ _ _ _ (pb2_nil _ (trips2_eq i)).2.2.2.1 _).trans (((loop_reads_at _ hq hg hqt hgt hl hdl hk hv hcq hck (n := (i 1).val) rfl (trips_eq i)).2.2.2.1 j s).trans (congrArg₂ _ (congrFun (z18.read_unread (Val := Elt Ideal) xs3) _) rfl))).trans ?_
    rw [Pt.ts_ne _ _ j (fun h1 => h (Fin.ext (h1.trans hnb.symm)))]

end

section
variable (x0 : Vec Ideal S512x128 .bf16) (x1 : Vec Ideal S4096x128 .bf16) (x2 : Vec Ideal S4096x128 .bf16) (x3 : Vec Ideal S512x128 .bf16) (x4 : Vec Ideal S1x512x1 .f32) (x5 : Vec Ideal S1x512x1 .f32) (x6 : Vec Ideal S1x512x1 .f32) (x7 : Vec Ideal S1x8x1x512 .f32) (xs1 : Vec Ideal S8x128x512 .f32) (xs2 : Vec Ideal S8x128x512 .f32) (xs3 : Vec Ideal S8x1x512 .f32) (nb : Fin 8) (hnb : nb.val = (i 1).val) (r : Fin 512)
include x0 x1 x2 x3 x4 x5 x6 x7 xs1 xs2 xs3 nb hnb r

set_option maxHeartbeats 2000000 in
theorem dq_B (x : Fin 128) :
    (kernelRun0_B.sl.v147 (F := Ideal) c i u2 z2 u3 z3 u4 z4 u5 z5 u6 z6 u7 z7 u8 z8 u9 z9 u10 z10 u11 z11 u12 z12 u13 z13 u14 z14 u15 z15 u16 z16 u17 z17 u18 z18 u19 z19 x0 x1 x2 x3 x4 x5 x6 x7 xs1 xs2 xs3) (ix2 r x) = ∑ j, (ptOf x0 x1 x2 x3 x4 x5 x6 x7).tq ((ptOf x0 x1 x2 x3 x4 x5 x6 x7).Z (i 1).val j) j r x := by
  obtain ⟨hq, hg, hqt, hgt, hl, hdl, hk, hv, hcq, hck⟩ := hyps_B c u2 z2 u3 z3 u4 z4 u5 z5 u6 z6 u7 z7 u8 z8 u9 z9 x0 x1 x2 x3 x4 x5 x6 x7
  have hZ := hZ_B c i u2 z2 u3 z3 u4 z4 u5 z5 u6 z6 u7 z7 u8 z8 u9 z9 x0 x1 x2 x3 x4 x5 x6 x7 nb hnb
  have e1 : ∀ s x, (kernelRun0_B.sl.r_6 (F := Ideal) i u3 z3 x1) (ix2 s x) = (ptOf x0 x1 x2 x3 x4 x5 x6 x7).k (key nb s) x := fun s x => by
    unfold kernelRun0_B.sl.r_6
    exact (readAt_rows u3.view _ (512 * nb.val) _ (by rw [hnb]; exact k0_off9_eq i) _ s x (key nb s) rfl).trans (congrFun (z3.read_unread x1) _)
  unfold kernelRun0_B.sl.v147 View.readCov
  refine (readAt_whole u15.view _ ![0, 0] (by decide) _ (ix2 r x)).trans ?_
  unfold kernelRun0_B.sl.HS0_1_1
  refine (read_whole u15.view _ ![0, 0] (by decide) _ _ _ (ix2 r x)).trans ?_
  refine (pay56_at _ _ _ r x).trans ?_
  rw [← Pt.tq_total _ _ nb hnb]
  refine congrArg₂ _ ?_ ?_
  · unfold kernelRun0_B.sl.v141 View.readCov
    refine (readAt_whole u15.view _ ![0, 0] (by decide) _ (ix2 r x)).trans ?_
    refine (read_nil_app _ _ _ _ _ (pb2_nil _ (trips2_eq i)).1 _).trans (((loop_reads_at _ hq hg hqt hgt hl hdl hk hv hcq hck (n := (i 1).val) rfl (trips_eq i)).1 r x).trans ?_)
    unfold kernelRun0_B.sl.HS0_1
    refine (congrArg₂ _ ((read_whole u15.view _ ![0, 0] (by decide) _ _ [] (ix2 r x)).trans (pay36_at r x)) rfl).trans (zero_add _)
  · simp only [hZ, e1]
    rfl

set_option maxHeartbeats 2000000 in
theorem dr_B :
    (kernelRun0_B.sl.v150 (F := Ideal) c i u2 z2 u3 z3 u4 z4 u5 z5 u6 z6 u7 z7 u8 z8 u9 z9 u10 z10 u11 z11 u12 z12 u13 z13 u14 z14 u15 z15 u16 z16 u17 z17 u18 z18 u19 z19 x0 x1 x2 x3 x4 x5 x6 x7 xs1 xs2 xs3) (ix2 r 0) = ∑ j, Pt.tr ((ptOf x0 x1 x2 x3 x4 x5 x6 x7).Z (i 1).val j) r := by
  obtain ⟨hq, hg, hqt, hgt, hl, hdl, hk, hv, hcq, hck⟩ := hyps_B c u2 z2 u3 z3 u4 z4 u5 z5 u6 z6 u7 z7 u8 z8 u9 z9 x0 x1 x2 x3 x4 x5 x6 x7
  have hZ := hZ_B c i u2 z2 u3 z3 u4 z4 u5 z5 u6 z6 u7 z7 u8 z8 u9 z9 x0 x1 x2 x3 x4 x5 x6 x7 nb hnb
  unfold kernelRun0_B.sl.v150 View.readCov
  refine (readAt_whole u19.view _ ![0, 0] (by decide) _ (ix2 r 0)).trans ?_
  unfold kernelRun0_B.sl.HS4_1_1
  refine (read_whole u19.view _ ![0, 0] (by decide) _ _ _ (ix2 r 0)).trans ?_
  refine (pay53_at _ _ r).trans ?_
  rw [← Pt.tr_total _ _ nb hnb]
  refine congrArg₂ _ ?_ ?_
  · unfold kernelRun0_B.sl.v122 View.readCov
    refine (readAt_whole u19.view _ ![0, 0] (by decide) _ (ix2 r 0)).trans ?_
    refine (read_nil_app _ _ _ _ _ (pb2_nil _ (trips2_eq i)).2.2.2.2 _).trans (((loop_reads_at _ hq hg hqt hgt hl hdl hk hv hcq hck (n := (i 1).val) rfl (trips_eq i)).2.2.2.2 r).trans ?_)
    unfold kernelRun0_B.sl.HS4_1
    refine (congrArg₂ _ ((read_whole u19.view _ ![0, 0] (by decide) _ _ [] (ix2 r 0)).trans (pay37_at r)) rfl).trans (zero_add _)
  · simp only [hZ]
    rfl

end

section
variable (hc0 : ¬cond0_0 i) (hc1 : ¬cond0_1 i) (x0 : Vec Ideal S512x128 .bf16) (x1 : Vec Ideal S4096x128 .bf16) (x2 : Vec Ideal S4096x128 .bf16) (x3 : Vec Ideal S512x128 .bf16) (x4 : Vec Ideal S1x512x1 .f32) (x5 : Vec Ideal S1x512x1 .f32) (x6 : Vec Ideal S1x512x1 .f32) (x7 : Vec Ideal S1x8x1x512 .f32) (xs1 : Vec Ideal S8x128x512 .f32) (xs2 : Vec Ideal S8x128x512 .f32) (xs3 : Vec Ideal S8x1x512 .f32) (nb : Fin 8) (hnb : nb.val = (i 1).val)
include hc0 hc1 x0 x1 x2 x3 x4 x5 x6 x7 xs1 xs2 xs3 nb hnb

theorem o8_B (v : View sig .tc .vmem S512x128 .bf16) (f : v.ty.Contents (Elt Ideal)) (r : Fin 512) (x : Fin 128) :
    v.read (Elt Ideal) (v.writes (Elt Ideal) f (kernelRun0_B (F := Ideal) c i u2 z2 u3 z3 u4 z4 u5 z5 u6 z6 u7 z7 u8 z8 u9 z9 u10 z10 u11 z11 u12 z12 u13 z13 u14 z14 u15 z15 u16 z16 u17 z17 u18 z18 u19 z19 hc0 hc1 x0 x1 x2 x3 x4 x5 x6 x7 xs1 xs2 xs3).1) (ix2 r x) = ∑ j, (ptOf x0 x1 x2 x3 x4 x5 x6 x7).tq ((ptOf x0 x1 x2 x3 x4 x5 x6 x7).Z (i 1).val j) j r x := by
  unfold kernelRun0_B
  dsimp only
  refine (read_whole v f ![0, 0] (by decide) _ _ [] (ix2 r x)).trans ((pay1_at _ r x).trans ?_)
  exact dq_B (nb := nb) (hnb := hnb) ..

theorem o12_B (v : View sig .tc .vmem S1x512x1 .f32) (f : v.ty.Contents (Elt Ideal)) (r : Fin 512) :
    v.read (Elt Ideal) (v.writes (Elt Ideal) f (kernelRun0_B (F := Ideal) c i u2 z2 u3 z3 u4 z4 u5 z5 u6 z6 u7 z7 u8 z8 u9 z9 u10 z10 u11 z11 u12 z12 u13 z13 u14 z14 u15 z15 u16 z16 u17 z17 u18 z18 u19 z19 hc0 hc1 x0 x1 x2 x3 x4 x5 x6 x7 xs1 xs2 xs3).2.2.2.2.1) (ix3 0 r 0) = ∑ j, Pt.tr ((ptOf x0 x1 x2 x3 x4 x5 x6 x7).Z (i 1).val j) r := by
  unfold kernelRun0_B
  dsimp only
  refine (read_whole v f ![0, 0, 0] (by decide) _ _ [] (ix3 0 r 0)).trans ((pay2_at _ r).trans ?_)
  exact dr_B (nb := nb) (hnb := hnb) ..

end

end

end Cert.KernelIdeal.Bwd

end
-- ==== Proof.CaseC.lean ====
module

public import proofs.«01_k».proof.Proof.Gen.KernelIdeal.Frame.RunC
public import proofs.«01_k».proof.Proof.Step
public import proofs.«01_k».proof.Proof.CaseA

@[expose] public section

set_option maxRecDepth 16384

noncomputable section

namespace Cert.KernelIdeal.Bwd

open Idealize.ShloMosaic Cert.KernelIdeal Cert.KernelIdeal.Gen Cert.Slab

section
variable (c : Dev nD) (i : grid0.Coords) (u2 : Memref sig .tc .vmem S512x128 .bf16) (z2 : u2.IsWhole) (u3 : Memref sig .tc .vmem S4096x128 .bf16) (z3 : u3.IsWhole) (u4 : Memref sig .tc .vmem S4096x128 .bf16) (z4 : u4.IsWhole) (u5 : Memref sig .tc .vmem S512x128 .bf16) (z5 : u5.IsWhole) (u6 : Memref sig .tc .vmem S1x512x1 .f32) (z6 : u6.IsWhole) (u7 : Memref sig .tc .vmem S1x512x1 .f32) (z7 : u7.IsWhole) (u8 : Memref sig .tc .vmem S1x512x1 .f32) (z8 : u8.IsWhole) (u9 : Memref sig .tc .vmem S1x8x1x512 .f32) (z9 : u9.IsWhole) (u10 : Memref sig .tc .vmem S512x128 .bf16) (z10 : u10.IsWhole) (u11 : Memref sig .tc .vmem S4096x128 .bf16) (z11 : u11.IsWhole) (u12 : Memref sig .tc .vmem S4096x128 .bf16) (z12 : u12.IsWhole) (u13 : Memref sig .tc .vmem S1x8x1x512 .f32) (z13 : u13.IsWhole) (u14 : Memref sig .tc .vmem S1x512x1 .f32) (z14 : u14.IsWhole) (u15 : Memref sig .tc .vmem S512x128 .f32) (z15 : u15.IsWhole) (u16 : Memref sig .tc .vmem S8x128x512 .f32) (z16 : u16.IsWhole) (u17 : Memref sig .tc .vmem S8x128x512 .f32) (z17 : u17.IsWhole) (u18 : Memref sig .tc .vmem S8x1x512 .f32) (z18 : u18.IsWhole) (u19 : Memref sig .tc .vmem S512x1 .f32) (z19 : u19.IsWhole) (x0 : Vec Ideal S512x128 .bf16) (x1 : Vec Ideal S4096x128 .bf16) (x2 : Vec Ideal S4096x128 .bf16) (x3 : Vec Ideal S512x128 .bf16) (x4 : Vec Ideal S1x512x1 .f32) (x5 : Vec Ideal S1x512x1 .f32) (x6 : Vec Ideal S1x512x1 .f32) (x7 : Vec Ideal S1x8x1x512 .f32) (xs1 : Vec Ideal S8x128x512 .f32) (xs2 : Vec Ideal S8x128x512 .f32) (xs3 : Vec Ideal S8x1x512 .f32)

theorem hq_C (r : Fin 512) (x : Fin 128) : (kernelRun0_C.sl.r (F := Ideal) c u2 z2 x0) (ix2 r x) = (ptOf x0 x1 x2 x3 x4 x5 x6 x7).q r x := by
  unfold kernelRun0_C.sl.r
  exact (readAt_whole u2.view _ ![0, 0] (by decide) _ (ix2 r x)).trans (congrFun (z2.read_unread x0) _)

theorem hg_C (r : Fin 512) (x : Fin 128) : (kernelRun0_C.sl.r_1 (F := Ideal) c u5 z5 x3) (ix2 r x) = (ptOf x0 x1 x2 x3 x4 x5 x6 x7).g r x := by
  unfold kernelRun0_C.sl.r_1
  exact (readAt_whole u5.view _ ![0, 0] (by decide) _ (ix2 r x)).trans (congrFun (z5.read_unread x3) _)

theorem hqt_C (x : Fin 128) (r : Fin 512) : (kernelRun0_C.sl.r_2 (F := Ideal) c u2 z2 x0) (ix2 x r) = (ptOf x0 x1 x2 x3 x4 x5 x6 x7).q r x := by
  unfold kernelRun0_C.sl.r_2
  exact (pay32_at _ x r).trans ((readAt_whole u2.view _ ![0, 0] (by decide) _ (ix2 r x)).trans (congrFun (z2.read_unread x0) _))

theorem hgt_C (x : Fin 128) (r : Fin 512) : (kernelRun0_C.sl.r_3 (F := Ideal) c u5 z5 x3) (ix2 x r) = (ptOf x0 x1 x2 x3 x4 x5 x6 x7).g r x := by
  unfold kernelRun0_C.sl.r_3
  exact (pay33_at _ x r).trans ((readAt_whole u5.view _ ![0, 0] (by decide) _ (ix2 r x)).trans (congrFun (z5.read_unread x3) _))

theorem hl_C (r : Fin 512) : (kernelRun0_C.sl.r_4 (F := Ideal) c u6 z6 x4) (ix2 r 0) = (ptOf x0 x1 x2 x3 x4 x5 x6 x7).l r := by
  unfold kernelRun0_C.sl.r_4
  exact (pay34_at _ r).trans ((readAt_whole u6.view _ ![0, 0, 0] (by decide) _ (ix3 0 r 0)).trans (congrFun (z6.read_unread x4) _))

theorem hdl_C (r : Fin 512) : (kernelRun0_C.sl.r_5 (F := Ideal) c u7 z7 x5) (ix2 r 0) = (ptOf x0 x1 x2 x3 x4 x5 x6 x7).dl r := by
  unfold kernelRun0_C.sl.r_5
  exact (pay35_at _ r).trans ((readAt_whole u7.view _ ![0, 0, 0] (by decide) _ (ix3 0 r 0)).trans (congrFun (z7.read_unread x5) _))

theorem hyps_C :
    (∀ (r : Fin 512) (x : Fin 128), (kernelRun0_C.sl.r (F := Ideal) c u2 z2 x0) (ix2 r x) = (ptOf x0 x1 x2 x3 x4 x5 x6 x7).q r x)
    ∧ (∀ (r : Fin 512) (x : Fin 128), (kernelRun0_C.sl.r_1 (F := Ideal) c u5 z5 x3) (ix2 r x) = (ptOf x0 x1 x2 x3 x4 x5 x6 x7).g r x)
    ∧ (∀ (x : Fin 128) (r : Fin 512), (kernelRun0_C.sl.r_2 (F := Ideal) c u2 z2 x0) (ix2 x r) = (ptOf x0 x1 x2 x3 x4 x5 x6 x7).q r x)
    ∧ (∀ (x : Fin 128) (r : Fin 512), (kernelRun0_C.sl.r_3 (F := Ideal) c u5 z5 x3) (ix2 x r) = (ptOf x0 x1 x2 x3 x4 x5 x6 x7).g r x)
    ∧ (∀ (r : Fin 512), (kernelRun0_C.sl.r_4 (F := Ideal) c u6 z6 x4) (ix2 r 0) = (ptOf x0 x1 x2 x3 x4 x5 x6 x7).l r)
    ∧ (∀ (r : Fin 512), (kernelRun0_C.sl.r_5 (F := Ideal) c u7 z7 x5) (ix2 r 0) = (ptOf x0 x1 x2 x3 x4 x5 x6 x7).dl r)
    ∧ (∀ r x, u3.view.read (Elt Ideal) (z3.unread x1) (ix2 r x) = (ptOf x0 x1 x2 x3 x4 x5 x6 x7).k r x)
    ∧ (∀ r x, u4.view.read (Elt Ideal) (z4.unread x2) (ix2 r x) = (ptOf x0 x1 x2 x3 x4 x5 x6 x7).v r x)
    ∧ (∀ r, u8.view.read (Elt Ideal) (z8.unread x6) (ix3 0 r 0) = (ptOf x0 x1 x2 x3 x4 x5 x6 x7).cq r)
    ∧ (∀ j s, u9.view.read (Elt Ideal) (z9.unread x7) (ix4 0 j 0 s) = (ptOf x0 x1 x2 x3 x4 x5 x6 x7).ck j s) :=
  ⟨hq_C c u2 z2 x0 x1 x2 x3 x4 x5 x6 x7,
   hg_C c u5 z5 x0 x1 x2 x3 x4 x5 x6 x7,
   hqt_C c u2 z2 x0 x1 x2 x3 x4 x5 x6 x7,
   hgt_C c u5 z5 x0 x1 x2 x3 x4 x5 x6 x7,
   hl_C c u6 z6 x0 x1 x2 x3 x4 x5 x6 x7,
   hdl_C c u7 z7 x0 x1 x2 x3 x4 x5 x6 x7,
   fun r x => congrFun (z3.read_unread (Val := Elt Ideal) x1) _,
   fun r x => congrFun (z4.read_unread (Val := Elt Ideal) x2) _,
   fun r => congrFun (z8.read_unread (Val := Elt Ideal) x6) _,
   fun j s => congrFun (z9.read_unread (Val := Elt Ideal) x7) _⟩

theorem v61_C : (kernelRun0_C.sl.v61 i) = BitVec.ofNat 32 (i 1).val := by
  revert i
  decide +kernel

section
variable (nb : Fin 8) (hnb : nb.val = (i 1).val)
include hnb

theorem hP_C (r s : Fin 512) :
    k0_pay49 (BitVec.ofNat 32 (i 1).val) (kernelRun0_C.sl.r_4 (F := Ideal) c u6 z6 x4) (kernelRun0_C.sl.v61 i) (kernelRun0_C.sl.r_7 (F := Ideal) c i u2 z2 u3 z3 x0 x1)
      (View.readAt (Elt Ideal) u8.view (Rect.unit (s := S1x512x1) ![0, 0, 0] ![1, 512, 1] inb_S1x512x1_S1x512x1_0_0_0).toLoadRect (z8.unread x6))
      (View.readAt (Elt Ideal) u9.view (Rect.unit (s := S1x8x1x512) (k0_off10 i) ![1, 1, 1, 512] (k0_off10_inb i)).toLoadRect (z9.unread x7)) (ix2 r s)
      = (ptOf x0 x1 x2 x3 x4 x5 x6 x7).M (i 1).val nb r s := by
  unfold kernelRun0_C.sl.r_7
  refine (pay49_at nb.val nb.isLt _ _ (by rw [hnb]) (by rw [hnb]; exact v61_C i) _ _ _ _ _ r s).trans ?_
  rw [Pt.M_eq _ _ _ hnb]
  refine if_congr Iff.rfl ?_ rfl
  refine (pay4_at _ _ _ _ _ r s).trans ?_
  have e1 : ∀ x, View.readAt (Elt Ideal) u3.view (Rect.unit (s := S4096x128) (k0_off9 i) ![512, 128] (k0_off9_inb i)).toLoadRect (z3.unread x1) (ix2 s x) = (ptOf x0 x1 x2 x3 x4 x5 x6 x7).k (key nb s) x := fun x =>
    (readAt_rows u3.view _ (512 * nb.val) _ (by rw [hnb]; exact k0_off9_eq i) _ s x (key nb s) rfl).trans (congrFun (z3.read_unread x1) _)
  have e2 : View.readAt (Elt Ideal) u8.view (Rect.unit (s := S1x512x1) ![0, 0, 0] ![1, 512, 1] inb_S1x512x1_S1x512x1_0_0_0).toLoadRect (z8.unread x6) (ix3 0 r 0) = (ptOf x0 x1 x2 x3 x4 x5 x6 x7).cq r :=
    (readAt_whole u8.view _ ![0, 0, 0] (by decide) _ (ix3 0 r 0)).trans (congrFun (z8.read_unread x6) _)
  have e3 : View.readAt (Elt Ideal) u9.view (Rect.unit (s := S1x8x1x512) (k0_off10 i) ![1, 1, 1, 512] (k0_off10_inb i)).toLoadRect (z9.unread x7) (ix4 0 0 0 s) = (ptOf x0 x1 x2 x3 x4 x5 x6 x7).ck nb s :=
    (readAt_slab4 u9.view _ nb _ (by rw [hnb]; exact k0_off10_eq i) _ 0 0 s).trans (congrFun (z9.read_unread x7) _)
  rw [e2, e3, hl_C]
  simp only [hq_C c u2 z2 x0 x1 x2 x3 x4 x5 x6 x7, e1]
  rfl

theorem hZ_C (r s : Fin 512) : (kernelRun0_C.sl.r_8 (F := Ideal) c i u2 z2 u3 z3 u4 z4 u5 z5 u6 z6 u7 z7 u8 z8 u9 z9 x0 x1 x2 x3 x4 x5 x6 x7) (ix2 r s) = (ptOf x0 x1 x2 x3 x4 x5 x6 x7).Z (i 1).val nb r s := by
  unfold kernelRun0_C.sl.r_8
  refine (pay51_at _ _ _ _ _ _ _ _ _ r s).trans ?_
  have e1 : ∀ x, View.readAt (Elt Ideal) u4.view (Rect.unit (s := S4096x128) (k0_off9 i) ![512, 128] (k0_off9_inb i)).toLoadRect (z4.unread x2) (ix2 s x) = (ptOf x0 x1 x2 x3 x4 x5 x6 x7).v (key nb s) x := fun x =>
    (readAt_rows u4.view _ (512 * nb.val) _ (by rw [hnb]; exact k0_off9_eq i) _ s x (key nb s) rfl).trans (congrFun (z4.read_unread x2) _)
  refine congrArg₂ _ (hP_C (nb := nb) (hnb := hnb) ..) ?_
  rw [hdl_C]
  simp only [hg_C c u5 z5 x0 x1 x2 x3 x4 x5 x6 x7, e1]
  rfl

end
end

section
variable (c : Dev nD) (i : grid0.Coords) (u2 : Memref sig .tc .vmem S512x128 .bf16) (z2 : u2.IsWhole) (u3 : Memref sig .tc .vmem S4096x128 .bf16) (z3 : u3.IsWhole) (u4 : Memref sig .tc .vmem S4096x128 .bf16) (z4 : u4.IsWhole) (u5 : Memref sig .tc .vmem S512x128 .bf16) (z5 : u5.IsWhole) (u6 : Memref sig .tc .vmem S1x512x1 .f32) (z6 : u6.IsWhole) (u7 : Memref sig .tc .vmem S1x512x1 .f32) (z7 : u7.IsWhole) (u8 : Memref sig .tc .vmem S1x512x1 .f32) (z8 : u8.IsWhole) (u9 : Memref sig .tc .vmem S1x8x1x512 .f32) (z9 : u9.IsWhole) (u10 : Memref sig .tc .vmem S512x128 .bf16) (z10 : u10.IsWhole) (u11 : Memref sig .tc .vmem S4096x128 .bf16) (z11 : u11.IsWhole) (u12 : Memref sig .tc .vmem S4096x128 .bf16) (z12 : u12.IsWhole) (u13 : Memref sig .tc .vmem S1x8x1x512 .f32) (z13 : u13.IsWhole) (u14 : Memref sig .tc .vmem S1x512x1 .f32) (z14 : u14.IsWhole) (u15 : Memref sig .tc .vmem S512x128 .f32) (z15 : u15.IsWhole) (u16 : Memref sig .tc .vmem S8x128x512 .f32) (z16 : u16.IsWhole) (u17 : Memref sig .tc .vmem S8x128x512 .f32) (z17 : u17.IsWhole) (u18 : Memref sig .tc .vmem S8x1x512 .f32) (z18 : u18.IsWhole) (u19 : Memref sig .tc .vmem S512x1 .f32) (z19 : u19.IsWhole)
include c i u2 z2 u3 z3 u4 z4 u5 z5 u6 z6 u7 z7 u8 z8 u9 z9 u10 z10 u11 z11 u12 z12 u13 z13 u14 z14 u15 z15 u16 z16 u17 z17 u18 z18 u19 z19

section
variable (hc0 : ¬cond0_0 i) (hc1 : cond0_1 i) (x0 : Vec Ideal S512x128 .bf16) (x1 : Vec Ideal S4096x128 .bf16) (x2 : Vec Ideal S4096x128 .bf16) (x3 : Vec Ideal S512x128 .bf16) (x4 : Vec Ideal S1x512x1 .f32) (x5 : Vec Ideal S1x512x1 .f32) (x6 : Vec Ideal S1x512x1 .f32) (x7 : Vec Ideal S1x8x1x512 .f32) (xs1 : Vec Ideal S8x128x512 .f32) (xs2 : Vec Ideal S8x128x512 .f32) (xs3 : Vec Ideal S8x1x512 .f32) (nb : Fin 8) (hnb : nb.val = (i 1).val) (j : Fin 8)
include hc0 hc1 x0 x1 x2 x3 x4 x5 x6 x7 xs1 xs2 xs3 nb hnb j

set_option maxHeartbeats 2000000 in
theorem s1_C (x : Fin 128) (s : Fin 512) :
    u16.view.read (Elt Ideal) (u16.view.writes (Elt Ideal) (z16.unread xs1) (kernelRun0_C (F := Ideal) c i u2 z2 u3 z3 u4 z4 u5 z5 u6 z6 u7 z7 u8 z8 u9 z9 u10 z10 u11 z11 u12 z12 u13 z13 u14 z14 u15 z15 u16 z16 u17 z17 u18 z18 u19 z19 hc0 hc1 x0 x1 x2 x3 x4 x5 x6 x7 xs1 xs2 xs3).2.2.2.2.2.1) (ix3 j x s) = xs1 (ix3 j x s) + (ptOf x0 x1 x2 x3 x4 x5 x6 x7).tk ((ptOf x0 x1 x2 x3 x4 x5 x6 x7).Z (i 1).val j) x s := by
  obtain ⟨hq, hg, hqt, hgt, hl, hdl, hk, hv, hcq, hck⟩ := hyps_C c u2 z2 u3 z3 u4 z4 u5 z5 u6 z6 u7 z7 u8 z8 u9 z9 x0 x1 x2 x3 x4 x5 x6 x7
  have hZ := hZ_C c i u2 z2 u3 z3 u4 z4 u5 z5 u6 z6 u7 z7 u8 z8 u9 z9 x0 x1 x2 x3 x4 x5 x6 x7 nb hnb
  unfold kernelRun0_C
  dsimp only
  unfold kernelRun0_C.sl.HS1_1
  refine (read_slab u16.view _ nb _ (by rw [hnb]; exact k0_off11_eq i) _ _ _ j x s).trans ?_
  by_cases h : j = nb
  · rw [if_pos h]
    subst h
    refine (pay55_at _ _ _ x s).trans (congrArg₂ _ ?_ ?_)
    · unfold kernelRun0_C.sl.v133
      refine (readAt_slab u16.view _ j _ (by rw [hnb]; exact k0_off11_eq i) _ x s).trans ?_
      refine ((read_nil_app' _ _ _ _ (pb2_nil _ (trips2_eq i)).2.1 _).trans (((loop_reads_at _ hq hg hqt hgt hl hdl hk hv hcq hck (n := (i 1).val) rfl (trips_eq i)).2.1 j x s).trans (congrArg₂ _ (congrFun (z16.read_unread (Val := Elt Ideal) xs1) _) rfl))).trans ?_
      rw [if_neg (by omega), add_zero]
    · simp only [hqt, hZ]; rfl
  · rw [if_neg h]
    refine ((read_nil_app' _ _ _ _ (pb2_nil _ (trips2_eq i)).2.1 _).trans (((loop_reads_at _ hq hg hqt hgt hl hdl hk hv hcq hck (n := (i 1).val) rfl (trips_eq i)).2.1 j x s).trans (congrArg₂ _ (congrFun (z16.read_unread (Val := Elt Ideal) xs1) _) rfl))).trans ?_
    rw [Pt.tk_ne _ _ j (fun h1 => h (Fin.ext (h1.trans hnb.symm)))]

set_option maxHeartbeats 2000000 in
theorem s2_C (x : Fin 128) (s : Fin 512) :
    u17.view.read (Elt Ideal) (u17.view.writes (Elt Ideal) (z17.unread xs2) (kernelRun0_C (F := Ideal) c i u2 z2 u3 z3 u4 z4 u5 z5 u6 z6 u7 z7 u8 z8 u9 z9 u10 z10 u11 z11 u12 z12 u13 z13 u14 z14 u15 z15 u16 z16 u17 z17 u18 z18 u19 z19 hc0 hc1 x0 x1 x2 x3 x4 x5 x6 x7 xs1 xs2 xs3).2.2.2.2.2.2.1) (ix3 j x s) = xs2 (ix3 j x s) + (ptOf x0 x1 x2 x3 x4 x5 x6 x7).tv ((ptOf x0 x1 x2 x3 x4 x5 x6 x7).M (i 1).val j) x s := by
  obtain ⟨hq, hg, hqt, hgt, hl, hdl, hk, hv, hcq, hck⟩ := hyps_C c u2 z2 u3 z3 u4 z4 u5 z5 u6 z6 u7 z7 u8 z8 u9 z9 x0 x1 x2 x3 x4 x5 x6 x7
  have hP := hP_C c i u2 z2 u3 z3 u6 z6 u8 z8 u9 z9 x0 x1 x2 x3 x4 x5 x6 x7 nb hnb
  unfold kernelRun0_C
  dsimp only
  unfold kernelRun0_C.sl.HS2_1
  refine (read_slab u17.view _ nb _ (by rw [hnb]; exact k0_off11_eq i) _ _ _ j x s).trans ?_
  by_cases h : j = nb
  · rw [if_pos h]
    subst h
    refine (pay50_at _ _ _ _ _ _ _ _ x s).trans (congrArg₂ _ ?_ ?_)
    · unfold kernelRun0_C.sl.v97
      refine (readAt_slab u17.view _ j _ (by rw [hnb]; exact k0_off11_eq i) _ x s).trans ?_
      refine ((read_nil_app' _ _ _ _ (pb2_nil _ (trips2_eq i)).2.2.1 _).trans (((loop_reads_at _ hq hg hqt hgt hl hdl hk hv hcq hck (n := (i 1).val) rfl (trips_eq i)).2.2.1 j x s).trans (congrArg₂ _ (congrFun (z17.read_unread (Val := Elt Ideal) xs2) _) rfl))).trans ?_
      rw [if_neg (by omega), add_zero]
    · simp only [hgt, hP]; rfl
  · rw [if_neg h]
    refine ((read_nil_app' _ _ _ _ (pb2_nil _ (trips2_eq i)).2.2.1 _).trans (((loop_reads_at _ hq hg hqt hgt hl hdl hk hv hcq hck (n := (i 1).val) rfl (trips_eq i)).2.2.1 j x s).trans (congrArg₂ _ (congrFun (z17.read_unread (Val := Elt Ideal) xs2) _) rfl))).trans ?_
    rw [Pt.tv_ne _ _ j (fun h1 => h (Fin.ext (h1.trans hnb.symm)))]

set_option maxHeartbeats 2000000 in
theorem s3_C (s : Fin 512) :
    u18.view.read (Elt Ideal) (u18.view.writes (Elt Ideal) (z18.unread xs3) (kernelRun0_C (F := Ideal) c i u2 z2 u3 z3 u4 z4 u5 z5 u6 z6 u7 z7 u8 z8 u9 z9 u10 z10 u11 z11 u12 z12 u13 z13 u14 z14 u15 z15 u16 z16 u17 z17 u18 z18 u19 z19 hc0 hc1 x0 x1 x2 x3 x4 x5 x6 x7 xs1 xs2 xs3).2.2.2.2.2.2.2.1) (ix3 j 0 s) = xs3 (ix3 j 0 s) + Pt.ts ((ptOf x0 x1 x2 x3 x4 x5 x6 x7).Z (i 1).val j) s := by
  have hZ := hZ_C c i u2 z2 u3 z3 u4 z4 u5 z5 u6 z6 u7 z7 u8 z8 u9 z9 x0 x1 x2 x3 x4 x5 x6 x7 nb hnb
  unfold kernelRun0_C
  dsimp only
  unfold kernelRun0_C.sl.HS3_1
  obtain ⟨hq, hg, hqt, hgt, hl, hdl, hk, hv, hcq, hck⟩ := hyps_C c u2 z2 u3 z3 u4 z4 u5 z5 u6 z6 u7 z7 u8 z8 u9 z9 x0 x1 x2 x3 x4 x5 x6 x7
  refine (read_slab u18.view _ nb _ (by rw [hnb]; exact k0_off12_eq i) _ _ _ j 0 s).trans ?_
  by_cases h : j = nb
  · rw [if_pos h]
    subst h
    refine (pay52_at _ _ s).trans (congrArg₂ _ ?_ ?_)
    · unfold kernelRun0_C.sl.v113
      refine (readAt_slab u18.view _ j _ (by rw [hnb]; exact k0_off12_eq i) _ 0 s).trans ?_
      refine ((read_nil_app' _ _ _ _ (pb2_nil _ (trips2_eq i)).2.2.2.1 _).trans (((loop_reads_at _ hq hg hqt hgt hl hdl hk hv hcq hck (n := (i 1).val) rfl (trips_eq i)).2.2.2.1 j s).trans (congrArg₂ _ (congrFun (z18.read_unread (Val := Elt Ideal) xs3) _) rfl))).trans ?_
      rw [if_neg (by omega), add_zero]
    · simp only [hZ]; rfl
  · rw [if_neg h]
    refine ((read_nil_app' _ _ _ _ (pb2_nil _ (trips2_eq i)).2.2.2.1 _).trans (((loop_reads_at _ hq hg hqt hgt hl hdl hk hv hcq hck (n := (i 1).val) rfl (trips_eq i)).2.2.2.1 j s).trans (congrArg₂ _ (congrFun (z18.read_unread (Val := Elt Ideal) xs3) _) rfl))).trans ?_
    rw [Pt.ts_ne _ _ j (fun h1 => h (Fin.ext (h1.trans hnb.symm)))]

end

section
variable (x0 : Vec Ideal S512x128 .bf16) (x1 : Vec Ideal S4096x128 .bf16) (x2 : Vec Ideal S4096x128 .bf16) (x3 : Vec Ideal S512x128 .bf16) (x4 : Vec Ideal S1x512x1 .f32) (x5 : Vec Ideal S1x512x1 .f32) (x6 : Vec Ideal S1x512x1 .f32) (x7 : Vec Ideal S1x8x1x512 .f32) (xs1 : Vec Ideal S8x128x512 .f32) (xs2 : Vec Ideal S8x128x512 .f32) (xs3 : Vec Ideal S8x1x512 .f32) (nb : Fin 8) (hnb : nb.val = (i 1).val) (r : Fin 512)
include x0 x1 x2 x3 x4 x5 x6 x7 xs1 xs2 xs3 nb hnb r

set_option maxHeartbeats 2000000 in
theorem dq_C (x : Fin 128) :
    (kernelRun0_C.sl.v147 (F := Ideal) c i u2 z2 u3 z3 u4 z4 u5 z5 u6 z6 u7 z7 u8 z8 u9 z9 u10 z10 u11 z11 u12 z12 u13 z13 u14 z14 u15 z15 u16 z16 u17 z17 u18 z18 u19 z19 x0 x1 x2 x3 x4 x5 x6 x7 xs1 xs2 xs3) (ix2 r x) = ∑ j, (ptOf x0 x1 x2 x3 x4 x5 x6 x7).tq ((ptOf x0 x1 x2 x3 x4 x5 x6 x7).Z (i 1).val j) j r x := by
  obtain ⟨hq, hg, hqt, hgt, hl, hdl, hk, hv, hcq, hck⟩ := hyps_C c u2 z2 u3 z3 u4 z4 u5 z5 u6 z6 u7 z7 u8 z8 u9 z9 x0 x1 x2 x3 x4 x5 x6 x7
  have hZ := hZ_C c i u2 z2 u3 z3 u4 z4 u5 z5 u6 z6 u7 z7 u8 z8 u9 z9 x0 x1 x2 x3 x4 x5 x6 x7 nb hnb
  have e1 : ∀ s x, (kernelRun0_C.sl.r_6 (F := Ideal) i u3 z3 x1) (ix2 s x) = (ptOf x0 x1 x2 x3 x4 x5 x6 x7).k (key nb s) x := fun s x => by
    unfold kernelRun0_C.sl.r_6
    exact (readAt_rows u3.view _ (512 * nb.val) _ (by rw [hnb]; exact k0_off9_eq i) _ s x (key nb s) rfl).trans (congrFun (z3.read_unread x1) _)
  unfold kernelRun0_C.sl.v147 View.readCov
  refine (readAt_whole u15.view _ ![0, 0] (by decide) _ (ix2 r x)).trans ?_
  unfold kernelRun0_C.sl.HS0_1_1
  refine (read_whole u15.view _ ![0, 0] (by decide) _ _ _ (ix2 r x)).trans ?_
  refine (pay56_at _ _ _ r x).trans ?_
  rw [← Pt.tq_total _ _ nb hnb]
  refine congrArg₂ _ ?_ ?_
  · unfold kernelRun0_C.sl.v141 View.readCov
    refine (readAt_whole u15.view _ ![0, 0] (by decide) _ (ix2 r x)).trans ?_
    refine (read_nil_app _ _ _ _ _ (pb2_nil _ (trips2_eq i)).1 _).trans (((loop_reads_at _ hq hg hqt hgt hl hdl hk hv hcq hck (n := (i 1).val) rfl (trips_eq i)).1 r x).trans ?_)
    unfold kernelRun0_C.sl.HS0_1
    refine (congrArg₂ _ ((read_whole u15.view _ ![0, 0] (by decide) _ _ [] (ix2 r x)).trans (pay36_at r x)) rfl).trans (zero_add _)
  · simp only [hZ, e1]
    rfl

set_option maxHeartbeats 2000000 in
theorem dr_C :
    (kernelRun0_C.sl.v150 (F := Ideal) c i u2 z2 u3 z3 u4 z4 u5 z5 u6 z6 u7 z7 u8 z8 u9 z9 u10 z10 u11 z11 u12 z12 u13 z13 u14 z14 u15 z15 u16 z16 u17 z17 u18 z18 u19 z19 x0 x1 x2 x3 x4 x5 x6 x7 xs1 xs2 xs3) (ix2 r 0) = ∑ j, Pt.tr ((ptOf x0 x1 x2 x3 x4 x5 x6 x7).Z (i 1).val j) r := by
  obtain ⟨hq, hg, hqt, hgt, hl, hdl, hk, hv, hcq, hck⟩ := hyps_C c u2 z2 u3 z3 u4 z4 u5 z5 u6 z6 u7 z7 u8 z8 u9 z9 x0 x1 x2 x3 x4 x5 x6 x7
  have hZ := hZ_C c i u2 z2 u3 z3 u4 z4 u5 z5 u6 z6 u7 z7 u8 z8 u9 z9 x0 x1 x2 x3 x4 x5 x6 x7 nb hnb
  unfold kernelRun0_C.sl.v150 View.readCov
  refine (readAt_whole u19.view _ ![0, 0] (by decide) _ (ix2 r 0)).trans ?_
  unfold kernelRun0_C.sl.HS4_1_1
  refine (read_whole u19.view _ ![0, 0] (by decide) _ _ _ (ix2 r 0)).trans ?_
  refine (pay53_at _ _ r).trans ?_
  rw [← Pt.tr_total _ _ nb hnb]
  refine congrArg₂ _ ?_ ?_
  · unfold kernelRun0_C.sl.v122 View.readCov
    refine (readAt_whole u19.view _ ![0, 0] (by decide) _ (ix2 r 0)).trans ?_
    refine (read_nil_app _ _ _ _ _ (pb2_nil _ (trips2_eq i)).2.2.2.2 _).trans (((loop_reads_at _ hq hg hqt hgt hl hdl hk hv hcq hck (n := (i 1).val) rfl (trips_eq i)).2.2.2.2 r).trans ?_)
    unfold kernelRun0_C.sl.HS4_1
    refine (congrArg₂ _ ((read_whole u19.view _ ![0, 0] (by decide) _ _ [] (ix2 r 0)).trans (pay37_at r)) rfl).trans (zero_add _)
  · simp only [hZ]
    rfl

end

end

section
variable (c : Dev nD) (i : grid0.Coords) (u2 : Memref sig .tc .vmem S512x128 .bf16) (z2 : u2.IsWhole) (u3 : Memref sig .tc .vmem S4096x128 .bf16) (z3 : u3.IsWhole) (u4 : Memref sig .tc .vmem S4096x128 .bf16) (z4 : u4.IsWhole) (u5 : Memref sig .tc .vmem S512x128 .bf16) (z5 : u5.IsWhole) (u6 : Memref sig .tc .vmem S1x512x1 .f32) (z6 : u6.IsWhole) (u7 : Memref sig .tc .vmem S1x512x1 .f32) (z7 : u7.IsWhole) (u8 : Memref sig .tc .vmem S1x512x1 .f32) (z8 : u8.IsWhole) (u9 : Memref sig .tc .vmem S1x8x1x512 .f32) (z9 : u9.IsWhole) (u10 : Memref sig .tc .vmem S512x128 .bf16) (z10 : u10.IsWhole) (u11 : Memref sig .tc .vmem S4096x128 .bf16) (z11 : u11.IsWhole) (u12 : Memref sig .tc .vmem S4096x128 .bf16) (z12 : u12.IsWhole) (u13 : Memref sig .tc .vmem S1x8x1x512 .f32) (z13 : u13.IsWhole) (u14 : Memref sig .tc .vmem S1x512x1 .f32) (z14 : u14.IsWhole) (u15 : Memref sig .tc .vmem S512x128 .f32) (z15 : u15.IsWhole) (u16 : Memref sig .tc .vmem S8x128x512 .f32) (z16 : u16.IsWhole) (u17 : Memref sig .tc .vmem S8x128x512 .f32) (z17 : u17.IsWhole) (u18 : Memref sig .tc .vmem S8x1x512 .f32) (z18 : u18.IsWhole) (u19 : Memref sig .tc .vmem S512x1 .f32) (z19 : u19.IsWhole) (hc0 : ¬cond0_0 i) (hc1 : cond0_1 i) (x0 : Vec Ideal S512x128 .bf16) (x1 : Vec Ideal S4096x128 .bf16) (x2 : Vec Ideal S4096x128 .bf16) (x3 : Vec Ideal S512x128 .bf16) (x4 : Vec Ideal S1x512x1 .f32) (x5 : Vec Ideal S1x512x1 .f32) (x6 : Vec Ideal S1x512x1 .f32) (x7 : Vec Ideal S1x8x1x512 .f32) (xs1 : Vec Ideal S8x128x512 .f32) (xs2 : Vec Ideal S8x128x512 .f32) (xs3 : Vec Ideal S8x1x512 .f32) (nb : Fin 8) (hnb : nb.val = (i 1).val)
include c i u2 z2 u3 z3 u4 z4 u5 z5 u6 z6 u7 z7 u8 z8 u9 z9 u10 z10 u11 z11 u12 z12 u13 z13 u14 z14 u15 z15 u16 z16 u17 z17 u18 z18 u19 z19 hc0 hc1 x0 x1 x2 x3 x4 x5 x6 x7 xs1 xs2 xs3 nb hnb

theorem o8_C (v : View sig .tc .vmem S512x128 .bf16) (f : v.ty.Contents (Elt Ideal)) (r : Fin 512) (x : Fin 128) :
    v.read (Elt Ideal) (v.writes (Elt Ideal) f (kernelRun0_C (F := Ideal) c i u2 z2 u3 z3 u4 z4 u5 z5 u6 z6 u7 z7 u8 z8 u9 z9 u10 z10 u11 z11 u12 z12 u13 z13 u14 z14 u15 z15 u16 z16 u17 z17 u18 z18 u19 z19 hc0 hc1 x0 x1 x2 x3 x4 x5 x6 x7 xs1 xs2 xs3).1) (ix2 r x) = ∑ j, (ptOf x0 x1 x2 x3 x4 x5 x6 x7).tq ((ptOf x0 x1 x2 x3 x4 x5 x6 x7).Z (i 1).val j) j r x := by
  unfold kernelRun0_C
  dsimp only
  refine (read_whole v f ![0, 0] (by decide) _ _ [] (ix2 r x)).trans ((pay1_at _ r x).trans ?_)
  exact dq_C (nb := nb) (hnb := hnb) ..

theorem o12_C (v : View sig .tc .vmem S1x512x1 .f32) (f : v.ty.Contents (Elt Ideal)) (r : Fin 512) :
    v.read (Elt Ideal) (v.writes (Elt Ideal) f (kernelRun0_C (F := Ideal) c i u2 z2 u3 z3 u4 z4 u5 z5 u6 z6 u7 z7 u8 z8 u9 z9 u10 z10 u11 z11 u12 z12 u13 z13 u14 z14 u15 z15 u16 z16 u17 z17 u18 z18 u19 z19 hc0 hc1 x0 x1 x2 x3 x4 x5 x6 x7 xs1 xs2 xs3).2.2.2.2.1) (ix3 0 r 0) = ∑ j, Pt.tr ((ptOf x0 x1 x2 x3 x4 x5 x6 x7).Z (i 1).val j) r := by
  unfold kernelRun0_C
  dsimp only
  refine (read_whole v f ![0, 0, 0] (by decide) _ _ [] (ix3 0 r 0)).trans ((pay2_at _ r).trans ?_)
  exact dr_C (nb := nb) (hnb := hnb) ..

set_option maxHeartbeats 2000000 in
theorem o9_C (v : View sig .tc .vmem S4096x128 .bf16) (f : v.ty.Contents (Elt Ideal)) (j : Fin 8) (s : Fin 512) (x : Fin 128) :
    v.read (Elt Ideal) (v.writes (Elt Ideal) f (kernelRun0_C (F := Ideal) c i u2 z2 u3 z3 u4 z4 u5 z5 u6 z6 u7 z7 u8 z8 u9 z9 u10 z10 u11 z11 u12 z12 u13 z13 u14 z14 u15 z15 u16 z16 u17 z17 u18 z18 u19 z19 hc0 hc1 x0 x1 x2 x3 x4 x5 x6 x7 xs1 xs2 xs3).2.1) (ix2 (key j s) x) = xs1 (ix3 j x s) + (ptOf x0 x1 x2 x3 x4 x5 x6 x7).tk ((ptOf x0 x1 x2 x3 x4 x5 x6 x7).Z (i 1).val j) x s := by
  have hT := fun j => s1_C c i u2 z2 u3 z3 u4 z4 u5 z5 u6 z6 u7 z7 u8 z8 u9 z9 u10 z10 u11 z11 u12 z12 u13 z13 u14 z14 u15 z15 u16 z16 u17 z17 u18 z18 u19 z19 hc0 hc1 x0 x1 x2 x3 x4 x5 x6 x7 xs1 xs2 xs3 nb hnb j x s
  unfold kernelRun0_C at hT ⊢
  dsimp only at hT ⊢
  refine (read_rows v f (512 * 7) _ rfl _ _ _ (key j s) s x (j = 7) (fun h => by subst h; rfl) (fun h h1 => h (Fin.ext (by have h2 : 512 * 7 ≤ 512 * j.val + s.val ∧ 512 * j.val + s.val < 512 * 7 + 512 := h1; show j.val = 7; omega)))).trans ?_
  split_ifs with h7
  · subst h7
    refine (pay27_at _ s x).trans ?_
    unfold kernelRun0_C.sl.v227
    exact (readAt_slab u16.view _ 7 _ rfl _ x s).trans (hT 7)
  refine (read_rows v f (512 * 6) _ rfl _ _ _ (key j s) s x (j = 6) (fun h => by subst h; rfl) (fun h h1 => h (Fin.ext (by have h2 : 512 * 6 ≤ 512 * j.val + s.val ∧ 512 * j.val + s.val < 512 * 6 + 512 := h1; show j.val = 6; omega)))).trans ?_
  split_ifs with h6
  · subst h6
    refine (pay25_at _ s x).trans ?_
    unfold kernelRun0_C.sl.v217
    exact (readAt_slab u16.view _ 6 _ rfl _ x s).trans (hT 6)
  refine (read_rows v f (512 * 5) _ rfl _ _ _ (key j s) s x (j = 5) (fun h => by subst h; rfl) (fun h h1 => h (Fin.ext (by have h2 : 512 * 5 ≤ 512 * j.val + s.val ∧ 512 * j.val + s.val < 512 * 5 + 512 := h1; show j.val = 5; omega)))).trans ?_
  split_ifs with h5
  · subst h5
    show kernelRun0_C.sl.r_10 (F := Ideal) c i u2 z2 u3 z3 u4 z4 u5 z5 u6 z6 u7 z7 u8 z8 u9 z9 u10 z10 u11 z11 u12 z12 u13 z13 u14 z14 u15 z15 u16 z16 u17 z17 u18 z18 u19 z19 x0 x1 x2 x3 x4 x5 x6 x7 xs1 xs2 xs3 _ = _
    unfold kernelRun0_C.sl.r_10
    refine (pay23_at _ s x).trans ?_
    unfold kernelRun0_C.sl.v207
    exact (readAt_slab u16.view _ 5 _ rfl _ x s).trans (hT 5)
  refine (read_rows v f (512 * 4) _ rfl _ _ _ (key j s) s x (j = 4) (fun h => by subst h; rfl) (fun h h1 => h (Fin.ext (by have h2 : 512 * 4 ≤ 512 * j.val + s.val ∧ 512 * j.val + s.val < 512 * 4 + 512 := h1; show j.val = 4; omega)))).trans ?_
  split_ifs with h4
  · subst h4
    refine (pay21_at _ s x).trans ?_
    unfold kernelRun0_C.sl.v197
    exact (readAt_slab u16.view _ 4 _ rfl _ x s).trans (hT 4)
  refine (read_rows v f (512 * 3) _ rfl _ _ _ (key j s) s x (j = 3) (fun h => by subst h; rfl) (fun h h1 => h (Fin.ext (by have h2 : 512 * 3 ≤ 512 * j.val + s.val ∧ 512 * j.val + s.val < 512 * 3 + 512 := h1; show j.val = 3; omega)))).trans ?_
  split_ifs with h3
  · subst h3
    refine (pay19_at _ s x).trans ?_
    unfold kernelRun0_C.sl.v187
    exact (readAt_slab u16.view _ 3 _ rfl _ x s).trans (hT 3)
  refine (read_rows v f (512 * 2) _ rfl _ _ _ (key j s) s x (j = 2) (fun h => by subst h; rfl) (fun h h1 => h (Fin.ext (by have h2 : 512 * 2 ≤ 512 * j.val + s.val ∧ 512 * j.val + s.val < 512 * 2 + 512 := h1; show j.val = 2; omega)))).trans ?_
  split_ifs with h2
  · subst h2
    refine (pay16_at _ s x).trans ?_
    unfold kernelRun0_C.sl.v177
    exact (readAt_slab u16.view _ 2 _ rfl _ x s).trans (hT 2)
  refine (read_rows v f (512 * 1) _ rfl _ _ _ (key j s) s x (j = 1) (fun h => by subst h; rfl) (fun h h1 => h (Fin.ext (by have h2 : 512 * 1 ≤ 512 * j.val + s.val ∧ 512 * j.val + s.val < 512 * 1 + 512 := h1; show j.val = 1; omega)))).trans ?_
  split_ifs with h1
  · subst h1
    refine (pay14_at _ s x).trans ?_
    unfold kernelRun0_C.sl.v167
    exact (readAt_slab u16.view _ 1 _ rfl _ x s).trans (hT 1)
  refine (read_rows v f (512 * 0) _ rfl _ _ _ (key j s) s x (j = 0) (fun h => by subst h; rfl) (fun h h1 => h (Fin.ext (by have h2 : 512 * 0 ≤ 512 * j.val + s.val ∧ 512 * j.val + s.val < 512 * 0 + 512 := h1; show j.val = 0; omega)))).trans ?_
  split_ifs with h0
  · subst h0
    refine (pay12_at _ s x).trans ?_
    unfold kernelRun0_C.sl.v157
    exact (readAt_slab u16.view _ 0 _ rfl _ x s).trans (hT 0)
  exfalso
  have := j.isLt
  simp only [Fin.ext_iff] at h0 h1 h2 h3 h4 h5 h6 h7
  have e : ∀ q : ℕ, q < 8 → j.val = q → False := by
    intro q hq hj
    interval_cases q
    · exact h0 hj
    · exact h1 hj
    · exact h2 hj
    · exact h3 hj
    · exact h4 hj
    · exact h5 hj
    · exact h6 hj
    · exact h7 hj
  exact e j.val j.isLt rfl

set_option maxHeartbeats 2000000 in
theorem o10_C (v : View sig .tc .vmem S4096x128 .bf16) (f : v.ty.Contents (Elt Ideal)) (j : Fin 8) (s : Fin 512) (x : Fin 128) :
    v.read (Elt Ideal) (v.writes (Elt Ideal) f (kernelRun0_C (F := Ideal) c i u2 z2 u3 z3 u4 z4 u5 z5 u6 z6 u7 z7 u8 z8 u9 z9 u10 z10 u11 z11 u12 z12 u13 z13 u14 z14 u15 z15 u16 z16 u17 z17 u18 z18 u19 z19 hc0 hc1 x0 x1 x2 x3 x4 x5 x6 x7 xs1 xs2 xs3).2.2.1) (ix2 (key j s) x) = xs2 (ix3 j x s) + (ptOf x0 x1 x2 x3 x4 x5 x6 x7).tv ((ptOf x0 x1 x2 x3 x4 x5 x6 x7).M (i 1).val j) x s := by
  have hT := fun j => s2_C c i u2 z2 u3 z3 u4 z4 u5 z5 u6 z6 u7 z7 u8 z8 u9 z9 u10 z10 u11 z11 u12 z12 u13 z13 u14 z14 u15 z15 u16 z16 u17 z17 u18 z18 u19 z19 hc0 hc1 x0 x1 x2 x3 x4 x5 x6 x7 xs1 xs2 xs3 nb hnb j x s
  unfold kernelRun0_C at hT ⊢
  dsimp only at hT ⊢
  refine (read_rows v f (512 * 7) _ rfl _ _ _ (key j s) s x (j = 7) (fun h => by subst h; rfl) (fun h h1 => h (Fin.ext (by have h2 : 512 * 7 ≤ 512 * j.val + s.val ∧ 512 * j.val + s.val < 512 * 7 + 512 := h1; show j.val = 7; omega)))).trans ?_
  split_ifs with h7
  · subst h7
    refine (pay28_at _ s x).trans ?_
    unfold kernelRun0_C.sl.v232
    exact (readAt_slab u17.view _ 7 _ rfl _ x s).trans (hT 7)
  refine (read_rows v f (512 * 6) _ rfl _ _ _ (key j s) s x (j = 6) (fun h => by subst h; rfl) (fun h h1 => h (Fin.ext (by have h2 : 512 * 6 ≤ 512 * j.val + s.val ∧ 512 * j.val + s.val < 512 * 6 + 512 := h1; show j.val = 6; omega)))).trans ?_
  split_ifs with h6
  · subst h6
    refine (pay26_at _ s x).trans ?_
    unfold kernelRun0_C.sl.v222
    exact (readAt_slab u17.view _ 6 _ rfl _ x s).trans (hT 6)
  refine (read_rows v f (512 * 5) _ rfl _ _ _ (key j s) s x (j = 5) (fun h => by subst h; rfl) (fun h h1 => h (Fin.ext (by have h2 : 512 * 5 ≤ 512 * j.val + s.val ∧ 512 * j.val + s.val < 512 * 5 + 512 := h1; show j.val = 5; omega)))).trans ?_
  split_ifs with h5
  · subst h5
    refine (pay24_at _ s x).trans ?_
    unfold kernelRun0_C.sl.v212
    exact (readAt_slab u17.view _ 5 _ rfl _ x s).trans (hT 5)
  refine (read_rows v f (512 * 4) _ rfl _ _ _ (key j s) s x (j = 4) (fun h => by subst h; rfl) (fun h h1 => h (Fin.ext (by have h2 : 512 * 4 ≤ 512 * j.val + s.val ∧ 512 * j.val + s.val < 512 * 4 + 512 := h1; show j.val = 4; omega)))).trans ?_
  split_ifs with h4
  · subst h4
    refine (pay22_at _ s x).trans ?_
    unfold kernelRun0_C.sl.v202
    exact (readAt_slab u17.view _ 4 _ rfl _ x s).trans (hT 4)
  refine (read_rows v f (512 * 3) _ rfl _ _ _ (key j s) s x (j = 3) (fun h => by subst h; rfl) (fun h h1 => h (Fin.ext (by have h2 : 512 * 3 ≤ 512 * j.val + s.val ∧ 512 * j.val + s.val < 512 * 3 + 512 := h1; show j.val = 3; omega)))).trans ?_
  split_ifs with h3
  · subst h3
    refine (pay20_at _ s x).trans ?_
    unfold kernelRun0_C.sl.v192
    exact (readAt_slab u17.view _ 3 _ rfl _ x s).trans (hT 3)
  refine (read_rows v f (512 * 2) _ rfl _ _ _ (key j s) s x (j = 2) (fun h => by subst h; rfl) (fun h h1 => h (Fin.ext (by have h2 : 512 * 2 ≤ 512 * j.val + s.val ∧ 512 * j.val + s.val < 512 * 2 + 512 := h1; show j.val = 2; omega)))).trans ?_
  split_ifs with h2
  · subst h2
    show k0_pay18 (kernelRun0_C.sl.r_9 (F := Ideal) c i u2 z2 u3 z3 u4 z4 u5 z5 u6 z6 u7 z7 u8 z8 u9 z9 u10 z10 u11 z11 u12 z12 u13 z13 u14 z14 u15 z15 u16 z16 u17 z17 u18 z18 u19 z19 x0 x1 x2 x3 x4 x5 x6 x7 xs1 xs2 xs3) _ = _
    unfold kernelRun0_C.sl.r_9
    refine (pay18_at _ s x).trans ?_
    unfold kernelRun0_C.sl.v182
    exact (readAt_slab u17.view _ 2 _ rfl _ x s).trans (hT 2)
  refine (read_rows v f (512 * 1) _ rfl _ _ _ (key j s) s x (j = 1) (fun h => by subst h; rfl) (fun h h1 => h (Fin.ext (by have h2 : 512 * 1 ≤ 512 * j.val + s.val ∧ 512 * j.val + s.val < 512 * 1 + 512 := h1; show j.val = 1; omega)))).trans ?_
  split_ifs with h1
  · subst h1
    refine (pay15_at _ s x).trans ?_
    unfold kernelRun0_C.sl.v172
    exact (readAt_slab u17.view _ 1 _ rfl _ x s).trans (hT 1)
  refine (read_rows v f (512 * 0) _ rfl _ _ _ (key j s) s x (j = 0) (fun h => by subst h; rfl) (fun h h1 => h (Fin.ext (by have h2 : 512 * 0 ≤ 512 * j.val + s.val ∧ 512 * j.val + s.val < 512 * 0 + 512 := h1; show j.val = 0; omega)))).trans ?_
  split_ifs with h0
  · subst h0
    refine (pay13_at _ s x).trans ?_
    unfold kernelRun0_C.sl.v162
    exact (readAt_slab u17.view _ 0 _ rfl _ x s).trans (hT 0)
  exfalso
  have := j.isLt
  simp only [Fin.ext_iff] at h0 h1 h2 h3 h4 h5 h6 h7
  have e : ∀ q : ℕ, q < 8 → j.val = q → False := by
    intro q hq hj
    interval_cases q
    · exact h0 hj
    · exact h1 hj
    · exact h2 hj
    · exact h3 hj
    · exact h4 hj
    · exact h5 hj
    · exact h6 hj
    · exact h7 hj
  exact e j.val j.isLt rfl

theorem o11_C (v : View sig .tc .vmem S1x8x1x512 .f32) (f : v.ty.Contents (Elt Ideal)) (j : Fin 8) (s : Fin 512) :
    v.read (Elt Ideal) (v.writes (Elt Ideal) f (kernelRun0_C (F := Ideal) c i u2 z2 u3 z3 u4 z4 u5 z5 u6 z6 u7 z7 u8 z8 u9 z9 u10 z10 u11 z11 u12 z12 u13 z13 u14 z14 u15 z15 u16 z16 u17 z17 u18 z18 u19 z19 hc0 hc1 x0 x1 x2 x3 x4 x5 x6 x7 xs1 xs2 xs3).2.2.2.1) (ix4 0 j 0 s) = xs3 (ix3 j 0 s) + Pt.ts ((ptOf x0 x1 x2 x3 x4 x5 x6 x7).Z (i 1).val j) s := by
  have hT := s3_C c i u2 z2 u3 z3 u4 z4 u5 z5 u6 z6 u7 z7 u8 z8 u9 z9 u10 z10 u11 z11 u12 z12 u13 z13 u14 z14 u15 z15 u16 z16 u17 z17 u18 z18 u19 z19 hc0 hc1 x0 x1 x2 x3 x4 x5 x6 x7 xs1 xs2 xs3 nb hnb j s
  unfold kernelRun0_C at hT ⊢
  dsimp only at hT ⊢
  refine (read_whole v f ![0, 0, 0, 0] (by decide) _ _ [] (ix4 0 j 0 s)).trans ((pay3_at _ j s).trans ?_)
  unfold kernelRun0_C.sl.v
  exact (readAt_whole u18.view _ ![0, 0, 0] (by decide) _ (ix3 j 0 s)).trans hT

end

end Cert.KernelIdeal.Bwd

end
-- ==== Proof.Grid.lean ====
module

public import proofs.«01_k».proof.Proof.Gen.KernelIdeal.Frame
public import proofs.«01_k».proof.Proof.CaseA
public import proofs.«01_k».proof.Proof.CaseB
public import proofs.«01_k».proof.Proof.CaseC

@[expose] public section

set_option maxRecDepth 16384

noncomputable section

namespace Cert.KernelIdeal.Bwd

open Idealize.ShloMosaic Cert.KernelIdeal Cert.KernelIdeal.Gen Cert.Slab

variable (m : (ℓ : Loc nD τ sig) → Buf (Elt Ideal) ℓ)

theorem coord1 : ∀ t : Fin cfg0.N, ((grid0.coords t) 1).val = t.val % 8 :=
  (by decide +kernel : ∀ t : Fin grid0.N, ((grid0.coords t) 1).val = t.val % 8)

/-- What the point `t` reads. -/
abbrev X (c : Dev nD) (t : Fin cfg0.N) : Pt :=
  ptOf (iblk m c 0 t) (iblk m c 1 t) (iblk m c 2 t) (iblk m c 3 t) (iblk m c 4 t) (iblk m c 5 t) (iblk m c 6 t) (iblk m c 7 t)

/-- The query tile the point `t` works on. -/
abbrev nb (t : Fin cfg0.N) : Fin 8 := ⟨t.val % 8, Nat.mod_lt _ (by decide)⟩

/-- The point's weights of the keys' gradient and of the values' gradient. -/
abbrev ZX (c : Dev nD) (t : Fin cfg0.N) (j : Fin 8) (r s : Fin 512) : EReal := (X m c t).Z (t.val % 8) j r s
abbrev MX (c : Dev nD) (t : Fin cfg0.N) (j : Fin 8) (r s : Fin 512) : EReal := (X m c t).M (t.val % 8) j r s

theorem scr1_A (c : Dev nD) (t : Fin cfg0.N) (h0 : t.val % 8 = 0) (h1 : ¬t.val % 8 = 7) (j : Fin 8) (x : Fin 128) (s : Fin 512) :
    (outsAt0 m c t.val t.isLt).2.2.2.2.2.1 (ix3 j x s)
      = 0 + (X m c t).tk (ZX m c t j) x s := by
  rw [outsAt0_A m c t h0 h1]
  dsimp only
  unfold sout0_A_1 ZX
  refine (s1_A (nb := nb t) (hnb := (coord1 t).symm) ..).trans ?_
  rw [coord1 t]

theorem scr2_A (c : Dev nD) (t : Fin cfg0.N) (h0 : t.val % 8 = 0) (h1 : ¬t.val % 8 = 7) (j : Fin 8) (x : Fin 128) (s : Fin 512) :
    (outsAt0 m c t.val t.isLt).2.2.2.2.2.2.1 (ix3 j x s)
      = 0 + (X m c t).tv (MX m c t j) x s := by
  rw [outsAt0_A m c t h0 h1]
  dsimp only
  unfold sout0_A_2 MX
  refine (s2_A (nb := nb t) (hnb := (coord1 t).symm) ..).trans ?_
  rw [coord1 t]

theorem scr3_A (c : Dev nD) (t : Fin cfg0.N) (h0 : t.val % 8 = 0) (h1 : ¬t.val % 8 = 7) (j : Fin 8) (s : Fin 512) :
    (outsAt0 m c t.val t.isLt).2.2.2.2.2.2.2 (ix3 j 0 s)
      = 0 + Pt.ts (ZX m c t j) s := by
  rw [outsAt0_A m c t h0 h1]
  dsimp only
  unfold sout0_A_3 ZX
  refine (s3_A (nb := nb t) (hnb := (coord1 t).symm) ..).trans ?_
  rw [coord1 t]

theorem out8_A (c : Dev nD) (t : Fin cfg0.N) (h0 : t.val % 8 = 0) (h1 : ¬t.val % 8 = 7) (r : Fin 512) (x : Fin 128) :
    (outsAt0 m c t.val t.isLt).1 (ix2 r x) = ∑ j, (X m c t).tq (ZX m c t j) j r x := by
  rw [outsAt0_A m c t h0 h1]
  dsimp only
  unfold out0_A_8 ZX
  refine (o8_A (nb := nb t) (hnb := (coord1 t).symm) ..).trans ?_
  rw [coord1 t]

theorem out12_A (c : Dev nD) (t : Fin cfg0.N) (h0 : t.val % 8 = 0) (h1 : ¬t.val % 8 = 7) (r : Fin 512) :
    (outsAt0 m c t.val t.isLt).2.2.2.2.1 (ix3 0 r 0) = ∑ j, Pt.tr (ZX m c t j) r := by
  rw [outsAt0_A m c t h0 h1]
  dsimp only
  unfold out0_A_12 ZX
  refine (o12_A (nb := nb t) (hnb := (coord1 t).symm) ..).trans ?_
  rw [coord1 t]

section
variable (c : Dev nD) (t : Fin cfg0.N) (h0 : ¬t.val % 8 = 0)
include c t h0

theorem scr1_B (h1 : ¬t.val % 8 = 7) (j : Fin 8) (x : Fin 128) (s : Fin 512) :
    (outsAt0 m c t.val t.isLt).2.2.2.2.2.1 (ix3 j x s)
      = (outsAt0 m c (t.val - 1) (Nat.lt_of_le_of_lt (Nat.sub_le _ _) t.isLt)).2.2.2.2.2.1 (ix3 j x s) + (X m c t).tk (ZX m c t j) x s := by
  rw [outsAt0_B m c t h0 h1]
  dsimp only
  unfold sout0_B_1 ZX
  refine (s1_B (nb := nb t) (hnb := (coord1 t).symm) ..).trans ?_
  rw [coord1 t]

theorem scr2_B (h1 : ¬t.val % 8 = 7) (j : Fin 8) (x : Fin 128) (s : Fin 512) :
    (outsAt0 m c t.val t.isLt).2.2.2.2.2.2.1 (ix3 j x s)
      = (outsAt0 m c (t.val - 1) (Nat.lt_of_le_of_lt (Nat.sub_le _ _) t.isLt)).2.2.2.2.2.2.1 (ix3 j x s) + (X m c t).tv (MX m c t j) x s := by
  rw [outsAt0_B m c t h0 h1]
  dsimp only
  unfold sout0_B_2 MX
  refine (s2_B (nb := nb t) (hnb := (coord1 t).symm) ..).trans ?_
  rw [coord1 t]

theorem scr3_B (h1 : ¬t.val % 8 = 7) (j : Fin 8) (s : Fin 512) :
    (outsAt0 m c t.val t.isLt).2.2.2.2.2.2.2 (ix3 j 0 s)
      = (outsAt0 m c (t.val - 1) (Nat.lt_of_le_of_lt (Nat.sub_le _ _) t.isLt)).2.2.2.2.2.2.2 (ix3 j 0 s) + Pt.ts (ZX m c t j) s := by
  rw [outsAt0_B m c t h0 h1]
  dsimp only
  unfold sout0_B_3 ZX
  refine (s3_B (nb := nb t) (hnb := (coord1 t).symm) ..).trans ?_
  rw [coord1 t]

theorem out8_B (h1 : ¬t.val % 8 = 7) (r : Fin 512) (x : Fin 128) :
    (outsAt0 m c t.val t.isLt).1 (ix2 r x) = ∑ j, (X m c t).tq (ZX m c t j) j r x := by
  rw [outsAt0_B m c t h0 h1]
  dsimp only
  unfold out0_B_8 ZX
  refine (o8_B (nb := nb t) (hnb := (coord1 t).symm) ..).trans ?_
  rw [coord1 t]

theorem out12_B (h1 : ¬t.val % 8 = 7) (r : Fin 512) :
    (outsAt0 m c t.val t.isLt).2.2.2.2.1 (ix3 0 r 0) = ∑ j, Pt.tr (ZX m c t j) r := by
  rw [outsAt0_B m c t h0 h1]
  dsimp only
  unfold out0_B_12 ZX
  refine (o12_B (nb := nb t) (hnb := (coord1 t).symm) ..).trans ?_
  rw [coord1 t]

theorem scr1_C (h1 : t.val % 8 = 7) (j : Fin 8) (x : Fin 128) (s : Fin 512) :
    (outsAt0 m c t.val t.isLt).2.2.2.2.2.1 (ix3 j x s)
      = (outsAt0 m c (t.val - 1) (Nat.lt_of_le_of_lt (Nat.sub_le _ _) t.isLt)).2.2.2.2.2.1 (ix3 j x s) + (X m c t).tk (ZX m c t j) x s := by
  rw [outsAt0_C m c t h0 h1]
  dsimp only
  unfold sout0_C_1 ZX
  refine (s1_C (nb := nb t) (hnb := (coord1 t).symm) ..).trans ?_
  rw [coord1 t]

theorem scr2_C (h1 : t.val % 8 = 7) (j : Fin 8) (x : Fin 128) (s : Fin 512) :
    (outsAt0 m c t.val t.isLt).2.2.2.2.2.2.1 (ix3 j x s)
      = (outsAt0 m c (t.val - 1) (Nat.lt_of_le_of_lt (Nat.sub_le _ _) t.isLt)).2.2.2.2.2.2.1 (ix3 j x s) + (X m c t).tv (MX m c t j) x s := by
  rw [outsAt0_C m c t h0 h1]
  dsimp only
  unfold sout0_C_2 MX
  refine (s2_C (nb := nb t) (hnb := (coord1 t).symm) ..).trans ?_
  rw [coord1 t]

theorem scr3_C (h1 : t.val % 8 = 7) (j : Fin 8) (s : Fin 512) :
    (outsAt0 m c t.val t.isLt).2.2.2.2.2.2.2 (ix3 j 0 s)
      = (outsAt0 m c (t.val - 1) (Nat.lt_of_le_of_lt (Nat.sub_le _ _) t.isLt)).2.2.2.2.2.2.2 (ix3 j 0 s) + Pt.ts (ZX m c t j) s := by
  rw [outsAt0_C m c t h0 h1]
  dsimp only
  unfold sout0_C_3 ZX
  refine (s3_C (nb := nb t) (hnb := (coord1 t).symm) ..).trans ?_
  rw [coord1 t]

theorem out8_C (h1 : t.val % 8 = 7) (r : Fin 512) (x : Fin 128) :
    (outsAt0 m c t.val t.isLt).1 (ix2 r x) = ∑ j, (X m c t).tq (ZX m c t j) j r x := by
  rw [outsAt0_C m c t h0 h1]
  dsimp only
  unfold out0_C_8 ZX
  refine (o8_C (nb := nb t) (hnb := (coord1 t).symm) ..).trans ?_
  rw [coord1 t]

theorem out12_C (h1 : t.val % 8 = 7) (r : Fin 512) :
    (outsAt0 m c t.val t.isLt).2.2.2.2.1 (ix3 0 r 0) = ∑ j, Pt.tr (ZX m c t j) r := by
  rw [outsAt0_C m c t h0 h1]
  dsimp only
  unfold out0_C_12 ZX
  refine (o12_C (nb := nb t) (hnb := (coord1 t).symm) ..).trans ?_
  rw [coord1 t]

theorem out9_C (h1 : t.val % 8 = 7) (j : Fin 8) (x : Fin 128) (s : Fin 512) :
    (outsAt0 m c t.val t.isLt).2.1 (ix2 (key j s) x) = (outsAt0 m c t.val t.isLt).2.2.2.2.2.1 (ix3 j x s) := by
  rw [scr1_C m c t h0 h1, outsAt0_C m c t h0 h1]
  dsimp only
  unfold out0_C_9 ZX
  refine (o9_C (nb := nb t) (hnb := (coord1 t).symm) ..).trans ?_
  rw [coord1 t]

theorem out10_C (h1 : t.val % 8 = 7) (j : Fin 8) (x : Fin 128) (s : Fin 512) :
    (outsAt0 m c t.val t.isLt).2.2.1 (ix2 (key j s) x) = (outsAt0 m c t.val t.isLt).2.2.2.2.2.2.1 (ix3 j x s) := by
  rw [scr2_C m c t h0 h1, outsAt0_C m c t h0 h1]
  dsimp only
  unfold out0_C_10 MX
  refine (o10_C (nb := nb t) (hnb := (coord1 t).symm) ..).trans ?_
  rw [coord1 t]

theorem out11_C (h1 : t.val % 8 = 7) (j : Fin 8) (s : Fin 512) :
    (outsAt0 m c t.val t.isLt).2.2.2.1 (ix4 0 j 0 s) = (outsAt0 m c t.val t.isLt).2.2.2.2.2.2.2 (ix3 j 0 s) := by
  rw [scr3_C m c t h0 h1, outsAt0_C m c t h0 h1]
  dsimp only
  unfold out0_C_11 ZX
  refine (o11_C (nb := nb t) (hnb := (coord1 t).symm) ..).trans ?_
  rw [coord1 t]

end

/-- Every point writes this block whole. -/
theorem out8_at (c : Dev nD) (t : Fin cfg0.N) (r : Fin 512) (x : Fin 128) :
    (outsAt0 m c t.val t.isLt).1 (ix2 r x) = ∑ j, (X m c t).tq (ZX m c t j) j r x := by
  by_cases h0 : t.val % 8 = 0
  · exact out8_A m c t h0 (by omega) r x
  · by_cases h1 : t.val % 8 = 7
    · exact out8_C m c t h0 h1 r x
    · exact out8_B m c t h0 h1 r x

/-- Every point writes this block whole. -/
theorem out12_at (c : Dev nD) (t : Fin cfg0.N) (r : Fin 512) :
    (outsAt0 m c t.val t.isLt).2.2.2.2.1 (ix3 0 r 0) = ∑ j, Pt.tr (ZX m c t j) r := by
  by_cases h0 : t.val % 8 = 0
  · exact out12_A m c t h0 (by omega) r
  · by_cases h1 : t.val % 8 = 7
    · exact out12_C m c t h0 h1 r
    · exact out12_B m c t h0 h1 r

/-- The point of query tile `n'` in the pass over keys that the point `t` belongs to. -/
abbrev tile (t : Fin cfg0.N) (n' : Fin 8) : Fin cfg0.N :=
  ⟨8 * (t.val / 8) + n'.val, by have h : t.val < 128 := lt_of_lt_of_eq t.isLt N_0; have := n'.isLt; exact lt_of_lt_of_eq (b := 128) (by omega) N_0.symm⟩

theorem tile_last (t : Fin cfg0.N) : tile t (nb t) = t := Fin.ext (Nat.div_add_mod _ _)

/-- The running sum over the query tiles done so far. -/
theorem acc1 (c : Dev nD) (j : Fin 8) (x : Fin 128) (s : Fin 512) : ∀ (k : ℕ) (t : Fin cfg0.N), t.val = k →
    (outsAt0 m c t.val t.isLt).2.2.2.2.2.1 (ix3 j x s)
      = ∑ n' : Fin 8, if n'.val < t.val % 8 + 1 then (X m c (tile t n')).tk (ZX m c (tile t n') j) x s else 0 := by
  intro k
  induction k using Nat.strong_induction_on with
  | _ k ih =>
    intro t ht
    have hs := sum_lt_succ (fun n' => (X m c (tile t n')).tk (ZX m c (tile t n') j) x s) (t.val % 8) (nb t) rfl
    refine Eq.trans ?_ hs.symm
    rw [tile_last t]
    by_cases h0 : t.val % 8 = 0
    · rw [scr1_A m c t h0 (by omega) j x s]
      congr 1
      rw [h0]
      exact (Finset.sum_eq_zero fun n' _ => if_neg (by omega)).symm
    · have ht0 : 0 < t.val := by
        rcases Nat.eq_zero_or_pos t.val with h | h
        · rw [h] at h0; exact absurd rfl h0
        · exact h
      have hp := ih (t.val - 1) (by omega) ⟨t.val - 1, Nat.lt_of_le_of_lt (Nat.sub_le _ _) t.isLt⟩ rfl
      have e1 : (t.val - 1) % 8 + 1 = t.val % 8 := by omega
      have e2 : (t.val - 1) / 8 = t.val / 8 := by omega
      have e3 : ∀ n', tile ⟨t.val - 1, Nat.lt_of_le_of_lt (Nat.sub_le _ _) t.isLt⟩ n' = tile t n' :=
        fun n' => Fin.ext (by show 8 * ((t.val - 1) / 8) + n'.val = 8 * (t.val / 8) + n'.val; rw [e2])
      simp only [e1, e3] at hp
      by_cases h1 : t.val % 8 = 7
      · rw [scr1_C m c t h0 h1 j x s, hp]
      · rw [scr1_B m c t h0 h1 j x s, hp]

/-- The running sum over the query tiles done so far. -/
theorem acc2 (c : Dev nD) (j : Fin 8) (x : Fin 128) (s : Fin 512) : ∀ (k : ℕ) (t : Fin cfg0.N), t.val = k →
    (outsAt0 m c t.val t.isLt).2.2.2.2.2.2.1 (ix3 j x s)
      = ∑ n' : Fin 8, if n'.val < t.val % 8 + 1 then (X m c (tile t n')).tv (MX m c (tile t n') j) x s else 0 := by
  intro k
  induction k using Nat.strong_induction_on with
  | _ k ih =>
    intro t ht
    have hs := sum_lt_succ (fun n' => (X m c (tile t n')).tv (MX m c (tile t n') j) x s) (t.val % 8) (nb t) rfl
    refine Eq.trans ?_ hs.symm
    rw [tile_last t]
    by_cases h0 : t.val % 8 = 0
    · rw [scr2_A m c t h0 (by omega) j x s]
      congr 1
      rw [h0]
      exact (Finset.sum_eq_zero fun n' _ => if_neg (by omega)).symm
    · have ht0 : 0 < t.val := by
        rcases Nat.eq_zero_or_pos t.val with h | h
        · rw [h] at h0; exact absurd rfl h0
        · exact h
      have hp := ih (t.val - 1) (by omega) ⟨t.val - 1, Nat.lt_of_le_of_lt (Nat.sub_le _ _) t.isLt⟩ rfl
      have e1 : (t.val - 1) % 8 + 1 = t.val % 8 := by omega
      have e2 : (t.val - 1) / 8 = t.val / 8 := by omega
      have e3 : ∀ n', tile ⟨t.val - 1, Nat.lt_of_le_of_lt (Nat.sub_le _ _) t.isLt⟩ n' = tile t n' :=
        fun n' => Fin.ext (by show 8 * ((t.val - 1) / 8) + n'.val = 8 * (t.val / 8) + n'.val; rw [e2])
      simp only [e1, e3] at hp
      by_cases h1 : t.val % 8 = 7
      · rw [scr2_C m c t h0 h1 j x s, hp]
      · rw [scr2_B m c t h0 h1 j x s, hp]

/-- The running sum over the query tiles done so far. -/
theorem acc3 (c : Dev nD) (j : Fin 8) (s : Fin 512) : ∀ (k : ℕ) (t : Fin cfg0.N), t.val = k →
    (outsAt0 m c t.val t.isLt).2.2.2.2.2.2.2 (ix3 j 0 s)
      = ∑ n' : Fin 8, if n'.val < t.val % 8 + 1 then Pt.ts (ZX m c (tile t n') j) s else 0 := by
  intro k
  induction k using Nat.strong_induction_on with
  | _ k ih =>
    intro t ht
    have hs := sum_lt_succ (fun n' => Pt.ts (ZX m c (tile t n') j) s) (t.val % 8) (nb t) rfl
    refine Eq.trans ?_ hs.symm
    rw [tile_last t]
    by_cases h0 : t.val % 8 = 0
    · rw [scr3_A m c t h0 (by omega) j s]
      congr 1
      rw [h0]
      exact (Finset.sum_eq_zero fun n' _ => if_neg (by omega)).symm
    · have ht0 : 0 < t.val := by
        rcases Nat.eq_zero_or_pos t.val with h | h
        · rw [h] at h0; exact absurd rfl h0
        · exact h
      have hp := ih (t.val - 1) (by omega) ⟨t.val - 1, Nat.lt_of_le_of_lt (Nat.sub_le _ _) t.isLt⟩ rfl
      have e1 : (t.val - 1) % 8 + 1 = t.val % 8 := by omega
      have e2 : (t.val - 1) / 8 = t.val / 8 := by omega
      have e3 : ∀ n', tile ⟨t.val - 1, Nat.lt_of_le_of_lt (Nat.sub_le _ _) t.isLt⟩ n' = tile t n' :=
        fun n' => Fin.ext (by show 8 * ((t.val - 1) / 8) + n'.val = 8 * (t.val / 8) + n'.val; rw [e2])
      simp only [e1, e3] at hp
      by_cases h1 : t.val % 8 = 7
      · rw [scr3_C m c t h0 h1 j s, hp]
      · rw [scr3_B m c t h0 h1 j s, hp]

/-- At the last query tile the running sum is written out. -/
theorem out9_at (c : Dev nD) (t : Fin cfg0.N) (h1 : t.val % 8 = 7) (j : Fin 8) (x : Fin 128) (s : Fin 512) :
    (outsAt0 m c t.val t.isLt).2.1 (ix2 (key j s) x) = ∑ n' : Fin 8, (X m c (tile t n')).tk (ZX m c (tile t n') j) x s := by
  rw [out9_C m c t (by omega) h1 j x s, acc1 m c j x s _ t rfl]
  exact Finset.sum_congr rfl fun n' _ => if_pos (by have := n'.isLt; omega)

/-- At the last query tile the running sum is written out. -/
theorem out10_at (c : Dev nD) (t : Fin cfg0.N) (h1 : t.val % 8 = 7) (j : Fin 8) (x : Fin 128) (s : Fin 512) :
    (outsAt0 m c t.val t.isLt).2.2.1 (ix2 (key j s) x) = ∑ n' : Fin 8, (X m c (tile t n')).tv (MX m c (tile t n') j) x s := by
  rw [out10_C m c t (by omega) h1 j x s, acc2 m c j x s _ t rfl]
  exact Finset.sum_congr rfl fun n' _ => if_pos (by have := n'.isLt; omega)

/-- At the last query tile the running sum is written out. -/
theorem out11_at (c : Dev nD) (t : Fin cfg0.N) (h1 : t.val % 8 = 7) (j : Fin 8) (s : Fin 512) :
    (outsAt0 m c t.val t.isLt).2.2.2.1 (ix4 0 j 0 s) = ∑ n' : Fin 8, Pt.ts (ZX m c (tile t n') j) s := by
  rw [out11_C m c t (by omega) h1 j s, acc3 m c j s _ t rfl]
  exact Finset.sum_congr rfl fun n' _ => if_pos (by have := n'.isLt; omega)

end Cert.KernelIdeal.Bwd

end
-- ==== Proof.Head.lean ====
module

public import proofs.«01_k».proof.Proof.Spec

@[expose] public section

set_option maxRecDepth 16384

noncomputable section

namespace Cert.KernelIdeal.Bwd

open Idealize.ShloMosaic

/-- Column `x` of head `h`. -/
def col (h : Fin 16) (x : Fin 128) : Fin 2048 := ⟨128 * h.val + x.val, by omega⟩

/-- Column `x` of head `h` of the `o`-th of the three parts of `qkv`. -/
def col3 (o : Fin 3) (h : Fin 16) (x : Fin 128) : Fin 6144 := ⟨2048 * o.val + (128 * h.val + x.val), by omega⟩

theorem key_surj (t : Fin 4096) : ∃ j s, t = key j s :=
  ⟨⟨t.val / 512, by omega⟩, ⟨t.val % 512, by omega⟩, Fin.ext (Nat.div_add_mod _ _).symm⟩

theorem col_surj (t : Fin 2048) : ∃ h x, t = col h x :=
  ⟨⟨t.val / 128, by omega⟩, ⟨t.val % 128, by omega⟩, Fin.ext (Nat.div_add_mod _ _).symm⟩

theorem col3_surj (t : Fin 6144) : ∃ o h x, t = col3 o h x :=
  ⟨⟨t.val / 2048, by omega⟩, ⟨t.val % 2048 / 128, by omega⟩, ⟨t.val % 128, by omega⟩, Fin.ext (by
    show t.val = 2048 * (t.val / 2048) + (128 * (t.val % 2048 / 128) + t.val % 128)
    omega)⟩

theorem key_le (j j' : Fin 8) (s r : Fin 512) : key j s ≤ key j' r ↔ j.val < j'.val ∨ (j.val = j'.val ∧ s.val ≤ r.val) := by
  rw [Fin.le_def]
  show 512 * j.val + s.val ≤ 512 * j'.val + r.val ↔ _
  omega

theorem sum_key (f : Fin 4096 → EReal) : ∑ t, f t = ∑ j : Fin 8, ∑ s : Fin 512, f (key j s) := by
  rw [Fin.sum_univ_tiles 8 512 rfl f]
  refine Finset.sum_congr rfl fun j _ => Finset.sum_congr rfl fun s _ => congrArg f (Fin.ext ?_)
  show j.val * 512 + s.val = 512 * j.val + s.val
  omega

/-- One head of the attention: its queries, keys, values, the result's gradient, and per row the log-sum, the row's
share `dl`, the gate of the row as a query and as a key. -/
@[ext] structure Head where
  q : Fin 4096 → Fin 128 → EReal
  k : Fin 4096 → Fin 128 → EReal
  v : Fin 4096 → Fin 128 → EReal
  g : Fin 4096 → Fin 128 → EReal
  l : Fin 4096 → EReal
  dl : Fin 4096 → EReal
  c : Fin 4096 → EReal

namespace Head

variable (H : Head)

/-- The part of the head that the block `n` of the queries works on. -/
def pt (n : Fin 8) : Pt where
  q r x := H.q (key n r) x
  g r x := H.g (key n r) x
  l r := H.l (key n r)
  dl r := H.dl (key n r)
  cq r := H.c (key n r)
  k := H.k
  v := H.v
  ck j s := H.c (key j s)

/-- The attention's weight of the key `s` for the query `t`: none if the key comes later. -/
def P (t s : Fin 4096) : EReal :=
  if s ≤ t then Ideal.exp ((∑ x, H.q t x * H.k s x) * sc + H.c t - H.c s - H.l t) else 0

/-- The gradient of the logit. -/
def Z (t s : Fin 4096) : EReal := H.P t s * ((∑ x, H.g t x * H.v s x) - H.dl t)

def dq (t : Fin 4096) (x : Fin 128) : EReal := ∑ s, H.Z t s * sc * H.k s x
def dk (s : Fin 4096) (x : Fin 128) : EReal := ∑ t, H.q t x * (H.Z t s * sc)
def dv (s : Fin 4096) (x : Fin 128) : EReal := ∑ t, H.g t x * H.P t s
def cs (s : Fin 4096) : EReal := ∑ t, H.Z t s
def rs (t : Fin 4096) : EReal := ∑ s, H.Z t s

theorem M_pt (n j : Fin 8) (r s : Fin 512) : (H.pt n).M n.val j r s = H.P (key n r) (key j s) := by
  unfold Pt.M P
  simp only [key_le]
  by_cases h : j.val < n.val
  · rw [if_pos h, if_pos (Or.inl h)]
    rfl
  · rw [if_neg h]
    by_cases h1 : j.val = n.val
    · rw [if_pos h1]
      by_cases h2 : s.val ≤ r.val
      · rw [if_pos h2, if_pos (Or.inr ⟨h1, h2⟩)]
        rfl
      · rw [if_neg h2, if_neg (by omega)]
    · rw [if_neg h1, if_neg (by omega)]

theorem Z_pt (n j : Fin 8) (r s : Fin 512) : (H.pt n).Z n.val j r s = H.Z (key n r) (key j s) := by
  unfold Pt.Z Z
  rw [M_pt]
  rfl

theorem dq_pt (n : Fin 8) (r : Fin 512) (x : Fin 128) : ∑ j, (H.pt n).tq ((H.pt n).Z n.val j) j r x = H.dq (key n r) x := by
  unfold Pt.tq dq
  rw [sum_key]
  simp only [Z_pt]
  rfl

theorem dk_pt (j : Fin 8) (s : Fin 512) (x : Fin 128) : ∑ n, (H.pt n).tk ((H.pt n).Z n.val j) x s = H.dk (key j s) x := by
  unfold Pt.tk dk
  rw [sum_key]
  simp only [Z_pt]
  rfl

theorem dv_pt (j : Fin 8) (s : Fin 512) (x : Fin 128) : ∑ n, (H.pt n).tv ((H.pt n).M n.val j) x s = H.dv (key j s) x := by
  unfold Pt.tv dv
  rw [sum_key]
  simp only [M_pt]
  rfl

theorem cs_pt (j : Fin 8) (s : Fin 512) : ∑ n, Pt.ts ((H.pt n).Z n.val j) s = H.cs (key j s) := by
  unfold Pt.ts cs
  rw [sum_key]
  simp only [Z_pt]

theorem rs_pt (n : Fin 8) (r : Fin 512) : ∑ j, Pt.tr ((H.pt n).Z n.val j) r = H.rs (key n r) := by
  unfold Pt.tr rs
  rw [sum_key]
  simp only [Z_pt]

end Head

end Cert.KernelIdeal.Bwd

end
-- ==== Proof.Bridge.lean ====
module

public import proofs.«01_k».proof.Proof.Grid
public import proofs.«01_k».proof.Proof.Head
public import Idealize.ShloMosaic.Lib.Pipeline.ValueKit

@[expose] public section

set_option maxRecDepth 16384

noncomputable section

namespace Cert.KernelIdeal.Bwd

open Idealize.ShloMosaic Idealize.ShloMosaic.TcCoe Cert.KernelIdeal Cert.KernelIdeal.Gen Cert.Slab
open Idealize.ShloMosaic.Pipeline (Dat)

variable (m : (ℓ : Loc nD τ sig) → Buf (Elt Ideal) ℓ)

theorem idx0 : ∀ t : Fin cfg0.N, win0_0.index t = ![t.val % 8, t.val / 8] :=
  (by decide +kernel : ∀ t : Fin grid0.N, win0_0.index t = ![t.val % 8, t.val / 8])
theorem idx1 : ∀ t : Fin cfg0.N, win0_1.index t = ![0, 16 + t.val / 8] :=
  (by decide +kernel : ∀ t : Fin grid0.N, win0_1.index t = ![0, 16 + t.val / 8])
theorem idx2 : ∀ t : Fin cfg0.N, win0_2.index t = ![0, 32 + t.val / 8] :=
  (by decide +kernel : ∀ t : Fin grid0.N, win0_2.index t = ![0, 32 + t.val / 8])
theorem idx3 : ∀ t : Fin cfg0.N, win0_3.index t = ![t.val % 8, t.val / 8] :=
  (by decide +kernel : ∀ t : Fin grid0.N, win0_3.index t = ![t.val % 8, t.val / 8])
theorem idx4 : ∀ t : Fin cfg0.N, win0_4.index t = ![t.val / 8, t.val % 8, 0] :=
  (by decide +kernel : ∀ t : Fin grid0.N, win0_4.index t = ![t.val / 8, t.val % 8, 0])
theorem idx5 : ∀ t : Fin cfg0.N, win0_5.index t = ![t.val / 8, t.val % 8, 0] :=
  (by decide +kernel : ∀ t : Fin grid0.N, win0_5.index t = ![t.val / 8, t.val % 8, 0])
theorem idx6 : ∀ t : Fin cfg0.N, win0_6.index t = ![t.val / 8, t.val % 8, 0] :=
  (by decide +kernel : ∀ t : Fin grid0.N, win0_6.index t = ![t.val / 8, t.val % 8, 0])
theorem idx7 : ∀ t : Fin cfg0.N, win0_7.index t = ![t.val / 8, 0, 0, 0] :=
  (by decide +kernel : ∀ t : Fin grid0.N, win0_7.index t = ![t.val / 8, 0, 0, 0])
theorem idx8 : ∀ t : Fin cfg0.N, win0_8.index t = ![t.val % 8, t.val / 8] :=
  (by decide +kernel : ∀ t : Fin grid0.N, win0_8.index t = ![t.val % 8, t.val / 8])
theorem idx9 : ∀ t : Fin cfg0.N, win0_9.index t = ![0, t.val / 8] :=
  (by decide +kernel : ∀ t : Fin grid0.N, win0_9.index t = ![0, t.val / 8])
theorem idx10 : ∀ t : Fin cfg0.N, win0_10.index t = ![0, t.val / 8] :=
  (by decide +kernel : ∀ t : Fin grid0.N, win0_10.index t = ![0, t.val / 8])
theorem idx11 : ∀ t : Fin cfg0.N, win0_11.index t = ![t.val / 8, 0, 0, 0] :=
  (by decide +kernel : ∀ t : Fin grid0.N, win0_11.index t = ![t.val / 8, 0, 0, 0])
theorem idx12 : ∀ t : Fin cfg0.N, win0_12.index t = ![t.val / 8, t.val % 8, 0] :=
  (by decide +kernel : ∀ t : Fin grid0.N, win0_12.index t = ![t.val / 8, t.val % 8, 0])

/-- The head of the point `t`. -/
abbrev hd (t : Fin cfg0.N) : Fin 16 := ⟨t.val / 8, by have h : t.val < 128 := lt_of_lt_of_eq t.isLt N_0; omega⟩

/-- The head `h` as the region finds it. -/
def head (c : Dev nD) (h : Fin 16) : Head where
  q t x := V m c main_arg0 (ix2 t (col3 0 h x))
  k t x := V m c main_arg0 (ix2 t (col3 1 h x))
  v t x := V m c main_arg0 (ix2 t (col3 2 h x))
  g t x := V m c main_arg2 (ix2 t (col h x))
  l t := V m c main_v36 (ix3 h t 0)
  dl t := V m c main_v45 (ix3 h t 0)
  c t := V m c main_v47 (ix3 h t 0)

section
variable (c : Dev nD) (t : Fin cfg0.N)
include c t

theorem rd0 (A : Buf (Elt Ideal) ((c : Thread nD τ).loc main_arg0)) (r : Fin 512) (x : Fin 128) :
    ((cfg0.win 0).blk t).view.read (Elt Ideal) A (ix2 r x) = A (ix2 (key (nb t) r) (col3 0 (hd t) x)) := by
  blk_simp
  refine congrArg A (funext fun a => Fin.ext ?_)
  match a with
  | ⟨0, _⟩ =>
    blk_simp [idx0 t]
    all_goals (show t.val % 8 * 512 + r.val = 512 * (t.val % 8) + r.val; omega)
  | ⟨1, _⟩ =>
    blk_simp [idx0 t]
    all_goals (show t.val / 8 * 128 + x.val = 2048 * 0 + (128 * (t.val / 8) + x.val); omega)

theorem blk0 (r : Fin 512) (x : Fin 128) : iblk m c 0 t (ix2 r x) = V m c main_arg0 (ix2 (key (nb t) r) (col3 0 (hd t) x)) :=
  rd0 c t (V m c main_arg0) r x

theorem rd1 (A : Buf (Elt Ideal) ((c : Thread nD τ).loc main_arg0)) (s : Fin 4096) (x : Fin 128) :
    ((cfg0.win 1).blk t).view.read (Elt Ideal) A (ix2 s x) = A (ix2 s (col3 1 (hd t) x)) := by
  blk_simp
  refine congrArg A (funext fun a => Fin.ext ?_)
  match a with
  | ⟨0, _⟩ =>
    blk_simp [idx1 t]
    all_goals (show 0 * 4096 + s.val = s.val; omega)
  | ⟨1, _⟩ =>
    blk_simp [idx1 t]
    all_goals (show (16 + t.val / 8) * 128 + x.val = 2048 * 1 + (128 * (t.val / 8) + x.val); omega)

theorem blk1 (s : Fin 4096) (x : Fin 128) : iblk m c 1 t (ix2 s x) = V m c main_arg0 (ix2 s (col3 1 (hd t) x)) :=
  rd1 c t (V m c main_arg0) s x

theorem rd2 (A : Buf (Elt Ideal) ((c : Thread nD τ).loc main_arg0)) (s : Fin 4096) (x : Fin 128) :
    ((cfg0.win 2).blk t).view.read (Elt Ideal) A (ix2 s x) = A (ix2 s (col3 2 (hd t) x)) := by
  blk_simp
  refine congrArg A (funext fun a => Fin.ext ?_)
  match a with
  | ⟨0, _⟩ =>
    blk_simp [idx2 t]
    all_goals (show 0 * 4096 + s.val = s.val; omega)
  | ⟨1, _⟩ =>
    blk_simp [idx2 t]
    all_goals (show (32 + t.val / 8) * 128 + x.val = 2048 * 2 + (128 * (t.val / 8) + x.val); omega)

theorem blk2 (s : Fin 4096) (x : Fin 128) : iblk m c 2 t (ix2 s x) = V m c main_arg0 (ix2 s (col3 2 (hd t) x)) :=
  rd2 c t (V m c main_arg0) s x

theorem rd3 (A : Buf (Elt Ideal) ((c : Thread nD τ).loc main_arg2)) (r : Fin 512) (x : Fin 128) :
    ((cfg0.win 3).blk t).view.read (Elt Ideal) A (ix2 r x) = A (ix2 (key (nb t) r) (col (hd t) x)) := by
  blk_simp
  refine congrArg A (funext fun a => Fin.ext ?_)
  match a with
  | ⟨0, _⟩ =>
    blk_simp [idx3 t]
    all_goals (show t.val % 8 * 512 + r.val = 512 * (t.val % 8) + r.val; omega)
  | ⟨1, _⟩ =>
    blk_simp [idx3 t]
    all_goals (show t.val / 8 * 128 + x.val = 128 * (t.val / 8) + x.val; omega)

theorem blk3 (r : Fin 512) (x : Fin 128) : iblk m c 3 t (ix2 r x) = V m c main_arg2 (ix2 (key (nb t) r) (col (hd t) x)) :=
  rd3 c t (V m c main_arg2) r x

theorem rd4 (A : Buf (Elt Ideal) ((c : Thread nD τ).loc main_v36)) (r : Fin 512) :
    ((cfg0.win 4).blk t).view.read (Elt Ideal) A (ix3 0 r 0) = A (ix3 (hd t) (key (nb t) r) 0) := by
  blk_simp
  refine congrArg A (funext fun a => Fin.ext ?_)
  match a with
  | ⟨0, _⟩ =>
    blk_simp [idx4 t]
    all_goals (show t.val / 8 + 0 = t.val / 8; omega)
  | ⟨1, _⟩ =>
    blk_simp [idx4 t]
    all_goals (show t.val % 8 * 512 + r.val = 512 * (t.val % 8) + r.val; omega)
  | ⟨2, _⟩ =>
    blk_simp [idx4 t]
    all_goals (show 0 * 1 + 0 = 0; omega)

theorem blk4 (r : Fin 512) : iblk m c 4 t (ix3 0 r 0) = V m c main_v36 (ix3 (hd t) (key (nb t) r) 0) :=
  rd4 c t (V m c main_v36) r

theorem rd5 (A : Buf (Elt Ideal) ((c : Thread nD τ).loc main_v45)) (r : Fin 512) :
    ((cfg0.win 5).blk t).view.read (Elt Ideal) A (ix3 0 r 0) = A (ix3 (hd t) (key (nb t) r) 0) := by
  blk_simp
  refine congrArg A (funext fun a => Fin.ext ?_)
  match a with
  | ⟨0, _⟩ =>
    blk_simp [idx5 t]
    all_goals (show t.val / 8 + 0 = t.val / 8; omega)
  | ⟨1, _⟩ =>
    blk_simp [idx5 t]
    all_goals (show t.val % 8 * 512 + r.val = 512 * (t.val % 8) + r.val; omega)
  | ⟨2, _⟩ =>
    blk_simp [idx5 t]
    all_goals (show 0 * 1 + 0 = 0; omega)

theorem blk5 (r : Fin 512) : iblk m c 5 t (ix3 0 r 0) = V m c main_v45 (ix3 (hd t) (key (nb t) r) 0) :=
  rd5 c t (V m c main_v45) r

theorem rd6 (A : Buf (Elt Ideal) ((c : Thread nD τ).loc main_v47)) (r : Fin 512) :
    ((cfg0.win 6).blk t).view.read (Elt Ideal) A (ix3 0 r 0) = A (ix3 (hd t) (key (nb t) r) 0) := by
  blk_simp
  refine congrArg A (funext fun a => Fin.ext ?_)
  match a with
  | ⟨0, _⟩ =>
    blk_simp [idx6 t]
    all_goals (show t.val / 8 + 0 = t.val / 8; omega)
  | ⟨1, _⟩ =>
    blk_simp [idx6 t]
    all_goals (show t.val % 8 * 512 + r.val = 512 * (t.val % 8) + r.val; omega)
  | ⟨2, _⟩ =>
    blk_simp [idx6 t]
    all_goals (show 0 * 1 + 0 = 0; omega)

theorem blk6 (r : Fin 512) : iblk m c 6 t (ix3 0 r 0) = V m c main_v47 (ix3 (hd t) (key (nb t) r) 0) :=
  rd6 c t (V m c main_v47) r

theorem rd7 (A : Buf (Elt Ideal) ((c : Thread nD τ).loc main_v48)) (j : Fin 8) (s : Fin 512) :
    ((cfg0.win 7).blk t).view.read (Elt Ideal) A (ix4 0 j 0 s) = A (ix4 (hd t) j 0 s) := by
  blk_simp
  refine congrArg A (funext fun a => Fin.ext ?_)
  match a with
  | ⟨0, _⟩ =>
    blk_simp [idx7 t]
    all_goals (show t.val / 8 + 0 = t.val / 8; omega)
  | ⟨1, _⟩ =>
    blk_simp [idx7 t]
    all_goals (show 0 * 8 + j.val = j.val; omega)
  | ⟨2, _⟩ =>
    blk_simp [idx7 t]
    all_goals (show 0 * 1 + 0 = 0; omega)
  | ⟨3, _⟩ =>
    blk_simp [idx7 t]
    all_goals (show 0 * 512 + s.val = s.val; omega)

theorem blk7 (j : Fin 8) (s : Fin 512) : iblk m c 7 t (ix4 0 j 0 s) = V m c main_v48 (ix4 (hd t) j 0 s) :=
  rd7 c t (V m c main_v48) j s

end

theorem X_eq (c : Dev nD) (hc : ∀ h j s, V m c main_v48 (ix4 h j 0 s) = V m c main_v47 (ix3 h (key j s) 0)) (t : Fin cfg0.N) :
    X m c t = (head m c (hd t)).pt (nb t) := by
  unfold X ptOf Head.pt head
  simp only [blk0, blk1, blk2, blk3, blk4, blk5, blk6, blk7, hc]

theorem hd_tile (t : Fin cfg0.N) (n : Fin 8) : hd (tile t n) = hd t := by
  refine Fin.ext ?_
  show (8 * (t.val / 8) + n.val) / 8 = t.val / 8
  omega

theorem nb_tile (t : Fin cfg0.N) (n : Fin 8) : nb (tile t n) = n := by
  refine Fin.ext ?_
  show (8 * (t.val / 8) + n.val) % 8 = n.val
  omega

theorem X_tile (c : Dev nD) (hc : ∀ h j s, V m c main_v48 (ix4 h j 0 s) = V m c main_v47 (ix3 h (key j s) 0)) (t : Fin cfg0.N) (n : Fin 8) :
    X m c (tile t n) = (head m c (hd t)).pt n := by
  rw [X_eq m c hc, hd_tile, nb_tile]

theorem out8_head (c : Dev nD) (hc : ∀ h j s, V m c main_v48 (ix4 h j 0 s) = V m c main_v47 (ix3 h (key j s) 0)) (t : Fin cfg0.N) (r : Fin 512) (x : Fin 128) :
    (outsAt0 m c t.val t.isLt).1 (ix2 r x) = (head m c (hd t)).dq (key (nb t) r) x := by
  rw [out8_at, ← Head.dq_pt]
  unfold ZX
  rw [X_eq m c hc]

theorem out12_head (c : Dev nD) (hc : ∀ h j s, V m c main_v48 (ix4 h j 0 s) = V m c main_v47 (ix3 h (key j s) 0)) (t : Fin cfg0.N) (r : Fin 512) :
    (outsAt0 m c t.val t.isLt).2.2.2.2.1 (ix3 0 r 0) = (head m c (hd t)).rs (key (nb t) r) := by
  rw [out12_at, ← Head.rs_pt]
  unfold ZX
  rw [X_eq m c hc]

theorem tile_mod (t : ℕ) (n : Fin 8) : (8 * (t / 8) + n.val) % 8 = n.val := by omega

theorem out9_head (c : Dev nD) (hc : ∀ h j s, V m c main_v48 (ix4 h j 0 s) = V m c main_v47 (ix3 h (key j s) 0)) (t : Fin cfg0.N) (h1 : t.val % 8 = 7)
    (j : Fin 8) (s : Fin 512) (x : Fin 128) : (outsAt0 m c t.val t.isLt).2.1 (ix2 (key j s) x) = (head m c (hd t)).dk (key j s) x := by
  rw [out9_at m c t h1, ← Head.dk_pt]
  unfold ZX
  simp only [X_tile m c hc, tile_mod]

theorem out10_head (c : Dev nD) (hc : ∀ h j s, V m c main_v48 (ix4 h j 0 s) = V m c main_v47 (ix3 h (key j s) 0)) (t : Fin cfg0.N) (h1 : t.val % 8 = 7)
    (j : Fin 8) (s : Fin 512) (x : Fin 128) : (outsAt0 m c t.val t.isLt).2.2.1 (ix2 (key j s) x) = (head m c (hd t)).dv (key j s) x := by
  rw [out10_at m c t h1, ← Head.dv_pt]
  unfold MX
  simp only [X_tile m c hc, tile_mod]

theorem out11_head (c : Dev nD) (hc : ∀ h j s, V m c main_v48 (ix4 h j 0 s) = V m c main_v47 (ix3 h (key j s) 0)) (t : Fin cfg0.N) (h1 : t.val % 8 = 7)
    (j : Fin 8) (s : Fin 512) : (outsAt0 m c t.val t.isLt).2.2.2.1 (ix4 0 j 0 s) = (head m c (hd t)).cs (key j s) := by
  rw [out11_at m c t h1, ← Head.cs_pt]
  unfold ZX
  simp only [X_tile m c hc, tile_mod]

/-- The head and the column of a column of the attention's results. -/
abbrev hcol (y : Fin 2048) : Fin 16 := ⟨y.val / 128, by omega⟩
abbrev xcol (y : Fin 2048) : Fin 128 := ⟨y.val % 128, by omega⟩

theorem hcol_col (h : Fin 16) (x : Fin 128) : hcol (col h x) = h := Fin.ext (by show (128 * h.val + x.val) / 128 = h.val; omega)
theorem xcol_col (h : Fin 16) (x : Fin 128) : xcol (col h x) = x := Fin.ext (by show (128 * h.val + x.val) % 128 = x.val; omega)

theorem emb8 (c : Dev nD) (t : Fin cfg0.N) (A : Buf (Elt Ideal) ((c : Thread nD τ).loc main_v49_0)) (r : Fin 512) (x : Fin 128) :
    A (((cfg0.win 8).blk t).view.emb (ix2 r x)) = A (ix2 (key (nb t) r) (col (hd t) x)) := by
  refine congrArg A (funext fun a => Fin.ext ?_)
  match a with
  | ⟨0, _⟩ =>
    blk_simp [idx8 t]
    all_goals (show t.val % 8 * 512 + r.val = 512 * (t.val % 8) + r.val; omega)
  | ⟨1, _⟩ =>
    blk_simp [idx8 t]
    all_goals (show t.val / 8 * 128 + x.val = 128 * (t.val / 8) + x.val; omega)

theorem emb9 (c : Dev nD) (t : Fin cfg0.N) (A : Buf (Elt Ideal) ((c : Thread nD τ).loc main_v49_1)) (s : Fin 4096) (x : Fin 128) :
    A (((cfg0.win 9).blk t).view.emb (ix2 s x)) = A (ix2 s (col (hd t) x)) := by
  refine congrArg A (funext fun a => Fin.ext ?_)
  match a with
  | ⟨0, _⟩ =>
    blk_simp [idx9 t]
    all_goals (show 0 * 4096 + s.val = s.val; omega)
  | ⟨1, _⟩ =>
    blk_simp [idx9 t]
    all_goals (show t.val / 8 * 128 + x.val = 128 * (t.val / 8) + x.val; omega)

theorem emb10 (c : Dev nD) (t : Fin cfg0.N) (A : Buf (Elt Ideal) ((c : Thread nD τ).loc main_v49_2)) (s : Fin 4096) (x : Fin 128) :
    A (((cfg0.win 10).blk t).view.emb (ix2 s x)) = A (ix2 s (col (hd t) x)) := by
  refine congrArg A (funext fun a => Fin.ext ?_)
  match a with
  | ⟨0, _⟩ =>
    blk_simp [idx10 t]
    all_goals (show 0 * 4096 + s.val = s.val; omega)
  | ⟨1, _⟩ =>
    blk_simp [idx10 t]
    all_goals (show t.val / 8 * 128 + x.val = 128 * (t.val / 8) + x.val; omega)

theorem emb11 (c : Dev nD) (t : Fin cfg0.N) (A : Buf (Elt Ideal) ((c : Thread nD τ).loc main_v49_3)) (j : Fin 8) (s : Fin 512) :
    A (((cfg0.win 11).blk t).view.emb (ix4 0 j 0 s)) = A (ix4 (hd t) j 0 s) := by
  refine congrArg A (funext fun a => Fin.ext ?_)
  match a with
  | ⟨0, _⟩ =>
    blk_simp [idx11 t]
    all_goals (show t.val / 8 + 0 = t.val / 8; omega)
  | ⟨1, _⟩ =>
    blk_simp [idx11 t]
    all_goals (show 0 * 8 + j.val = j.val; omega)
  | ⟨2, _⟩ =>
    blk_simp [idx11 t]
    all_goals (show 0 * 1 + 0 = 0; omega)
  | ⟨3, _⟩ =>
    blk_simp [idx11 t]
    all_goals (show 0 * 512 + s.val = s.val; omega)

theorem emb12 (c : Dev nD) (t : Fin cfg0.N) (A : Buf (Elt Ideal) ((c : Thread nD τ).loc main_v49_4)) (r : Fin 512) :
    A (((cfg0.win 12).blk t).view.emb (ix3 0 r 0)) = A (ix3 (hd t) (key (nb t) r) 0) := by
  refine congrArg A (funext fun a => Fin.ext ?_)
  match a with
  | ⟨0, _⟩ =>
    blk_simp [idx12 t]
    all_goals (show t.val / 8 + 0 = t.val / 8; omega)
  | ⟨1, _⟩ =>
    blk_simp [idx12 t]
    all_goals (show t.val % 8 * 512 + r.val = 512 * (t.val % 8) + r.val; omega)
  | ⟨2, _⟩ =>
    blk_simp [idx12 t]
    all_goals (show 0 * 1 + 0 = 0; omega)

section
variable (c : Dev nD) (hc : ∀ h j s, V m c main_v48 (ix4 h j 0 s) = V m c main_v47 (ix3 h (key j s) 0))
include c hc

/-- The result array of window 8. -/
theorem arr8 (t : Fin 4096) (h : Fin 16) (x : Fin 128) :
    (dats m 0 c).arrAt 8 cfg0.N (ix2 t (col h x)) = (head m c h).dq t x := by
  let G : Buf (Elt Ideal) ((c : Thread nD τ).loc main_v49_0) := fun i => (head m c (hcol (i 1))).dq (i 0) (xcol (i 1))
  have hG : (dats m 0 c).arrAt 8 cfg0.N = G := (dats m 0 c).arrAt_eq_of_covers 8 G (by decide +kernel) fun t hf y => by
    blk_simp
    rw [after0_8]
    obtain ⟨r, x, rfl⟩ : ∃ r x, y = ix2 r x := ⟨y 0, y 1, funext fun a => by match a with | ⟨0, _⟩ => rfl | ⟨1, _⟩ => rfl⟩
    refine Eq.trans ?_ (emb8 c t G r x).symm
    show _ = (head m c (hcol (col (hd t) x))).dq _ (xcol (col (hd t) x))
    rw [hcol_col, xcol_col]
    exact out8_head m c hc t r x
  rw [hG]
  show (head m c (hcol (col h x))).dq t (xcol (col h x)) = _
  rw [hcol_col, xcol_col]

/-- The result array of window 9. -/
theorem arr9 (t : Fin 4096) (h : Fin 16) (x : Fin 128) :
    (dats m 0 c).arrAt 9 cfg0.N (ix2 t (col h x)) = (head m c h).dk t x := by
  let G : Buf (Elt Ideal) ((c : Thread nD τ).loc main_v49_1) := fun i => (head m c (hcol (i 1))).dk (i 0) (xcol (i 1))
  have hG : (dats m 0 c).arrAt 9 cfg0.N = G := (dats m 0 c).arrAt_eq_of_covers 9 G (by decide +kernel) fun t hf y => by
    blk_simp
    rw [after0_9]
    obtain ⟨r, x, rfl⟩ : ∃ r x, y = ix2 r x := ⟨y 0, y 1, funext fun a => by match a with | ⟨0, _⟩ => rfl | ⟨1, _⟩ => rfl⟩
    have h1 := (flush0_9 t).mp hf
    obtain ⟨j, r, rfl⟩ := key_surj r
    refine Eq.trans ?_ (emb9 c t G (key j r) x).symm
    show _ = (head m c (hcol (col (hd t) x))).dk _ (xcol (col (hd t) x))
    rw [hcol_col, xcol_col]
    exact out9_head m c hc t h1 j r x
  rw [hG]
  show (head m c (hcol (col h x))).dk t (xcol (col h x)) = _
  rw [hcol_col, xcol_col]

/-- The result array of window 10. -/
theorem arr10 (t : Fin 4096) (h : Fin 16) (x : Fin 128) :
    (dats m 0 c).arrAt 10 cfg0.N (ix2 t (col h x)) = (head m c h).dv t x := by
  let G : Buf (Elt Ideal) ((c : Thread nD τ).loc main_v49_2) := fun i => (head m c (hcol (i 1))).dv (i 0) (xcol (i 1))
  have hG : (dats m 0 c).arrAt 10 cfg0.N = G := (dats m 0 c).arrAt_eq_of_covers 10 G (by decide +kernel) fun t hf y => by
    blk_simp
    rw [after0_10]
    obtain ⟨r, x, rfl⟩ : ∃ r x, y = ix2 r x := ⟨y 0, y 1, funext fun a => by match a with | ⟨0, _⟩ => rfl | ⟨1, _⟩ => rfl⟩
    have h1 := (flush0_10 t).mp hf
    obtain ⟨j, r, rfl⟩ := key_surj r
    refine Eq.trans ?_ (emb10 c t G (key j r) x).symm
    show _ = (head m c (hcol (col (hd t) x))).dv _ (xcol (col (hd t) x))
    rw [hcol_col, xcol_col]
    exact out10_head m c hc t h1 j r x
  rw [hG]
  show (head m c (hcol (col h x))).dv t (xcol (col h x)) = _
  rw [hcol_col, xcol_col]

/-- The result array of window 11. -/
theorem arr11 (h : Fin 16) (j : Fin 8) (s : Fin 512) :
    (dats m 0 c).arrAt 11 cfg0.N (ix4 h j 0 s) = (head m c h).cs (key j s) := by
  let G : Buf (Elt Ideal) ((c : Thread nD τ).loc main_v49_3) := fun i => (head m c (i 0)).cs (key (i 1) (i 3))
  have hG : (dats m 0 c).arrAt 11 cfg0.N = G := (dats m 0 c).arrAt_eq_of_covers 11 G (by decide +kernel) fun t hf y => by
    blk_simp
    rw [after0_11]
    obtain ⟨j, s, rfl⟩ : ∃ j s, y = ix4 0 j 0 s := ⟨y 1, y 3, funext fun a => by
      match a with
      | ⟨0, _⟩ => exact Fin.ext (by have h : (y 0).val < 1 := (y 0).isLt; show (y 0).val = 0; omega)
      | ⟨1, _⟩ => rfl
      | ⟨2, _⟩ => exact Fin.ext (by have h : (y 2).val < 1 := (y 2).isLt; show (y 2).val = 0; omega)
      | ⟨3, _⟩ => rfl⟩
    refine Eq.trans ?_ (emb11 c t G j s).symm
    exact out11_head m c hc t ((flush0_11 t).mp hf) j s
  rw [hG]
  rfl

/-- The result array of window 12. -/
theorem arr12 (h : Fin 16) (t : Fin 4096) :
    (dats m 0 c).arrAt 12 cfg0.N (ix3 h t 0) = (head m c h).rs t := by
  let G : Buf (Elt Ideal) ((c : Thread nD τ).loc main_v49_4) := fun i => (head m c (i 0)).rs (i 1)
  have hG : (dats m 0 c).arrAt 12 cfg0.N = G := (dats m 0 c).arrAt_eq_of_covers 12 G (by decide +kernel) fun t hf y => by
    blk_simp
    rw [after0_12]
    obtain ⟨r, rfl⟩ : ∃ r, y = ix3 0 r 0 := ⟨y 1, funext fun a => by
      match a with
      | ⟨0, _⟩ => exact Fin.ext (by have h : (y 0).val < 1 := (y 0).isLt; show (y 0).val = 0; omega)
      | ⟨1, _⟩ => rfl
      | ⟨2, _⟩ => exact Fin.ext (by have h : (y 2).val < 1 := (y 2).isLt; show (y 2).val = 0; omega)⟩
    refine Eq.trans ?_ (emb12 c t G r).symm
    exact out12_head m c hc t r
  rw [hG]
  rfl

end

end Cert.KernelIdeal.Bwd

end
-- ==== Proof.KerOps.lean ====
module

public import proofs.«01_k».proof.Proof.Gen.KernelIdeal.Frame
public import Idealize.ShloMosaic.Lib.Claim
public import Idealize.ShloMosaic.Lib.Pointwise

@[expose] public section

set_option maxRecDepth 16384

noncomputable section

namespace Cert.KernelIdeal.Ops

open Idealize.ShloMosaic Idealize.ShloMosaic.TcCoe Idealize.ShloMosaic.StableHlo Cert.KernelIdeal Cert.KernelIdeal.Gen

/-! The values of the host operations, one by one, from the arguments. -/

/-! Types of values, and of the three arguments. -/

abbrev T0 := FVec Ideal S16x4096x4096 .f32
abbrev T1 := FVec Ideal S16x4096x1 .f32
abbrev T2 := FVec Ideal S16x4096x128 .f32
abbrev T3 := FVec Ideal S_ .f32
abbrev T4 := FVec Ideal S16x4096 .f32
abbrev T5 := FVec Ideal S4096x2048 .f32
abbrev T6 := FVec Ideal S4096x16x128 .f32
abbrev A0 := Vec Ideal S4096x6144 .bf16
abbrev A1 := Vec Ideal S4096x16 .f32
abbrev A2 := Vec Ideal S4096x2048 .bf16

def k_v0 (a0 : A0) (a1 : A1) (a2 : A2) : FVec Ideal S4096x6144 .f32 := ((extf .f32 a0 bitsLt_bf16_f32))
def k_v1 (a0 : A0) (a1 : A1) (a2 : A2) : T5 := ((extractStridedSlice S4096x2048 ![0, 0] (k_v0 a0 a1 a2) slices_S4096x6144_S4096x2048_0_0))
def k_v2 (a0 : A0) (a1 : A1) (a2 : A2) : T5 := ((extractStridedSlice S4096x2048 ![0, 2048] (k_v0 a0 a1 a2) slices_S4096x6144_S4096x2048_0_2048))
def k_v3 (a0 : A0) (a1 : A1) (a2 : A2) : T5 := ((extractStridedSlice S4096x2048 ![0, 4096] (k_v0 a0 a1 a2) slices_S4096x6144_S4096x2048_0_4096))
def k_v4 (a0 : A0) (a1 : A1) (a2 : A2) : T6 := (shapeCast S4096x16x128 (k_v1 a0 a1 a2) shapeCasts_S4096x2048_S4096x16x128)
def k_v5 (a0 : A0) (a1 : A1) (a2 : A2) : T2 := ((transpose S16x4096x128 [1, 0, 2] (k_v4 a0 a1 a2) transposes_S4096x16x128_S16x4096x128_1_0_2))
def k_v6 (a0 : A0) (a1 : A1) (a2 : A2) : T6 := (shapeCast S4096x16x128 (k_v2 a0 a1 a2) shapeCasts_S4096x2048_S4096x16x128)
def k_v7 (a0 : A0) (a1 : A1) (a2 : A2) : T2 := ((transpose S16x4096x128 [1, 0, 2] (k_v6 a0 a1 a2) transposes_S4096x16x128_S16x4096x128_1_0_2))
def k_v8 (a0 : A0) (a1 : A1) (a2 : A2) : T6 := (shapeCast S4096x16x128 (k_v3 a0 a1 a2) shapeCasts_S4096x2048_S4096x16x128)
def k_v9 (a0 : A0) (a1 : A1) (a2 : A2) : T2 := ((transpose S16x4096x128 [1, 0, 2] (k_v8 a0 a1 a2) transposes_S4096x16x128_S16x4096x128_1_0_2))
def k_v10 (a0 : A0) (a1 : A1) (a2 : A2) : T0 := Host.dotGeneral dot_S16x4096x128_S16x4096x128_S16x4096x4096_2_2_1_1_0_0 none (k_v5 a0 a1 a2) (k_v7 a0 a1 a2)
def k_cst (a0 : A0) (a1 : A1) (a2 : A2) : T3 := (constant S_ .f32 0x3DB504F3#32)
def k_v11 (a0 : A0) (a1 : A1) (a2 : A2) : T0 := (broadcastInDim S16x4096x4096 ![] bcast_S_S16x4096x4096) (k_cst a0 a1 a2)
def k_v12 (a0 : A0) (a1 : A1) (a2 : A2) : T0 := (mulf) (k_v10 a0 a1 a2) (k_v11 a0 a1 a2)
def k_v13 (a0 : A0) (a1 : A1) (a2 : A2) : T4 := ((transpose S16x4096 [1, 0] a1 transposes_S4096x16_S16x4096_1_0))
def k_v14 (a0 : A0) (a1 : A1) (a2 : A2) : T1 := (broadcastInDim S16x4096x1 ![0, 1] bcast_S16x4096_S16x4096x1_0_1) (k_v13 a0 a1 a2)
def k_v15 (a0 : A0) (a1 : A1) (a2 : A2) : T0 := (broadcastInDim S16x4096x4096 ![0, 1, 2] bcast_S16x4096x1_S16x4096x4096_0_1_2) (k_v14 a0 a1 a2)
def k_v16 (a0 : A0) (a1 : A1) (a2 : A2) : T0 := (addf) (k_v12 a0 a1 a2) (k_v15 a0 a1 a2)
def k_v17 (a0 : A0) (a1 : A1) (a2 : A2) : FVec Ideal S16x1x4096 .f32 := (broadcastInDim S16x1x4096 ![0, 2] bcast_S16x4096_S16x1x4096_0_2) (k_v13 a0 a1 a2)
def k_v18 (a0 : A0) (a1 : A1) (a2 : A2) : T0 := (broadcastInDim S16x4096x4096 ![0, 1, 2] bcast_S16x1x4096_S16x4096x4096_0_1_2) (k_v17 a0 a1 a2)
def k_v19 (a0 : A0) (a1 : A1) (a2 : A2) : T0 := (subf) (k_v16 a0 a1 a2) (k_v18 a0 a1 a2)
def k_v20 (a0 : A0) (a1 : A1) (a2 : A2) : Vec Ideal S4096 .i32 := (iotaInDim S4096 32 0)
def k_v21 (a0 : A0) (a1 : A1) (a2 : A2) : Vec Ideal S1x4096 .i32 := (broadcastInDim S1x4096 ![1] bcast_S4096_S1x4096_1) (k_v20 a0 a1 a2)
def k_v22 (a0 : A0) (a1 : A1) (a2 : A2) : Vec Ideal S4096 .i32 := (iotaInDim S4096 32 0)
def k_v23 (a0 : A0) (a1 : A1) (a2 : A2) : Vec Ideal S4096x1 .i32 := (broadcastInDim S4096x1 ![0] bcast_S4096_S4096x1_0) (k_v22 a0 a1 a2)
def k_v24 (a0 : A0) (a1 : A1) (a2 : A2) : Vec Ideal S4096x4096 .i32 := (broadcastInDim S4096x4096 ![0, 1] bcast_S1x4096_S4096x4096_0_1) (k_v21 a0 a1 a2)
def k_v25 (a0 : A0) (a1 : A1) (a2 : A2) : Vec Ideal S4096x4096 .i32 := (broadcastInDim S4096x4096 ![0, 1] bcast_S4096x1_S4096x4096_0_1) (k_v23 a0 a1 a2)
def k_v26 (a0 : A0) (a1 : A1) (a2 : A2) : Vec Ideal S4096x4096 .i1 := (cmpi .sle) (k_v24 a0 a1 a2) (k_v25 a0 a1 a2)
def k_cst_0 (a0 : A0) (a1 : A1) (a2 : A2) : T3 := (constant S_ .f32 0xFF800000#32)
def k_call0_v0 (a0 : A0) (a1 : A1) (a2 : A2) : T3 := id (k_cst_0 a0 a1 a2)
def k_call0_v1 (a0 : A0) (a1 : A1) (a2 : A2) : Vec Ideal S16x4096x4096 .i1 := (broadcastInDim S16x4096x4096 ![1, 2] bcast_S4096x4096_S16x4096x4096_1_2) (k_v26 a0 a1 a2)
def k_call0_v2 (a0 : A0) (a1 : A1) (a2 : A2) : T0 := (broadcastInDim S16x4096x4096 ![] bcast_S_S16x4096x4096) (k_call0_v0 a0 a1 a2)
def k_v27 (a0 : A0) (a1 : A1) (a2 : A2) : T0 := select (k_call0_v1 a0 a1 a2) (k_v19 a0 a1 a2) (k_call0_v2 a0 a1 a2)
def k_cst_1 (a0 : A0) (a1 : A1) (a2 : A2) : T3 := (constant S_ .f32 0xFF800000#32)
def k_v28 (a0 : A0) (a1 : A1) (a2 : A2) : T4 := Host.reduce FloatOps.maximumf (k_v27 a0 a1 a2) (k_cst_1 a0 a1 a2) reducesTo_S16x4096x4096_S16x4096_d2 h_S_
def k_v29 (a0 : A0) (a1 : A1) (a2 : A2) : T1 := (broadcastInDim S16x4096x1 ![0, 1] bcast_S16x4096_S16x4096x1_0_1) (k_v28 a0 a1 a2)
def k_v30 (a0 : A0) (a1 : A1) (a2 : A2) : T0 := (broadcastInDim S16x4096x4096 ![0, 1, 2] bcast_S16x4096x1_S16x4096x4096_0_1_2) (k_v29 a0 a1 a2)
def k_v31 (a0 : A0) (a1 : A1) (a2 : A2) : T0 := (subf) (k_v27 a0 a1 a2) (k_v30 a0 a1 a2)
def k_v32 (a0 : A0) (a1 : A1) (a2 : A2) : T0 := (Host.exp) (k_v31 a0 a1 a2)
def k_cst_2 (a0 : A0) (a1 : A1) (a2 : A2) : T3 := (constant S_ .f32 0x00000000#32)
def k_v33 (a0 : A0) (a1 : A1) (a2 : A2) : T4 := Host.reduceAdd (k_v32 a0 a1 a2) (k_cst_2 a0 a1 a2) reducesTo_S16x4096x4096_S16x4096_d2 h_S_
def k_v34 (a0 : A0) (a1 : A1) (a2 : A2) : T1 := (broadcastInDim S16x4096x1 ![0, 1] bcast_S16x4096_S16x4096x1_0_1) (k_v33 a0 a1 a2)
def k_v35 (a0 : A0) (a1 : A1) (a2 : A2) : T1 := (Host.log) (k_v34 a0 a1 a2)
def k_v36 (a0 : A0) (a1 : A1) (a2 : A2) : T1 := (addf) (k_v29 a0 a1 a2) (k_v35 a0 a1 a2)
def k_v37 (a0 : A0) (a1 : A1) (a2 : A2) : T0 := (broadcastInDim S16x4096x4096 ![0, 1, 2] bcast_S16x4096x1_S16x4096x4096_0_1_2) (k_v34 a0 a1 a2)
def k_v38 (a0 : A0) (a1 : A1) (a2 : A2) : T0 := (Host.divf) (k_v32 a0 a1 a2) (k_v37 a0 a1 a2)
def k_v39 (a0 : A0) (a1 : A1) (a2 : A2) : T2 := Host.dotGeneral dot_S16x4096x4096_S16x4096x128_S16x4096x128_2_1_1_2_0_0 none (k_v38 a0 a1 a2) (k_v9 a0 a1 a2)
def k_v40 (a0 : A0) (a1 : A1) (a2 : A2) : T5 := ((extf .f32 a2 bitsLt_bf16_f32))
def k_v41 (a0 : A0) (a1 : A1) (a2 : A2) : T6 := (shapeCast S4096x16x128 (k_v40 a0 a1 a2) shapeCasts_S4096x2048_S4096x16x128)
def k_v42 (a0 : A0) (a1 : A1) (a2 : A2) : T2 := ((transpose S16x4096x128 [1, 0, 2] (k_v41 a0 a1 a2) transposes_S4096x16x128_S16x4096x128_1_0_2))
def k_v43 (a0 : A0) (a1 : A1) (a2 : A2) : T2 := (mulf) (k_v42 a0 a1 a2) (k_v39 a0 a1 a2)
def k_cst_3 (a0 : A0) (a1 : A1) (a2 : A2) : T3 := (constant S_ .f32 0x00000000#32)
def k_v44 (a0 : A0) (a1 : A1) (a2 : A2) : T4 := Host.reduceAdd (k_v43 a0 a1 a2) (k_cst_3 a0 a1 a2) reducesTo_S16x4096x128_S16x4096_d2 h_S_
def k_v45 (a0 : A0) (a1 : A1) (a2 : A2) : T1 := (broadcastInDim S16x4096x1 ![0, 1] bcast_S16x4096_S16x4096x1_0_1) (k_v44 a0 a1 a2)
def k_v46 (a0 : A0) (a1 : A1) (a2 : A2) : T4 := ((transpose S16x4096 [1, 0] a1 transposes_S4096x16_S16x4096_1_0))
def k_v47 (a0 : A0) (a1 : A1) (a2 : A2) : T1 := (shapeCast S16x4096x1 (k_v46 a0 a1 a2) shapeCasts_S16x4096_S16x4096x1)
def k_v48 (a0 : A0) (a1 : A1) (a2 : A2) : FVec Ideal S16x8x1x512 .f32 := (shapeCast S16x8x1x512 (k_v46 a0 a1 a2) shapeCasts_S16x4096_S16x8x1x512)

variable (m : (ℓ : Loc nD τ sig) → Buf (Elt Ideal) ℓ)

theorem V_v36 (c : Dev nD) : V (F := Ideal) m c main_v36 = k_v36 (m (c.tc.loc main_arg0)) (m (c.tc.loc main_arg1)) (m (c.tc.loc main_arg2)) := by
  unfold V V0 hostOps0 hostOps0_1 hostOps0_2
  simp only [List.flatten_cons, List.flatten_nil, List.cons_append, List.nil_append, List.append_nil]
  after_results_simp
  unfold k_v36
  unfold k_v35
  unfold k_v34
  unfold k_v33
  unfold k_cst_2
  unfold k_v32
  unfold k_v31
  unfold k_v30
  unfold k_v29
  unfold k_v28
  unfold k_cst_1
  unfold k_v27
  unfold k_call0_v2
  unfold k_call0_v1
  unfold k_call0_v0
  unfold k_cst_0
  unfold k_v26
  unfold k_v25
  unfold k_v24
  unfold k_v23
  unfold k_v22
  unfold k_v21
  unfold k_v20
  unfold k_v19
  unfold k_v18
  unfold k_v17
  unfold k_v16
  unfold k_v15
  unfold k_v14
  unfold k_v13
  unfold k_v12
  unfold k_v11
  unfold k_cst
  unfold k_v10
  unfold k_v7
  unfold k_v6
  unfold k_v5
  unfold k_v4
  unfold k_v2
  unfold k_v1
  unfold k_v0
  rfl

theorem V_v45 (c : Dev nD) : V (F := Ideal) m c main_v45 = k_v45 (m (c.tc.loc main_arg0)) (m (c.tc.loc main_arg1)) (m (c.tc.loc main_arg2)) := by
  unfold V V0 hostOps0 hostOps0_1 hostOps0_2
  simp only [List.flatten_cons, List.flatten_nil, List.cons_append, List.nil_append, List.append_nil]
  after_results_simp
  unfold k_v45
  unfold k_v44
  unfold k_cst_3
  unfold k_v43
  unfold k_v42
  unfold k_v41
  unfold k_v40
  unfold k_v39
  unfold k_v38
  unfold k_v37
  unfold k_v34
  unfold k_v33
  unfold k_cst_2
  unfold k_v32
  unfold k_v31
  unfold k_v30
  unfold k_v29
  unfold k_v28
  unfold k_cst_1
  unfold k_v27
  unfold k_call0_v2
  unfold k_call0_v1
  unfold k_call0_v0
  unfold k_cst_0
  unfold k_v26
  unfold k_v25
  unfold k_v24
  unfold k_v23
  unfold k_v22
  unfold k_v21
  unfold k_v20
  unfold k_v19
  unfold k_v18
  unfold k_v17
  unfold k_v16
  unfold k_v15
  unfold k_v14
  unfold k_v13
  unfold k_v12
  unfold k_v11
  unfold k_cst
  unfold k_v10
  unfold k_v9
  unfold k_v8
  unfold k_v7
  unfold k_v6
  unfold k_v5
  unfold k_v4
  unfold k_v3
  unfold k_v2
  unfold k_v1
  unfold k_v0
  rfl

theorem V_v47 (c : Dev nD) : V (F := Ideal) m c main_v47 = k_v47 (m (c.tc.loc main_arg0)) (m (c.tc.loc main_arg1)) (m (c.tc.loc main_arg2)) := by
  entry_read
  rfl

theorem V_v48 (c : Dev nD) : V (F := Ideal) m c main_v48 = k_v48 (m (c.tc.loc main_arg0)) (m (c.tc.loc main_arg1)) (m (c.tc.loc main_arg2)) := by
  entry_read
  rfl

end Cert.KernelIdeal.Ops

end
-- ==== Proof.Reals.lean ====
module

public import proofs.«01_k».proof.Proof.Head

@[expose] public section

set_option maxRecDepth 16384

noncomputable section

namespace Cert.KernelIdeal.Bwd

open Idealize.ShloMosaic

theorem coe_sum {n : ℕ} (f : Fin n → ℝ) : ((∑ i, f i : ℝ) : EReal) = ∑ i, (f i : EReal) := by
  classical
  refine Finset.induction_on (Finset.univ : Finset (Fin n)) (by simp) ?_
  intro a s ha ih
  rw [Finset.sum_insert ha, Finset.sum_insert ha, EReal.coe_add, ih]

theorem coe_ite (p : Prop) [Decidable p] (a b : ℝ) : ((if p then a else b : ℝ) : EReal) = if p then (a : EReal) else (b : EReal) := by
  split_ifs <;> rfl

/-- The real number that the scale's constant stands for. -/
def σ : ℝ := sc.toReal

theorem sc_coe : sc = (σ : EReal) := by
  have h : ∃ r : ℝ, sc = (r : EReal) := by
    unfold sc
    simp [Ideal.ofBits, Ideal.ieee]
    exact ⟨_, rfl⟩
  obtain ⟨r, h⟩ := h
  unfold σ
  rw [h, EReal.toReal_coe]

/-- The largest of finitely many extended reals that are real or `⊥`, one of them real, is real. -/
theorem fold_max_real {n : ℕ} (f : Fin n → EReal) (hf : ∀ i, f i ≠ ⊤) (t : Fin n) (ht : f t ≠ ⊥) :
    ∃ μ : ℝ, (Finset.univ : Finset (Fin n)).fold max ⊥ f = (μ : EReal) := by
  have h1 : ∀ s : Finset (Fin n), s.fold max ⊥ f ≠ ⊤ := by
    intro s
    classical
    refine Finset.induction_on s (by simp) ?_
    intro a s ha ih
    rw [Finset.fold_insert ha]
    rcases max_choice (f a) (s.fold max ⊥ f) with h | h <;> rw [h]
    · exact hf a
    · exact ih
  have h2 : f t ≤ (Finset.univ : Finset (Fin n)).fold max ⊥ f := by
    rw [Finset.le_fold_max]
    exact Or.inr ⟨t, Finset.mem_univ _, le_refl _⟩
  have h3 : (Finset.univ : Finset (Fin n)).fold max ⊥ f ≠ ⊥ := fun h => ht (le_bot_iff.mp (h ▸ h2))
  exact ⟨_, (EReal.coe_toReal (h1 _) h3).symm⟩

/-- One head over the reals, with the row shift `μ` of the exponentials. -/
structure RHead where
  Q : Fin 4096 → Fin 128 → ℝ
  K : Fin 4096 → Fin 128 → ℝ
  V : Fin 4096 → Fin 128 → ℝ
  G : Fin 4096 → Fin 128 → ℝ
  C : Fin 4096 → ℝ
  μ : Fin 4096 → ℝ

namespace RHead

variable (R : RHead)

def w (t s : Fin 4096) : ℝ := (∑ x, R.Q t x * R.K s x) * σ + R.C t - R.C s
def e (t s : Fin 4096) : ℝ := if s ≤ t then Real.exp (R.w t s - R.μ t) else 0
def L (t : Fin 4096) : ℝ := ∑ s, R.e t s
def p (t s : Fin 4096) : ℝ := R.e t s / R.L t
def pb (t s : Fin 4096) : ℝ := ∑ x, R.G t x * R.V s x
def o (t : Fin 4096) (x : Fin 128) : ℝ := ∑ s, R.p t s * R.V s x
def δ (t : Fin 4096) : ℝ := ∑ x, R.G t x * R.o t x
def z (t s : Fin 4096) : ℝ := R.p t s * (R.pb t s - R.δ t)

/-- The largest visible logit of a row, from which the host subtracts. -/
def mx (t : Fin 4096) : EReal := (Finset.univ : Finset (Fin 4096)).fold max ⊥ fun s => if s ≤ t then (R.w t s : EReal) else ⊥

theorem mx_real (t : Fin 4096) : ∃ μ : ℝ, R.mx t = (μ : EReal) := by
  refine fold_max_real _ (fun s => ?_) t ?_
  · split_ifs
    · exact EReal.coe_ne_top _
    · exact bot_ne_top
  · rw [if_pos (le_refl _)]
    exact EReal.coe_ne_bot _

theorem e_nonneg (t s : Fin 4096) : 0 ≤ R.e t s := by
  unfold e
  split_ifs
  · exact (Real.exp_pos _).le
  · exact le_refl _

theorem L_pos (t : Fin 4096) : 0 < R.L t := by
  refine Finset.sum_pos' (fun s _ => R.e_nonneg t s) ⟨t, Finset.mem_univ _, ?_⟩
  unfold e
  rw [if_pos (le_refl _)]
  exact Real.exp_pos _

theorem δ_eq (t : Fin 4096) : R.δ t = ∑ s, R.p t s * R.pb t s := by
  unfold δ o pb
  simp only [Finset.mul_sum]
  rw [Finset.sum_comm]
  refine Finset.sum_congr rfl fun s _ => Finset.sum_congr rfl fun x _ => ?_
  ring

/-- The gradient of the logit as the derivative of the exponentials and of their sum gives it. -/
theorem z_eq (t s : Fin 4096) :
    (R.pb t s / R.L t + -(∑ s', R.pb t s' * (1 / (R.L t * R.L t)) * R.e t s')) * R.e t s = R.z t s := by
  unfold z
  rw [δ_eq]
  have h : (∑ s', R.pb t s' * (1 / (R.L t * R.L t)) * R.e t s') = (∑ s', R.p t s' * R.pb t s') / R.L t := by
    rw [Finset.sum_div]
    refine Finset.sum_congr rfl fun s' _ => ?_
    unfold p
    have := (R.L_pos t).ne'
    field_simp
  rw [h]
  unfold p
  have := (R.L_pos t).ne'
  field_simp
  ring

theorem p_masked (t s : Fin 4096) (h : ¬ s ≤ t) : R.p t s = 0 := by
  unfold p e
  rw [if_neg h, zero_div]

theorem z_masked (t s : Fin 4096) (h : ¬ s ≤ t) : R.z t s = 0 := by
  unfold z
  rw [p_masked R t s h, zero_mul]

/-- The head with the saved row quantities. -/
def toHead : Head where
  q t x := (R.Q t x : EReal)
  k t x := (R.K t x : EReal)
  v t x := (R.V t x : EReal)
  g t x := (R.G t x : EReal)
  l t := ((R.μ t + Real.log (R.L t) : ℝ) : EReal)
  dl t := (R.δ t : EReal)
  c t := (R.C t : EReal)

theorem w_coe (t s : Fin 4096) : (∑ x, (R.Q t x : EReal) * R.K s x) * sc + R.C t - R.C s = (R.w t s : EReal) := by
  unfold w
  rw [sc_coe]
  push_cast [coe_sum]
  rfl

theorem e_coe (t s : Fin 4096) : Ideal.exp ((if s ≤ t then (R.w t s : EReal) else ⊥) - (R.μ t : EReal)) = (R.e t s : EReal) := by
  unfold e
  split_ifs with h
  · rw [← EReal.coe_sub, Ideal.exp_coe]
  · rw [EReal.bot_sub, Ideal.exp_bot]
    rfl

theorem div_L (t : Fin 4096) (a : ℝ) : Ideal.div (a : EReal) (R.L t : EReal) = ((a / R.L t : ℝ) : EReal) := by
  rw [Ideal.div_coe (R.L_pos t).ne', ← EReal.coe_mul, mul_one_div]

theorem div_LL (t : Fin 4096) : Ideal.div 1 ((R.L t * R.L t : ℝ) : EReal) = ((1 / (R.L t * R.L t) : ℝ) : EReal) := by
  rw [Ideal.div_coe (mul_pos (R.L_pos t) (R.L_pos t)).ne', one_mul]

theorem log_L (t : Fin 4096) : Ideal.log (R.L t : EReal) = (Real.log (R.L t) : EReal) := by
  rw [Ideal.log_coe, if_neg (not_le.mpr (R.L_pos t))]

theorem pb_coe (t s : Fin 4096) : (∑ x, (R.G t x : EReal) * R.V s x) = (R.pb t s : EReal) := by
  unfold pb
  push_cast [coe_sum]
  rfl

theorem P_coe (t s : Fin 4096) : R.toHead.P t s = (R.p t s : EReal) := by
  unfold Head.P
  split_ifs with h
  · show Ideal.exp ((∑ x, (R.Q t x : EReal) * R.K s x) * sc + R.C t - R.C s - ((R.μ t + Real.log (R.L t) : ℝ) : EReal)) = _
    rw [w_coe, ← EReal.coe_sub, Ideal.exp_coe]
    unfold p e
    rw [if_pos h, ← sub_sub, Real.exp_sub, Real.exp_log (R.L_pos t)]
  · rw [p_masked R t s h]
    rfl

theorem Z_coe (t s : Fin 4096) : R.toHead.Z t s = (R.z t s : EReal) := by
  unfold Head.Z z
  rw [P_coe]
  show _ * ((∑ x, (R.G t x : EReal) * R.V s x) - (R.δ t : EReal)) = _
  rw [pb_coe]
  push_cast
  rfl

theorem dq_coe (t : Fin 4096) (x : Fin 128) : R.toHead.dq t x = ∑ s, (R.z t s : EReal) * sc * (R.K s x : EReal) :=
  Finset.sum_congr rfl fun s _ => by rw [Z_coe]; rfl

theorem dk_coe (s : Fin 4096) (x : Fin 128) : R.toHead.dk s x = ∑ t, (R.z t s : EReal) * sc * (R.Q t x : EReal) :=
  Finset.sum_congr rfl fun t _ => by rw [Z_coe, mul_comm]; rfl

theorem dv_coe (s : Fin 4096) (x : Fin 128) : R.toHead.dv s x = ∑ t, (R.G t x : EReal) * (R.p t s : EReal) :=
  Finset.sum_congr rfl fun t _ => by rw [P_coe]; rfl

theorem cs_coe (s : Fin 4096) : R.toHead.cs s = ((∑ t, R.z t s : ℝ) : EReal) := by
  rw [coe_sum]
  exact Finset.sum_congr rfl fun t _ => by rw [Z_coe]

theorem rs_coe (t : Fin 4096) : R.toHead.rs t = ((∑ s, R.z t s : ℝ) : EReal) := by
  rw [coe_sum]
  exact Finset.sum_congr rfl fun s _ => by rw [Z_coe]

end RHead

end Cert.KernelIdeal.Bwd

end
-- ==== Proof.KerVals.lean ====
module

public import proofs.«01_k».proof.Proof.KerOps
public import proofs.«01_k».proof.Proof.Reals
public import Idealize.ShloMosaic.Lib.WordCmp

@[expose] public section

set_option maxRecDepth 16384

noncomputable section

namespace Cert.KernelIdeal.Ops

open Idealize.ShloMosaic Idealize.ShloMosaic.TcCoe Idealize.ShloMosaic.StableHlo Cert.KernelIdeal Cert.KernelIdeal.Gen Cert.KernelIdeal.Bwd

variable (a0 : Vec Ideal S4096x6144 .bf16) (a1 : Vec Ideal S4096x16 .f32) (a2 : Vec Ideal S4096x2048 .bf16)
variable (h : Fin 16) (t s : Fin 4096) (x : Fin 128)

theorem v5_at : k_v5 a0 a1 a2 (ix3 h t x) = a0 (ix2 t (col3 0 h x)) := by
  pointwise [k_v5, k_v4, k_v1, k_v0]
  refine congrArg a0 ?_
  refine (ix2_inj ..).2 ⟨Fin.ext ?_, Fin.ext ?_⟩
  · show _ = t.val
    simp
    try omega
  · show _ = 2048 * _ + (128 * h.val + x.val)
    simp
    try omega

theorem v7_at : k_v7 a0 a1 a2 (ix3 h t x) = a0 (ix2 t (col3 1 h x)) := by
  pointwise [k_v7, k_v6, k_v2, k_v0]
  refine congrArg a0 ?_
  refine (ix2_inj ..).2 ⟨Fin.ext ?_, Fin.ext ?_⟩
  · show _ = t.val
    simp
    try omega
  · show _ = 2048 * _ + (128 * h.val + x.val)
    simp
    try omega

theorem v9_at : k_v9 a0 a1 a2 (ix3 h t x) = a0 (ix2 t (col3 2 h x)) := by
  pointwise [k_v9, k_v8, k_v3, k_v0]
  refine congrArg a0 ?_
  refine (ix2_inj ..).2 ⟨Fin.ext ?_, Fin.ext ?_⟩
  · show _ = t.val
    simp
    try omega
  · show _ = 2048 * _ + (128 * h.val + x.val)
    simp
    try omega

theorem v42_at : k_v42 a0 a1 a2 (ix3 h t x) = a2 (ix2 t (col h x)) := by
  pointwise [k_v42, k_v41, k_v40]
  refine congrArg a2 ?_
  refine (ix2_inj ..).2 ⟨Fin.ext ?_, Fin.ext ?_⟩
  · show _ = t.val
    simp
    try omega
  · show _ = 128 * h.val + x.val
    simp
    try omega

theorem causal_at (a b : EReal) : Scalar.select (IntOp.cmpi .sle (BitVec.ofNat 32 s.val) (BitVec.ofNat 32 t.val)) a b = if s ≤ t then a else b := by
  have hs := s.isLt
  have ht := t.isLt
  by_cases hh : s.val ≤ t.val
  · rw [if_pos (Fin.le_def.2 hh), WordCmp.select_of_eq_one ((WordCmp.cmpi_sle_ofNat_eq_one_iff (by omega) (by omega)).2 (by omega))]
  · rw [if_neg (fun hc => hh (Fin.le_def.1 hc)), WordCmp.select_of_eq_zero ((WordCmp.cmpi_sle_ofNat_eq_zero_iff (by omega) (by omega)).2 (by omega))]

theorem v27_at : k_v27 a0 a1 a2 (ix3 h t s) = if s ≤ t then (∑ x, k_v5 a0 a1 a2 (ix3 h t x) * k_v7 a0 a1 a2 (ix3 h s x)) * sc + a1 (ix2 t h) - a1 (ix2 s h) else ⊥ := by
  pointwise [k_v27, k_call0_v1, k_v26, k_v25, k_v24, k_v23, k_v22, k_v21, k_v20, k_v19, k_v18, k_v17, k_v16, k_v15, k_v14, k_v13, k_v12, k_v11, k_v10, k_cst, k_call0_v2, k_call0_v0, k_cst_0]
  rw [causal_at]
  rfl

theorem v28_at : k_v28 a0 a1 a2 (ix2 h t) = (Finset.univ : Finset (Fin 4096)).fold max ⊥ fun s => k_v27 a0 a1 a2 (ix3 h t s) := by
  pointwise [k_v28, k_cst_1]
  rfl

section Real

variable (R : Fin 16 → RHead)
  (HQ : ∀ h t x, a0 (ix2 t (col3 0 h x)) = ((R h).Q t x : EReal))
  (HK : ∀ h t x, a0 (ix2 t (col3 1 h x)) = ((R h).K t x : EReal))
  (HV : ∀ h t x, a0 (ix2 t (col3 2 h x)) = ((R h).V t x : EReal))
  (HG : ∀ h t x, a2 (ix2 t (col h x)) = ((R h).G t x : EReal))
  (HC : ∀ h t, a1 (ix2 t h) = ((R h).C t : EReal))
  (Hμ : ∀ h t, (R h).mx t = ((R h).μ t : EReal))

include HQ HK HV HG HC Hμ

theorem v27_real : k_v27 a0 a1 a2 (ix3 h t s) = if s ≤ t then ((R h).w t s : EReal) else ⊥ := by
  rw [v27_at]
  split_ifs
  · simp only [v5_at, v7_at, HQ, HK, HC]
    exact (R h).w_coe t s
  · rfl

theorem v28_real : k_v28 a0 a1 a2 (ix2 h t) = ((R h).μ t : EReal) := by
  rw [v28_at, ← Hμ]
  unfold RHead.mx
  exact congrArg (fun f => Finset.fold max ⊥ f (Finset.univ : Finset (Fin 4096))) (funext fun s => v27_real a0 a1 a2 h t s R HQ HK HV HG HC Hμ)

theorem v32_of (z : FVec Ideal S16x4096x4096 .f32) (u : FVec Ideal S16x4096 .f32) : Host.exp (subf z (broadcastInDim S16x4096x4096 ![0, 1, 2] bcast_S16x4096x1_S16x4096x4096_0_1_2 (broadcastInDim S16x4096x1 ![0, 1] bcast_S16x4096_S16x4096x1_0_1 u))) (ix3 h t s) = Ideal.exp (z (ix3 h t s) - u (ix2 h t)) := by
  pointwise

theorem v32_real : k_v32 a0 a1 a2 (ix3 h t s) = ((R h).e t s : EReal) := by
  unfold k_v32 k_v31 k_v30 k_v29
  rw [v32_of a0 a1 a2 h t s R HQ HK HV HG HC Hμ, v27_real a0 a1 a2 h t s R HQ HK HV HG HC Hμ, v28_real a0 a1 a2 h t R HQ HK HV HG HC Hμ]
  exact (R h).e_coe t s

theorem v34_real : k_v34 a0 a1 a2 (ix3 h t 0) = ((R h).L t : EReal) := by
  pointwise [k_v34, k_v33, k_cst_2]
  simp only [v32_real a0 a1 a2 _ _ _ R HQ HK HV HG HC Hμ]
  unfold RHead.L
  rw [coe_sum]

theorem add_log (u : FVec Ideal S16x4096 .f32) (v : FVec Ideal S16x4096x1 .f32) : addf (broadcastInDim S16x4096x1 ![0, 1] bcast_S16x4096_S16x4096x1_0_1 u) (Host.log v) (ix3 h t 0) = u (ix2 h t) + Ideal.log (v (ix3 h t 0)) := by
  pointwise

theorem v36_real : k_v36 a0 a1 a2 (ix3 h t 0) = (((R h).μ t + Real.log ((R h).L t) : ℝ) : EReal) := by
  unfold k_v36 k_v35 k_v29
  rw [add_log a0 a1 a2 h t R HQ HK HV HG HC Hμ]
  rw [v28_real a0 a1 a2 h t R HQ HK HV HG HC Hμ, v34_real a0 a1 a2 h t R HQ HK HV HG HC Hμ, (R h).log_L, EReal.coe_add]

theorem v38_real : k_v38 a0 a1 a2 (ix3 h t s) = ((R h).p t s : EReal) := by
  pointwise [k_v38, k_v37]
  simp only [v32_real a0 a1 a2 h t s R HQ HK HV HG HC Hμ, v34_real a0 a1 a2 h t R HQ HK HV HG HC Hμ]
  exact (R h).div_L t _

theorem v39_real : k_v39 a0 a1 a2 (ix3 h t x) = ((R h).o t x : EReal) := by
  pointwise [k_v39]
  simp only [v38_real a0 a1 a2 _ _ _ R HQ HK HV HG HC Hμ, v9_at, HV]
  unfold RHead.o
  push_cast [coe_sum]
  rfl

theorem v45_real : k_v45 a0 a1 a2 (ix3 h t 0) = ((R h).δ t : EReal) := by
  pointwise [k_v45, k_v44, k_v43, k_cst_3]
  simp only [v39_real a0 a1 a2 _ _ _ R HQ HK HV HG HC Hμ, v42_at, HG]
  unfold RHead.δ
  push_cast [coe_sum]
  rfl

end Real

theorem v47_at : k_v47 a0 a1 a2 (ix3 h t 0) = a1 (ix2 t h) := by
  pointwise [k_v47, k_v46]

theorem v48_at (j : Fin 8) (r : Fin 512) : k_v48 a0 a1 a2 (ix4 h j 0 r) = a1 (ix2 (key j r) h) := by
  pointwise [k_v48, k_v46]
  refine congrArg a1 ((ix2_inj ..).2 ⟨Fin.ext ?_, rfl⟩)
  show j.val * 512 + r.val = 512 * j.val + r.val
  omega

end Cert.KernelIdeal.Ops

end
-- ==== Proof.KerOut.lean ====
module

public import proofs.«01_k».proof.Proof.Bridge
public import proofs.«01_k».proof.Proof.KerVals

@[expose] public section

set_option maxRecDepth 16384

noncomputable section

namespace Cert.KernelIdeal.Ops

open Idealize.ShloMosaic Idealize.ShloMosaic.TcCoe Idealize.ShloMosaic.StableHlo Cert.KernelIdeal Cert.KernelIdeal.Gen Cert.KernelIdeal.Bwd

theorem cat0 (A B C : FVec Ideal S4096x2048 .bf16) (t : Fin 4096) (h : Fin 16) (x : Fin 128) :
    concatenate S4096x6144 1 [⟨S4096x2048, A⟩, ⟨S4096x2048, B⟩, ⟨S4096x2048, C⟩] concatenates_S4096x2048_S4096x2048_S4096x2048_S4096x6144_d1 (ix2 t (col3 0 h x)) = A (ix2 t (col h x)) := by
  have hh := h.isLt
  have hx := x.isLt
  have hv : (col3 0 h x).val = 0 + (128 * h.val + x.val) := rfl
  pointwise [hv]
  split_ifs <;> first | omega | (refine congrArg A ((ix2_inj ..).2 ⟨rfl, Fin.ext ?_⟩); show _ = 128 * h.val + x.val; simp only [hv]; try omega)

theorem cat1 (A B C : FVec Ideal S4096x2048 .bf16) (t : Fin 4096) (h : Fin 16) (x : Fin 128) :
    concatenate S4096x6144 1 [⟨S4096x2048, A⟩, ⟨S4096x2048, B⟩, ⟨S4096x2048, C⟩] concatenates_S4096x2048_S4096x2048_S4096x2048_S4096x6144_d1 (ix2 t (col3 1 h x)) = B (ix2 t (col h x)) := by
  have hh := h.isLt
  have hx := x.isLt
  have hv : (col3 1 h x).val = 2048 + (128 * h.val + x.val) := rfl
  pointwise [hv]
  split_ifs <;> first | omega | (refine congrArg B ((ix2_inj ..).2 ⟨rfl, Fin.ext ?_⟩); show _ = 128 * h.val + x.val; simp only [hv]; try omega)

theorem cat2 (A B C : FVec Ideal S4096x2048 .bf16) (t : Fin 4096) (h : Fin 16) (x : Fin 128) :
    concatenate S4096x6144 1 [⟨S4096x2048, A⟩, ⟨S4096x2048, B⟩, ⟨S4096x2048, C⟩] concatenates_S4096x2048_S4096x2048_S4096x2048_S4096x6144_d1 (ix2 t (col3 2 h x)) = C (ix2 t (col h x)) := by
  have hh := h.isLt
  have hx := x.isLt
  have hv : (col3 2 h x).val = 4096 + (128 * h.val + x.val) := rfl
  pointwise [hv]
  split_ifs <;> first | omega | (refine congrArg C ((ix2_inj ..).2 ⟨rfl, Fin.ext ?_⟩); show _ = 128 * h.val + x.val; simp only [hv]; try omega)

/-- The rest of the host's text after the call, for the gate's gradient. -/
theorem gate_at (rs : FVec Ideal S16x4096x1 .f32) (cs : FVec Ideal S16x8x1x512 .f32) (h : Fin 16) (j : Fin 8) (r : Fin 512) :
    transpose S4096x16 [1, 0] (subf (shapeCast S16x4096 rs shapeCasts_S16x4096x1_S16x4096) (shapeCast S16x4096 cs shapeCasts_S16x8x1x512_S16x4096)) transposes_S16x4096_S4096x16_1_0 (ix2 (key j r) h) = rs (ix3 h (key j r) 0) - cs (ix4 h j 0 r) := by
  have hv : (key j r).val = 512 * j.val + r.val := rfl
  have hr := r.isLt
  pointwise
  refine congrArg (fun y => rs (ix3 h (key j r) 0) - y) (congrArg cs ((ix4_inj ..).2 ⟨rfl, Fin.ext ?_, rfl, Fin.ext ?_⟩))
  · show _ = j.val
    simp only [hv]
    omega
  · show _ = r.val
    simp only [hv]
    omega

variable (m : (ℓ : Loc nD τ sig) → Buf (Elt Ideal) ℓ)

theorem gates (c : Dev nD) (h : Fin 16) (j : Fin 8) (s : Fin 512) : V m c main_v48 (ix4 h j 0 s) = V m c main_v47 (ix3 h (key j s) 0) := by
  rw [V_v48, V_v47]
  exact (v48_at _ _ _ h j s).trans (v47_at _ _ _ h (key j s)).symm

section Real

variable (c : Dev nD) (R : Fin 16 → RHead)
  (HQ : ∀ h t x, m (c.tc.loc main_arg0) (ix2 t (col3 0 h x)) = ((R h).Q t x : EReal))
  (HK : ∀ h t x, m (c.tc.loc main_arg0) (ix2 t (col3 1 h x)) = ((R h).K t x : EReal))
  (HV : ∀ h t x, m (c.tc.loc main_arg0) (ix2 t (col3 2 h x)) = ((R h).V t x : EReal))
  (HG : ∀ h t x, m (c.tc.loc main_arg2) (ix2 t (col h x)) = ((R h).G t x : EReal))
  (HC : ∀ h t, m (c.tc.loc main_arg1) (ix2 t h) = ((R h).C t : EReal))
  (Hμ : ∀ h t, (R h).mx t = ((R h).μ t : EReal))

include HQ HK HV HG HC Hμ

/-- The head that the call works on is the one over the reals. -/
theorem head_real (h : Fin 16) : head m c h = (R h).toHead := by
  have e1 : (fun t x => V m c main_arg0 (ix2 t (col3 0 h x))) = fun t x => ((R h).Q t x : EReal) := by
    funext t x
    rw [V_main_arg0]
    exact HQ h t x
  have e2 : (fun t x => V m c main_arg0 (ix2 t (col3 1 h x))) = fun t x => ((R h).K t x : EReal) := by
    funext t x
    rw [V_main_arg0]
    exact HK h t x
  have e3 : (fun t x => V m c main_arg0 (ix2 t (col3 2 h x))) = fun t x => ((R h).V t x : EReal) := by
    funext t x
    rw [V_main_arg0]
    exact HV h t x
  have e4 : (fun t x => V m c main_arg2 (ix2 t (col h x))) = fun t x => ((R h).G t x : EReal) := by
    funext t x
    rw [V_main_arg2]
    exact HG h t x
  have e5 : (fun t => V m c main_v36 (ix3 h t 0)) = fun t => (((R h).μ t + Real.log ((R h).L t) : ℝ) : EReal) := by
    funext t
    rw [V_v36]
    exact v36_real _ _ _ h t R HQ HK HV HG HC Hμ
  have e6 : (fun t => V m c main_v45 (ix3 h t 0)) = fun t => ((R h).δ t : EReal) := by
    funext t
    rw [V_v45]
    exact v45_real _ _ _ h t R HQ HK HV HG HC Hμ
  have e7 : (fun t => V m c main_v47 (ix3 h t 0)) = fun t => ((R h).C t : EReal) := by
    funext t
    rw [V_v47]
    exact (v47_at _ _ _ h t).trans (HC h t)
  unfold head RHead.toHead
  rw [e1, e2, e3, e4, e5, e6, e7]

theorem dq_real (h : Fin 16) (t : Fin 4096) (x : Fin 128) : (dats m 0 c).arrAt 8 cfg0.N (ix2 t (col h x)) = ∑ s, ((R h).z t s : EReal) * sc * ((R h).K s x : EReal) :=
  (arr8 m c (gates m c) t h x).trans ((congrArg (fun H => Head.dq H t x) (head_real m c R HQ HK HV HG HC Hμ h)).trans ((R h).dq_coe t x))

theorem dk_real (h : Fin 16) (s : Fin 4096) (x : Fin 128) : (dats m 0 c).arrAt 9 cfg0.N (ix2 s (col h x)) = ∑ t, ((R h).z t s : EReal) * sc * ((R h).Q t x : EReal) :=
  (arr9 m c (gates m c) s h x).trans ((congrArg (fun H => Head.dk H s x) (head_real m c R HQ HK HV HG HC Hμ h)).trans ((R h).dk_coe s x))

theorem dv_real (h : Fin 16) (s : Fin 4096) (x : Fin 128) : (dats m 0 c).arrAt 10 cfg0.N (ix2 s (col h x)) = ∑ t, ((R h).G t x : EReal) * ((R h).p t s : EReal) :=
  (arr10 m c (gates m c) s h x).trans ((congrArg (fun H => Head.dv H s x) (head_real m c R HQ HK HV HG HC Hμ h)).trans ((R h).dv_coe s x))

theorem cs_real (h : Fin 16) (j : Fin 8) (r : Fin 512) : (dats m 0 c).arrAt 11 cfg0.N (ix4 h j 0 r) = ((∑ t, (R h).z t (key j r) : ℝ) : EReal) :=
  (arr11 m c (gates m c) h j r).trans ((congrArg (fun H => Head.cs H (key j r)) (head_real m c R HQ HK HV HG HC Hμ h)).trans ((R h).cs_coe (key j r)))

theorem rs_real (h : Fin 16) (t : Fin 4096) : (dats m 0 c).arrAt 12 cfg0.N (ix3 h t 0) = ((∑ s, (R h).z t s : ℝ) : EReal) :=
  (arr12 m c (gates m c) h t).trans ((congrArg (fun H => Head.rs H t) (head_real m c R HQ HK HV HG HC Hμ h)).trans ((R h).rs_coe t))

end Real

end Cert.KernelIdeal.Ops

end
-- ==== Proof.RefOps.lean ====
module

public import proofs.«01_k».proof.Proof.Gen.ReferenceIdeal.Run
public import Idealize.ShloMosaic.Lib.Pointwise

@[expose] public section

set_option maxRecDepth 16384

noncomputable section

namespace Cert.ReferenceIdeal.Ops

open Idealize.ShloMosaic Idealize.ShloMosaic.TcCoe Idealize.ShloMosaic.StableHlo Cert.ReferenceIdeal Cert.ReferenceIdeal.Gen

/-! The values of the host operations, one by one, from the arguments. -/

/-! Types of values, and of the three arguments. -/

abbrev T0 := FVec Ideal S16x4096x4096 .f32
abbrev T1 := FVec Ideal S_ .f32
abbrev T2 := FVec Ideal S16x4096 .f32
abbrev T3 := FVec Ideal S16x4096x1 .f32
abbrev T4 := FVec Ideal S4096x2048 .f32
abbrev T5 := FVec Ideal S4096x16x128 .f32
abbrev T6 := FVec Ideal S16x4096x128 .f32
abbrev A0 := Vec Ideal S4096x6144 .bf16
abbrev A1 := Vec Ideal S4096x16 .f32
abbrev A2 := Vec Ideal S4096x2048 .bf16

def r_v0 (a0 : A0) (a1 : A1) (a2 : A2) : FVec Ideal S4096x6144 .f32 := ((extf .f32 a0 bitsLt_bf16_f32))
def r_v1 (a0 : A0) (a1 : A1) (a2 : A2) : T4 := ((extractStridedSlice S4096x2048 ![0, 0] (r_v0 a0 a1 a2) slices_S4096x6144_S4096x2048_0_0))
def r_v2 (a0 : A0) (a1 : A1) (a2 : A2) : T4 := ((extractStridedSlice S4096x2048 ![0, 2048] (r_v0 a0 a1 a2) slices_S4096x6144_S4096x2048_0_2048))
def r_v3 (a0 : A0) (a1 : A1) (a2 : A2) : T4 := ((extractStridedSlice S4096x2048 ![0, 4096] (r_v0 a0 a1 a2) slices_S4096x6144_S4096x2048_0_4096))
def r_v4 (a0 : A0) (a1 : A1) (a2 : A2) : T5 := (shapeCast S4096x16x128 (r_v1 a0 a1 a2) shapeCasts_S4096x2048_S4096x16x128)
def r_v5 (a0 : A0) (a1 : A1) (a2 : A2) : T6 := ((transpose S16x4096x128 [1, 0, 2] (r_v4 a0 a1 a2) transposes_S4096x16x128_S16x4096x128_1_0_2))
def r_v6 (a0 : A0) (a1 : A1) (a2 : A2) : T5 := (shapeCast S4096x16x128 (r_v2 a0 a1 a2) shapeCasts_S4096x2048_S4096x16x128)
def r_v7 (a0 : A0) (a1 : A1) (a2 : A2) : T6 := ((transpose S16x4096x128 [1, 0, 2] (r_v6 a0 a1 a2) transposes_S4096x16x128_S16x4096x128_1_0_2))
def r_v8 (a0 : A0) (a1 : A1) (a2 : A2) : T5 := (shapeCast S4096x16x128 (r_v3 a0 a1 a2) shapeCasts_S4096x2048_S4096x16x128)
def r_v9 (a0 : A0) (a1 : A1) (a2 : A2) : T6 := ((transpose S16x4096x128 [1, 0, 2] (r_v8 a0 a1 a2) transposes_S4096x16x128_S16x4096x128_1_0_2))
def r_v10 (a0 : A0) (a1 : A1) (a2 : A2) : T0 := Host.dotGeneral dot_S16x4096x128_S16x4096x128_S16x4096x4096_2_2_1_1_0_0 none (r_v5 a0 a1 a2) (r_v7 a0 a1 a2)
def r_cst (a0 : A0) (a1 : A1) (a2 : A2) : T1 := (constant S_ .f32 0x3DB504F3#32)
def r_v11 (a0 : A0) (a1 : A1) (a2 : A2) : T0 := (broadcastInDim S16x4096x4096 ![] bcast_S_S16x4096x4096) (r_cst a0 a1 a2)
def r_v12 (a0 : A0) (a1 : A1) (a2 : A2) : T0 := (mulf) (r_v10 a0 a1 a2) (r_v11 a0 a1 a2)
def r_v13 (a0 : A0) (a1 : A1) (a2 : A2) : T2 := ((transpose S16x4096 [1, 0] a1 transposes_S4096x16_S16x4096_1_0))
def r_v14 (a0 : A0) (a1 : A1) (a2 : A2) : T3 := (broadcastInDim S16x4096x1 ![0, 1] bcast_S16x4096_S16x4096x1_0_1) (r_v13 a0 a1 a2)
def r_v15 (a0 : A0) (a1 : A1) (a2 : A2) : T0 := (broadcastInDim S16x4096x4096 ![0, 1, 2] bcast_S16x4096x1_S16x4096x4096_0_1_2) (r_v14 a0 a1 a2)
def r_v16 (a0 : A0) (a1 : A1) (a2 : A2) : T0 := (addf) (r_v12 a0 a1 a2) (r_v15 a0 a1 a2)
def r_v17 (a0 : A0) (a1 : A1) (a2 : A2) : FVec Ideal S16x1x4096 .f32 := (broadcastInDim S16x1x4096 ![0, 2] bcast_S16x4096_S16x1x4096_0_2) (r_v13 a0 a1 a2)
def r_v18 (a0 : A0) (a1 : A1) (a2 : A2) : T0 := (broadcastInDim S16x4096x4096 ![0, 1, 2] bcast_S16x1x4096_S16x4096x4096_0_1_2) (r_v17 a0 a1 a2)
def r_v19 (a0 : A0) (a1 : A1) (a2 : A2) : T0 := (subf) (r_v16 a0 a1 a2) (r_v18 a0 a1 a2)
def r_v20 (a0 : A0) (a1 : A1) (a2 : A2) : Vec Ideal S4096 .i32 := (iotaInDim S4096 32 0)
def r_v21 (a0 : A0) (a1 : A1) (a2 : A2) : Vec Ideal S1x4096 .i32 := (broadcastInDim S1x4096 ![1] bcast_S4096_S1x4096_1) (r_v20 a0 a1 a2)
def r_v22 (a0 : A0) (a1 : A1) (a2 : A2) : Vec Ideal S4096 .i32 := (iotaInDim S4096 32 0)
def r_v23 (a0 : A0) (a1 : A1) (a2 : A2) : Vec Ideal S4096x1 .i32 := (broadcastInDim S4096x1 ![0] bcast_S4096_S4096x1_0) (r_v22 a0 a1 a2)
def r_v24 (a0 : A0) (a1 : A1) (a2 : A2) : Vec Ideal S4096x4096 .i32 := (broadcastInDim S4096x4096 ![0, 1] bcast_S1x4096_S4096x4096_0_1) (r_v21 a0 a1 a2)
def r_v25 (a0 : A0) (a1 : A1) (a2 : A2) : Vec Ideal S4096x4096 .i32 := (broadcastInDim S4096x4096 ![0, 1] bcast_S4096x1_S4096x4096_0_1) (r_v23 a0 a1 a2)
def r_v26 (a0 : A0) (a1 : A1) (a2 : A2) : Vec Ideal S4096x4096 .i1 := (cmpi .sle) (r_v24 a0 a1 a2) (r_v25 a0 a1 a2)
def r_cst_0 (a0 : A0) (a1 : A1) (a2 : A2) : T1 := (constant S_ .f32 0xFF800000#32)
def r_call0_v0 (a0 : A0) (a1 : A1) (a2 : A2) : T1 := id (r_cst_0 a0 a1 a2)
def r_v27_1 (a0 : A0) (a1 : A1) (a2 : A2) : Vec Ideal S16x4096x4096 .i1 := (broadcastInDim S16x4096x4096 ![1, 2] bcast_S4096x4096_S16x4096x4096_1_2) (r_v26 a0 a1 a2)
def r_call0_v2 (a0 : A0) (a1 : A1) (a2 : A2) : T0 := (broadcastInDim S16x4096x4096 ![] bcast_S_S16x4096x4096) (r_call0_v0 a0 a1 a2)
def r_v27_0 (a0 : A0) (a1 : A1) (a2 : A2) : T0 := select (r_v27_1 a0 a1 a2) (r_v19 a0 a1 a2) (r_call0_v2 a0 a1 a2)
def r_cst_1 (a0 : A0) (a1 : A1) (a2 : A2) : T1 := (constant S_ .f32 0xFF800000#32)
def r_v28 (a0 : A0) (a1 : A1) (a2 : A2) : T2 := Host.reduce FloatOps.maximumf (r_v27_0 a0 a1 a2) (r_cst_1 a0 a1 a2) reducesTo_S16x4096x4096_S16x4096_d2 h_S_
def r_cst_3 (a0 : A0) (a1 : A1) (a2 : A2) : T1 := (constant S_ .f32 0xFF800000#32)
def r_v34 (a0 : A0) (a1 : A1) (a2 : A2) : T2 := (broadcastInDim S16x4096 ![] bcast_S_S16x4096) (r_cst_3 a0 a1 a2)
def r_v35 (a0 : A0) (a1 : A1) (a2 : A2) : T2 := (maximumf) (r_v34 a0 a1 a2) (r_v28 a0 a1 a2)
def r_v45 (a0 : A0) (a1 : A1) (a2 : A2) : T3 := (broadcastInDim S16x4096x1 ![0, 1] bcast_S16x4096_S16x4096x1_0_1) (r_v35 a0 a1 a2)
def r_v46 (a0 : A0) (a1 : A1) (a2 : A2) : T0 := (broadcastInDim S16x4096x4096 ![0, 1, 2] bcast_S16x4096x1_S16x4096x4096_0_1_2) (r_v45 a0 a1 a2)
def r_v47 (a0 : A0) (a1 : A1) (a2 : A2) : T0 := (subf) (r_v27_0 a0 a1 a2) (r_v46 a0 a1 a2)
def r_v48 (a0 : A0) (a1 : A1) (a2 : A2) : T0 := (Host.exp) (r_v47 a0 a1 a2)
def r_cst_9 (a0 : A0) (a1 : A1) (a2 : A2) : T1 := (constant S_ .f32 0x00000000#32)
def r_v49 (a0 : A0) (a1 : A1) (a2 : A2) : T2 := Host.reduceAdd (r_v48 a0 a1 a2) (r_cst_9 a0 a1 a2) reducesTo_S16x4096x4096_S16x4096_d2 h_S_
def r_v50 (a0 : A0) (a1 : A1) (a2 : A2) : T3 := (broadcastInDim S16x4096x1 ![0, 1] bcast_S16x4096_S16x4096x1_0_1) (r_v49 a0 a1 a2)
def r_v51 (a0 : A0) (a1 : A1) (a2 : A2) : T0 := (broadcastInDim S16x4096x4096 ![0, 1, 2] bcast_S16x4096x1_S16x4096x4096_0_1_2) (r_v50 a0 a1 a2)
def r_v52 (a0 : A0) (a1 : A1) (a2 : A2) : T0 := (Host.divf) (r_v48 a0 a1 a2) (r_v51 a0 a1 a2)
def r_v53 (a0 : A0) (a1 : A1) (a2 : A2) : T3 := (mulf) (r_v50 a0 a1 a2) (r_v50 a0 a1 a2)
def r_cst_10 (a0 : A0) (a1 : A1) (a2 : A2) : T1 := (constant S_ .f32 0x3F800000#32)
def r_v54 (a0 : A0) (a1 : A1) (a2 : A2) : T3 := (broadcastInDim S16x4096x1 ![] bcast_S_S16x4096x1) (r_cst_10 a0 a1 a2)
def r_v55 (a0 : A0) (a1 : A1) (a2 : A2) : T3 := (Host.divf) (r_v54 a0 a1 a2) (r_v53 a0 a1 a2)
def r_v57 (a0 : A0) (a1 : A1) (a2 : A2) : T4 := ((extf .f32 a2 bitsLt_bf16_f32))
def r_v58 (a0 : A0) (a1 : A1) (a2 : A2) : T5 := (shapeCast S4096x16x128 (r_v57 a0 a1 a2) shapeCasts_S4096x2048_S4096x16x128)
def r_v59 (a0 : A0) (a1 : A1) (a2 : A2) : T6 := ((transpose S16x4096x128 [1, 0, 2] (r_v58 a0 a1 a2) transposes_S4096x16x128_S16x4096x128_1_0_2))
def r_v60 (a0 : A0) (a1 : A1) (a2 : A2) : FVec Ideal S16x128x4096 .f32 := Host.dotGeneral dot_S16x4096x128_S16x4096x4096_S16x128x4096_1_1_2_2_0_0 none (r_v59 a0 a1 a2) (r_v52 a0 a1 a2)
def r_v61 (a0 : A0) (a1 : A1) (a2 : A2) : T6 := ((transpose S16x4096x128 [0, 2, 1] (r_v60 a0 a1 a2) transposes_S16x128x4096_S16x4096x128_0_2_1))
def r_v62 (a0 : A0) (a1 : A1) (a2 : A2) : T0 := Host.dotGeneral dot_S16x4096x128_S16x4096x128_S16x4096x4096_2_2_1_1_0_0 none (r_v59 a0 a1 a2) (r_v9 a0 a1 a2)
def r_v63 (a0 : A0) (a1 : A1) (a2 : A2) : T0 := (broadcastInDim S16x4096x4096 ![0, 1, 2] bcast_S16x4096x1_S16x4096x4096_0_1_2) (r_v55 a0 a1 a2)
def r_v64 (a0 : A0) (a1 : A1) (a2 : A2) : T0 := (mulf) (r_v62 a0 a1 a2) (r_v63 a0 a1 a2)
def r_v65 (a0 : A0) (a1 : A1) (a2 : A2) : T0 := (mulf) (r_v64 a0 a1 a2) (r_v48 a0 a1 a2)
def r_cst_11 (a0 : A0) (a1 : A1) (a2 : A2) : T1 := (constant S_ .f32 0x00000000#32)
def r_v66 (a0 : A0) (a1 : A1) (a2 : A2) : T2 := Host.reduceAdd (r_v65 a0 a1 a2) (r_cst_11 a0 a1 a2) reducesTo_S16x4096x4096_S16x4096_d2 h_S_
def r_v67 (a0 : A0) (a1 : A1) (a2 : A2) : T3 := (shapeCast S16x4096x1 (r_v66 a0 a1 a2) shapeCasts_S16x4096_S16x4096x1)
def r_v68 (a0 : A0) (a1 : A1) (a2 : A2) : T3 := (Host.negf) (r_v67 a0 a1 a2)
def r_v69 (a0 : A0) (a1 : A1) (a2 : A2) : T0 := (broadcastInDim S16x4096x4096 ![0, 1, 2] bcast_S16x4096x1_S16x4096x4096_0_1_2) (r_v50 a0 a1 a2)
def r_v70 (a0 : A0) (a1 : A1) (a2 : A2) : T0 := (Host.divf) (r_v62 a0 a1 a2) (r_v69 a0 a1 a2)
def r_cst_12 (a0 : A0) (a1 : A1) (a2 : A2) : T1 := (constant S_ .f32 0x00000000#32)
def r_v71 (a0 : A0) (a1 : A1) (a2 : A2) : T2 := Host.reduceAdd (r_v68 a0 a1 a2) (r_cst_12 a0 a1 a2) reducesTo_S16x4096x1_S16x4096_d2 h_S_
def r_v72 (a0 : A0) (a1 : A1) (a2 : A2) : T0 := (broadcastInDim S16x4096x4096 ![0, 1] bcast_S16x4096_S16x4096x4096_0_1) (r_v71 a0 a1 a2)
def r_v73 (a0 : A0) (a1 : A1) (a2 : A2) : T0 := (addf) (r_v70 a0 a1 a2) (r_v72 a0 a1 a2)
def r_v74 (a0 : A0) (a1 : A1) (a2 : A2) : T0 := (mulf) (r_v73 a0 a1 a2) (r_v48 a0 a1 a2)
def r_call1_cst (a0 : A0) (a1 : A1) (a2 : A2) : T1 := (constant S_ .f32 0x00000000#32)
def r_call1_v0 (a0 : A0) (a1 : A1) (a2 : A2) : T0 := (broadcastInDim S16x4096x4096 ![] bcast_S_S16x4096x4096) (r_call1_cst a0 a1 a2)
def r_v75 (a0 : A0) (a1 : A1) (a2 : A2) : T0 := select (r_v27_1 a0 a1 a2) (r_v74 a0 a1 a2) (r_call1_v0 a0 a1 a2)
def r_v76 (a0 : A0) (a1 : A1) (a2 : A2) : T0 := (Host.negf) (r_v75 a0 a1 a2)
def r_cst_13 (a0 : A0) (a1 : A1) (a2 : A2) : T1 := (constant S_ .f32 0x00000000#32)
def r_v77 (a0 : A0) (a1 : A1) (a2 : A2) : T2 := Host.reduceAdd (r_v76 a0 a1 a2) (r_cst_13 a0 a1 a2) reducesTo_S16x4096x4096_S16x4096_d1 h_S_
def r_v78 (a0 : A0) (a1 : A1) (a2 : A2) : FVec Ideal S16x1x4096 .f32 := (shapeCast S16x1x4096 (r_v77 a0 a1 a2) shapeCasts_S16x4096_S16x1x4096)
def r_cst_14 (a0 : A0) (a1 : A1) (a2 : A2) : T1 := (constant S_ .f32 0x00000000#32)
def r_v79 (a0 : A0) (a1 : A1) (a2 : A2) : T2 := Host.reduceAdd (r_v78 a0 a1 a2) (r_cst_14 a0 a1 a2) reducesTo_S16x1x4096_S16x4096_d1 h_S_
def r_cst_15 (a0 : A0) (a1 : A1) (a2 : A2) : T1 := (constant S_ .f32 0x00000000#32)
def r_v80 (a0 : A0) (a1 : A1) (a2 : A2) : T2 := Host.reduceAdd (r_v75 a0 a1 a2) (r_cst_15 a0 a1 a2) reducesTo_S16x4096x4096_S16x4096_d2 h_S_
def r_v81 (a0 : A0) (a1 : A1) (a2 : A2) : T3 := (shapeCast S16x4096x1 (r_v80 a0 a1 a2) shapeCasts_S16x4096_S16x4096x1)
def r_cst_16 (a0 : A0) (a1 : A1) (a2 : A2) : T1 := (constant S_ .f32 0x00000000#32)
def r_v82 (a0 : A0) (a1 : A1) (a2 : A2) : T2 := Host.reduceAdd (r_v81 a0 a1 a2) (r_cst_16 a0 a1 a2) reducesTo_S16x4096x1_S16x4096_d2 h_S_
def r_v83 (a0 : A0) (a1 : A1) (a2 : A2) : T2 := (addf) (r_v79 a0 a1 a2) (r_v82 a0 a1 a2)
def r_v84 (a0 : A0) (a1 : A1) (a2 : A2) : FVec Ideal S4096x16 .f32 := ((transpose S4096x16 [1, 0] (r_v83 a0 a1 a2) transposes_S16x4096_S4096x16_1_0))
def r_cst_17 (a0 : A0) (a1 : A1) (a2 : A2) : T1 := (constant S_ .f32 0x3DB504F3#32)
def r_v85 (a0 : A0) (a1 : A1) (a2 : A2) : T0 := (broadcastInDim S16x4096x4096 ![] bcast_S_S16x4096x4096) (r_cst_17 a0 a1 a2)
def r_v86 (a0 : A0) (a1 : A1) (a2 : A2) : T0 := (mulf) (r_v75 a0 a1 a2) (r_v85 a0 a1 a2)
def r_v87 (a0 : A0) (a1 : A1) (a2 : A2) : T6 := Host.dotGeneral dot_S16x4096x4096_S16x4096x128_S16x4096x128_1_1_2_2_0_0 none (r_v86 a0 a1 a2) (r_v5 a0 a1 a2)
def r_v88 (a0 : A0) (a1 : A1) (a2 : A2) : T6 := Host.dotGeneral dot_S16x4096x4096_S16x4096x128_S16x4096x128_2_1_1_2_0_0 none (r_v86 a0 a1 a2) (r_v7 a0 a1 a2)
def r_v89 (a0 : A0) (a1 : A1) (a2 : A2) : T5 := ((transpose S4096x16x128 [1, 0, 2] (r_v61 a0 a1 a2) transposes_S16x4096x128_S4096x16x128_1_0_2))
def r_v90 (a0 : A0) (a1 : A1) (a2 : A2) : T4 := (shapeCast S4096x2048 (r_v89 a0 a1 a2) shapeCasts_S4096x16x128_S4096x2048)
def r_v91 (a0 : A0) (a1 : A1) (a2 : A2) : T5 := ((transpose S4096x16x128 [1, 0, 2] (r_v87 a0 a1 a2) transposes_S16x4096x128_S4096x16x128_1_0_2))
def r_v92 (a0 : A0) (a1 : A1) (a2 : A2) : T4 := (shapeCast S4096x2048 (r_v91 a0 a1 a2) shapeCasts_S4096x16x128_S4096x2048)
def r_v93 (a0 : A0) (a1 : A1) (a2 : A2) : T5 := ((transpose S4096x16x128 [1, 0, 2] (r_v88 a0 a1 a2) transposes_S16x4096x128_S4096x16x128_1_0_2))
def r_v94 (a0 : A0) (a1 : A1) (a2 : A2) : T4 := (shapeCast S4096x2048 (r_v93 a0 a1 a2) shapeCasts_S4096x16x128_S4096x2048)
def r_v95 (a0 : A0) (a1 : A1) (a2 : A2) : FVec Ideal S4096x6144 .f32 := Value.fn_main_v95 (F := Ideal) (r_v94 a0 a1 a2) (r_v92 a0 a1 a2) (r_v90 a0 a1 a2)
def r_v96 (a0 : A0) (a1 : A1) (a2 : A2) : FVec Ideal S4096x6144 .bf16 := ((truncf .bf16 (r_v95 a0 a1 a2) bitsLt_bf16_f32))

variable (m : (ℓ : Loc nD τ sig) → Buf (Elt Ideal) ℓ)

theorem res0 (c : Dev nD) : Value.res_out0 (F := Ideal) m c = r_v96 (m (c.tc.loc main_arg0)) (m (c.tc.loc main_arg1)) (m (c.tc.loc main_arg2)) := by
  unfold Value.res_out0 Value.res_main_v96
  rfl

theorem res1 (c : Dev nD) : Value.res_out1 (F := Ideal) m c = r_v84 (m (c.tc.loc main_arg0)) (m (c.tc.loc main_arg1)) (m (c.tc.loc main_arg2)) := by
  unfold Value.res_out1 Value.res_main_v84
  rfl

end Cert.ReferenceIdeal.Ops

end
-- ==== Proof.RefVals.lean ====
module

public import proofs.«01_k».proof.Proof.RefOps
public import proofs.«01_k».proof.Proof.Reals
public import Idealize.ShloMosaic.Lib.WordCmp

@[expose] public section

set_option maxRecDepth 16384

noncomputable section

namespace Cert.ReferenceIdeal.Ops

open Idealize.ShloMosaic Idealize.ShloMosaic.TcCoe Idealize.ShloMosaic.StableHlo Cert.ReferenceIdeal Cert.ReferenceIdeal.Gen Cert.KernelIdeal.Bwd

variable (a0 : Vec Ideal S4096x6144 .bf16) (a1 : Vec Ideal S4096x16 .f32) (a2 : Vec Ideal S4096x2048 .bf16)
variable (h : Fin 16) (t s : Fin 4096) (x : Fin 128)

theorem v5_at : r_v5 a0 a1 a2 (ix3 h t x) = a0 (ix2 t (col3 0 h x)) := by
  pointwise [r_v5, r_v4, r_v1, r_v0]
  refine congrArg a0 ?_
  refine (ix2_inj ..).2 ⟨Fin.ext ?_, Fin.ext ?_⟩
  · show _ = t.val
    simp
    try omega
  · show _ = 2048 * _ + (128 * h.val + x.val)
    simp
    try omega

theorem v7_at : r_v7 a0 a1 a2 (ix3 h t x) = a0 (ix2 t (col3 1 h x)) := by
  pointwise [r_v7, r_v6, r_v2, r_v0]
  refine congrArg a0 ?_
  refine (ix2_inj ..).2 ⟨Fin.ext ?_, Fin.ext ?_⟩
  · show _ = t.val
    simp
    try omega
  · show _ = 2048 * _ + (128 * h.val + x.val)
    simp
    try omega

theorem v9_at : r_v9 a0 a1 a2 (ix3 h t x) = a0 (ix2 t (col3 2 h x)) := by
  pointwise [r_v9, r_v8, r_v3, r_v0]
  refine congrArg a0 ?_
  refine (ix2_inj ..).2 ⟨Fin.ext ?_, Fin.ext ?_⟩
  · show _ = t.val
    simp
    try omega
  · show _ = 2048 * _ + (128 * h.val + x.val)
    simp
    try omega

theorem v59_at : r_v59 a0 a1 a2 (ix3 h t x) = a2 (ix2 t (col h x)) := by
  pointwise [r_v59, r_v58, r_v57]
  refine congrArg a2 ?_
  refine (ix2_inj ..).2 ⟨Fin.ext ?_, Fin.ext ?_⟩
  · show _ = t.val
    simp
    try omega
  · show _ = 128 * h.val + x.val
    simp
    try omega

theorem causal_at (a b : EReal) : Scalar.select (IntOp.cmpi .sle (BitVec.ofNat 32 s.val) (BitVec.ofNat 32 t.val)) a b = if s ≤ t then a else b := by
  have hs := s.isLt
  have ht := t.isLt
  by_cases hh : s.val ≤ t.val
  · rw [if_pos (Fin.le_def.2 hh), WordCmp.select_of_eq_one ((WordCmp.cmpi_sle_ofNat_eq_one_iff (by omega) (by omega)).2 (by omega))]
  · rw [if_neg (fun hc => hh (Fin.le_def.1 hc)), WordCmp.select_of_eq_zero ((WordCmp.cmpi_sle_ofNat_eq_zero_iff (by omega) (by omega)).2 (by omega))]

theorem v27_0_at : r_v27_0 a0 a1 a2 (ix3 h t s) = if s ≤ t then (∑ x, r_v5 a0 a1 a2 (ix3 h t x) * r_v7 a0 a1 a2 (ix3 h s x)) * sc + a1 (ix2 t h) - a1 (ix2 s h) else ⊥ := by
  pointwise [r_v27_0, r_v27_1, r_v26, r_v25, r_v24, r_v23, r_v22, r_v21, r_v20, r_v19, r_v18, r_v17, r_v16, r_v15, r_v14, r_v13, r_v12, r_v11, r_v10, r_cst, r_call0_v2, r_call0_v0, r_cst_0]
  rw [causal_at]
  rfl

theorem v28_at : r_v28 a0 a1 a2 (ix2 h t) = (Finset.univ : Finset (Fin 4096)).fold max ⊥ fun s => r_v27_0 a0 a1 a2 (ix3 h t s) := by
  pointwise [r_v28, r_cst_1]
  rfl

section Real

variable (R : Fin 16 → RHead)
  (HQ : ∀ h t x, a0 (ix2 t (col3 0 h x)) = ((R h).Q t x : EReal))
  (HK : ∀ h t x, a0 (ix2 t (col3 1 h x)) = ((R h).K t x : EReal))
  (HV : ∀ h t x, a0 (ix2 t (col3 2 h x)) = ((R h).V t x : EReal))
  (HG : ∀ h t x, a2 (ix2 t (col h x)) = ((R h).G t x : EReal))
  (HC : ∀ h t, a1 (ix2 t h) = ((R h).C t : EReal))
  (Hμ : ∀ h t, (R h).mx t = ((R h).μ t : EReal))

include HQ HK HV HG HC Hμ

theorem v27_0_real : r_v27_0 a0 a1 a2 (ix3 h t s) = if s ≤ t then ((R h).w t s : EReal) else ⊥ := by
  rw [v27_0_at]
  split_ifs
  · simp only [v5_at, v7_at, HQ, HK, HC]
    exact (R h).w_coe t s
  · rfl

theorem v28_real : r_v28 a0 a1 a2 (ix2 h t) = ((R h).μ t : EReal) := by
  rw [v28_at, ← Hμ]
  unfold RHead.mx
  exact congrArg (fun f => Finset.fold max ⊥ f (Finset.univ : Finset (Fin 4096))) (funext fun s => v27_0_real a0 a1 a2 h t s R HQ HK HV HG HC Hμ)

theorem v48_of (z : FVec Ideal S16x4096x4096 .f32) (u : FVec Ideal S16x4096 .f32) : Host.exp (subf z (broadcastInDim S16x4096x4096 ![0, 1, 2] bcast_S16x4096x1_S16x4096x4096_0_1_2 (broadcastInDim S16x4096x1 ![0, 1] bcast_S16x4096_S16x4096x1_0_1 (maximumf (broadcastInDim S16x4096 ![] bcast_S_S16x4096 (constant (F := Ideal) S_ .f32 0xFF800000#32)) u)))) (ix3 h t s) = Ideal.exp (z (ix3 h t s) - u (ix2 h t)) := by
  pointwise
  have hb : Ideal.ofBits .f32 0xFF800000#32 = ⊥ := by simp [Ideal.ofBits, Ideal.ieee]
  rw [hb, max_eq_right bot_le]

theorem v48_real : r_v48 a0 a1 a2 (ix3 h t s) = ((R h).e t s : EReal) := by
  unfold r_v48 r_v47 r_v46 r_v45 r_v35 r_v34 r_cst_3
  rw [v48_of a0 a1 a2 h t s R HQ HK HV HG HC Hμ, v27_0_real a0 a1 a2 h t s R HQ HK HV HG HC Hμ, v28_real a0 a1 a2 h t R HQ HK HV HG HC Hμ]
  exact (R h).e_coe t s

theorem v50_real : r_v50 a0 a1 a2 (ix3 h t 0) = ((R h).L t : EReal) := by
  pointwise [r_v50, r_v49, r_cst_9]
  simp only [v48_real a0 a1 a2 _ _ _ R HQ HK HV HG HC Hμ]
  unfold RHead.L
  rw [coe_sum]

theorem v52_real : r_v52 a0 a1 a2 (ix3 h t s) = ((R h).p t s : EReal) := by
  pointwise [r_v52, r_v51]
  simp only [v48_real a0 a1 a2 h t s R HQ HK HV HG HC Hμ, v50_real a0 a1 a2 h t R HQ HK HV HG HC Hμ]
  exact (R h).div_L t _

theorem v62_real : r_v62 a0 a1 a2 (ix3 h t s) = ((R h).pb t s : EReal) := by
  pointwise [r_v62]
  simp only [v59_at, v9_at, HG, HV]
  exact (R h).pb_coe t s

theorem v55_real : r_v55 a0 a1 a2 (ix3 h t 0) = ((1 / ((R h).L t * (R h).L t) : ℝ) : EReal) := by
  pointwise [r_v55, r_v54, r_v53, r_cst_10]
  simp only [v50_real a0 a1 a2 h t R HQ HK HV HG HC Hμ]
  rw [← EReal.coe_mul]
  exact (R h).div_LL t

theorem v71_real : r_v71 a0 a1 a2 (ix2 h t) = ((-(∑ s, (R h).pb t s * (1 / ((R h).L t * (R h).L t)) * (R h).e t s) : ℝ) : EReal) := by
  pointwise [r_v71, r_v68, r_v67, r_v66, r_v65, r_v64, r_v63, r_cst_11, r_cst_12]
  simp only [v62_real a0 a1 a2 _ _ _ R HQ HK HV HG HC Hμ, v55_real a0 a1 a2 _ _ R HQ HK HV HG HC Hμ, v48_real a0 a1 a2 _ _ _ R HQ HK HV HG HC Hμ, Fin.sum_univ_one]
  push_cast [coe_sum]
  rfl

theorem v75_real : r_v75 a0 a1 a2 (ix3 h t s) = ((R h).z t s : EReal) := by
  pointwise [r_v75, r_v74, r_v73, r_v72, r_v70, r_v69, r_call1_v0, r_call1_cst, r_v27_1, r_v26, r_v25, r_v24, r_v23, r_v22, r_v21, r_v20]
  rw [causal_at]
  split_ifs with hh
  · simp only [v62_real a0 a1 a2 h t s R HQ HK HV HG HC Hμ, v50_real a0 a1 a2 h t R HQ HK HV HG HC Hμ, v71_real a0 a1 a2 h t R HQ HK HV HG HC Hμ, v48_real a0 a1 a2 h t s R HQ HK HV HG HC Hμ]
    rw [(R h).div_L, ← EReal.coe_add, ← EReal.coe_mul, (R h).z_eq]
  · rw [(R h).z_masked t s hh]
    rfl

/-- The gradient of the gate, per row. -/
theorem v84_real : r_v84 a0 a1 a2 (ix2 t h) = ((-(∑ s, (R h).z s t) + ∑ s, (R h).z t s : ℝ) : EReal) := by
  pointwise [r_v84, r_v83, r_v82, r_v81, r_v80, r_v79, r_v78, r_v77, r_v76, r_cst_13, r_cst_14, r_cst_15, r_cst_16]
  simp only [v75_real a0 a1 a2 _ _ _ R HQ HK HV HG HC Hμ]
  simp only [Fin.sum_univ_one]
  rw [← Finset.sum_neg_distrib]
  push_cast [coe_sum]
  rfl

/-- The gradient of the queries. -/
theorem v88_real : r_v88 a0 a1 a2 (ix3 h t x) = ∑ s, ((R h).z t s : EReal) * sc * ((R h).K s x : EReal) := by
  pointwise [r_v88, r_v86, r_v85, r_cst_17]
  simp only [v75_real a0 a1 a2 _ _ _ R HQ HK HV HG HC Hμ, v7_at, HK]

/-- The gradient of the keys. -/
theorem v87_real : r_v87 a0 a1 a2 (ix3 h s x) = ∑ t, ((R h).z t s : EReal) * sc * ((R h).Q t x : EReal) := by
  pointwise [r_v87, r_v86, r_v85, r_cst_17]
  simp only [v75_real a0 a1 a2 _ _ _ R HQ HK HV HG HC Hμ, v5_at, HQ]

/-- The gradient of the values. -/
theorem v61_real : r_v61 a0 a1 a2 (ix3 h s x) = ∑ t, ((R h).G t x : EReal) * ((R h).p t s : EReal) := by
  pointwise [r_v61, r_v60]
  simp only [v52_real a0 a1 a2 _ _ _ R HQ HK HV HG HC Hμ, v59_at, HG]

end Real

end Cert.ReferenceIdeal.Ops

end
-- ==== Proof.RefOut.lean ====
module

public import proofs.«01_k».proof.Proof.RefVals

@[expose] public section

set_option maxRecDepth 16384

noncomputable section

namespace Cert.ReferenceIdeal.Ops

open Idealize.ShloMosaic Idealize.ShloMosaic.TcCoe Idealize.ShloMosaic.StableHlo Cert.ReferenceIdeal Cert.ReferenceIdeal.Gen Cert.KernelIdeal.Bwd

theorem cat0 (A B C : FVec Ideal S4096x2048 .f32) (t : Fin 4096) (h : Fin 16) (x : Fin 128) :
    concatenate S4096x6144 1 [⟨S4096x2048, A⟩, ⟨S4096x2048, B⟩, ⟨S4096x2048, C⟩] concatenates_S4096x2048_S4096x2048_S4096x2048_S4096x6144_d1 (ix2 t (col3 0 h x)) = A (ix2 t (col h x)) := by
  have hh := h.isLt
  have hx := x.isLt
  have hv : (col3 0 h x).val = 0 + (128 * h.val + x.val) := rfl
  pointwise [hv]
  split_ifs <;> first | omega | (refine congrArg A ((ix2_inj ..).2 ⟨rfl, Fin.ext ?_⟩); show _ = 128 * h.val + x.val; simp only [hv]; try omega)

theorem cat1 (A B C : FVec Ideal S4096x2048 .f32) (t : Fin 4096) (h : Fin 16) (x : Fin 128) :
    concatenate S4096x6144 1 [⟨S4096x2048, A⟩, ⟨S4096x2048, B⟩, ⟨S4096x2048, C⟩] concatenates_S4096x2048_S4096x2048_S4096x2048_S4096x6144_d1 (ix2 t (col3 1 h x)) = B (ix2 t (col h x)) := by
  have hh := h.isLt
  have hx := x.isLt
  have hv : (col3 1 h x).val = 2048 + (128 * h.val + x.val) := rfl
  pointwise [hv]
  split_ifs <;> first | omega | (refine congrArg B ((ix2_inj ..).2 ⟨rfl, Fin.ext ?_⟩); show _ = 128 * h.val + x.val; simp only [hv]; try omega)

theorem cat2 (A B C : FVec Ideal S4096x2048 .f32) (t : Fin 4096) (h : Fin 16) (x : Fin 128) :
    concatenate S4096x6144 1 [⟨S4096x2048, A⟩, ⟨S4096x2048, B⟩, ⟨S4096x2048, C⟩] concatenates_S4096x2048_S4096x2048_S4096x2048_S4096x6144_d1 (ix2 t (col3 2 h x)) = C (ix2 t (col h x)) := by
  have hh := h.isLt
  have hx := x.isLt
  have hv : (col3 2 h x).val = 4096 + (128 * h.val + x.val) := rfl
  pointwise [hv]
  split_ifs <;> first | omega | (refine congrArg C ((ix2_inj ..).2 ⟨rfl, Fin.ext ?_⟩); show _ = 128 * h.val + x.val; simp only [hv]; try omega)

variable (a0 : Vec Ideal S4096x6144 .bf16) (a1 : Vec Ideal S4096x16 .f32) (a2 : Vec Ideal S4096x2048 .bf16)
variable (h : Fin 16) (t s : Fin 4096) (x : Fin 128)

theorem v94_at : r_v94 a0 a1 a2 (ix2 t (col h x)) = r_v88 a0 a1 a2 (ix3 h t x) := by
  have hh := h.isLt
  have hx := x.isLt
  have hv : (col h x).val = 128 * h.val + x.val := rfl
  pointwise [r_v94, r_v93]
  refine congrArg (r_v88 a0 a1 a2) ((ix3_inj ..).2 ⟨Fin.ext ?_, rfl, Fin.ext ?_⟩)
  · show _ = h.val
    simp only [hv]
    omega
  · show _ = x.val
    simp only [hv]
    omega

theorem v96_at0 : r_v96 a0 a1 a2 (ix2 t (col3 0 h x)) = r_v88 a0 a1 a2 (ix3 h t x) :=
  (cat0 (r_v94 a0 a1 a2) (r_v92 a0 a1 a2) (r_v90 a0 a1 a2) t h x).trans (v94_at a0 a1 a2 h t x)

theorem v92_at : r_v92 a0 a1 a2 (ix2 t (col h x)) = r_v87 a0 a1 a2 (ix3 h t x) := by
  have hh := h.isLt
  have hx := x.isLt
  have hv : (col h x).val = 128 * h.val + x.val := rfl
  pointwise [r_v92, r_v91]
  refine congrArg (r_v87 a0 a1 a2) ((ix3_inj ..).2 ⟨Fin.ext ?_, rfl, Fin.ext ?_⟩)
  · show _ = h.val
    simp only [hv]
    omega
  · show _ = x.val
    simp only [hv]
    omega

theorem v96_at1 : r_v96 a0 a1 a2 (ix2 t (col3 1 h x)) = r_v87 a0 a1 a2 (ix3 h t x) :=
  (cat1 (r_v94 a0 a1 a2) (r_v92 a0 a1 a2) (r_v90 a0 a1 a2) t h x).trans (v92_at a0 a1 a2 h t x)

theorem v90_at : r_v90 a0 a1 a2 (ix2 t (col h x)) = r_v61 a0 a1 a2 (ix3 h t x) := by
  have hh := h.isLt
  have hx := x.isLt
  have hv : (col h x).val = 128 * h.val + x.val := rfl
  pointwise [r_v90, r_v89]
  refine congrArg (r_v61 a0 a1 a2) ((ix3_inj ..).2 ⟨Fin.ext ?_, rfl, Fin.ext ?_⟩)
  · show _ = h.val
    simp only [hv]
    omega
  · show _ = x.val
    simp only [hv]
    omega

theorem v96_at2 : r_v96 a0 a1 a2 (ix2 t (col3 2 h x)) = r_v61 a0 a1 a2 (ix3 h t x) :=
  (cat2 (r_v94 a0 a1 a2) (r_v92 a0 a1 a2) (r_v90 a0 a1 a2) t h x).trans (v90_at a0 a1 a2 h t x)

end Cert.ReferenceIdeal.Ops

end
-- ==== Proof.Same.lean ====
module

public import proofs.«01_k».proof.Proof.KerOut
public import proofs.«01_k».proof.Proof.RefOut

@[expose] public section

set_option maxRecDepth 16384

noncomputable section

namespace Cert.KernelIdeal.Ops

open Idealize.ShloMosaic Idealize.ShloMosaic.TcCoe Idealize.ShloMosaic.StableHlo Cert.KernelIdeal Cert.KernelIdeal.Gen Cert.KernelIdeal.Bwd

variable (m : (ℓ : Loc nD τ sig) → Buf (Elt Ideal) ℓ) (c : Dev nD) (R : Fin 16 → RHead)
  (HQ : ∀ h t x, m (c.tc.loc main_arg0) (ix2 t (col3 0 h x)) = ((R h).Q t x : EReal))
  (HK : ∀ h t x, m (c.tc.loc main_arg0) (ix2 t (col3 1 h x)) = ((R h).K t x : EReal))
  (HV : ∀ h t x, m (c.tc.loc main_arg0) (ix2 t (col3 2 h x)) = ((R h).V t x : EReal))
  (HG : ∀ h t x, m (c.tc.loc main_arg2) (ix2 t (col h x)) = ((R h).G t x : EReal))
  (HC : ∀ h t, m (c.tc.loc main_arg1) (ix2 t h) = ((R h).C t : EReal))
  (Hμ : ∀ h t, (R h).mx t = ((R h).μ t : EReal))

include HQ HK HV HG HC Hμ

/-- The gradients of the queries, keys and values, side by side: each column belongs to one head of one of the three. -/
theorem qkv_same :
    concatenate S4096x6144 1 [⟨S4096x2048, ((dats m 0 c).arrAt 8 cfg0.N : FVec Ideal S4096x2048 .bf16)⟩, ⟨S4096x2048, ((dats m 0 c).arrAt 9 cfg0.N : FVec Ideal S4096x2048 .bf16)⟩, ⟨S4096x2048, ((dats m 0 c).arrAt 10 cfg0.N : FVec Ideal S4096x2048 .bf16)⟩] concatenates_S4096x2048_S4096x2048_S4096x2048_S4096x6144_d1
      = Cert.ReferenceIdeal.Ops.r_v96 (m (c.tc.loc main_arg0)) (m (c.tc.loc main_arg1)) (m (c.tc.loc main_arg2)) := by
  funext i
  rw [eq_ix2 i]
  obtain ⟨o, h, x, hi⟩ := col3_surj (i 1)
  have hi' : ix2 (i 0) (i 1) = (ix2 (i 0) (col3 o h x) : S4096x6144.Idx) := (ix2_inj ..).2 ⟨rfl, hi⟩
  refine (congrArg _ hi').trans ?_
  refine Eq.trans ?_ (congrArg _ hi').symm
  generalize i 0 = t
  match o with
  | 0 => exact (cat0 _ _ _ t h x).trans ((dq_real m c R HQ HK HV HG HC Hμ h t x).trans ((Cert.ReferenceIdeal.Ops.v96_at0 _ _ _ h t x).trans (Cert.ReferenceIdeal.Ops.v88_real _ _ _ h t x R HQ HK HV HG HC Hμ)).symm)
  | 1 => exact (cat1 _ _ _ t h x).trans ((dk_real m c R HQ HK HV HG HC Hμ h t x).trans ((Cert.ReferenceIdeal.Ops.v96_at1 _ _ _ h t x).trans (Cert.ReferenceIdeal.Ops.v87_real _ _ _ h t x R HQ HK HV HG HC Hμ)).symm)
  | 2 => exact (cat2 _ _ _ t h x).trans ((dv_real m c R HQ HK HV HG HC Hμ h t x).trans ((Cert.ReferenceIdeal.Ops.v96_at2 _ _ _ h t x).trans (Cert.ReferenceIdeal.Ops.v61_real _ _ _ h t x R HQ HK HV HG HC Hμ)).symm)

/-- The gradient of the gate. -/
theorem gate_same :
    transpose S4096x16 [1, 0] (subf (shapeCast S16x4096 ((dats m 0 c).arrAt 12 cfg0.N : FVec Ideal S16x4096x1 .f32) shapeCasts_S16x4096x1_S16x4096) (shapeCast S16x4096 ((dats m 0 c).arrAt 11 cfg0.N : FVec Ideal S16x8x1x512 .f32) shapeCasts_S16x8x1x512_S16x4096)) transposes_S16x4096_S4096x16_1_0
      = Cert.ReferenceIdeal.Ops.r_v84 (m (c.tc.loc main_arg0)) (m (c.tc.loc main_arg1)) (m (c.tc.loc main_arg2)) := by
  funext i
  rw [eq_ix2 i]
  obtain ⟨j, r, hi⟩ := key_surj (i 0)
  have hi' : ix2 (i 0) (i 1) = (ix2 (key j r) (i 1) : S4096x16.Idx) := (ix2_inj ..).2 ⟨hi, rfl⟩
  refine (congrArg _ hi').trans ?_
  refine Eq.trans ?_ (congrArg _ hi').symm
  generalize i 1 = h
  refine (gate_at _ _ h j r).trans ?_
  refine Eq.trans ?_ (Cert.ReferenceIdeal.Ops.v84_real _ _ _ h (key j r) R HQ HK HV HG HC Hμ).symm
  refine (congrArg₂ (fun a b : EReal => a - b) (rs_real m c R HQ HK HV HG HC Hμ h (key j r)) (cs_real m c R HQ HK HV HG HC Hμ h j r)).trans ?_
  rw [← EReal.coe_sub]
  refine congrArg _ ?_
  ring

end Cert.KernelIdeal.Ops

end
-- ==== Proof.Tail.lean ====
module

public import proofs.«01_k».proof.Proof.Same

@[expose] public section

set_option maxRecDepth 16384

noncomputable section

namespace Cert.KernelIdeal.Ops

open Idealize.ShloMosaic Idealize.ShloMosaic.TcCoe Idealize.ShloMosaic.StableHlo Cert.KernelIdeal Cert.KernelIdeal.Gen Cert.KernelIdeal.Bwd

variable (m : (ℓ : Loc nD τ sig) → Buf (Elt Ideal) ℓ) (c : Dev nD)

/-- What an array of the pipeline holds when the host lines after the region start. -/
theorem read (w : Fin cfg0.W) :
    Pipeline.withArrays spec0 c (V0 m c) (fun w => (dats m 0 c).arrAt w cfg0.N) (Proc.devRef .tc (Pipeline.arrRef spec0 w)) = (dats m 0 c).arrAt w cfg0.N :=
  (dats m 0 c).withArrays_arrAt sharedIn0 (V0 m c) (A_eq m c) w

/-- The first result: the three gradients side by side. -/
theorem tail0 :
    (Pipeline.afterTail₀ cfgs (dats m) 0 (V0 m) [hostOps1] c main_v54 : FVec Ideal S4096x6144 .bf16)
      = concatenate S4096x6144 1 [⟨S4096x2048, ((dats m 0 c).arrAt 8 cfg0.N : FVec Ideal S4096x2048 .bf16)⟩, ⟨S4096x2048, ((dats m 0 c).arrAt 9 cfg0.N : FVec Ideal S4096x2048 .bf16)⟩, ⟨S4096x2048, ((dats m 0 c).arrAt 10 cfg0.N : FVec Ideal S4096x2048 .bf16)⟩] concatenates_S4096x2048_S4096x2048_S4096x2048_S4096x6144_d1 := by
  rw [← read m c 8, ← read m c 9, ← read m c 10]
  unfold Pipeline.afterTail₀
  generalize hW : Pipeline.withArrays spec0 c (V0 m c) (fun w => (dats m 0 c).arrAt w cfg0.N) = W
  unfold hostOps1
  simp only [List.flatten_cons, List.flatten_nil, List.append_nil]
  after_results_simp
  rfl

/-- The second result: the gate's gradient, transposed. -/
theorem tail1 :
    @Eq (FVec Ideal S4096x16 .f32) (Pipeline.afterTail₀ cfgs (dats m) 0 (V0 m) [hostOps1] c main_v53)
      (transpose S4096x16 [1, 0] (subf (shapeCast S16x4096 ((dats m 0 c).arrAt 12 cfg0.N : FVec Ideal S16x4096x1 .f32) shapeCasts_S16x4096x1_S16x4096) (shapeCast S16x4096 ((dats m 0 c).arrAt 11 cfg0.N : FVec Ideal S16x8x1x512 .f32) shapeCasts_S16x8x1x512_S16x4096)) transposes_S16x4096_S4096x16_1_0) := by
  rw [← read m c 11, ← read m c 12]
  unfold Pipeline.afterTail₀
  generalize hW : Pipeline.withArrays spec0 c (V0 m c) (fun w => (dats m 0 c).arrAt w cfg0.N) = W
  unfold hostOps1
  simp only [List.flatten_cons, List.flatten_nil, List.append_nil]
  after_results_simp
  rfl

end Cert.KernelIdeal.Ops

end
-- ==== Proof.Finite.lean ====
module

public import proofs.«01_k».proof.Defs
public import proofs.«01_k».proof.Proof.Reals
public import Idealize.ShloMosaic.Lib.Pointwise
public import Idealize.ShloMosaic.Lib.WordCmp

@[expose] public section

set_option maxRecDepth 16384

noncomputable section

namespace Cert.Pre_finite.Ops

open Idealize.ShloMosaic Idealize.ShloMosaic.TcCoe Idealize.ShloMosaic.StableHlo Cert.Pre_finite Cert.KernelIdeal.Bwd

variable [Facts]

theorem real_of_lt (x : EReal) (hx : max x (-x) < ⊤) : ∃ r : ℝ, x = (r : EReal) := by
  refine ⟨x.toReal, (EReal.coe_toReal ?_ ?_).symm⟩
  · rintro rfl
    simp at hx
  · rintro rfl
    simp at hx

theorem real_of_bit (x : EReal) (h : BitVec.ofBool (decide (max x (-x) < Ideal.ofBits .f32 0x7F800000#32)) = 1#1) : ∃ r : ℝ, x = (r : EReal) := by
  have ht : Ideal.ofBits .f32 0x7F800000#32 = ⊤ := by simp [Ideal.ofBits, Ideal.ieee]
  rw [ht] at h
  refine real_of_lt x ?_
  by_contra hx
  rw [decide_eq_false hx] at h
  exact absurd h (by decide)

variable (a0 : FVec Ideal S4096x6144 .bf16) (a1 : FVec Ideal S4096x16 .f32) (a2 : FVec Ideal S4096x2048 .bf16)

theorem real0 (h : (fn (F := Ideal) a0 a1 a2).1 = fun _ => 1#1) (t : Fin 4096) (x : Fin 6144) : ∃ r : ℝ, a0 (ix2 t x) = (r : EReal) := by
  have := congrFun h (ix2 t x)
  unfold fn at this
  pointwise at this
  exact real_of_bit _ this

theorem real1 (h : (fn (F := Ideal) a0 a1 a2).2.1 = fun _ => 1#1) (t : Fin 4096) (x : Fin 16) : ∃ r : ℝ, a1 (ix2 t x) = (r : EReal) := by
  have := congrFun h (ix2 t x)
  unfold fn at this
  pointwise at this
  exact real_of_bit _ this

theorem real2 (h : (fn (F := Ideal) a0 a1 a2).2.2 = fun _ => 1#1) (t : Fin 4096) (x : Fin 2048) : ∃ r : ℝ, a2 (ix2 t x) = (r : EReal) := by
  have := congrFun h (ix2 t x)
  unfold fn at this
  pointwise at this
  exact real_of_bit _ this

/-- The heads over the reals that finite arguments hold. -/
theorem heads (h0 : (fn (F := Ideal) a0 a1 a2).1 = fun _ => 1#1) (h1 : (fn (F := Ideal) a0 a1 a2).2.1 = fun _ => 1#1) (h2 : (fn (F := Ideal) a0 a1 a2).2.2 = fun _ => 1#1) :
    ∃ R : Fin 16 → RHead,
      (∀ h t x, a0 (ix2 t (col3 0 h x)) = ((R h).Q t x : EReal))
      ∧ (∀ h t x, a0 (ix2 t (col3 1 h x)) = ((R h).K t x : EReal))
      ∧ (∀ h t x, a0 (ix2 t (col3 2 h x)) = ((R h).V t x : EReal))
      ∧ (∀ h t x, a2 (ix2 t (col h x)) = ((R h).G t x : EReal))
      ∧ (∀ h t, a1 (ix2 t h) = ((R h).C t : EReal))
      ∧ (∀ h t, (R h).mx t = ((R h).μ t : EReal)) := by
  choose f0 hf0 using real0 a0 a1 a2 h0
  choose f1 hf1 using real1 a0 a1 a2 h1
  choose f2 hf2 using real2 a0 a1 a2 h2
  let R0 : Fin 16 → RHead := fun h => ⟨fun t x => f0 t (col3 0 h x), fun t x => f0 t (col3 1 h x), fun t x => f0 t (col3 2 h x), fun t x => f2 t (col h x), fun t => f1 t h, fun _ => 0⟩
  choose μ hμ using fun h => (R0 h).mx_real
  refine ⟨fun h => ⟨(R0 h).Q, (R0 h).K, (R0 h).V, (R0 h).G, (R0 h).C, μ h⟩, fun h t x => hf0 _ _, fun h t x => hf0 _ _, fun h t x => hf0 _ _, fun h t x => hf2 _ _, fun h t => hf1 _ _, fun h t => hμ h t⟩

end Cert.Pre_finite.Ops

end
-- ==== Proof.MPay.lean ====
module

public import proofs.«01_k».proof.Proof.Gen.MlaIdeal.Skeleton
public import proofs.«01_k».proof.Proof.Spec

@[expose] public section

set_option maxRecDepth 16384

noncomputable section

namespace Cert.MlaIdeal.Bwd

open Idealize.ShloMosaic Cert.MlaIdeal Cert.MlaIdeal.Gen

/-- The factor the scores are multiplied by, as the kernel writes it. -/
abbrev sc : EReal := Ideal.ofBits .f32 0x3D93CD3A#32

/-- Column `x` of the first half of 256 columns. -/
def lo (x : Fin 128) : Fin 256 := ⟨x.val, by omega⟩

/-- Column `x` of the second half of 256 columns. -/
def hi (x : Fin 128) : Fin 256 := ⟨128 + x.val, by omega⟩

theorem pay11_at (q : Vec Ideal S512x256 .bf16) (l : FVec Ideal S512x1 .f32) (k : Vec Ideal S512x256 .bf16) (r s : Fin 512) :
    k0_pay11 q l k (ix2 r s) = Ideal.exp ((∑ x, q (ix2 r x) * k (ix2 s x)) * sc - l (ix2 r 0)) := by
  pointwise [k0_pay11]

theorem pay12_at (q : Vec Ideal S512x256 .bf16) (gt : FVec Ideal S128x512 .bf16) (l : FVec Ideal S512x1 .f32) (k : Vec Ideal S512x256 .bf16) (a : Vec Ideal S1x128x512 .f32) (x : Fin 128) (s : Fin 512) :
    k0_pay12 q gt l k a (ix3 0 x s) = a (ix3 0 x s) + ∑ r : Fin 512, gt (ix2 x r) * k0_pay11 q l k (ix2 r s) := by
  pointwise [k0_pay12]

theorem pay13_at (q : Vec Ideal S512x256 .bf16) (g : Vec Ideal S512x128 .bf16) (l : FVec Ideal S512x1 .f32) (dl : FVec Ideal S512x1 .f32) (k : Vec Ideal S512x256 .bf16) (v : Vec Ideal S512x128 .bf16) (r s : Fin 512) :
    k0_pay13 q g l dl k v (ix2 r s) = k0_pay11 q l k (ix2 r s) * ((∑ x, g (ix2 r x) * v (ix2 s x)) - dl (ix2 r 0)) * sc := by
  pointwise [k0_pay13]

theorem pay14_at (q : Vec Ideal S512x256 .bf16) (g : Vec Ideal S512x128 .bf16) (qt : FVec Ideal S256x512 .bf16) (l : FVec Ideal S512x1 .f32) (dl : FVec Ideal S512x1 .f32) (k : Vec Ideal S512x256 .bf16) (v : Vec Ideal S512x128 .bf16) (x : Fin 256) (s : Fin 512) :
    k0_pay14 q g qt l dl k v (ix2 x s) = ∑ r : Fin 512, qt (ix2 x r) * k0_pay13 q g l dl k v (ix2 r s) := by
  pointwise [k0_pay14]

theorem pay15_at (q : Vec Ideal S512x256 .bf16) (g : Vec Ideal S512x128 .bf16) (qt : FVec Ideal S256x512 .bf16) (l : FVec Ideal S512x1 .f32) (dl : FVec Ideal S512x1 .f32) (k : Vec Ideal S512x256 .bf16) (v : Vec Ideal S512x128 .bf16) (a : Vec Ideal S1x128x512 .f32) (x : Fin 128) (s : Fin 512) :
    k0_pay15 q g qt l dl k v a (ix3 0 x s) = a (ix3 0 x s) + k0_pay14 q g qt l dl k v (ix2 (lo x) s) := by
  pointwise [k0_pay15]
  refine congrArg _ (congrArg _ ((ix2_inj ..).2 ⟨Fin.ext ?_, rfl⟩))
  show _ = x.val
  simp

theorem pay51_at (w : FVec Ideal S256x512 .f32) (a : Vec Ideal S1x128x512 .f32) (x : Fin 128) (s : Fin 512) :
    k0_pay51 w a (ix3 0 x s) = a (ix3 0 x s) + w (ix2 (hi x) s) := by
  pointwise [k0_pay51]
  rfl

theorem pay2_at (w : FVec Ideal S256x512 .f32) (a : Vec Ideal S1x128x512 .f32) (x : Fin 128) (s : Fin 512) :
    k0_pay2 w a (ix3 0 x s) = a (ix3 0 x s) + w (ix2 (hi x) s) := by
  pointwise [k0_pay2]
  rfl

theorem pay52_at (k : Vec Ideal S512x256 .bf16) (z : FVec Ideal S512x512 .bf16) (a : Vec Ideal S512x256 .f32) (r : Fin 512) (x : Fin 256) :
    k0_pay52 k z a (ix2 r x) = a (ix2 r x) + ∑ s : Fin 512, z (ix2 r s) * k (ix2 s x) := by
  pointwise [k0_pay52]

theorem pay3_at (k : Vec Ideal S512x256 .bf16) (z : FVec Ideal S512x512 .bf16) (a : Vec Ideal S512x256 .f32) (r : Fin 512) (x : Fin 256) :
    k0_pay3 k z a (ix2 r x) = a (ix2 r x) + ∑ s : Fin 512, z (ix2 r s) * k (ix2 s x) := by
  pointwise [k0_pay3]

theorem pay44_at (q : Vec Ideal S512x256 .bf16) (r : Fin 512) (x : Fin 256) :
    k0_pay44 q (ix2 r x) = q (ix2 r x) := by
  pointwise [k0_pay44]

theorem pay45_at (g : Vec Ideal S512x128 .bf16) (r : Fin 512) (x : Fin 128) :
    k0_pay45 g (ix2 r x) = g (ix2 r x) := by
  pointwise [k0_pay45]

theorem pay46_at (q : Vec Ideal S512x256 .bf16) (x : Fin 256) (r : Fin 512) :
    k0_pay46 q (ix2 x r) = q (ix2 r x) := by
  pointwise [k0_pay46, k0_pay44]

theorem pay47_at (g : Vec Ideal S512x128 .bf16) (x : Fin 128) (r : Fin 512) :
    k0_pay47 g (ix2 x r) = g (ix2 r x) := by
  pointwise [k0_pay47, k0_pay45]

theorem pay48_at (l : Vec Ideal S1x512x1 .f32) (r : Fin 512) :
    k0_pay48 l (ix2 r 0) = l (ix3 0 r 0) := by
  pointwise [k0_pay48]

theorem pay49_at (l : Vec Ideal S1x512x1 .f32) (r : Fin 512) :
    k0_pay49 l (ix2 r 0) = l (ix3 0 r 0) := by
  pointwise [k0_pay49]

theorem pay42_at (k : Vec Ideal S4096x128 .bf16) (t : Fin 4096) (x : Fin 128) :
    k0_pay42 k (ix2 t x) = k (ix2 t x) := by
  pointwise [k0_pay42]

theorem pay43_at (k : Vec Ideal S4096x128 .bf16) (t : Fin 4096) (x : Fin 128) :
    k0_pay43 k (ix2 t x) = k (ix2 t x) := by
  pointwise [k0_pay43]

theorem pay39_at (j : Fin 8) (x : Fin 128) (s : Fin 512) :
    k0_pay39 (F := Ideal) (ix3 j x s) = 0 := by
  pointwise [k0_pay39]

theorem pay40_at (j : Fin 8) (x : Fin 128) (s : Fin 512) :
    k0_pay40 (F := Ideal) (ix3 j x s) = 0 := by
  pointwise [k0_pay40]

theorem pay41_at (j : Fin 8) (x : Fin 128) (s : Fin 512) :
    k0_pay41 (F := Ideal) (ix3 j x s) = 0 := by
  pointwise [k0_pay41]

theorem pay50_at (r : Fin 512) (x : Fin 256) :
    k0_pay50 (F := Ideal) (ix2 r x) = 0 := by
  pointwise [k0_pay50]

theorem pay55_at (q : Vec Ideal S512x256 .bf16) (k : Vec Ideal S512x256 .bf16) (r s : Fin 512) :
    k0_pay55 q k (ix2 r s) = (∑ x, q (ix2 r x) * k (ix2 s x)) * sc := by
  pointwise [k0_pay55]

theorem mask_at (j : ℕ) (hj : j < 8) (w : BitVec 32) (hw : w = BitVec.ofNat 32 j) (r s : Fin 512) (a b : EReal) :
    Scalar.select
      (IntOp.cmpi CmpIPredicate.sle
        (IntOp.shrsi ArithUnit.vector (IntOp.addi (BitVec.ofNat 32 ↑s) (Scalar.muli w 512#32)) 6#32)
        (IntOp.shrsi ArithUnit.vector (IntOp.addi (BitVec.ofNat 32 ↑r) (Scalar.muli w 512#32)) 6#32)) a b
      = if s.val / 64 ≤ r.val / 64 then a else b := by
  subst hw
  have h0 : ∀ n : ℕ, n < 8192 → IntOp.shrsi ArithUnit.vector (BitVec.ofNat 32 n) 6#32 = BitVec.ofNat 32 (n / 64) := fun n hn => by
    have e1 : (BitVec.ofNat 32 n).msb = false := by
      rw [BitVec.msb_eq_false_iff_two_mul_lt, BitVec.toNat_ofNat, Nat.mod_eq_of_lt (by omega)]
      omega
    simp only [IntOp.shrsi]
    apply BitVec.eq_of_toNat_eq
    simp [BitVec.sshiftRight_eq_of_msb_false e1, Nat.shiftRight_eq_div_pow]
    omega
  have hs := s.isLt
  have hr := r.isLt
  have hm : Scalar.muli (BitVec.ofNat 32 j) 512#32 = BitVec.ofNat 32 (j * 512) := WordCmp.muli_ofNat j 512
  rw [hm, WordCmp.addi_ofNat, WordCmp.addi_ofNat, h0 _ (by omega), h0 _ (by omega)]
  by_cases h : s.val / 64 ≤ r.val / 64
  · rw [if_pos h, WordCmp.select_of_eq_one ((WordCmp.cmpi_sle_ofNat_eq_one_iff (by omega) (by omega)).2 (by omega))]
  · rw [if_neg h, WordCmp.select_of_eq_zero ((WordCmp.cmpi_sle_ofNat_eq_zero_iff (by omega) (by omega)).2 (by omega))]

theorem pay56_at (j : ℕ) (hj : j < 8) (w1 w2 : BitVec 32) (h1 : w1 = BitVec.ofNat 32 j) (h2 : w2 = BitVec.ofNat 32 j) (l : FVec Ideal S512x1 .f32) (q : Vec Ideal S512x256 .bf16) (k : Vec Ideal S512x256 .bf16) (r s : Fin 512) :
    k0_pay56 w1 l w2 (k0_pay55 q k) (ix2 r s) = if s.val / 64 ≤ r.val / 64 then k0_pay11 q l k (ix2 r s) else 0 := by
  pointwise [k0_pay56]
  subst h1 h2
  rw [mask_at j hj _ rfl, pay55_at, pay11_at]
theorem pay57_at (w1 w2 : BitVec 32) (gt : FVec Ideal S128x512 .bf16) (l : FVec Ideal S512x1 .f32) (w : FVec Ideal S512x512 .f32) (a : Vec Ideal S1x128x512 .f32) (x : Fin 128) (s : Fin 512) :
    k0_pay57 w1 gt l w2 w a (ix3 0 x s) = a (ix3 0 x s) + ∑ r : Fin 512, gt (ix2 x r) * k0_pay56 w1 l w2 w (ix2 r s) := by
  pointwise [k0_pay57]

theorem pay58_at (w1 w2 : BitVec 32) (g : Vec Ideal S512x128 .bf16) (l : FVec Ideal S512x1 .f32) (dl : FVec Ideal S512x1 .f32) (w : FVec Ideal S512x512 .f32) (v : Vec Ideal S512x128 .bf16) (r s : Fin 512) :
    k0_pay58 w1 g l dl w2 w v (ix2 r s) = k0_pay56 w1 l w2 w (ix2 r s) * ((∑ x, g (ix2 r x) * v (ix2 s x)) - dl (ix2 r 0)) * sc := by
  pointwise [k0_pay58]

theorem pay59_at (w1 w2 : BitVec 32) (g : Vec Ideal S512x128 .bf16) (qt : FVec Ideal S256x512 .bf16) (l : FVec Ideal S512x1 .f32) (dl : FVec Ideal S512x1 .f32) (w : FVec Ideal S512x512 .f32) (v : Vec Ideal S512x128 .bf16) (x : Fin 256) (s : Fin 512) :
    k0_pay59 w1 g qt l dl w2 w v (ix2 x s) = ∑ r : Fin 512, qt (ix2 x r) * k0_pay58 w1 g l dl w2 w v (ix2 r s) := by
  pointwise [k0_pay59]

theorem pay61_at (w1 w2 : BitVec 32) (g : Vec Ideal S512x128 .bf16) (qt : FVec Ideal S256x512 .bf16) (l : FVec Ideal S512x1 .f32) (dl : FVec Ideal S512x1 .f32) (w : FVec Ideal S512x512 .f32) (v : Vec Ideal S512x128 .bf16) (x : Fin 128) (s : Fin 512) :
    k0_pay61 w1 g qt l dl w2 w v (ix2 x s) = k0_pay59 w1 g qt l dl w2 w v (ix2 (lo x) s) := by
  pointwise [k0_pay61]
  refine congrArg _ ((ix2_inj ..).2 ⟨Fin.ext ?_, rfl⟩)
  show _ = x.val
  simp

theorem pay1_at (a b : FVec Ideal S128x512 .f32) (x : Fin 128) (s : Fin 512) :
    k0_pay1 a b (ix3 0 x s) = a (ix2 x s) + b (ix2 x s) := by
  pointwise [k0_pay1]

theorem pay60_at (a : Vec Ideal S1x128x512 .f32) (x : Fin 128) (s : Fin 512) :
    k0_pay60 a (ix2 x s) = a (ix3 0 x s) := by
  pointwise [k0_pay60]

section
variable (a : Vec Ideal S1x128x512 .f32) (s : Fin 512) (x : Fin 128)
include a s x

theorem pay4_at :
    k0_pay4 a (ix2 s x) = a (ix3 0 x s) := by
  pointwise [k0_pay4]

theorem pay5_at :
    k0_pay5 a (ix2 s x) = a (ix3 0 x s) := by
  pointwise [k0_pay5]

theorem pay6_at :
    k0_pay6 a (ix2 s x) = a (ix3 0 x s) := by
  pointwise [k0_pay6]

theorem pay7_at :
    k0_pay7 a (ix2 s x) = a (ix3 0 x s) := by
  pointwise [k0_pay7]

theorem pay8_at :
    k0_pay8 a (ix2 s x) = a (ix3 0 x s) := by
  pointwise [k0_pay8]

theorem pay9_at :
    k0_pay9 a (ix2 s x) = a (ix3 0 x s) := by
  pointwise [k0_pay9]

theorem pay10_at :
    k0_pay10 a (ix2 s x) = a (ix3 0 x s) := by
  pointwise [k0_pay10]

theorem pay21_at :
    k0_pay21 a (ix2 s x) = a (ix3 0 x s) := by
  pointwise [k0_pay21]

theorem pay22_at :
    k0_pay22 a (ix2 s x) = a (ix3 0 x s) := by
  pointwise [k0_pay22]

theorem pay23_at :
    k0_pay23 a (ix2 s x) = a (ix3 0 x s) := by
  pointwise [k0_pay23]

theorem pay24_at :
    k0_pay24 a (ix2 s x) = a (ix3 0 x s) := by
  pointwise [k0_pay24]

theorem pay25_at :
    k0_pay25 a (ix2 s x) = a (ix3 0 x s) := by
  pointwise [k0_pay25]

theorem pay28_at :
    k0_pay28 a (ix2 s x) = a (ix3 0 x s) := by
  pointwise [k0_pay28]

theorem pay29_at :
    k0_pay29 a (ix2 s x) = a (ix3 0 x s) := by
  pointwise [k0_pay29]

theorem pay30_at :
    k0_pay30 a (ix2 s x) = a (ix3 0 x s) := by
  pointwise [k0_pay30]

theorem pay31_at :
    k0_pay31 a (ix2 s x) = a (ix3 0 x s) := by
  pointwise [k0_pay31]

theorem pay32_at :
    k0_pay32 a (ix2 s x) = a (ix3 0 x s) := by
  pointwise [k0_pay32]

theorem pay33_at :
    k0_pay33 a (ix2 s x) = a (ix3 0 x s) := by
  pointwise [k0_pay33]

theorem pay34_at :
    k0_pay34 a (ix2 s x) = a (ix3 0 x s) := by
  pointwise [k0_pay34]

theorem pay35_at :
    k0_pay35 a (ix2 s x) = a (ix3 0 x s) := by
  pointwise [k0_pay35]

theorem pay36_at :
    k0_pay36 a (ix2 s x) = a (ix3 0 x s) := by
  pointwise [k0_pay36]

theorem pay37_at :
    k0_pay37 a (ix2 s x) = a (ix3 0 x s) := by
  pointwise [k0_pay37]

theorem pay38_at :
    k0_pay38 a (ix2 s x) = a (ix3 0 x s) := by
  pointwise [k0_pay38]

theorem pay27_at :
    k0_pay27 (k0_pay26 a) (ix2 s x) = a (ix3 0 x s) := by
  pointwise [k0_pay27, k0_pay26]

end

end Cert.MlaIdeal.Bwd

end
-- ==== Proof.MSpec.lean ====
module

public import proofs.«01_k».proof.Proof.MPay
public import proofs.«01_k».proof.Proof.Slab

@[expose] public section

set_option maxRecDepth 16384

noncomputable section

namespace Cert.Slab

open Idealize.ShloMosaic

/-- What a matrix buffer reads after a store of a box of `a` rows and `c` columns with its corner at `(o, q)`. -/
theorem read_box {Val : EltTy → Type} {sig : RefSig} {κ : Kind} {sp : Space} {e : EltTy} {n m a c : ℕ} (v : View sig κ sp (S2 n m) e)
    (f : v.ty.Contents Val) (o q : ℕ) (off : Fin 2 → ℕ) (h : off = ![o, q]) (inb : ∀ d, off d + (S2 a c).size d ≤ (S2 n m).size d)
    (w : (Rect.unit (s := S2 n m) off (S2 a c).size inb).shape.Idx → Val e) (L : List (View.Piece Val (S2 n m) e))
    (k : Fin n) (y : Fin m) (x : Fin a) (z : Fin c) (p : Prop) [Decidable p] (hit : p → k.val = o + x.val ∧ y.val = q + z.val)
    (miss : ¬ p → ¬ ((o ≤ k.val ∧ k.val < o + a) ∧ (q ≤ y.val ∧ y.val < q + c))) :
    v.read Val (v.writes Val f (⟨Rect.unit (s := S2 n m) off (S2 a c).size inb, w⟩ :: L)) (ix2 k y)
      = if p then w (ix2 x z) else v.read Val (v.writes Val f L) (ix2 k y) := by
  subst h
  by_cases hp : p
  · rw [if_pos hp]
    refine View.read_writes_cons_hit v f _ w L _ _ (funext fun d => Fin.ext ?_)
    obtain ⟨hk, hy⟩ := hit hp
    rw [Rect.emb_apply]
    match d with
    | ⟨0, _⟩ => show o + 1 * x.val = k.val; omega
    | ⟨1, _⟩ => show q + 1 * z.val = y.val; omega
  · rw [if_neg hp]
    refine View.read_writes_cons_miss v f _ L _ ?_
    rw [Rect.mem_set_unit]
    exact fun hy => miss hp ⟨hy 0, hy 1⟩

end Cert.Slab

namespace Cert.MlaIdeal.Bwd

open Idealize.ShloMosaic
open Cert.KernelIdeal.Bwd (key sum_lt_succ)

/-- What a grid point reads: its block of 512 query rows (`q`, the result's gradient `g`, the row's log-sum `l`, the
row's `dl`), all keys and values. -/
structure Pt where
  q : Fin 512 → Fin 256 → EReal
  g : Fin 512 → Fin 128 → EReal
  l : Fin 512 → EReal
  dl : Fin 512 → EReal
  k : Fin 4096 → Fin 256 → EReal
  v : Fin 4096 → Fin 128 → EReal

namespace Pt

variable (p : Pt)

/-- The weight of a key for a row, without the mask. -/
def E (j : Fin 8) (r s : Fin 512) : EReal :=
  Ideal.exp ((∑ x, p.q r x * p.k (key j s) x) * sc - p.l r)

/-- The gradient of the weight, less the row's share. -/
def D (j : Fin 8) (r s : Fin 512) : EReal := (∑ x, p.g r x * p.v (key j s) x) - p.dl r

/-- The gradient of the product of query and key, without the mask. -/
def W (j : Fin 8) (r s : Fin 512) : EReal := p.E j r s * p.D j r s * sc

/-- The masked weight when the rows are block `n` of the queries. -/
def M (n : ℕ) (j : Fin 8) (r s : Fin 512) : EReal :=
  if j.val < n then p.E j r s else if j.val = n then (if s.val / 64 ≤ r.val / 64 then p.E j r s else 0) else 0

/-- The gradient of the product of query and key. -/
def Z (n : ℕ) (j : Fin 8) (r s : Fin 512) : EReal := p.M n j r s * p.D j r s * sc

def tq (w : Fin 512 → Fin 512 → EReal) (j : Fin 8) (r : Fin 512) (x : Fin 256) : EReal := ∑ s, w r s * p.k (key j s) x
def tk (w : Fin 512 → Fin 512 → EReal) (x : Fin 256) (s : Fin 512) : EReal := ∑ r, p.q r x * w r s
def tv (w : Fin 512 → Fin 512 → EReal) (x : Fin 128) (s : Fin 512) : EReal := ∑ r, p.g r x * w r s

theorem Z_lt (n : ℕ) (j : Fin 8) (h : j.val < n) : p.Z n j = p.W j := by
  funext r s
  simp only [Z, W, M, if_pos h]

theorem M_lt (n : ℕ) (j : Fin 8) (h : j.val < n) : p.M n j = p.E j := by
  funext r s
  simp only [M, if_pos h]

theorem M_gt (n : ℕ) (j : Fin 8) (h : n < j.val) : p.M n j = fun _ _ => 0 := by
  funext r s
  simp only [M, if_neg (show ¬ j.val < n by omega), if_neg (show ¬ j.val = n by omega)]

theorem Z_gt (n : ℕ) (j : Fin 8) (h : n < j.val) : p.Z n j = fun _ _ => 0 := by
  funext r s
  simp only [Z, M_gt p n j h, zero_mul]

theorem M_eq (n : ℕ) (j : Fin 8) (h : j.val = n) (r s : Fin 512) :
    p.M n j r s = if s.val / 64 ≤ r.val / 64 then p.E j r s else 0 := by
  simp only [M, if_neg (show ¬ j.val < n by omega), if_pos h]

theorem tk_zero (x : Fin 256) (s : Fin 512) : p.tk (fun _ _ => 0) x s = 0 := by simp [tk]
theorem tv_zero (x : Fin 128) (s : Fin 512) : p.tv (fun _ _ => 0) x s = 0 := by simp [tv]
theorem tq_zero (j : Fin 8) (r : Fin 512) (x : Fin 256) : p.tq (fun _ _ => 0) j r x = 0 := by simp [tq]

theorem tq_total (n : ℕ) (nb : Fin 8) (hn : nb.val = n) (r : Fin 512) (x : Fin 256) :
    (∑ j : Fin 8, if j.val < n then p.tq (p.W j) j r x else 0) + p.tq (p.Z n nb) nb r x = ∑ j, p.tq (p.Z n j) j r x :=
  Cert.KernelIdeal.Bwd.Pt.total n nb hn _ (fun j => p.tq (p.Z n j) j r x) (fun j h => by rw [Z_lt p n j h]) (fun j h => by rw [Z_gt p n j h, tq_zero])

theorem tk_ne (n : ℕ) (j : Fin 8) (h : j.val ≠ n) (x : Fin 256) (s : Fin 512) :
    (if j.val < n then p.tk (p.W j) x s else 0) = p.tk (p.Z n j) x s := by
  split_ifs with h1
  · rw [Z_lt p n j h1]
  · rw [Z_gt p n j (by omega), tk_zero]

theorem tv_ne (n : ℕ) (j : Fin 8) (h : j.val ≠ n) (x : Fin 128) (s : Fin 512) :
    (if j.val < n then p.tv (p.E j) x s else 0) = p.tv (p.M n j) x s := by
  split_ifs with h1
  · rw [M_lt p n j h1]
  · rw [M_gt p n j (by omega), tv_zero]

end Pt

end Cert.MlaIdeal.Bwd

end
-- ==== Proof.MStep.lean ====
module

public import proofs.«01_k».proof.Proof.Gen.MlaIdeal.Loops
public import proofs.«01_k».proof.Proof.MSpec

@[expose] public section

set_option maxRecDepth 16384

noncomputable section

namespace Cert.MlaIdeal.Bwd

open Idealize.ShloMosaic Cert.MlaIdeal Cert.MlaIdeal.Gen Cert.Slab
open Cert.KernelIdeal.Bwd (key sum_lt_succ)

theorem trips_eq : ∀ i : grid0.Coords, (k0_t1_loop i).trips = (i 1).val := by
  decide +kernel

theorem trips2_eq : ∀ i : grid0.Coords, (k0_t2_loop i).trips = 0 := by
  decide +kernel

variable {𝒱 : Variants} {c : Dev nD} {bd : Option 𝒱.V} {i : grid0.Coords} {u2 : Memref sig .tc .vmem S512x256 .bf16} {z2 : u2.IsWhole} {u3 : Memref sig .tc .vmem S4096x128 .bf16} {z3 : u3.IsWhole} {u4 : Memref sig .tc .vmem S4096x128 .bf16} {z4 : u4.IsWhole} {u5 : Memref sig .tc .vmem S4096x128 .bf16} {z5 : u5.IsWhole} {u6 : Memref sig .tc .vmem S512x128 .bf16} {z6 : u6.IsWhole} {u7 : Memref sig .tc .vmem S1x512x1 .f32} {z7 : u7.IsWhole} {u8 : Memref sig .tc .vmem S1x512x1 .f32} {z8 : u8.IsWhole} {u9 : Memref sig .tc .vmem S512x256 .f32} {z9 : u9.IsWhole} {u10 : Memref sig .tc .vmem S4096x256 .bf16} {z10 : u10.IsWhole} {u11 : Memref sig .tc .vmem S4096x128 .f32} {z11 : u11.IsWhole} {u12 : Memref sig .tc .vmem S512x256 .f32} {z12 : u12.IsWhole} {u13 : Memref sig .tc .vmem S8x128x512 .f32} {z13 : u13.IsWhole} {u14 : Memref sig .tc .vmem S8x128x512 .f32} {z14 : u14.IsWhole} {u15 : Memref sig .tc .vmem S8x128x512 .f32} {z15 : u15.IsWhole} {u16 : Memref sig .tc .vmem S4096x256 .bf16} {z16 : u16.IsWhole} {u1 : BitVec 32} {v9 : FVec Ideal S512x256 .bf16} {v11 : FVec Ideal S512x128 .bf16} {v14 : FVec Ideal S256x512 .bf16} {v17 : FVec Ideal S128x512 .bf16} {v19 : FVec Ideal S512x1 .f32} {v21 : FVec Ideal S512x1 .f32} {c1_i32 : BitVec 32} {v26 : BitVec 32} {v31 : BitVec 32} {v32 : BitVec 1} {X4 : BufTy.Contents (Elt Ideal) u4.view.ty} {X16 : BufTy.Contents (Elt Ideal) u16.view.ty}

section
variable (p : Pt) (hq : ∀ r x, v9 (ix2 r x) = p.q r x) (hg : ∀ r x, v11 (ix2 r x) = p.g r x) (hqt : ∀ x r, v14 (ix2 x r) = p.q r x) (hgt : ∀ x r, v17 (ix2 x r) = p.g r x)
    (hl : ∀ r, v19 (ix2 r 0) = p.l r) (hdl : ∀ r, v21 (ix2 r 0) = p.dl r) (hk : ∀ r x, u16.view.read (Elt Ideal) X16 (ix2 r x) = p.k r x)
    (hv : ∀ r x, u4.view.read (Elt Ideal) X4 (ix2 r x) = p.v r x)
include hq hg hqt hgt hl hdl hk hv

section
variable (k : Fin (k0_t1_loop i).trips) (j : Fin 8) (hj : j.val = k.val)
include hj

theorem keyAt (s : Fin 512) (x : Fin 256) :
    (View.readAt (Elt Ideal) u16.view (Rect.unit (s := S4096x256) (k0_off1 i k) ![512, 256] (k0_off1_inb i k)).toLoadRect X16) (ix2 s x) = p.k (key j s) x := by
  rw [← hk]
  exact readAt_rows u16.view X16 (512 * k.val) _ (k0_off1_eq i k) _ s x (key j s) (by show 512 * j.val + s.val = _; rw [hj])

theorem valAt (s : Fin 512) (x : Fin 128) :
    (View.readAt (Elt Ideal) u4.view (Rect.unit (s := S4096x128) (k0_off3 i k) ![512, 128] (k0_off3_inb i k)).toLoadRect X4) (ix2 s x) = p.v (key j s) x := by
  rw [← hv]
  exact readAt_rows u4.view X4 (512 * k.val) _ (k0_off3_eq i k) _ s x (key j s) (by show 512 * j.val + s.val = _; rw [hj])

end

/-- The pieces of the blocks read so far, buffer by buffer. -/
abbrev LT := List (View.Piece (Elt Ideal) S512x256 .f32) × List (View.Piece (Elt Ideal) S8x128x512 .f32) × List (View.Piece (Elt Ideal) S8x128x512 .f32) × List (View.Piece (Elt Ideal) S8x128x512 .f32)

/-- What one round that read `B` on top of the lists `L` leaves on each buffer. -/
abbrev Trip (f12 : BufTy.Contents (Elt Ideal) u12.view.ty) (f13 : BufTy.Contents (Elt Ideal) u13.view.ty) (f14 : BufTy.Contents (Elt Ideal) u14.view.ty) (f15 : BufTy.Contents (Elt Ideal) u15.view.ty) (G12 : BufTy.Contents (Elt Ideal) u12.view.ty) (G13 : BufTy.Contents (Elt Ideal) u13.view.ty) (G14 : BufTy.Contents (Elt Ideal) u14.view.ty) (G15 : BufTy.Contents (Elt Ideal) u15.view.ty) (L12 : List (View.Piece (Elt Ideal) S512x256 .f32)) (L13 : List (View.Piece (Elt Ideal) S8x128x512 .f32)) (L14 : List (View.Piece (Elt Ideal) S8x128x512 .f32)) (L15 : List (View.Piece (Elt Ideal) S8x128x512 .f32)) (j : Fin 8) (B : LT) : Prop :=
    (∀ r x, u12.view.read (Elt Ideal) (u12.view.writes (Elt Ideal) G12 (B.1 ++ L12)) (ix2 r x) = u12.view.read (Elt Ideal) f12 (ix2 r x) + p.tq (p.W j) j r x)
    ∧ (∀ j' x s, u13.view.read (Elt Ideal) (u13.view.writes (Elt Ideal) G13 (B.2.1 ++ L13)) (ix3 j' x s) = if j' = j then u13.view.read (Elt Ideal) f13 (ix3 j x s) + p.tk (p.W j) (lo x) s else u13.view.read (Elt Ideal) (u13.view.writes (Elt Ideal) G13 (L13)) (ix3 j' x s))
    ∧ (∀ j' x s, u14.view.read (Elt Ideal) (u14.view.writes (Elt Ideal) G14 (B.2.2.1 ++ L14)) (ix3 j' x s) = if j' = j then u14.view.read (Elt Ideal) f14 (ix3 j x s) + p.tv (p.E j) x s else u14.view.read (Elt Ideal) (u14.view.writes (Elt Ideal) G14 (L14)) (ix3 j' x s))
    ∧ (∀ j' x s, u15.view.read (Elt Ideal) (u15.view.writes (Elt Ideal) G15 (B.2.2.2 ++ L15)) (ix3 j' x s) = if j' = j then u15.view.read (Elt Ideal) f15 (ix3 j x s) + p.tk (p.W j) (hi x) s else u15.view.read (Elt Ideal) (u15.view.writes (Elt Ideal) G15 (L15)) (ix3 j' x s))

set_option maxHeartbeats 2000000 in
/-- One trip of the loop over the earlier key blocks adds its block's terms. -/
theorem trip_reads (k : Fin (k0_t1_loop i).trips) (f12 : BufTy.Contents (Elt Ideal) u12.view.ty) (f13 : BufTy.Contents (Elt Ideal) u13.view.ty) (f14 : BufTy.Contents (Elt Ideal) u14.view.ty) (f15 : BufTy.Contents (Elt Ideal) u15.view.ty) (G12 : BufTy.Contents (Elt Ideal) u12.view.ty) (G13 : BufTy.Contents (Elt Ideal) u13.view.ty) (G14 : BufTy.Contents (Elt Ideal) u14.view.ty) (G15 : BufTy.Contents (Elt Ideal) u15.view.ty) (L12 : List (View.Piece (Elt Ideal) S512x256 .f32)) (L13 : List (View.Piece (Elt Ideal) S8x128x512 .f32)) (L14 : List (View.Piece (Elt Ideal) S8x128x512 .f32)) (L15 : List (View.Piece (Elt Ideal) S8x128x512 .f32)) (j : Fin 8) (hj : j.val = k.val) :
    Trip p f12 f13 f14 f15 G12 G13 G14 G15 L12 L13 L14 L15 j (tripL_k0_t1 (F := Ideal) 𝒱 c bd i u2 z2 u3 z3 u4 z4 u5 z5 u6 z6 u7 z7 u8 z8 u9 z9 u10 z10 u11 z11 u12 z12 u13 z13 u14 z14 u15 z15 u16 z16 u1 v9 v11 v14 v17 v19 v21 c1_i32 v26 v31 v32 X4 X16 k f12 f13 f14 f15) := by
  have hK := keyAt _ hq hg hqt hgt hl hdl hk hv (i := i) (k := k) (j := j) (hj := hj)
  have hV := valAt _ hq hg hqt hgt hl hdl hk hv (i := i) (k := k) (j := j) (hj := hj)
  unfold tripL_k0_t1 trip_k0_t1
  dsimp only
  have hE : ∀ r s, k0_pay11 v9 v19 (View.readAt (Elt Ideal) u16.view (Rect.unit (s := S4096x256) (k0_off1 i k) ![512, 256] (k0_off1_inb i k)).toLoadRect X16) (ix2 r s) = p.E j r s := by
    intro r s
    rw [pay11_at, hl]
    simp only [hq, hK]
    rfl
  have hW : ∀ r s, k0_pay13 v9 v11 v19 v21 (View.readAt (Elt Ideal) u16.view (Rect.unit (s := S4096x256) (k0_off1 i k) ![512, 256] (k0_off1_inb i k)).toLoadRect X16) (View.readAt (Elt Ideal) u4.view (Rect.unit (s := S4096x128) (k0_off3 i k) ![512, 128] (k0_off3_inb i k)).toLoadRect X4) (ix2 r s) = p.W j r s := by
    intro r s
    refine (pay13_at _ _ _ _ _ _ _ _).trans ?_
    rw [hE, hdl]
    simp only [hg, hV]
    rfl
  have hT : ∀ x s, k0_pay14 v9 v11 v14 v19 v21 (View.readAt (Elt Ideal) u16.view (Rect.unit (s := S4096x256) (k0_off1 i k) ![512, 256] (k0_off1_inb i k)).toLoadRect X16) (View.readAt (Elt Ideal) u4.view (Rect.unit (s := S4096x128) (k0_off3 i k) ![512, 128] (k0_off3_inb i k)).toLoadRect X4) (ix2 x s) = p.tk (p.W j) x s := by
    intro x s
    refine (pay14_at _ _ _ _ _ _ _ _ _).trans ?_
    simp only [hqt, hW]
    rfl
  refine ⟨fun r x => ?_, fun j' x s => ?_, fun j' x s => ?_, fun j' x s => ?_⟩
  · refine (read_whole u12.view G12 ![0, 0] (by decide) _ _ L12 (ix2 r x)).trans ?_
    refine (pay52_at _ _ _ r x).trans (congrArg₂ _ (readAt_whole u12.view f12 ![0, 0] (by decide) _ (ix2 r x)) ?_)
    unfold trip_k0_t1.sl.r trip_k0_t1.sl.r_1
    simp only [hW, hK]
    rfl
  · refine (read_slab u13.view G13 j _ (by rw [hj]; exact k0_off2_eq i k) _ _ L13 j' x s).trans (if_congr Iff.rfl ?_ rfl)
    refine (pay15_at _ _ _ _ _ _ _ _ x s).trans (congrArg₂ _ (readAt_slab u13.view f13 j _ (by rw [hj]; exact k0_off2_eq i k) _ x s) (hT (lo x) s))
  · refine (read_slab u14.view G14 j _ (by rw [hj]; exact k0_off2_eq i k) _ _ L14 j' x s).trans (if_congr Iff.rfl ?_ rfl)
    refine (pay12_at _ _ _ _ _ x s).trans (congrArg₂ _ (readAt_slab u14.view f14 j _ (by rw [hj]; exact k0_off2_eq i k) _ x s) ?_)
    simp only [hE, hgt]
    rfl
  · refine (read_slab u15.view G15 j _ (by rw [hj]; exact k0_off2_eq i k) _ _ L15 j' x s).trans (if_congr Iff.rfl ?_ rfl)
    refine (pay51_at _ _ x s).trans (congrArg₂ _ (readAt_slab u15.view f15 j _ (by rw [hj]; exact k0_off2_eq i k) _ x s) ?_)
    unfold trip_k0_t1.sl.r_2
    exact hT (hi x) s

/-- What a loop that read `B` before stage `n` leaves on each buffer. -/
abbrev Left (G12 : BufTy.Contents (Elt Ideal) u12.view.ty) (G13 : BufTy.Contents (Elt Ideal) u13.view.ty) (G14 : BufTy.Contents (Elt Ideal) u14.view.ty) (G15 : BufTy.Contents (Elt Ideal) u15.view.ty) (n : ℕ) (B : LT) : Prop :=
    (∀ r x, u12.view.read (Elt Ideal) (u12.view.writes (Elt Ideal) G12 (B.1)) (ix2 r x) = u12.view.read (Elt Ideal) G12 (ix2 r x) + ∑ j : Fin 8, if j.val < n then p.tq (p.W j) j r x else 0)
    ∧ (∀ j x s, u13.view.read (Elt Ideal) (u13.view.writes (Elt Ideal) G13 (B.2.1)) (ix3 j x s) = u13.view.read (Elt Ideal) G13 (ix3 j x s) + if j.val < n then p.tk (p.W j) (lo x) s else 0)
    ∧ (∀ j x s, u14.view.read (Elt Ideal) (u14.view.writes (Elt Ideal) G14 (B.2.2.1)) (ix3 j x s) = u14.view.read (Elt Ideal) G14 (ix3 j x s) + if j.val < n then p.tv (p.E j) x s else 0)
    ∧ (∀ j x s, u15.view.read (Elt Ideal) (u15.view.writes (Elt Ideal) G15 (B.2.2.2)) (ix3 j x s) = u15.view.read (Elt Ideal) G15 (ix3 j x s) + if j.val < n then p.tk (p.W j) (hi x) s else 0)

set_option maxHeartbeats 2000000 in
/-- What the loop over the earlier key blocks leaves: on each buffer what it found, and its blocks' terms. -/
theorem loop_reads (G12 : BufTy.Contents (Elt Ideal) u12.view.ty) (G13 : BufTy.Contents (Elt Ideal) u13.view.ty) (G14 : BufTy.Contents (Elt Ideal) u14.view.ty) (G15 : BufTy.Contents (Elt Ideal) u15.view.ty) (n : ℕ) (hn : n ≤ (i 1).val) :
    Left p G12 G13 G14 G15 n (pb_k0_t1 (F := Ideal) 𝒱 c bd i u2 z2 u3 z3 u4 z4 u5 z5 u6 z6 u7 z7 u8 z8 u9 z9 u10 z10 u11 z11 u12 z12 u13 z13 u14 z14 u15 z15 u16 z16 u1 v9 v11 v14 v17 v19 v21 c1_i32 v26 v31 v32 X4 X16 G12 G13 G14 G15 n) := by
  induction n with
  | zero =>
    refine ⟨fun r x => ?_, fun j x s => ?_, fun j x s => ?_, fun j x s => ?_⟩ <;>
      · simp only [Nat.not_lt_zero, if_false, Finset.sum_const_zero, add_zero]
        rfl
  | succ n ih =>
    have hi : (i 1).val < 8 := (i 1).isLt
    obtain ⟨h12, h13, h14, h15⟩ := ih (by omega)
    have hk' : n < (k0_t1_loop i).trips := by rw [trips_eq]; omega
    have hs := pb_k0_t1_succ (F := Ideal) 𝒱 c bd i u2 z2 u3 z3 u4 z4 u5 z5 u6 z6 u7 z7 u8 z8 u9 z9 u10 z10 u11 z11 u12 z12 u13 z13 u14 z14 u15 z15 u16 z16 u1 v9 v11 v14 v17 v19 v21 c1_i32 v26 v31 v32 X4 X16 G12 G13 G14 G15 ⟨n, hk'⟩
    have key := fun B : LT => trip_reads _ hq hg hqt hgt hl hdl hk hv (z2 := z2) (z3 := z3) (z4 := z4) (z5 := z5) (z6 := z6) (z7 := z7) (z8 := z8) (z9 := z9) (z10 := z10) (z11 := z11) (z12 := z12) (z13 := z13) (z14 := z14) (z15 := z15) (z16 := z16) (bd := bd) (c := c) (𝒱 := 𝒱)
      (u1 := u1) (c1_i32 := c1_i32) (v26 := v26) (v31 := v31) (v32 := v32)
      (k := ⟨n, hk'⟩) (j := ⟨n, by omega⟩) (hj := rfl)
      (f12 := u12.view.writes (Elt Ideal) G12 B.1) (G12 := G12) (L12 := B.1) (f13 := u13.view.writes (Elt Ideal) G13 B.2.1) (G13 := G13) (L13 := B.2.1) (f14 := u14.view.writes (Elt Ideal) G14 B.2.2.1) (G14 := G14) (L14 := B.2.2.1) (f15 := u15.view.writes (Elt Ideal) G15 B.2.2.2) (G15 := G15) (L15 := B.2.2.2)
    rw [hs]
    obtain ⟨t12, t13, t14, t15⟩ := key (pb_k0_t1 (F := Ideal) 𝒱 c bd i u2 z2 u3 z3 u4 z4 u5 z5 u6 z6 u7 z7 u8 z8 u9 z9 u10 z10 u11 z11 u12 z12 u13 z13 u14 z14 u15 z15 u16 z16 u1 v9 v11 v14 v17 v19 v21 c1_i32 v26 v31 v32 X4 X16 G12 G13 G14 G15 n)
    refine ⟨fun r x => ?_, fun j x s => ?_, fun j x s => ?_, fun j x s => ?_⟩
    · refine (t12 r x).trans ?_
      rw [sum_lt_succ _ n ⟨n, by omega⟩ rfl, ← add_assoc, ← h12]
    · refine (t13 j x s).trans ?_
      by_cases h1 : j = ⟨n, by omega⟩
      · rw [if_pos h1, h13]; subst h1; simp
      · have h2 : j.val ≠ n := fun h => h1 (Fin.ext h)
        rw [if_neg h1, h13]; exact congrArg₂ _ rfl (if_congr (by omega) rfl rfl)
    · refine (t14 j x s).trans ?_
      by_cases h1 : j = ⟨n, by omega⟩
      · rw [if_pos h1, h14]; subst h1; simp
      · have h2 : j.val ≠ n := fun h => h1 (Fin.ext h)
        rw [if_neg h1, h14]; exact congrArg₂ _ rfl (if_congr (by omega) rfl rfl)
    · refine (t15 j x s).trans ?_
      by_cases h1 : j = ⟨n, by omega⟩
      · rw [if_pos h1, h15]; subst h1; simp
      · have h2 : j.val ≠ n := fun h => h1 (Fin.ext h)
        rw [if_neg h1, h15]; exact congrArg₂ _ rfl (if_congr (by omega) rfl rfl)

theorem loop_reads_at {G12 : BufTy.Contents (Elt Ideal) u12.view.ty} {G13 : BufTy.Contents (Elt Ideal) u13.view.ty} {G14 : BufTy.Contents (Elt Ideal) u14.view.ty} {G15 : BufTy.Contents (Elt Ideal) u15.view.ty} {n n' : ℕ} (hn : n = (i 1).val) (hn' : n' = n) :
    Left p G12 G13 G14 G15 n (pb_k0_t1 (F := Ideal) 𝒱 c bd i u2 z2 u3 z3 u4 z4 u5 z5 u6 z6 u7 z7 u8 z8 u9 z9 u10 z10 u11 z11 u12 z12 u13 z13 u14 z14 u15 z15 u16 z16 u1 v9 v11 v14 v17 v19 v21 c1_i32 v26 v31 v32 X4 X16 G12 G13 G14 G15 n') := by
  subst hn'
  exact loop_reads _ hq hg hqt hgt hl hdl hk hv (n := n') (hn := by omega) ..

end

section

/-- The loop over the rest of the earlier key blocks makes no trip. -/
theorem pb2_nil {v47 : BitVec 32} {G12 : BufTy.Contents (Elt Ideal) u12.view.ty} {G13 : BufTy.Contents (Elt Ideal) u13.view.ty} {G14 : BufTy.Contents (Elt Ideal) u14.view.ty} {G15 : BufTy.Contents (Elt Ideal) u15.view.ty} (n : ℕ) (hn : n = 0) :
    (pb_k0_t2 (F := Ideal) 𝒱 c bd i u2 z2 u3 z3 u4 z4 u5 z5 u6 z6 u7 z7 u8 z8 u9 z9 u10 z10 u11 z11 u12 z12 u13 z13 u14 z14 u15 z15 u16 z16 u1 v9 v11 v14 v17 v19 v21 c1_i32 v26 v31 v32 v47 X4 X16 G12 G13 G14 G15 n).1 = [] ∧ (pb_k0_t2 (F := Ideal) 𝒱 c bd i u2 z2 u3 z3 u4 z4 u5 z5 u6 z6 u7 z7 u8 z8 u9 z9 u10 z10 u11 z11 u12 z12 u13 z13 u14 z14 u15 z15 u16 z16 u1 v9 v11 v14 v17 v19 v21 c1_i32 v26 v31 v32 v47 X4 X16 G12 G13 G14 G15 n).2.1 = [] ∧ (pb_k0_t2 (F := Ideal) 𝒱 c bd i u2 z2 u3 z3 u4 z4 u5 z5 u6 z6 u7 z7 u8 z8 u9 z9 u10 z10 u11 z11 u12 z12 u13 z13 u14 z14 u15 z15 u16 z16 u1 v9 v11 v14 v17 v19 v21 c1_i32 v26 v31 v32 v47 X4 X16 G12 G13 G14 G15 n).2.2.1 = [] ∧ (pb_k0_t2 (F := Ideal) 𝒱 c bd i u2 z2 u3 z3 u4 z4 u5 z5 u6 z6 u7 z7 u8 z8 u9 z9 u10 z10 u11 z11 u12 z12 u13 z13 u14 z14 u15 z15 u16 z16 u1 v9 v11 v14 v17 v19 v21 c1_i32 v26 v31 v32 v47 X4 X16 G12 G13 G14 G15 n).2.2.2 = [] := by
  subst hn
  exact ⟨rfl, rfl, rfl, rfl⟩

end

end Cert.MlaIdeal.Bwd

end
-- ==== Proof.MCase.lean ====
module

public import proofs.«01_k».proof.Proof.Gen.MlaIdeal.Frame
public import proofs.«01_k».proof.Proof.MStep

@[expose] public section

set_option maxRecDepth 16384

noncomputable section

namespace Cert.MlaIdeal.Bwd

open Idealize.ShloMosaic Cert.MlaIdeal Cert.MlaIdeal.Gen Cert.Slab
open Cert.KernelIdeal.Bwd (key sum_lt_succ)

/-- A buffer of slabs after a point: the entry contents plus the point's terms, block `nb` of them added by the last store. -/
theorem slab_after (v : View sig .tc .vmem S8x128x512 .f32) (f : v.ty.Contents (Elt Ideal)) (L : List (View.Piece (Elt Ideal) S8x128x512 .f32))
    (n : ℕ) (nb : Fin 8) (hnb : nb.val = n) (off : Fin 3 → ℕ) (hoff : off = ![nb.val, 0, 0]) (inb : ∀ d, off d + S1x128x512.size d ≤ S8x128x512.size d)
    (w : Vec Ideal S1x128x512 .f32) (e t z : Fin 8 → Fin 128 → Fin 512 → EReal)
    (hL : ∀ j x s, v.read (Elt Ideal) (v.writes (Elt Ideal) f L) (ix3 j x s) = e j x s + if j.val < n then t j x s else 0)
    (hw : ∀ x s, w (ix3 0 x s) = View.readAt (Elt Ideal) v (Rect.unit (s := S8x128x512) off S1x128x512.size inb).toLoadRect (v.writes (Elt Ideal) f L) (ix3 0 x s) + z nb x s)
    (hz : ∀ j : Fin 8, j.val ≠ n → ∀ x s, (if j.val < n then t j x s else 0) = z j x s) (j : Fin 8) (x : Fin 128) (s : Fin 512) :
    v.read (Elt Ideal) (v.writes (Elt Ideal) f (⟨Rect.unit (s := S8x128x512) off S1x128x512.size inb, w⟩ :: L)) (ix3 j x s) = e j x s + z j x s := by
  refine (read_slab v f nb off hoff inb w L j x s).trans ?_
  by_cases h : j = nb
  · rw [if_pos h, hw]
    subst h
    refine congrArg₂ _ ((readAt_slab v _ j off hoff inb x s).trans ((hL j x s).trans ?_)) rfl
    rw [if_neg (by omega), add_zero]
  · rw [if_neg h, hL, hz j (fun h1 => h (Fin.ext (h1.trans hnb.symm)))]

/-- Keys of both kinds side by side. -/
def kcat (x1 x3 : Vec Ideal S4096x128 .bf16) : Vec Ideal S4096x256 .bf16 := fun i =>
  if h : (i 1).val < 128 then x1 (ix2 (i 0) ⟨(i 1).val, h⟩)
  else x3 (ix2 (i 0) ⟨(i 1).val - 128, by have : (i 1).val < 256 := (i 1).isLt; omega⟩)

theorem read_kcat (v : View sig .tc .vmem S4096x256 .bf16) (f : v.ty.Contents (Elt Ideal))
    {u3 u5 : Memref sig .tc .vmem S4096x128 .bf16} (z3 : u3.IsWhole) (z5 : u5.IsWhole) (x1 x3 : Vec Ideal S4096x128 .bf16)
    (k : Fin 4096) (x : Fin 256) :
    v.read (Elt Ideal) (v.writes (Elt Ideal) f [⟨Rect.unit (s := S4096x256) ![0, 128] S4096x128.size inb_S4096x256_S4096x128_0_128, k0_pay43 (View.readAt (Elt Ideal) u5.view (Rect.unit (s := S4096x128) ![0, 0] S4096x128.size inb_S4096x128_S4096x128_0_0).toLoadRect (z5.unread x3))⟩,
      ⟨Rect.unit (s := S4096x256) ![0, 0] S4096x128.size inb_S4096x256_S4096x128_0_0, k0_pay42 (View.readAt (Elt Ideal) u3.view (Rect.unit (s := S4096x128) ![0, 0] S4096x128.size inb_S4096x128_S4096x128_0_0).toLoadRect (z3.unread x1))⟩]) (ix2 k x)
      = kcat x1 x3 (ix2 k x) := by
  have hx := x.isLt
  unfold kcat
  by_cases h : x.val < 128
  · refine (read_box v f 0 128 _ rfl _ _ _ k x k (0 : Fin 128) False (fun h => h.elim) (fun _ => by omega)).trans ?_
    rw [if_neg not_false]
    refine (read_box v f 0 0 _ rfl _ _ _ k x k (⟨x.val, h⟩ : Fin 128) True (fun _ => ⟨by omega, by show x.val = 0 + x.val; omega⟩) (fun h => absurd trivial h)).trans ?_
    rw [if_pos trivial]
    refine (pay42_at _ k _).trans ((readAt_whole u3.view _ ![0, 0] (by decide) _ (ix2 k _)).trans ((congrFun (z3.read_unread x1) _).trans ?_))
    split
    · rfl
    · rename_i h1
      exact absurd h h1
  · refine (read_box v f 0 128 _ rfl _ _ _ k x k (⟨x.val - 128, by omega⟩ : Fin 128) True (fun _ => ⟨by omega, by show x.val = 128 + (x.val - 128); omega⟩) (fun h => absurd trivial h)).trans ?_
    rw [if_pos trivial]
    refine (pay43_at _ k _).trans ((readAt_whole u5.view _ ![0, 0] (by decide) _ (ix2 k _)).trans ((congrFun (z5.read_unread x3) _).trans ?_))
    split
    · rename_i h1
      exact absurd h1 h
    · rfl

/-- What a point reads, the keys being `kc`. -/
def ptOf (x0 : Vec Ideal S512x256 .bf16) (x2 : Vec Ideal S4096x128 .bf16) (x4 : Vec Ideal S512x128 .bf16) (x5 x6 : Vec Ideal S1x512x1 .f32)
    (kc : Vec Ideal S4096x256 .bf16) : Pt where
  q r x := x0 (ix2 r x)
  g r x := x4 (ix2 r x)
  l r := x5 (ix3 0 r 0)
  dl r := x6 (ix3 0 r 0)
  k r x := kc (ix2 r x)
  v r x := x2 (ix2 r x)

section
variable {a256 : Memref sig .tc .vmem S512x256 .bf16} {a128 : Memref sig .tc .vmem S512x128 .bf16} {a1 : Memref sig .tc .vmem S1x512x1 .f32}

theorem rd_q (h : a256.IsWhole) (x0 : Vec Ideal S512x256 .bf16) (r : Fin 512) (x : Fin 256) :
    k0_pay44 (View.readAt (Elt Ideal) a256.view (Rect.unit (s := S512x256) ![0, 0] S512x256.size inb_S512x256_S512x256_0_0).toLoadRect (h.unread x0)) (ix2 r x) = x0 (ix2 r x) :=
  (pay44_at _ r x).trans ((readAt_whole a256.view _ ![0, 0] (by decide) _ (ix2 r x)).trans (congrFun (h.read_unread x0) _))

theorem rd_qt (h : a256.IsWhole) (x0 : Vec Ideal S512x256 .bf16) (x : Fin 256) (r : Fin 512) :
    k0_pay46 (View.readAt (Elt Ideal) a256.view (Rect.unit (s := S512x256) ![0, 0] S512x256.size inb_S512x256_S512x256_0_0).toLoadRect (h.unread x0)) (ix2 x r) = x0 (ix2 r x) :=
  (pay46_at _ x r).trans ((readAt_whole a256.view _ ![0, 0] (by decide) _ (ix2 r x)).trans (congrFun (h.read_unread x0) _))

theorem rd_g (h : a128.IsWhole) (x0 : Vec Ideal S512x128 .bf16) (r : Fin 512) (x : Fin 128) :
    k0_pay45 (View.readAt (Elt Ideal) a128.view (Rect.unit (s := S512x128) ![0, 0] S512x128.size inb_S512x128_S512x128_0_0).toLoadRect (h.unread x0)) (ix2 r x) = x0 (ix2 r x) :=
  (pay45_at _ r x).trans ((readAt_whole a128.view _ ![0, 0] (by decide) _ (ix2 r x)).trans (congrFun (h.read_unread x0) _))

theorem rd_gt (h : a128.IsWhole) (x0 : Vec Ideal S512x128 .bf16) (x : Fin 128) (r : Fin 512) :
    k0_pay47 (View.readAt (Elt Ideal) a128.view (Rect.unit (s := S512x128) ![0, 0] S512x128.size inb_S512x128_S512x128_0_0).toLoadRect (h.unread x0)) (ix2 x r) = x0 (ix2 r x) :=
  (pay47_at _ x r).trans ((readAt_whole a128.view _ ![0, 0] (by decide) _ (ix2 r x)).trans (congrFun (h.read_unread x0) _))

theorem rd_l (h : a1.IsWhole) (x0 : Vec Ideal S1x512x1 .f32) (r : Fin 512) :
    k0_pay48 (View.readAt (Elt Ideal) a1.view (Rect.unit (s := S1x512x1) ![0, 0, 0] S1x512x1.size inb_S1x512x1_S1x512x1_0_0_0).toLoadRect (h.unread x0)) (ix2 r 0) = x0 (ix3 0 r 0) :=
  (pay48_at _ r).trans ((readAt_whole a1.view _ ![0, 0, 0] (by decide) _ (ix3 0 r 0)).trans (congrFun (h.read_unread x0) _))

theorem rd_dl (h : a1.IsWhole) (x0 : Vec Ideal S1x512x1 .f32) (r : Fin 512) :
    k0_pay49 (View.readAt (Elt Ideal) a1.view (Rect.unit (s := S1x512x1) ![0, 0, 0] S1x512x1.size inb_S1x512x1_S1x512x1_0_0_0).toLoadRect (h.unread x0)) (ix2 r 0) = x0 (ix3 0 r 0) :=
  (pay49_at _ r).trans ((readAt_whole a1.view _ ![0, 0, 0] (by decide) _ (ix3 0 r 0)).trans (congrFun (h.read_unread x0) _))
end

theorem word_eq : ∀ i : grid0.Coords, kernelRun0_A.sl.v64 i = BitVec.ofNat 32 (i 1).val := by
  decide +kernel

section
variable {i : grid0.Coords} {u4 : Memref sig .tc .vmem S4096x128 .bf16} {u16 : Memref sig .tc .vmem S4096x256 .bf16}
  {v9 : Vec Ideal S512x256 .bf16} {v11 : Vec Ideal S512x128 .bf16} {v14 : FVec Ideal S256x512 .bf16} {v17 : FVec Ideal S128x512 .bf16}
  {v19 v21 : FVec Ideal S512x1 .f32} {X4 : BufTy.Contents (Elt Ideal) u4.view.ty} {X16 : BufTy.Contents (Elt Ideal) u16.view.ty} {w2 : BitVec 32}

section
variable (p : Pt) (hq : ∀ r x, v9 (ix2 r x) = p.q r x) (hg : ∀ r x, v11 (ix2 r x) = p.g r x) (hqt : ∀ x r, v14 (ix2 x r) = p.q r x) (hgt : ∀ x r, v17 (ix2 x r) = p.g r x)
    (hl : ∀ r, v19 (ix2 r 0) = p.l r) (hdl : ∀ r, v21 (ix2 r 0) = p.dl r) (hk : ∀ r x, u16.view.read (Elt Ideal) X16 (ix2 r x) = p.k r x)
    (hv : ∀ r x, u4.view.read (Elt Ideal) X4 (ix2 r x) = p.v r x) (hw2 : w2 = BitVec.ofNat 32 (i 1).val) (nb : Fin 8) (hnb : nb.val = (i 1).val)
include hq hg hqt hgt hl hdl hk hv hw2 hnb

theorem keyD (s : Fin 512) (x : Fin 256) :
    (View.readAt (Elt Ideal) u16.view (Rect.unit (s := S4096x256) (k0_off7 i) S512x256.size (k0_off7_inb i)).toLoadRect X16) (ix2 s x) = p.k (key nb s) x := by
  rw [← hk]
  exact readAt_rows u16.view X16 (512 * nb.val) _ (by rw [hnb]; exact k0_off7_eq i) _ s x (key nb s) rfl

theorem valD (s : Fin 512) (x : Fin 128) :
    (View.readAt (Elt Ideal) u4.view (Rect.unit (s := S4096x128) (k0_off9 i) S512x128.size (k0_off9_inb i)).toLoadRect X4) (ix2 s x) = p.v (key nb s) x := by
  rw [← hv]
  exact readAt_rows u4.view X4 (512 * nb.val) _ (by rw [hnb]; exact k0_off9_eq i) _ s x (key nb s) rfl

theorem hM (r s : Fin 512) :
    k0_pay56 (BitVec.ofNat 32 (i 1).val) v19 w2 (k0_pay55 v9 (View.readAt (Elt Ideal) u16.view (Rect.unit (s := S4096x256) (k0_off7 i) S512x256.size (k0_off7_inb i)).toLoadRect X16)) (ix2 r s)
      = p.M (i 1).val nb r s := by
  have e1 := keyD _ hq hg hqt hgt hl hdl hk hv (hw2 := hw2) (nb := nb) (hnb := hnb)
  refine (pay56_at nb.val nb.isLt _ _ (by rw [hnb]) (by rw [hnb]; exact hw2) _ _ _ r s).trans ?_
  rw [Pt.M_eq _ _ _ hnb]
  refine if_congr Iff.rfl ((pay11_at _ _ _ r s).trans ?_) rfl
  rw [hl]
  simp only [hq, e1]
  rfl

theorem hZ (r s : Fin 512) :
    k0_pay58 (BitVec.ofNat 32 (i 1).val) v11 v19 v21 w2 (k0_pay55 v9 (View.readAt (Elt Ideal) u16.view (Rect.unit (s := S4096x256) (k0_off7 i) S512x256.size (k0_off7_inb i)).toLoadRect X16))
      (View.readAt (Elt Ideal) u4.view (Rect.unit (s := S4096x128) (k0_off9 i) S512x128.size (k0_off9_inb i)).toLoadRect X4) (ix2 r s)
      = p.Z (i 1).val nb r s := by
  have e1 := valD _ hq hg hqt hgt hl hdl hk hv (hw2 := hw2) (nb := nb) (hnb := hnb)
  have e2 := hM _ hq hg hqt hgt hl hdl hk hv (hw2 := hw2) (nb := nb) (hnb := hnb)
  refine (pay58_at _ _ _ _ _ _ _ r s).trans ?_
  rw [e2, hdl]
  simp only [hg, e1]
  rfl

theorem hT (x : Fin 256) (s : Fin 512) :
    k0_pay59 (BitVec.ofNat 32 (i 1).val) v11 v14 v19 v21 w2 (k0_pay55 v9 (View.readAt (Elt Ideal) u16.view (Rect.unit (s := S4096x256) (k0_off7 i) S512x256.size (k0_off7_inb i)).toLoadRect X16))
      (View.readAt (Elt Ideal) u4.view (Rect.unit (s := S4096x128) (k0_off9 i) S512x128.size (k0_off9_inb i)).toLoadRect X4) (ix2 x s)
      = p.tk (p.Z (i 1).val nb) x s := by
  have e2 := hZ _ hq hg hqt hgt hl hdl hk hv (hw2 := hw2) (nb := nb) (hnb := hnb)
  refine (pay59_at _ _ _ _ _ _ _ _ x s).trans ?_
  simp only [hqt, e2]
  rfl

theorem w13 (a : Vec Ideal S1x128x512 .f32) (x : Fin 128) (s : Fin 512) :
    k0_pay1 (k0_pay60 a) (k0_pay61 (BitVec.ofNat 32 (i 1).val) v11 v14 v19 v21 w2 (k0_pay55 v9 (View.readAt (Elt Ideal) u16.view (Rect.unit (s := S4096x256) (k0_off7 i) S512x256.size (k0_off7_inb i)).toLoadRect X16))
      (View.readAt (Elt Ideal) u4.view (Rect.unit (s := S4096x128) (k0_off9 i) S512x128.size (k0_off9_inb i)).toLoadRect X4)) (ix3 0 x s)
      = a (ix3 0 x s) + p.tk (p.Z (i 1).val nb) (lo x) s := by
  have e2 := hT _ hq hg hqt hgt hl hdl hk hv (hw2 := hw2) (nb := nb) (hnb := hnb)
  refine (pay1_at _ _ x s).trans (congrArg₂ _ (pay60_at _ x s) ((pay61_at _ _ _ _ _ _ _ _ x s).trans (e2 (lo x) s)))

theorem w14 (a : Vec Ideal S1x128x512 .f32) (x : Fin 128) (s : Fin 512) :
    k0_pay57 (BitVec.ofNat 32 (i 1).val) v17 v19 w2 (k0_pay55 v9 (View.readAt (Elt Ideal) u16.view (Rect.unit (s := S4096x256) (k0_off7 i) S512x256.size (k0_off7_inb i)).toLoadRect X16)) a (ix3 0 x s)
      = a (ix3 0 x s) + p.tv (p.M (i 1).val nb) x s := by
  have e2 := hM _ hq hg hqt hgt hl hdl hk hv (hw2 := hw2) (nb := nb) (hnb := hnb)
  refine (pay57_at _ _ _ _ _ _ x s).trans ?_
  simp only [hgt, e2]
  rfl

theorem w15 (a : Vec Ideal S1x128x512 .f32) (x : Fin 128) (s : Fin 512) :
    k0_pay2 (k0_pay59 (BitVec.ofNat 32 (i 1).val) v11 v14 v19 v21 w2 (k0_pay55 v9 (View.readAt (Elt Ideal) u16.view (Rect.unit (s := S4096x256) (k0_off7 i) S512x256.size (k0_off7_inb i)).toLoadRect X16))
      (View.readAt (Elt Ideal) u4.view (Rect.unit (s := S4096x128) (k0_off9 i) S512x128.size (k0_off9_inb i)).toLoadRect X4)) a (ix3 0 x s)
      = a (ix3 0 x s) + p.tk (p.Z (i 1).val nb) (hi x) s := by
  have e2 := hT _ hq hg hqt hgt hl hdl hk hv (hw2 := hw2) (nb := nb) (hnb := hnb)
  exact (pay2_at _ _ x s).trans (congrArg₂ _ rfl (e2 (hi x) s))

theorem wq (a : Vec Ideal S512x256 .f32) (r : Fin 512) (x : Fin 256) :
    k0_pay3 (View.readAt (Elt Ideal) u16.view (Rect.unit (s := S4096x256) (k0_off7 i) S512x256.size (k0_off7_inb i)).toLoadRect X16)
      (k0_pay58 (BitVec.ofNat 32 (i 1).val) v11 v19 v21 w2 (k0_pay55 v9 (View.readAt (Elt Ideal) u16.view (Rect.unit (s := S4096x256) (k0_off7 i) S512x256.size (k0_off7_inb i)).toLoadRect X16))
      (View.readAt (Elt Ideal) u4.view (Rect.unit (s := S4096x128) (k0_off9 i) S512x128.size (k0_off9_inb i)).toLoadRect X4)) a (ix2 r x)
      = a (ix2 r x) + p.tq (p.Z (i 1).val nb) nb r x := by
  have e1 := keyD _ hq hg hqt hgt hl hdl hk hv (hw2 := hw2) (nb := nb) (hnb := hnb)
  have e2 := hZ _ hq hg hqt hgt hl hdl hk hv (hw2 := hw2) (nb := nb) (hnb := hnb)
  refine (pay3_at _ _ _ r x).trans ?_
  simp only [e2, e1]
  rfl

end
end

section
variable {s : Shape} {e : EltTy}

section
variable (v : View sig .tc .vmem S4096x256 .bf16) (f : v.ty.Contents (Elt Ideal)) (L : List (View.Piece (Elt Ideal) S4096x256 .bf16)) (q : Fin 8) (off off' : Fin 2 → ℕ) (h : off = ![512 * q.val, 0]) (h' : off' = ![512 * q.val, 128]) (inb : ∀ d, off d + S512x128.size d ≤ S4096x256.size d) (inb' : ∀ d, off' d + S512x128.size d ≤ S4096x256.size d) (w w' : Vec Ideal S512x128 .bf16) (j : Fin 8) (t : Fin 512) (x : Fin 128)
include v f L q off off' h h' inb inb' w w' j t x

/-- Stores of boxes of 512 rows and 128 columns, read in the left and in the right half. -/
theorem box_lo :
    v.read (Elt Ideal) (v.writes (Elt Ideal) f (⟨Rect.unit (s := S4096x256) off' S512x128.size inb', w'⟩ :: ⟨Rect.unit (s := S4096x256) off S512x128.size inb, w⟩ :: L)) (ix2 (key j t) (lo x))
      = if j = q then w (ix2 t x) else v.read (Elt Ideal) (v.writes (Elt Ideal) f L) (ix2 (key j t) (lo x)) := by
  have hx := x.isLt
  have ht := t.isLt
  refine (read_box v f (512 * q.val) 128 off' h' inb' w' _ (key j t) (lo x) t x False (fun h => h.elim) (fun _ => by show ¬ (_ ∧ (128 ≤ x.val ∧ _)); omega)).trans ?_
  rw [if_neg not_false]
  refine read_box v f (512 * q.val) 0 off h inb w L (key j t) (lo x) t x (j = q) (fun h => ⟨by rw [h]; rfl, by show x.val = 0 + x.val; omega⟩) (fun h => ?_)
  have h1 : j.val ≠ q.val := fun h1 => h (Fin.ext h1)
  show ¬ ((512 * q.val ≤ 512 * j.val + t.val ∧ 512 * j.val + t.val < 512 * q.val + 512) ∧ _)
  omega

theorem box_hi :
    v.read (Elt Ideal) (v.writes (Elt Ideal) f (⟨Rect.unit (s := S4096x256) off' S512x128.size inb', w'⟩ :: ⟨Rect.unit (s := S4096x256) off S512x128.size inb, w⟩ :: L)) (ix2 (key j t) (hi x))
      = if j = q then w' (ix2 t x) else v.read (Elt Ideal) (v.writes (Elt Ideal) f L) (ix2 (key j t) (hi x)) := by
  have hx := x.isLt
  have ht := t.isLt
  refine (read_box v f (512 * q.val) 128 off' h' inb' w' _ (key j t) (hi x) t x (j = q) (fun h => ⟨by rw [h]; rfl, rfl⟩) (fun h => ?_)).trans ?_
  · have h1 : j.val ≠ q.val := fun h1 => h (Fin.ext h1)
    show ¬ ((512 * q.val ≤ 512 * j.val + t.val ∧ 512 * j.val + t.val < 512 * q.val + 512) ∧ _)
    omega
  · refine if_congr Iff.rfl rfl ?_
    refine (read_box v f (512 * q.val) 0 off h inb w L (key j t) (hi x) t x False (fun h => h.elim) (fun _ => by show ¬ (_ ∧ (_ ∧ 128 + x.val < 0 + 128)); omega)).trans ?_
    rw [if_neg not_false]

end

theorem box_r (v : View sig .tc .vmem S4096x128 .f32) (f : v.ty.Contents (Elt Ideal)) (L : List (View.Piece (Elt Ideal) S4096x128 .f32)) (q : Fin 8)
    (off : Fin 2 → ℕ) (h : off = ![512 * q.val, 0])
    (inb : ∀ d, off d + S512x128.size d ≤ S4096x128.size d) (w : Vec Ideal S512x128 .f32)
    (j : Fin 8) (t : Fin 512) (x : Fin 128) :
    v.read (Elt Ideal) (v.writes (Elt Ideal) f (⟨Rect.unit (s := S4096x128) off S512x128.size inb, w⟩ :: L)) (ix2 (key j t) x)
      = if j = q then w (ix2 t x) else v.read (Elt Ideal) (v.writes (Elt Ideal) f L) (ix2 (key j t) x) := by
  have ht := t.isLt
  refine read_rows v f (512 * q.val) off h inb w L (key j t) t x (j = q) (fun h => by rw [h]; rfl) (fun h => ?_)
  have h1 : j.val ≠ q.val := fun h1 => h (Fin.ext h1)
  show ¬ (512 * q.val ≤ 512 * j.val + t.val ∧ 512 * j.val + t.val < 512 * q.val + 512)
  omega

/-- Eight chained choices, all taken from one function. -/
theorem ite8 {α : Type} (f : Fin 8 → α) (j : Fin 8) (a0 a1 a2 a3 a4 a5 a6 a7 z : α) (h0 : a0 = f 0) (h1 : a1 = f 1) (h2 : a2 = f 2) (h3 : a3 = f 3)
    (h4 : a4 = f 4) (h5 : a5 = f 5) (h6 : a6 = f 6) (h7 : a7 = f 7) :
    (if j = 7 then a7 else if j = 6 then a6 else if j = 5 then a5 else if j = 4 then a4 else if j = 3 then a3 else if j = 2 then a2 else
      if j = 1 then a1 else if j = 0 then a0 else z) = f j := by
  subst h0 h1 h2 h3 h4 h5 h6 h7
  fin_cases j <;> rfl

/-- A load of slab `q` of what a point left. -/
theorem rd_slab (v : View sig .tc .vmem S8x128x512 .f32) (f : v.ty.Contents (Elt Ideal)) (g : Fin 8 → Fin 128 → Fin 512 → EReal)
    (hg : ∀ j x s, v.read (Elt Ideal) f (ix3 j x s) = g j x s) (q : Fin 8) (off : Fin 3 → ℕ) (h : off = ![q.val, 0, 0])
    (inb : ∀ d, off d + S1x128x512.size d ≤ S8x128x512.size d) (x : Fin 128) (s : Fin 512) :
    View.readAt (Elt Ideal) v (Rect.unit (s := S8x128x512) off S1x128x512.size inb).toLoadRect f (ix3 0 x s) = g q x s :=
  (readAt_slab v f q off h inb x s).trans (hg q x s)

end

end Cert.MlaIdeal.Bwd

end
-- ==== Proof.MCaseA.lean ====
module

public import proofs.«01_k».proof.Proof.MCase

@[expose] public section

set_option maxRecDepth 16384

noncomputable section

namespace Cert.MlaIdeal.Bwd

open Idealize.ShloMosaic Cert.MlaIdeal Cert.MlaIdeal.Gen Cert.Slab
open Cert.KernelIdeal.Bwd (key sum_lt_succ)

variable (c : Dev nD) (i : grid0.Coords) (u2 : Memref sig .tc .vmem S512x256 .bf16) (z2 : u2.IsWhole) (u3 : Memref sig .tc .vmem S4096x128 .bf16) (z3 : u3.IsWhole) (u4 : Memref sig .tc .vmem S4096x128 .bf16) (z4 : u4.IsWhole) (u5 : Memref sig .tc .vmem S4096x128 .bf16) (z5 : u5.IsWhole) (u6 : Memref sig .tc .vmem S512x128 .bf16) (z6 : u6.IsWhole) (u7 : Memref sig .tc .vmem S1x512x1 .f32) (z7 : u7.IsWhole) (u8 : Memref sig .tc .vmem S1x512x1 .f32) (z8 : u8.IsWhole) (u9 : Memref sig .tc .vmem S512x256 .f32) (z9 : u9.IsWhole) (u10 : Memref sig .tc .vmem S4096x256 .bf16) (z10 : u10.IsWhole) (u11 : Memref sig .tc .vmem S4096x128 .f32) (z11 : u11.IsWhole) (u12 : Memref sig .tc .vmem S512x256 .f32) (z12 : u12.IsWhole) (u13 : Memref sig .tc .vmem S8x128x512 .f32) (z13 : u13.IsWhole) (u14 : Memref sig .tc .vmem S8x128x512 .f32) (z14 : u14.IsWhole) (u15 : Memref sig .tc .vmem S8x128x512 .f32) (z15 : u15.IsWhole) (u16 : Memref sig .tc .vmem S4096x256 .bf16) (z16 : u16.IsWhole) (hc0 : cond0_0 i) (hc1 : cond0_1 i) (hc2 : ¬cond0_2 i) (hc3 : ¬cond0_3 i) (x0 : Vec Ideal S512x256 .bf16) (x1 : Vec Ideal S4096x128 .bf16) (x2 : Vec Ideal S4096x128 .bf16) (x3 : Vec Ideal S4096x128 .bf16) (x4 : Vec Ideal S512x128 .bf16) (x5 : Vec Ideal S1x512x1 .f32) (x6 : Vec Ideal S1x512x1 .f32) (nb : Fin 8) (hnb : nb.val = (i 1).val)

theorem hyps_A :
    (∀ r x, (kernelRun0_A.sl.r (F := Ideal) c u2 z2 x0) (ix2 r x) = (ptOf x0 x2 x4 x5 x6 (kcat x1 x3)).q r x)
    ∧ (∀ r x, (kernelRun0_A.sl.r_1 (F := Ideal) c u6 z6 x4) (ix2 r x) = (ptOf x0 x2 x4 x5 x6 (kcat x1 x3)).g r x)
    ∧ (∀ x r, (kernelRun0_A.sl.r_2 (F := Ideal) c u2 z2 x0) (ix2 x r) = (ptOf x0 x2 x4 x5 x6 (kcat x1 x3)).q r x)
    ∧ (∀ x r, (kernelRun0_A.sl.r_3 (F := Ideal) c u6 z6 x4) (ix2 x r) = (ptOf x0 x2 x4 x5 x6 (kcat x1 x3)).g r x)
    ∧ (∀ r, (kernelRun0_A.sl.r_4 (F := Ideal) c u7 z7 x5) (ix2 r 0) = (ptOf x0 x2 x4 x5 x6 (kcat x1 x3)).l r)
    ∧ (∀ r, (kernelRun0_A.sl.r_5 (F := Ideal) c u8 z8 x6) (ix2 r 0) = (ptOf x0 x2 x4 x5 x6 (kcat x1 x3)).dl r)
    ∧ (∀ r x, u4.view.read (Elt Ideal) (z4.unread x2) (ix2 r x) = (ptOf x0 x2 x4 x5 x6 (kcat x1 x3)).v r x)
    ∧ (∀ r x, u16.view.read (Elt Ideal) (u16.view.writes (Elt Ideal) u16.view.junk (kernelRun0_A.sl.HS4_2 (F := Ideal) c u3 z3 u5 z5 x1 x3)) (ix2 r x) = (ptOf x0 x2 x4 x5 x6 (kcat x1 x3)).k r x) :=
  ⟨fun r x => rd_q z2 x0 r x,
   fun r x => rd_g z6 x4 r x,
   fun x r => rd_qt z2 x0 x r,
   fun x r => rd_gt z6 x4 x r,
   fun r => rd_l z7 x5 r,
   fun r => rd_dl z8 x6 r,
   fun r x => congrFun (z4.read_unread (Val := Elt Ideal) x2) _,
   fun r x => read_kcat u16.view u16.view.junk z3 z5 x1 x3 r x⟩

include hnb

set_option maxHeartbeats 2000000 in
theorem s1_A (j : Fin 8) (x : Fin 128) (s : Fin 512) :
    u13.view.read (Elt Ideal) (u13.view.writes (Elt Ideal) u13.view.junk (kernelRun0_A (F := Ideal) c i u2 z2 u3 z3 u4 z4 u5 z5 u6 z6 u7 z7 u8 z8 u9 z9 u10 z10 u11 z11 u12 z12 u13 z13 u14 z14 u15 z15 u16 z16 hc0 hc1 hc2 hc3 x0 x1 x2 x3 x4 x5 x6).2.2.2.1) (ix3 j x s)
      = 0 + (ptOf x0 x2 x4 x5 x6 (kcat x1 x3)).tk ((ptOf x0 x2 x4 x5 x6 (kcat x1 x3)).Z (i 1).val j) (lo x) s := by
  obtain ⟨hq, hg, hqt, hgt, hl, hdl, hv, hk⟩ := hyps_A c u2 z2 u3 z3 u4 z4 u5 z5 u6 z6 u7 z7 u8 z8 u16 x0 x1 x2 x3 x4 x5 x6
  unfold kernelRun0_A
  dsimp only
  refine slab_after u13.view _ _ (i 1).val nb hnb _ (by rw [hnb]; exact k0_off8_eq i) _ _ (fun j x s => 0)
    (fun j x s => (ptOf x0 x2 x4 x5 x6 (kcat x1 x3)).tk ((ptOf x0 x2 x4 x5 x6 (kcat x1 x3)).W j) (lo x) s) (fun j x s => (ptOf x0 x2 x4 x5 x6 (kcat x1 x3)).tk ((ptOf x0 x2 x4 x5 x6 (kcat x1 x3)).Z (i 1).val j) (lo x) s)
    (fun j x s => (read_nil_app _ _ _ _ _ (pb2_nil _ (trips2_eq i)).2.1 _).trans (((loop_reads_at _ hq hg hqt hgt hl hdl hk hv (n := (i 1).val) rfl (trips_eq i)).2.1 j x s).trans (congrArg₂ _ ((read_whole u13.view _ ![0, 0, 0] (by decide) _ _ [] _).trans (pay40_at j x s)) rfl)))
    (fun x s => w13 _ hq hg hqt hgt hl hdl hk hv (hw2 := word_eq i) (nb := nb) (hnb := hnb) _ x s) (fun j h x s => Pt.tk_ne _ _ j h (lo x) s) j x s

set_option maxHeartbeats 2000000 in
theorem s2_A (j : Fin 8) (x : Fin 128) (s : Fin 512) :
    u14.view.read (Elt Ideal) (u14.view.writes (Elt Ideal) u14.view.junk (kernelRun0_A (F := Ideal) c i u2 z2 u3 z3 u4 z4 u5 z5 u6 z6 u7 z7 u8 z8 u9 z9 u10 z10 u11 z11 u12 z12 u13 z13 u14 z14 u15 z15 u16 z16 hc0 hc1 hc2 hc3 x0 x1 x2 x3 x4 x5 x6).2.2.2.2.1) (ix3 j x s)
      = 0 + (ptOf x0 x2 x4 x5 x6 (kcat x1 x3)).tv ((ptOf x0 x2 x4 x5 x6 (kcat x1 x3)).M (i 1).val j) x s := by
  obtain ⟨hq, hg, hqt, hgt, hl, hdl, hv, hk⟩ := hyps_A c u2 z2 u3 z3 u4 z4 u5 z5 u6 z6 u7 z7 u8 z8 u16 x0 x1 x2 x3 x4 x5 x6
  unfold kernelRun0_A
  dsimp only
  refine slab_after u14.view _ _ (i 1).val nb hnb _ (by rw [hnb]; exact k0_off8_eq i) _ _ (fun j x s => 0)
    (fun j x s => (ptOf x0 x2 x4 x5 x6 (kcat x1 x3)).tv ((ptOf x0 x2 x4 x5 x6 (kcat x1 x3)).E j) x s) (fun j x s => (ptOf x0 x2 x4 x5 x6 (kcat x1 x3)).tv ((ptOf x0 x2 x4 x5 x6 (kcat x1 x3)).M (i 1).val j) x s)
    (fun j x s => (read_nil_app _ _ _ _ _ (pb2_nil _ (trips2_eq i)).2.2.1 _).trans (((loop_reads_at _ hq hg hqt hgt hl hdl hk hv (n := (i 1).val) rfl (trips_eq i)).2.2.1 j x s).trans (congrArg₂ _ ((read_whole u14.view _ ![0, 0, 0] (by decide) _ _ [] _).trans (pay41_at j x s)) rfl)))
    (fun x s => w14 _ hq hg hqt hgt hl hdl hk hv (hw2 := word_eq i) (nb := nb) (hnb := hnb) _ x s) (fun j h x s => Pt.tv_ne _ _ j h x s) j x s

set_option maxHeartbeats 2000000 in
theorem s3_A (j : Fin 8) (x : Fin 128) (s : Fin 512) :
    u15.view.read (Elt Ideal) (u15.view.writes (Elt Ideal) u15.view.junk (kernelRun0_A (F := Ideal) c i u2 z2 u3 z3 u4 z4 u5 z5 u6 z6 u7 z7 u8 z8 u9 z9 u10 z10 u11 z11 u12 z12 u13 z13 u14 z14 u15 z15 u16 z16 hc0 hc1 hc2 hc3 x0 x1 x2 x3 x4 x5 x6).2.2.2.2.2.1) (ix3 j x s)
      = 0 + (ptOf x0 x2 x4 x5 x6 (kcat x1 x3)).tk ((ptOf x0 x2 x4 x5 x6 (kcat x1 x3)).Z (i 1).val j) (hi x) s := by
  obtain ⟨hq, hg, hqt, hgt, hl, hdl, hv, hk⟩ := hyps_A c u2 z2 u3 z3 u4 z4 u5 z5 u6 z6 u7 z7 u8 z8 u16 x0 x1 x2 x3 x4 x5 x6
  unfold kernelRun0_A
  dsimp only
  refine slab_after u15.view _ _ (i 1).val nb hnb _ (by rw [hnb]; exact k0_off8_eq i) _ _ (fun j x s => 0)
    (fun j x s => (ptOf x0 x2 x4 x5 x6 (kcat x1 x3)).tk ((ptOf x0 x2 x4 x5 x6 (kcat x1 x3)).W j) (hi x) s) (fun j x s => (ptOf x0 x2 x4 x5 x6 (kcat x1 x3)).tk ((ptOf x0 x2 x4 x5 x6 (kcat x1 x3)).Z (i 1).val j) (hi x) s)
    (fun j x s => (read_nil_app _ _ _ _ _ (pb2_nil _ (trips2_eq i)).2.2.2 _).trans (((loop_reads_at _ hq hg hqt hgt hl hdl hk hv (n := (i 1).val) rfl (trips_eq i)).2.2.2 j x s).trans (congrArg₂ _ ((read_whole u15.view _ ![0, 0, 0] (by decide) _ _ [] _).trans (pay39_at j x s)) rfl)))
    (fun x s => w15 _ hq hg hqt hgt hl hdl hk hv (hw2 := word_eq i) (nb := nb) (hnb := hnb) _ x s) (fun j h x s => Pt.tk_ne _ _ j h (hi x) s) j x s

set_option maxHeartbeats 2000000 in
theorem o7_A (v : View sig .tc .vmem S512x256 .f32) (f : v.ty.Contents (Elt Ideal)) (r : Fin 512) (x : Fin 256) :
    v.read (Elt Ideal) (v.writes (Elt Ideal) f (kernelRun0_A (F := Ideal) c i u2 z2 u3 z3 u4 z4 u5 z5 u6 z6 u7 z7 u8 z8 u9 z9 u10 z10 u11 z11 u12 z12 u13 z13 u14 z14 u15 z15 u16 z16 hc0 hc1 hc2 hc3 x0 x1 x2 x3 x4 x5 x6).1) (ix2 r x) = ∑ j, (ptOf x0 x2 x4 x5 x6 (kcat x1 x3)).tq ((ptOf x0 x2 x4 x5 x6 (kcat x1 x3)).Z (i 1).val j) j r x := by
  obtain ⟨hq, hg, hqt, hgt, hl, hdl, hv, hk⟩ := hyps_A c u2 z2 u3 z3 u4 z4 u5 z5 u6 z6 u7 z7 u8 z8 u16 x0 x1 x2 x3 x4 x5 x6
  unfold kernelRun0_A
  dsimp only
  refine (read_whole v f ![0, 0] (by decide) _ _ [] (ix2 r x)).trans ?_
  unfold kernelRun0_A.sl.v135 View.readCov
  refine (readAt_whole u12.view _ ![0, 0] (by decide) _ (ix2 r x)).trans ?_
  unfold kernelRun0_A.sl.HS0_1_1
  refine (read_whole u12.view _ ![0, 0] (by decide) _ _ _ (ix2 r x)).trans ?_
  refine (wq _ hq hg hqt hgt hl hdl hk hv (hw2 := word_eq i) (nb := nb) (hnb := hnb) _ r x).trans ?_
  rw [← Pt.tq_total _ _ nb hnb]
  refine congrArg₂ _ ?_ rfl
  unfold kernelRun0_A.sl.v129 View.readCov
  refine (readAt_whole u12.view _ ![0, 0] (by decide) _ (ix2 r x)).trans ?_
  refine (read_nil_app _ _ _ _ _ (pb2_nil _ (trips2_eq i)).1 _).trans (((loop_reads_at _ hq hg hqt hgt hl hdl hk hv (n := (i 1).val) rfl (trips_eq i)).1 r x).trans ?_)
  unfold kernelRun0_A.sl.HS0_1
  exact (congrArg₂ _ ((read_whole u12.view _ ![0, 0] (by decide) _ _ [] (ix2 r x)).trans (pay50_at r x)) rfl).trans (zero_add _)

omit hnb in
theorem s4_A (r : Fin 4096) (x : Fin 256) :
    u16.view.read (Elt Ideal) (u16.view.writes (Elt Ideal) u16.view.junk (kernelRun0_A (F := Ideal) c i u2 z2 u3 z3 u4 z4 u5 z5 u6 z6 u7 z7 u8 z8 u9 z9 u10 z10 u11 z11 u12 z12 u13 z13 u14 z14 u15 z15 u16 z16 hc0 hc1 hc2 hc3 x0 x1 x2 x3 x4 x5 x6).2.2.2.2.2.2.1) (ix2 r x) = kcat x1 x3 (ix2 r x) := by
  unfold kernelRun0_A
  dsimp only
  unfold kernelRun0_A.sl.HS4_2
  exact read_kcat u16.view u16.view.junk z3 z5 x1 x3 r x

end Cert.MlaIdeal.Bwd

end
-- ==== Proof.MCaseB.lean ====
module

public import proofs.«01_k».proof.Proof.MCase

@[expose] public section

set_option maxRecDepth 16384

noncomputable section

namespace Cert.MlaIdeal.Bwd

open Idealize.ShloMosaic Cert.MlaIdeal Cert.MlaIdeal.Gen Cert.Slab
open Cert.KernelIdeal.Bwd (key sum_lt_succ)

variable (c : Dev nD) (i : grid0.Coords) (u2 : Memref sig .tc .vmem S512x256 .bf16) (z2 : u2.IsWhole) (u3 : Memref sig .tc .vmem S4096x128 .bf16) (z3 : u3.IsWhole) (u4 : Memref sig .tc .vmem S4096x128 .bf16) (z4 : u4.IsWhole) (u5 : Memref sig .tc .vmem S4096x128 .bf16) (z5 : u5.IsWhole) (u6 : Memref sig .tc .vmem S512x128 .bf16) (z6 : u6.IsWhole) (u7 : Memref sig .tc .vmem S1x512x1 .f32) (z7 : u7.IsWhole) (u8 : Memref sig .tc .vmem S1x512x1 .f32) (z8 : u8.IsWhole) (u9 : Memref sig .tc .vmem S512x256 .f32) (z9 : u9.IsWhole) (u10 : Memref sig .tc .vmem S4096x256 .bf16) (z10 : u10.IsWhole) (u11 : Memref sig .tc .vmem S4096x128 .f32) (z11 : u11.IsWhole) (u12 : Memref sig .tc .vmem S512x256 .f32) (z12 : u12.IsWhole) (u13 : Memref sig .tc .vmem S8x128x512 .f32) (z13 : u13.IsWhole) (u14 : Memref sig .tc .vmem S8x128x512 .f32) (z14 : u14.IsWhole) (u15 : Memref sig .tc .vmem S8x128x512 .f32) (z15 : u15.IsWhole) (u16 : Memref sig .tc .vmem S4096x256 .bf16) (z16 : u16.IsWhole) (hc0 : ¬cond0_0 i) (hc1 : ¬cond0_1 i) (hc2 : ¬cond0_2 i) (hc3 : ¬cond0_3 i) (x0 : Vec Ideal S512x256 .bf16) (x1 : Vec Ideal S4096x128 .bf16) (x2 : Vec Ideal S4096x128 .bf16) (x3 : Vec Ideal S4096x128 .bf16) (x4 : Vec Ideal S512x128 .bf16) (x5 : Vec Ideal S1x512x1 .f32) (x6 : Vec Ideal S1x512x1 .f32) (xs1 : Vec Ideal S8x128x512 .f32) (xs2 : Vec Ideal S8x128x512 .f32) (xs3 : Vec Ideal S8x128x512 .f32) (xs4 : Vec Ideal S4096x256 .bf16) (nb : Fin 8) (hnb : nb.val = (i 1).val)

theorem hyps_B :
    (∀ r x, (kernelRun0_B.sl.r (F := Ideal) c u2 z2 x0) (ix2 r x) = (ptOf x0 x2 x4 x5 x6 xs4).q r x)
    ∧ (∀ r x, (kernelRun0_B.sl.r_1 (F := Ideal) c u6 z6 x4) (ix2 r x) = (ptOf x0 x2 x4 x5 x6 xs4).g r x)
    ∧ (∀ x r, (kernelRun0_B.sl.r_2 (F := Ideal) c u2 z2 x0) (ix2 x r) = (ptOf x0 x2 x4 x5 x6 xs4).q r x)
    ∧ (∀ x r, (kernelRun0_B.sl.r_3 (F := Ideal) c u6 z6 x4) (ix2 x r) = (ptOf x0 x2 x4 x5 x6 xs4).g r x)
    ∧ (∀ r, (kernelRun0_B.sl.r_4 (F := Ideal) c u7 z7 x5) (ix2 r 0) = (ptOf x0 x2 x4 x5 x6 xs4).l r)
    ∧ (∀ r, (kernelRun0_B.sl.r_5 (F := Ideal) c u8 z8 x6) (ix2 r 0) = (ptOf x0 x2 x4 x5 x6 xs4).dl r)
    ∧ (∀ r x, u4.view.read (Elt Ideal) (z4.unread x2) (ix2 r x) = (ptOf x0 x2 x4 x5 x6 xs4).v r x)
    ∧ (∀ r x, u16.view.read (Elt Ideal) (z16.unread xs4) (ix2 r x) = (ptOf x0 x2 x4 x5 x6 xs4).k r x) :=
  ⟨fun r x => rd_q z2 x0 r x,
   fun r x => rd_g z6 x4 r x,
   fun x r => rd_qt z2 x0 x r,
   fun x r => rd_gt z6 x4 x r,
   fun r => rd_l z7 x5 r,
   fun r => rd_dl z8 x6 r,
   fun r x => congrFun (z4.read_unread (Val := Elt Ideal) x2) _,
   fun r x => congrFun (z16.read_unread (Val := Elt Ideal) xs4) _⟩

include hnb

set_option maxHeartbeats 2000000 in
theorem s1_B (j : Fin 8) (x : Fin 128) (s : Fin 512) :
    u13.view.read (Elt Ideal) (u13.view.writes (Elt Ideal) (z13.unread xs1) (kernelRun0_B (F := Ideal) c i u2 z2 u3 z3 u4 z4 u5 z5 u6 z6 u7 z7 u8 z8 u9 z9 u10 z10 u11 z11 u12 z12 u13 z13 u14 z14 u15 z15 u16 z16 hc0 hc1 hc2 hc3 x0 x1 x2 x3 x4 x5 x6 xs1 xs2 xs3 xs4).2.2.2.1) (ix3 j x s)
      = xs1 (ix3 j x s) + (ptOf x0 x2 x4 x5 x6 xs4).tk ((ptOf x0 x2 x4 x5 x6 xs4).Z (i 1).val j) (lo x) s := by
  obtain ⟨hq, hg, hqt, hgt, hl, hdl, hv, hk⟩ := hyps_B c u2 z2 u4 z4 u6 z6 u7 z7 u8 z8 u16 z16 x0 x2 x4 x5 x6 xs4
  unfold kernelRun0_B
  dsimp only
  refine slab_after u13.view _ _ (i 1).val nb hnb _ (by rw [hnb]; exact k0_off8_eq i) _ _ (fun j x s => xs1 (ix3 j x s))
    (fun j x s => (ptOf x0 x2 x4 x5 x6 xs4).tk ((ptOf x0 x2 x4 x5 x6 xs4).W j) (lo x) s) (fun j x s => (ptOf x0 x2 x4 x5 x6 xs4).tk ((ptOf x0 x2 x4 x5 x6 xs4).Z (i 1).val j) (lo x) s)
    (fun j x s => (read_nil_app' _ _ _ _ (pb2_nil _ (trips2_eq i)).2.1 _).trans (((loop_reads_at _ hq hg hqt hgt hl hdl hk hv (n := (i 1).val) rfl (trips_eq i)).2.1 j x s).trans (congrArg₂ _ (congrFun (z13.read_unread (Val := Elt Ideal) xs1) _) rfl)))
    (fun x s => w13 _ hq hg hqt hgt hl hdl hk hv (hw2 := word_eq i) (nb := nb) (hnb := hnb) _ x s) (fun j h x s => Pt.tk_ne _ _ j h (lo x) s) j x s

set_option maxHeartbeats 2000000 in
theorem s2_B (j : Fin 8) (x : Fin 128) (s : Fin 512) :
    u14.view.read (Elt Ideal) (u14.view.writes (Elt Ideal) (z14.unread xs2) (kernelRun0_B (F := Ideal) c i u2 z2 u3 z3 u4 z4 u5 z5 u6 z6 u7 z7 u8 z8 u9 z9 u10 z10 u11 z11 u12 z12 u13 z13 u14 z14 u15 z15 u16 z16 hc0 hc1 hc2 hc3 x0 x1 x2 x3 x4 x5 x6 xs1 xs2 xs3 xs4).2.2.2.2.1) (ix3 j x s)
      = xs2 (ix3 j x s) + (ptOf x0 x2 x4 x5 x6 xs4).tv ((ptOf x0 x2 x4 x5 x6 xs4).M (i 1).val j) x s := by
  obtain ⟨hq, hg, hqt, hgt, hl, hdl, hv, hk⟩ := hyps_B c u2 z2 u4 z4 u6 z6 u7 z7 u8 z8 u16 z16 x0 x2 x4 x5 x6 xs4
  unfold kernelRun0_B
  dsimp only
  refine slab_after u14.view _ _ (i 1).val nb hnb _ (by rw [hnb]; exact k0_off8_eq i) _ _ (fun j x s => xs2 (ix3 j x s))
    (fun j x s => (ptOf x0 x2 x4 x5 x6 xs4).tv ((ptOf x0 x2 x4 x5 x6 xs4).E j) x s) (fun j x s => (ptOf x0 x2 x4 x5 x6 xs4).tv ((ptOf x0 x2 x4 x5 x6 xs4).M (i 1).val j) x s)
    (fun j x s => (read_nil_app' _ _ _ _ (pb2_nil _ (trips2_eq i)).2.2.1 _).trans (((loop_reads_at _ hq hg hqt hgt hl hdl hk hv (n := (i 1).val) rfl (trips_eq i)).2.2.1 j x s).trans (congrArg₂ _ (congrFun (z14.read_unread (Val := Elt Ideal) xs2) _) rfl)))
    (fun x s => w14 _ hq hg hqt hgt hl hdl hk hv (hw2 := word_eq i) (nb := nb) (hnb := hnb) _ x s) (fun j h x s => Pt.tv_ne _ _ j h x s) j x s

set_option maxHeartbeats 2000000 in
theorem s3_B (j : Fin 8) (x : Fin 128) (s : Fin 512) :
    u15.view.read (Elt Ideal) (u15.view.writes (Elt Ideal) (z15.unread xs3) (kernelRun0_B (F := Ideal) c i u2 z2 u3 z3 u4 z4 u5 z5 u6 z6 u7 z7 u8 z8 u9 z9 u10 z10 u11 z11 u12 z12 u13 z13 u14 z14 u15 z15 u16 z16 hc0 hc1 hc2 hc3 x0 x1 x2 x3 x4 x5 x6 xs1 xs2 xs3 xs4).2.2.2.2.2.1) (ix3 j x s)
      = xs3 (ix3 j x s) + (ptOf x0 x2 x4 x5 x6 xs4).tk ((ptOf x0 x2 x4 x5 x6 xs4).Z (i 1).val j) (hi x) s := by
  obtain ⟨hq, hg, hqt, hgt, hl, hdl, hv, hk⟩ := hyps_B c u2 z2 u4 z4 u6 z6 u7 z7 u8 z8 u16 z16 x0 x2 x4 x5 x6 xs4
  unfold kernelRun0_B
  dsimp only
  refine slab_after u15.view _ _ (i 1).val nb hnb _ (by rw [hnb]; exact k0_off8_eq i) _ _ (fun j x s => xs3 (ix3 j x s))
    (fun j x s => (ptOf x0 x2 x4 x5 x6 xs4).tk ((ptOf x0 x2 x4 x5 x6 xs4).W j) (hi x) s) (fun j x s => (ptOf x0 x2 x4 x5 x6 xs4).tk ((ptOf x0 x2 x4 x5 x6 xs4).Z (i 1).val j) (hi x) s)
    (fun j x s => (read_nil_app' _ _ _ _ (pb2_nil _ (trips2_eq i)).2.2.2 _).trans (((loop_reads_at _ hq hg hqt hgt hl hdl hk hv (n := (i 1).val) rfl (trips_eq i)).2.2.2 j x s).trans (congrArg₂ _ (congrFun (z15.read_unread (Val := Elt Ideal) xs3) _) rfl)))
    (fun x s => w15 _ hq hg hqt hgt hl hdl hk hv (hw2 := word_eq i) (nb := nb) (hnb := hnb) _ x s) (fun j h x s => Pt.tk_ne _ _ j h (hi x) s) j x s

set_option maxHeartbeats 2000000 in
theorem o7_B (v : View sig .tc .vmem S512x256 .f32) (f : v.ty.Contents (Elt Ideal)) (r : Fin 512) (x : Fin 256) :
    v.read (Elt Ideal) (v.writes (Elt Ideal) f (kernelRun0_B (F := Ideal) c i u2 z2 u3 z3 u4 z4 u5 z5 u6 z6 u7 z7 u8 z8 u9 z9 u10 z10 u11 z11 u12 z12 u13 z13 u14 z14 u15 z15 u16 z16 hc0 hc1 hc2 hc3 x0 x1 x2 x3 x4 x5 x6 xs1 xs2 xs3 xs4).1) (ix2 r x) = ∑ j, (ptOf x0 x2 x4 x5 x6 xs4).tq ((ptOf x0 x2 x4 x5 x6 xs4).Z (i 1).val j) j r x := by
  obtain ⟨hq, hg, hqt, hgt, hl, hdl, hv, hk⟩ := hyps_B c u2 z2 u4 z4 u6 z6 u7 z7 u8 z8 u16 z16 x0 x2 x4 x5 x6 xs4
  unfold kernelRun0_B
  dsimp only
  refine (read_whole v f ![0, 0] (by decide) _ _ [] (ix2 r x)).trans ?_
  unfold kernelRun0_B.sl.v135 View.readCov
  refine (readAt_whole u12.view _ ![0, 0] (by decide) _ (ix2 r x)).trans ?_
  unfold kernelRun0_B.sl.HS0_1_1
  refine (read_whole u12.view _ ![0, 0] (by decide) _ _ _ (ix2 r x)).trans ?_
  refine (wq _ hq hg hqt hgt hl hdl hk hv (hw2 := word_eq i) (nb := nb) (hnb := hnb) _ r x).trans ?_
  rw [← Pt.tq_total _ _ nb hnb]
  refine congrArg₂ _ ?_ rfl
  unfold kernelRun0_B.sl.v129 View.readCov
  refine (readAt_whole u12.view _ ![0, 0] (by decide) _ (ix2 r x)).trans ?_
  refine (read_nil_app _ _ _ _ _ (pb2_nil _ (trips2_eq i)).1 _).trans (((loop_reads_at _ hq hg hqt hgt hl hdl hk hv (n := (i 1).val) rfl (trips_eq i)).1 r x).trans ?_)
  unfold kernelRun0_B.sl.HS0_1
  exact (congrArg₂ _ ((read_whole u12.view _ ![0, 0] (by decide) _ _ [] (ix2 r x)).trans (pay50_at r x)) rfl).trans (zero_add _)

end Cert.MlaIdeal.Bwd

end
-- ==== Proof.MCaseC.lean ====
module

public import proofs.«01_k».proof.Proof.MCase

@[expose] public section

set_option maxRecDepth 16384

noncomputable section

namespace Cert.MlaIdeal.Bwd

open Idealize.ShloMosaic Cert.MlaIdeal Cert.MlaIdeal.Gen Cert.Slab
open Cert.KernelIdeal.Bwd (key sum_lt_succ)

variable (c : Dev nD) (i : grid0.Coords) (u2 : Memref sig .tc .vmem S512x256 .bf16) (z2 : u2.IsWhole) (u3 : Memref sig .tc .vmem S4096x128 .bf16) (z3 : u3.IsWhole) (u4 : Memref sig .tc .vmem S4096x128 .bf16) (z4 : u4.IsWhole) (u5 : Memref sig .tc .vmem S4096x128 .bf16) (z5 : u5.IsWhole) (u6 : Memref sig .tc .vmem S512x128 .bf16) (z6 : u6.IsWhole) (u7 : Memref sig .tc .vmem S1x512x1 .f32) (z7 : u7.IsWhole) (u8 : Memref sig .tc .vmem S1x512x1 .f32) (z8 : u8.IsWhole) (u9 : Memref sig .tc .vmem S512x256 .f32) (z9 : u9.IsWhole) (u10 : Memref sig .tc .vmem S4096x256 .bf16) (z10 : u10.IsWhole) (u11 : Memref sig .tc .vmem S4096x128 .f32) (z11 : u11.IsWhole) (u12 : Memref sig .tc .vmem S512x256 .f32) (z12 : u12.IsWhole) (u13 : Memref sig .tc .vmem S8x128x512 .f32) (z13 : u13.IsWhole) (u14 : Memref sig .tc .vmem S8x128x512 .f32) (z14 : u14.IsWhole) (u15 : Memref sig .tc .vmem S8x128x512 .f32) (z15 : u15.IsWhole) (u16 : Memref sig .tc .vmem S4096x256 .bf16) (z16 : u16.IsWhole) (hc0 : ¬cond0_0 i) (hc1 : ¬cond0_1 i) (hc2 : cond0_2 i) (hc3 : ¬cond0_3 i) (x0 : Vec Ideal S512x256 .bf16) (x1 : Vec Ideal S4096x128 .bf16) (x2 : Vec Ideal S4096x128 .bf16) (x3 : Vec Ideal S4096x128 .bf16) (x4 : Vec Ideal S512x128 .bf16) (x5 : Vec Ideal S1x512x1 .f32) (x6 : Vec Ideal S1x512x1 .f32) (xs1 : Vec Ideal S8x128x512 .f32) (xs2 : Vec Ideal S8x128x512 .f32) (xs3 : Vec Ideal S8x128x512 .f32) (xs4 : Vec Ideal S4096x256 .bf16) (nb : Fin 8) (hnb : nb.val = (i 1).val)

theorem hyps_C :
    (∀ r x, (kernelRun0_C.sl.r (F := Ideal) c u2 z2 x0) (ix2 r x) = (ptOf x0 x2 x4 x5 x6 xs4).q r x)
    ∧ (∀ r x, (kernelRun0_C.sl.r_1 (F := Ideal) c u6 z6 x4) (ix2 r x) = (ptOf x0 x2 x4 x5 x6 xs4).g r x)
    ∧ (∀ x r, (kernelRun0_C.sl.r_2 (F := Ideal) c u2 z2 x0) (ix2 x r) = (ptOf x0 x2 x4 x5 x6 xs4).q r x)
    ∧ (∀ x r, (kernelRun0_C.sl.r_3 (F := Ideal) c u6 z6 x4) (ix2 x r) = (ptOf x0 x2 x4 x5 x6 xs4).g r x)
    ∧ (∀ r, (kernelRun0_C.sl.r_4 (F := Ideal) c u7 z7 x5) (ix2 r 0) = (ptOf x0 x2 x4 x5 x6 xs4).l r)
    ∧ (∀ r, (kernelRun0_C.sl.r_5 (F := Ideal) c u8 z8 x6) (ix2 r 0) = (ptOf x0 x2 x4 x5 x6 xs4).dl r)
    ∧ (∀ r x, u4.view.read (Elt Ideal) (z4.unread x2) (ix2 r x) = (ptOf x0 x2 x4 x5 x6 xs4).v r x)
    ∧ (∀ r x, u16.view.read (Elt Ideal) (z16.unread xs4) (ix2 r x) = (ptOf x0 x2 x4 x5 x6 xs4).k r x) :=
  ⟨fun r x => rd_q z2 x0 r x,
   fun r x => rd_g z6 x4 r x,
   fun x r => rd_qt z2 x0 x r,
   fun x r => rd_gt z6 x4 x r,
   fun r => rd_l z7 x5 r,
   fun r => rd_dl z8 x6 r,
   fun r x => congrFun (z4.read_unread (Val := Elt Ideal) x2) _,
   fun r x => congrFun (z16.read_unread (Val := Elt Ideal) xs4) _⟩

include hnb

set_option maxHeartbeats 2000000 in
theorem s1_C (j : Fin 8) (x : Fin 128) (s : Fin 512) :
    u13.view.read (Elt Ideal) (u13.view.writes (Elt Ideal) (z13.unread xs1) (kernelRun0_C (F := Ideal) c i u2 z2 u3 z3 u4 z4 u5 z5 u6 z6 u7 z7 u8 z8 u9 z9 u10 z10 u11 z11 u12 z12 u13 z13 u14 z14 u15 z15 u16 z16 hc0 hc1 hc2 hc3 x0 x1 x2 x3 x4 x5 x6 xs1 xs2 xs3 xs4).2.2.2.1) (ix3 j x s)
      = xs1 (ix3 j x s) + (ptOf x0 x2 x4 x5 x6 xs4).tk ((ptOf x0 x2 x4 x5 x6 xs4).Z (i 1).val j) (lo x) s := by
  obtain ⟨hq, hg, hqt, hgt, hl, hdl, hv, hk⟩ := hyps_C c u2 z2 u4 z4 u6 z6 u7 z7 u8 z8 u16 z16 x0 x2 x4 x5 x6 xs4
  unfold kernelRun0_C
  dsimp only
  unfold kernelRun0_C.sl.HS1_1
  refine slab_after u13.view _ _ (i 1).val nb hnb _ (by rw [hnb]; exact k0_off8_eq i) _ _ (fun j x s => xs1 (ix3 j x s))
    (fun j x s => (ptOf x0 x2 x4 x5 x6 xs4).tk ((ptOf x0 x2 x4 x5 x6 xs4).W j) (lo x) s) (fun j x s => (ptOf x0 x2 x4 x5 x6 xs4).tk ((ptOf x0 x2 x4 x5 x6 xs4).Z (i 1).val j) (lo x) s)
    (fun j x s => (read_nil_app' _ _ _ _ (pb2_nil _ (trips2_eq i)).2.1 _).trans (((loop_reads_at _ hq hg hqt hgt hl hdl hk hv (n := (i 1).val) rfl (trips_eq i)).2.1 j x s).trans (congrArg₂ _ (congrFun (z13.read_unread (Val := Elt Ideal) xs1) _) rfl)))
    (fun x s => w13 _ hq hg hqt hgt hl hdl hk hv (hw2 := word_eq i) (nb := nb) (hnb := hnb) _ x s) (fun j h x s => Pt.tk_ne _ _ j h (lo x) s) j x s

set_option maxHeartbeats 2000000 in
theorem s2_C (j : Fin 8) (x : Fin 128) (s : Fin 512) :
    u14.view.read (Elt Ideal) (u14.view.writes (Elt Ideal) (z14.unread xs2) (kernelRun0_C (F := Ideal) c i u2 z2 u3 z3 u4 z4 u5 z5 u6 z6 u7 z7 u8 z8 u9 z9 u10 z10 u11 z11 u12 z12 u13 z13 u14 z14 u15 z15 u16 z16 hc0 hc1 hc2 hc3 x0 x1 x2 x3 x4 x5 x6 xs1 xs2 xs3 xs4).2.2.2.2.1) (ix3 j x s)
      = xs2 (ix3 j x s) + (ptOf x0 x2 x4 x5 x6 xs4).tv ((ptOf x0 x2 x4 x5 x6 xs4).M (i 1).val j) x s := by
  obtain ⟨hq, hg, hqt, hgt, hl, hdl, hv, hk⟩ := hyps_C c u2 z2 u4 z4 u6 z6 u7 z7 u8 z8 u16 z16 x0 x2 x4 x5 x6 xs4
  unfold kernelRun0_C
  dsimp only
  unfold kernelRun0_C.sl.HS2_1
  refine slab_after u14.view _ _ (i 1).val nb hnb _ (by rw [hnb]; exact k0_off8_eq i) _ _ (fun j x s => xs2 (ix3 j x s))
    (fun j x s => (ptOf x0 x2 x4 x5 x6 xs4).tv ((ptOf x0 x2 x4 x5 x6 xs4).E j) x s) (fun j x s => (ptOf x0 x2 x4 x5 x6 xs4).tv ((ptOf x0 x2 x4 x5 x6 xs4).M (i 1).val j) x s)
    (fun j x s => (read_nil_app' _ _ _ _ (pb2_nil _ (trips2_eq i)).2.2.1 _).trans (((loop_reads_at _ hq hg hqt hgt hl hdl hk hv (n := (i 1).val) rfl (trips_eq i)).2.2.1 j x s).trans (congrArg₂ _ (congrFun (z14.read_unread (Val := Elt Ideal) xs2) _) rfl)))
    (fun x s => w14 _ hq hg hqt hgt hl hdl hk hv (hw2 := word_eq i) (nb := nb) (hnb := hnb) _ x s) (fun j h x s => Pt.tv_ne _ _ j h x s) j x s

set_option maxHeartbeats 2000000 in
theorem s3_C (j : Fin 8) (x : Fin 128) (s : Fin 512) :
    u15.view.read (Elt Ideal) (u15.view.writes (Elt Ideal) (z15.unread xs3) (kernelRun0_C (F := Ideal) c i u2 z2 u3 z3 u4 z4 u5 z5 u6 z6 u7 z7 u8 z8 u9 z9 u10 z10 u11 z11 u12 z12 u13 z13 u14 z14 u15 z15 u16 z16 hc0 hc1 hc2 hc3 x0 x1 x2 x3 x4 x5 x6 xs1 xs2 xs3 xs4).2.2.2.2.2.1) (ix3 j x s)
      = xs3 (ix3 j x s) + (ptOf x0 x2 x4 x5 x6 xs4).tk ((ptOf x0 x2 x4 x5 x6 xs4).Z (i 1).val j) (hi x) s := by
  obtain ⟨hq, hg, hqt, hgt, hl, hdl, hv, hk⟩ := hyps_C c u2 z2 u4 z4 u6 z6 u7 z7 u8 z8 u16 z16 x0 x2 x4 x5 x6 xs4
  unfold kernelRun0_C
  dsimp only
  refine slab_after u15.view _ _ (i 1).val nb hnb _ (by rw [hnb]; exact k0_off8_eq i) _ _ (fun j x s => xs3 (ix3 j x s))
    (fun j x s => (ptOf x0 x2 x4 x5 x6 xs4).tk ((ptOf x0 x2 x4 x5 x6 xs4).W j) (hi x) s) (fun j x s => (ptOf x0 x2 x4 x5 x6 xs4).tk ((ptOf x0 x2 x4 x5 x6 xs4).Z (i 1).val j) (hi x) s)
    (fun j x s => (read_nil_app' _ _ _ _ (pb2_nil _ (trips2_eq i)).2.2.2 _).trans (((loop_reads_at _ hq hg hqt hgt hl hdl hk hv (n := (i 1).val) rfl (trips_eq i)).2.2.2 j x s).trans (congrArg₂ _ (congrFun (z15.read_unread (Val := Elt Ideal) xs3) _) rfl)))
    (fun x s => w15 _ hq hg hqt hgt hl hdl hk hv (hw2 := word_eq i) (nb := nb) (hnb := hnb) _ x s) (fun j h x s => Pt.tk_ne _ _ j h (hi x) s) j x s

set_option maxHeartbeats 2000000 in
theorem o7_C (v : View sig .tc .vmem S512x256 .f32) (f : v.ty.Contents (Elt Ideal)) (r : Fin 512) (x : Fin 256) :
    v.read (Elt Ideal) (v.writes (Elt Ideal) f (kernelRun0_C (F := Ideal) c i u2 z2 u3 z3 u4 z4 u5 z5 u6 z6 u7 z7 u8 z8 u9 z9 u10 z10 u11 z11 u12 z12 u13 z13 u14 z14 u15 z15 u16 z16 hc0 hc1 hc2 hc3 x0 x1 x2 x3 x4 x5 x6 xs1 xs2 xs3 xs4).1) (ix2 r x) = ∑ j, (ptOf x0 x2 x4 x5 x6 xs4).tq ((ptOf x0 x2 x4 x5 x6 xs4).Z (i 1).val j) j r x := by
  obtain ⟨hq, hg, hqt, hgt, hl, hdl, hv, hk⟩ := hyps_C c u2 z2 u4 z4 u6 z6 u7 z7 u8 z8 u16 z16 x0 x2 x4 x5 x6 xs4
  unfold kernelRun0_C
  dsimp only
  refine (read_whole v f ![0, 0] (by decide) _ _ [] (ix2 r x)).trans ?_
  unfold kernelRun0_C.sl.v135 View.readCov
  refine (readAt_whole u12.view _ ![0, 0] (by decide) _ (ix2 r x)).trans ?_
  unfold kernelRun0_C.sl.HS0_1_1
  refine (read_whole u12.view _ ![0, 0] (by decide) _ _ _ (ix2 r x)).trans ?_
  refine (wq _ hq hg hqt hgt hl hdl hk hv (hw2 := word_eq i) (nb := nb) (hnb := hnb) _ r x).trans ?_
  rw [← Pt.tq_total _ _ nb hnb]
  refine congrArg₂ _ ?_ rfl
  unfold kernelRun0_C.sl.v129 View.readCov
  refine (readAt_whole u12.view _ ![0, 0] (by decide) _ (ix2 r x)).trans ?_
  refine (read_nil_app _ _ _ _ _ (pb2_nil _ (trips2_eq i)).1 _).trans (((loop_reads_at _ hq hg hqt hgt hl hdl hk hv (n := (i 1).val) rfl (trips_eq i)).1 r x).trans ?_)
  unfold kernelRun0_C.sl.HS0_1
  exact (congrArg₂ _ ((read_whole u12.view _ ![0, 0] (by decide) _ _ [] (ix2 r x)).trans (pay50_at r x)) rfl).trans (zero_add _)

set_option maxHeartbeats 2000000 in
theorem o8lo_C (v : View sig .tc .vmem S4096x256 .bf16) (f : v.ty.Contents (Elt Ideal)) (j : Fin 8) (s : Fin 512) (x : Fin 128) :
    v.read (Elt Ideal) (v.writes (Elt Ideal) f (kernelRun0_C (F := Ideal) c i u2 z2 u3 z3 u4 z4 u5 z5 u6 z6 u7 z7 u8 z8 u9 z9 u10 z10 u11 z11 u12 z12 u13 z13 u14 z14 u15 z15 u16 z16 hc0 hc1 hc2 hc3 x0 x1 x2 x3 x4 x5 x6 xs1 xs2 xs3 xs4).2.1) (ix2 (key j s) (lo x)) = xs1 (ix3 j x s) + (ptOf x0 x2 x4 x5 x6 xs4).tk ((ptOf x0 x2 x4 x5 x6 xs4).Z (i 1).val j) (lo x) s := by
  have hg := rd_slab u13.view _ _ (s1_C c i u2 z2 u3 z3 u4 z4 u5 z5 u6 z6 u7 z7 u8 z8 u9 z9 u10 z10 u11 z11 u12 z12 u13 z13 u14 z14 u15 z15 u16 z16 hc0 hc1 hc2 hc3 x0 x1 x2 x3 x4 x5 x6 xs1 xs2 xs3 xs4 nb hnb)
  unfold kernelRun0_C at hg ⊢
  dsimp only at hg ⊢
  refine Eq.trans ?_ (ite8 (fun j => xs1 (ix3 j x s) + (ptOf x0 x2 x4 x5 x6 xs4).tk ((ptOf x0 x2 x4 x5 x6 xs4).Z (i 1).val j) (lo x) s) j _ _ _ _ _ _ _ _ (v.read (Elt Ideal) (v.writes (Elt Ideal) f []) (ix2 (key j s) (lo x)))
    ((pay21_at _ s x).trans (hg 0 _ rfl inb_S8x128x512_S1x128x512_0_0_0 x s))
    ((pay23_at _ s x).trans (hg 1 _ rfl inb_S8x128x512_S1x128x512_1_0_0 x s))
    ((pay25_at _ s x).trans (hg 2 _ rfl inb_S8x128x512_S1x128x512_2_0_0 x s))
    ((pay28_at _ s x).trans (hg 3 _ rfl inb_S8x128x512_S1x128x512_3_0_0 x s))
    ((pay30_at _ s x).trans (hg 4 _ rfl inb_S8x128x512_S1x128x512_4_0_0 x s))
    ((pay32_at _ s x).trans (hg 5 _ rfl inb_S8x128x512_S1x128x512_5_0_0 x s))
    ((pay5_at _ s x).trans (hg 6 _ rfl inb_S8x128x512_S1x128x512_6_0_0 x s))
    ((pay7_at _ s x).trans (hg 7 _ rfl inb_S8x128x512_S1x128x512_7_0_0 x s)))
  refine (box_lo v f _ 7 _ _ rfl rfl _ _ _ _ j s x).trans (if_congr Iff.rfl rfl ?_)
  refine (box_lo v f _ 6 _ _ rfl rfl _ _ _ _ j s x).trans (if_congr Iff.rfl rfl ?_)
  refine (box_lo v f _ 5 _ _ rfl rfl _ _ _ _ j s x).trans (if_congr Iff.rfl rfl ?_)
  refine (box_lo v f _ 4 _ _ rfl rfl _ _ _ _ j s x).trans (if_congr Iff.rfl rfl ?_)
  refine (box_lo v f _ 3 _ _ rfl rfl _ _ _ _ j s x).trans (if_congr Iff.rfl rfl ?_)
  refine (box_lo v f _ 2 _ _ rfl rfl _ _ _ _ j s x).trans (if_congr Iff.rfl rfl ?_)
  refine (box_lo v f _ 1 _ _ rfl rfl _ _ _ _ j s x).trans (if_congr Iff.rfl rfl ?_)
  exact box_lo v f _ 0 _ _ rfl rfl _ _ _ _ j s x

set_option maxHeartbeats 2000000 in
theorem o8hi_C (v : View sig .tc .vmem S4096x256 .bf16) (f : v.ty.Contents (Elt Ideal)) (j : Fin 8) (s : Fin 512) (x : Fin 128) :
    v.read (Elt Ideal) (v.writes (Elt Ideal) f (kernelRun0_C (F := Ideal) c i u2 z2 u3 z3 u4 z4 u5 z5 u6 z6 u7 z7 u8 z8 u9 z9 u10 z10 u11 z11 u12 z12 u13 z13 u14 z14 u15 z15 u16 z16 hc0 hc1 hc2 hc3 x0 x1 x2 x3 x4 x5 x6 xs1 xs2 xs3 xs4).2.1) (ix2 (key j s) (hi x)) = xs2 (ix3 j x s) + (ptOf x0 x2 x4 x5 x6 xs4).tv ((ptOf x0 x2 x4 x5 x6 xs4).M (i 1).val j) x s := by
  have hg := rd_slab u14.view _ _ (s2_C c i u2 z2 u3 z3 u4 z4 u5 z5 u6 z6 u7 z7 u8 z8 u9 z9 u10 z10 u11 z11 u12 z12 u13 z13 u14 z14 u15 z15 u16 z16 hc0 hc1 hc2 hc3 x0 x1 x2 x3 x4 x5 x6 xs1 xs2 xs3 xs4 nb hnb)
  unfold kernelRun0_C at hg ⊢
  dsimp only at hg ⊢
  refine Eq.trans ?_ (ite8 (fun j => xs2 (ix3 j x s) + (ptOf x0 x2 x4 x5 x6 xs4).tv ((ptOf x0 x2 x4 x5 x6 xs4).M (i 1).val j) x s) j _ _ _ _ _ _ _ _ (v.read (Elt Ideal) (v.writes (Elt Ideal) f []) (ix2 (key j s) (hi x)))
    ((pay22_at _ s x).trans (hg 0 _ rfl inb_S8x128x512_S1x128x512_0_0_0 x s))
    ((pay24_at _ s x).trans (hg 1 _ rfl inb_S8x128x512_S1x128x512_1_0_0 x s))
    ((pay27_at (kernelRun0_C.sl.v170 (F := Ideal) c i u2 z2 u3 z3 u4 z4 u5 z5 u6 z6 u7 z7 u8 z8 u9 z9 u10 z10 u11 z11 u12 z12 u13 z13 u14 z14 u15 z15 u16 z16 x0 x2 x4 x5 x6 xs1 xs2 xs3 xs4) s x).trans (hg 2 _ rfl inb_S8x128x512_S1x128x512_2_0_0 x s))
    ((pay29_at _ s x).trans (hg 3 _ rfl inb_S8x128x512_S1x128x512_3_0_0 x s))
    ((pay31_at _ s x).trans (hg 4 _ rfl inb_S8x128x512_S1x128x512_4_0_0 x s))
    ((pay4_at _ s x).trans (hg 5 _ rfl inb_S8x128x512_S1x128x512_5_0_0 x s))
    ((pay6_at _ s x).trans (hg 6 _ rfl inb_S8x128x512_S1x128x512_6_0_0 x s))
    ((pay8_at _ s x).trans (hg 7 _ rfl inb_S8x128x512_S1x128x512_7_0_0 x s)))
  refine (box_hi v f _ 7 _ _ rfl rfl _ _ _ _ j s x).trans (if_congr Iff.rfl rfl ?_)
  refine (box_hi v f _ 6 _ _ rfl rfl _ _ _ _ j s x).trans (if_congr Iff.rfl rfl ?_)
  refine (box_hi v f _ 5 _ _ rfl rfl _ _ _ _ j s x).trans (if_congr Iff.rfl rfl ?_)
  refine (box_hi v f _ 4 _ _ rfl rfl _ _ _ _ j s x).trans (if_congr Iff.rfl rfl ?_)
  refine (box_hi v f _ 3 _ _ rfl rfl _ _ _ _ j s x).trans (if_congr Iff.rfl rfl ?_)
  refine (box_hi v f _ 2 _ _ rfl rfl _ _ _ _ j s x).trans (if_congr Iff.rfl rfl ?_)
  refine (box_hi v f _ 1 _ _ rfl rfl _ _ _ _ j s x).trans (if_congr Iff.rfl rfl ?_)
  exact box_hi v f _ 0 _ _ rfl rfl _ _ _ _ j s x

end Cert.MlaIdeal.Bwd

end
-- ==== Proof.MCaseD.lean ====
module

public import proofs.«01_k».proof.Proof.MCase

@[expose] public section

set_option maxRecDepth 16384

noncomputable section

namespace Cert.MlaIdeal.Bwd

open Idealize.ShloMosaic Cert.MlaIdeal Cert.MlaIdeal.Gen Cert.Slab
open Cert.KernelIdeal.Bwd (key sum_lt_succ)

variable (c : Dev nD) (i : grid0.Coords) (u2 : Memref sig .tc .vmem S512x256 .bf16) (z2 : u2.IsWhole) (u3 : Memref sig .tc .vmem S4096x128 .bf16) (z3 : u3.IsWhole) (u4 : Memref sig .tc .vmem S4096x128 .bf16) (z4 : u4.IsWhole) (u5 : Memref sig .tc .vmem S4096x128 .bf16) (z5 : u5.IsWhole) (u6 : Memref sig .tc .vmem S512x128 .bf16) (z6 : u6.IsWhole) (u7 : Memref sig .tc .vmem S1x512x1 .f32) (z7 : u7.IsWhole) (u8 : Memref sig .tc .vmem S1x512x1 .f32) (z8 : u8.IsWhole) (u9 : Memref sig .tc .vmem S512x256 .f32) (z9 : u9.IsWhole) (u10 : Memref sig .tc .vmem S4096x256 .bf16) (z10 : u10.IsWhole) (u11 : Memref sig .tc .vmem S4096x128 .f32) (z11 : u11.IsWhole) (u12 : Memref sig .tc .vmem S512x256 .f32) (z12 : u12.IsWhole) (u13 : Memref sig .tc .vmem S8x128x512 .f32) (z13 : u13.IsWhole) (u14 : Memref sig .tc .vmem S8x128x512 .f32) (z14 : u14.IsWhole) (u15 : Memref sig .tc .vmem S8x128x512 .f32) (z15 : u15.IsWhole) (u16 : Memref sig .tc .vmem S4096x256 .bf16) (z16 : u16.IsWhole) (hc0 : ¬cond0_0 i) (hc1 : cond0_1 i) (hc2 : ¬cond0_2 i) (hc3 : ¬cond0_3 i) (x0 : Vec Ideal S512x256 .bf16) (x1 : Vec Ideal S4096x128 .bf16) (x2 : Vec Ideal S4096x128 .bf16) (x3 : Vec Ideal S4096x128 .bf16) (x4 : Vec Ideal S512x128 .bf16) (x5 : Vec Ideal S1x512x1 .f32) (x6 : Vec Ideal S1x512x1 .f32) (xs3 : Vec Ideal S8x128x512 .f32) (nb : Fin 8) (hnb : nb.val = (i 1).val)

theorem hyps_D :
    (∀ r x, (kernelRun0_D.sl.r (F := Ideal) c u2 z2 x0) (ix2 r x) = (ptOf x0 x2 x4 x5 x6 (kcat x1 x3)).q r x)
    ∧ (∀ r x, (kernelRun0_D.sl.r_1 (F := Ideal) c u6 z6 x4) (ix2 r x) = (ptOf x0 x2 x4 x5 x6 (kcat x1 x3)).g r x)
    ∧ (∀ x r, (kernelRun0_D.sl.r_2 (F := Ideal) c u2 z2 x0) (ix2 x r) = (ptOf x0 x2 x4 x5 x6 (kcat x1 x3)).q r x)
    ∧ (∀ x r, (kernelRun0_D.sl.r_3 (F := Ideal) c u6 z6 x4) (ix2 x r) = (ptOf x0 x2 x4 x5 x6 (kcat x1 x3)).g r x)
    ∧ (∀ r, (kernelRun0_D.sl.r_4 (F := Ideal) c u7 z7 x5) (ix2 r 0) = (ptOf x0 x2 x4 x5 x6 (kcat x1 x3)).l r)
    ∧ (∀ r, (kernelRun0_D.sl.r_5 (F := Ideal) c u8 z8 x6) (ix2 r 0) = (ptOf x0 x2 x4 x5 x6 (kcat x1 x3)).dl r)
    ∧ (∀ r x, u4.view.read (Elt Ideal) (z4.unread x2) (ix2 r x) = (ptOf x0 x2 x4 x5 x6 (kcat x1 x3)).v r x)
    ∧ (∀ r x, u16.view.read (Elt Ideal) (u16.view.writes (Elt Ideal) u16.view.junk (kernelRun0_D.sl.HS4_2 (F := Ideal) c u3 z3 u5 z5 x1 x3)) (ix2 r x) = (ptOf x0 x2 x4 x5 x6 (kcat x1 x3)).k r x) :=
  ⟨fun r x => rd_q z2 x0 r x,
   fun r x => rd_g z6 x4 r x,
   fun x r => rd_qt z2 x0 x r,
   fun x r => rd_gt z6 x4 x r,
   fun r => rd_l z7 x5 r,
   fun r => rd_dl z8 x6 r,
   fun r x => congrFun (z4.read_unread (Val := Elt Ideal) x2) _,
   fun r x => read_kcat u16.view u16.view.junk z3 z5 x1 x3 r x⟩

include hnb

set_option maxHeartbeats 2000000 in
theorem s1_D (j : Fin 8) (x : Fin 128) (s : Fin 512) :
    u13.view.read (Elt Ideal) (u13.view.writes (Elt Ideal) u13.view.junk (kernelRun0_D (F := Ideal) c i u2 z2 u3 z3 u4 z4 u5 z5 u6 z6 u7 z7 u8 z8 u9 z9 u10 z10 u11 z11 u12 z12 u13 z13 u14 z14 u15 z15 u16 z16 hc0 hc1 hc2 hc3 x0 x1 x2 x3 x4 x5 x6 xs3).2.2.2.1) (ix3 j x s)
      = 0 + (ptOf x0 x2 x4 x5 x6 (kcat x1 x3)).tk ((ptOf x0 x2 x4 x5 x6 (kcat x1 x3)).Z (i 1).val j) (lo x) s := by
  obtain ⟨hq, hg, hqt, hgt, hl, hdl, hv, hk⟩ := hyps_D c u2 z2 u3 z3 u4 z4 u5 z5 u6 z6 u7 z7 u8 z8 u16 x0 x1 x2 x3 x4 x5 x6
  unfold kernelRun0_D
  dsimp only
  refine slab_after u13.view _ _ (i 1).val nb hnb _ (by rw [hnb]; exact k0_off8_eq i) _ _ (fun j x s => 0)
    (fun j x s => (ptOf x0 x2 x4 x5 x6 (kcat x1 x3)).tk ((ptOf x0 x2 x4 x5 x6 (kcat x1 x3)).W j) (lo x) s) (fun j x s => (ptOf x0 x2 x4 x5 x6 (kcat x1 x3)).tk ((ptOf x0 x2 x4 x5 x6 (kcat x1 x3)).Z (i 1).val j) (lo x) s)
    (fun j x s => (read_nil_app _ _ _ _ _ (pb2_nil _ (trips2_eq i)).2.1 _).trans (((loop_reads_at _ hq hg hqt hgt hl hdl hk hv (n := (i 1).val) rfl (trips_eq i)).2.1 j x s).trans (congrArg₂ _ ((read_whole u13.view _ ![0, 0, 0] (by decide) _ _ [] _).trans (pay40_at j x s)) rfl)))
    (fun x s => w13 _ hq hg hqt hgt hl hdl hk hv (hw2 := word_eq i) (nb := nb) (hnb := hnb) _ x s) (fun j h x s => Pt.tk_ne _ _ j h (lo x) s) j x s

set_option maxHeartbeats 2000000 in
theorem s2_D (j : Fin 8) (x : Fin 128) (s : Fin 512) :
    u14.view.read (Elt Ideal) (u14.view.writes (Elt Ideal) u14.view.junk (kernelRun0_D (F := Ideal) c i u2 z2 u3 z3 u4 z4 u5 z5 u6 z6 u7 z7 u8 z8 u9 z9 u10 z10 u11 z11 u12 z12 u13 z13 u14 z14 u15 z15 u16 z16 hc0 hc1 hc2 hc3 x0 x1 x2 x3 x4 x5 x6 xs3).2.2.2.2.1) (ix3 j x s)
      = 0 + (ptOf x0 x2 x4 x5 x6 (kcat x1 x3)).tv ((ptOf x0 x2 x4 x5 x6 (kcat x1 x3)).M (i 1).val j) x s := by
  obtain ⟨hq, hg, hqt, hgt, hl, hdl, hv, hk⟩ := hyps_D c u2 z2 u3 z3 u4 z4 u5 z5 u6 z6 u7 z7 u8 z8 u16 x0 x1 x2 x3 x4 x5 x6
  unfold kernelRun0_D
  dsimp only
  refine slab_after u14.view _ _ (i 1).val nb hnb _ (by rw [hnb]; exact k0_off8_eq i) _ _ (fun j x s => 0)
    (fun j x s => (ptOf x0 x2 x4 x5 x6 (kcat x1 x3)).tv ((ptOf x0 x2 x4 x5 x6 (kcat x1 x3)).E j) x s) (fun j x s => (ptOf x0 x2 x4 x5 x6 (kcat x1 x3)).tv ((ptOf x0 x2 x4 x5 x6 (kcat x1 x3)).M (i 1).val j) x s)
    (fun j x s => (read_nil_app _ _ _ _ _ (pb2_nil _ (trips2_eq i)).2.2.1 _).trans (((loop_reads_at _ hq hg hqt hgt hl hdl hk hv (n := (i 1).val) rfl (trips_eq i)).2.2.1 j x s).trans (congrArg₂ _ ((read_whole u14.view _ ![0, 0, 0] (by decide) _ _ [] _).trans (pay41_at j x s)) rfl)))
    (fun x s => w14 _ hq hg hqt hgt hl hdl hk hv (hw2 := word_eq i) (nb := nb) (hnb := hnb) _ x s) (fun j h x s => Pt.tv_ne _ _ j h x s) j x s

set_option maxHeartbeats 2000000 in
theorem s3_D (j : Fin 8) (x : Fin 128) (s : Fin 512) :
    u15.view.read (Elt Ideal) (u15.view.writes (Elt Ideal) (z15.unread xs3) (kernelRun0_D (F := Ideal) c i u2 z2 u3 z3 u4 z4 u5 z5 u6 z6 u7 z7 u8 z8 u9 z9 u10 z10 u11 z11 u12 z12 u13 z13 u14 z14 u15 z15 u16 z16 hc0 hc1 hc2 hc3 x0 x1 x2 x3 x4 x5 x6 xs3).2.2.2.2.2.1) (ix3 j x s)
      = xs3 (ix3 j x s) + (ptOf x0 x2 x4 x5 x6 (kcat x1 x3)).tk ((ptOf x0 x2 x4 x5 x6 (kcat x1 x3)).Z (i 1).val j) (hi x) s := by
  obtain ⟨hq, hg, hqt, hgt, hl, hdl, hv, hk⟩ := hyps_D c u2 z2 u3 z3 u4 z4 u5 z5 u6 z6 u7 z7 u8 z8 u16 x0 x1 x2 x3 x4 x5 x6
  unfold kernelRun0_D
  dsimp only
  refine slab_after u15.view _ _ (i 1).val nb hnb _ (by rw [hnb]; exact k0_off8_eq i) _ _ (fun j x s => xs3 (ix3 j x s))
    (fun j x s => (ptOf x0 x2 x4 x5 x6 (kcat x1 x3)).tk ((ptOf x0 x2 x4 x5 x6 (kcat x1 x3)).W j) (hi x) s) (fun j x s => (ptOf x0 x2 x4 x5 x6 (kcat x1 x3)).tk ((ptOf x0 x2 x4 x5 x6 (kcat x1 x3)).Z (i 1).val j) (hi x) s)
    (fun j x s => (read_nil_app' _ _ _ _ (pb2_nil _ (trips2_eq i)).2.2.2 _).trans (((loop_reads_at _ hq hg hqt hgt hl hdl hk hv (n := (i 1).val) rfl (trips_eq i)).2.2.2 j x s).trans (congrArg₂ _ (congrFun (z15.read_unread (Val := Elt Ideal) xs3) _) rfl)))
    (fun x s => w15 _ hq hg hqt hgt hl hdl hk hv (hw2 := word_eq i) (nb := nb) (hnb := hnb) _ x s) (fun j h x s => Pt.tk_ne _ _ j h (hi x) s) j x s

set_option maxHeartbeats 2000000 in
theorem o7_D (v : View sig .tc .vmem S512x256 .f32) (f : v.ty.Contents (Elt Ideal)) (r : Fin 512) (x : Fin 256) :
    v.read (Elt Ideal) (v.writes (Elt Ideal) f (kernelRun0_D (F := Ideal) c i u2 z2 u3 z3 u4 z4 u5 z5 u6 z6 u7 z7 u8 z8 u9 z9 u10 z10 u11 z11 u12 z12 u13 z13 u14 z14 u15 z15 u16 z16 hc0 hc1 hc2 hc3 x0 x1 x2 x3 x4 x5 x6 xs3).1) (ix2 r x) = ∑ j, (ptOf x0 x2 x4 x5 x6 (kcat x1 x3)).tq ((ptOf x0 x2 x4 x5 x6 (kcat x1 x3)).Z (i 1).val j) j r x := by
  obtain ⟨hq, hg, hqt, hgt, hl, hdl, hv, hk⟩ := hyps_D c u2 z2 u3 z3 u4 z4 u5 z5 u6 z6 u7 z7 u8 z8 u16 x0 x1 x2 x3 x4 x5 x6
  unfold kernelRun0_D
  dsimp only
  refine (read_whole v f ![0, 0] (by decide) _ _ [] (ix2 r x)).trans ?_
  unfold kernelRun0_D.sl.v135 View.readCov
  refine (readAt_whole u12.view _ ![0, 0] (by decide) _ (ix2 r x)).trans ?_
  unfold kernelRun0_D.sl.HS0_1_1
  refine (read_whole u12.view _ ![0, 0] (by decide) _ _ _ (ix2 r x)).trans ?_
  refine (wq _ hq hg hqt hgt hl hdl hk hv (hw2 := word_eq i) (nb := nb) (hnb := hnb) _ r x).trans ?_
  rw [← Pt.tq_total _ _ nb hnb]
  refine congrArg₂ _ ?_ rfl
  unfold kernelRun0_D.sl.v129 View.readCov
  refine (readAt_whole u12.view _ ![0, 0] (by decide) _ (ix2 r x)).trans ?_
  refine (read_nil_app _ _ _ _ _ (pb2_nil _ (trips2_eq i)).1 _).trans (((loop_reads_at _ hq hg hqt hgt hl hdl hk hv (n := (i 1).val) rfl (trips_eq i)).1 r x).trans ?_)
  unfold kernelRun0_D.sl.HS0_1
  exact (congrArg₂ _ ((read_whole u12.view _ ![0, 0] (by decide) _ _ [] (ix2 r x)).trans (pay50_at r x)) rfl).trans (zero_add _)

omit hnb in
theorem s4_D (r : Fin 4096) (x : Fin 256) :
    u16.view.read (Elt Ideal) (u16.view.writes (Elt Ideal) u16.view.junk (kernelRun0_D (F := Ideal) c i u2 z2 u3 z3 u4 z4 u5 z5 u6 z6 u7 z7 u8 z8 u9 z9 u10 z10 u11 z11 u12 z12 u13 z13 u14 z14 u15 z15 u16 z16 hc0 hc1 hc2 hc3 x0 x1 x2 x3 x4 x5 x6 xs3).2.2.2.2.2.2.1) (ix2 r x) = kcat x1 x3 (ix2 r x) := by
  unfold kernelRun0_D
  dsimp only
  unfold kernelRun0_D.sl.HS4_2
  exact read_kcat u16.view u16.view.junk z3 z5 x1 x3 r x

end Cert.MlaIdeal.Bwd

end
-- ==== Proof.MCaseE.lean ====
module

public import proofs.«01_k».proof.Proof.MCase

@[expose] public section

set_option maxRecDepth 16384

noncomputable section

namespace Cert.MlaIdeal.Bwd

open Idealize.ShloMosaic Cert.MlaIdeal Cert.MlaIdeal.Gen Cert.Slab
open Cert.KernelIdeal.Bwd (key sum_lt_succ)

variable (c : Dev nD) (i : grid0.Coords) (u2 : Memref sig .tc .vmem S512x256 .bf16) (z2 : u2.IsWhole) (u3 : Memref sig .tc .vmem S4096x128 .bf16) (z3 : u3.IsWhole) (u4 : Memref sig .tc .vmem S4096x128 .bf16) (z4 : u4.IsWhole) (u5 : Memref sig .tc .vmem S4096x128 .bf16) (z5 : u5.IsWhole) (u6 : Memref sig .tc .vmem S512x128 .bf16) (z6 : u6.IsWhole) (u7 : Memref sig .tc .vmem S1x512x1 .f32) (z7 : u7.IsWhole) (u8 : Memref sig .tc .vmem S1x512x1 .f32) (z8 : u8.IsWhole) (u9 : Memref sig .tc .vmem S512x256 .f32) (z9 : u9.IsWhole) (u10 : Memref sig .tc .vmem S4096x256 .bf16) (z10 : u10.IsWhole) (u11 : Memref sig .tc .vmem S4096x128 .f32) (z11 : u11.IsWhole) (u12 : Memref sig .tc .vmem S512x256 .f32) (z12 : u12.IsWhole) (u13 : Memref sig .tc .vmem S8x128x512 .f32) (z13 : u13.IsWhole) (u14 : Memref sig .tc .vmem S8x128x512 .f32) (z14 : u14.IsWhole) (u15 : Memref sig .tc .vmem S8x128x512 .f32) (z15 : u15.IsWhole) (u16 : Memref sig .tc .vmem S4096x256 .bf16) (z16 : u16.IsWhole) (hc0 : ¬cond0_0 i) (hc1 : ¬cond0_1 i) (hc2 : cond0_2 i) (hc3 : cond0_3 i) (x0 : Vec Ideal S512x256 .bf16) (x1 : Vec Ideal S4096x128 .bf16) (x2 : Vec Ideal S4096x128 .bf16) (x3 : Vec Ideal S4096x128 .bf16) (x4 : Vec Ideal S512x128 .bf16) (x5 : Vec Ideal S1x512x1 .f32) (x6 : Vec Ideal S1x512x1 .f32) (xs1 : Vec Ideal S8x128x512 .f32) (xs2 : Vec Ideal S8x128x512 .f32) (xs3 : Vec Ideal S8x128x512 .f32) (xs4 : Vec Ideal S4096x256 .bf16) (nb : Fin 8) (hnb : nb.val = (i 1).val)

theorem hyps_E :
    (∀ r x, (kernelRun0_E.sl.r (F := Ideal) c u2 z2 x0) (ix2 r x) = (ptOf x0 x2 x4 x5 x6 xs4).q r x)
    ∧ (∀ r x, (kernelRun0_E.sl.r_1 (F := Ideal) c u6 z6 x4) (ix2 r x) = (ptOf x0 x2 x4 x5 x6 xs4).g r x)
    ∧ (∀ x r, (kernelRun0_E.sl.r_2 (F := Ideal) c u2 z2 x0) (ix2 x r) = (ptOf x0 x2 x4 x5 x6 xs4).q r x)
    ∧ (∀ x r, (kernelRun0_E.sl.r_3 (F := Ideal) c u6 z6 x4) (ix2 x r) = (ptOf x0 x2 x4 x5 x6 xs4).g r x)
    ∧ (∀ r, (kernelRun0_E.sl.r_4 (F := Ideal) c u7 z7 x5) (ix2 r 0) = (ptOf x0 x2 x4 x5 x6 xs4).l r)
    ∧ (∀ r, (kernelRun0_E.sl.r_5 (F := Ideal) c u8 z8 x6) (ix2 r 0) = (ptOf x0 x2 x4 x5 x6 xs4).dl r)
    ∧ (∀ r x, u4.view.read (Elt Ideal) (z4.unread x2) (ix2 r x) = (ptOf x0 x2 x4 x5 x6 xs4).v r x)
    ∧ (∀ r x, u16.view.read (Elt Ideal) (z16.unread xs4) (ix2 r x) = (ptOf x0 x2 x4 x5 x6 xs4).k r x) :=
  ⟨fun r x => rd_q z2 x0 r x,
   fun r x => rd_g z6 x4 r x,
   fun x r => rd_qt z2 x0 x r,
   fun x r => rd_gt z6 x4 x r,
   fun r => rd_l z7 x5 r,
   fun r => rd_dl z8 x6 r,
   fun r x => congrFun (z4.read_unread (Val := Elt Ideal) x2) _,
   fun r x => congrFun (z16.read_unread (Val := Elt Ideal) xs4) _⟩

include hnb

set_option maxHeartbeats 2000000 in
theorem s1_E (j : Fin 8) (x : Fin 128) (s : Fin 512) :
    u13.view.read (Elt Ideal) (u13.view.writes (Elt Ideal) (z13.unread xs1) (kernelRun0_E (F := Ideal) c i u2 z2 u3 z3 u4 z4 u5 z5 u6 z6 u7 z7 u8 z8 u9 z9 u10 z10 u11 z11 u12 z12 u13 z13 u14 z14 u15 z15 u16 z16 hc0 hc1 hc2 hc3 x0 x1 x2 x3 x4 x5 x6 xs1 xs2 xs3 xs4).2.2.2.1) (ix3 j x s)
      = xs1 (ix3 j x s) + (ptOf x0 x2 x4 x5 x6 xs4).tk ((ptOf x0 x2 x4 x5 x6 xs4).Z (i 1).val j) (lo x) s := by
  obtain ⟨hq, hg, hqt, hgt, hl, hdl, hv, hk⟩ := hyps_E c u2 z2 u4 z4 u6 z6 u7 z7 u8 z8 u16 z16 x0 x2 x4 x5 x6 xs4
  unfold kernelRun0_E
  dsimp only
  unfold kernelRun0_E.sl.HS1_1
  refine slab_after u13.view _ _ (i 1).val nb hnb _ (by rw [hnb]; exact k0_off8_eq i) _ _ (fun j x s => xs1 (ix3 j x s))
    (fun j x s => (ptOf x0 x2 x4 x5 x6 xs4).tk ((ptOf x0 x2 x4 x5 x6 xs4).W j) (lo x) s) (fun j x s => (ptOf x0 x2 x4 x5 x6 xs4).tk ((ptOf x0 x2 x4 x5 x6 xs4).Z (i 1).val j) (lo x) s)
    (fun j x s => (read_nil_app' _ _ _ _ (pb2_nil _ (trips2_eq i)).2.1 _).trans (((loop_reads_at _ hq hg hqt hgt hl hdl hk hv (n := (i 1).val) rfl (trips_eq i)).2.1 j x s).trans (congrArg₂ _ (congrFun (z13.read_unread (Val := Elt Ideal) xs1) _) rfl)))
    (fun x s => w13 _ hq hg hqt hgt hl hdl hk hv (hw2 := word_eq i) (nb := nb) (hnb := hnb) _ x s) (fun j h x s => Pt.tk_ne _ _ j h (lo x) s) j x s

set_option maxHeartbeats 2000000 in
theorem s2_E (j : Fin 8) (x : Fin 128) (s : Fin 512) :
    u14.view.read (Elt Ideal) (u14.view.writes (Elt Ideal) (z14.unread xs2) (kernelRun0_E (F := Ideal) c i u2 z2 u3 z3 u4 z4 u5 z5 u6 z6 u7 z7 u8 z8 u9 z9 u10 z10 u11 z11 u12 z12 u13 z13 u14 z14 u15 z15 u16 z16 hc0 hc1 hc2 hc3 x0 x1 x2 x3 x4 x5 x6 xs1 xs2 xs3 xs4).2.2.2.2.1) (ix3 j x s)
      = xs2 (ix3 j x s) + (ptOf x0 x2 x4 x5 x6 xs4).tv ((ptOf x0 x2 x4 x5 x6 xs4).M (i 1).val j) x s := by
  obtain ⟨hq, hg, hqt, hgt, hl, hdl, hv, hk⟩ := hyps_E c u2 z2 u4 z4 u6 z6 u7 z7 u8 z8 u16 z16 x0 x2 x4 x5 x6 xs4
  unfold kernelRun0_E
  dsimp only
  unfold kernelRun0_E.sl.HS2_1
  refine slab_after u14.view _ _ (i 1).val nb hnb _ (by rw [hnb]; exact k0_off8_eq i) _ _ (fun j x s => xs2 (ix3 j x s))
    (fun j x s => (ptOf x0 x2 x4 x5 x6 xs4).tv ((ptOf x0 x2 x4 x5 x6 xs4).E j) x s) (fun j x s => (ptOf x0 x2 x4 x5 x6 xs4).tv ((ptOf x0 x2 x4 x5 x6 xs4).M (i 1).val j) x s)
    (fun j x s => (read_nil_app' _ _ _ _ (pb2_nil _ (trips2_eq i)).2.2.1 _).trans (((loop_reads_at _ hq hg hqt hgt hl hdl hk hv (n := (i 1).val) rfl (trips_eq i)).2.2.1 j x s).trans (congrArg₂ _ (congrFun (z14.read_unread (Val := Elt Ideal) xs2) _) rfl)))
    (fun x s => w14 _ hq hg hqt hgt hl hdl hk hv (hw2 := word_eq i) (nb := nb) (hnb := hnb) _ x s) (fun j h x s => Pt.tv_ne _ _ j h x s) j x s

set_option maxHeartbeats 2000000 in
theorem s3_E (j : Fin 8) (x : Fin 128) (s : Fin 512) :
    u15.view.read (Elt Ideal) (u15.view.writes (Elt Ideal) (z15.unread xs3) (kernelRun0_E (F := Ideal) c i u2 z2 u3 z3 u4 z4 u5 z5 u6 z6 u7 z7 u8 z8 u9 z9 u10 z10 u11 z11 u12 z12 u13 z13 u14 z14 u15 z15 u16 z16 hc0 hc1 hc2 hc3 x0 x1 x2 x3 x4 x5 x6 xs1 xs2 xs3 xs4).2.2.2.2.2.1) (ix3 j x s)
      = xs3 (ix3 j x s) + (ptOf x0 x2 x4 x5 x6 xs4).tk ((ptOf x0 x2 x4 x5 x6 xs4).Z (i 1).val j) (hi x) s := by
  obtain ⟨hq, hg, hqt, hgt, hl, hdl, hv, hk⟩ := hyps_E c u2 z2 u4 z4 u6 z6 u7 z7 u8 z8 u16 z16 x0 x2 x4 x5 x6 xs4
  unfold kernelRun0_E
  dsimp only
  unfold kernelRun0_E.sl.HS3_1
  refine slab_after u15.view _ _ (i 1).val nb hnb _ (by rw [hnb]; exact k0_off8_eq i) _ _ (fun j x s => xs3 (ix3 j x s))
    (fun j x s => (ptOf x0 x2 x4 x5 x6 xs4).tk ((ptOf x0 x2 x4 x5 x6 xs4).W j) (hi x) s) (fun j x s => (ptOf x0 x2 x4 x5 x6 xs4).tk ((ptOf x0 x2 x4 x5 x6 xs4).Z (i 1).val j) (hi x) s)
    (fun j x s => (read_nil_app' _ _ _ _ (pb2_nil _ (trips2_eq i)).2.2.2 _).trans (((loop_reads_at _ hq hg hqt hgt hl hdl hk hv (n := (i 1).val) rfl (trips_eq i)).2.2.2 j x s).trans (congrArg₂ _ (congrFun (z15.read_unread (Val := Elt Ideal) xs3) _) rfl)))
    (fun x s => w15 _ hq hg hqt hgt hl hdl hk hv (hw2 := word_eq i) (nb := nb) (hnb := hnb) _ x s) (fun j h x s => Pt.tk_ne _ _ j h (hi x) s) j x s

set_option maxHeartbeats 2000000 in
theorem o7_E (v : View sig .tc .vmem S512x256 .f32) (f : v.ty.Contents (Elt Ideal)) (r : Fin 512) (x : Fin 256) :
    v.read (Elt Ideal) (v.writes (Elt Ideal) f (kernelRun0_E (F := Ideal) c i u2 z2 u3 z3 u4 z4 u5 z5 u6 z6 u7 z7 u8 z8 u9 z9 u10 z10 u11 z11 u12 z12 u13 z13 u14 z14 u15 z15 u16 z16 hc0 hc1 hc2 hc3 x0 x1 x2 x3 x4 x5 x6 xs1 xs2 xs3 xs4).1) (ix2 r x) = ∑ j, (ptOf x0 x2 x4 x5 x6 xs4).tq ((ptOf x0 x2 x4 x5 x6 xs4).Z (i 1).val j) j r x := by
  obtain ⟨hq, hg, hqt, hgt, hl, hdl, hv, hk⟩ := hyps_E c u2 z2 u4 z4 u6 z6 u7 z7 u8 z8 u16 z16 x0 x2 x4 x5 x6 xs4
  unfold kernelRun0_E
  dsimp only
  refine (read_whole v f ![0, 0] (by decide) _ _ [] (ix2 r x)).trans ?_
  unfold kernelRun0_E.sl.v135 View.readCov
  refine (readAt_whole u12.view _ ![0, 0] (by decide) _ (ix2 r x)).trans ?_
  unfold kernelRun0_E.sl.HS0_1_1
  refine (read_whole u12.view _ ![0, 0] (by decide) _ _ _ (ix2 r x)).trans ?_
  refine (wq _ hq hg hqt hgt hl hdl hk hv (hw2 := word_eq i) (nb := nb) (hnb := hnb) _ r x).trans ?_
  rw [← Pt.tq_total _ _ nb hnb]
  refine congrArg₂ _ ?_ rfl
  unfold kernelRun0_E.sl.v129 View.readCov
  refine (readAt_whole u12.view _ ![0, 0] (by decide) _ (ix2 r x)).trans ?_
  refine (read_nil_app _ _ _ _ _ (pb2_nil _ (trips2_eq i)).1 _).trans (((loop_reads_at _ hq hg hqt hgt hl hdl hk hv (n := (i 1).val) rfl (trips_eq i)).1 r x).trans ?_)
  unfold kernelRun0_E.sl.HS0_1
  exact (congrArg₂ _ ((read_whole u12.view _ ![0, 0] (by decide) _ _ [] (ix2 r x)).trans (pay50_at r x)) rfl).trans (zero_add _)

set_option maxHeartbeats 2000000 in
theorem o8lo_E (v : View sig .tc .vmem S4096x256 .bf16) (f : v.ty.Contents (Elt Ideal)) (j : Fin 8) (s : Fin 512) (x : Fin 128) :
    v.read (Elt Ideal) (v.writes (Elt Ideal) f (kernelRun0_E (F := Ideal) c i u2 z2 u3 z3 u4 z4 u5 z5 u6 z6 u7 z7 u8 z8 u9 z9 u10 z10 u11 z11 u12 z12 u13 z13 u14 z14 u15 z15 u16 z16 hc0 hc1 hc2 hc3 x0 x1 x2 x3 x4 x5 x6 xs1 xs2 xs3 xs4).2.1) (ix2 (key j s) (lo x)) = xs1 (ix3 j x s) + (ptOf x0 x2 x4 x5 x6 xs4).tk ((ptOf x0 x2 x4 x5 x6 xs4).Z (i 1).val j) (lo x) s := by
  have hg := rd_slab u13.view _ _ (s1_E c i u2 z2 u3 z3 u4 z4 u5 z5 u6 z6 u7 z7 u8 z8 u9 z9 u10 z10 u11 z11 u12 z12 u13 z13 u14 z14 u15 z15 u16 z16 hc0 hc1 hc2 hc3 x0 x1 x2 x3 x4 x5 x6 xs1 xs2 xs3 xs4 nb hnb)
  unfold kernelRun0_E at hg ⊢
  dsimp only at hg ⊢
  refine Eq.trans ?_ (ite8 (fun j => xs1 (ix3 j x s) + (ptOf x0 x2 x4 x5 x6 xs4).tk ((ptOf x0 x2 x4 x5 x6 xs4).Z (i 1).val j) (lo x) s) j _ _ _ _ _ _ _ _ (v.read (Elt Ideal) (v.writes (Elt Ideal) f []) (ix2 (key j s) (lo x)))
    ((pay21_at _ s x).trans (hg 0 _ rfl inb_S8x128x512_S1x128x512_0_0_0 x s))
    ((pay23_at _ s x).trans (hg 1 _ rfl inb_S8x128x512_S1x128x512_1_0_0 x s))
    ((pay25_at _ s x).trans (hg 2 _ rfl inb_S8x128x512_S1x128x512_2_0_0 x s))
    ((pay28_at _ s x).trans (hg 3 _ rfl inb_S8x128x512_S1x128x512_3_0_0 x s))
    ((pay30_at _ s x).trans (hg 4 _ rfl inb_S8x128x512_S1x128x512_4_0_0 x s))
    ((pay32_at _ s x).trans (hg 5 _ rfl inb_S8x128x512_S1x128x512_5_0_0 x s))
    ((pay5_at _ s x).trans (hg 6 _ rfl inb_S8x128x512_S1x128x512_6_0_0 x s))
    ((pay7_at _ s x).trans (hg 7 _ rfl inb_S8x128x512_S1x128x512_7_0_0 x s)))
  refine (box_lo v f _ 7 _ _ rfl rfl _ _ _ _ j s x).trans (if_congr Iff.rfl rfl ?_)
  refine (box_lo v f _ 6 _ _ rfl rfl _ _ _ _ j s x).trans (if_congr Iff.rfl rfl ?_)
  refine (box_lo v f _ 5 _ _ rfl rfl _ _ _ _ j s x).trans (if_congr Iff.rfl rfl ?_)
  refine (box_lo v f _ 4 _ _ rfl rfl _ _ _ _ j s x).trans (if_congr Iff.rfl rfl ?_)
  refine (box_lo v f _ 3 _ _ rfl rfl _ _ _ _ j s x).trans (if_congr Iff.rfl rfl ?_)
  refine (box_lo v f _ 2 _ _ rfl rfl _ _ _ _ j s x).trans (if_congr Iff.rfl rfl ?_)
  refine (box_lo v f _ 1 _ _ rfl rfl _ _ _ _ j s x).trans (if_congr Iff.rfl rfl ?_)
  exact box_lo v f _ 0 _ _ rfl rfl _ _ _ _ j s x

set_option maxHeartbeats 2000000 in
theorem o8hi_E (v : View sig .tc .vmem S4096x256 .bf16) (f : v.ty.Contents (Elt Ideal)) (j : Fin 8) (s : Fin 512) (x : Fin 128) :
    v.read (Elt Ideal) (v.writes (Elt Ideal) f (kernelRun0_E (F := Ideal) c i u2 z2 u3 z3 u4 z4 u5 z5 u6 z6 u7 z7 u8 z8 u9 z9 u10 z10 u11 z11 u12 z12 u13 z13 u14 z14 u15 z15 u16 z16 hc0 hc1 hc2 hc3 x0 x1 x2 x3 x4 x5 x6 xs1 xs2 xs3 xs4).2.1) (ix2 (key j s) (hi x)) = xs2 (ix3 j x s) + (ptOf x0 x2 x4 x5 x6 xs4).tv ((ptOf x0 x2 x4 x5 x6 xs4).M (i 1).val j) x s := by
  have hg := rd_slab u14.view _ _ (s2_E c i u2 z2 u3 z3 u4 z4 u5 z5 u6 z6 u7 z7 u8 z8 u9 z9 u10 z10 u11 z11 u12 z12 u13 z13 u14 z14 u15 z15 u16 z16 hc0 hc1 hc2 hc3 x0 x1 x2 x3 x4 x5 x6 xs1 xs2 xs3 xs4 nb hnb)
  unfold kernelRun0_E at hg ⊢
  dsimp only at hg ⊢
  refine Eq.trans ?_ (ite8 (fun j => xs2 (ix3 j x s) + (ptOf x0 x2 x4 x5 x6 xs4).tv ((ptOf x0 x2 x4 x5 x6 xs4).M (i 1).val j) x s) j _ _ _ _ _ _ _ _ (v.read (Elt Ideal) (v.writes (Elt Ideal) f []) (ix2 (key j s) (hi x)))
    ((pay22_at _ s x).trans (hg 0 _ rfl inb_S8x128x512_S1x128x512_0_0_0 x s))
    ((pay24_at _ s x).trans (hg 1 _ rfl inb_S8x128x512_S1x128x512_1_0_0 x s))
    ((pay27_at (kernelRun0_E.sl.v170 (F := Ideal) c i u2 z2 u3 z3 u4 z4 u5 z5 u6 z6 u7 z7 u8 z8 u9 z9 u10 z10 u11 z11 u12 z12 u13 z13 u14 z14 u15 z15 u16 z16 x0 x2 x4 x5 x6 xs1 xs2 xs3 xs4) s x).trans (hg 2 _ rfl inb_S8x128x512_S1x128x512_2_0_0 x s))
    ((pay29_at _ s x).trans (hg 3 _ rfl inb_S8x128x512_S1x128x512_3_0_0 x s))
    ((pay31_at _ s x).trans (hg 4 _ rfl inb_S8x128x512_S1x128x512_4_0_0 x s))
    ((pay4_at _ s x).trans (hg 5 _ rfl inb_S8x128x512_S1x128x512_5_0_0 x s))
    ((pay6_at _ s x).trans (hg 6 _ rfl inb_S8x128x512_S1x128x512_6_0_0 x s))
    ((pay8_at _ s x).trans (hg 7 _ rfl inb_S8x128x512_S1x128x512_7_0_0 x s)))
  refine (box_hi v f _ 7 _ _ rfl rfl _ _ _ _ j s x).trans (if_congr Iff.rfl rfl ?_)
  refine (box_hi v f _ 6 _ _ rfl rfl _ _ _ _ j s x).trans (if_congr Iff.rfl rfl ?_)
  refine (box_hi v f _ 5 _ _ rfl rfl _ _ _ _ j s x).trans (if_congr Iff.rfl rfl ?_)
  refine (box_hi v f _ 4 _ _ rfl rfl _ _ _ _ j s x).trans (if_congr Iff.rfl rfl ?_)
  refine (box_hi v f _ 3 _ _ rfl rfl _ _ _ _ j s x).trans (if_congr Iff.rfl rfl ?_)
  refine (box_hi v f _ 2 _ _ rfl rfl _ _ _ _ j s x).trans (if_congr Iff.rfl rfl ?_)
  refine (box_hi v f _ 1 _ _ rfl rfl _ _ _ _ j s x).trans (if_congr Iff.rfl rfl ?_)
  exact box_hi v f _ 0 _ _ rfl rfl _ _ _ _ j s x

set_option maxHeartbeats 2000000 in
theorem o9_E (v : View sig .tc .vmem S4096x128 .f32) (f : v.ty.Contents (Elt Ideal)) (j : Fin 8) (s : Fin 512) (x : Fin 128) :
    v.read (Elt Ideal) (v.writes (Elt Ideal) f (kernelRun0_E (F := Ideal) c i u2 z2 u3 z3 u4 z4 u5 z5 u6 z6 u7 z7 u8 z8 u9 z9 u10 z10 u11 z11 u12 z12 u13 z13 u14 z14 u15 z15 u16 z16 hc0 hc1 hc2 hc3 x0 x1 x2 x3 x4 x5 x6 xs1 xs2 xs3 xs4).2.2.1) (ix2 (key j s) x) = xs3 (ix3 j x s) + (ptOf x0 x2 x4 x5 x6 xs4).tk ((ptOf x0 x2 x4 x5 x6 xs4).Z (i 1).val j) (hi x) s := by
  have hg := rd_slab u15.view _ _ (s3_E c i u2 z2 u3 z3 u4 z4 u5 z5 u6 z6 u7 z7 u8 z8 u9 z9 u10 z10 u11 z11 u12 z12 u13 z13 u14 z14 u15 z15 u16 z16 hc0 hc1 hc2 hc3 x0 x1 x2 x3 x4 x5 x6 xs1 xs2 xs3 xs4 nb hnb)
  unfold kernelRun0_E at hg ⊢
  dsimp only at hg ⊢
  refine Eq.trans ?_ (ite8 (fun j => xs3 (ix3 j x s) + (ptOf x0 x2 x4 x5 x6 xs4).tk ((ptOf x0 x2 x4 x5 x6 xs4).Z (i 1).val j) (hi x) s) j _ _ _ _ _ _ _ _ (v.read (Elt Ideal) (v.writes (Elt Ideal) f []) (ix2 (key j s) x))
    ((pay33_at _ s x).trans (hg 0 _ rfl inb_S8x128x512_S1x128x512_0_0_0 x s))
    ((pay34_at _ s x).trans (hg 1 _ rfl inb_S8x128x512_S1x128x512_1_0_0 x s))
    ((pay35_at _ s x).trans (hg 2 _ rfl inb_S8x128x512_S1x128x512_2_0_0 x s))
    ((pay36_at _ s x).trans (hg 3 _ rfl inb_S8x128x512_S1x128x512_3_0_0 x s))
    ((pay37_at _ s x).trans (hg 4 _ rfl inb_S8x128x512_S1x128x512_4_0_0 x s))
    ((pay38_at _ s x).trans (hg 5 _ rfl inb_S8x128x512_S1x128x512_5_0_0 x s))
    ((pay9_at _ s x).trans (hg 6 _ rfl inb_S8x128x512_S1x128x512_6_0_0 x s))
    ((pay10_at _ s x).trans (hg 7 _ rfl inb_S8x128x512_S1x128x512_7_0_0 x s)))
  refine (box_r v f _ 7 _ rfl _ _ j s x).trans (if_congr Iff.rfl rfl ?_)
  refine (box_r v f _ 6 _ rfl _ _ j s x).trans (if_congr Iff.rfl rfl ?_)
  refine (box_r v f _ 5 _ rfl _ _ j s x).trans (if_congr Iff.rfl rfl ?_)
  refine (box_r v f _ 4 _ rfl _ _ j s x).trans (if_congr Iff.rfl rfl ?_)
  refine (box_r v f _ 3 _ rfl _ _ j s x).trans (if_congr Iff.rfl rfl ?_)
  refine (box_r v f _ 2 _ rfl _ _ j s x).trans (if_congr Iff.rfl rfl ?_)
  refine (box_r v f _ 1 _ rfl _ _ j s x).trans (if_congr Iff.rfl rfl ?_)
  exact box_r v f _ 0 _ rfl _ _ j s x

end Cert.MlaIdeal.Bwd

end
-- ==== Proof.MGrid.lean ====
module

public import proofs.«01_k».proof.Proof.Gen.MlaIdeal.Frame
public import proofs.«01_k».proof.Proof.MCaseA
public import proofs.«01_k».proof.Proof.MCaseB
public import proofs.«01_k».proof.Proof.MCaseC
public import proofs.«01_k».proof.Proof.MCaseD
public import proofs.«01_k».proof.Proof.MCaseE

@[expose] public section

set_option maxRecDepth 16384

noncomputable section

namespace Cert.MlaIdeal.Bwd

open Idealize.ShloMosaic Cert.MlaIdeal Cert.MlaIdeal.Gen Cert.Slab
open Cert.KernelIdeal.Bwd (key sum_lt_succ)

variable (m : (ℓ : Loc nD τ sig) → Buf (Elt Ideal) ℓ)

theorem coord1 : ∀ t : Fin cfg0.N, ((grid0.coords t) 1).val = t.val % 8 :=
  (by decide +kernel : ∀ t : Fin grid0.N, ((grid0.coords t) 1).val = t.val % 8)

/-- The query tile the point `t` works on. -/
abbrev nb (t : Fin cfg0.N) : Fin 8 := ⟨t.val % 8, Nat.mod_lt _ (by decide)⟩

theorem lt128 (t : Fin cfg0.N) : t.val < 128 := lt_of_lt_of_eq t.isLt N_0

/-- The point of query tile `n'` in the head that the point `t` belongs to. -/
abbrev tile (t : Fin cfg0.N) (n' : Fin 8) : Fin cfg0.N :=
  ⟨8 * (t.val / 8) + n'.val, by have h := lt128 t; have := n'.isLt; exact lt_of_lt_of_eq (b := 128) (by omega) N_0.symm⟩

theorem tile_last (t : Fin cfg0.N) : tile t (nb t) = t := Fin.ext (Nat.div_add_mod _ _)

abbrev prev (t : Fin cfg0.N) : Fin cfg0.N := ⟨t.val - 1, Nat.lt_of_le_of_lt (Nat.sub_le _ _) t.isLt⟩

theorem tile_prev (t : Fin cfg0.N) (h : ¬ t.val % 8 = 0) (n' : Fin 8) : tile (prev t) n' = tile t n' :=
  Fin.ext (by show 8 * ((t.val - 1) / 8) + n'.val = 8 * (t.val / 8) + n'.val; have : (t.val - 1) / 8 = t.val / 8 := (by omega); rw [this])

/-- The keys of the head that the point `t` belongs to, as its first point puts them together. -/
def KC (c : Dev nD) (t : Fin cfg0.N) : Vec Ideal S4096x256 .bf16 := kcat (iblk m c 1 (tile t 0)) (iblk m c 3 (tile t 0))

theorem KC_first (c : Dev nD) (t : Fin cfg0.N) (h : t.val % 8 = 0) : kcat (iblk m c 1 t) (iblk m c 3 t) = KC m c t := by
  have e : tile t 0 = t := Fin.ext (by show 8 * (t.val / 8) + 0 = t.val; omega)
  unfold KC
  rw [e]

theorem KC_prev (c : Dev nD) (t : Fin cfg0.N) (h : ¬ t.val % 8 = 0) : KC m c (prev t) = KC m c t := by
  unfold KC
  rw [tile_prev t h]

/-- The kept keys are the head's. -/
theorem kc_at (c : Dev nD) : ∀ (k : ℕ) (t : Fin cfg0.N), t.val = k → (outsAt0 m c t.val t.isLt).2.2.2.2.2.2 = KC m c t := by
  intro k
  induction k using Nat.strong_induction_on with
  | _ k ih =>
    intro t ht
    have hN := lt128 t
    by_cases h1 : t.val % 8 = 0
    · refine Eq.trans ?_ (KC_first m c t h1)
      refine funext fun i => ?_
      obtain ⟨r, x, rfl⟩ : ∃ r x, i = ix2 r x := ⟨i 0, i 1, funext fun a => by match a with | ⟨0, _⟩ => rfl | ⟨1, _⟩ => rfl⟩
      by_cases h0 : t.val % 128 = 0
      · rw [outsAt0_A m c t h0 h1 (by omega) (by omega)]
        dsimp only
        unfold sout0_A_4
        exact s4_A ..
      · rw [outsAt0_D m c t h0 h1 (by omega) (by omega)]
        dsimp only
        unfold sout0_D_4
        exact s4_D ..
    · have hp := ih (t.val - 1) (by omega) (prev t) rfl
      rw [← KC_prev m c t h1]
      by_cases h2 : t.val % 8 = 7
      · by_cases h3 : t.val % 128 = 127
        · rw [outsAt0_E m c t (by omega) h1 h2 h3]
          exact hp
        · rw [outsAt0_C m c t (by omega) h1 h2 h3]
          exact hp
      · rw [outsAt0_B m c t (by omega) h1 h2 (by omega)]
        exact hp

theorem kc_prev (c : Dev nD) (t : Fin cfg0.N) (h : ¬ t.val % 8 = 0) :
    (outsAt0 m c (t.val - 1) (Nat.lt_of_le_of_lt (Nat.sub_le _ _) t.isLt)).2.2.2.2.2.2 = KC m c t :=
  (kc_at m c _ (prev t) rfl).trans (KC_prev m c t h)

/-- What the point `t` reads. -/
abbrev X (c : Dev nD) (t : Fin cfg0.N) : Pt :=
  ptOf (iblk m c 0 t) (iblk m c 2 t) (iblk m c 4 t) (iblk m c 5 t) (iblk m c 6 t) (KC m c t)

/-- The point's weights of the keys' gradient and of the values' gradient. -/
abbrev ZX (c : Dev nD) (t : Fin cfg0.N) (j : Fin 8) (r s : Fin 512) : EReal := (X m c t).Z (t.val % 8) j r s
abbrev MX (c : Dev nD) (t : Fin cfg0.N) (j : Fin 8) (r s : Fin 512) : EReal := (X m c t).M (t.val % 8) j r s

section
variable (c : Dev nD) (t : Fin cfg0.N)
include c t

theorem scr1_A (h0 : t.val % 128 = 0) (j : Fin 8) (x : Fin 128) (s : Fin 512) :
    (outsAt0 m c t.val t.isLt).2.2.2.1 (ix3 j x s)
      = 0 + (X m c t).tk (ZX m c t j) (lo x) s := by
  rw [outsAt0_A m c t h0 (by omega) (by omega) (by omega)]
  dsimp only
  unfold sout0_A_1 ZX
  refine (s1_A (nb := nb t) (hnb := (coord1 t).symm) ..).trans ?_
  rw [coord1 t, KC_first m c t (by omega)]

theorem scr2_A (h0 : t.val % 128 = 0) (j : Fin 8) (x : Fin 128) (s : Fin 512) :
    (outsAt0 m c t.val t.isLt).2.2.2.2.1 (ix3 j x s)
      = 0 + (X m c t).tv (MX m c t j) x s := by
  rw [outsAt0_A m c t h0 (by omega) (by omega) (by omega)]
  dsimp only
  unfold sout0_A_2 MX
  refine (s2_A (nb := nb t) (hnb := (coord1 t).symm) ..).trans ?_
  rw [coord1 t, KC_first m c t (by omega)]

theorem scr3_A (h0 : t.val % 128 = 0) (j : Fin 8) (x : Fin 128) (s : Fin 512) :
    (outsAt0 m c t.val t.isLt).2.2.2.2.2.1 (ix3 j x s)
      = 0 + (X m c t).tk (ZX m c t j) (hi x) s := by
  rw [outsAt0_A m c t h0 (by omega) (by omega) (by omega)]
  dsimp only
  unfold sout0_A_3 ZX
  refine (s3_A (nb := nb t) (hnb := (coord1 t).symm) ..).trans ?_
  rw [coord1 t, KC_first m c t (by omega)]

theorem out7_A (h0 : t.val % 128 = 0) (r : Fin 512) (x : Fin 256) :
    (outsAt0 m c t.val t.isLt).1 (ix2 r x) = ∑ j, (X m c t).tq (ZX m c t j) j r x := by
  rw [outsAt0_A m c t h0 (by omega) (by omega) (by omega)]
  dsimp only
  unfold out0_A_7 ZX
  refine (o7_A (nb := nb t) (hnb := (coord1 t).symm) ..).trans ?_
  rw [coord1 t, KC_first m c t (by omega)]

theorem scr1_B (h1 : ¬t.val % 8 = 0) (h2 : ¬t.val % 8 = 7) (j : Fin 8) (x : Fin 128) (s : Fin 512) :
    (outsAt0 m c t.val t.isLt).2.2.2.1 (ix3 j x s)
      = (outsAt0 m c (t.val - 1) (Nat.lt_of_le_of_lt (Nat.sub_le _ _) t.isLt)).2.2.2.1 (ix3 j x s) + (X m c t).tk (ZX m c t j) (lo x) s := by
  rw [outsAt0_B m c t (by omega) h1 h2 (by omega)]
  dsimp only
  unfold sout0_B_1 ZX
  refine (s1_B (nb := nb t) (hnb := (coord1 t).symm) ..).trans ?_
  rw [coord1 t, kc_prev m c t (by omega)]

theorem scr2_B (h1 : ¬t.val % 8 = 0) (h2 : ¬t.val % 8 = 7) (j : Fin 8) (x : Fin 128) (s : Fin 512) :
    (outsAt0 m c t.val t.isLt).2.2.2.2.1 (ix3 j x s)
      = (outsAt0 m c (t.val - 1) (Nat.lt_of_le_of_lt (Nat.sub_le _ _) t.isLt)).2.2.2.2.1 (ix3 j x s) + (X m c t).tv (MX m c t j) x s := by
  rw [outsAt0_B m c t (by omega) h1 h2 (by omega)]
  dsimp only
  unfold sout0_B_2 MX
  refine (s2_B (nb := nb t) (hnb := (coord1 t).symm) ..).trans ?_
  rw [coord1 t, kc_prev m c t (by omega)]

theorem scr3_B (h1 : ¬t.val % 8 = 0) (h2 : ¬t.val % 8 = 7) (j : Fin 8) (x : Fin 128) (s : Fin 512) :
    (outsAt0 m c t.val t.isLt).2.2.2.2.2.1 (ix3 j x s)
      = (outsAt0 m c (t.val - 1) (Nat.lt_of_le_of_lt (Nat.sub_le _ _) t.isLt)).2.2.2.2.2.1 (ix3 j x s) + (X m c t).tk (ZX m c t j) (hi x) s := by
  rw [outsAt0_B m c t (by omega) h1 h2 (by omega)]
  dsimp only
  unfold sout0_B_3 ZX
  refine (s3_B (nb := nb t) (hnb := (coord1 t).symm) ..).trans ?_
  rw [coord1 t, kc_prev m c t (by omega)]

theorem out7_B (h1 : ¬t.val % 8 = 0) (h2 : ¬t.val % 8 = 7) (r : Fin 512) (x : Fin 256) :
    (outsAt0 m c t.val t.isLt).1 (ix2 r x) = ∑ j, (X m c t).tq (ZX m c t j) j r x := by
  rw [outsAt0_B m c t (by omega) h1 h2 (by omega)]
  dsimp only
  unfold out0_B_7 ZX
  refine (o7_B (nb := nb t) (hnb := (coord1 t).symm) ..).trans ?_
  rw [coord1 t, kc_prev m c t (by omega)]

section
variable (h1 : ¬t.val % 8 = 0) (h2 : t.val % 8 = 7) (h3 : ¬t.val % 128 = 127)
include h1 h2 h3

theorem scr1_C (j : Fin 8) (x : Fin 128) (s : Fin 512) :
    (outsAt0 m c t.val t.isLt).2.2.2.1 (ix3 j x s)
      = (outsAt0 m c (t.val - 1) (Nat.lt_of_le_of_lt (Nat.sub_le _ _) t.isLt)).2.2.2.1 (ix3 j x s) + (X m c t).tk (ZX m c t j) (lo x) s := by
  rw [outsAt0_C m c t (by omega) h1 h2 h3]
  dsimp only
  unfold sout0_C_1 ZX
  refine (s1_C (nb := nb t) (hnb := (coord1 t).symm) ..).trans ?_
  rw [coord1 t, kc_prev m c t (by omega)]

theorem scr2_C (j : Fin 8) (x : Fin 128) (s : Fin 512) :
    (outsAt0 m c t.val t.isLt).2.2.2.2.1 (ix3 j x s)
      = (outsAt0 m c (t.val - 1) (Nat.lt_of_le_of_lt (Nat.sub_le _ _) t.isLt)).2.2.2.2.1 (ix3 j x s) + (X m c t).tv (MX m c t j) x s := by
  rw [outsAt0_C m c t (by omega) h1 h2 h3]
  dsimp only
  unfold sout0_C_2 MX
  refine (s2_C (nb := nb t) (hnb := (coord1 t).symm) ..).trans ?_
  rw [coord1 t, kc_prev m c t (by omega)]

theorem scr3_C (j : Fin 8) (x : Fin 128) (s : Fin 512) :
    (outsAt0 m c t.val t.isLt).2.2.2.2.2.1 (ix3 j x s)
      = (outsAt0 m c (t.val - 1) (Nat.lt_of_le_of_lt (Nat.sub_le _ _) t.isLt)).2.2.2.2.2.1 (ix3 j x s) + (X m c t).tk (ZX m c t j) (hi x) s := by
  rw [outsAt0_C m c t (by omega) h1 h2 h3]
  dsimp only
  unfold sout0_C_3 ZX
  refine (s3_C (nb := nb t) (hnb := (coord1 t).symm) ..).trans ?_
  rw [coord1 t, kc_prev m c t (by omega)]

theorem out7_C (r : Fin 512) (x : Fin 256) :
    (outsAt0 m c t.val t.isLt).1 (ix2 r x) = ∑ j, (X m c t).tq (ZX m c t j) j r x := by
  rw [outsAt0_C m c t (by omega) h1 h2 h3]
  dsimp only
  unfold out0_C_7 ZX
  refine (o7_C (nb := nb t) (hnb := (coord1 t).symm) ..).trans ?_
  rw [coord1 t, kc_prev m c t (by omega)]

theorem out8lo_C (j : Fin 8) (x : Fin 128) (s : Fin 512) :
    (outsAt0 m c t.val t.isLt).2.1 (ix2 (key j s) (lo x)) = (outsAt0 m c t.val t.isLt).2.2.2.1 (ix3 j x s) := by
  rw [scr1_C m c t h1 h2 h3 j x s]
  rw [outsAt0_C m c t (by omega) h1 h2 h3]
  dsimp only
  unfold out0_C_8 ZX
  refine (o8lo_C (nb := nb t) (hnb := (coord1 t).symm) ..).trans ?_
  rw [coord1 t, kc_prev m c t (by omega)]

theorem out8hi_C (j : Fin 8) (x : Fin 128) (s : Fin 512) :
    (outsAt0 m c t.val t.isLt).2.1 (ix2 (key j s) (hi x)) = (outsAt0 m c t.val t.isLt).2.2.2.2.1 (ix3 j x s) := by
  rw [scr2_C m c t h1 h2 h3 j x s]
  rw [outsAt0_C m c t (by omega) h1 h2 h3]
  dsimp only
  unfold out0_C_8 MX
  refine (o8hi_C (nb := nb t) (hnb := (coord1 t).symm) ..).trans ?_
  rw [coord1 t, kc_prev m c t (by omega)]

end

theorem scr1_D (h0 : ¬t.val % 128 = 0) (h1 : t.val % 8 = 0) (j : Fin 8) (x : Fin 128) (s : Fin 512) :
    (outsAt0 m c t.val t.isLt).2.2.2.1 (ix3 j x s)
      = 0 + (X m c t).tk (ZX m c t j) (lo x) s := by
  rw [outsAt0_D m c t h0 h1 (by omega) (by omega)]
  dsimp only
  unfold sout0_D_1 ZX
  refine (s1_D (nb := nb t) (hnb := (coord1 t).symm) ..).trans ?_
  rw [coord1 t, KC_first m c t (by omega)]

theorem scr2_D (h0 : ¬t.val % 128 = 0) (h1 : t.val % 8 = 0) (j : Fin 8) (x : Fin 128) (s : Fin 512) :
    (outsAt0 m c t.val t.isLt).2.2.2.2.1 (ix3 j x s)
      = 0 + (X m c t).tv (MX m c t j) x s := by
  rw [outsAt0_D m c t h0 h1 (by omega) (by omega)]
  dsimp only
  unfold sout0_D_2 MX
  refine (s2_D (nb := nb t) (hnb := (coord1 t).symm) ..).trans ?_
  rw [coord1 t, KC_first m c t (by omega)]

theorem scr3_D (h0 : ¬t.val % 128 = 0) (h1 : t.val % 8 = 0) (j : Fin 8) (x : Fin 128) (s : Fin 512) :
    (outsAt0 m c t.val t.isLt).2.2.2.2.2.1 (ix3 j x s)
      = (outsAt0 m c (t.val - 1) (Nat.lt_of_le_of_lt (Nat.sub_le _ _) t.isLt)).2.2.2.2.2.1 (ix3 j x s) + (X m c t).tk (ZX m c t j) (hi x) s := by
  rw [outsAt0_D m c t h0 h1 (by omega) (by omega)]
  dsimp only
  unfold sout0_D_3 ZX
  refine (s3_D (nb := nb t) (hnb := (coord1 t).symm) ..).trans ?_
  rw [coord1 t, KC_first m c t (by omega)]

theorem out7_D (h0 : ¬t.val % 128 = 0) (h1 : t.val % 8 = 0) (r : Fin 512) (x : Fin 256) :
    (outsAt0 m c t.val t.isLt).1 (ix2 r x) = ∑ j, (X m c t).tq (ZX m c t j) j r x := by
  rw [outsAt0_D m c t h0 h1 (by omega) (by omega)]
  dsimp only
  unfold out0_D_7 ZX
  refine (o7_D (nb := nb t) (hnb := (coord1 t).symm) ..).trans ?_
  rw [coord1 t, KC_first m c t (by omega)]

theorem scr1_E (h3 : t.val % 128 = 127) (j : Fin 8) (x : Fin 128) (s : Fin 512) :
    (outsAt0 m c t.val t.isLt).2.2.2.1 (ix3 j x s)
      = (outsAt0 m c (t.val - 1) (Nat.lt_of_le_of_lt (Nat.sub_le _ _) t.isLt)).2.2.2.1 (ix3 j x s) + (X m c t).tk (ZX m c t j) (lo x) s := by
  rw [outsAt0_E m c t (by omega) (by omega) (by omega) h3]
  dsimp only
  unfold sout0_E_1 ZX
  refine (s1_E (nb := nb t) (hnb := (coord1 t).symm) ..).trans ?_
  rw [coord1 t, kc_prev m c t (by omega)]

theorem scr2_E (h3 : t.val % 128 = 127) (j : Fin 8) (x : Fin 128) (s : Fin 512) :
    (outsAt0 m c t.val t.isLt).2.2.2.2.1 (ix3 j x s)
      = (outsAt0 m c (t.val - 1) (Nat.lt_of_le_of_lt (Nat.sub_le _ _) t.isLt)).2.2.2.2.1 (ix3 j x s) + (X m c t).tv (MX m c t j) x s := by
  rw [outsAt0_E m c t (by omega) (by omega) (by omega) h3]
  dsimp only
  unfold sout0_E_2 MX
  refine (s2_E (nb := nb t) (hnb := (coord1 t).symm) ..).trans ?_
  rw [coord1 t, kc_prev m c t (by omega)]

theorem scr3_E (h3 : t.val % 128 = 127) (j : Fin 8) (x : Fin 128) (s : Fin 512) :
    (outsAt0 m c t.val t.isLt).2.2.2.2.2.1 (ix3 j x s)
      = (outsAt0 m c (t.val - 1) (Nat.lt_of_le_of_lt (Nat.sub_le _ _) t.isLt)).2.2.2.2.2.1 (ix3 j x s) + (X m c t).tk (ZX m c t j) (hi x) s := by
  rw [outsAt0_E m c t (by omega) (by omega) (by omega) h3]
  dsimp only
  unfold sout0_E_3 ZX
  refine (s3_E (nb := nb t) (hnb := (coord1 t).symm) ..).trans ?_
  rw [coord1 t, kc_prev m c t (by omega)]

theorem out7_E (h3 : t.val % 128 = 127) (r : Fin 512) (x : Fin 256) :
    (outsAt0 m c t.val t.isLt).1 (ix2 r x) = ∑ j, (X m c t).tq (ZX m c t j) j r x := by
  rw [outsAt0_E m c t (by omega) (by omega) (by omega) h3]
  dsimp only
  unfold out0_E_7 ZX
  refine (o7_E (nb := nb t) (hnb := (coord1 t).symm) ..).trans ?_
  rw [coord1 t, kc_prev m c t (by omega)]

theorem out8lo_E (h3 : t.val % 128 = 127) (j : Fin 8) (x : Fin 128) (s : Fin 512) :
    (outsAt0 m c t.val t.isLt).2.1 (ix2 (key j s) (lo x)) = (outsAt0 m c t.val t.isLt).2.2.2.1 (ix3 j x s) := by
  rw [scr1_E m c t h3 j x s]
  rw [outsAt0_E m c t (by omega) (by omega) (by omega) h3]
  dsimp only
  unfold out0_E_8 ZX
  refine (o8lo_E (nb := nb t) (hnb := (coord1 t).symm) ..).trans ?_
  rw [coord1 t, kc_prev m c t (by omega)]

theorem out8hi_E (h3 : t.val % 128 = 127) (j : Fin 8) (x : Fin 128) (s : Fin 512) :
    (outsAt0 m c t.val t.isLt).2.1 (ix2 (key j s) (hi x)) = (outsAt0 m c t.val t.isLt).2.2.2.2.1 (ix3 j x s) := by
  rw [scr2_E m c t h3 j x s]
  rw [outsAt0_E m c t (by omega) (by omega) (by omega) h3]
  dsimp only
  unfold out0_E_8 MX
  refine (o8hi_E (nb := nb t) (hnb := (coord1 t).symm) ..).trans ?_
  rw [coord1 t, kc_prev m c t (by omega)]

theorem out9_E (h3 : t.val % 128 = 127) (j : Fin 8) (x : Fin 128) (s : Fin 512) :
    (outsAt0 m c t.val t.isLt).2.2.1 (ix2 (key j s) x) = (outsAt0 m c t.val t.isLt).2.2.2.2.2.1 (ix3 j x s) := by
  rw [scr3_E m c t h3 j x s]
  rw [outsAt0_E m c t (by omega) (by omega) (by omega) h3]
  dsimp only
  unfold out0_E_9 ZX
  refine (o9_E (nb := nb t) (hnb := (coord1 t).symm) ..).trans ?_
  rw [coord1 t, kc_prev m c t (by omega)]

theorem out7_at (r : Fin 512) (x : Fin 256) :
    (outsAt0 m c t.val t.isLt).1 (ix2 r x) = ∑ j, (X m c t).tq (ZX m c t j) j r x := by
  by_cases h0 : t.val % 128 = 0
  · exact out7_A m c t h0 r x
  by_cases h1 : t.val % 8 = 0
  · exact out7_D m c t h0 h1 r x
  by_cases h2 : t.val % 8 = 7
  · by_cases h3 : t.val % 128 = 127
    · exact out7_E m c t h3 r x
    · exact out7_C m c t h1 h2 h3 r x
  · exact out7_B m c t h1 h2 r x

end

/-- The running sum over the query tiles done so far. -/
theorem acc1 (c : Dev nD) (j : Fin 8) (x : Fin 128) (s : Fin 512) : ∀ (k : ℕ) (t : Fin cfg0.N), t.val = k →
    (outsAt0 m c t.val t.isLt).2.2.2.1 (ix3 j x s)
      = ∑ n' : Fin 8, if n'.val < t.val % 8 + 1 then (X m c (tile t n')).tk (ZX m c (tile t n') j) (lo x) s else 0 := by
  intro k
  induction k using Nat.strong_induction_on with
  | _ k ih =>
    intro t ht
    have hN := lt128 t
    have hs := sum_lt_succ (fun n' => (X m c (tile t n')).tk (ZX m c (tile t n') j) (lo x) s) (t.val % 8) (nb t) rfl
    refine Eq.trans ?_ hs.symm
    rw [tile_last t]
    by_cases h1 : t.val % 8 = 0
    · have e0 : (∑ n' : Fin 8, if n'.val < t.val % 8 then (X m c (tile t n')).tk (ZX m c (tile t n') j) (lo x) s else 0) = 0 :=
        Finset.sum_eq_zero fun n' _ => if_neg (by omega)
      rw [e0]
      by_cases h0 : t.val % 128 = 0
      · exact scr1_A m c t h0 j x s
      · exact scr1_D m c t h0 h1 j x s
    · have hp := ih (t.val - 1) (by omega) (prev t) rfl
      have e1 : (t.val - 1) % 8 + 1 = t.val % 8 := by omega
      simp only [e1, tile_prev t h1] at hp
      by_cases h2 : t.val % 8 = 7
      · by_cases h3 : t.val % 128 = 127
        · rw [scr1_E m c t h3 j x s, hp]
        · rw [scr1_C m c t h1 h2 h3 j x s, hp]
      · rw [scr1_B m c t h1 h2 j x s, hp]

/-- The running sum over the query tiles done so far. -/
theorem acc2 (c : Dev nD) (j : Fin 8) (x : Fin 128) (s : Fin 512) : ∀ (k : ℕ) (t : Fin cfg0.N), t.val = k →
    (outsAt0 m c t.val t.isLt).2.2.2.2.1 (ix3 j x s)
      = ∑ n' : Fin 8, if n'.val < t.val % 8 + 1 then (X m c (tile t n')).tv (MX m c (tile t n') j) x s else 0 := by
  intro k
  induction k using Nat.strong_induction_on with
  | _ k ih =>
    intro t ht
    have hN := lt128 t
    have hs := sum_lt_succ (fun n' => (X m c (tile t n')).tv (MX m c (tile t n') j) x s) (t.val % 8) (nb t) rfl
    refine Eq.trans ?_ hs.symm
    rw [tile_last t]
    by_cases h1 : t.val % 8 = 0
    · have e0 : (∑ n' : Fin 8, if n'.val < t.val % 8 then (X m c (tile t n')).tv (MX m c (tile t n') j) x s else 0) = 0 :=
        Finset.sum_eq_zero fun n' _ => if_neg (by omega)
      rw [e0]
      by_cases h0 : t.val % 128 = 0
      · exact scr2_A m c t h0 j x s
      · exact scr2_D m c t h0 h1 j x s
    · have hp := ih (t.val - 1) (by omega) (prev t) rfl
      have e1 : (t.val - 1) % 8 + 1 = t.val % 8 := by omega
      simp only [e1, tile_prev t h1] at hp
      by_cases h2 : t.val % 8 = 7
      · by_cases h3 : t.val % 128 = 127
        · rw [scr2_E m c t h3 j x s, hp]
        · rw [scr2_C m c t h1 h2 h3 j x s, hp]
      · rw [scr2_B m c t h1 h2 j x s, hp]

theorem sum_lt_succ' {n : ℕ} (f : Fin n → EReal) (k : ℕ) (j : Fin n) (hj : j.val = k) :
    (∑ i, if i.val < k + 1 then f i else 0) = (∑ i, if i.val < k then f i else 0) + f j := by
  have h : ∀ i : Fin n, (if i.val < k + 1 then f i else 0) = (if i.val < k then f i else 0) + if i = j then f i else 0 := fun i => by
    by_cases h1 : i.val < k
    · rw [if_pos (by omega), if_pos h1, if_neg (fun h => by subst h; omega), add_zero]
    · by_cases h2 : i = j
      · rw [if_pos (by subst h2; omega), if_neg h1, if_pos h2, zero_add]
      · rw [if_neg (fun h => h2 (Fin.ext (by omega))), if_neg h1, if_neg h2, zero_add]
  rw [Finset.sum_congr rfl fun i _ => h i, Finset.sum_add_distrib]
  simp

/-- The running sum over all points done so far. -/
theorem acc3 (c : Dev nD) (j : Fin 8) (x : Fin 128) (s : Fin 512) : ∀ (k : ℕ) (t : Fin cfg0.N), t.val = k →
    (outsAt0 m c t.val t.isLt).2.2.2.2.2.1 (ix3 j x s)
      = ∑ t' : Fin cfg0.N, if t'.val < t.val + 1 then (X m c t').tk (ZX m c t' j) (hi x) s else 0 := by
  intro k
  induction k using Nat.strong_induction_on with
  | _ k ih =>
    intro t ht
    have hN := lt128 t
    refine Eq.trans ?_ (sum_lt_succ' (fun t' => (X m c t').tk (ZX m c t' j) (hi x) s) t.val t rfl).symm
    by_cases h0 : t.val % 128 = 0
    · have e0 : (∑ t' : Fin cfg0.N, if t'.val < t.val then (X m c t').tk (ZX m c t' j) (hi x) s else 0) = 0 :=
        Finset.sum_eq_zero fun n' _ => if_neg (by omega)
      rw [e0]
      exact scr3_A m c t h0 j x s
    · have hp := ih (t.val - 1) (by omega) (prev t) rfl
      have e1 : t.val - 1 + 1 = t.val := by omega
      simp only [e1] at hp
      by_cases h1 : t.val % 8 = 0
      · rw [scr3_D m c t h0 h1 j x s, hp]
      by_cases h2 : t.val % 8 = 7
      · by_cases h3 : t.val % 128 = 127
        · rw [scr3_E m c t h3 j x s, hp]
        · rw [scr3_C m c t h1 h2 h3 j x s, hp]
      · rw [scr3_B m c t h1 h2 j x s, hp]

/-- At the last query tile the running sum is written out. -/
theorem out8lo_at (c : Dev nD) (t : Fin cfg0.N) (h2 : t.val % 8 = 7) (j : Fin 8) (x : Fin 128) (s : Fin 512) :
    (outsAt0 m c t.val t.isLt).2.1 (ix2 (key j s) (lo x)) = ∑ n' : Fin 8, (X m c (tile t n')).tk (ZX m c (tile t n') j) (lo x) s := by
  have e : (outsAt0 m c t.val t.isLt).2.1 (ix2 (key j s) (lo x)) = (outsAt0 m c t.val t.isLt).2.2.2.1 (ix3 j x s) := by
    by_cases h3 : t.val % 128 = 127
    · exact out8lo_E m c t h3 j x s
    · exact out8lo_C m c t (by omega) h2 h3 j x s
  rw [e, acc1 m c j x s _ t rfl]
  exact Finset.sum_congr rfl fun n' _ => if_pos (by have := n'.isLt; omega)

/-- At the last query tile the running sum is written out. -/
theorem out8hi_at (c : Dev nD) (t : Fin cfg0.N) (h2 : t.val % 8 = 7) (j : Fin 8) (x : Fin 128) (s : Fin 512) :
    (outsAt0 m c t.val t.isLt).2.1 (ix2 (key j s) (hi x)) = ∑ n' : Fin 8, (X m c (tile t n')).tv (MX m c (tile t n') j) x s := by
  have e : (outsAt0 m c t.val t.isLt).2.1 (ix2 (key j s) (hi x)) = (outsAt0 m c t.val t.isLt).2.2.2.2.1 (ix3 j x s) := by
    by_cases h3 : t.val % 128 = 127
    · exact out8hi_E m c t h3 j x s
    · exact out8hi_C m c t (by omega) h2 h3 j x s
  rw [e, acc2 m c j x s _ t rfl]
  exact Finset.sum_congr rfl fun n' _ => if_pos (by have := n'.isLt; omega)

/-- At the last point the sum over all points is written out. -/
theorem out9_at (c : Dev nD) (t : Fin cfg0.N) (h3 : t.val % 128 = 127) (j : Fin 8) (x : Fin 128) (s : Fin 512) :
    (outsAt0 m c t.val t.isLt).2.2.1 (ix2 (key j s) x) = ∑ t' : Fin cfg0.N, (X m c t').tk (ZX m c t' j) (hi x) s := by
  rw [out9_E m c t h3 j x s, acc3 m c j x s _ t rfl]
  have := lt128 t
  exact Finset.sum_congr rfl fun t' _ => if_pos (by have := lt128 t'; omega)

end Cert.MlaIdeal.Bwd

end
-- ==== Proof.MHead.lean ====
module

public import proofs.«01_k».proof.Proof.MSpec
public import proofs.«01_k».proof.Proof.Reals

@[expose] public section

set_option maxRecDepth 16384

noncomputable section

namespace Cert.MlaIdeal.Bwd

open Idealize.ShloMosaic
open Cert.KernelIdeal.Bwd (key key_le sum_key coe_sum coe_ite fold_max_real)

/-- Column `x` of head `h`, 256 columns a head. -/
def col (h : Fin 16) (x : Fin 256) : Fin 4096 := ⟨256 * h.val + x.val, by omega⟩

/-- The 64 rotary columns and the 64 padded ones. -/
def mid (x : Fin 64) : Fin 256 := ⟨128 + x.val, by omega⟩
def top (x : Fin 64) : Fin 256 := ⟨192 + x.val, by omega⟩
/-- A rotary column among the last 128. -/
def lo64 (x : Fin 64) : Fin 128 := ⟨x.val, by omega⟩

theorem hi_lo64 (x : Fin 64) : hi (lo64 x) = mid x := rfl

theorem sum_parts (f : Fin 256 → ℝ) : ∑ x, f x = ∑ x, f (lo x) + (∑ x, f (mid x) + ∑ x, f (top x)) := by
  rw [show ∑ x, f x = ∑ x : Fin (128 + (64 + 64)), f x from rfl, Fin.sum_univ_add, Fin.sum_univ_add]
  refine congrArg₂ _ rfl (congrArg₂ _ rfl ?_)
  refine Finset.sum_congr rfl fun x _ => congrArg f (Fin.ext ?_)
  show 128 + (64 + x.val) = 192 + x.val
  omega

/-- The query `t` may see the key `s` when the key's block of 64 does not come later. -/
def vis (t s : Fin 4096) : Prop := s.val / 64 ≤ t.val / 64

instance (t s : Fin 4096) : Decidable (vis t s) := inferInstanceAs (Decidable (_ ≤ _))

theorem vis_key (n j : Fin 8) (r s : Fin 512) : vis (key n r) (key j s) ↔ j.val < n.val ∨ (j.val = n.val ∧ s.val / 64 ≤ r.val / 64) := by
  show (512 * j.val + s.val) / 64 ≤ (512 * n.val + r.val) / 64 ↔ _
  omega

/-- One head of the attention: its queries, keys, values, the result's gradient, and per row the log-sum and the row's
share `dl`. -/
structure Head where
  q : Fin 4096 → Fin 256 → EReal
  k : Fin 4096 → Fin 256 → EReal
  v : Fin 4096 → Fin 128 → EReal
  g : Fin 4096 → Fin 128 → EReal
  l : Fin 4096 → EReal
  dl : Fin 4096 → EReal

namespace Head

variable (H : Head)

def pt (n : Fin 8) : Pt where
  q r x := H.q (key n r) x
  g r x := H.g (key n r) x
  l r := H.l (key n r)
  dl r := H.dl (key n r)
  k := H.k
  v := H.v

def P (t s : Fin 4096) : EReal := if vis t s then Ideal.exp ((∑ x, H.q t x * H.k s x) * sc - H.l t) else 0
def Z (t s : Fin 4096) : EReal := H.P t s * ((∑ x, H.g t x * H.v s x) - H.dl t) * sc
def dq (t : Fin 4096) (x : Fin 256) : EReal := ∑ s, H.Z t s * H.k s x
def dk (s : Fin 4096) (x : Fin 256) : EReal := ∑ t, H.q t x * H.Z t s
def dv (s : Fin 4096) (x : Fin 128) : EReal := ∑ t, H.g t x * H.P t s

theorem M_pt (n j : Fin 8) (r s : Fin 512) : (H.pt n).M n.val j r s = H.P (key n r) (key j s) := by
  unfold Pt.M P
  simp only [vis_key]
  by_cases h : j.val < n.val
  · rw [if_pos h, if_pos (Or.inl h)]
    rfl
  · rw [if_neg h]
    by_cases h1 : j.val = n.val
    · rw [if_pos h1]
      by_cases h2 : s.val / 64 ≤ r.val / 64
      · rw [if_pos h2, if_pos (Or.inr ⟨h1, h2⟩)]
        rfl
      · rw [if_neg h2, if_neg (by omega)]
    · rw [if_neg h1, if_neg (by omega)]

theorem Z_pt (n j : Fin 8) (r s : Fin 512) : (H.pt n).Z n.val j r s = H.Z (key n r) (key j s) := by
  unfold Pt.Z Z
  rw [M_pt]
  rfl

theorem dq_pt (n : Fin 8) (r : Fin 512) (x : Fin 256) : ∑ j, (H.pt n).tq ((H.pt n).Z n.val j) j r x = H.dq (key n r) x := by
  unfold Pt.tq dq
  rw [sum_key]
  simp only [Z_pt]
  rfl

theorem dk_pt (j : Fin 8) (s : Fin 512) (x : Fin 256) : ∑ n, (H.pt n).tk ((H.pt n).Z n.val j) x s = H.dk (key j s) x := by
  unfold Pt.tk dk
  rw [sum_key]
  simp only [Z_pt]
  rfl

theorem dv_pt (j : Fin 8) (s : Fin 512) (x : Fin 128) : ∑ n, (H.pt n).tv ((H.pt n).M n.val j) x s = H.dv (key j s) x := by
  unfold Pt.tv dv
  rw [sum_key]
  simp only [M_pt]
  rfl

end Head

/-- The real number that the scale's constant stands for. -/
def σ : ℝ := sc.toReal

theorem sc_coe : sc = (σ : EReal) := by
  have h : ∃ r : ℝ, sc = (r : EReal) := by
    unfold sc
    simp [Ideal.ofBits, Ideal.ieee]
    exact ⟨_, rfl⟩
  obtain ⟨r, h⟩ := h
  unfold σ
  rw [h, EReal.toReal_coe]

/-- One head over the reals, with the row shift `μ` of the exponentials. -/
structure RHead where
  Q : Fin 4096 → Fin 256 → ℝ
  K : Fin 4096 → Fin 256 → ℝ
  V : Fin 4096 → Fin 128 → ℝ
  G : Fin 4096 → Fin 128 → ℝ
  μ : Fin 4096 → ℝ

namespace RHead

variable (R : RHead)

def w (t s : Fin 4096) : ℝ := (∑ x, R.Q t x * R.K s x) * σ
def e (t s : Fin 4096) : ℝ := if vis t s then Real.exp (R.w t s - R.μ t) else 0
def L (t : Fin 4096) : ℝ := ∑ s, R.e t s
def p (t s : Fin 4096) : ℝ := R.e t s / R.L t
def pb (t s : Fin 4096) : ℝ := ∑ x, R.G t x * R.V s x
def o (t : Fin 4096) (x : Fin 128) : ℝ := ∑ s, R.p t s * R.V s x
def δ (t : Fin 4096) : ℝ := ∑ x, R.G t x * R.o t x
def z (t s : Fin 4096) : ℝ := R.p t s * (R.pb t s - R.δ t)

/-- The largest visible logit of a row, from which the host subtracts. -/
def mx (t : Fin 4096) : EReal := (Finset.univ : Finset (Fin 4096)).fold max ⊥ fun s => if vis t s then (R.w t s : EReal) else ⊥

theorem vis_self (t : Fin 4096) : vis t t := le_refl _

theorem mx_real (t : Fin 4096) : ∃ μ : ℝ, R.mx t = (μ : EReal) := by
  refine fold_max_real _ (fun s => ?_) t ?_
  · split_ifs
    · exact EReal.coe_ne_top _
    · exact bot_ne_top
  · rw [if_pos (vis_self t)]
    exact EReal.coe_ne_bot _

theorem e_nonneg (t s : Fin 4096) : 0 ≤ R.e t s := by
  unfold e
  split_ifs
  · exact (Real.exp_pos _).le
  · exact le_refl _

theorem L_pos (t : Fin 4096) : 0 < R.L t := by
  refine Finset.sum_pos' (fun s _ => R.e_nonneg t s) ⟨t, Finset.mem_univ _, ?_⟩
  unfold e
  rw [if_pos (vis_self t)]
  exact Real.exp_pos _

theorem δ_eq (t : Fin 4096) : R.δ t = ∑ s, R.p t s * R.pb t s := by
  unfold δ o pb
  simp only [Finset.mul_sum]
  rw [Finset.sum_comm]
  refine Finset.sum_congr rfl fun s _ => Finset.sum_congr rfl fun x _ => ?_
  ring

/-- The gradient of the logit as the derivative of the exponentials and of their sum gives it. -/
theorem z_eq (t s : Fin 4096) :
    (R.pb t s / R.L t + -(∑ s', R.pb t s' * (1 / (R.L t * R.L t)) * R.e t s')) * R.e t s = R.z t s := by
  unfold z
  rw [δ_eq]
  have h : (∑ s', R.pb t s' * (1 / (R.L t * R.L t)) * R.e t s') = (∑ s', R.p t s' * R.pb t s') / R.L t := by
    rw [Finset.sum_div]
    refine Finset.sum_congr rfl fun s' _ => ?_
    unfold p
    have := (R.L_pos t).ne'
    field_simp
  rw [h]
  unfold p
  have := (R.L_pos t).ne'
  field_simp
  ring

theorem p_masked (t s : Fin 4096) (h : ¬ vis t s) : R.p t s = 0 := by
  unfold p e
  rw [if_neg h, zero_div]

theorem z_masked (t s : Fin 4096) (h : ¬ vis t s) : R.z t s = 0 := by
  unfold z
  rw [p_masked R t s h, zero_mul]

/-- The head with the saved row quantities. -/
def toHead : Head where
  q t x := (R.Q t x : EReal)
  k t x := (R.K t x : EReal)
  v t x := (R.V t x : EReal)
  g t x := (R.G t x : EReal)
  l t := ((R.μ t + Real.log (R.L t) : ℝ) : EReal)
  dl t := (R.δ t : EReal)

theorem qk_coe (t s : Fin 4096) : (∑ x, (R.Q t x : EReal) * R.K s x) * sc = (R.w t s : EReal) := by
  unfold w
  rw [sc_coe]
  push_cast [coe_sum]
  rfl

/-- The logit by parts: the padded columns hold zeros. -/
theorem w_coe (h0 : ∀ t x, R.Q t (top x) = 0) (t s : Fin 4096) :
    ((∑ x, (R.Q t (lo x) : EReal) * R.K s (lo x)) + ∑ x, (R.Q t (mid x) : EReal) * R.K s (mid x)) * sc = (R.w t s : EReal) := by
  unfold w
  rw [sc_coe, sum_parts]
  simp only [h0, zero_mul, Finset.sum_const_zero, add_zero]
  push_cast [coe_sum]
  rfl

theorem e_coe (t s : Fin 4096) : Ideal.exp ((if vis t s then (R.w t s : EReal) else ⊥) - (R.μ t : EReal)) = (R.e t s : EReal) := by
  unfold e
  split_ifs with h
  · rw [← EReal.coe_sub, Ideal.exp_coe]
  · rw [EReal.bot_sub, Ideal.exp_bot]
    rfl

theorem div_L (t : Fin 4096) (a : ℝ) : Ideal.div (a : EReal) (R.L t : EReal) = ((a / R.L t : ℝ) : EReal) := by
  rw [Ideal.div_coe (R.L_pos t).ne', ← EReal.coe_mul, mul_one_div]

theorem div_LL (t : Fin 4096) : Ideal.div 1 ((R.L t * R.L t : ℝ) : EReal) = ((1 / (R.L t * R.L t) : ℝ) : EReal) := by
  rw [Ideal.div_coe (mul_pos (R.L_pos t) (R.L_pos t)).ne', one_mul]

theorem log_L (t : Fin 4096) : Ideal.log (R.L t : EReal) = (Real.log (R.L t) : EReal) := by
  rw [Ideal.log_coe, if_neg (not_le.mpr (R.L_pos t))]

theorem pb_coe (t s : Fin 4096) : (∑ x, (R.G t x : EReal) * R.V s x) = (R.pb t s : EReal) := by
  unfold pb
  push_cast [coe_sum]
  rfl

theorem P_coe (t s : Fin 4096) : R.toHead.P t s = (R.p t s : EReal) := by
  unfold Head.P
  split_ifs with h
  · show Ideal.exp ((∑ x, (R.Q t x : EReal) * R.K s x) * sc - ((R.μ t + Real.log (R.L t) : ℝ) : EReal)) = _
    rw [qk_coe, ← EReal.coe_sub, Ideal.exp_coe]
    unfold p e
    rw [if_pos h, ← sub_sub, Real.exp_sub, Real.exp_log (R.L_pos t)]
  · rw [p_masked R t s h]
    rfl

theorem Z_coe (t s : Fin 4096) : R.toHead.Z t s = (R.z t s : EReal) * sc := by
  unfold Head.Z z
  rw [P_coe]
  show _ * ((∑ x, (R.G t x : EReal) * R.V s x) - (R.δ t : EReal)) * sc = _
  rw [pb_coe]
  push_cast
  rfl

theorem dq_coe (t : Fin 4096) (x : Fin 256) : R.toHead.dq t x = ∑ s, (R.z t s : EReal) * sc * (R.K s x : EReal) :=
  Finset.sum_congr rfl fun s _ => by rw [Z_coe]; rfl

theorem dk_coe (s : Fin 4096) (x : Fin 256) : R.toHead.dk s x = ∑ t, (R.z t s : EReal) * sc * (R.Q t x : EReal) :=
  Finset.sum_congr rfl fun t _ => by rw [Z_coe, mul_comm]; rfl

theorem dv_coe (s : Fin 4096) (x : Fin 128) : R.toHead.dv s x = ∑ t, (R.G t x : EReal) * (R.p t s : EReal) :=
  Finset.sum_congr rfl fun t _ => by rw [P_coe]; rfl

end RHead

end Cert.MlaIdeal.Bwd

end
-- ==== Proof.MBridge.lean ====
module

public import proofs.«01_k».proof.Proof.MGrid
public import proofs.«01_k».proof.Proof.MHead
public import Idealize.ShloMosaic.Lib.Pipeline.ValueKit

@[expose] public section

set_option maxRecDepth 16384

noncomputable section

namespace Cert.MlaIdeal.Bwd

open Idealize.ShloMosaic Idealize.ShloMosaic.TcCoe Cert.MlaIdeal Cert.MlaIdeal.Gen Cert.Slab
open Idealize.ShloMosaic.Pipeline (Dat)
open Cert.KernelIdeal.Bwd (key key_surj)

variable (m : (ℓ : Loc nD τ sig) → Buf (Elt Ideal) ℓ)

/-- Column `x` of head `h`, 128 columns a head. -/
abbrev col1 (h : Fin 16) (x : Fin 128) : Fin 2048 := Cert.KernelIdeal.Bwd.col h x

theorem idx0 : ∀ t : Fin cfg0.N, win0_0.index t = ![t.val % 8, t.val / 8] :=
  (by decide +kernel : ∀ t : Fin grid0.N, win0_0.index t = ![t.val % 8, t.val / 8])
theorem idx1 : ∀ t : Fin cfg0.N, win0_1.index t = ![0, 2 * (t.val / 8)] :=
  (by decide +kernel : ∀ t : Fin grid0.N, win0_1.index t = ![0, 2 * (t.val / 8)])
theorem idx2 : ∀ t : Fin cfg0.N, win0_2.index t = ![0, 2 * (t.val / 8) + 1] :=
  (by decide +kernel : ∀ t : Fin grid0.N, win0_2.index t = ![0, 2 * (t.val / 8) + 1])
theorem idx3 : ∀ t : Fin cfg0.N, win0_3.index t = ![0, 0] :=
  (by decide +kernel : ∀ t : Fin grid0.N, win0_3.index t = ![0, 0])
theorem idx4 : ∀ t : Fin cfg0.N, win0_4.index t = ![t.val % 8, t.val / 8] :=
  (by decide +kernel : ∀ t : Fin grid0.N, win0_4.index t = ![t.val % 8, t.val / 8])
theorem idx5 : ∀ t : Fin cfg0.N, win0_5.index t = ![t.val / 8, t.val % 8, 0] :=
  (by decide +kernel : ∀ t : Fin grid0.N, win0_5.index t = ![t.val / 8, t.val % 8, 0])
theorem idx6 : ∀ t : Fin cfg0.N, win0_6.index t = ![t.val / 8, t.val % 8, 0] :=
  (by decide +kernel : ∀ t : Fin grid0.N, win0_6.index t = ![t.val / 8, t.val % 8, 0])
theorem idx7 : ∀ t : Fin cfg0.N, win0_7.index t = ![t.val % 8, t.val / 8] :=
  (by decide +kernel : ∀ t : Fin grid0.N, win0_7.index t = ![t.val % 8, t.val / 8])
theorem idx8 : ∀ t : Fin cfg0.N, win0_8.index t = ![0, t.val / 8] :=
  (by decide +kernel : ∀ t : Fin grid0.N, win0_8.index t = ![0, t.val / 8])
theorem idx9 : ∀ t : Fin cfg0.N, win0_9.index t = ![0, 0] :=
  (by decide +kernel : ∀ t : Fin grid0.N, win0_9.index t = ![0, 0])

/-- The head of the point `t`. -/
abbrev hd (t : Fin cfg0.N) : Fin 16 := ⟨t.val / 8, by have h : t.val < 128 := lt_of_lt_of_eq t.isLt N_0; omega⟩

/-- The keys of the head `h`: the head's own 128 columns, then the 128 shared ones. -/
def keys (c : Dev nD) (h : Fin 16) (s : Fin 4096) (x : Fin 256) : EReal :=
  if hx : x.val < 128 then (V m c main_v42 : Vec Ideal S4096x4096 .bf16) (ix2 s (col h x))
  else (V m c main_v44 : Vec Ideal S4096x128 .bf16) (ix2 s ⟨x.val - 128, by omega⟩)

/-- The head `h` as the region finds it. -/
def head (c : Dev nD) (h : Fin 16) : Head where
  q t x := V m c main_v39 (ix2 t (col h x))
  k s x := keys m c h s x
  v t x := V m c main_v42 (ix2 t (col h (hi x)))
  g t x := V m c main_v46 (ix2 t (col1 h x))
  l t := V m c main_v27 (ix3 h t 0)
  dl t := V m c main_v35 (ix3 h t 0)

section
variable (c : Dev nD) (t : Fin cfg0.N)
include c t

theorem rd0 (A : Buf (Elt Ideal) ((c : Thread nD τ).loc main_v39)) (r : Fin 512) (x : Fin 256) :
    ((cfg0.win 0).blk t).view.read (Elt Ideal) A (ix2 r x) = A (ix2 (key (nb t) r) (col (hd t) x)) := by
  blk_simp
  refine congrArg A (funext fun a => Fin.ext ?_)
  match a with
  | ⟨0, _⟩ =>
    blk_simp [idx0 t]
    all_goals (show t.val % 8 * 512 + r.val = 512 * (t.val % 8) + r.val; omega)
  | ⟨1, _⟩ =>
    blk_simp [idx0 t]
    all_goals (show t.val / 8 * 256 + x.val = 256 * (t.val / 8) + x.val; omega)

theorem blk0 (r : Fin 512) (x : Fin 256) : iblk m c 0 t (ix2 r x) = V m c main_v39 (ix2 (key (nb t) r) (col (hd t) x)) :=
  rd0 c t (V m c main_v39) r x

theorem rd1 (A : Buf (Elt Ideal) ((c : Thread nD τ).loc main_v42)) (s : Fin 4096) (x : Fin 128) :
    ((cfg0.win 1).blk t).view.read (Elt Ideal) A (ix2 s x) = A (ix2 s (col (hd t) (lo x))) := by
  blk_simp
  refine congrArg A (funext fun a => Fin.ext ?_)
  match a with
  | ⟨0, _⟩ =>
    blk_simp [idx1 t]
    all_goals (show 0 * 4096 + s.val = s.val; omega)
  | ⟨1, _⟩ =>
    blk_simp [idx1 t]
    all_goals (show 2 * (t.val / 8) * 128 + x.val = 256 * (t.val / 8) + x.val; omega)

theorem blk1 (s : Fin 4096) (x : Fin 128) : iblk m c 1 t (ix2 s x) = V m c main_v42 (ix2 s (col (hd t) (lo x))) :=
  rd1 c t (V m c main_v42) s x

theorem rd2 (A : Buf (Elt Ideal) ((c : Thread nD τ).loc main_v42)) (s : Fin 4096) (x : Fin 128) :
    ((cfg0.win 2).blk t).view.read (Elt Ideal) A (ix2 s x) = A (ix2 s (col (hd t) (hi x))) := by
  blk_simp
  refine congrArg A (funext fun a => Fin.ext ?_)
  match a with
  | ⟨0, _⟩ =>
    blk_simp [idx2 t]
    all_goals (show 0 * 4096 + s.val = s.val; omega)
  | ⟨1, _⟩ =>
    blk_simp [idx2 t]
    all_goals (show (2 * (t.val / 8) + 1) * 128 + x.val = 256 * (t.val / 8) + (128 + x.val); omega)

theorem blk2 (s : Fin 4096) (x : Fin 128) : iblk m c 2 t (ix2 s x) = V m c main_v42 (ix2 s (col (hd t) (hi x))) :=
  rd2 c t (V m c main_v42) s x

theorem rd3 (A : Buf (Elt Ideal) ((c : Thread nD τ).loc main_v44)) (s : Fin 4096) (x : Fin 128) :
    ((cfg0.win 3).blk t).view.read (Elt Ideal) A (ix2 s x) = A (ix2 s x) := by
  blk_simp
  refine congrArg A (funext fun a => Fin.ext ?_)
  match a with
  | ⟨0, _⟩ =>
    blk_simp [idx3 t]
    all_goals (show 0 * 4096 + s.val = s.val; omega)
  | ⟨1, _⟩ =>
    blk_simp [idx3 t]
    all_goals (show 0 * 128 + x.val = x.val; omega)

theorem blk3 (s : Fin 4096) (x : Fin 128) : iblk m c 3 t (ix2 s x) = V m c main_v44 (ix2 s x) :=
  rd3 c t (V m c main_v44) s x

theorem rd4 (A : Buf (Elt Ideal) ((c : Thread nD τ).loc main_v46)) (r : Fin 512) (x : Fin 128) :
    ((cfg0.win 4).blk t).view.read (Elt Ideal) A (ix2 r x) = A (ix2 (key (nb t) r) (col1 (hd t) x)) := by
  blk_simp
  refine congrArg A (funext fun a => Fin.ext ?_)
  match a with
  | ⟨0, _⟩ =>
    blk_simp [idx4 t]
    all_goals (show t.val % 8 * 512 + r.val = 512 * (t.val % 8) + r.val; omega)
  | ⟨1, _⟩ =>
    blk_simp [idx4 t]
    all_goals (show t.val / 8 * 128 + x.val = 128 * (t.val / 8) + x.val; omega)

theorem blk4 (r : Fin 512) (x : Fin 128) : iblk m c 4 t (ix2 r x) = V m c main_v46 (ix2 (key (nb t) r) (col1 (hd t) x)) :=
  rd4 c t (V m c main_v46) r x

theorem rd5 (A : Buf (Elt Ideal) ((c : Thread nD τ).loc main_v27)) (r : Fin 512) :
    ((cfg0.win 5).blk t).view.read (Elt Ideal) A (ix3 0 r 0) = A (ix3 (hd t) (key (nb t) r) 0) := by
  blk_simp
  refine congrArg A (funext fun a => Fin.ext ?_)
  match a with
  | ⟨0, _⟩ =>
    blk_simp [idx5 t]
    all_goals (show t.val / 8 + 0 = t.val / 8; omega)
  | ⟨1, _⟩ =>
    blk_simp [idx5 t]
    all_goals (show t.val % 8 * 512 + r.val = 512 * (t.val % 8) + r.val; omega)
  | ⟨2, _⟩ =>
    blk_simp [idx5 t]
    all_goals (show 0 * 1 + 0 = 0; omega)

theorem blk5 (r : Fin 512) : iblk m c 5 t (ix3 0 r 0) = V m c main_v27 (ix3 (hd t) (key (nb t) r) 0) :=
  rd5 c t (V m c main_v27) r

theorem rd6 (A : Buf (Elt Ideal) ((c : Thread nD τ).loc main_v35)) (r : Fin 512) :
    ((cfg0.win 6).blk t).view.read (Elt Ideal) A (ix3 0 r 0) = A (ix3 (hd t) (key (nb t) r) 0) := by
  blk_simp
  refine congrArg A (funext fun a => Fin.ext ?_)
  match a with
  | ⟨0, _⟩ =>
    blk_simp [idx6 t]
    all_goals (show t.val / 8 + 0 = t.val / 8; omega)
  | ⟨1, _⟩ =>
    blk_simp [idx6 t]
    all_goals (show t.val % 8 * 512 + r.val = 512 * (t.val % 8) + r.val; omega)
  | ⟨2, _⟩ =>
    blk_simp [idx6 t]
    all_goals (show 0 * 1 + 0 = 0; omega)

theorem blk6 (r : Fin 512) : iblk m c 6 t (ix3 0 r 0) = V m c main_v35 (ix3 (hd t) (key (nb t) r) 0) :=
  rd6 c t (V m c main_v35) r

end

theorem hd_tile (t : Fin cfg0.N) (n : Fin 8) : hd (tile t n) = hd t := by
  refine Fin.ext ?_
  show (8 * (t.val / 8) + n.val) / 8 = t.val / 8
  omega

theorem nb_tile (t : Fin cfg0.N) (n : Fin 8) : nb (tile t n) = n := by
  refine Fin.ext ?_
  show (8 * (t.val / 8) + n.val) % 8 = n.val
  omega

theorem KC_eq (c : Dev nD) (t : Fin cfg0.N) (s : Fin 4096) (x : Fin 256) : KC m c t (ix2 s x) = keys m c (hd t) s x := by
  unfold KC kcat keys
  split
  · rename_i h1
    rw [dif_pos (show x.val < 128 from h1)]
    refine (blk1 m c (tile t 0) s ⟨x.val, h1⟩).trans ?_
    rw [hd_tile]
    rfl
  · rename_i h1
    rw [dif_neg (show ¬ x.val < 128 from h1)]
    exact blk3 m c (tile t 0) s ⟨x.val - 128, by omega⟩

theorem X_eq (c : Dev nD) (t : Fin cfg0.N) : X m c t = (head m c (hd t)).pt (nb t) := by
  unfold X ptOf Head.pt head
  simp only [blk0, blk2, blk4, blk5, blk6, KC_eq]

theorem X_tile (c : Dev nD) (t : Fin cfg0.N) (n : Fin 8) : X m c (tile t n) = (head m c (hd t)).pt n := by
  rw [X_eq m c, hd_tile, nb_tile]

theorem tile_mod (t : ℕ) (n : Fin 8) : (8 * (t / 8) + n.val) % 8 = n.val := by omega

theorem out7_head (c : Dev nD) (t : Fin cfg0.N) (r : Fin 512) (x : Fin 256) :
    (outsAt0 m c t.val t.isLt).1 (ix2 r x) = (head m c (hd t)).dq (key (nb t) r) x := by
  rw [out7_at, ← Head.dq_pt]
  unfold ZX
  rw [X_eq m c]

theorem out8lo_head (c : Dev nD) (t : Fin cfg0.N) (h1 : t.val % 8 = 7) (j : Fin 8) (s : Fin 512) (x : Fin 128) :
    (outsAt0 m c t.val t.isLt).2.1 (ix2 (key j s) (lo x)) = (head m c (hd t)).dk (key j s) (lo x) := by
  rw [out8lo_at m c t h1, ← Head.dk_pt]
  unfold ZX
  simp only [X_tile m c, tile_mod]

theorem out8hi_head (c : Dev nD) (t : Fin cfg0.N) (h1 : t.val % 8 = 7) (j : Fin 8) (s : Fin 512) (x : Fin 128) :
    (outsAt0 m c t.val t.isLt).2.1 (ix2 (key j s) (hi x)) = (head m c (hd t)).dv (key j s) x := by
  rw [out8hi_at m c t h1, ← Head.dv_pt]
  unfold MX
  simp only [X_tile m c, tile_mod]

/-- A sum over the grid's points: over the heads, then over the tiles. -/
theorem sum_grid (f : Fin cfg0.N → EReal) (g : Fin 16 → Fin 8 → EReal) (hg : ∀ t, f t = g (hd t) (nb t)) : ∑ t, f t = ∑ h, ∑ n, g h n := by
  have e : ∑ t, f t = ∑ t : Fin 128, f (Fin.cast N_0.symm t) := (Equiv.sum_comp (finCongr N_0.symm) f).symm
  rw [e, Fin.sum_univ_tiles 16 8 rfl]
  refine Finset.sum_congr rfl fun h _ => Finset.sum_congr rfl fun n _ => ?_
  rw [hg]
  refine congrArg₂ g (Fin.ext ?_) (Fin.ext ?_)
  · show (h.val * 8 + n.val) / 8 = h.val
    omega
  · show (h.val * 8 + n.val) % 8 = n.val
    omega

theorem out9_head (c : Dev nD) (t : Fin cfg0.N) (h3 : t.val % 128 = 127) (j : Fin 8) (s : Fin 512) (x : Fin 128) :
    (outsAt0 m c t.val t.isLt).2.2.1 (ix2 (key j s) x) = ∑ h, (head m c h).dk (key j s) (hi x) := by
  rw [out9_at m c t h3]
  unfold ZX
  rw [sum_grid _ (fun h n => ((head m c h).pt n).tk (((head m c h).pt n).Z n.val j) (hi x) s) fun t => by rw [X_eq m c]]
  exact Finset.sum_congr rfl fun h _ => Head.dk_pt _ j s (hi x)

/-- The gradient of the shared keys, over all heads. -/
def dkr (c : Dev nD) (s : Fin 4096) (x : Fin 128) : EReal := ∑ h, (head m c h).dk s (hi x)

/-- The head and the column of a column of the results. -/
abbrev hcol (y : Fin 4096) : Fin 16 := ⟨y.val / 256, by omega⟩
abbrev xcol (y : Fin 4096) : Fin 256 := ⟨y.val % 256, by omega⟩

theorem hcol_col (h : Fin 16) (x : Fin 256) : hcol (col h x) = h := Fin.ext (by show (256 * h.val + x.val) / 256 = h.val; omega)
theorem xcol_col (h : Fin 16) (x : Fin 256) : xcol (col h x) = x := Fin.ext (by show (256 * h.val + x.val) % 256 = x.val; omega)

/-- The keys' and the values' gradient of one head, side by side. -/
def dkv (H : Head) (s : Fin 4096) (x : Fin 256) : EReal := if h : x.val < 128 then H.dk s x else H.dv s ⟨x.val - 128, by omega⟩

theorem dkv_lo (H : Head) (s : Fin 4096) (x : Fin 128) : dkv H s (lo x) = H.dk s (lo x) := dif_pos x.isLt
theorem dkv_hi (H : Head) (s : Fin 4096) (x : Fin 128) : dkv H s (hi x) = H.dv s x := by
  unfold dkv
  rw [dif_neg (show ¬ (hi x).val < 128 by show ¬ 128 + x.val < 128; omega)]
  refine congrArg (H.dv s) (Fin.ext ?_)
  show 128 + x.val - 128 = x.val
  omega

theorem lo_or_hi (x : Fin 256) : (∃ y, x = lo y) ∨ ∃ y, x = hi y := by
  by_cases h : x.val < 128
  · exact Or.inl ⟨⟨x.val, h⟩, rfl⟩
  · exact Or.inr ⟨⟨x.val - 128, by omega⟩, Fin.ext (by show x.val = 128 + (x.val - 128); omega)⟩

theorem out8_head (c : Dev nD) (t : Fin cfg0.N) (h1 : t.val % 8 = 7) (j : Fin 8) (s : Fin 512) (x : Fin 256) :
    (outsAt0 m c t.val t.isLt).2.1 (ix2 (key j s) x) = dkv (head m c (hd t)) (key j s) x := by
  rcases lo_or_hi x with ⟨y, rfl⟩ | ⟨y, rfl⟩
  · rw [out8lo_head m c t h1, dkv_lo]
  · rw [out8hi_head m c t h1, dkv_hi]

theorem emb7 (c : Dev nD) (t : Fin cfg0.N) (A : Buf (Elt Ideal) ((c : Thread nD τ).loc main_v47_0)) (r : Fin 512) (x : Fin 256) :
    A (((cfg0.win 7).blk t).view.emb (ix2 r x)) = A (ix2 (key (nb t) r) (col (hd t) x)) := by
  refine congrArg A (funext fun a => Fin.ext ?_)
  match a with
  | ⟨0, _⟩ =>
    blk_simp [idx7 t]
    all_goals (show t.val % 8 * 512 + r.val = 512 * (t.val % 8) + r.val; omega)
  | ⟨1, _⟩ =>
    blk_simp [idx7 t]
    all_goals (show t.val / 8 * 256 + x.val = 256 * (t.val / 8) + x.val; omega)

theorem emb8 (c : Dev nD) (t : Fin cfg0.N) (A : Buf (Elt Ideal) ((c : Thread nD τ).loc main_v47_1)) (s : Fin 4096) (x : Fin 256) :
    A (((cfg0.win 8).blk t).view.emb (ix2 s x)) = A (ix2 s (col (hd t) x)) := by
  refine congrArg A (funext fun a => Fin.ext ?_)
  match a with
  | ⟨0, _⟩ =>
    blk_simp [idx8 t]
    all_goals (show 0 * 4096 + s.val = s.val; omega)
  | ⟨1, _⟩ =>
    blk_simp [idx8 t]
    all_goals (show t.val / 8 * 256 + x.val = 256 * (t.val / 8) + x.val; omega)

theorem emb9 (c : Dev nD) (t : Fin cfg0.N) (A : Buf (Elt Ideal) ((c : Thread nD τ).loc main_v47_2)) (s : Fin 4096) (x : Fin 128) :
    A (((cfg0.win 9).blk t).view.emb (ix2 s x)) = A (ix2 s x) := by
  refine congrArg A (funext fun a => Fin.ext ?_)
  match a with
  | ⟨0, _⟩ =>
    blk_simp [idx9 t]
    all_goals (show 0 * 4096 + s.val = s.val; omega)
  | ⟨1, _⟩ =>
    blk_simp [idx9 t]
    all_goals (show 0 * 128 + x.val = x.val; omega)

/-- The result array of window 7. -/
theorem arr7 (c : Dev nD) (t : Fin 4096) (h : Fin 16) (x : Fin 256) :
    (dats m 0 c).arrAt 7 cfg0.N (ix2 t (col h x)) = (head m c h).dq t x := by
  let G : Buf (Elt Ideal) ((c : Thread nD τ).loc main_v47_0) := fun i => (head m c (hcol (i 1))).dq (i 0) (xcol (i 1))
  have hG : (dats m 0 c).arrAt 7 cfg0.N = G := (dats m 0 c).arrAt_eq_of_covers 7 G (by decide +kernel) fun t hf y => by
    blk_simp
    rw [after0_7]
    obtain ⟨r, x, rfl⟩ : ∃ r x, y = ix2 r x := ⟨y 0, y 1, funext fun a => by match a with | ⟨0, _⟩ => rfl | ⟨1, _⟩ => rfl⟩
    refine Eq.trans ?_ (emb7 c t G r x).symm
    show _ = (head m c (hcol (col (hd t) x))).dq _ (xcol (col (hd t) x))
    rw [hcol_col, xcol_col]
    exact out7_head m c t r x
  rw [hG]
  show (head m c (hcol (col h x))).dq t (xcol (col h x)) = _
  rw [hcol_col, xcol_col]

/-- The result array of window 8. -/
theorem arr8 (c : Dev nD) (t : Fin 4096) (h : Fin 16) (x : Fin 256) :
    (dats m 0 c).arrAt 8 cfg0.N (ix2 t (col h x)) = dkv (head m c h) t x := by
  let G : Buf (Elt Ideal) ((c : Thread nD τ).loc main_v47_1) := fun i => dkv (head m c (hcol (i 1))) (i 0) (xcol (i 1))
  have hG : (dats m 0 c).arrAt 8 cfg0.N = G := (dats m 0 c).arrAt_eq_of_covers 8 G (by decide +kernel) fun t hf y => by
    blk_simp
    rw [after0_8]
    obtain ⟨r, x, rfl⟩ : ∃ r x, y = ix2 r x := ⟨y 0, y 1, funext fun a => by match a with | ⟨0, _⟩ => rfl | ⟨1, _⟩ => rfl⟩
    have h1 := (flush0_8 t).mp hf
    obtain ⟨j, r, rfl⟩ := key_surj r
    refine Eq.trans ?_ (emb8 c t G (key j r) x).symm
    show _ = dkv (head m c (hcol (col (hd t) x))) _ (xcol (col (hd t) x))
    rw [hcol_col, xcol_col]
    exact out8_head m c t h1 j r x
  rw [hG]
  show dkv (head m c (hcol (col h x))) t (xcol (col h x)) = _
  rw [hcol_col, xcol_col]

/-- The result array of window 9. -/
theorem arr9 (c : Dev nD) (t : Fin 4096) (x : Fin 128) :
    (dats m 0 c).arrAt 9 cfg0.N (ix2 t x) = ∑ h, (head m c h).dk t (hi x) := by
  let G : Buf (Elt Ideal) ((c : Thread nD τ).loc main_v47_2) := fun i => dkr m c (i 0) (i 1)
  have hG : (dats m 0 c).arrAt 9 cfg0.N = G := (dats m 0 c).arrAt_eq_of_covers 9 G (by decide +kernel) fun t hf y => by
    blk_simp
    rw [after0_9]
    obtain ⟨r, x, rfl⟩ : ∃ r x, y = ix2 r x := ⟨y 0, y 1, funext fun a => by match a with | ⟨0, _⟩ => rfl | ⟨1, _⟩ => rfl⟩
    have h1 := (flush0_9 t).mp hf
    obtain ⟨j, r, rfl⟩ := key_surj r
    refine Eq.trans ?_ (emb9 c t G (key j r) x).symm
    exact out9_head m c t h1 j r x
  rw [hG]
  rfl

end Cert.MlaIdeal.Bwd

end
-- ==== Proof.MKerOps.lean ====
module

public import proofs.«01_k».proof.Proof.Gen.MlaIdeal.Frame
public import Idealize.ShloMosaic.Lib.Pointwise
public import Idealize.ShloMosaic.Lib.Claim

@[expose] public section

set_option maxRecDepth 16384

noncomputable section

namespace Cert.MlaIdeal.Ops

open Idealize.ShloMosaic Idealize.ShloMosaic.TcCoe Idealize.ShloMosaic.StableHlo Cert.MlaIdeal Cert.MlaIdeal.Gen

/-- The arguments. -/
structure Args where
  qn : Vec Ideal S16x4096x128 .bf16
  qr : Vec Ideal S16x4096x64 .bf16
  kn : Vec Ideal S16x4096x128 .bf16
  kr : Vec Ideal S4096x64 .bf16
  v : Vec Ideal S16x4096x128 .bf16
  g : Vec Ideal S16x4096x128 .bf16

/-! Types of values. -/

abbrev T0 := FVec Ideal S16x4096x4096 .f32
abbrev T1 := FVec Ideal S16x4096x128 .f32
abbrev T2 := FVec Ideal S_ .f32
abbrev T3 := FVec Ideal S16x4096x1 .f32

/-! The values of the host operations, one by one, from the arguments. -/

def k_v0 (a : Args) : T1 := ((extf .f32 a.qn bitsLt_bf16_f32))
def k_v1 (a : Args) : FVec Ideal S16x4096x64 .f32 := ((extf .f32 a.qr bitsLt_bf16_f32))
def k_v2 (a : Args) : T1 := ((extf .f32 a.kn bitsLt_bf16_f32))
def k_v3 (a : Args) : FVec Ideal S4096x64 .f32 := ((extf .f32 a.kr bitsLt_bf16_f32))
def k_v4 (a : Args) : T0 := Host.dotGeneral dot_S16x4096x128_S16x4096x128_S16x4096x4096_2_2_1_1_0_0 none (k_v0 a) (k_v2 a)
def k_v5 (a : Args) : T0 := Host.dotGeneral dot_S16x4096x64_S4096x64_S16x4096x4096_2_1_01_0_n_n none (k_v1 a) (k_v3 a)
def k_v6 (a : Args) : T0 := (addf) (k_v4 a) (k_v5 a)
def k_cst (a : Args) : T2 := (constant S_ .f32 0x3D93CD3A#32)
def k_v7 (a : Args) : T0 := (broadcastInDim S16x4096x4096 ![] bcast_S_S16x4096x4096) (k_cst a)
def k_v8 (a : Args) : T0 := (mulf) (k_v6 a) (k_v7 a)
def k_v9 (a : Args) : Vec Ideal S64 .i32 := (iotaInDim S64 32 0)
def k_v10 (a : Args) : Vec Ideal S64x1 .i32 := (broadcastInDim S64x1 ![0] bcast_S64_S64x1_0) (k_v9 a)
def k_v11 (a : Args) : Vec Ideal S64x64 .i32 := (broadcastInDim S64x64 ![0, 1] bcast_S64x1_S64x64_0_1) (k_v10 a)
def k_v12 (a : Args) : Vec Ideal S4096 .i32 := (shapeCast S4096 (k_v11 a) shapeCasts_S64x64_S4096)
def k_v13 (a : Args) : Vec Ideal S1x4096 .i32 := (broadcastInDim S1x4096 ![1] bcast_S4096_S1x4096_1) (k_v12 a)
def k_v14 (a : Args) : Vec Ideal S4096x1 .i32 := (broadcastInDim S4096x1 ![0] bcast_S4096_S4096x1_0) (k_v12 a)
def k_v15 (a : Args) : Vec Ideal S4096x4096 .i32 := (broadcastInDim S4096x4096 ![0, 1] bcast_S1x4096_S4096x4096_0_1) (k_v13 a)
def k_v16 (a : Args) : Vec Ideal S4096x4096 .i32 := (broadcastInDim S4096x4096 ![0, 1] bcast_S4096x1_S4096x4096_0_1) (k_v14 a)
def k_v17 (a : Args) : Vec Ideal S4096x4096 .i1 := (cmpi .sle) (k_v15 a) (k_v16 a)
def k_cst_0 (a : Args) : T2 := (constant S_ .f32 0xFF800000#32)
def k_call0_v0 (a : Args) : T2 := id (k_cst_0 a)
def k_call0_v1 (a : Args) : Vec Ideal S16x4096x4096 .i1 := (broadcastInDim S16x4096x4096 ![1, 2] bcast_S4096x4096_S16x4096x4096_1_2) (k_v17 a)
def k_call0_v2 (a : Args) : T0 := (broadcastInDim S16x4096x4096 ![] bcast_S_S16x4096x4096) (k_call0_v0 a)
def k_v18 (a : Args) : T0 := select (k_call0_v1 a) (k_v8 a) (k_call0_v2 a)
def k_cst_1 (a : Args) : T2 := (constant S_ .f32 0xFF800000#32)
def k_v19 (a : Args) : FVec Ideal S16x4096 .f32 := Host.reduce FloatOps.maximumf (k_v18 a) (k_cst_1 a) reducesTo_S16x4096x4096_S16x4096_d2 h_S_
def k_v20 (a : Args) : T3 := (broadcastInDim S16x4096x1 ![0, 1] bcast_S16x4096_S16x4096x1_0_1) (k_v19 a)
def k_v21 (a : Args) : T0 := (broadcastInDim S16x4096x4096 ![0, 1, 2] bcast_S16x4096x1_S16x4096x4096_0_1_2) (k_v20 a)
def k_v22 (a : Args) : T0 := (subf) (k_v18 a) (k_v21 a)
def k_v23 (a : Args) : T0 := (Host.exp) (k_v22 a)
def k_cst_2 (a : Args) : T2 := (constant S_ .f32 0x00000000#32)
def k_v24 (a : Args) : FVec Ideal S16x4096 .f32 := Host.reduceAdd (k_v23 a) (k_cst_2 a) reducesTo_S16x4096x4096_S16x4096_d2 h_S_
def k_v25 (a : Args) : T3 := (broadcastInDim S16x4096x1 ![0, 1] bcast_S16x4096_S16x4096x1_0_1) (k_v24 a)
def k_v26 (a : Args) : T3 := (Host.log) (k_v25 a)
def k_v27 (a : Args) : T3 := (addf) (k_v20 a) (k_v26 a)
def k_v28 (a : Args) : T0 := (broadcastInDim S16x4096x4096 ![0, 1, 2] bcast_S16x4096x1_S16x4096x4096_0_1_2) (k_v25 a)
def k_v29 (a : Args) : T0 := (Host.divf) (k_v23 a) (k_v28 a)
def k_v30 (a : Args) : T1 := ((extf .f32 a.v bitsLt_bf16_f32))
def k_v31 (a : Args) : T1 := Host.dotGeneral dot_S16x4096x4096_S16x4096x128_S16x4096x128_2_1_1_2_0_0 none (k_v29 a) (k_v30 a)
def k_v32 (a : Args) : T1 := ((extf .f32 a.g bitsLt_bf16_f32))
def k_v33 (a : Args) : T1 := (mulf) (k_v32 a) (k_v31 a)
def k_cst_3 (a : Args) : T2 := (constant S_ .f32 0x00000000#32)
def k_v34 (a : Args) : FVec Ideal S16x4096 .f32 := Host.reduceAdd (k_v33 a) (k_cst_3 a) reducesTo_S16x4096x128_S16x4096_d2 h_S_
def k_v35 (a : Args) : T3 := (broadcastInDim S16x4096x1 ![0, 1] bcast_S16x4096_S16x4096x1_0_1) (k_v34 a)
def k_cst_4 (a : Args) : FVec Ideal S_ .bf16 := (constant S_ .bf16 0x0000#16)
def k_v36 (a : Args) : FVec Ideal S16x4096x64 .bf16 := (broadcastInDim S16x4096x64 ![] bcast_S_S16x4096x64) (k_cst_4 a)
def k_v37 (a : Args) : FVec Ideal S16x4096x256 .bf16 := (fun u0 u1 u2 => (concatenate S16x4096x256 2 [⟨S16x4096x128, (u0 : (⟨S16x4096x128, .bf16⟩ : BufTy).Contents (Elt Ideal))⟩, ⟨S16x4096x64, (u1 : (⟨S16x4096x64, .bf16⟩ : BufTy).Contents (Elt Ideal))⟩, ⟨S16x4096x64, (u2 : (⟨S16x4096x64, .bf16⟩ : BufTy).Contents (Elt Ideal))⟩] concatenates_S16x4096x128_S16x4096x64_S16x4096x64_S16x4096x256_d2 : (⟨S16x4096x256, .bf16⟩ : BufTy).Contents (Elt Ideal))) a.qn a.qr (k_v36 a)
def k_v38 (a : Args) : FVec Ideal S4096x16x256 .bf16 := ((transpose S4096x16x256 [1, 0, 2] (k_v37 a) transposes_S16x4096x256_S4096x16x256_1_0_2))
def k_v39 (a : Args) : FVec Ideal S4096x4096 .bf16 := (shapeCast S4096x4096 (k_v38 a) shapeCasts_S4096x16x256_S4096x4096)
def k_v40 (a : Args) : FVec Ideal S16x4096x256 .bf16 := concatenate S16x4096x256 2 [⟨S16x4096x128, a.kn⟩, ⟨S16x4096x128, a.v⟩] concatenates_S16x4096x128_S16x4096x128_S16x4096x256_d2
def k_v41 (a : Args) : FVec Ideal S4096x16x256 .bf16 := ((transpose S4096x16x256 [1, 0, 2] (k_v40 a) transposes_S16x4096x256_S4096x16x256_1_0_2))
def k_v42 (a : Args) : FVec Ideal S4096x4096 .bf16 := (shapeCast S4096x4096 (k_v41 a) shapeCasts_S4096x16x256_S4096x4096)
def k_cst_5 (a : Args) : FVec Ideal S_ .bf16 := (constant S_ .bf16 0x0000#16)
def k_v43 (a : Args) : FVec Ideal S4096x64 .bf16 := (broadcastInDim S4096x64 ![] bcast_S_S4096x64) (k_cst_5 a)
def k_v44 (a : Args) : FVec Ideal S4096x128 .bf16 := concatenate S4096x128 1 [⟨S4096x64, a.kr⟩, ⟨S4096x64, (k_v43 a)⟩] concatenates_S4096x64_S4096x64_S4096x128_d1
def k_v45 (a : Args) : FVec Ideal S4096x16x128 .bf16 := ((transpose S4096x16x128 [1, 0, 2] a.g transposes_S16x4096x128_S4096x16x128_1_0_2))
def k_v46 (a : Args) : FVec Ideal S4096x2048 .bf16 := (shapeCast S4096x2048 (k_v45 a) shapeCasts_S4096x16x128_S4096x2048)

variable (m : (ℓ : Loc nD τ sig) → Buf (Elt Ideal) ℓ)

def args (c : Dev nD) : Args := ⟨m (c.tc.loc main_arg0), m (c.tc.loc main_arg1), m (c.tc.loc main_arg2), m (c.tc.loc main_arg3), m (c.tc.loc main_arg4), m (c.tc.loc main_arg5)⟩

theorem V_v39 (c : Dev nD) : V (F := Ideal) m c main_v39 = k_v39 (args m c) := by
  entry_read
  rfl

theorem V_v42 (c : Dev nD) : V (F := Ideal) m c main_v42 = k_v42 (args m c) := by
  entry_read
  rfl

theorem V_v44 (c : Dev nD) : V (F := Ideal) m c main_v44 = k_v44 (args m c) := by
  entry_read
  rfl

theorem V_v46 (c : Dev nD) : V (F := Ideal) m c main_v46 = k_v46 (args m c) := by
  entry_read
  rfl

theorem V_v27 (c : Dev nD) : V (F := Ideal) m c main_v27 = k_v27 (args m c) := by
  entry_read
  simp only [hostOps0, hostOps0_1, hostOps0_2, List.flatten_cons, List.flatten_nil, List.append_nil, List.cons_append, List.nil_append, StableHlo.TRef.nullary, StableHlo.TRef.ternary, StableHlo.TRef.unary, StableHlo.TRef.toBuf, StableHlo.TRef.ofBuf, cast_eq]
  after_results_simp
  rfl

theorem V_v35 (c : Dev nD) : V (F := Ideal) m c main_v35 = k_v35 (args m c) := by
  entry_read
  simp only [hostOps0, hostOps0_1, hostOps0_2, List.flatten_cons, List.flatten_nil, List.append_nil, List.cons_append, List.nil_append, StableHlo.TRef.nullary, StableHlo.TRef.ternary, StableHlo.TRef.unary, StableHlo.TRef.toBuf, StableHlo.TRef.ofBuf, cast_eq]
  after_results_simp
  rfl

end Cert.MlaIdeal.Ops

end
-- ==== Proof.MKerVals.lean ====
module

public import proofs.«01_k».proof.Proof.MKerOps
public import proofs.«01_k».proof.Proof.MHead
public import Idealize.ShloMosaic.Lib.WordCmp

@[expose] public section

set_option maxRecDepth 16384

noncomputable section

namespace Cert.MlaIdeal.Ops

open Idealize.ShloMosaic Idealize.ShloMosaic.TcCoe Idealize.ShloMosaic.StableHlo Cert.MlaIdeal Cert.MlaIdeal.Gen Cert.MlaIdeal.Bwd
open Cert.KernelIdeal.Bwd (coe_sum)

variable (a : Args)
variable (h : Fin 16) (t s : Fin 4096) (x : Fin 128) (y : Fin 64)

theorem vis_at (p q : EReal) : Scalar.select (IntOp.cmpi .sle (BitVec.ofNat 32 (s.val / 64)) (BitVec.ofNat 32 (t.val / 64))) p q = if vis t s then p else q := by
  have hs := s.isLt
  have ht := t.isLt
  by_cases hh : s.val / 64 ≤ t.val / 64
  · rw [if_pos (show vis t s from hh), WordCmp.select_of_eq_one ((WordCmp.cmpi_sle_ofNat_eq_one_iff (by omega) (by omega)).2 (by omega))]
  · rw [if_neg (show ¬ vis t s from hh), WordCmp.select_of_eq_zero ((WordCmp.cmpi_sle_ofNat_eq_zero_iff (by omega) (by omega)).2 (by omega))]

theorem v18_at : k_v18 a (ix3 h t s) = if vis t s then ((∑ x, a.qn (ix3 h t x) * a.kn (ix3 h s x)) + ∑ y, a.qr (ix3 h t y) * a.kr (ix2 s y)) * sc else ⊥ := by
  pointwise [k_v18, k_call0_v1, k_v17, k_v16, k_v15, k_v14, k_v13, k_v12, k_v11, k_v10, k_v9, k_v8, k_v7, k_v6, k_v5, k_v4, k_v3, k_v2, k_v1, k_v0, k_cst, k_call0_v2, k_call0_v0, k_cst_0]
  rw [vis_at]
  rfl

theorem v19_at : k_v19 a (ix2 h t) = (Finset.univ : Finset (Fin 4096)).fold max ⊥ fun s => k_v18 a (ix3 h t s) := by
  pointwise [k_v19, k_cst_1]
  rfl

theorem v23_of (z : FVec Ideal S16x4096x4096 .f32) (u : FVec Ideal S16x4096 .f32) : Host.exp (subf z (broadcastInDim S16x4096x4096 ![0, 1, 2] bcast_S16x4096x1_S16x4096x4096_0_1_2 (broadcastInDim S16x4096x1 ![0, 1] bcast_S16x4096_S16x4096x1_0_1 u))) (ix3 h t s) = Ideal.exp (z (ix3 h t s) - u (ix2 h t)) := by
  pointwise

theorem add_log (u : FVec Ideal S16x4096 .f32) (v : FVec Ideal S16x4096x1 .f32) : addf (broadcastInDim S16x4096x1 ![0, 1] bcast_S16x4096_S16x4096x1_0_1 u) (Host.log v) (ix3 h t 0) = u (ix2 h t) + Ideal.log (v (ix3 h t 0)) := by
  pointwise

theorem v37_lo : k_v37 a (ix3 h t (lo x)) = a.qn (ix3 h t x) := by
  have hx := x.isLt
  have hv : (lo x).val = x.val := rfl
  pointwise [k_v37, hv]

theorem v37_mid : k_v37 a (ix3 h t (mid y)) = a.qr (ix3 h t y) := by
  have hy := y.isLt
  have hv : (mid y).val = 128 + y.val := rfl
  pointwise [k_v37, hv]

theorem v37_top : k_v37 a (ix3 h t (top y)) = 0 := by
  have hy := y.isLt
  have hv : (top y).val = 192 + y.val := rfl
  pointwise [k_v37, k_v36, k_cst_4, hv]
  split_ifs <;> first | omega | rfl | simp

theorem v39_at (z : Fin 256) : k_v39 a (ix2 t (col h z)) = k_v37 a (ix3 h t z) := by
  have hh := h.isLt
  have hz := z.isLt
  have hv : (col h z).val = 256 * h.val + z.val := rfl
  pointwise [k_v39, k_v38]
  refine congrArg (k_v37 a) ((ix3_inj ..).2 ⟨Fin.ext ?_, rfl, Fin.ext ?_⟩)
  · show _ = h.val
    simp only [hv]
    omega
  · show _ = z.val
    simp only [hv]
    omega

theorem v42_at (z : Fin 256) : k_v42 a (ix2 t (col h z)) = k_v40 a (ix3 h t z) := by
  have hh := h.isLt
  have hz := z.isLt
  have hv : (col h z).val = 256 * h.val + z.val := rfl
  pointwise [k_v42, k_v41]
  refine congrArg (k_v40 a) ((ix3_inj ..).2 ⟨Fin.ext ?_, rfl, Fin.ext ?_⟩)
  · show _ = h.val
    simp only [hv]
    omega
  · show _ = z.val
    simp only [hv]
    omega

theorem v40_lo : k_v40 a (ix3 h t (lo x)) = a.kn (ix3 h t x) := by
  have hx := x.isLt
  have hv : (lo x).val = x.val := rfl
  pointwise [k_v40, hv]

theorem v40_hi : k_v40 a (ix3 h t (hi x)) = a.v (ix3 h t x) := by
  have hx := x.isLt
  have hv : (hi x).val = 128 + x.val := rfl
  pointwise [k_v40, hv]

theorem v44_lo : k_v44 a (ix2 t (lo64 y)) = a.kr (ix2 t y) := by
  have hy := y.isLt
  have hv : (lo64 y).val = y.val := rfl
  pointwise [k_v44, hv]

theorem v44_hi (z : Fin 128) (hz : 64 ≤ z.val) : k_v44 a (ix2 t z) = 0 := by
  pointwise [k_v44, k_v43, k_cst_5]
  split_ifs <;> first | omega | rfl | simp

theorem v46_at : k_v46 a (ix2 t (Cert.KernelIdeal.Bwd.col h x)) = a.g (ix3 h t x) := by
  have hh := h.isLt
  have hx := x.isLt
  have hv : (Cert.KernelIdeal.Bwd.col h x).val = 128 * h.val + x.val := rfl
  pointwise [k_v46, k_v45]
  refine congrArg a.g ((ix3_inj ..).2 ⟨Fin.ext ?_, rfl, Fin.ext ?_⟩)
  · show _ = h.val
    simp only [hv]
    omega
  · show _ = x.val
    simp only [hv]
    omega

section Real

variable (R : Fin 16 → RHead)
  (HQ : ∀ h t x, a.qn (ix3 h t x) = ((R h).Q t (lo x) : EReal))
  (HQr : ∀ h t y, a.qr (ix3 h t y) = ((R h).Q t (mid y) : EReal))
  (HQ0 : ∀ h t y, (R h).Q t (top y) = 0)
  (HK : ∀ h t x, a.kn (ix3 h t x) = ((R h).K t (lo x) : EReal))
  (HKr : ∀ h t y, a.kr (ix2 t y) = ((R h).K t (mid y) : EReal))
  (HV : ∀ h t x, a.v (ix3 h t x) = ((R h).V t x : EReal))
  (HG : ∀ h t x, a.g (ix3 h t x) = ((R h).G t x : EReal))
  (Hμ : ∀ h t, (R h).mx t = ((R h).μ t : EReal))

include HQ HQr HQ0 HK HKr HV HG Hμ

theorem v18_real : k_v18 a (ix3 h t s) = if vis t s then ((R h).w t s : EReal) else ⊥ := by
  rw [v18_at]
  split_ifs
  · simp only [HQ, HQr, HK, HKr h]
    exact (R h).w_coe (HQ0 h) t s
  · rfl

theorem v19_real : k_v19 a (ix2 h t) = ((R h).μ t : EReal) := by
  rw [v19_at, ← Hμ]
  unfold RHead.mx
  exact congrArg (fun f => Finset.fold max ⊥ f (Finset.univ : Finset (Fin 4096))) (funext fun s => v18_real a h t s R HQ HQr HQ0 HK HKr HV HG Hμ)

theorem v23_real : k_v23 a (ix3 h t s) = ((R h).e t s : EReal) := by
  unfold k_v23 k_v22 k_v21 k_v20
  rw [v23_of, v18_real a h t s R HQ HQr HQ0 HK HKr HV HG Hμ, v19_real a h t R HQ HQr HQ0 HK HKr HV HG Hμ]
  exact (R h).e_coe t s

theorem v25_real : k_v25 a (ix3 h t 0) = ((R h).L t : EReal) := by
  pointwise [k_v25, k_v24, k_cst_2]
  simp only [v23_real a _ _ _ R HQ HQr HQ0 HK HKr HV HG Hμ]
  unfold RHead.L
  rw [coe_sum]

theorem v27_real : k_v27 a (ix3 h t 0) = (((R h).μ t + Real.log ((R h).L t) : ℝ) : EReal) := by
  unfold k_v27 k_v26 k_v20
  rw [add_log, v19_real a h t R HQ HQr HQ0 HK HKr HV HG Hμ, v25_real a h t R HQ HQr HQ0 HK HKr HV HG Hμ, (R h).log_L, EReal.coe_add]

theorem v29_real : k_v29 a (ix3 h t s) = ((R h).p t s : EReal) := by
  pointwise [k_v29, k_v28]
  simp only [v23_real a h t s R HQ HQr HQ0 HK HKr HV HG Hμ, v25_real a h t R HQ HQr HQ0 HK HKr HV HG Hμ]
  exact (R h).div_L t _

theorem v31_real : k_v31 a (ix3 h t x) = ((R h).o t x : EReal) := by
  pointwise [k_v31, k_v30]
  simp only [v29_real a _ _ _ R HQ HQr HQ0 HK HKr HV HG Hμ, HV]
  unfold RHead.o
  push_cast [coe_sum]
  rfl

theorem v35_real : k_v35 a (ix3 h t 0) = ((R h).δ t : EReal) := by
  pointwise [k_v35, k_v34, k_v33, k_v32, k_cst_3]
  simp only [v31_real a _ _ _ R HQ HQr HQ0 HK HKr HV HG Hμ, HG]
  unfold RHead.δ
  push_cast [coe_sum]
  rfl

end Real

end Cert.MlaIdeal.Ops

end
-- ==== Proof.MRefOps.lean ====
module

public import proofs.«01_k».proof.Proof.Gen.MlaRefIdeal.Run
public import Idealize.ShloMosaic.Lib.Pointwise

@[expose] public section

set_option maxRecDepth 16384

noncomputable section

namespace Cert.MlaRefIdeal.Ops

open Idealize.ShloMosaic Idealize.ShloMosaic.TcCoe Idealize.ShloMosaic.StableHlo Cert.MlaRefIdeal Cert.MlaRefIdeal.Gen

/-- The arguments. -/
structure Args where
  qn : Vec Ideal S16x4096x128 .bf16
  qr : Vec Ideal S16x4096x64 .bf16
  kn : Vec Ideal S16x4096x128 .bf16
  kr : Vec Ideal S4096x64 .bf16
  v : Vec Ideal S16x4096x128 .bf16
  g : Vec Ideal S16x4096x128 .bf16

/-! Types of values. -/

abbrev T0 := FVec Ideal S16x4096x4096 .f32
abbrev T1 := FVec Ideal S_ .f32
abbrev T2 := FVec Ideal S16x4096x128 .f32
abbrev T3 := FVec Ideal S16x4096x1 .f32
abbrev T4 := FVec Ideal S16x4096 .f32

/-! The values of the host operations, one by one, from the arguments. -/

def r_v0 (a : Args) : T2 := ((extf .f32 a.qn bitsLt_bf16_f32))
def r_v1 (a : Args) : FVec Ideal S16x4096x64 .f32 := ((extf .f32 a.qr bitsLt_bf16_f32))
def r_v2 (a : Args) : T2 := ((extf .f32 a.kn bitsLt_bf16_f32))
def r_v3 (a : Args) : FVec Ideal S4096x64 .f32 := ((extf .f32 a.kr bitsLt_bf16_f32))
def r_v4 (a : Args) : T2 := ((extf .f32 a.v bitsLt_bf16_f32))
def r_v5 (a : Args) : T0 := Host.dotGeneral dot_S16x4096x128_S16x4096x128_S16x4096x4096_2_2_1_1_0_0 none (r_v0 a) (r_v2 a)
def r_v6 (a : Args) : T0 := Host.dotGeneral dot_S16x4096x64_S4096x64_S16x4096x4096_2_1_01_0_n_n none (r_v1 a) (r_v3 a)
def r_v7 (a : Args) : T0 := (addf) (r_v5 a) (r_v6 a)
def r_cst (a : Args) : T1 := (constant S_ .f32 0x3D93CD3A#32)
def r_v8 (a : Args) : T0 := (broadcastInDim S16x4096x4096 ![] bcast_S_S16x4096x4096) (r_cst a)
def r_v9 (a : Args) : T0 := (mulf) (r_v7 a) (r_v8 a)
def r_v10 (a : Args) : Vec Ideal S64 .i32 := (iotaInDim S64 32 0)
def r_v11 (a : Args) : Vec Ideal S64x1 .i32 := (broadcastInDim S64x1 ![0] bcast_S64_S64x1_0) (r_v10 a)
def r_v12 (a : Args) : Vec Ideal S64x64 .i32 := (broadcastInDim S64x64 ![0, 1] bcast_S64x1_S64x64_0_1) (r_v11 a)
def r_v13 (a : Args) : Vec Ideal S4096 .i32 := (shapeCast S4096 (r_v12 a) shapeCasts_S64x64_S4096)
def r_v14 (a : Args) : Vec Ideal S1x4096 .i32 := (broadcastInDim S1x4096 ![1] bcast_S4096_S1x4096_1) (r_v13 a)
def r_v15 (a : Args) : Vec Ideal S4096x1 .i32 := (broadcastInDim S4096x1 ![0] bcast_S4096_S4096x1_0) (r_v13 a)
def r_v16 (a : Args) : Vec Ideal S4096x4096 .i32 := (broadcastInDim S4096x4096 ![0, 1] bcast_S1x4096_S4096x4096_0_1) (r_v14 a)
def r_v17 (a : Args) : Vec Ideal S4096x4096 .i32 := (broadcastInDim S4096x4096 ![0, 1] bcast_S4096x1_S4096x4096_0_1) (r_v15 a)
def r_v18 (a : Args) : Vec Ideal S4096x4096 .i1 := (cmpi .sle) (r_v16 a) (r_v17 a)
def r_cst_0 (a : Args) : T1 := (constant S_ .f32 0xFF800000#32)
def r_call0_v0 (a : Args) : T1 := id (r_cst_0 a)
def r_v19_1 (a : Args) : Vec Ideal S16x4096x4096 .i1 := (broadcastInDim S16x4096x4096 ![1, 2] bcast_S4096x4096_S16x4096x4096_1_2) (r_v18 a)
def r_call0_v2 (a : Args) : T0 := (broadcastInDim S16x4096x4096 ![] bcast_S_S16x4096x4096) (r_call0_v0 a)
def r_v19_0 (a : Args) : T0 := select (r_v19_1 a) (r_v9 a) (r_call0_v2 a)
def r_cst_1 (a : Args) : T1 := (constant S_ .f32 0xFF800000#32)
def r_v20 (a : Args) : T4 := Host.reduce FloatOps.maximumf (r_v19_0 a) (r_cst_1 a) reducesTo_S16x4096x4096_S16x4096_d2 h_S_
def r_cst_3 (a : Args) : T1 := (constant S_ .f32 0xFF800000#32)
def r_v26 (a : Args) : T4 := (broadcastInDim S16x4096 ![] bcast_S_S16x4096) (r_cst_3 a)
def r_v27 (a : Args) : T4 := (maximumf) (r_v26 a) (r_v20 a)
def r_v37 (a : Args) : T3 := (broadcastInDim S16x4096x1 ![0, 1] bcast_S16x4096_S16x4096x1_0_1) (r_v27 a)
def r_v38 (a : Args) : T0 := (broadcastInDim S16x4096x4096 ![0, 1, 2] bcast_S16x4096x1_S16x4096x4096_0_1_2) (r_v37 a)
def r_v39 (a : Args) : T0 := (subf) (r_v19_0 a) (r_v38 a)
def r_v40 (a : Args) : T0 := (Host.exp) (r_v39 a)
def r_cst_9 (a : Args) : T1 := (constant S_ .f32 0x00000000#32)
def r_v41 (a : Args) : T4 := Host.reduceAdd (r_v40 a) (r_cst_9 a) reducesTo_S16x4096x4096_S16x4096_d2 h_S_
def r_v42 (a : Args) : T3 := (broadcastInDim S16x4096x1 ![0, 1] bcast_S16x4096_S16x4096x1_0_1) (r_v41 a)
def r_v43 (a : Args) : T0 := (broadcastInDim S16x4096x4096 ![0, 1, 2] bcast_S16x4096x1_S16x4096x4096_0_1_2) (r_v42 a)
def r_v44 (a : Args) : T0 := (Host.divf) (r_v40 a) (r_v43 a)
def r_v45 (a : Args) : T3 := (mulf) (r_v42 a) (r_v42 a)
def r_cst_10 (a : Args) : T1 := (constant S_ .f32 0x3F800000#32)
def r_v46 (a : Args) : T3 := (broadcastInDim S16x4096x1 ![] bcast_S_S16x4096x1) (r_cst_10 a)
def r_v47 (a : Args) : T3 := (Host.divf) (r_v46 a) (r_v45 a)
def r_v49 (a : Args) : T2 := ((extf .f32 a.g bitsLt_bf16_f32))
def r_v50 (a : Args) : FVec Ideal S16x128x4096 .f32 := Host.dotGeneral dot_S16x4096x128_S16x4096x4096_S16x128x4096_1_1_2_2_0_0 none (r_v49 a) (r_v44 a)
def r_v51 (a : Args) : T2 := ((transpose S16x4096x128 [0, 2, 1] (r_v50 a) transposes_S16x128x4096_S16x4096x128_0_2_1))
def r_v52 (a : Args) : T0 := Host.dotGeneral dot_S16x4096x128_S16x4096x128_S16x4096x4096_2_2_1_1_0_0 none (r_v49 a) (r_v4 a)
def r_v53 (a : Args) : T0 := (broadcastInDim S16x4096x4096 ![0, 1, 2] bcast_S16x4096x1_S16x4096x4096_0_1_2) (r_v47 a)
def r_v54 (a : Args) : T0 := (mulf) (r_v52 a) (r_v53 a)
def r_v55 (a : Args) : T0 := (mulf) (r_v54 a) (r_v40 a)
def r_cst_11 (a : Args) : T1 := (constant S_ .f32 0x00000000#32)
def r_v56 (a : Args) : T4 := Host.reduceAdd (r_v55 a) (r_cst_11 a) reducesTo_S16x4096x4096_S16x4096_d2 h_S_
def r_v57 (a : Args) : T3 := (shapeCast S16x4096x1 (r_v56 a) shapeCasts_S16x4096_S16x4096x1)
def r_v58 (a : Args) : T3 := (Host.negf) (r_v57 a)
def r_v59 (a : Args) : T0 := (broadcastInDim S16x4096x4096 ![0, 1, 2] bcast_S16x4096x1_S16x4096x4096_0_1_2) (r_v42 a)
def r_v60 (a : Args) : T0 := (Host.divf) (r_v52 a) (r_v59 a)
def r_cst_12 (a : Args) : T1 := (constant S_ .f32 0x00000000#32)
def r_v61 (a : Args) : T4 := Host.reduceAdd (r_v58 a) (r_cst_12 a) reducesTo_S16x4096x1_S16x4096_d2 h_S_
def r_v62 (a : Args) : T0 := (broadcastInDim S16x4096x4096 ![0, 1] bcast_S16x4096_S16x4096x4096_0_1) (r_v61 a)
def r_v63 (a : Args) : T0 := (addf) (r_v60 a) (r_v62 a)
def r_v64 (a : Args) : T0 := (mulf) (r_v63 a) (r_v40 a)
def r_call1_cst (a : Args) : T1 := (constant S_ .f32 0x00000000#32)
def r_call1_v0 (a : Args) : T0 := (broadcastInDim S16x4096x4096 ![] bcast_S_S16x4096x4096) (r_call1_cst a)
def r_v65 (a : Args) : T0 := select (r_v19_1 a) (r_v64 a) (r_call1_v0 a)
def r_cst_13 (a : Args) : T1 := (constant S_ .f32 0x3D93CD3A#32)
def r_v66 (a : Args) : T0 := (broadcastInDim S16x4096x4096 ![] bcast_S_S16x4096x4096) (r_cst_13 a)
def r_v67 (a : Args) : T0 := (mulf) (r_v65 a) (r_v66 a)
def r_v68 (a : Args) : FVec Ideal S4096x64 .f32 := Host.dotGeneral dot_S16x4096x4096_S16x4096x64_S4096x64_01_01_2_2_n_n none (r_v67 a) (r_v1 a)
def r_v69 (a : Args) : FVec Ideal S16x4096x64 .f32 := Host.dotGeneral dot_S16x4096x4096_S4096x64_S16x4096x64_2_0_01_1_n_n none (r_v67 a) (r_v3 a)
def r_v70 (a : Args) : T2 := Host.dotGeneral dot_S16x4096x4096_S16x4096x128_S16x4096x128_1_1_2_2_0_0 none (r_v67 a) (r_v0 a)
def r_v71 (a : Args) : T2 := Host.dotGeneral dot_S16x4096x4096_S16x4096x128_S16x4096x128_2_1_1_2_0_0 none (r_v67 a) (r_v2 a)
def r_v72 (a : Args) : FVec Ideal S16x4096x128 .bf16 := ((truncf .bf16 (r_v70 a) bitsLt_bf16_f32))
def r_v73 (a : Args) : FVec Ideal S16x4096x128 .bf16 := ((truncf .bf16 (r_v51 a) bitsLt_bf16_f32))

variable (m : (ℓ : Loc nD τ sig) → Buf (Elt Ideal) ℓ)

def args (c : Dev nD) : Args := ⟨m (c.tc.loc main_arg0), m (c.tc.loc main_arg1), m (c.tc.loc main_arg2), m (c.tc.loc main_arg3), m (c.tc.loc main_arg4), m (c.tc.loc main_arg5)⟩

theorem res0 (c : Dev nD) : Value.res_out0 (F := Ideal) m c = r_v71 (args m c) := by
  unfold Value.res_out0 Value.res_main_v71
  rfl

theorem res1 (c : Dev nD) : Value.res_out1 (F := Ideal) m c = r_v69 (args m c) := by
  unfold Value.res_out1 Value.res_main_v69
  rfl

theorem res2 (c : Dev nD) : Value.res_out2 (F := Ideal) m c = r_v72 (args m c) := by
  unfold Value.res_out2 Value.res_main_v72
  rfl

theorem res3 (c : Dev nD) : Value.res_out3 (F := Ideal) m c = r_v68 (args m c) := by
  unfold Value.res_out3 Value.res_main_v68
  rfl

theorem res4 (c : Dev nD) : Value.res_out4 (F := Ideal) m c = r_v73 (args m c) := by
  unfold Value.res_out4 Value.res_main_v73
  rfl

end Cert.MlaRefIdeal.Ops

end
-- ==== Proof.MRefVals.lean ====
module

public import proofs.«01_k».proof.Proof.MRefOps
public import proofs.«01_k».proof.Proof.MHead
public import Idealize.ShloMosaic.Lib.WordCmp

@[expose] public section

set_option maxRecDepth 16384

noncomputable section

namespace Cert.MlaRefIdeal.Ops

open Idealize.ShloMosaic Idealize.ShloMosaic.TcCoe Idealize.ShloMosaic.StableHlo Cert.MlaRefIdeal Cert.MlaRefIdeal.Gen Cert.MlaIdeal.Bwd
open Cert.KernelIdeal.Bwd (coe_sum)

variable (a : Args)
variable (h : Fin 16) (t s : Fin 4096) (x : Fin 128) (y : Fin 64)

theorem vis_at (p q : EReal) : Scalar.select (IntOp.cmpi .sle (BitVec.ofNat 32 (s.val / 64)) (BitVec.ofNat 32 (t.val / 64))) p q = if vis t s then p else q := by
  have hs := s.isLt
  have ht := t.isLt
  by_cases hh : s.val / 64 ≤ t.val / 64
  · rw [if_pos (show vis t s from hh), WordCmp.select_of_eq_one ((WordCmp.cmpi_sle_ofNat_eq_one_iff (by omega) (by omega)).2 (by omega))]
  · rw [if_neg (show ¬ vis t s from hh), WordCmp.select_of_eq_zero ((WordCmp.cmpi_sle_ofNat_eq_zero_iff (by omega) (by omega)).2 (by omega))]

theorem v19_0_at : r_v19_0 a (ix3 h t s) = if vis t s then ((∑ x, a.qn (ix3 h t x) * a.kn (ix3 h s x)) + ∑ y, a.qr (ix3 h t y) * a.kr (ix2 s y)) * sc else ⊥ := by
  pointwise [r_v19_0, r_v19_1, r_v18, r_v17, r_v16, r_v15, r_v14, r_v13, r_v12, r_v11, r_v10, r_v9, r_v8, r_v7, r_v6, r_v5, r_v4, r_v3, r_v2, r_v1, r_v0, r_cst, r_call0_v2, r_call0_v0, r_cst_0]
  rw [vis_at]
  rfl

theorem v20_at : r_v20 a (ix2 h t) = (Finset.univ : Finset (Fin 4096)).fold max ⊥ fun s => r_v19_0 a (ix3 h t s) := by
  pointwise [r_v20, r_cst_1]
  rfl

theorem v40_of (z : FVec Ideal S16x4096x4096 .f32) (u : FVec Ideal S16x4096 .f32) : Host.exp (subf z (broadcastInDim S16x4096x4096 ![0, 1, 2] bcast_S16x4096x1_S16x4096x4096_0_1_2 (broadcastInDim S16x4096x1 ![0, 1] bcast_S16x4096_S16x4096x1_0_1 (maximumf (broadcastInDim S16x4096 ![] bcast_S_S16x4096 (constant (F := Ideal) S_ .f32 0xFF800000#32)) u)))) (ix3 h t s) = Ideal.exp (z (ix3 h t s) - u (ix2 h t)) := by
  pointwise
  have hb : Ideal.ofBits .f32 0xFF800000#32 = ⊥ := by simp [Ideal.ofBits, Ideal.ieee]
  rw [hb, max_eq_right bot_le]

section Real

variable (R : Fin 16 → RHead)
  (HQ : ∀ h t x, a.qn (ix3 h t x) = ((R h).Q t (lo x) : EReal))
  (HQr : ∀ h t y, a.qr (ix3 h t y) = ((R h).Q t (mid y) : EReal))
  (HQ0 : ∀ h t y, (R h).Q t (top y) = 0)
  (HK : ∀ h t x, a.kn (ix3 h t x) = ((R h).K t (lo x) : EReal))
  (HKr : ∀ h t y, a.kr (ix2 t y) = ((R h).K t (mid y) : EReal))
  (HV : ∀ h t x, a.v (ix3 h t x) = ((R h).V t x : EReal))
  (HG : ∀ h t x, a.g (ix3 h t x) = ((R h).G t x : EReal))
  (Hμ : ∀ h t, (R h).mx t = ((R h).μ t : EReal))

include HQ HQr HQ0 HK HKr HV HG Hμ

theorem v19_0_real : r_v19_0 a (ix3 h t s) = if vis t s then ((R h).w t s : EReal) else ⊥ := by
  rw [v19_0_at]
  split_ifs
  · simp only [HQ, HQr, HK, HKr h]
    exact (R h).w_coe (HQ0 h) t s
  · rfl

theorem v20_real : r_v20 a (ix2 h t) = ((R h).μ t : EReal) := by
  rw [v20_at, ← Hμ]
  unfold RHead.mx
  exact congrArg (fun f => Finset.fold max ⊥ f (Finset.univ : Finset (Fin 4096))) (funext fun s => v19_0_real a h t s R HQ HQr HQ0 HK HKr HV HG Hμ)

theorem v40_real : r_v40 a (ix3 h t s) = ((R h).e t s : EReal) := by
  unfold r_v40 r_v39 r_v38 r_v37 r_v27 r_v26 r_cst_3
  rw [v40_of, v19_0_real a h t s R HQ HQr HQ0 HK HKr HV HG Hμ, v20_real a h t R HQ HQr HQ0 HK HKr HV HG Hμ]
  exact (R h).e_coe t s

theorem v42_real : r_v42 a (ix3 h t 0) = ((R h).L t : EReal) := by
  pointwise [r_v42, r_v41, r_cst_9]
  simp only [v40_real a _ _ _ R HQ HQr HQ0 HK HKr HV HG Hμ]
  unfold RHead.L
  rw [coe_sum]

theorem v44_real : r_v44 a (ix3 h t s) = ((R h).p t s : EReal) := by
  pointwise [r_v44, r_v43]
  simp only [v40_real a h t s R HQ HQr HQ0 HK HKr HV HG Hμ, v42_real a h t R HQ HQr HQ0 HK HKr HV HG Hμ]
  exact (R h).div_L t _

theorem v52_real : r_v52 a (ix3 h t s) = ((R h).pb t s : EReal) := by
  pointwise [r_v52, r_v49, r_v4]
  simp only [HG, HV]
  exact (R h).pb_coe t s

theorem v47_real : r_v47 a (ix3 h t 0) = ((1 / ((R h).L t * (R h).L t) : ℝ) : EReal) := by
  pointwise [r_v47, r_v46, r_v45, r_cst_10]
  simp only [v42_real a h t R HQ HQr HQ0 HK HKr HV HG Hμ]
  rw [← EReal.coe_mul]
  exact (R h).div_LL t

theorem v61_real : r_v61 a (ix2 h t) = ((-(∑ s, (R h).pb t s * (1 / ((R h).L t * (R h).L t)) * (R h).e t s) : ℝ) : EReal) := by
  pointwise [r_v61, r_v58, r_v57, r_v56, r_v55, r_v54, r_v53, r_cst_11, r_cst_12]
  simp only [v52_real a _ _ _ R HQ HQr HQ0 HK HKr HV HG Hμ, v47_real a _ _ R HQ HQr HQ0 HK HKr HV HG Hμ, v40_real a _ _ _ R HQ HQr HQ0 HK HKr HV HG Hμ, Fin.sum_univ_one]
  push_cast [coe_sum]
  rfl

theorem v67_real : r_v67 a (ix3 h t s) = ((R h).z t s : EReal) * sc := by
  pointwise [r_v67, r_v66, r_cst_13, r_v65, r_v64, r_v63, r_v62, r_v60, r_v59, r_call1_v0, r_call1_cst, r_v19_1, r_v18, r_v17, r_v16, r_v15, r_v14, r_v13, r_v12, r_v11, r_v10]
  rw [vis_at]
  split_ifs with hh
  · simp only [v52_real a h t s R HQ HQr HQ0 HK HKr HV HG Hμ, v42_real a h t R HQ HQr HQ0 HK HKr HV HG Hμ, v61_real a h t R HQ HQr HQ0 HK HKr HV HG Hμ, v40_real a h t s R HQ HQr HQ0 HK HKr HV HG Hμ]
    rw [(R h).div_L, ← EReal.coe_add, ← EReal.coe_mul, (R h).z_eq]
  · rw [(R h).z_masked t s hh, EReal.coe_zero, zero_mul]

/-- The gradient of the queries. -/
theorem v71_real : r_v71 a (ix3 h t x) = ∑ s, ((R h).z t s : EReal) * sc * ((R h).K s (lo x) : EReal) := by
  pointwise [r_v71, r_v2]
  simp only [v67_real a _ _ _ R HQ HQr HQ0 HK HKr HV HG Hμ, HK]

theorem v69_real : r_v69 a (ix3 h t y) = ∑ s, ((R h).z t s : EReal) * sc * ((R h).K s (mid y) : EReal) := by
  pointwise [r_v69, r_v3]
  simp only [v67_real a _ _ _ R HQ HQr HQ0 HK HKr HV HG Hμ, HKr h]

/-- The gradient of the keys. -/
theorem v72_real : r_v72 a (ix3 h s x) = ∑ t, ((R h).z t s : EReal) * sc * ((R h).Q t (lo x) : EReal) := by
  pointwise [r_v72, r_v70, r_v0]
  simp only [v67_real a _ _ _ R HQ HQr HQ0 HK HKr HV HG Hμ, HQ]

/-- The gradient of the shared rotary keys, over all heads. -/
theorem v68_real : r_v68 a (ix2 s y) = ∑ h, ∑ t, ((R h).z t s : EReal) * sc * ((R h).Q t (mid y) : EReal) := by
  pointwise [r_v68, r_v1]
  simp only [v67_real a _ _ _ R HQ HQr HQ0 HK HKr HV HG Hμ, HQr]

/-- The gradient of the values. -/
theorem v73_real : r_v73 a (ix3 h s x) = ∑ t, ((R h).G t x : EReal) * ((R h).p t s : EReal) := by
  pointwise [r_v73, r_v51, r_v50, r_v49]
  simp only [v44_real a _ _ _ R HQ HQr HQ0 HK HKr HV HG Hμ, HG]

end Real

end Cert.MlaRefIdeal.Ops

end
-- ==== Proof.MSame.lean ====
module

public import proofs.«01_k».proof.Proof.MBridge
public import proofs.«01_k».proof.Proof.MKerVals
public import proofs.«01_k».proof.Proof.MRefVals

@[expose] public section

set_option maxRecDepth 16384

noncomputable section

namespace Cert.MlaIdeal.Ops

open Idealize.ShloMosaic Idealize.ShloMosaic.TcCoe Idealize.ShloMosaic.StableHlo Cert.MlaIdeal Cert.MlaIdeal.Gen Cert.MlaIdeal.Bwd

theorem parts (x : Fin 256) : (∃ y, x = lo y) ∨ (∃ y, x = mid y) ∨ ∃ y, x = top y := by
  by_cases h : x.val < 128
  · exact Or.inl ⟨⟨x.val, h⟩, rfl⟩
  · by_cases h1 : x.val < 192
    · exact Or.inr (Or.inl ⟨⟨x.val - 128, by omega⟩, Fin.ext (by show x.val = 128 + (x.val - 128); omega)⟩)
    · exact Or.inr (Or.inr ⟨⟨x.val - 192, by omega⟩, Fin.ext (by show x.val = 192 + (x.val - 192); omega)⟩)

/-- The host's text after the call: a head's columns of a result with 256 columns a head. -/
theorem split_at {φ : FTy} (A : FVec Ideal S4096x4096 φ) (h : Fin 16) (t : Fin 4096) (z : Fin 256) :
    transpose S16x4096x256 [1, 0, 2] (shapeCast S4096x16x256 A shapeCasts_S4096x4096_S4096x16x256) transposes_S4096x16x256_S16x4096x256_1_0_2 (ix3 h t z) = A (ix2 t (col h z)) := by
  pointwise
  refine congrArg A ((ix2_inj ..).2 ⟨Fin.ext ?_, Fin.ext ?_⟩)
  · show _ = t.val
    have hh := h.isLt
    have hz := z.isLt
    simp
    try omega
  · show _ = 256 * h.val + z.val
    have hh := h.isLt
    have hz := z.isLt
    simp
    try omega

theorem slice0 {φ : FTy} (B : FVec Ideal S16x4096x256 φ) (h : Fin 16) (t : Fin 4096) (x : Fin 128) :
    extractStridedSlice S16x4096x128 ![0, 0, 0] B slices_S16x4096x256_S16x4096x128_0_0_0 (ix3 h t x) = B (ix3 h t (lo x)) := by
  pointwise
  rfl

theorem slice1 {φ : FTy} (B : FVec Ideal S16x4096x256 φ) (h : Fin 16) (t : Fin 4096) (y : Fin 64) :
    extractStridedSlice S16x4096x64 ![0, 0, 128] B slices_S16x4096x256_S16x4096x64_0_0_128 (ix3 h t y) = B (ix3 h t (mid y)) := by
  pointwise
  rfl

theorem slice2 {φ : FTy} (B : FVec Ideal S16x4096x256 φ) (h : Fin 16) (t : Fin 4096) (x : Fin 128) :
    extractStridedSlice S16x4096x128 ![0, 0, 128] B slices_S16x4096x256_S16x4096x128_0_0_128 (ix3 h t x) = B (ix3 h t (hi x)) := by
  pointwise
  rfl

theorem slice3 {φ : FTy} (B : FVec Ideal S4096x128 φ) (t : Fin 4096) (y : Fin 64) :
    extractStridedSlice S4096x64 ![0, 0] B slices_S4096x128_S4096x64_0_0 (ix2 t y) = B (ix2 t (lo64 y)) := by
  pointwise
  rfl

variable (m : (ℓ : Loc nD τ sig) → Buf (Elt Ideal) ℓ) (c : Dev nD) (R : Fin 16 → RHead)
  (HQ : ∀ h t x, (args m c).qn (ix3 h t x) = ((R h).Q t (lo x) : EReal))
  (HQr : ∀ h t y, (args m c).qr (ix3 h t y) = ((R h).Q t (mid y) : EReal))
  (HQ0 : ∀ h t y, (R h).Q t (top y) = 0)
  (HK : ∀ h t x, (args m c).kn (ix3 h t x) = ((R h).K t (lo x) : EReal))
  (HKr : ∀ h t y, (args m c).kr (ix2 t y) = ((R h).K t (mid y) : EReal))
  (HK0 : ∀ h t y, (R h).K t (top y) = 0)
  (HV : ∀ h t x, (args m c).v (ix3 h t x) = ((R h).V t x : EReal))
  (HG : ∀ h t x, (args m c).g (ix3 h t x) = ((R h).G t x : EReal))
  (Hμ : ∀ h t, (R h).mx t = ((R h).μ t : EReal))

include HQ HQr HQ0 HK HKr HK0 HV HG Hμ

/-- The head that the call works on is the one over the reals. -/
theorem head_real (h : Fin 16) : head m c h = (R h).toHead := by
  have e1 : (fun t x => V m c main_v39 (ix2 t (col h x))) = fun t x => ((R h).Q t x : EReal) := by
    funext t x
    rw [V_v39]
    refine (v39_at _ h t x).trans ?_
    rcases parts x with ⟨y, rfl⟩ | ⟨y, rfl⟩ | ⟨y, rfl⟩
    · exact (v37_lo _ h t y).trans (HQ h t y)
    · exact (v37_mid _ h t y).trans (HQr h t y)
    · rw [v37_top, HQ0]
      rfl
  have e2 : (fun t x => keys m c h t x) = fun t x => ((R h).K t x : EReal) := by
    funext t x
    unfold keys
    rw [V_v42, V_v44]
    rcases parts x with ⟨y, rfl⟩ | ⟨y, rfl⟩ | ⟨y, rfl⟩
    · rw [dif_pos (show (lo y).val < 128 from y.isLt)]
      exact (v42_at _ h t (lo y)).trans ((v40_lo _ h t y).trans (HK h t y))
    · rw [dif_neg (show ¬ (mid y).val < 128 by show ¬ 128 + y.val < 128; omega)]
      refine Eq.trans (congrArg (fun z => k_v44 (args m c) (ix2 t z)) (Fin.ext ?_ : _ = lo64 y)) ((v44_lo _ t y).trans (HKr h t y))
      show 128 + y.val - 128 = y.val
      omega
    · rw [dif_neg (show ¬ (top y).val < 128 by show ¬ 192 + y.val < 128; omega), HK0]
      refine v44_hi _ t _ ?_
      show 64 ≤ 192 + y.val - 128
      omega
  have e3 : (fun t x => V m c main_v42 (ix2 t (col h (hi x)))) = fun t x => ((R h).V t x : EReal) := by
    funext t x
    rw [V_v42]
    exact (v42_at _ h t (hi x)).trans ((v40_hi _ h t x).trans (HV h t x))
  have e4 : (fun t x => V m c main_v46 (ix2 t (col1 h x))) = fun t x => ((R h).G t x : EReal) := by
    funext t x
    rw [V_v46]
    exact (v46_at _ h t x).trans (HG h t x)
  have e5 : (fun t => V m c main_v27 (ix3 h t 0)) = fun t => (((R h).μ t + Real.log ((R h).L t) : ℝ) : EReal) := by
    funext t
    rw [V_v27]
    exact v27_real _ h t R HQ HQr HQ0 HK HKr HV HG Hμ
  have e6 : (fun t => V m c main_v35 (ix3 h t 0)) = fun t => ((R h).δ t : EReal) := by
    funext t
    rw [V_v35]
    exact v35_real _ h t R HQ HQr HQ0 HK HKr HV HG Hμ
  unfold head RHead.toHead
  rw [e1, e2, e3, e4, e5, e6]

theorem dq_real (h : Fin 16) (t : Fin 4096) (x : Fin 256) : (dats m 0 c).arrAt 7 cfg0.N (ix2 t (col h x)) = ∑ s, ((R h).z t s : EReal) * sc * ((R h).K s x : EReal) :=
  (arr7 m c t h x).trans ((congrArg (fun H => Head.dq H t x) (head_real m c R HQ HQr HQ0 HK HKr HK0 HV HG Hμ h)).trans ((R h).dq_coe t x))

theorem dk_real (h : Fin 16) (s : Fin 4096) (x : Fin 128) : (dats m 0 c).arrAt 8 cfg0.N (ix2 s (col h (lo x))) = ∑ t, ((R h).z t s : EReal) * sc * ((R h).Q t (lo x) : EReal) :=
  (arr8 m c s h (lo x)).trans ((dkv_lo _ s x).trans ((congrArg (fun H => Head.dk H s (lo x)) (head_real m c R HQ HQr HQ0 HK HKr HK0 HV HG Hμ h)).trans ((R h).dk_coe s (lo x))))

theorem dv_real (h : Fin 16) (s : Fin 4096) (x : Fin 128) : (dats m 0 c).arrAt 8 cfg0.N (ix2 s (col h (hi x))) = ∑ t, ((R h).G t x : EReal) * ((R h).p t s : EReal) :=
  (arr8 m c s h (hi x)).trans ((dkv_hi _ s x).trans ((congrArg (fun H => Head.dv H s x) (head_real m c R HQ HQr HQ0 HK HKr HK0 HV HG Hμ h)).trans ((R h).dv_coe s x)))

theorem dkr_real (s : Fin 4096) (y : Fin 64) : @Eq EReal ((dats m 0 c).arrAt 9 cfg0.N (ix2 s (lo64 y))) (∑ h, ∑ t, ((R h).z t s : EReal) * sc * ((R h).Q t (mid y) : EReal)) := by
  have e : @Eq EReal ((dats m 0 c).arrAt 9 cfg0.N (ix2 s (lo64 y))) (dkr m c s (lo64 y)) := arr9 m c s (lo64 y)
  refine e.trans ?_
  unfold dkr
  refine Finset.sum_congr rfl fun h _ => ?_
  exact (congrArg (fun H => Head.dk H s (mid y)) (head_real m c R HQ HQr HQ0 HK HKr HK0 HV HG Hμ h)).trans ((R h).dk_coe s (mid y))

def refArgs : Cert.MlaRefIdeal.Ops.Args := ⟨m (c.tc.loc main_arg0), m (c.tc.loc main_arg1), m (c.tc.loc main_arg2), m (c.tc.loc main_arg3), m (c.tc.loc main_arg4), m (c.tc.loc main_arg5)⟩

theorem same0 : extractStridedSlice S16x4096x128 ![0, 0, 0] (transpose S16x4096x256 [1, 0, 2] (shapeCast S4096x16x256 ((dats m 0 c).arrAt 7 cfg0.N : FVec Ideal S4096x4096 .f32) shapeCasts_S4096x4096_S4096x16x256) transposes_S4096x16x256_S16x4096x256_1_0_2) slices_S16x4096x256_S16x4096x128_0_0_0
      = Cert.MlaRefIdeal.Ops.r_v71 (refArgs m c) := by
  funext i
  rw [eq_ix3 i]
  generalize i 0 = h
  generalize i 1 = t
  generalize i 2 = x
  exact (slice0 _ h t x).trans ((split_at _ h t (lo x)).trans ((dq_real m c R HQ HQr HQ0 HK HKr HK0 HV HG Hμ h t (lo x)).trans (Cert.MlaRefIdeal.Ops.v71_real _ h t x R HQ HQr HQ0 HK HKr HV HG Hμ).symm))

theorem same1 : extractStridedSlice S16x4096x64 ![0, 0, 128] (transpose S16x4096x256 [1, 0, 2] (shapeCast S4096x16x256 ((dats m 0 c).arrAt 7 cfg0.N : FVec Ideal S4096x4096 .f32) shapeCasts_S4096x4096_S4096x16x256) transposes_S4096x16x256_S16x4096x256_1_0_2) slices_S16x4096x256_S16x4096x64_0_0_128
      = Cert.MlaRefIdeal.Ops.r_v69 (refArgs m c) := by
  funext i
  rw [eq_ix3 i]
  generalize i 0 = h
  generalize i 1 = t
  generalize i 2 = x
  exact (slice1 _ h t x).trans ((split_at _ h t (mid x)).trans ((dq_real m c R HQ HQr HQ0 HK HKr HK0 HV HG Hμ h t (mid x)).trans (Cert.MlaRefIdeal.Ops.v69_real _ h t x R HQ HQr HQ0 HK HKr HV HG Hμ).symm))

theorem same2 : extractStridedSlice S16x4096x128 ![0, 0, 0] (transpose S16x4096x256 [1, 0, 2] (shapeCast S4096x16x256 ((dats m 0 c).arrAt 8 cfg0.N : FVec Ideal S4096x4096 .bf16) shapeCasts_S4096x4096_S4096x16x256) transposes_S4096x16x256_S16x4096x256_1_0_2) slices_S16x4096x256_S16x4096x128_0_0_0
      = Cert.MlaRefIdeal.Ops.r_v72 (refArgs m c) := by
  funext i
  rw [eq_ix3 i]
  generalize i 0 = h
  generalize i 1 = t
  generalize i 2 = x
  exact (slice0 _ h t x).trans ((split_at _ h t (lo x)).trans ((dk_real m c R HQ HQr HQ0 HK HKr HK0 HV HG Hμ h t x).trans (Cert.MlaRefIdeal.Ops.v72_real _ h t x R HQ HQr HQ0 HK HKr HV HG Hμ).symm))

theorem same3 : extractStridedSlice S4096x64 ![0, 0] ((dats m 0 c).arrAt 9 cfg0.N : FVec Ideal S4096x128 .f32) slices_S4096x128_S4096x64_0_0
      = Cert.MlaRefIdeal.Ops.r_v68 (refArgs m c) := by
  funext i
  rw [eq_ix2 i]
  generalize i 0 = t
  generalize i 1 = x
  exact (slice3 _ t x).trans ((dkr_real m c R HQ HQr HQ0 HK HKr HK0 HV HG Hμ t x).trans (Cert.MlaRefIdeal.Ops.v68_real _ t x R HQ HQr HQ0 HK HKr HV HG Hμ).symm)

theorem same4 : extractStridedSlice S16x4096x128 ![0, 0, 128] (transpose S16x4096x256 [1, 0, 2] (shapeCast S4096x16x256 ((dats m 0 c).arrAt 8 cfg0.N : FVec Ideal S4096x4096 .bf16) shapeCasts_S4096x4096_S4096x16x256) transposes_S4096x16x256_S16x4096x256_1_0_2) slices_S16x4096x256_S16x4096x128_0_0_128
      = Cert.MlaRefIdeal.Ops.r_v73 (refArgs m c) := by
  funext i
  rw [eq_ix3 i]
  generalize i 0 = h
  generalize i 1 = t
  generalize i 2 = x
  exact (slice2 _ h t x).trans ((split_at _ h t (hi x)).trans ((dv_real m c R HQ HQr HQ0 HK HKr HK0 HV HG Hμ h t x).trans (Cert.MlaRefIdeal.Ops.v73_real _ h t x R HQ HQr HQ0 HK HKr HV HG Hμ).symm))

end Cert.MlaIdeal.Ops

end
-- ==== Proof.MTail.lean ====
module

public import proofs.«01_k».proof.Proof.MSame

@[expose] public section

set_option maxRecDepth 16384

noncomputable section

namespace Cert.MlaIdeal.Ops

open Idealize.ShloMosaic Idealize.ShloMosaic.TcCoe Idealize.ShloMosaic.StableHlo Cert.MlaIdeal Cert.MlaIdeal.Gen Cert.MlaIdeal.Bwd

variable (m : (ℓ : Loc nD τ sig) → Buf (Elt Ideal) ℓ) (c : Dev nD)

/-- What an array of the pipeline holds when the host lines after the region start. -/
theorem read (w : Fin cfg0.W) :
    Pipeline.withArrays spec0 c (V0 m c) (fun w => (dats m 0 c).arrAt w cfg0.N) (Proc.devRef .tc (Pipeline.arrRef spec0 w)) = (dats m 0 c).arrAt w cfg0.N :=
  (dats m 0 c).withArrays_arrAt sharedIn0 (V0 m c) (A_eq m c) w

theorem tail0 :
    @Eq (FVec Ideal S16x4096x128 .f32) (Pipeline.afterTail₀ cfgs (dats m) 0 (V0 m) [hostOps1] c main_v52)
      (extractStridedSlice S16x4096x128 ![0, 0, 0] (transpose S16x4096x256 [1, 0, 2] (shapeCast S4096x16x256 ((dats m 0 c).arrAt 7 cfg0.N : FVec Ideal S4096x4096 .f32) shapeCasts_S4096x4096_S4096x16x256) transposes_S4096x16x256_S16x4096x256_1_0_2) slices_S16x4096x256_S16x4096x128_0_0_0) := by
  rw [← read m c 7]
  unfold Pipeline.afterTail₀
  generalize hW : Pipeline.withArrays spec0 c (V0 m c) (fun w => (dats m 0 c).arrAt w cfg0.N) = W
  unfold hostOps1
  simp only [List.flatten_cons, List.flatten_nil, List.append_nil]
  after_results_simp
  rfl

theorem tail1 :
    @Eq (FVec Ideal S16x4096x64 .f32) (Pipeline.afterTail₀ cfgs (dats m) 0 (V0 m) [hostOps1] c main_v53)
      (extractStridedSlice S16x4096x64 ![0, 0, 128] (transpose S16x4096x256 [1, 0, 2] (shapeCast S4096x16x256 ((dats m 0 c).arrAt 7 cfg0.N : FVec Ideal S4096x4096 .f32) shapeCasts_S4096x4096_S4096x16x256) transposes_S4096x16x256_S16x4096x256_1_0_2) slices_S16x4096x256_S16x4096x64_0_0_128) := by
  rw [← read m c 7]
  unfold Pipeline.afterTail₀
  generalize hW : Pipeline.withArrays spec0 c (V0 m c) (fun w => (dats m 0 c).arrAt w cfg0.N) = W
  unfold hostOps1
  simp only [List.flatten_cons, List.flatten_nil, List.append_nil]
  after_results_simp
  rfl

theorem tail2 :
    @Eq (FVec Ideal S16x4096x128 .bf16) (Pipeline.afterTail₀ cfgs (dats m) 0 (V0 m) [hostOps1] c main_v54)
      (extractStridedSlice S16x4096x128 ![0, 0, 0] (transpose S16x4096x256 [1, 0, 2] (shapeCast S4096x16x256 ((dats m 0 c).arrAt 8 cfg0.N : FVec Ideal S4096x4096 .bf16) shapeCasts_S4096x4096_S4096x16x256) transposes_S4096x16x256_S16x4096x256_1_0_2) slices_S16x4096x256_S16x4096x128_0_0_0) := by
  rw [← read m c 8]
  unfold Pipeline.afterTail₀
  generalize hW : Pipeline.withArrays spec0 c (V0 m c) (fun w => (dats m 0 c).arrAt w cfg0.N) = W
  unfold hostOps1
  simp only [List.flatten_cons, List.flatten_nil, List.append_nil]
  after_results_simp
  rfl

theorem tail3 :
    @Eq (FVec Ideal S4096x64 .f32) (Pipeline.afterTail₀ cfgs (dats m) 0 (V0 m) [hostOps1] c main_v55)
      (extractStridedSlice S4096x64 ![0, 0] ((dats m 0 c).arrAt 9 cfg0.N : FVec Ideal S4096x128 .f32) slices_S4096x128_S4096x64_0_0) := by
  rw [← read m c 9]
  unfold Pipeline.afterTail₀
  generalize hW : Pipeline.withArrays spec0 c (V0 m c) (fun w => (dats m 0 c).arrAt w cfg0.N) = W
  unfold hostOps1
  simp only [List.flatten_cons, List.flatten_nil, List.append_nil]
  after_results_simp

theorem tail4 :
    @Eq (FVec Ideal S16x4096x128 .bf16) (Pipeline.afterTail₀ cfgs (dats m) 0 (V0 m) [hostOps1] c main_v56)
      (extractStridedSlice S16x4096x128 ![0, 0, 128] (transpose S16x4096x256 [1, 0, 2] (shapeCast S4096x16x256 ((dats m 0 c).arrAt 8 cfg0.N : FVec Ideal S4096x4096 .bf16) shapeCasts_S4096x4096_S4096x16x256) transposes_S4096x16x256_S16x4096x256_1_0_2) slices_S16x4096x256_S16x4096x128_0_0_128) := by
  rw [← read m c 8]
  unfold Pipeline.afterTail₀
  generalize hW : Pipeline.withArrays spec0 c (V0 m c) (fun w => (dats m 0 c).arrAt w cfg0.N) = W
  unfold hostOps1
  simp only [List.flatten_cons, List.flatten_nil, List.append_nil]
  after_results_simp
  rfl

end Cert.MlaIdeal.Ops

end
-- ==== Proof.MFinite.lean ====
module

public import proofs.«01_k».proof.Defs
public import proofs.«01_k».proof.Proof.Finite
public import proofs.«01_k».proof.Proof.MHead
public import Idealize.ShloMosaic.Lib.Pointwise
public import Idealize.ShloMosaic.Lib.WordCmp

@[expose] public section

set_option maxRecDepth 16384

noncomputable section

namespace Cert.Pre_finite_mla.Ops

open Idealize.ShloMosaic Idealize.ShloMosaic.TcCoe Idealize.ShloMosaic.StableHlo Cert.Pre_finite_mla Cert.MlaIdeal.Bwd
open Cert.Pre_finite.Ops (real_of_bit)

variable [Facts] [Cert.Pre_finite.Facts]

variable (a0 : FVec Ideal S16x4096x128 .bf16) (a1 : FVec Ideal S16x4096x64 .bf16) (a2 : FVec Ideal S16x4096x128 .bf16) (a3 : FVec Ideal S4096x64 .bf16) (a4 : FVec Ideal S16x4096x128 .bf16) (a5 : FVec Ideal S16x4096x128 .bf16)

theorem real0 (hb : (fn (F := Ideal) a0 a1 a2 a3 a4 a5).1 = fun _ => 1#1) (h : Fin 16) (t : Fin 4096) (x : Fin 128) : ∃ r : ℝ, a0 (ix3 h t x) = (r : EReal) := by
  have := congrFun hb (ix3 h t x)
  unfold fn at this
  pointwise at this
  exact real_of_bit _ this

theorem real1 (hb : (fn (F := Ideal) a0 a1 a2 a3 a4 a5).2.1 = fun _ => 1#1) (h : Fin 16) (t : Fin 4096) (x : Fin 64) : ∃ r : ℝ, a1 (ix3 h t x) = (r : EReal) := by
  have := congrFun hb (ix3 h t x)
  unfold fn at this
  pointwise at this
  exact real_of_bit _ this

theorem real2 (hb : (fn (F := Ideal) a0 a1 a2 a3 a4 a5).2.2.1 = fun _ => 1#1) (h : Fin 16) (t : Fin 4096) (x : Fin 128) : ∃ r : ℝ, a2 (ix3 h t x) = (r : EReal) := by
  have := congrFun hb (ix3 h t x)
  unfold fn at this
  pointwise at this
  exact real_of_bit _ this

theorem real3 (hb : (fn (F := Ideal) a0 a1 a2 a3 a4 a5).2.2.2.1 = fun _ => 1#1) (t : Fin 4096) (x : Fin 64) : ∃ r : ℝ, a3 (ix2 t x) = (r : EReal) := by
  have := congrFun hb (ix2 t x)
  unfold fn at this
  pointwise at this
  exact real_of_bit _ this

theorem real4 (hb : (fn (F := Ideal) a0 a1 a2 a3 a4 a5).2.2.2.2.1 = fun _ => 1#1) (h : Fin 16) (t : Fin 4096) (x : Fin 128) : ∃ r : ℝ, a4 (ix3 h t x) = (r : EReal) := by
  have := congrFun hb (ix3 h t x)
  unfold fn at this
  pointwise at this
  exact real_of_bit _ this

theorem real5 (hb : (fn (F := Ideal) a0 a1 a2 a3 a4 a5).2.2.2.2.2 = fun _ => 1#1) (h : Fin 16) (t : Fin 4096) (x : Fin 128) : ∃ r : ℝ, a5 (ix3 h t x) = (r : EReal) := by
  have := congrFun hb (ix3 h t x)
  unfold fn at this
  pointwise at this
  exact real_of_bit _ this

/-- A row of 256 columns of a head: 128 columns, 64 rotary columns, 64 zeros. -/
def row (f : Fin 128 → ℝ) (g : Fin 64 → ℝ) (x : Fin 256) : ℝ :=
  if h : x.val < 128 then f ⟨x.val, h⟩ else if h : x.val < 192 then g ⟨x.val - 128, by omega⟩ else 0

theorem row_lo (f : Fin 128 → ℝ) (g : Fin 64 → ℝ) (x : Fin 128) : row f g (lo x) = f x := by
  have h : (lo x).val < 128 := x.isLt
  unfold row
  rw [dif_pos h]
  rfl

theorem row_mid (f : Fin 128 → ℝ) (g : Fin 64 → ℝ) (y : Fin 64) : row f g (mid y) = g y := by
  have h : ¬ (mid y).val < 128 := by show ¬ 128 + y.val < 128; omega
  have h' : (mid y).val < 192 := by show 128 + y.val < 192; omega
  unfold row
  rw [dif_neg h, dif_pos h']
  exact congrArg g (Fin.ext (by show 128 + y.val - 128 = y.val; omega))

theorem row_top (f : Fin 128 → ℝ) (g : Fin 64 → ℝ) (y : Fin 64) : row f g (top y) = 0 := by
  have h : ¬ (top y).val < 128 := by show ¬ 192 + y.val < 128; omega
  have h' : ¬ (top y).val < 192 := by show ¬ 192 + y.val < 192; omega
  unfold row
  rw [dif_neg h, dif_neg h']

/-- The heads over the reals that finite arguments hold. -/
theorem heads (h0 : (fn (F := Ideal) a0 a1 a2 a3 a4 a5).1 = fun _ => 1#1) (h1 : (fn (F := Ideal) a0 a1 a2 a3 a4 a5).2.1 = fun _ => 1#1) (h2 : (fn (F := Ideal) a0 a1 a2 a3 a4 a5).2.2.1 = fun _ => 1#1) (h3 : (fn (F := Ideal) a0 a1 a2 a3 a4 a5).2.2.2.1 = fun _ => 1#1) (h4 : (fn (F := Ideal) a0 a1 a2 a3 a4 a5).2.2.2.2.1 = fun _ => 1#1) (h5 : (fn (F := Ideal) a0 a1 a2 a3 a4 a5).2.2.2.2.2 = fun _ => 1#1) :
    ∃ R : Fin 16 → RHead,
      (∀ h t x, a0 (ix3 h t x) = ((R h).Q t (lo x) : EReal))
      ∧ (∀ h t y, a1 (ix3 h t y) = ((R h).Q t (mid y) : EReal))
      ∧ (∀ h t y, (R h).Q t (top y) = 0)
      ∧ (∀ h t x, a2 (ix3 h t x) = ((R h).K t (lo x) : EReal))
      ∧ (∀ h t y, a3 (ix2 t y) = ((R h).K t (mid y) : EReal))
      ∧ (∀ h t y, (R h).K t (top y) = 0)
      ∧ (∀ h t x, a4 (ix3 h t x) = ((R h).V t x : EReal))
      ∧ (∀ h t x, a5 (ix3 h t x) = ((R h).G t x : EReal))
      ∧ (∀ h t, (R h).mx t = ((R h).μ t : EReal)) := by
  choose f0 hf0 using real0 a0 a1 a2 a3 a4 a5 h0
  choose f1 hf1 using real1 a0 a1 a2 a3 a4 a5 h1
  choose f2 hf2 using real2 a0 a1 a2 a3 a4 a5 h2
  choose f3 hf3 using real3 a0 a1 a2 a3 a4 a5 h3
  choose f4 hf4 using real4 a0 a1 a2 a3 a4 a5 h4
  choose f5 hf5 using real5 a0 a1 a2 a3 a4 a5 h5
  let R0 : Fin 16 → RHead := fun h => ⟨fun t => row (f0 h t) (f1 h t), fun t => row (f2 h t) (f3 t), f4 h, f5 h, fun _ => 0⟩
  choose μ hμ using fun h => (R0 h).mx_real
  refine ⟨fun h => ⟨(R0 h).Q, (R0 h).K, (R0 h).V, (R0 h).G, μ h⟩, fun h t x => (hf0 h t x).trans (congrArg _ (row_lo _ _ x).symm), fun h t y => (hf1 h t y).trans (congrArg _ (row_mid _ _ y).symm), fun h t y => row_top _ _ y,
    fun h t x => (hf2 h t x).trans (congrArg _ (row_lo _ _ x).symm), fun h t y => (hf3 t y).trans (congrArg _ (row_mid _ _ y).symm), fun h t y => row_top _ _ y,
    fun h t x => hf4 h t x, fun h t x => hf5 h t x, fun h t => hμ h t⟩

end Cert.Pre_finite_mla.Ops

end
-- ==== Proof.MClaim.lean ====
module

public import proofs.«01_k».proof.Defs
public import proofs.«01_k».proof.Proof.Gen.Pre_finite
public import proofs.«01_k».proof.Proof.Gen.Pre_finite_mla
public import proofs.«01_k».proof.Proof.Gen.MlaIdeal.Frame
public import proofs.«01_k».proof.Proof.Gen.MlaRefIdeal.Run
public import proofs.«01_k».proof.Proof.MTail
public import proofs.«01_k».proof.Proof.MFinite
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem

section

open Cert.MlaRefIdeal

/-- The frame of the latent attention's reference: host operations only. -/
theorem mref_frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_mono (Value.run m ρ) fun r h => ⟨fun c => (h c).2.2.2.2.2, sem_eq_zero_of_no_sems rfl _⟩

end

section

open Cert.MlaIdeal Cert.MlaIdeal.Gen

/-- The run of the latent attention's backward: the five results as the lines after the region leave them, the arguments unchanged. -/
theorem mla_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v52) = Pipeline.afterTail₀ cfgs (dats m) 0 (V0 m) [hostOps1] c main_v52
      ∧ r.2.mem ((c.tc : Thread nD τ).loc main_v53) = Pipeline.afterTail₀ cfgs (dats m) 0 (V0 m) [hostOps1] c main_v53
      ∧ r.2.mem ((c.tc : Thread nD τ).loc main_v54) = Pipeline.afterTail₀ cfgs (dats m) 0 (V0 m) [hostOps1] c main_v54
      ∧ r.2.mem ((c.tc : Thread nD τ).loc main_v55) = Pipeline.afterTail₀ cfgs (dats m) 0 (V0 m) [hostOps1] c main_v55
      ∧ r.2.mem ((c.tc : Thread nD τ).loc main_v56) = Pipeline.afterTail₀ cfgs (dats m) 0 (V0 m) [hostOps1] c main_v56
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  θ_run_mono (θ_run_and (run_main m g) (unchanged m g)) fun r h c =>
    ⟨(h.1 c).2 main_v52 (Pipeline.mem_restRefs_of main_v52 (by decide) (by decide)), (h.1 c).2 main_v53 (Pipeline.mem_restRefs_of main_v53 (by decide) (by decide)), (h.1 c).2 main_v54 (Pipeline.mem_restRefs_of main_v54 (by decide) (by decide)), (h.1 c).2 main_v55 (Pipeline.mem_restRefs_of main_v55 (by decide) (by decide)), (h.1 c).2 main_v56 (Pipeline.mem_restRefs_of main_v56 (by decide) (by decide)), h.2 c⟩

end

/-- The latent attention's gradient: the kernel's five results are the reference's. -/
theorem mla_claim : Cert.algebraic_MlaIdeal_MlaRefIdeal_pre_finite_mla (hMlaIdeal := Cert.MlaIdeal.Gen.facts) (hMlaRefIdeal := Cert.MlaRefIdeal.Gen.facts) (hPre_finite_mla := Cert.Pre_finite_mla.Gen.facts) := fun m g m' g' hpre hagree => by
  refine ⟨_, _, _, _, _, mla_run m g, ?_⟩
  refine θ_run_mono (Cert.MlaRefIdeal.Value.run m' g') fun r h c => ?_
  obtain ⟨h0, h1, h2, h3, h4, h5⟩ := hpre c
  obtain ⟨R, HQ, HQr, HQ0, HK, HKr, HK0, HV, HG, Hμ⟩ := Cert.Pre_finite_mla.Ops.heads _ _ _ _ _ _ h0 h1 h2 h3 h4 h5
  obtain ⟨e0, e1, e2, e3, e4, e5⟩ := hagree c
  have ea : Cert.MlaRefIdeal.Ops.args m' c = Cert.MlaIdeal.Ops.refArgs m c := by
    unfold Cert.MlaRefIdeal.Ops.args Cert.MlaIdeal.Ops.refArgs
    rw [e0, e1, e2, e3, e4, e5]
  refine ⟨(h c).1.trans ?_, (h c).2.1.trans ?_, (h c).2.2.1.trans ?_, (h c).2.2.2.1.trans ?_, (h c).2.2.2.2.1.trans ?_, (h c).2.2.2.2.2⟩
  · refine (Cert.MlaRefIdeal.Ops.res0 m' c).trans ?_
    rw [ea]
    exact ((Cert.MlaIdeal.Ops.tail0 m c).trans (Cert.MlaIdeal.Ops.same0 m c R HQ HQr HQ0 HK HKr HK0 HV HG Hμ)).symm
  · refine (Cert.MlaRefIdeal.Ops.res1 m' c).trans ?_
    rw [ea]
    exact ((Cert.MlaIdeal.Ops.tail1 m c).trans (Cert.MlaIdeal.Ops.same1 m c R HQ HQr HQ0 HK HKr HK0 HV HG Hμ)).symm
  · refine (Cert.MlaRefIdeal.Ops.res2 m' c).trans ?_
    rw [ea]
    exact ((Cert.MlaIdeal.Ops.tail2 m c).trans (Cert.MlaIdeal.Ops.same2 m c R HQ HQr HQ0 HK HKr HK0 HV HG Hμ)).symm
  · refine (Cert.MlaRefIdeal.Ops.res3 m' c).trans ?_
    rw [ea]
    exact ((Cert.MlaIdeal.Ops.tail3 m c).trans (Cert.MlaIdeal.Ops.same3 m c R HQ HQr HQ0 HK HKr HK0 HV HG Hμ)).symm
  · refine (Cert.MlaRefIdeal.Ops.res4 m' c).trans ?_
    rw [ea]
    exact ((Cert.MlaIdeal.Ops.tail4 m c).trans (Cert.MlaIdeal.Ops.same4 m c R HQ HQr HQ0 HK HKr HK0 HV HG Hμ)).symm

end Cert.Proof

end
-- ==== Proof.Tile.lean ====
module

public import Idealize.ShloMosaic.Lib.Pipeline.ValueKit
public import Idealize.ShloMosaic.Lib.Pipeline.Value
public import Idealize.ShloMosaic.Lib.Pointwise

@[expose] public section

set_option maxRecDepth 16384

noncomputable section

namespace Cert.Tile

open Idealize.ShloMosaic

theorem hz2 : (![0, 0] : Fin 2 → Nat) = fun _ => 0 := funext fun a => by match a with | ⟨0, _⟩ => rfl | ⟨1, _⟩ => rfl

theorem hz4 : (![0, 0, 0, 0] : Fin 4 → Nat) = fun _ => 0 := funext fun a => by match a with | ⟨0, _⟩ => rfl | ⟨1, _⟩ => rfl | ⟨2, _⟩ => rfl | ⟨3, _⟩ => rfl

/-- A load of the whole of what a last store of the whole left reads that store's payload. -/
theorem readCov_cons_zero {Val : EltTy → Type} [∀ e, Nonempty (Val e)] {sig : RefSig} {κ : Kind} {sp : Space} {S : Shape} {e : EltTy}
    (v : View sig κ sp S e) {off off' : Fin S.rank → Nat} (h : off = fun _ => 0) (h' : off' = fun _ => 0)
    (inb : ∀ a, off a + S.size a ≤ S.size a) (inb' : ∀ a, off' a + S.size a ≤ S.size a) (w : S.Idx → Val e) (L : List (View.Piece Val S e)) :
    v.readCov ((⟨Rect.unit off S.size inb, w⟩ : View.Piece Val S e) :: L) (Rect.unit off' S.size inb').toLoadRect = w := by
  rw [View.readCov_eq_canon', View.canon_cons_unit_zero h]
  exact View.ld_unit_zero h' inb' w

/-- A load of the whole of a buffer reads it. -/
theorem readAt_zero {Val : EltTy → Type} {sig : RefSig} {κ : Kind} {sp : Space} {S : Shape} {e : EltTy} (a : Memref sig κ sp S e) (h : a.IsWhole)
    {off : Fin S.rank → Nat} (h0 : off = fun _ => 0) (inb : ∀ a, off a + S.size a ≤ S.size a) (x : S.Idx → Val e) :
    View.readAt Val a.view (Rect.unit off S.size inb).toLoadRect (h.unread x) = x := by
  rw [View.readAt_eq_ld, h.read_unread, View.ld_unit_zero h0]

theorem ix2_of {a b : ℕ} (j : Shape.Idx ⟨2, ![a, b]⟩) : ∃ (r : Fin a) (s : Fin b), j = ix2 r s :=
  ⟨j 0, j 1, funext fun d => by match d with | ⟨0, _⟩ => rfl | ⟨1, _⟩ => rfl⟩

/-- A number below `n · 1024`, from its tile and its place in the tile. -/
def tile {n : ℕ} (N : ℕ) (h : n * 1024 = N) (b : Fin n) (x : Fin 1024) : Fin N :=
  ⟨b.val * 1024 + x.val, by have := b.isLt; have := x.isLt; subst h; nlinarith⟩

theorem sum_tile {n : ℕ} (N : ℕ) (h : n * 1024 = N) (f : Fin N → EReal) : ∑ k, f k = ∑ b : Fin n, ∑ x : Fin 1024, f (tile N h b x) :=
  Fin.sum_univ_tiles n 1024 h f

/-- A value that starts anew at every multiple of `p` and gains a term at each other point is the sum of the terms since. -/
theorem fold_eq (p N : ℕ) (hp : 0 < p) (f : (n : ℕ) → n < N → EReal) (M : ℕ → EReal) (h0 : ∀ n h, n % p = 0 → f n h = M n)
    (h1 : ∀ n h, ¬n % p = 0 → f n h = f (n - 1) (Nat.lt_of_le_of_lt (Nat.sub_le _ _) h) + M n) :
    ∀ n h, f n h = ∑ b ∈ Finset.range (n % p + 1), M (p * (n / p) + b) := by
  intro n
  induction n with
  | zero => intro h; rw [h0 0 h (Nat.zero_mod _), Nat.zero_mod, Nat.zero_div]; simp
  | succ n ih =>
    intro h
    by_cases hn : (n + 1) % p = 0
    · rw [h0 _ h hn, hn, Nat.zero_add, Finset.sum_range_one]
      exact congrArg M (by have := Nat.div_add_mod (n + 1) p; omega)
    · have e1 := Nat.div_add_mod (n + 1) p
      have e3 := Nat.mod_lt (n + 1) hp
      have e5 : n / p = (n + 1) / p := by
        refine Nat.div_eq_of_lt_le ?_ ?_
        · rw [Nat.mul_comm]; omega
        · rw [Nat.add_mul, Nat.one_mul, Nat.mul_comm]; omega
      have e6 : n % p + 1 = (n + 1) % p := by
        have := Nat.div_add_mod n p
        rw [e5] at this
        omega
      rw [h1 _ h hn, Finset.sum_range_succ, ← e6]
      refine congrArg₂ (fun a b : EReal => a + b) ((ih _).trans ?_) (congrArg M (by omega))
      rw [e5]

end Cert.Tile

end
-- ==== Proof.DxVal.lean ====
module

public import proofs.«01_k».proof.Proof.Gen.Dx
public import proofs.«01_k».proof.Proof.Gen.DxIdeal
public import proofs.«01_k».proof.Proof.Gen.DxRefIdeal
public import proofs.«01_k».proof.Proof.Gen.Dx.Frame
public import proofs.«01_k».proof.Proof.Gen.DxIdeal.Frame
public import proofs.«01_k».proof.Proof.Gen.DxIdeal.Value
public import proofs.«01_k».proof.Proof.Gen.DxRefIdeal.Run
public import proofs.«01_k».proof.Defs
public import proofs.«01_k».proof.Proof.Tile
public import Idealize.ShloMosaic.Lib.Claim

@[expose] public section

set_option maxRecDepth 16384

noncomputable section

namespace Cert.DxIdeal.Prod

open Idealize.ShloMosaic Idealize.ShloMosaic.TcCoe Idealize.SL.Sem Cert.DxIdeal Cert.DxIdeal.Gen Cert.DxIdeal.Value Cert.Tile

section
variable (c : Dev nD) (i : grid0.Coords) (u3 : Memref sig .tc .vmem S1024x1024 .bf16) (z3 : u3.IsWhole) (u4 : Memref sig .tc .vmem S1024x1024 .f32) (z4 : u4.IsWhole) (u5 : Memref sig .tc .vmem S1024x1024 .bf16) (z5 : u5.IsWhole) (u6 : Memref sig .tc .vmem S1024x1024 .f32) (z6 : u6.IsWhole) (u7 : Memref sig .tc .vmem S1024x1024 .f32) (z7 : u7.IsWhole)
include c i u3 z3 u4 z4 u5 z5 u6 z6 u7 z7

theorem sout_A (hc0 : cond0_0 i) (hc1 : cond0_1 i) (hc2 : ¬cond0_2 i) (hc3 : ¬cond0_3 i) (x0 : Vec Ideal S1024x1024 .bf16) (x1 : Vec Ideal S1024x1024 .f32) (x2 : Vec Ideal S1024x1024 .bf16) :
    sout0_A_0 (F := Ideal) c i u3 z3 u4 z4 u5 z5 u6 z6 u7 z7 hc0 hc1 hc2 hc3 x0 x1 x2 = k0_pay2 k0_pay1 x0 x2 := by
  unfold sout0_A_0
  rw [View.read_writes_junk_eq_canon]
  unfold kernelRun0_A
  dsimp only
  rw [View.canon_cons_unit_zero hz2]
  simp only [kernelRun0_A.sl.v12, kernelRun0_A.sl.HS0_1, readAt_zero u3 z3 hz2, readAt_zero u4 z4 hz2, readAt_zero u5 z5 hz2, readAt_zero u7 z7 hz2, readCov_cons_zero u7.view hz2 hz2]

theorem sout_B (hc0 : ¬cond0_0 i) (hc1 : cond0_1 i) (hc2 : ¬cond0_2 i) (hc3 : ¬cond0_3 i) (x0 : Vec Ideal S1024x1024 .bf16) (x1 : Vec Ideal S1024x1024 .f32) (x2 : Vec Ideal S1024x1024 .bf16) (xs0 : Vec Ideal S1024x1024 .f32) :
    sout0_B_0 (F := Ideal) c i u3 z3 u4 z4 u5 z5 u6 z6 u7 z7 hc0 hc1 hc2 hc3 x0 x1 x2 xs0 = k0_pay2 xs0 x0 x2 := by
  unfold sout0_B_0
  rw [View.read_writes_junk_eq_canon]
  unfold kernelRun0_B
  dsimp only
  rw [View.canon_cons_unit_zero hz2]
  simp only [readAt_zero u3 z3 hz2, readAt_zero u4 z4 hz2, readAt_zero u5 z5 hz2, readAt_zero u7 z7 hz2, readCov_cons_zero u7.view hz2 hz2]

theorem sout_C (hc0 : ¬cond0_0 i) (hc1 : ¬cond0_1 i) (hc2 : cond0_2 i) (hc3 : ¬cond0_3 i) (x0 : Vec Ideal S1024x1024 .bf16) (x1 : Vec Ideal S1024x1024 .f32) (x2 : Vec Ideal S1024x1024 .bf16) (xs0 : Vec Ideal S1024x1024 .f32) :
    sout0_C_0 (F := Ideal) c i u3 z3 u4 z4 u5 z5 u6 z6 u7 z7 hc0 hc1 hc2 hc3 x0 x1 x2 xs0 = k0_pay3 xs0 x1 x2 := by
  unfold sout0_C_0
  rw [View.read_writes_junk_eq_canon]
  unfold kernelRun0_C
  dsimp only
  rw [View.canon_cons_unit_zero hz2]
  simp only [readAt_zero u3 z3 hz2, readAt_zero u4 z4 hz2, readAt_zero u5 z5 hz2, readAt_zero u7 z7 hz2, readCov_cons_zero u7.view hz2 hz2]

theorem sout_D (hc0 : ¬cond0_0 i) (hc1 : ¬cond0_1 i) (hc2 : cond0_2 i) (hc3 : cond0_3 i) (x0 : Vec Ideal S1024x1024 .bf16) (x1 : Vec Ideal S1024x1024 .f32) (x2 : Vec Ideal S1024x1024 .bf16) (xs0 : Vec Ideal S1024x1024 .f32) :
    sout0_D_0 (F := Ideal) c i u3 z3 u4 z4 u5 z5 u6 z6 u7 z7 hc0 hc1 hc2 hc3 x0 x1 x2 xs0 = k0_pay3 xs0 x1 x2 := by
  unfold sout0_D_0
  rw [View.read_writes_junk_eq_canon]
  unfold kernelRun0_D
  dsimp only
  unfold kernelRun0_D.sl.HS0_1
  rw [View.canon_cons_unit_zero hz2]
  simp only [readAt_zero u3 z3 hz2, readAt_zero u4 z4 hz2, readAt_zero u5 z5 hz2, readAt_zero u7 z7 hz2, readCov_cons_zero u7.view hz2 hz2]

theorem out_D (hc0 : ¬cond0_0 i) (hc1 : ¬cond0_1 i) (hc2 : cond0_2 i) (hc3 : cond0_3 i) (x0 : Vec Ideal S1024x1024 .bf16) (x1 : Vec Ideal S1024x1024 .f32) (x2 : Vec Ideal S1024x1024 .bf16) (xs0 : Vec Ideal S1024x1024 .f32) :
    out0_D_3 (F := Ideal) c i u3 z3 u4 z4 u5 z5 u6 z6 u7 z7 hc0 hc1 hc2 hc3 x0 x1 x2 xs0 = k0_pay3 xs0 x1 x2 := by
  unfold out0_D_3
  rw [View.read_writes_junk_eq_canon]
  unfold kernelRun0_D
  dsimp only
  rw [View.canon_cons_unit_zero hz2]
  simp only [kernelRun0_D.sl.v12, kernelRun0_D.sl.HS0_1, readAt_zero u3 z3 hz2, readAt_zero u4 z4 hz2, readAt_zero u5 z5 hz2, readAt_zero u7 z7 hz2, readCov_cons_zero u7.view hz2 hz2]

end

theorem pay1_at (r s : Fin 1024) : k0_pay1 (F := Ideal) (ix2 r s) = 0 := by
  pointwise [k0_pay1]

theorem pay2_at (a : Vec Ideal S1024x1024 .f32) (x0 : Vec Ideal S1024x1024 .bf16) (x1 : Vec Ideal S1024x1024 .bf16) (r s : Fin 1024) :
    k0_pay2 a x0 x1 (ix2 r s) = a (ix2 r s) + ∑ k : Fin 1024, x0 (ix2 r k) * x1 (ix2 s k) := by
  pointwise [k0_pay2]

theorem pay3_at (a : Vec Ideal S1024x1024 .f32) (x0 : Vec Ideal S1024x1024 .f32) (x1 : Vec Ideal S1024x1024 .bf16) (r s : Fin 1024) :
    k0_pay3 a x0 x1 (ix2 r s) = a (ix2 r s) + ∑ k : Fin 1024, x0 (ix2 r k) * x1 (ix2 s k) := by
  pointwise [k0_pay3]

theorem idx_facts : ∀ t : Fin cfg0.N, win0_0.index t (0 : Fin 2) = t.val / 8 ∧ (t.val % 8 ≤ 5 → win0_0.index t (1 : Fin 2) = t.val % 8)
    ∧ win0_1.index t (0 : Fin 2) = t.val / 8 ∧ (6 ≤ t.val % 8 → win0_1.index t (1 : Fin 2) = t.val % 8 - 6) ∧ win0_2.index t (0 : Fin 2) = 0 ∧ win0_2.index t (1 : Fin 2) = t.val % 8
    ∧ win0_3.index t (0 : Fin 2) = t.val / 8 ∧ win0_3.index t (1 : Fin 2) = 0 :=
  (by decide +kernel : ∀ t : Fin grid0.N, _)

/-- The two gradients side by side. -/
def gcat (a0 : Vec Ideal S4096x6144 .bf16) (a1 : Vec Ideal S4096x2048 .f32) (i : Fin 4096) (k : Fin 8192) : EReal :=
  if h : k.val < 6144 then a0 (ix2 i (⟨k.val, h⟩ : Fin 6144)) else a1 (ix2 i (⟨k.val - 6144, by have := k.isLt; omega⟩ : Fin 2048))

/-- The product with the weight's transpose, over the arrays. -/
def G (a0 : Vec Ideal S4096x6144 .bf16) (a1 : Vec Ideal S4096x2048 .f32) (a2 : Vec Ideal S1024x8192 .bf16) : Vec Ideal S4096x1024 .f32 := fun i =>
  (∑ k : Fin 8192, gcat a0 a1 (i 0) k * a2 (ix2 (i 1) k) : EReal)

variable (m : (ℓ : Loc nD τ sig) → Buf (Elt Ideal) ℓ) (ρ : Dev nD → PrngReg)

/-- A tile's product, the left one's entries of the short format. -/
def mm1 (x0 : Vec Ideal S1024x1024 .bf16) (x1 : Vec Ideal S1024x1024 .bf16) (r s : Fin 1024) : EReal :=
  ∑ k : Fin 1024, (x0 (ix2 r k) * x1 (ix2 s k) : EReal)

/-- A tile's product, the left one's entries of the long format. -/
def mm2 (x0 : Vec Ideal S1024x1024 .f32) (x1 : Vec Ideal S1024x1024 .bf16) (r s : Fin 1024) : EReal :=
  ∑ k : Fin 1024, (x0 (ix2 r k) * x1 (ix2 s k) : EReal)

/-- The part of the product that a row block and a reduction block give. -/
def part (a0 : Vec Ideal S4096x6144 .bf16) (a1 : Vec Ideal S4096x2048 .f32) (a2 : Vec Ideal S1024x8192 .bf16) (q : Fin 4) (b : Fin 8) (r s : Fin 1024) : EReal :=
  ∑ k : Fin 1024, (gcat a0 a1 (tile 4096 rfl q r) (tile 8192 rfl b k) * a2 (ix2 s (tile 8192 rfl b k)) : EReal)

/-- What a point adds. -/
def M (c : Dev nD) (t : Fin cfg0.N) (r s : Fin 1024) : EReal :=
  if t.val % 8 ≤ 5 then mm1 (iblk m c 0 t) (iblk m c 2 t) r s else mm2 (iblk m c 1 t) (iblk m c 2 t) r s

theorem w_eq (c : Dev nD) (t : Fin cfg0.N) (s k : Fin 1024) (b : Fin 8) (hb : b.val = t.val % 8) :
    (iblk m c 2 t : Vec Ideal S1024x1024 .bf16) (ix2 s k) = (m ((c : Thread nD τ).loc main_arg2) : Vec Ideal S1024x8192 .bf16) (ix2 s (tile 8192 rfl b k)) := by
  obtain ⟨e0, e1, e2, e3, e4, e5, e6, e7⟩ := idx_facts t
  rw [← V_main_arg2 m c]
  show V m c main_arg2 (((cfg0.win 2).blk t).view.emb (ix2 s k)) = V m c main_arg2 _
  refine congrArg (V m c main_arg2) (funext fun a => Fin.ext ?_)
  match a with
  | ⟨0, _⟩ => show win0_2.index t (0 : Fin 2) * 1024 + 1 * s.val = s.val; omega
  | ⟨1, _⟩ => show win0_2.index t (1 : Fin 2) * 1024 + 1 * k.val = b.val * 1024 + k.val; omega

theorem M_eq (c : Dev nD) (t : Fin cfg0.N) (r s : Fin 1024) (q : Fin 4) (b : Fin 8) (hq : q.val = t.val / 8) (hb : b.val = t.val % 8) :
    M m c t r s = part (m ((c : Thread nD τ).loc main_arg0)) (m ((c : Thread nD τ).loc main_arg1)) (m ((c : Thread nD τ).loc main_arg2)) q b r s := by
  obtain ⟨e0, e1, e2, e3, e4, e5, e6, e7⟩ := idx_facts t
  unfold M part
  by_cases h5 : t.val % 8 ≤ 5
  · rw [if_pos h5]
    unfold mm1
    refine Finset.sum_congr rfl fun k _ => congrArg₂ (fun a b : EReal => a * b) ?_ (w_eq m c t s k b hb)
    have hk : (tile 8192 rfl b k).val < 6144 := by show b.val * 1024 + k.val < 6144; have := k.isLt; omega
    unfold gcat
    rw [dif_pos hk, ← V_main_arg0 m c]
    show V m c main_arg0 (((cfg0.win 0).blk t).view.emb (ix2 r k)) = V m c main_arg0 _
    refine congrArg (V m c main_arg0) (funext fun a => Fin.ext ?_)
    have e1' := e1 h5
    match a with
    | ⟨0, _⟩ => show win0_0.index t (0 : Fin 2) * 1024 + 1 * r.val = q.val * 1024 + r.val; omega
    | ⟨1, _⟩ => show win0_0.index t (1 : Fin 2) * 1024 + 1 * k.val = b.val * 1024 + k.val; omega
  · rw [if_neg h5]
    unfold mm2
    refine Finset.sum_congr rfl fun k _ => congrArg₂ (fun a b : EReal => a * b) ?_ (w_eq m c t s k b hb)
    have hk : ¬(tile 8192 rfl b k).val < 6144 := by show ¬b.val * 1024 + k.val < 6144; omega
    unfold gcat
    rw [dif_neg hk, ← V_main_arg1 m c]
    show V m c main_arg1 (((cfg0.win 1).blk t).view.emb (ix2 r k)) = V m c main_arg1 _
    refine congrArg (V m c main_arg1) (funext fun a => Fin.ext ?_)
    have e3' := e3 (by omega)
    match a with
    | ⟨0, _⟩ => show win0_1.index t (0 : Fin 2) * 1024 + 1 * r.val = q.val * 1024 + r.val; omega
    | ⟨1, _⟩ => show win0_1.index t (1 : Fin 2) * 1024 + 1 * k.val = b.val * 1024 + k.val - 6144; omega

/-- What a point adds, by its number. -/
def MN (c : Dev nD) (r s : Fin 1024) (n : ℕ) : EReal := if h : n < cfg0.N then M m c ⟨n, h⟩ r s else 0

theorem MN_eq (c : Dev nD) (r s : Fin 1024) (n : ℕ) (h : n < cfg0.N) : MN m c r s n = M m c ⟨n, h⟩ r s := dif_pos h

theorem scr (c : Dev nD) (r s : Fin 1024) : ∀ n h, (outsAt0 m c n h).2 (ix2 r s)
    = ∑ b ∈ Finset.range (n % 8 + 1), MN m c r s (8 * (n / 8) + b) := by
  refine fold_eq 8 cfg0.N (by decide) (fun n h => (outsAt0 m c n h).2 (ix2 r s)) (MN m c r s) (fun n h hn => ?_) (fun n h hn => ?_)
  · rw [MN_eq m c r s n h]
    rw [outsAt0_A m c ⟨n, h⟩ hn (by dsimp only; omega) (by dsimp only; omega) (by dsimp only; omega)]
    dsimp only
    rw [sout_A, pay2_at, pay1_at, zero_add]
    unfold M
    rw [if_pos (by dsimp only; omega)]
    rfl
  · rw [MN_eq m c r s n h]
    unfold M
    by_cases h5 : n % 8 ≤ 5
    · rw [outsAt0_B m c ⟨n, h⟩ hn h5 (by dsimp only; omega) (by dsimp only; omega), if_pos h5]
      dsimp only
      rw [sout_B, pay2_at]
      rfl
    · by_cases h7 : n % 8 = 7
      · rw [outsAt0_D m c ⟨n, h⟩ hn h5 (by dsimp only; omega) h7, if_neg h5]
        dsimp only
        rw [sout_D, pay3_at]
        rfl
      · rw [outsAt0_C m c ⟨n, h⟩ hn h5 (by dsimp only; omega) h7, if_neg h5]
        dsimp only
        rw [sout_C, pay3_at]
        rfl

theorem flushed_eq (c : Dev nD) (t : Fin cfg0.N) (hf : (cfg0.win 3).flush t = true) :
    (dats m 0 c).flushed 3 t = ((cfg0.win 3).blk t).view.read (Elt Ideal) (G (m ((c : Thread nD τ).loc main_arg0)) (m ((c : Thread nD τ).loc main_arg1)) (m ((c : Thread nD τ).loc main_arg2))) := by
  have hm : t.val % 8 = 7 := (flush0_3 t).mp hf
  have hN : t.val < 32 := lt_of_lt_of_eq t.isLt N_0
  obtain ⟨e0, e1, e2, e3, e4, e5, e6, e7⟩ := idx_facts t
  rw [flushed3_D m c t (by omega) (by omega) (by omega) hm]
  funext j
  obtain ⟨r, s, rfl⟩ : ∃ (r s : Fin 1024), j = ix2 r s := ⟨j 0, j 1, funext fun a => by match a with | ⟨0, _⟩ => rfl | ⟨1, _⟩ => rfl⟩
  show out0_D_3 (F := Ideal) _ _ _ _ _ _ _ _ _ _ _ _ _ _ _ _ _ _ _ _ (ix2 r s) = G _ _ _ (((cfg0.win 3).blk t).view.emb (ix2 r s))
  have hs := scr m c r s t.val t.isLt
  rw [outsAt0_D m c t (by omega) (by omega) (by omega) hm] at hs
  dsimp only at hs
  rw [sout_D] at hs
  rw [out_D, hs, hm, Finset.sum_range]
  have hi : ((cfg0.win 3).blk t).view.emb (ix2 r s) = ix2 (tile 4096 rfl (⟨t.val / 8, by omega⟩ : Fin 4) r) s := funext fun a => Fin.ext (by
    match a with
    | ⟨0, _⟩ => show win0_3.index t (0 : Fin 2) * 1024 + 1 * r.val = t.val / 8 * 1024 + r.val; omega
    | ⟨1, _⟩ => show win0_3.index t (1 : Fin 2) * 1024 + 1 * s.val = s.val; omega)
  rw [hi]
  unfold G
  rw [sum_tile (n := 8) 8192 rfl]
  refine Finset.sum_congr rfl fun b _ => ?_
  have hb : 8 * (t.val / 8) + b.val < cfg0.N := lt_of_lt_of_eq (by have := b.isLt; omega : _ < 32) N_0.symm
  rw [MN_eq m c r s _ hb]
  exact M_eq m c ⟨_, hb⟩ r s ⟨t.val / 8, by omega⟩ b (by dsimp only; omega) (by dsimp only; omega)

theorem final (c : Dev nD) : (dats m 0 c).arrAt 3 cfg0.N = G (m ((c : Thread nD τ).loc main_arg0)) (m ((c : Thread nD τ).loc main_arg1)) (m ((c : Thread nD τ).loc main_arg2)) :=
  (dats m 0 c).arrAt_eq_of_cover 3 _ (fun t hf => flushed_eq m c t hf) (fun i => (covered_iff3 i).2 (by
    have h0 : (i 0).val < 4096 := (i 0).isLt; have h1 : (i 1).val < 1024 := (i 1).isLt; omega))

end Cert.DxIdeal.Prod

namespace Cert.DxRefIdeal.Prod

open Idealize.ShloMosaic Idealize.ShloMosaic.TcCoe Idealize.SL.Sem Cert.DxRefIdeal Cert.DxRefIdeal.Gen Cert.Tile

def R (a0 : FVec Ideal S4096x6144 .bf16) (a1 : FVec Ideal S4096x2048 .f32) (a2 : FVec Ideal S1024x8192 .bf16) : FVec Ideal S4096x1024 .f32 :=
  Host.dotGeneral dot_S4096x8192_S1024x8192_S4096x1024_1_1_0_0_n_n none (addf (pad S4096x8192 ![0, 6144] ![0, 0] ![0, 0] a1 (constant S_ .f32 0x00000000#32) pads_S4096x2048_S4096x8192_000_614400 h_S_) (pad S4096x8192 ![0, 0] ![0, 2048] ![0, 0] (extf .f32 a0 bitsLt_bf16_f32) (constant S_ .f32 0x00000000#32) pads_S4096x6144_S4096x8192_000_020480 h_S_)) (extf .f32 a2 bitsLt_bf16_f32)

theorem cat_eq (a0 : FVec Ideal S4096x6144 .bf16) (a1 : FVec Ideal S4096x2048 .f32) (a2 : FVec Ideal S1024x8192 .bf16) (r : Fin 4096) (k : Fin 8192) :
    (addf (pad S4096x8192 ![0, 6144] ![0, 0] ![0, 0] a1 (constant S_ .f32 0x00000000#32) pads_S4096x2048_S4096x8192_000_614400 h_S_) (pad S4096x8192 ![0, 0] ![0, 2048] ![0, 0] (extf .f32 a0 bitsLt_bf16_f32) (constant S_ .f32 0x00000000#32) pads_S4096x6144_S4096x8192_000_020480 h_S_) : FVec Ideal S4096x8192 .f32) (ix2 r k)
      = Cert.DxIdeal.Prod.gcat a0 a1 r k := by
  unfold Cert.DxIdeal.Prod.gcat
  split_ifs with h
  · pointwise
    rw [dif_neg (by omega), dif_pos h, zero_add]
  · pointwise
    have := k.isLt
    rw [dif_pos (by omega), dif_neg h, add_zero]

theorem R_eq (a0 : FVec Ideal S4096x6144 .bf16) (a1 : FVec Ideal S4096x2048 .f32) (a2 : FVec Ideal S1024x8192 .bf16) : R a0 a1 a2 = Cert.DxIdeal.Prod.G a0 a1 a2 := by
  funext i
  obtain ⟨r, s, rfl⟩ := ix2_of i
  unfold Cert.DxIdeal.Prod.G R
  have h : ∀ g : FVec Ideal S4096x8192 .f32, Host.dotGeneral dot_S4096x8192_S1024x8192_S4096x1024_1_1_0_0_n_n none g (extf .f32 a2 bitsLt_bf16_f32) (ix2 r s) = ∑ k : Fin 8192, g (ix2 r k) * a2 (ix2 s k) := by
    intro g
    pointwise
  rw [h]
  exact Finset.sum_congr rfl fun k _ => congrArg₂ (fun a b : EReal => a * b) (cat_eq a0 a1 a2 r k) rfl

theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_mono (Value.run m ρ) fun r h => ⟨fun c => (h c).2, sem_eq_zero_of_no_sems rfl _⟩

end Cert.DxRefIdeal.Prod

open Idealize.ShloMosaic Idealize.ShloMosaic.TcCoe Idealize.SL.Sem in
theorem Cert.DxIdeal.Prod.claim : Cert.algebraic_DxIdeal_DxRefIdeal (hDxIdeal := Cert.DxIdeal.Gen.facts) (hDxRefIdeal := Cert.DxRefIdeal.Gen.facts) := fun m g m' g' _ hagree =>
  ⟨_, θ_run_mono (Cert.DxIdeal.Value.run_blocks m g) fun r h c => ⟨(h c).1.trans (Cert.DxIdeal.Prod.final m c), (h c).2⟩,
    θ_run_mono (Cert.DxRefIdeal.Value.run m' g') fun r h c => ⟨(h c).1.trans (by
      rw [(hagree c).1, (hagree c).2.1, (hagree c).2.2]
      exact Cert.DxRefIdeal.Prod.R_eq _ _ _), (h c).2⟩⟩

end
-- ==== Proof.DwBlocks.lean ====
module

public import proofs.«01_k».proof.Proof.Gen.DwIdeal.Frame
public import Idealize.ShloMosaic.Lib.Pipeline.Value

@[expose] public section

noncomputable section

/-! What the weight gradient's kernel leaves, block by block: what each point of the last reduction step writes back, and the run with its output named. -/

namespace Cert.DwIdeal.Value

open Cert.DwIdeal Cert.DwIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem flushed3 (c : Dev nD) (t : Fin cfg0.N) :
    (dats m 0 c).flushed 3 t = (cfg0.win 3).cut (grid0.coords t) ((outsAt0 m c t.val t.isLt).1) := by
  show (cfg0.win 3).cut (grid0.coords t) ((dats m 0 c).after 3 t) = _
  rw [after0_3]

theorem flushed3_C (c : Dev nD) (t : Fin cfg0.N) (h0 : ¬t.val % 4 = 0) (h1 : t.val < 24) (h2 : ¬24 ≤ t.val) (h3 : t.val % 4 = 3) :
    (dats m 0 c).flushed 3 t = (cfg0.win 3).cut (grid0.coords t) (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (fun h => h2 ((hcond0_2 t).mp h)) ((hcond0_3 t).mpr h3) (iblk m c 0 t) (iblk m c 1 t) (iblk m c 2 t) (outsAt0 m c (t.val - 1) (Nat.lt_of_le_of_lt (Nat.sub_le _ _) t.isLt)).2) := by
  simp only [flushed3, outsAt0_C m c t h0 h1 h2 h3]

theorem flushed3_F (c : Dev nD) (t : Fin cfg0.N) (h0 : ¬t.val % 4 = 0) (h1 : ¬t.val < 24) (h2 : 24 ≤ t.val) (h3 : t.val % 4 = 3) :
    (dats m 0 c).flushed 3 t = (cfg0.win 3).cut (grid0.coords t) (out0_F_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (outsAt0 m c (t.val - 1) (Nat.lt_of_le_of_lt (Nat.sub_le _ _) t.isLt)).2) := by
  simp only [flushed3, outsAt0_F m c t h0 h1 h2 h3]

theorem post3 (r : PUnit × MemSt nD τ sig (Elt F)) (h : Pipeline.FramePost cfgs (dats m) 0 (V m) r) (c : Dev nD) :
    r.2.mem ((c : Thread nD τ).loc main_v2) = (dats m 0 c).arrAt 3 cfg0.N :=
  (h c).1 3

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

theorem run_blocks : θ_run defs (onTc (τ := τ) (main (F := F))) ⟨m, fun _ => 0, ρ⟩ fun r => ∀ c : Dev nD,
      r.2.mem ((c : Thread nD τ).loc main_v2) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c,
      kept_main_arg0 m r h c,
      kept_main_arg1 m r h c,
      kept_main_arg2 m r h c⟩)
    (run_main m ρ)

/-- The output block at each point. -/
theorem idx_facts3 : ∀ t : Fin cfg0.N, 0 ≤ win0_3.index t (0 : Fin 4) ∧ win0_3.index t (0 : Fin 4) ≤ 1
    ∧ 0 ≤ win0_3.index t (1 : Fin 4) ∧ win0_3.index t (1 : Fin 4) ≤ 3
    ∧ 0 ≤ win0_3.index t (2 : Fin 4) ∧ win0_3.index t (2 : Fin 4) ≤ 0
    ∧ 0 ≤ win0_3.index t (3 : Fin 4) ∧ win0_3.index t (3 : Fin 4) ≤ 0
    ∧ 1 * (win0_3.index t (0 : Fin 4) - 0) + 2 * (win0_3.index t (1 : Fin 4) - 0) + 8 * (win0_3.index t (2 : Fin 4) - 0) + 8 * (win0_3.index t (3 : Fin 4) - 0) = t.val / 4 :=
  (by decide +kernel : ∀ t : Fin grid0.N, _)

/-- Every block of the box is SOME flushing point's: `onto3Pt`, the point that writes back the block at place `q` of the box (the last point of its run). -/
abbrev onto3Pt (q0 : Fin 2) (q1 : Fin 4) (q2 : Fin 1) (q3 : Fin 1) : Fin grid0.N :=
  ⟨4 * (1 * q0.val + 2 * q1.val + 8 * q2.val + 8 * q3.val) + 3, lt_of_lt_of_eq (by omega) N_0.symm⟩
theorem idx_onto3 : ∀ (q0 : Fin 2) (q1 : Fin 4) (q2 : Fin 1) (q3 : Fin 1), ∃ t : Fin cfg0.N, (cfg0.win 3).flush t = true ∧ win0_3.index t = ![q0.val + 0, q1.val + 0, q2.val + 0, q3.val + 0] :=
  fun q0 q1 q2 q3 => ⟨onto3Pt q0 q1 q2 q3, (by decide +kernel : ∀ (q0 : Fin 2) (q1 : Fin 4) (q2 : Fin 1) (q3 : Fin 1), win0_3.flush (onto3Pt q0 q1 q2 q3) = true ∧ win0_3.index (onto3Pt q0 q1 q2 q3) = ![q0.val + 0, q1.val + 0, q2.val + 0, q3.val + 0]) q0 q1 q2 q3⟩

theorem mem_blk3 (t : Fin cfg0.N) (i : S2x4x1024x1024.Idx) :
    i ∈ ((cfg0.win 3).blk t).view.set ↔ ∀ a : Fin 4, win0_3.index t a * S1x1x1024x1024.size a ≤ (i a).val ∧ (i a).val < win0_3.index t a * S1x1x1024x1024.size a + S1x1x1024x1024.size a := by
  show i ∈ ((View.whole main_v2).slice (win0_3.rect t)).set ↔ _
  rw [View.set_slice_whole, Rect.mem_set_unit]
  exact Iff.rfl

theorem covered_iff3 (i : S2x4x1024x1024.Idx) :
    (∃ t : Fin cfg0.N, (cfg0.win 3).flush t = true ∧ i ∈ ((cfg0.win 3).blk t).view.set) ↔ 0 ≤ (i 0).val ∧ (i 0).val < 2 ∧ 0 ≤ (i 1).val ∧ (i 1).val < 4 ∧ 0 ≤ (i 2).val ∧ (i 2).val < 1024 ∧ 0 ≤ (i 3).val ∧ (i 3).val < 1024 := by
  constructor
  · rintro ⟨t, -, hi⟩
    rw [mem_blk3] at hi
    have b0 : win0_3.index t (0 : Fin 4) * 1 ≤ (i 0).val ∧ (i 0).val < win0_3.index t (0 : Fin 4) * 1 + 1 := hi 0
    have b1 : win0_3.index t (1 : Fin 4) * 1 ≤ (i 1).val ∧ (i 1).val < win0_3.index t (1 : Fin 4) * 1 + 1 := hi 1
    have b2 : win0_3.index t (2 : Fin 4) * 1024 ≤ (i 2).val ∧ (i 2).val < win0_3.index t (2 : Fin 4) * 1024 + 1024 := hi 2
    have b3 : win0_3.index t (3 : Fin 4) * 1024 ≤ (i 3).val ∧ (i 3).val < win0_3.index t (3 : Fin 4) * 1024 + 1024 := hi 3
    obtain ⟨e0, e1, e2, e3, e4⟩ := idx_facts3 t
    omega
  · intro h
    have hi0 : (i 0).val < 2 := (i 0).isLt
    have hi1 : (i 1).val < 4 := (i 1).isLt
    have hi2 : (i 2).val < 1024 := (i 2).isLt
    have hi3 : (i 3).val < 1024 := (i 3).isLt
    obtain ⟨t, hft, ht⟩ := idx_onto3 ⟨(i 0).val / 1 - 0, by omega⟩ ⟨(i 1).val / 1 - 0, by omega⟩ ⟨(i 2).val / 1024 - 0, by omega⟩ ⟨(i 3).val / 1024 - 0, by omega⟩
    have q0 : win0_3.index t (0 : Fin 4) = (i 0).val / 1 - 0 + 0 := congrFun ht 0
    have q1 : win0_3.index t (1 : Fin 4) = (i 1).val / 1 - 0 + 0 := congrFun ht 1
    have q2 : win0_3.index t (2 : Fin 4) = (i 2).val / 1024 - 0 + 0 := congrFun ht 2
    have q3 : win0_3.index t (3 : Fin 4) = (i 3).val / 1024 - 0 + 0 := congrFun ht 3
    refine ⟨t, hft, ?_⟩
    rw [mem_blk3]
    intro a
    match a with
    | ⟨0, _⟩ => show win0_3.index t (0 : Fin 4) * 1 ≤ (i 0).val ∧ (i 0).val < win0_3.index t (0 : Fin 4) * 1 + 1; omega
    | ⟨1, _⟩ => show win0_3.index t (1 : Fin 4) * 1 ≤ (i 1).val ∧ (i 1).val < win0_3.index t (1 : Fin 4) * 1 + 1; omega
    | ⟨2, _⟩ => show win0_3.index t (2 : Fin 4) * 1024 ≤ (i 2).val ∧ (i 2).val < win0_3.index t (2 : Fin 4) * 1024 + 1024; omega
    | ⟨3, _⟩ => show win0_3.index t (3 : Fin 4) * 1024 ≤ (i 3).val ∧ (i 3).val < win0_3.index t (3 : Fin 4) * 1024 + 1024; omega

end Cert.DwIdeal.Value

end
-- ==== Proof.DwVal.lean ====
module

public import proofs.«01_k».proof.Proof.Gen.Dw
public import proofs.«01_k».proof.Proof.Gen.DwIdeal
public import proofs.«01_k».proof.Proof.Gen.DwRefIdeal
public import proofs.«01_k».proof.Proof.Gen.Dw.Frame
public import proofs.«01_k».proof.Proof.Gen.DwIdeal.Frame
public import proofs.«01_k».proof.Proof.DwBlocks
public import proofs.«01_k».proof.Proof.Gen.DwRefIdeal.Run
public import proofs.«01_k».proof.Defs
public import proofs.«01_k».proof.Proof.Tile
public import Idealize.ShloMosaic.Lib.Claim

@[expose] public section

set_option maxRecDepth 16384

noncomputable section

namespace Cert.DwIdeal.Prod

open Idealize.ShloMosaic Idealize.ShloMosaic.TcCoe Idealize.SL.Sem Cert.DwIdeal Cert.DwIdeal.Gen Cert.DwIdeal.Value Cert.Tile

section
variable (c : Dev nD) (i : grid0.Coords) (u3 : Memref sig .tc .vmem S1024x1024 .bf16) (z3 : u3.IsWhole) (u4 : Memref sig .tc .vmem S1024x1024 .bf16) (z4 : u4.IsWhole) (u5 : Memref sig .tc .vmem S1024x1024 .f32) (z5 : u5.IsWhole) (u6 : Memref sig .tc .vmem S1x1x1024x1024 .f32) (z6 : u6.IsWhole) (u7 : Memref sig .tc .vmem S1024x1024 .f32) (z7 : u7.IsWhole)
include c i u3 z3 u4 z4 u5 z5 u6 z6 u7 z7

theorem sout_A (hc0 : cond0_0 i) (hc1 : cond0_1 i) (hc2 : ¬cond0_2 i) (hc3 : ¬cond0_3 i) (x0 : Vec Ideal S1024x1024 .bf16) (x1 : Vec Ideal S1024x1024 .bf16) (x2 : Vec Ideal S1024x1024 .f32) :
    sout0_A_0 (F := Ideal) c i u3 z3 u4 z4 u5 z5 u6 z6 u7 z7 hc0 hc1 hc2 hc3 x0 x1 x2 = k0_pay3 x0 (k0_pay1 (F := Ideal)) x1 := by
  unfold sout0_A_0
  rw [View.read_writes_junk_eq_canon]
  unfold kernelRun0_A
  dsimp only
  rw [View.canon_cons_unit_zero hz2]
  simp only [kernelRun0_A.sl.v14, kernelRun0_A.sl.HS0_1, readAt_zero u3 z3 hz2, readAt_zero u4 z4 hz2, readAt_zero u5 z5 hz2, readAt_zero u7 z7 hz2, readCov_cons_zero u7.view hz2 hz2]

theorem sout_B (hc0 : ¬cond0_0 i) (hc1 : cond0_1 i) (hc2 : ¬cond0_2 i) (hc3 : ¬cond0_3 i) (x0 : Vec Ideal S1024x1024 .bf16) (x1 : Vec Ideal S1024x1024 .bf16) (x2 : Vec Ideal S1024x1024 .f32) (xs0 : Vec Ideal S1024x1024 .f32) :
    sout0_B_0 (F := Ideal) c i u3 z3 u4 z4 u5 z5 u6 z6 u7 z7 hc0 hc1 hc2 hc3 x0 x1 x2 xs0 = k0_pay3 x0 xs0 x1 := by
  unfold sout0_B_0
  rw [View.read_writes_junk_eq_canon]
  unfold kernelRun0_B
  dsimp only
  rw [View.canon_cons_unit_zero hz2]
  simp only [readAt_zero u3 z3 hz2, readAt_zero u4 z4 hz2, readAt_zero u5 z5 hz2, readAt_zero u7 z7 hz2, readCov_cons_zero u7.view hz2 hz2]

theorem sout_C (hc0 : ¬cond0_0 i) (hc1 : cond0_1 i) (hc2 : ¬cond0_2 i) (hc3 : cond0_3 i) (x0 : Vec Ideal S1024x1024 .bf16) (x1 : Vec Ideal S1024x1024 .bf16) (x2 : Vec Ideal S1024x1024 .f32) (xs0 : Vec Ideal S1024x1024 .f32) :
    sout0_C_0 (F := Ideal) c i u3 z3 u4 z4 u5 z5 u6 z6 u7 z7 hc0 hc1 hc2 hc3 x0 x1 x2 xs0 = k0_pay3 x0 xs0 x1 := by
  unfold sout0_C_0
  rw [View.read_writes_junk_eq_canon]
  unfold kernelRun0_C
  dsimp only
  unfold kernelRun0_C.sl.HS0_1
  rw [View.canon_cons_unit_zero hz2]
  simp only [readAt_zero u3 z3 hz2, readAt_zero u4 z4 hz2, readAt_zero u5 z5 hz2, readAt_zero u7 z7 hz2, readCov_cons_zero u7.view hz2 hz2]

theorem sout_D (hc0 : cond0_0 i) (hc1 : ¬cond0_1 i) (hc2 : cond0_2 i) (hc3 : ¬cond0_3 i) (x0 : Vec Ideal S1024x1024 .bf16) (x1 : Vec Ideal S1024x1024 .bf16) (x2 : Vec Ideal S1024x1024 .f32) :
    sout0_D_0 (F := Ideal) c i u3 z3 u4 z4 u5 z5 u6 z6 u7 z7 hc0 hc1 hc2 hc3 x0 x1 x2 = k0_pay4 x0 (k0_pay1 (F := Ideal)) x2 := by
  unfold sout0_D_0
  rw [View.read_writes_junk_eq_canon]
  unfold kernelRun0_D
  dsimp only
  rw [View.canon_cons_unit_zero hz2]
  simp only [kernelRun0_D.sl.v14, kernelRun0_D.sl.HS0_1, readAt_zero u3 z3 hz2, readAt_zero u4 z4 hz2, readAt_zero u5 z5 hz2, readAt_zero u7 z7 hz2, readCov_cons_zero u7.view hz2 hz2]

theorem sout_E (hc0 : ¬cond0_0 i) (hc1 : ¬cond0_1 i) (hc2 : cond0_2 i) (hc3 : ¬cond0_3 i) (x0 : Vec Ideal S1024x1024 .bf16) (x1 : Vec Ideal S1024x1024 .bf16) (x2 : Vec Ideal S1024x1024 .f32) (xs0 : Vec Ideal S1024x1024 .f32) :
    sout0_E_0 (F := Ideal) c i u3 z3 u4 z4 u5 z5 u6 z6 u7 z7 hc0 hc1 hc2 hc3 x0 x1 x2 xs0 = k0_pay4 x0 xs0 x2 := by
  unfold sout0_E_0
  rw [View.read_writes_junk_eq_canon]
  unfold kernelRun0_E
  dsimp only
  rw [View.canon_cons_unit_zero hz2]
  simp only [readAt_zero u3 z3 hz2, readAt_zero u4 z4 hz2, readAt_zero u5 z5 hz2, readAt_zero u7 z7 hz2, readCov_cons_zero u7.view hz2 hz2]

theorem sout_F (hc0 : ¬cond0_0 i) (hc1 : ¬cond0_1 i) (hc2 : cond0_2 i) (hc3 : cond0_3 i) (x0 : Vec Ideal S1024x1024 .bf16) (x1 : Vec Ideal S1024x1024 .bf16) (x2 : Vec Ideal S1024x1024 .f32) (xs0 : Vec Ideal S1024x1024 .f32) :
    sout0_F_0 (F := Ideal) c i u3 z3 u4 z4 u5 z5 u6 z6 u7 z7 hc0 hc1 hc2 hc3 x0 x1 x2 xs0 = k0_pay4 x0 xs0 x2 := by
  unfold sout0_F_0
  rw [View.read_writes_junk_eq_canon]
  unfold kernelRun0_F
  dsimp only
  unfold kernelRun0_F.sl.HS0_1
  rw [View.canon_cons_unit_zero hz2]
  simp only [readAt_zero u3 z3 hz2, readAt_zero u4 z4 hz2, readAt_zero u5 z5 hz2, readAt_zero u7 z7 hz2, readCov_cons_zero u7.view hz2 hz2]

theorem out_C (hc0 : ¬cond0_0 i) (hc1 : cond0_1 i) (hc2 : ¬cond0_2 i) (hc3 : cond0_3 i) (x0 : Vec Ideal S1024x1024 .bf16) (x1 : Vec Ideal S1024x1024 .bf16) (x2 : Vec Ideal S1024x1024 .f32) (xs0 : Vec Ideal S1024x1024 .f32) :
    out0_C_3 (F := Ideal) c i u3 z3 u4 z4 u5 z5 u6 z6 u7 z7 hc0 hc1 hc2 hc3 x0 x1 x2 xs0 = k0_pay5 (k0_pay3 x0 xs0 x1) := by
  unfold out0_C_3
  rw [View.read_writes_junk_eq_canon]
  unfold kernelRun0_C
  dsimp only
  rw [View.canon_cons_unit_zero hz4]
  simp only [kernelRun0_C.sl.v14, kernelRun0_C.sl.HS0_1, readAt_zero u3 z3 hz2, readAt_zero u4 z4 hz2, readAt_zero u5 z5 hz2, readAt_zero u7 z7 hz2, readCov_cons_zero u7.view hz2 hz2]

theorem out_F (hc0 : ¬cond0_0 i) (hc1 : ¬cond0_1 i) (hc2 : cond0_2 i) (hc3 : cond0_3 i) (x0 : Vec Ideal S1024x1024 .bf16) (x1 : Vec Ideal S1024x1024 .bf16) (x2 : Vec Ideal S1024x1024 .f32) (xs0 : Vec Ideal S1024x1024 .f32) :
    out0_F_3 (F := Ideal) c i u3 z3 u4 z4 u5 z5 u6 z6 u7 z7 hc0 hc1 hc2 hc3 x0 x1 x2 xs0 = k0_pay5 (k0_pay4 x0 xs0 x2) := by
  unfold out0_F_3
  rw [View.read_writes_junk_eq_canon]
  unfold kernelRun0_F
  dsimp only
  rw [View.canon_cons_unit_zero hz4]
  simp only [kernelRun0_F.sl.v14, kernelRun0_F.sl.HS0_1, readAt_zero u3 z3 hz2, readAt_zero u4 z4 hz2, readAt_zero u5 z5 hz2, readAt_zero u7 z7 hz2, readCov_cons_zero u7.view hz2 hz2]

end

theorem pay3_at (a : Vec Ideal S1024x1024 .f32) (x0 : Vec Ideal S1024x1024 .bf16) (x1 : Vec Ideal S1024x1024 .bf16) (r s : Fin 1024) :
    k0_pay3 x0 a x1 (ix2 r s) = a (ix2 r s) + ∑ k : Fin 1024, x0 (ix2 r k) * x1 (ix2 k s) := by
  pointwise [k0_pay3, k0_pay2]

theorem pay4_at (a : Vec Ideal S1024x1024 .f32) (x0 : Vec Ideal S1024x1024 .bf16) (x1 : Vec Ideal S1024x1024 .f32) (r s : Fin 1024) :
    k0_pay4 x0 a x1 (ix2 r s) = a (ix2 r s) + ∑ k : Fin 1024, x0 (ix2 r k) * x1 (ix2 k s) := by
  pointwise [k0_pay4, k0_pay2]

theorem pay1_at (r : Fin 1024) (s : Fin 1024) : k0_pay1 (F := Ideal) (ix2 r s) = 0 := by
  pointwise [k0_pay1]

theorem sh_at (a : Vec Ideal S1024x1024 .f32) (p q : Fin 1) (r : Fin 1024) (s : Fin 1024) : k0_pay5 a (ix4 p q r s) = a (ix2 r s) := by
  pointwise [k0_pay5]

theorem idx_facts : ∀ t : Fin cfg0.N, win0_0.index t (0 : Fin 2) = 0 ∧ win0_0.index t (1 : Fin 2) = t.val % 4
    ∧ (t.val < 24 → win0_1.index t (0 : Fin 2) = t.val % 4) ∧ (t.val < 24 → win0_1.index t (1 : Fin 2) = t.val / 4)
    ∧ (24 ≤ t.val → win0_2.index t (0 : Fin 2) = t.val % 4) ∧ (24 ≤ t.val → win0_2.index t (1 : Fin 2) = t.val / 4 - 6)
    ∧ win0_3.index t (0 : Fin 4) = t.val / 4 % 2 ∧ win0_3.index t (1 : Fin 4) = t.val / 8 ∧ win0_3.index t (2 : Fin 4) = 0 ∧ win0_3.index t (3 : Fin 4) = 0 :=
  (by decide +kernel : ∀ t : Fin grid0.N, _)

/-- The two gradients side by side. -/
def gcat (a1 : Vec Ideal S4096x6144 .bf16) (a2 : Vec Ideal S4096x2048 .f32) (i : Fin 4096) (k : Fin 8192) : EReal :=
  if h : k.val < 6144 then a1 (ix2 i (⟨k.val, h⟩ : Fin 6144)) else a2 (ix2 i (⟨k.val - 6144, by have := k.isLt; omega⟩ : Fin 2048))

/-- The weight's gradient at a row and a column. -/
def E (a0 : Vec Ideal S4096x1024 .f32) (a1 : Vec Ideal S4096x6144 .bf16) (a2 : Vec Ideal S4096x2048 .f32) (p : Fin 1024) (q : Fin 8192) : EReal :=
  ∑ k : Fin 4096, (a0 (ix2 k p) * gcat a1 a2 k q : EReal)

/-- The column of a packed entry. -/
def at' (p : Fin 2) (q : Fin 4) (s : Fin 1024) : Fin 8192 := ⟨(q.val * 2 + p.val) * 1024 + s.val, by have := p.isLt; have := q.isLt; have := s.isLt; omega⟩

/-- The weight's gradient, packed. -/
def G (a0 : Vec Ideal S4096x1024 .f32) (a1 : Vec Ideal S4096x6144 .bf16) (a2 : Vec Ideal S4096x2048 .f32) : Vec Ideal S2x4x1024x1024 .f32 := fun i =>
  (E a0 a1 a2 (i 2) (at' (i 0) (i 1) (i 3)) : EReal)

variable (m : (ℓ : Loc nD τ sig) → Buf (Elt Ideal) ℓ) (ρ : Dev nD → PrngReg)

/-- The transposed copy the host makes of the first argument. -/
theorem V_v1 (c : Dev nD) : @Eq (FVec Ideal S1024x4096 .bf16) (V (F := Ideal) m c main_v1) (truncf .bf16 (transpose S1024x4096 [1, 0] (m (c.tc.loc main_arg0) : FVec Ideal S4096x1024 .f32) transposes_S4096x1024_S1024x4096_1_0) bitsLt_bf16_f32) := by
  unfold V hostOps0
  simp only [List.flatten_cons, List.flatten_nil, List.cons_append, List.nil_append, List.append_nil]
  after_results_simp

theorem V_v1_at (c : Dev nD) (p : Fin 1024) (k : Fin 4096) : (V (F := Ideal) m c main_v1 : FVec Ideal S1024x4096 .bf16) (ix2 p k) = (m (c.tc.loc main_arg0) : FVec Ideal S4096x1024 .f32) (ix2 k p) := by
  rw [V_v1]
  pointwise

/-- A tile's product, the right one's entries of the short format. -/
def mm1 (x0 : Vec Ideal S1024x1024 .bf16) (x1 : Vec Ideal S1024x1024 .bf16) (r s : Fin 1024) : EReal :=
  ∑ k : Fin 1024, (x0 (ix2 r k) * x1 (ix2 k s) : EReal)

/-- A tile's product, the right one's entries of the long format. -/
def mm2 (x0 : Vec Ideal S1024x1024 .bf16) (x1 : Vec Ideal S1024x1024 .f32) (r s : Fin 1024) : EReal :=
  ∑ k : Fin 1024, (x0 (ix2 r k) * x1 (ix2 k s) : EReal)

/-- The part of the product that a reduction block gives. -/
def part (a0 : Vec Ideal S4096x1024 .f32) (a1 : Vec Ideal S4096x6144 .bf16) (a2 : Vec Ideal S4096x2048 .f32) (b : Fin 4) (p : Fin 1024) (q : Fin 8192) : EReal :=
  ∑ k : Fin 1024, (a0 (ix2 (tile 4096 rfl b k) p) * gcat a1 a2 (tile 4096 rfl b k) q : EReal)

/-- What a point adds. -/
def M (c : Dev nD) (t : Fin cfg0.N) (r : Fin 1024) (s : Fin 1024) : EReal :=
  if t.val < 24 then mm1 (iblk m c 0 t) (iblk m c 1 t) r s else mm2 (iblk m c 0 t) (iblk m c 2 t) r s

theorem h_eq (c : Dev nD) (t : Fin cfg0.N) (r k : Fin 1024) (b : Fin 4) (hb : b.val = t.val % 4) :
    (iblk m c 0 t : Vec Ideal S1024x1024 .bf16) (ix2 r k) = (m ((c : Thread nD τ).loc main_arg0) : Vec Ideal S4096x1024 .f32) (ix2 (tile 4096 rfl b k) r) := by
  obtain ⟨e0, e1, e2, e3, e4, e5, e6, e7, e8, e9⟩ := idx_facts t
  rw [← V_v1_at m c]
  show V m c main_v1 (((cfg0.win 0).blk t).view.emb (ix2 r k)) = V m c main_v1 _
  refine congrArg (V m c main_v1) (funext fun a => Fin.ext ?_)
  match a with
  | ⟨0, _⟩ => show win0_0.index t (0 : Fin 2) * 1024 + 1 * r.val = r.val; omega
  | ⟨1, _⟩ => show win0_0.index t (1 : Fin 2) * 1024 + 1 * k.val = b.val * 1024 + k.val; omega

theorem M_eq (c : Dev nD) (t : Fin cfg0.N) (r s : Fin 1024) (b : Fin 4) (q : Fin 8192) (hb : b.val = t.val % 4) (hq : q.val = t.val / 4 * 1024 + s.val) :
    M m c t r s = part (m ((c : Thread nD τ).loc main_arg0)) (m ((c : Thread nD τ).loc main_arg1)) (m ((c : Thread nD τ).loc main_arg2)) b r q := by
  obtain ⟨e0, e1, e2, e3, e4, e5, e6, e7, e8, e9⟩ := idx_facts t
  unfold M part
  by_cases h5 : t.val < 24
  · rw [if_pos h5]
    unfold mm1
    refine Finset.sum_congr rfl fun k _ => congrArg₂ (fun a b : EReal => a * b) (h_eq m c t r k b hb) ?_
    have hk : q.val < 6144 := by have := s.isLt; omega
    unfold gcat
    rw [dif_pos hk, ← V_main_arg1 m c]
    show V m c main_arg1 (((cfg0.win 1).blk t).view.emb (ix2 k s)) = V m c main_arg1 _
    refine congrArg (V m c main_arg1) (funext fun a => Fin.ext ?_)
    have e2' := e2 h5
    have e3' := e3 h5
    match a with
    | ⟨0, _⟩ => show win0_1.index t (0 : Fin 2) * 1024 + 1 * k.val = b.val * 1024 + k.val; omega
    | ⟨1, _⟩ => show win0_1.index t (1 : Fin 2) * 1024 + 1 * s.val = q.val; omega
  · rw [if_neg h5]
    unfold mm2
    refine Finset.sum_congr rfl fun k _ => congrArg₂ (fun a b : EReal => a * b) (h_eq m c t r k b hb) ?_
    have hk : ¬q.val < 6144 := by omega
    unfold gcat
    rw [dif_neg hk, ← V_main_arg2 m c]
    show V m c main_arg2 (((cfg0.win 2).blk t).view.emb (ix2 k s)) = V m c main_arg2 _
    refine congrArg (V m c main_arg2) (funext fun a => Fin.ext ?_)
    have e4' := e4 (by omega)
    have e5' := e5 (by omega)
    match a with
    | ⟨0, _⟩ => show win0_2.index t (0 : Fin 2) * 1024 + 1 * k.val = b.val * 1024 + k.val; omega
    | ⟨1, _⟩ => show win0_2.index t (1 : Fin 2) * 1024 + 1 * s.val = q.val - 6144; omega

/-- What a point adds, by its number. -/
def MN (c : Dev nD) (r : Fin 1024) (s : Fin 1024) (n : ℕ) : EReal := if h : n < cfg0.N then M m c ⟨n, h⟩ r s else 0

theorem MN_eq (c : Dev nD) (r : Fin 1024) (s : Fin 1024) (n : ℕ) (h : n < cfg0.N) : MN m c r s n = M m c ⟨n, h⟩ r s := dif_pos h

theorem scr (c : Dev nD) (r : Fin 1024) (s : Fin 1024) : ∀ n h, (outsAt0 m c n h).2 (ix2 r s)
    = ∑ b ∈ Finset.range (n % 4 + 1), MN m c r s (4 * (n / 4) + b) := by
  refine fold_eq 4 cfg0.N (by decide) (fun n h => (outsAt0 m c n h).2 (ix2 r s)) (MN m c r s) (fun n h hn => ?_) (fun n h hn => ?_)
  · rw [MN_eq m c r s n h]
    unfold M
    by_cases h5 : n < 24
    · rw [outsAt0_A m c ⟨n, h⟩ hn h5 (by dsimp only; omega) (by dsimp only; omega), if_pos h5]
      dsimp only
      rw [sout_A, pay3_at, pay1_at, zero_add]
      rfl
    · rw [outsAt0_D m c ⟨n, h⟩ hn h5 (by dsimp only; omega) (by dsimp only; omega), if_neg h5]
      dsimp only
      rw [sout_D, pay4_at, pay1_at, zero_add]
      rfl
  · rw [MN_eq m c r s n h]
    unfold M
    by_cases h5 : n < 24
    · by_cases h7 : n % 4 = 3
      · rw [outsAt0_C m c ⟨n, h⟩ hn h5 (by dsimp only; omega) h7, if_pos h5]
        dsimp only
        rw [sout_C, pay3_at]
        rfl
      · rw [outsAt0_B m c ⟨n, h⟩ hn h5 (by dsimp only; omega) h7, if_pos h5]
        dsimp only
        rw [sout_B, pay3_at]
        rfl
    · by_cases h7 : n % 4 = 3
      · rw [outsAt0_F m c ⟨n, h⟩ hn h5 (by dsimp only; omega) h7, if_neg h5]
        dsimp only
        rw [sout_F, pay4_at]
        rfl
      · rw [outsAt0_E m c ⟨n, h⟩ hn h5 (by dsimp only; omega) h7, if_neg h5]
        dsimp only
        rw [sout_E, pay4_at]
        rfl

theorem block_at (c : Dev nD) (t : Fin cfg0.N) (hm : t.val % 4 = 3) (u v : Fin 1) (r : Fin 1024) (s : Fin 1024) :
    ((dats m 0 c).flushed 3 t : Vec Ideal S1x1x1024x1024 .f32) (ix4 u v r s) = ∑ b ∈ Finset.range (t.val % 4 + 1), MN m c r s (4 * (t.val / 4) + b) := by
  have hs := scr m c r s t.val t.isLt
  by_cases h5 : t.val < 24
  · rw [flushed3_C m c t (by omega) h5 (by omega) hm]
    rw [outsAt0_C m c t (by omega) h5 (by omega) hm] at hs
    dsimp only at hs
    rw [sout_C] at hs
    show out0_C_3 (F := Ideal) _ _ _ _ _ _ _ _ _ _ _ _ _ _ _ _ _ _ _ _ (ix4 u v r s) = _
    rw [out_C, sh_at, hs]
  · rw [flushed3_F m c t (by omega) h5 (by omega) hm]
    rw [outsAt0_F m c t (by omega) h5 (by omega) hm] at hs
    dsimp only at hs
    rw [sout_F] at hs
    show out0_F_3 (F := Ideal) _ _ _ _ _ _ _ _ _ _ _ _ _ _ _ _ _ _ _ _ (ix4 u v r s) = _
    rw [out_F, sh_at, hs]

theorem flushed_eq (c : Dev nD) (t : Fin cfg0.N) (hf : (cfg0.win 3).flush t = true) :
    (dats m 0 c).flushed 3 t = ((cfg0.win 3).blk t).view.read (Elt Ideal) (G (m ((c : Thread nD τ).loc main_arg0)) (m ((c : Thread nD τ).loc main_arg1)) (m ((c : Thread nD τ).loc main_arg2))) := by
  have hm : t.val % 4 = 3 := (flush0_3 t).mp hf
  have hN : t.val < 32 := lt_of_lt_of_eq t.isLt N_0
  obtain ⟨e0, e1, e2, e3, e4, e5, e6, e7, e8, e9⟩ := idx_facts t
  funext j
  obtain ⟨u, v, r, s, rfl⟩ : ∃ (u v : Fin 1) (r : Fin 1024) (s : Fin 1024), j = ix4 u v r s := ⟨j 0, j 1, j 2, j 3, funext fun a => by match a with | ⟨0, _⟩ => rfl | ⟨1, _⟩ => rfl | ⟨2, _⟩ => rfl | ⟨3, _⟩ => rfl⟩
  rw [block_at m c t hm u v r s]
  show _ = G _ _ _ (((cfg0.win 3).blk t).view.emb (ix4 u v r s))
  rw [hm, Finset.sum_range]
  have hi : ((cfg0.win 3).blk t).view.emb (ix4 u v r s) = ix4 (⟨t.val / 4 % 2, by omega⟩ : Fin 2) (⟨t.val / 8, by omega⟩ : Fin 4) r s := funext fun a => Fin.ext (by
    have hu := u.isLt
    have hv := v.isLt
    match a with
    | ⟨0, _⟩ => show win0_3.index t (0 : Fin 4) * 1 + 1 * u.val = t.val / 4 % 2; omega
    | ⟨1, _⟩ => show win0_3.index t (1 : Fin 4) * 1 + 1 * v.val = t.val / 8; omega
    | ⟨2, _⟩ => show win0_3.index t (2 : Fin 4) * 1024 + 1 * r.val = r.val; omega
    | ⟨3, _⟩ => show win0_3.index t (3 : Fin 4) * 1024 + 1 * s.val = s.val; omega)
  rw [hi]
  unfold G E
  rw [sum_tile (n := 4) 4096 rfl]
  refine Finset.sum_congr rfl fun b _ => ?_
  have hb : 4 * (t.val / 4) + b.val < cfg0.N := lt_of_lt_of_eq (by have := b.isLt; omega : _ < 32) N_0.symm
  rw [MN_eq m c r s _ hb]
  exact M_eq m c ⟨_, hb⟩ r s b _ (by dsimp only; omega) (by show (t.val / 8 * 2 + t.val / 4 % 2) * 1024 + s.val = (4 * (t.val / 4) + b.val) / 4 * 1024 + s.val; omega)

theorem final (c : Dev nD) : (dats m 0 c).arrAt 3 cfg0.N = G (m ((c : Thread nD τ).loc main_arg0)) (m ((c : Thread nD τ).loc main_arg1)) (m ((c : Thread nD τ).loc main_arg2)) :=
  (dats m 0 c).arrAt_eq_of_cover 3 _ (fun t hf => flushed_eq m c t hf) (fun i => (covered_iff3 i).2 (by
    have h0 : (i 0).val < 2 := (i 0).isLt; have h1 : (i 1).val < 4 := (i 1).isLt; have h2 : (i 2).val < 1024 := (i 2).isLt; have h3 : (i 3).val < 1024 := (i 3).isLt; omega))

end Cert.DwIdeal.Prod

namespace Cert.DwRefIdeal.Prod

open Idealize.ShloMosaic Idealize.ShloMosaic.TcCoe Idealize.SL.Sem Cert.DwRefIdeal Cert.DwRefIdeal.Gen Cert.Tile

def R (a0 : FVec Ideal S4096x1024 .f32) (a1 : FVec Ideal S4096x6144 .bf16) (a2 : FVec Ideal S4096x2048 .f32) : FVec Ideal S2x4x1024x1024 .f32 :=
  transpose S2x4x1024x1024 [2, 1, 0, 3] (shapeCast _ (transpose S1024x8192 [1, 0] (Host.dotGeneral dot_S4096x8192_S4096x1024_S8192x1024_0_0_1_1_n_n none (addf (pad S4096x8192 ![0, 6144] ![0, 0] ![0, 0] a2 (constant S_ .f32 0x00000000#32) pads_S4096x2048_S4096x8192_000_614400 h_S_) (pad S4096x8192 ![0, 0] ![0, 2048] ![0, 0] (extf .f32 a1 bitsLt_bf16_f32) (constant S_ .f32 0x00000000#32) pads_S4096x6144_S4096x8192_000_020480 h_S_)) a0) transposes_S8192x1024_S1024x8192_1_0) shapeCasts_S1024x8192_S1024x4x2x1024) transposes_S1024x4x2x1024_S2x4x1024x1024_2_1_0_3

theorem cat_eq (a1 : FVec Ideal S4096x6144 .bf16) (a2 : FVec Ideal S4096x2048 .f32) (r : Fin 4096) (k : Fin 8192) :
    ((addf (pad S4096x8192 ![0, 6144] ![0, 0] ![0, 0] a2 (constant S_ .f32 0x00000000#32) pads_S4096x2048_S4096x8192_000_614400 h_S_) (pad S4096x8192 ![0, 0] ![0, 2048] ![0, 0] (extf .f32 a1 bitsLt_bf16_f32) (constant S_ .f32 0x00000000#32) pads_S4096x6144_S4096x8192_000_020480 h_S_)) : FVec Ideal S4096x8192 .f32) (ix2 r k)
      = Cert.DwIdeal.Prod.gcat a1 a2 r k := by
  unfold Cert.DwIdeal.Prod.gcat
  split_ifs with h
  · pointwise
    rw [dif_neg (by omega), dif_pos h, zero_add]
  · pointwise
    have := k.isLt
    rw [dif_pos (by omega), dif_neg h, add_zero]

theorem pack_at (x : FVec Ideal S1024x8192 .f32) (p : Fin 2) (q : Fin 4) (r : Fin 1024) (s : Fin 1024) :
    (transpose S2x4x1024x1024 [2, 1, 0, 3] (shapeCast S1024x4x2x1024 x shapeCasts_S1024x8192_S1024x4x2x1024) transposes_S1024x4x2x1024_S2x4x1024x1024_2_1_0_3 : FVec Ideal S2x4x1024x1024 .f32) (ix4 p q r s)
      = x (ix2 r (Cert.DwIdeal.Prod.at' p q s)) := by
  unfold Cert.DwIdeal.Prod.at'
  pointwise
  exact congrArg (fun b => x (ix2 r b)) (Fin.ext (by dsimp only; omega))

theorem R_eq (a0 : FVec Ideal S4096x1024 .f32) (a1 : FVec Ideal S4096x6144 .bf16) (a2 : FVec Ideal S4096x2048 .f32) : R a0 a1 a2 = Cert.DwIdeal.Prod.G a0 a1 a2 := by
  funext i
  obtain ⟨p, q, r, s, rfl⟩ : ∃ (p : Fin 2) (q : Fin 4) (r : Fin 1024) (s : Fin 1024), i = ix4 p q r s := ⟨i 0, i 1, i 2, i 3, funext fun a => by match a with | ⟨0, _⟩ => rfl | ⟨1, _⟩ => rfl | ⟨2, _⟩ => rfl | ⟨3, _⟩ => rfl⟩
  unfold R
  refine (pack_at _ p q r s).trans ?_
  unfold Cert.DwIdeal.Prod.G Cert.DwIdeal.Prod.E
  have h : ∀ (g : FVec Ideal S4096x8192 .f32) (b : Fin 8192), (transpose S1024x8192 [1, 0] (Host.dotGeneral dot_S4096x8192_S4096x1024_S8192x1024_0_0_1_1_n_n none g a0) transposes_S8192x1024_S1024x8192_1_0 : FVec Ideal S1024x8192 .f32) (ix2 r b) = ∑ k : Fin 4096, g (ix2 k b) * a0 (ix2 k r) := by
    intro g b
    pointwise
  rw [h]
  refine Finset.sum_congr rfl fun k _ => ?_
  rw [cat_eq, mul_comm]
  rfl

theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_mono (Value.run m ρ) fun r h => ⟨fun c => (h c).2, sem_eq_zero_of_no_sems rfl _⟩

end Cert.DwRefIdeal.Prod

open Idealize.ShloMosaic Idealize.ShloMosaic.TcCoe Idealize.SL.Sem in
theorem Cert.DwIdeal.Prod.claim : Cert.algebraic_DwIdeal_DwRefIdeal (hDwIdeal := Cert.DwIdeal.Gen.facts) (hDwRefIdeal := Cert.DwRefIdeal.Gen.facts) := fun m g m' g' _ hagree =>
  ⟨_, θ_run_mono (Cert.DwIdeal.Value.run_blocks m g) fun r h c => ⟨(h c).1.trans (Cert.DwIdeal.Prod.final m c), (h c).2⟩,
    θ_run_mono (Cert.DwRefIdeal.Value.run m' g') fun r h c => ⟨(h c).1.trans (by
      rw [(hagree c).1, (hagree c).2.1, (hagree c).2.2]
      exact Cert.DwRefIdeal.Prod.R_eq _ _ _), (h c).2⟩⟩

end
-- ==== Proof.QkvVal.lean ====
module

public import proofs.«01_k».proof.Proof.Gen.Qkv
public import proofs.«01_k».proof.Proof.Gen.QkvIdeal
public import proofs.«01_k».proof.Proof.Gen.QkvRefIdeal
public import proofs.«01_k».proof.Proof.Gen.Qkv.Frame
public import proofs.«01_k».proof.Proof.Gen.QkvIdeal.Frame
public import proofs.«01_k».proof.Proof.Gen.QkvIdeal.Value
public import proofs.«01_k».proof.Proof.Gen.QkvRefIdeal.Run
public import proofs.«01_k».proof.Defs
public import proofs.«01_k».proof.Proof.Tile
public import Idealize.ShloMosaic.Lib.Claim

@[expose] public section

set_option maxRecDepth 16384

noncomputable section

namespace Cert.QkvIdeal.Prod

open Idealize.ShloMosaic Idealize.ShloMosaic.TcCoe Idealize.SL.Sem Cert.QkvIdeal Cert.QkvIdeal.Gen Cert.QkvIdeal.Value Cert.Tile

theorem out_eq (c : Dev nD) (i : grid0.Coords) (u3 : Memref sig .tc .vmem S1024x1024 .f32) (z3 : u3.IsWhole) (u4 : Memref sig .tc .vmem S1024x1024 .bf16) (z4 : u4.IsWhole) (u5 : Memref sig .tc .vmem S1024x1024 .bf16) (z5 : u5.IsWhole) (u6 : Memref sig .tc .vmem S1024x1024 .f32) (z6 : u6.IsWhole) (hc0 : cond0_0 i) (hc1 : cond0_1 i)
    (x0 : Vec Ideal S1024x1024 .f32) (x1 : Vec Ideal S1024x1024 .bf16) :
    out0_A_2 (F := Ideal) c i u3 z3 u4 z4 u5 z5 u6 z6 hc0 hc1 x0 x1 = k0_pay3 (k0_pay2 k0_pay1 x0 x1) := by
  unfold out0_A_2
  rw [View.read_writes_junk_eq_canon]
  unfold kernelRun0_A
  dsimp only
  rw [View.canon_cons_unit_zero hz2]
  unfold kernelRun0_A.sl.v15
  simp only [kernelRun0_A.sl.HS0_2, kernelRun0_A.sl.v3, kernelRun0_A.sl.HS0_1, readCov_cons_zero u6.view hz2 hz2, readAt_zero u3 z3 hz2, readAt_zero u4 z4 hz2]

theorem pay_at (x0 : Vec Ideal S1024x1024 .f32) (x1 : Vec Ideal S1024x1024 .bf16) (r s : Fin 1024) :
    k0_pay3 (k0_pay2 k0_pay1 x0 x1) (ix2 r s) = ∑ k : Fin 1024, x0 (ix2 r k) * x1 (ix2 k s) := by
  pointwise [k0_pay3, k0_pay2, k0_pay1]

theorem idx_facts : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) ∧ win0_2.index t (0 : Fin 2) < 4 ∧ win0_2.index t (1 : Fin 2) < 6 :=
  (by decide +kernel : ∀ t : Fin grid0.N, _)

theorem idx_onto : ∀ (a : Fin 4) (b : Fin 6), ∃ t : Fin cfg0.N, win0_2.index t (0 : Fin 2) = a.val ∧ win0_2.index t (1 : Fin 2) = b.val :=
  (by decide +kernel : ∀ (a : Fin 4) (b : Fin 6), ∃ t : Fin grid0.N, _)

/-- The product, over the arrays. -/
def G (a0 : Vec Ideal S4096x1024 .f32) (a1 : Vec Ideal S1024x8192 .bf16) : Vec Ideal S4096x6144 .bf16 := fun i =>
  (∑ k : Fin 1024, a0 (ix2 (i 0) k) * a1 (ix2 k ⟨(i 1).val, lt_trans (i 1).isLt (by decide)⟩) : EReal)

variable (m : (ℓ : Loc nD τ sig) → Buf (Elt Ideal) ℓ) (ρ : Dev nD → PrngReg)

theorem flushed_eq (c : Dev nD) (t : Fin cfg0.N) :
    (dats m 0 c).flushed 2 t = ((cfg0.win 2).blk t).view.read (Elt Ideal) (G (m ((c : Thread nD τ).loc main_arg0)) (m ((c : Thread nD τ).loc main_arg1))) := by
  rw [flushed2_A, out_eq]
  obtain ⟨e0, e1, e2, e3, e4, e5⟩ := idx_facts t
  funext j
  show k0_pay3 (k0_pay2 k0_pay1 (iblk m c 0 t) (iblk m c 1 t)) j = G _ _ (((cfg0.win 2).blk t).view.emb j)
  obtain ⟨r, s, rfl⟩ : ∃ (r s : Fin 1024), j = ix2 r s := ⟨j 0, j 1, funext fun a => by match a with | ⟨0, _⟩ => rfl | ⟨1, _⟩ => rfl⟩
  rw [pay_at]
  unfold G
  refine Finset.sum_congr rfl fun k _ => congrArg₂ (fun a b : EReal => a * b) ?_ ?_
  · rw [← V_main_arg0 m c]
    show V m c main_arg0 (((cfg0.win 0).blk t).view.emb (ix2 r k)) = V m c main_arg0 _
    refine congrArg (V m c main_arg0) (funext fun a => Fin.ext ?_)
    match a with
    | ⟨0, _⟩ => show win0_0.index t (0 : Fin 2) * 1024 + 1 * r.val = win0_2.index t (0 : Fin 2) * 1024 + 1 * r.val; omega
    | ⟨1, _⟩ => show win0_0.index t (1 : Fin 2) * 1024 + 1 * k.val = k.val; omega
  · rw [← V_main_arg1 m c]
    show V m c main_arg1 (((cfg0.win 1).blk t).view.emb (ix2 k s)) = V m c main_arg1 _
    refine congrArg (V m c main_arg1) (funext fun a => Fin.ext ?_)
    match a with
    | ⟨0, _⟩ => show win0_1.index t (0 : Fin 2) * 1024 + 1 * k.val = k.val; omega
    | ⟨1, _⟩ => show win0_1.index t (1 : Fin 2) * 1024 + 1 * s.val = win0_2.index t (1 : Fin 2) * 1024 + 1 * s.val; omega

theorem covered (i : S4096x6144.Idx) :
    ∃ t : Fin cfg0.N, (cfg0.win 2).flush t = true ∧ i ∈ ((cfg0.win 2).blk t).view.set := by
  have h0 : (i 0).val < 4096 := (i 0).isLt
  have h1 : (i 1).val < 6144 := (i 1).isLt
  obtain ⟨t, e0, e1⟩ := idx_onto ⟨(i 0).val / 1024, by omega⟩ ⟨(i 1).val / 1024, by omega⟩
  dsimp only at e0 e1
  refine ⟨t, flush0_2 t, ?_⟩
  have h : ((cfg0.win 2).blk t).view.emb (ix2 (⟨(i 0).val % 1024, Nat.mod_lt _ (by decide)⟩ : Fin 1024) (⟨(i 1).val % 1024, Nat.mod_lt _ (by decide)⟩ : Fin 1024)) = i := by
    funext a
    refine Fin.ext ?_
    match a with
    | ⟨0, _⟩ => show win0_2.index t (0 : Fin 2) * 1024 + 1 * ((i 0).val % 1024) = (i 0).val; omega
    | ⟨1, _⟩ => show win0_2.index t (1 : Fin 2) * 1024 + 1 * ((i 1).val % 1024) = (i 1).val; omega
  rw [← h]
  exact ((cfg0.win 2).blk t).view.emb_mem_set _

theorem final (c : Dev nD) : (dats m 0 c).arrAt 2 cfg0.N = G (m ((c : Thread nD τ).loc main_arg0)) (m ((c : Thread nD τ).loc main_arg1)) :=
  (dats m 0 c).arrAt_eq_of_cover 2 _ (fun t _ => flushed_eq m c t) covered

end Cert.QkvIdeal.Prod

namespace Cert.QkvRefIdeal.Prod

open Idealize.ShloMosaic Idealize.ShloMosaic.TcCoe Idealize.SL.Sem Cert.QkvRefIdeal Cert.QkvRefIdeal.Gen Cert.Tile

def R (a0 : FVec Ideal S4096x1024 .f32) (a1 : FVec Ideal S1024x8192 .bf16) : FVec Ideal S4096x6144 .bf16 :=
  truncf .bf16 (extractStridedSlice S4096x6144 ![0, 0] (Host.dotGeneral dot_S4096x1024_S1024x8192_S4096x8192_1_0_0_1_n_n none a0 (extf .f32 a1 bitsLt_bf16_f32)) slices_S4096x8192_S4096x6144_0_0) bitsLt_bf16_f32

theorem R_eq (a0 : FVec Ideal S4096x1024 .f32) (a1 : FVec Ideal S1024x8192 .bf16) : R a0 a1 = Cert.QkvIdeal.Prod.G a0 a1 := by
  funext i
  obtain ⟨r, s, rfl⟩ := ix2_of i
  unfold Cert.QkvIdeal.Prod.G
  pointwise [R]

theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (Value.run m ρ) fun r h => ⟨fun c => (h c).2, sem_eq_zero_of_no_sems rfl _⟩

end Cert.QkvRefIdeal.Prod

open Idealize.ShloMosaic Idealize.ShloMosaic.TcCoe Idealize.SL.Sem in
theorem Cert.QkvIdeal.Prod.claim : Cert.algebraic_QkvIdeal_QkvRefIdeal (hQkvIdeal := Cert.QkvIdeal.Gen.facts) (hQkvRefIdeal := Cert.QkvRefIdeal.Gen.facts) := fun m g m' g' _ hagree =>
  ⟨_, θ_run_mono (Cert.QkvIdeal.Value.run_blocks m g) fun r h c => ⟨(h c).1.trans (Cert.QkvIdeal.Prod.final m c), (h c).2⟩,
    θ_run_mono (Cert.QkvRefIdeal.Value.run m' g') fun r h c => ⟨(h c).1.trans (by
      rw [(hagree c).1, (hagree c).2]
      exact Cert.QkvRefIdeal.Prod.R_eq _ _), (h c).2⟩⟩

end
-- ==== Proof.GateVal.lean ====
module

public import proofs.«01_k».proof.Proof.Gen.Gate
public import proofs.«01_k».proof.Proof.Gen.GateIdeal
public import proofs.«01_k».proof.Proof.Gen.GateRefIdeal
public import proofs.«01_k».proof.Proof.Gen.Gate.Frame
public import proofs.«01_k».proof.Proof.Gen.GateIdeal.Frame
public import proofs.«01_k».proof.Proof.Gen.GateIdeal.Value
public import proofs.«01_k».proof.Proof.Gen.GateRefIdeal.Run
public import proofs.«01_k».proof.Defs
public import proofs.«01_k».proof.Proof.Tile
public import Idealize.ShloMosaic.Lib.Claim

@[expose] public section

set_option maxRecDepth 16384

noncomputable section

namespace Cert.GateIdeal.Prod

open Idealize.ShloMosaic Idealize.ShloMosaic.TcCoe Idealize.SL.Sem Cert.GateIdeal Cert.GateIdeal.Gen Cert.GateIdeal.Value Cert.Tile

theorem out_eq (c : Dev nD) (i : grid0.Coords) (u3 : Memref sig .tc .vmem S1024x1024 .f32) (z3 : u3.IsWhole) (u4 : Memref sig .tc .vmem S1024x1024 .bf16) (z4 : u4.IsWhole) (u5 : Memref sig .tc .vmem S1024x1024 .f32) (z5 : u5.IsWhole) (u6 : Memref sig .tc .vmem S1024x1024 .f32) (z6 : u6.IsWhole) (hc0 : cond0_0 i) (hc1 : cond0_1 i)
    (x0 : Vec Ideal S1024x1024 .f32) (x1 : Vec Ideal S1024x1024 .bf16) :
    out0_A_2 (F := Ideal) c i u3 z3 u4 z4 u5 z5 u6 z6 hc0 hc1 x0 x1 = k0_pay2 k0_pay1 x0 x1 := by
  unfold out0_A_2
  rw [View.read_writes_junk_eq_canon]
  unfold kernelRun0_A
  dsimp only
  rw [View.canon_cons_unit_zero hz2]
  unfold kernelRun0_A.sl.v15
  simp only [kernelRun0_A.sl.HS0_2, kernelRun0_A.sl.v3, kernelRun0_A.sl.HS0_1, readCov_cons_zero u6.view hz2 hz2, readAt_zero u3 z3 hz2, readAt_zero u4 z4 hz2]

theorem pay_at (x0 : Vec Ideal S1024x1024 .f32) (x1 : Vec Ideal S1024x1024 .bf16) (r s : Fin 1024) :
    k0_pay2 k0_pay1 x0 x1 (ix2 r s) = ∑ k : Fin 1024, x0 (ix2 r k) * x1 (ix2 k s) := by
  pointwise [k0_pay2, k0_pay1]

theorem idx_facts : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) + 6 ∧ win0_2.index t (0 : Fin 2) < 4 ∧ win0_2.index t (1 : Fin 2) < 2 :=
  (by decide +kernel : ∀ t : Fin grid0.N, _)

theorem idx_onto : ∀ (a : Fin 4) (b : Fin 2), ∃ t : Fin cfg0.N, win0_2.index t (0 : Fin 2) = a.val ∧ win0_2.index t (1 : Fin 2) = b.val :=
  (by decide +kernel : ∀ (a : Fin 4) (b : Fin 2), ∃ t : Fin grid0.N, _)

/-- The product, over the arrays. -/
def G (a0 : Vec Ideal S4096x1024 .f32) (a1 : Vec Ideal S1024x8192 .bf16) : Vec Ideal S4096x2048 .f32 := fun i =>
  (∑ k : Fin 1024, a0 (ix2 (i 0) k) * a1 (ix2 k ⟨6144 + (i 1).val, Nat.add_lt_add_left (i 1).isLt 6144⟩) : EReal)

variable (m : (ℓ : Loc nD τ sig) → Buf (Elt Ideal) ℓ) (ρ : Dev nD → PrngReg)

theorem flushed_eq (c : Dev nD) (t : Fin cfg0.N) :
    (dats m 0 c).flushed 2 t = ((cfg0.win 2).blk t).view.read (Elt Ideal) (G (m ((c : Thread nD τ).loc main_arg0)) (m ((c : Thread nD τ).loc main_arg1))) := by
  rw [flushed2_A, out_eq]
  obtain ⟨e0, e1, e2, e3, e4, e5⟩ := idx_facts t
  funext j
  show k0_pay2 k0_pay1 (iblk m c 0 t) (iblk m c 1 t) j = G _ _ (((cfg0.win 2).blk t).view.emb j)
  obtain ⟨r, s, rfl⟩ : ∃ (r s : Fin 1024), j = ix2 r s := ⟨j 0, j 1, funext fun a => by match a with | ⟨0, _⟩ => rfl | ⟨1, _⟩ => rfl⟩
  rw [pay_at]
  unfold G
  refine Finset.sum_congr rfl fun k _ => congrArg₂ (fun a b : EReal => a * b) ?_ ?_
  · rw [← V_main_arg0 m c]
    show V m c main_arg0 (((cfg0.win 0).blk t).view.emb (ix2 r k)) = V m c main_arg0 _
    refine congrArg (V m c main_arg0) (funext fun a => Fin.ext ?_)
    match a with
    | ⟨0, _⟩ => show win0_0.index t (0 : Fin 2) * 1024 + 1 * r.val = win0_2.index t (0 : Fin 2) * 1024 + 1 * r.val; omega
    | ⟨1, _⟩ => show win0_0.index t (1 : Fin 2) * 1024 + 1 * k.val = k.val; omega
  · rw [← V_main_arg1 m c]
    show V m c main_arg1 (((cfg0.win 1).blk t).view.emb (ix2 k s)) = V m c main_arg1 _
    refine congrArg (V m c main_arg1) (funext fun a => Fin.ext ?_)
    match a with
    | ⟨0, _⟩ => show win0_1.index t (0 : Fin 2) * 1024 + 1 * k.val = k.val; omega
    | ⟨1, _⟩ => show win0_1.index t (1 : Fin 2) * 1024 + 1 * s.val = 6144 + (win0_2.index t (1 : Fin 2) * 1024 + 1 * s.val); omega

theorem covered (i : S4096x2048.Idx) :
    ∃ t : Fin cfg0.N, (cfg0.win 2).flush t = true ∧ i ∈ ((cfg0.win 2).blk t).view.set := by
  have h0 : (i 0).val < 4096 := (i 0).isLt
  have h1 : (i 1).val < 2048 := (i 1).isLt
  obtain ⟨t, e0, e1⟩ := idx_onto ⟨(i 0).val / 1024, by omega⟩ ⟨(i 1).val / 1024, by omega⟩
  dsimp only at e0 e1
  refine ⟨t, flush0_2 t, ?_⟩
  have h : ((cfg0.win 2).blk t).view.emb (ix2 (⟨(i 0).val % 1024, Nat.mod_lt _ (by decide)⟩ : Fin 1024) (⟨(i 1).val % 1024, Nat.mod_lt _ (by decide)⟩ : Fin 1024)) = i := by
    funext a
    refine Fin.ext ?_
    match a with
    | ⟨0, _⟩ => show win0_2.index t (0 : Fin 2) * 1024 + 1 * ((i 0).val % 1024) = (i 0).val; omega
    | ⟨1, _⟩ => show win0_2.index t (1 : Fin 2) * 1024 + 1 * ((i 1).val % 1024) = (i 1).val; omega
  rw [← h]
  exact ((cfg0.win 2).blk t).view.emb_mem_set _

theorem final (c : Dev nD) : (dats m 0 c).arrAt 2 cfg0.N = G (m ((c : Thread nD τ).loc main_arg0)) (m ((c : Thread nD τ).loc main_arg1)) :=
  (dats m 0 c).arrAt_eq_of_cover 2 _ (fun t _ => flushed_eq m c t) covered

end Cert.GateIdeal.Prod

namespace Cert.GateRefIdeal.Prod

open Idealize.ShloMosaic Idealize.ShloMosaic.TcCoe Idealize.SL.Sem Cert.GateRefIdeal Cert.GateRefIdeal.Gen Cert.Tile

def R (a0 : FVec Ideal S4096x1024 .f32) (a1 : FVec Ideal S1024x8192 .bf16) : FVec Ideal S4096x2048 .f32 :=
  extractStridedSlice S4096x2048 ![0, 6144] (Host.dotGeneral dot_S4096x1024_S1024x8192_S4096x8192_1_0_0_1_n_n none a0 (extf .f32 a1 bitsLt_bf16_f32)) slices_S4096x8192_S4096x2048_0_6144

theorem R_eq (a0 : FVec Ideal S4096x1024 .f32) (a1 : FVec Ideal S1024x8192 .bf16) : R a0 a1 = Cert.GateIdeal.Prod.G a0 a1 := by
  funext i
  obtain ⟨r, s, rfl⟩ := ix2_of i
  unfold Cert.GateIdeal.Prod.G
  pointwise [R]

theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (Value.run m ρ) fun r h => ⟨fun c => (h c).2, sem_eq_zero_of_no_sems rfl _⟩

end Cert.GateRefIdeal.Prod

open Idealize.ShloMosaic Idealize.ShloMosaic.TcCoe Idealize.SL.Sem in
theorem Cert.GateIdeal.Prod.claim : Cert.algebraic_GateIdeal_GateRefIdeal (hGateIdeal := Cert.GateIdeal.Gen.facts) (hGateRefIdeal := Cert.GateRefIdeal.Gen.facts) := fun m g m' g' _ hagree =>
  ⟨_, θ_run_mono (Cert.GateIdeal.Value.run_blocks m g) fun r h c => ⟨(h c).1.trans (Cert.GateIdeal.Prod.final m c), (h c).2⟩,
    θ_run_mono (Cert.GateRefIdeal.Value.run m' g') fun r h c => ⟨(h c).1.trans (by
      rw [(hagree c).1, (hagree c).2]
      exact Cert.GateRefIdeal.Prod.R_eq _ _), (h c).2⟩⟩

end
-- ==== Proof.OutVal.lean ====
module

public import proofs.«01_k».proof.Proof.Gen.Out
public import proofs.«01_k».proof.Proof.Gen.OutIdeal
public import proofs.«01_k».proof.Proof.Gen.OutRefIdeal
public import proofs.«01_k».proof.Proof.Gen.Out.Frame
public import proofs.«01_k».proof.Proof.Gen.OutIdeal.Frame
public import proofs.«01_k».proof.Proof.Gen.OutIdeal.Value
public import proofs.«01_k».proof.Proof.Gen.OutRefIdeal.Run
public import proofs.«01_k».proof.Defs
public import proofs.«01_k».proof.Proof.Tile
public import Idealize.ShloMosaic.Lib.Claim

@[expose] public section

set_option maxRecDepth 16384

noncomputable section

namespace Cert.OutIdeal.Prod

open Idealize.ShloMosaic Idealize.ShloMosaic.TcCoe Idealize.SL.Sem Cert.OutIdeal Cert.OutIdeal.Gen Cert.OutIdeal.Value Cert.Tile

section
variable (c : Dev nD) (i : grid0.Coords) (u3 : Memref sig .tc .vmem S1024x1024 .f32) (z3 : u3.IsWhole) (u4 : Memref sig .tc .vmem S1024x1024 .bf16) (z4 : u4.IsWhole) (u5 : Memref sig .tc .vmem S1024x1024 .f32) (z5 : u5.IsWhole) (u6 : Memref sig .tc .vmem S1024x1024 .f32) (z6 : u6.IsWhole) (u7 : Memref sig .tc .vmem S1024x1024 .f32) (z7 : u7.IsWhole)
include c i u3 z3 u4 z4 u5 z5 u6 z6 u7 z7

theorem sout_A (hc0 : cond0_0 i) (hc1 : ¬cond0_1 i) (x0 : Vec Ideal S1024x1024 .f32) (x1 : Vec Ideal S1024x1024 .bf16) (x2 : Vec Ideal S1024x1024 .f32) :
    sout0_A_0 (F := Ideal) c i u3 z3 u4 z4 u5 z5 u6 z6 u7 z7 hc0 hc1 x0 x1 x2 = k0_pay2 k0_pay1 x0 x1 := by
  unfold sout0_A_0
  rw [View.read_writes_junk_eq_canon]
  unfold kernelRun0_A
  dsimp only
  rw [View.canon_cons_unit_zero hz2]
  simp only [kernelRun0_A.sl.v3, kernelRun0_A.sl.HS0_1, readAt_zero u3 z3 hz2, readAt_zero u4 z4 hz2, readAt_zero u5 z5 hz2, readAt_zero u7 z7 hz2, readCov_cons_zero u7.view hz2 hz2]

theorem sout_B (hc0 : ¬cond0_0 i) (hc1 : cond0_1 i) (x0 : Vec Ideal S1024x1024 .f32) (x1 : Vec Ideal S1024x1024 .bf16) (x2 : Vec Ideal S1024x1024 .f32) (xs0 : Vec Ideal S1024x1024 .f32) :
    sout0_B_0 (F := Ideal) c i u3 z3 u4 z4 u5 z5 u6 z6 u7 z7 hc0 hc1 x0 x1 x2 xs0 = k0_pay2 xs0 x0 x1 := by
  unfold sout0_B_0
  rw [View.read_writes_junk_eq_canon]
  unfold kernelRun0_B
  dsimp only
  unfold kernelRun0_B.sl.HS0_1
  rw [View.canon_cons_unit_zero hz2]
  simp only [readAt_zero u3 z3 hz2, readAt_zero u4 z4 hz2, readAt_zero u5 z5 hz2, readAt_zero u7 z7 hz2, readCov_cons_zero u7.view hz2 hz2]

theorem out_B (hc0 : ¬cond0_0 i) (hc1 : cond0_1 i) (x0 : Vec Ideal S1024x1024 .f32) (x1 : Vec Ideal S1024x1024 .bf16) (x2 : Vec Ideal S1024x1024 .f32) (xs0 : Vec Ideal S1024x1024 .f32) :
    out0_B_3 (F := Ideal) c i u3 z3 u4 z4 u5 z5 u6 z6 u7 z7 hc0 hc1 x0 x1 x2 xs0 = k0_pay3 (k0_pay2 xs0 x0 x1) x2 := by
  unfold out0_B_3
  rw [View.read_writes_junk_eq_canon]
  unfold kernelRun0_B
  dsimp only
  rw [View.canon_cons_unit_zero hz2]
  simp only [kernelRun0_B.sl.v15, kernelRun0_B.sl.HS0_1, readAt_zero u3 z3 hz2, readAt_zero u4 z4 hz2, readAt_zero u5 z5 hz2, readAt_zero u7 z7 hz2, readCov_cons_zero u7.view hz2 hz2]

end

theorem pay1_at (r s : Fin 1024) : k0_pay1 (F := Ideal) (ix2 r s) = 0 := by
  pointwise [k0_pay1]

theorem pay2_at (a : Vec Ideal S1024x1024 .f32) (x0 : Vec Ideal S1024x1024 .f32) (x1 : Vec Ideal S1024x1024 .bf16) (r s : Fin 1024) :
    k0_pay2 a x0 x1 (ix2 r s) = a (ix2 r s) + ∑ k : Fin 1024, x0 (ix2 r k) * x1 (ix2 k s) := by
  pointwise [k0_pay2]

theorem pay3_at (a b : Vec Ideal S1024x1024 .f32) (r s : Fin 1024) : k0_pay3 a b (ix2 r s) = a (ix2 r s) + b (ix2 r s) := by
  pointwise [k0_pay3]

theorem idx_facts : ∀ t : Fin cfg0.N, win0_0.index t (0 : Fin 2) = t.val / 2 ∧ win0_0.index t (1 : Fin 2) = t.val % 2
    ∧ win0_1.index t (0 : Fin 2) = t.val % 2 ∧ win0_1.index t (1 : Fin 2) = 0 ∧ win0_2.index t (0 : Fin 2) = t.val / 2 ∧ win0_2.index t (1 : Fin 2) = 0
    ∧ win0_3.index t (0 : Fin 2) = t.val / 2 ∧ win0_3.index t (1 : Fin 2) = 0 :=
  (by decide +kernel : ∀ t : Fin grid0.N, _)

/-- The product added to the residual, over the arrays. -/
def G (a0 : Vec Ideal S4096x2048 .f32) (a1 : Vec Ideal S2048x1024 .bf16) (a2 : Vec Ideal S4096x1024 .f32) : Vec Ideal S4096x1024 .f32 := fun i =>
  (a2 i + ∑ k : Fin 2048, a0 (ix2 (i 0) k) * a1 (ix2 k (i 1)) : EReal)

variable (m : (ℓ : Loc nD τ sig) → Buf (Elt Ideal) ℓ) (ρ : Dev nD → PrngReg)

/-- A tile's product. -/
def mm (x0 : Vec Ideal S1024x1024 .f32) (x1 : Vec Ideal S1024x1024 .bf16) (r s : Fin 1024) : EReal :=
  ∑ k : Fin 1024, (x0 (ix2 r k) * x1 (ix2 k s) : EReal)

/-- The part of the product that a row block and a reduction block give. -/
def part (a0 : Vec Ideal S4096x2048 .f32) (a1 : Vec Ideal S2048x1024 .bf16) (q : Fin 4) (b : Fin 2) (r s : Fin 1024) : EReal :=
  ∑ k : Fin 1024, (a0 (ix2 (tile 4096 rfl q r) (tile 2048 rfl b k)) * a1 (ix2 (tile 2048 rfl b k) s) : EReal)

/-- What a point adds. -/
def M (c : Dev nD) (t : Fin cfg0.N) (r s : Fin 1024) : EReal := mm (iblk m c 0 t) (iblk m c 1 t) r s

theorem M_eq (c : Dev nD) (t : Fin cfg0.N) (r s : Fin 1024) (q : Fin 4) (b : Fin 2) (hq : q.val = t.val / 2) (hb : b.val = t.val % 2) :
    M m c t r s = part (m ((c : Thread nD τ).loc main_arg0)) (m ((c : Thread nD τ).loc main_arg1)) q b r s := by
  obtain ⟨e0, e1, e2, e3, e4, e5, e6, e7⟩ := idx_facts t
  unfold M mm part
  refine Finset.sum_congr rfl fun k _ => congrArg₂ (fun a b : EReal => a * b) ?_ ?_
  · rw [← V_main_arg0 m c]
    show V m c main_arg0 (((cfg0.win 0).blk t).view.emb (ix2 r k)) = V m c main_arg0 _
    refine congrArg (V m c main_arg0) (funext fun a => Fin.ext ?_)
    match a with
    | ⟨0, _⟩ => show win0_0.index t (0 : Fin 2) * 1024 + 1 * r.val = q.val * 1024 + r.val; omega
    | ⟨1, _⟩ => show win0_0.index t (1 : Fin 2) * 1024 + 1 * k.val = b.val * 1024 + k.val; omega
  · rw [← V_main_arg1 m c]
    show V m c main_arg1 (((cfg0.win 1).blk t).view.emb (ix2 k s)) = V m c main_arg1 _
    refine congrArg (V m c main_arg1) (funext fun a => Fin.ext ?_)
    match a with
    | ⟨0, _⟩ => show win0_1.index t (0 : Fin 2) * 1024 + 1 * k.val = b.val * 1024 + k.val; omega
    | ⟨1, _⟩ => show win0_1.index t (1 : Fin 2) * 1024 + 1 * s.val = s.val; omega

/-- What a point adds, by its number. -/
def MN (c : Dev nD) (r s : Fin 1024) (n : ℕ) : EReal := if h : n < cfg0.N then M m c ⟨n, h⟩ r s else 0

theorem MN_eq (c : Dev nD) (r s : Fin 1024) (n : ℕ) (h : n < cfg0.N) : MN m c r s n = M m c ⟨n, h⟩ r s := dif_pos h

theorem scr (c : Dev nD) (r s : Fin 1024) : ∀ n h, (outsAt0 m c n h).2 (ix2 r s)
    = ∑ b ∈ Finset.range (n % 2 + 1), MN m c r s (2 * (n / 2) + b) := by
  refine fold_eq 2 cfg0.N (by decide) (fun n h => (outsAt0 m c n h).2 (ix2 r s)) (MN m c r s) (fun n h hn => ?_) (fun n h hn => ?_)
  · rw [MN_eq m c r s n h]
    rw [outsAt0_A m c ⟨n, h⟩ hn (by dsimp only; omega)]
    dsimp only
    rw [sout_A, pay2_at, pay1_at, zero_add]
    rfl
  · rw [MN_eq m c r s n h]
    rw [outsAt0_B m c ⟨n, h⟩ hn (by dsimp only; omega)]
    dsimp only
    rw [sout_B, pay2_at]
    rfl

theorem flushed_eq (c : Dev nD) (t : Fin cfg0.N) (hf : (cfg0.win 3).flush t = true) :
    (dats m 0 c).flushed 3 t = ((cfg0.win 3).blk t).view.read (Elt Ideal) (G (m ((c : Thread nD τ).loc main_arg0)) (m ((c : Thread nD τ).loc main_arg1)) (m ((c : Thread nD τ).loc main_arg2))) := by
  have hm : t.val % 2 = 1 := (flush0_3 t).mp hf
  have hN : t.val < 8 := lt_of_lt_of_eq t.isLt N_0
  obtain ⟨e0, e1, e2, e3, e4, e5, e6, e7⟩ := idx_facts t
  rw [flushed3_B m c t (by omega) hm]
  funext j
  obtain ⟨r, s, rfl⟩ : ∃ (r s : Fin 1024), j = ix2 r s := ⟨j 0, j 1, funext fun a => by match a with | ⟨0, _⟩ => rfl | ⟨1, _⟩ => rfl⟩
  show out0_B_3 (F := Ideal) _ _ _ _ _ _ _ _ _ _ _ _ _ _ _ _ _ _ (ix2 r s) = G _ _ _ (((cfg0.win 3).blk t).view.emb (ix2 r s))
  have hs := scr m c r s t.val t.isLt
  rw [outsAt0_B m c t (by omega) hm] at hs
  dsimp only at hs
  rw [sout_B] at hs
  rw [out_B, pay3_at, hs, hm, add_comm, Finset.sum_range]
  have hi : ((cfg0.win 3).blk t).view.emb (ix2 r s) = ix2 (tile 4096 rfl (⟨t.val / 2, by omega⟩ : Fin 4) r) s := funext fun a => Fin.ext (by
    match a with
    | ⟨0, _⟩ => show win0_3.index t (0 : Fin 2) * 1024 + 1 * r.val = t.val / 2 * 1024 + r.val; omega
    | ⟨1, _⟩ => show win0_3.index t (1 : Fin 2) * 1024 + 1 * s.val = s.val; omega)
  rw [hi]
  unfold G
  refine congrArg₂ (fun a b : EReal => a + b) ?_ ?_
  · rw [← V_main_arg2 m c]
    show V m c main_arg2 (((cfg0.win 2).blk t).view.emb (ix2 r s)) = V m c main_arg2 _
    refine congrArg (V m c main_arg2) (funext fun a => Fin.ext ?_)
    match a with
    | ⟨0, _⟩ => show win0_2.index t (0 : Fin 2) * 1024 + 1 * r.val = t.val / 2 * 1024 + r.val; omega
    | ⟨1, _⟩ => show win0_2.index t (1 : Fin 2) * 1024 + 1 * s.val = s.val; omega
  · rw [sum_tile (n := 2) 2048 rfl]
    refine Finset.sum_congr rfl fun b _ => ?_
    have hb : 2 * (t.val / 2) + b.val < cfg0.N := lt_of_lt_of_eq (by have := b.isLt; omega : _ < 8) N_0.symm
    rw [MN_eq m c r s _ hb]
    exact M_eq m c ⟨_, hb⟩ r s ⟨t.val / 2, by omega⟩ b (by dsimp only; omega) (by dsimp only; omega)

theorem final (c : Dev nD) : (dats m 0 c).arrAt 3 cfg0.N = G (m ((c : Thread nD τ).loc main_arg0)) (m ((c : Thread nD τ).loc main_arg1)) (m ((c : Thread nD τ).loc main_arg2)) :=
  (dats m 0 c).arrAt_eq_of_cover 3 _ (fun t hf => flushed_eq m c t hf) (fun i => (covered_iff3 i).2 (by
    have h0 : (i 0).val < 4096 := (i 0).isLt; have h1 : (i 1).val < 1024 := (i 1).isLt; omega))

end Cert.OutIdeal.Prod

namespace Cert.OutRefIdeal.Prod

open Idealize.ShloMosaic Idealize.ShloMosaic.TcCoe Idealize.SL.Sem Cert.OutRefIdeal Cert.OutRefIdeal.Gen Cert.Tile

def R (a0 : FVec Ideal S4096x2048 .f32) (a1 : FVec Ideal S2048x1024 .bf16) (a2 : FVec Ideal S4096x1024 .f32) : FVec Ideal S4096x1024 .f32 :=
  addf a2 (Host.dotGeneral dot_S4096x2048_S2048x1024_S4096x1024_1_0_0_1_n_n none a0 (extf .f32 a1 bitsLt_bf16_f32))

theorem R_eq (a0 : FVec Ideal S4096x2048 .f32) (a1 : FVec Ideal S2048x1024 .bf16) (a2 : FVec Ideal S4096x1024 .f32) : R a0 a1 a2 = Cert.OutIdeal.Prod.G a0 a1 a2 := by
  funext i
  obtain ⟨r, s, rfl⟩ := ix2_of i
  unfold Cert.OutIdeal.Prod.G
  pointwise [R]

theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_mono (Value.run m ρ) fun r h => ⟨fun c => (h c).2, sem_eq_zero_of_no_sems rfl _⟩

end Cert.OutRefIdeal.Prod

open Idealize.ShloMosaic Idealize.ShloMosaic.TcCoe Idealize.SL.Sem in
theorem Cert.OutIdeal.Prod.claim : Cert.algebraic_OutIdeal_OutRefIdeal (hOutIdeal := Cert.OutIdeal.Gen.facts) (hOutRefIdeal := Cert.OutRefIdeal.Gen.facts) := fun m g m' g' _ hagree =>
  ⟨_, θ_run_mono (Cert.OutIdeal.Value.run_blocks m g) fun r h c => ⟨(h c).1.trans (Cert.OutIdeal.Prod.final m c), (h c).2⟩,
    θ_run_mono (Cert.OutRefIdeal.Value.run m' g') fun r h c => ⟨(h c).1.trans (by
      rw [(hagree c).1, (hagree c).2.1, (hagree c).2.2]
      exact Cert.OutRefIdeal.Prod.R_eq _ _ _), (h c).2⟩⟩

end
-- ==== Proof.OutDxVal.lean ====
module

public import proofs.«01_k».proof.Proof.Gen.OutDx
public import proofs.«01_k».proof.Proof.Gen.OutDxIdeal
public import proofs.«01_k».proof.Proof.Gen.OutDxRefIdeal
public import proofs.«01_k».proof.Proof.Gen.OutDx.Frame
public import proofs.«01_k».proof.Proof.Gen.OutDxIdeal.Frame
public import proofs.«01_k».proof.Proof.Gen.OutDxIdeal.Value
public import proofs.«01_k».proof.Proof.Gen.OutDxRefIdeal.Run
public import proofs.«01_k».proof.Defs
public import proofs.«01_k».proof.Proof.Tile
public import Idealize.ShloMosaic.Lib.Claim

@[expose] public section

set_option maxRecDepth 16384

noncomputable section

namespace Cert.OutDxIdeal.Prod

open Idealize.ShloMosaic Idealize.ShloMosaic.TcCoe Idealize.SL.Sem Cert.OutDxIdeal Cert.OutDxIdeal.Gen Cert.OutDxIdeal.Value Cert.Tile

theorem out_eq (c : Dev nD) (i : grid0.Coords) (u3 : Memref sig .tc .vmem S1024x1024 .f32) (z3 : u3.IsWhole) (u4 : Memref sig .tc .vmem S1024x1024 .bf16) (z4 : u4.IsWhole) (u5 : Memref sig .tc .vmem S1024x1024 .f32) (z5 : u5.IsWhole) (u6 : Memref sig .tc .vmem S1024x1024 .f32) (z6 : u6.IsWhole) (hc0 : cond0_0 i) (hc1 : cond0_1 i)
    (x0 : Vec Ideal S1024x1024 .f32) (x1 : Vec Ideal S1024x1024 .bf16) :
    out0_A_2 (F := Ideal) c i u3 z3 u4 z4 u5 z5 u6 z6 hc0 hc1 x0 x1 = k0_pay2 k0_pay1 x0 x1 := by
  unfold out0_A_2
  rw [View.read_writes_junk_eq_canon]
  unfold kernelRun0_A
  dsimp only
  rw [View.canon_cons_unit_zero hz2]
  unfold kernelRun0_A.sl.v15
  simp only [kernelRun0_A.sl.HS0_2, kernelRun0_A.sl.v3, kernelRun0_A.sl.HS0_1, readCov_cons_zero u6.view hz2 hz2, readAt_zero u3 z3 hz2, readAt_zero u4 z4 hz2]

theorem pay_at (x0 : Vec Ideal S1024x1024 .f32) (x1 : Vec Ideal S1024x1024 .bf16) (r s : Fin 1024) :
    k0_pay2 k0_pay1 x0 x1 (ix2 r s) = ∑ k : Fin 1024, x0 (ix2 r k) * x1 (ix2 s k) := by
  pointwise [k0_pay2, k0_pay1]

theorem idx_facts : ∀ t : Fin cfg0.N, win0_0.index t (0 : Fin 2) = win0_2.index t (0 : Fin 2) ∧ win0_0.index t (1 : Fin 2) = 0
    ∧ win0_1.index t (1 : Fin 2) = 0 ∧ win0_1.index t (0 : Fin 2) = win0_2.index t (1 : Fin 2) ∧ win0_2.index t (0 : Fin 2) < 4 ∧ win0_2.index t (1 : Fin 2) < 2 :=
  (by decide +kernel : ∀ t : Fin grid0.N, _)

theorem idx_onto : ∀ (a : Fin 4) (b : Fin 2), ∃ t : Fin cfg0.N, win0_2.index t (0 : Fin 2) = a.val ∧ win0_2.index t (1 : Fin 2) = b.val :=
  (by decide +kernel : ∀ (a : Fin 4) (b : Fin 2), ∃ t : Fin grid0.N, _)

/-- The product, over the arrays. -/
def G (a0 : Vec Ideal S4096x1024 .f32) (a1 : Vec Ideal S2048x1024 .bf16) : Vec Ideal S4096x2048 .f32 := fun i =>
  (∑ k : Fin 1024, a0 (ix2 (i 0) k) * a1 (ix2 (i 1) k) : EReal)

variable (m : (ℓ : Loc nD τ sig) → Buf (Elt Ideal) ℓ) (ρ : Dev nD → PrngReg)

theorem flushed_eq (c : Dev nD) (t : Fin cfg0.N) :
    (dats m 0 c).flushed 2 t = ((cfg0.win 2).blk t).view.read (Elt Ideal) (G (m ((c : Thread nD τ).loc main_arg0)) (m ((c : Thread nD τ).loc main_arg1))) := by
  rw [flushed2_A, out_eq]
  obtain ⟨e0, e1, e2, e3, e4, e5⟩ := idx_facts t
  funext j
  show k0_pay2 k0_pay1 (iblk m c 0 t) (iblk m c 1 t) j = G _ _ (((cfg0.win 2).blk t).view.emb j)
  obtain ⟨r, s, rfl⟩ : ∃ (r s : Fin 1024), j = ix2 r s := ⟨j 0, j 1, funext fun a => by match a with | ⟨0, _⟩ => rfl | ⟨1, _⟩ => rfl⟩
  rw [pay_at]
  unfold G
  refine Finset.sum_congr rfl fun k _ => congrArg₂ (fun a b : EReal => a * b) ?_ ?_
  · rw [← V_main_arg0 m c]
    show V m c main_arg0 (((cfg0.win 0).blk t).view.emb (ix2 r k)) = V m c main_arg0 _
    refine congrArg (V m c main_arg0) (funext fun a => Fin.ext ?_)
    match a with
    | ⟨0, _⟩ => show win0_0.index t (0 : Fin 2) * 1024 + 1 * r.val = win0_2.index t (0 : Fin 2) * 1024 + 1 * r.val; omega
    | ⟨1, _⟩ => show win0_0.index t (1 : Fin 2) * 1024 + 1 * k.val = k.val; omega
  · rw [← V_main_arg1 m c]
    show V m c main_arg1 (((cfg0.win 1).blk t).view.emb (ix2 s k)) = V m c main_arg1 _
    refine congrArg (V m c main_arg1) (funext fun a => Fin.ext ?_)
    match a with
    | ⟨0, _⟩ => show win0_1.index t (0 : Fin 2) * 1024 + 1 * s.val = win0_2.index t (1 : Fin 2) * 1024 + 1 * s.val; omega
    | ⟨1, _⟩ => show win0_1.index t (1 : Fin 2) * 1024 + 1 * k.val = k.val; omega

theorem covered (i : S4096x2048.Idx) :
    ∃ t : Fin cfg0.N, (cfg0.win 2).flush t = true ∧ i ∈ ((cfg0.win 2).blk t).view.set := by
  have h0 : (i 0).val < 4096 := (i 0).isLt
  have h1 : (i 1).val < 2048 := (i 1).isLt
  obtain ⟨t, e0, e1⟩ := idx_onto ⟨(i 0).val / 1024, by omega⟩ ⟨(i 1).val / 1024, by omega⟩
  dsimp only at e0 e1
  refine ⟨t, flush0_2 t, ?_⟩
  have h : ((cfg0.win 2).blk t).view.emb (ix2 (⟨(i 0).val % 1024, Nat.mod_lt _ (by decide)⟩ : Fin 1024) (⟨(i 1).val % 1024, Nat.mod_lt _ (by decide)⟩ : Fin 1024)) = i := by
    funext a
    refine Fin.ext ?_
    match a with
    | ⟨0, _⟩ => show win0_2.index t (0 : Fin 2) * 1024 + 1 * ((i 0).val % 1024) = (i 0).val; omega
    | ⟨1, _⟩ => show win0_2.index t (1 : Fin 2) * 1024 + 1 * ((i 1).val % 1024) = (i 1).val; omega
  rw [← h]
  exact ((cfg0.win 2).blk t).view.emb_mem_set _

theorem final (c : Dev nD) : (dats m 0 c).arrAt 2 cfg0.N = G (m ((c : Thread nD τ).loc main_arg0)) (m ((c : Thread nD τ).loc main_arg1)) :=
  (dats m 0 c).arrAt_eq_of_cover 2 _ (fun t _ => flushed_eq m c t) covered

end Cert.OutDxIdeal.Prod

namespace Cert.OutDxRefIdeal.Prod

open Idealize.ShloMosaic Idealize.ShloMosaic.TcCoe Idealize.SL.Sem Cert.OutDxRefIdeal Cert.OutDxRefIdeal.Gen Cert.Tile

def R (a0 : FVec Ideal S4096x1024 .f32) (a1 : FVec Ideal S2048x1024 .bf16) : FVec Ideal S4096x2048 .f32 :=
  Host.dotGeneral dot_S4096x1024_S2048x1024_S4096x2048_1_1_0_0_n_n none a0 (extf .f32 a1 bitsLt_bf16_f32)

theorem R_eq (a0 : FVec Ideal S4096x1024 .f32) (a1 : FVec Ideal S2048x1024 .bf16) : R a0 a1 = Cert.OutDxIdeal.Prod.G a0 a1 := by
  funext i
  obtain ⟨r, s, rfl⟩ := ix2_of i
  unfold Cert.OutDxIdeal.Prod.G
  pointwise [R]

theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (Value.run m ρ) fun r h => ⟨fun c => (h c).2, sem_eq_zero_of_no_sems rfl _⟩

end Cert.OutDxRefIdeal.Prod

open Idealize.ShloMosaic Idealize.ShloMosaic.TcCoe Idealize.SL.Sem in
theorem Cert.OutDxIdeal.Prod.claim : Cert.algebraic_OutDxIdeal_OutDxRefIdeal (hOutDxIdeal := Cert.OutDxIdeal.Gen.facts) (hOutDxRefIdeal := Cert.OutDxRefIdeal.Gen.facts) := fun m g m' g' _ hagree =>
  ⟨_, θ_run_mono (Cert.OutDxIdeal.Value.run_blocks m g) fun r h c => ⟨(h c).1.trans (Cert.OutDxIdeal.Prod.final m c), (h c).2⟩,
    θ_run_mono (Cert.OutDxRefIdeal.Value.run m' g') fun r h c => ⟨(h c).1.trans (by
      rw [(hagree c).1, (hagree c).2]
      exact Cert.OutDxRefIdeal.Prod.R_eq _ _), (h c).2⟩⟩

end
-- ==== Proof.OutDwVal.lean ====
module

public import proofs.«01_k».proof.Proof.Gen.OutDw
public import proofs.«01_k».proof.Proof.Gen.OutDwIdeal
public import proofs.«01_k».proof.Proof.Gen.OutDwRefIdeal
public import proofs.«01_k».proof.Proof.Gen.OutDw.Frame
public import proofs.«01_k».proof.Proof.Gen.OutDwIdeal.Frame
public import proofs.«01_k».proof.Proof.Gen.OutDwIdeal.Value
public import proofs.«01_k».proof.Proof.Gen.OutDwRefIdeal.Run
public import proofs.«01_k».proof.Defs
public import proofs.«01_k».proof.Proof.Tile
public import Idealize.ShloMosaic.Lib.Claim

@[expose] public section

set_option maxRecDepth 16384

noncomputable section

namespace Cert.OutDwIdeal.Prod

open Idealize.ShloMosaic Idealize.ShloMosaic.TcCoe Idealize.SL.Sem Cert.OutDwIdeal Cert.OutDwIdeal.Gen Cert.OutDwIdeal.Value Cert.Tile

section
variable (c : Dev nD) (i : grid0.Coords) (u3 : Memref sig .tc .vmem S256x1024 .bf16) (z3 : u3.IsWhole) (u4 : Memref sig .tc .vmem S1024x1024 .f32) (z4 : u4.IsWhole) (u5 : Memref sig .tc .vmem S1x1x256x1024 .f32) (z5 : u5.IsWhole) (u6 : Memref sig .tc .vmem S256x1024 .f32) (z6 : u6.IsWhole)
include c i u3 z3 u4 z4 u5 z5 u6 z6

theorem sout_A (hc0 : cond0_0 i) (hc1 : ¬cond0_1 i) (x0 : Vec Ideal S256x1024 .bf16) (x1 : Vec Ideal S1024x1024 .f32) :
    sout0_A_0 (F := Ideal) c i u3 z3 u4 z4 u5 z5 u6 z6 hc0 hc1 x0 x1 = k0_pay2 x0 (k0_pay1 (F := Ideal)) x1 := by
  unfold sout0_A_0
  rw [View.read_writes_junk_eq_canon]
  unfold kernelRun0_A
  dsimp only
  rw [View.canon_cons_unit_zero hz2]
  simp only [kernelRun0_A.sl.v5, kernelRun0_A.sl.HS0_1, readAt_zero u3 z3 hz2, readAt_zero u4 z4 hz2, readAt_zero u6 z6 hz2, readCov_cons_zero u6.view hz2 hz2]

theorem sout_B (hc0 : ¬cond0_0 i) (hc1 : ¬cond0_1 i) (x0 : Vec Ideal S256x1024 .bf16) (x1 : Vec Ideal S1024x1024 .f32) (xs0 : Vec Ideal S256x1024 .f32) :
    sout0_B_0 (F := Ideal) c i u3 z3 u4 z4 u5 z5 u6 z6 hc0 hc1 x0 x1 xs0 = k0_pay2 x0 xs0 x1 := by
  unfold sout0_B_0
  rw [View.read_writes_junk_eq_canon]
  unfold kernelRun0_B
  dsimp only
  rw [View.canon_cons_unit_zero hz2]
  simp only [readAt_zero u3 z3 hz2, readAt_zero u4 z4 hz2, readAt_zero u6 z6 hz2, readCov_cons_zero u6.view hz2 hz2]

theorem sout_C (hc0 : ¬cond0_0 i) (hc1 : cond0_1 i) (x0 : Vec Ideal S256x1024 .bf16) (x1 : Vec Ideal S1024x1024 .f32) (xs0 : Vec Ideal S256x1024 .f32) :
    sout0_C_0 (F := Ideal) c i u3 z3 u4 z4 u5 z5 u6 z6 hc0 hc1 x0 x1 xs0 = k0_pay2 x0 xs0 x1 := by
  unfold sout0_C_0
  rw [View.read_writes_junk_eq_canon]
  unfold kernelRun0_C
  dsimp only
  unfold kernelRun0_C.sl.HS0_1
  rw [View.canon_cons_unit_zero hz2]
  simp only [readAt_zero u3 z3 hz2, readAt_zero u4 z4 hz2, readAt_zero u6 z6 hz2, readCov_cons_zero u6.view hz2 hz2]

theorem out_C (hc0 : ¬cond0_0 i) (hc1 : cond0_1 i) (x0 : Vec Ideal S256x1024 .bf16) (x1 : Vec Ideal S1024x1024 .f32) (xs0 : Vec Ideal S256x1024 .f32) :
    out0_C_2 (F := Ideal) c i u3 z3 u4 z4 u5 z5 u6 z6 hc0 hc1 x0 x1 xs0 = k0_pay3 (k0_pay2 x0 xs0 x1) := by
  unfold out0_C_2
  rw [View.read_writes_junk_eq_canon]
  unfold kernelRun0_C
  dsimp only
  rw [View.canon_cons_unit_zero hz4]
  simp only [kernelRun0_C.sl.v16, kernelRun0_C.sl.HS0_1, readAt_zero u3 z3 hz2, readAt_zero u4 z4 hz2, readAt_zero u6 z6 hz2, readCov_cons_zero u6.view hz2 hz2]

end

theorem pay2_at (a : Vec Ideal S256x1024 .f32) (x0 : Vec Ideal S256x1024 .bf16) (x1 : Vec Ideal S1024x1024 .f32) (r : Fin 256) (s : Fin 1024) :
    k0_pay2 x0 a x1 (ix2 r s) = a (ix2 r s) + ∑ k : Fin 1024, x0 (ix2 r k) * x1 (ix2 k s) := by
  pointwise [k0_pay2]

theorem pay1_at (r : Fin 256) (s : Fin 1024) : k0_pay1 (F := Ideal) (ix2 r s) = 0 := by
  pointwise [k0_pay1]

theorem sh_at (a : Vec Ideal S256x1024 .f32) (p q : Fin 1) (r : Fin 256) (s : Fin 1024) : k0_pay3 a (ix4 p q r s) = a (ix2 r s) := by
  pointwise [k0_pay3]

theorem idx_facts : ∀ t : Fin cfg0.N, win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 4) = t.val / 4 % 2 ∧ win0_2.index t (1 : Fin 4) = t.val / 8 ∧ win0_2.index t (2 : Fin 4) = 0 ∧ win0_2.index t (3 : Fin 4) = 0 :=
  (by decide +kernel : ∀ t : Fin grid0.N, _)

/-- The weight's gradient at a row and a column. -/
def E (a0 : Vec Ideal S4096x2048 .f32) (a1 : Vec Ideal S4096x1024 .f32) (p : Fin 2048) (q : Fin 1024) : EReal :=
  ∑ k : Fin 4096, (a0 (ix2 k p) * a1 (ix2 k q) : EReal)

/-- The row of a packed entry. -/
def at' (p : Fin 2) (q : Fin 4) (s : Fin 256) : Fin 2048 := ⟨(q.val * 2 + p.val) * 256 + s.val, by have := p.isLt; have := q.isLt; have := s.isLt; omega⟩

/-- The weight's gradient, packed. -/
def G (a0 : Vec Ideal S4096x2048 .f32) (a1 : Vec Ideal S4096x1024 .f32) : Vec Ideal S2x4x256x1024 .f32 := fun i =>
  (E a0 a1 (at' (i 0) (i 1) (i 2)) (i 3) : EReal)

variable (m : (ℓ : Loc nD τ sig) → Buf (Elt Ideal) ℓ) (ρ : Dev nD → PrngReg)

/-- The transposed copy the host makes of the first argument. -/
theorem V_v1 (c : Dev nD) : @Eq (FVec Ideal S2048x4096 .bf16) (V (F := Ideal) m c main_v1) (truncf .bf16 (transpose S2048x4096 [1, 0] (m (c.tc.loc main_arg0) : FVec Ideal S4096x2048 .f32) transposes_S4096x2048_S2048x4096_1_0) bitsLt_bf16_f32) := by
  unfold V hostOps0
  simp only [List.flatten_cons, List.flatten_nil, List.cons_append, List.nil_append, List.append_nil]
  after_results_simp

theorem V_v1_at (c : Dev nD) (p : Fin 2048) (k : Fin 4096) : (V (F := Ideal) m c main_v1 : FVec Ideal S2048x4096 .bf16) (ix2 p k) = (m (c.tc.loc main_arg0) : FVec Ideal S4096x2048 .f32) (ix2 k p) := by
  rw [V_v1]
  pointwise

/-- A tile's product. -/
def mm (x0 : Vec Ideal S256x1024 .bf16) (x1 : Vec Ideal S1024x1024 .f32) (r : Fin 256) (s : Fin 1024) : EReal :=
  ∑ k : Fin 1024, (x0 (ix2 r k) * x1 (ix2 k s) : EReal)

/-- The part of the product that a reduction block gives. -/
def part (a0 : Vec Ideal S4096x2048 .f32) (a1 : Vec Ideal S4096x1024 .f32) (b : Fin 4) (p : Fin 2048) (q : Fin 1024) : EReal :=
  ∑ k : Fin 1024, (a0 (ix2 (tile 4096 rfl b k) p) * a1 (ix2 (tile 4096 rfl b k) q) : EReal)

/-- What a point adds. -/
def M (c : Dev nD) (t : Fin cfg0.N) (r : Fin 256) (s : Fin 1024) : EReal := mm (iblk m c 0 t) (iblk m c 1 t) r s

theorem M_eq (c : Dev nD) (t : Fin cfg0.N) (r : Fin 256) (s : Fin 1024) (b : Fin 4) (p : Fin 2048) (hb : b.val = t.val % 4) (hp : p.val = t.val / 4 * 256 + r.val) :
    M m c t r s = part (m ((c : Thread nD τ).loc main_arg0)) (m ((c : Thread nD τ).loc main_arg1)) b p s := by
  obtain ⟨e0, e1, e2, e3, e4, e5, e6, e7⟩ := idx_facts t
  unfold M mm part
  refine Finset.sum_congr rfl fun k _ => congrArg₂ (fun a b : EReal => a * b) ?_ ?_
  · rw [← V_v1_at m c]
    show V m c main_v1 (((cfg0.win 0).blk t).view.emb (ix2 r k)) = V m c main_v1 _
    refine congrArg (V m c main_v1) (funext fun a => Fin.ext ?_)
    match a with
    | ⟨0, _⟩ => show win0_0.index t (0 : Fin 2) * 256 + 1 * r.val = p.val; omega
    | ⟨1, _⟩ => show win0_0.index t (1 : Fin 2) * 1024 + 1 * k.val = b.val * 1024 + k.val; omega
  · rw [← V_main_arg1 m c]
    show V m c main_arg1 (((cfg0.win 1).blk t).view.emb (ix2 k s)) = V m c main_arg1 _
    refine congrArg (V m c main_arg1) (funext fun a => Fin.ext ?_)
    match a with
    | ⟨0, _⟩ => show win0_1.index t (0 : Fin 2) * 1024 + 1 * k.val = b.val * 1024 + k.val; omega
    | ⟨1, _⟩ => show win0_1.index t (1 : Fin 2) * 1024 + 1 * s.val = s.val; omega

/-- What a point adds, by its number. -/
def MN (c : Dev nD) (r : Fin 256) (s : Fin 1024) (n : ℕ) : EReal := if h : n < cfg0.N then M m c ⟨n, h⟩ r s else 0

theorem MN_eq (c : Dev nD) (r : Fin 256) (s : Fin 1024) (n : ℕ) (h : n < cfg0.N) : MN m c r s n = M m c ⟨n, h⟩ r s := dif_pos h

theorem scr (c : Dev nD) (r : Fin 256) (s : Fin 1024) : ∀ n h, (outsAt0 m c n h).2 (ix2 r s)
    = ∑ b ∈ Finset.range (n % 4 + 1), MN m c r s (4 * (n / 4) + b) := by
  refine fold_eq 4 cfg0.N (by decide) (fun n h => (outsAt0 m c n h).2 (ix2 r s)) (MN m c r s) (fun n h hn => ?_) (fun n h hn => ?_)
  · rw [MN_eq m c r s n h]
    rw [outsAt0_A m c ⟨n, h⟩ hn (by dsimp only; omega)]
    dsimp only
    rw [sout_A, pay2_at, pay1_at, zero_add]
    rfl
  · rw [MN_eq m c r s n h]
    by_cases h7 : n % 4 = 3
    · rw [outsAt0_C m c ⟨n, h⟩ hn h7]
      dsimp only
      rw [sout_C, pay2_at]
      rfl
    · rw [outsAt0_B m c ⟨n, h⟩ hn h7]
      dsimp only
      rw [sout_B, pay2_at]
      rfl

theorem block_at (c : Dev nD) (t : Fin cfg0.N) (hm : t.val % 4 = 3) (u v : Fin 1) (r : Fin 256) (s : Fin 1024) :
    ((dats m 0 c).flushed 2 t : Vec Ideal S1x1x256x1024 .f32) (ix4 u v r s) = ∑ b ∈ Finset.range (t.val % 4 + 1), MN m c r s (4 * (t.val / 4) + b) := by
  have hs := scr m c r s t.val t.isLt
  rw [flushed2_C m c t (by omega) hm]
  rw [outsAt0_C m c t (by omega) hm] at hs
  dsimp only at hs
  rw [sout_C] at hs
  show out0_C_2 (F := Ideal) _ _ _ _ _ _ _ _ _ _ _ _ _ _ _ (ix4 u v r s) = _
  rw [out_C, sh_at, hs]

theorem flushed_eq (c : Dev nD) (t : Fin cfg0.N) (hf : (cfg0.win 2).flush t = true) :
    (dats m 0 c).flushed 2 t = ((cfg0.win 2).blk t).view.read (Elt Ideal) (G (m ((c : Thread nD τ).loc main_arg0)) (m ((c : Thread nD τ).loc main_arg1))) := by
  have hm : t.val % 4 = 3 := (flush0_2 t).mp hf
  have hN : t.val < 32 := lt_of_lt_of_eq t.isLt N_0
  obtain ⟨e0, e1, e2, e3, e4, e5, e6, e7⟩ := idx_facts t
  funext j
  obtain ⟨u, v, r, s, rfl⟩ : ∃ (u v : Fin 1) (r : Fin 256) (s : Fin 1024), j = ix4 u v r s := ⟨j 0, j 1, j 2, j 3, funext fun a => by match a with | ⟨0, _⟩ => rfl | ⟨1, _⟩ => rfl | ⟨2, _⟩ => rfl | ⟨3, _⟩ => rfl⟩
  rw [block_at m c t hm u v r s]
  show _ = G _ _ (((cfg0.win 2).blk t).view.emb (ix4 u v r s))
  rw [hm, Finset.sum_range]
  have hi : ((cfg0.win 2).blk t).view.emb (ix4 u v r s) = ix4 (⟨t.val / 4 % 2, by omega⟩ : Fin 2) (⟨t.val / 8, by omega⟩ : Fin 4) r s := funext fun a => Fin.ext (by
    have hu := u.isLt
    have hv := v.isLt
    match a with
    | ⟨0, _⟩ => show win0_2.index t (0 : Fin 4) * 1 + 1 * u.val = t.val / 4 % 2; omega
    | ⟨1, _⟩ => show win0_2.index t (1 : Fin 4) * 1 + 1 * v.val = t.val / 8; omega
    | ⟨2, _⟩ => show win0_2.index t (2 : Fin 4) * 256 + 1 * r.val = r.val; omega
    | ⟨3, _⟩ => show win0_2.index t (3 : Fin 4) * 1024 + 1 * s.val = s.val; omega)
  rw [hi]
  unfold G E
  rw [sum_tile (n := 4) 4096 rfl]
  refine Finset.sum_congr rfl fun b _ => ?_
  have hb : 4 * (t.val / 4) + b.val < cfg0.N := lt_of_lt_of_eq (by have := b.isLt; omega : _ < 32) N_0.symm
  rw [MN_eq m c r s _ hb]
  exact M_eq m c ⟨_, hb⟩ r s b _ (by dsimp only; omega) (by show (t.val / 8 * 2 + t.val / 4 % 2) * 256 + r.val = (4 * (t.val / 4) + b.val) / 4 * 256 + r.val; omega)

theorem final (c : Dev nD) : (dats m 0 c).arrAt 2 cfg0.N = G (m ((c : Thread nD τ).loc main_arg0)) (m ((c : Thread nD τ).loc main_arg1)) :=
  (dats m 0 c).arrAt_eq_of_cover 2 _ (fun t hf => flushed_eq m c t hf) (fun i => (covered_iff2 i).2 (by
    have h0 : (i 0).val < 2 := (i 0).isLt; have h1 : (i 1).val < 4 := (i 1).isLt; have h2 : (i 2).val < 256 := (i 2).isLt; have h3 : (i 3).val < 1024 := (i 3).isLt; omega))

end Cert.OutDwIdeal.Prod

namespace Cert.OutDwRefIdeal.Prod

open Idealize.ShloMosaic Idealize.ShloMosaic.TcCoe Idealize.SL.Sem Cert.OutDwRefIdeal Cert.OutDwRefIdeal.Gen Cert.Tile

def R (a0 : FVec Ideal S4096x2048 .f32) (a1 : FVec Ideal S4096x1024 .f32) : FVec Ideal S2x4x256x1024 .f32 :=
  transpose S2x4x256x1024 [1, 0, 2, 3] (shapeCast _ (transpose S2048x1024 [1, 0] (Host.dotGeneral dot_S4096x1024_S4096x2048_S1024x2048_0_0_1_1_n_n none a1 a0) transposes_S1024x2048_S2048x1024_1_0) shapeCasts_S2048x1024_S4x2x256x1024) transposes_S4x2x256x1024_S2x4x256x1024_1_0_2_3

theorem pack_at (x : FVec Ideal S2048x1024 .f32) (p : Fin 2) (q : Fin 4) (r : Fin 256) (s : Fin 1024) :
    (transpose S2x4x256x1024 [1, 0, 2, 3] (shapeCast S4x2x256x1024 x shapeCasts_S2048x1024_S4x2x256x1024) transposes_S4x2x256x1024_S2x4x256x1024_1_0_2_3 : FVec Ideal S2x4x256x1024 .f32) (ix4 p q r s)
      = x (ix2 (Cert.OutDwIdeal.Prod.at' p q r) s) := by
  unfold Cert.OutDwIdeal.Prod.at'
  pointwise
  exact congrArg (fun b => x (ix2 b s)) (Fin.ext (by dsimp only; omega))

theorem R_eq (a0 : FVec Ideal S4096x2048 .f32) (a1 : FVec Ideal S4096x1024 .f32) : R a0 a1 = Cert.OutDwIdeal.Prod.G a0 a1 := by
  funext i
  obtain ⟨p, q, r, s, rfl⟩ : ∃ (p : Fin 2) (q : Fin 4) (r : Fin 256) (s : Fin 1024), i = ix4 p q r s := ⟨i 0, i 1, i 2, i 3, funext fun a => by match a with | ⟨0, _⟩ => rfl | ⟨1, _⟩ => rfl | ⟨2, _⟩ => rfl | ⟨3, _⟩ => rfl⟩
  unfold R
  refine (pack_at _ p q r s).trans ?_
  unfold Cert.OutDwIdeal.Prod.G Cert.OutDwIdeal.Prod.E
  have h : ∀ b : Fin 2048, (transpose S2048x1024 [1, 0] (Host.dotGeneral dot_S4096x1024_S4096x2048_S1024x2048_0_0_1_1_n_n none a1 a0) transposes_S1024x2048_S2048x1024_1_0 : FVec Ideal S2048x1024 .f32) (ix2 b s) = ∑ k : Fin 4096, a1 (ix2 k s) * a0 (ix2 k b) := by
    intro b
    pointwise
  rw [h]
  exact Finset.sum_congr rfl fun k _ => mul_comm _ _

theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (Value.run m ρ) fun r h => ⟨fun c => (h c).2, sem_eq_zero_of_no_sems rfl _⟩

end Cert.OutDwRefIdeal.Prod

open Idealize.ShloMosaic Idealize.ShloMosaic.TcCoe Idealize.SL.Sem in
theorem Cert.OutDwIdeal.Prod.claim : Cert.algebraic_OutDwIdeal_OutDwRefIdeal (hOutDwIdeal := Cert.OutDwIdeal.Gen.facts) (hOutDwRefIdeal := Cert.OutDwRefIdeal.Gen.facts) := fun m g m' g' _ hagree =>
  ⟨_, θ_run_mono (Cert.OutDwIdeal.Value.run_blocks m g) fun r h c => ⟨(h c).1.trans (Cert.OutDwIdeal.Prod.final m c), (h c).2⟩,
    θ_run_mono (Cert.OutDwRefIdeal.Value.run m' g') fun r h c => ⟨(h c).1.trans (by
      rw [(hagree c).1, (hagree c).2]
      exact Cert.OutDwRefIdeal.Prod.R_eq _ _), (h c).2⟩⟩

end
-- ==== Proof.FdxVal.lean ====
module

public import proofs.«01_k».proof.Proof.Gen.Fdx
public import proofs.«01_k».proof.Proof.Gen.FdxIdeal
public import proofs.«01_k».proof.Proof.Gen.FdxRefIdeal
public import proofs.«01_k».proof.Proof.Gen.Fdx.Frame
public import proofs.«01_k».proof.Proof.Gen.FdxIdeal.Frame
public import proofs.«01_k».proof.Proof.Gen.FdxIdeal.Value
public import proofs.«01_k».proof.Proof.Gen.FdxRefIdeal.Run
public import proofs.«01_k».proof.Defs
public import proofs.«01_k».proof.Proof.Tile
public import Idealize.ShloMosaic.Lib.Claim

@[expose] public section

set_option maxRecDepth 16384

noncomputable section

namespace Cert.FdxIdeal.Prod

open Idealize.ShloMosaic Idealize.ShloMosaic.TcCoe Idealize.SL.Sem Cert.FdxIdeal Cert.FdxIdeal.Gen Cert.FdxIdeal.Value Cert.Tile

section
variable (c : Dev nD) (i : grid0.Coords) (u3 : Memref sig .tc .vmem S1024x1024 .bf16) (z3 : u3.IsWhole) (u4 : Memref sig .tc .vmem S1024x1024 .f32) (z4 : u4.IsWhole) (u5 : Memref sig .tc .vmem S1024x1024 .bf16) (z5 : u5.IsWhole) (u6 : Memref sig .tc .vmem S1024x1024 .f32) (z6 : u6.IsWhole) (u7 : Memref sig .tc .vmem S1024x1024 .f32) (z7 : u7.IsWhole)
include c i u3 z3 u4 z4 u5 z5 u6 z6 u7 z7

theorem sout_A (hc0 : cond0_0 i) (hc1 : cond0_1 i) (hc2 : ¬cond0_2 i) (hc3 : ¬cond0_3 i) (x0 : Vec Ideal S1024x1024 .bf16) (x1 : Vec Ideal S1024x1024 .f32) (x2 : Vec Ideal S1024x1024 .bf16) :
    sout0_A_0 (F := Ideal) c i u3 z3 u4 z4 u5 z5 u6 z6 u7 z7 hc0 hc1 hc2 hc3 x0 x1 x2 = k0_pay2 k0_pay1 x0 x2 := by
  unfold sout0_A_0
  rw [View.read_writes_junk_eq_canon]
  unfold kernelRun0_A
  dsimp only
  rw [View.canon_cons_unit_zero hz2]
  simp only [kernelRun0_A.sl.v12, kernelRun0_A.sl.HS0_1, readAt_zero u3 z3 hz2, readAt_zero u4 z4 hz2, readAt_zero u5 z5 hz2, readAt_zero u7 z7 hz2, readCov_cons_zero u7.view hz2 hz2]

theorem sout_B (hc0 : ¬cond0_0 i) (hc1 : cond0_1 i) (hc2 : ¬cond0_2 i) (hc3 : ¬cond0_3 i) (x0 : Vec Ideal S1024x1024 .bf16) (x1 : Vec Ideal S1024x1024 .f32) (x2 : Vec Ideal S1024x1024 .bf16) (xs0 : Vec Ideal S1024x1024 .f32) :
    sout0_B_0 (F := Ideal) c i u3 z3 u4 z4 u5 z5 u6 z6 u7 z7 hc0 hc1 hc2 hc3 x0 x1 x2 xs0 = k0_pay2 xs0 x0 x2 := by
  unfold sout0_B_0
  rw [View.read_writes_junk_eq_canon]
  unfold kernelRun0_B
  dsimp only
  rw [View.canon_cons_unit_zero hz2]
  simp only [readAt_zero u3 z3 hz2, readAt_zero u4 z4 hz2, readAt_zero u5 z5 hz2, readAt_zero u7 z7 hz2, readCov_cons_zero u7.view hz2 hz2]

theorem sout_C (hc0 : ¬cond0_0 i) (hc1 : ¬cond0_1 i) (hc2 : cond0_2 i) (hc3 : ¬cond0_3 i) (x0 : Vec Ideal S1024x1024 .bf16) (x1 : Vec Ideal S1024x1024 .f32) (x2 : Vec Ideal S1024x1024 .bf16) (xs0 : Vec Ideal S1024x1024 .f32) :
    sout0_C_0 (F := Ideal) c i u3 z3 u4 z4 u5 z5 u6 z6 u7 z7 hc0 hc1 hc2 hc3 x0 x1 x2 xs0 = k0_pay3 xs0 x1 x2 := by
  unfold sout0_C_0
  rw [View.read_writes_junk_eq_canon]
  unfold kernelRun0_C
  dsimp only
  rw [View.canon_cons_unit_zero hz2]
  simp only [readAt_zero u3 z3 hz2, readAt_zero u4 z4 hz2, readAt_zero u5 z5 hz2, readAt_zero u7 z7 hz2, readCov_cons_zero u7.view hz2 hz2]

theorem sout_D (hc0 : ¬cond0_0 i) (hc1 : ¬cond0_1 i) (hc2 : cond0_2 i) (hc3 : cond0_3 i) (x0 : Vec Ideal S1024x1024 .bf16) (x1 : Vec Ideal S1024x1024 .f32) (x2 : Vec Ideal S1024x1024 .bf16) (xs0 : Vec Ideal S1024x1024 .f32) :
    sout0_D_0 (F := Ideal) c i u3 z3 u4 z4 u5 z5 u6 z6 u7 z7 hc0 hc1 hc2 hc3 x0 x1 x2 xs0 = k0_pay3 xs0 x1 x2 := by
  unfold sout0_D_0
  rw [View.read_writes_junk_eq_canon]
  unfold kernelRun0_D
  dsimp only
  unfold kernelRun0_D.sl.HS0_1
  rw [View.canon_cons_unit_zero hz2]
  simp only [readAt_zero u3 z3 hz2, readAt_zero u4 z4 hz2, readAt_zero u5 z5 hz2, readAt_zero u7 z7 hz2, readCov_cons_zero u7.view hz2 hz2]

theorem out_D (hc0 : ¬cond0_0 i) (hc1 : ¬cond0_1 i) (hc2 : cond0_2 i) (hc3 : cond0_3 i) (x0 : Vec Ideal S1024x1024 .bf16) (x1 : Vec Ideal S1024x1024 .f32) (x2 : Vec Ideal S1024x1024 .bf16) (xs0 : Vec Ideal S1024x1024 .f32) :
    out0_D_3 (F := Ideal) c i u3 z3 u4 z4 u5 z5 u6 z6 u7 z7 hc0 hc1 hc2 hc3 x0 x1 x2 xs0 = k0_pay3 xs0 x1 x2 := by
  unfold out0_D_3
  rw [View.read_writes_junk_eq_canon]
  unfold kernelRun0_D
  dsimp only
  rw [View.canon_cons_unit_zero hz2]
  simp only [kernelRun0_D.sl.v12, kernelRun0_D.sl.HS0_1, readAt_zero u3 z3 hz2, readAt_zero u4 z4 hz2, readAt_zero u5 z5 hz2, readAt_zero u7 z7 hz2, readCov_cons_zero u7.view hz2 hz2]

end

theorem pay1_at (r s : Fin 1024) : k0_pay1 (F := Ideal) (ix2 r s) = 0 := by
  pointwise [k0_pay1]

theorem pay2_at (a : Vec Ideal S1024x1024 .f32) (x0 : Vec Ideal S1024x1024 .bf16) (x1 : Vec Ideal S1024x1024 .bf16) (r s : Fin 1024) :
    k0_pay2 a x0 x1 (ix2 r s) = a (ix2 r s) + ∑ k : Fin 1024, x0 (ix2 r k) * x1 (ix2 s k) := by
  pointwise [k0_pay2]

theorem pay3_at (a : Vec Ideal S1024x1024 .f32) (x0 : Vec Ideal S1024x1024 .f32) (x1 : Vec Ideal S1024x1024 .bf16) (r s : Fin 1024) :
    k0_pay3 a x0 x1 (ix2 r s) = a (ix2 r s) + ∑ k : Fin 1024, x0 (ix2 r k) * x1 (ix2 s k) := by
  pointwise [k0_pay3]

theorem idx_facts : ∀ t : Fin cfg0.N, win0_0.index t (0 : Fin 2) = t.val / 8 ∧ (t.val % 8 ≤ 5 → win0_0.index t (1 : Fin 2) = t.val % 8)
    ∧ win0_1.index t (0 : Fin 2) = t.val / 8 ∧ (6 ≤ t.val % 8 → win0_1.index t (1 : Fin 2) = t.val % 8 - 6) ∧ win0_2.index t (0 : Fin 2) = 0 ∧ win0_2.index t (1 : Fin 2) = t.val % 8
    ∧ win0_3.index t (0 : Fin 2) = t.val / 8 ∧ win0_3.index t (1 : Fin 2) = 0 :=
  (by decide +kernel : ∀ t : Fin grid0.N, _)

/-- The two gradients side by side. -/
def gcat (a0 : Vec Ideal S4096x6144 .bf16) (a1 : Vec Ideal S4096x2048 .f32) (i : Fin 4096) (k : Fin 8192) : EReal :=
  if h : k.val < 6144 then a0 (ix2 i (⟨k.val, h⟩ : Fin 6144)) else a1 (ix2 i (⟨k.val - 6144, by have := k.isLt; omega⟩ : Fin 2048))

/-- A column among those of the gradients, as a column of the weight. -/
def w0 (k : Fin 8192) : Fin 8208 := ⟨k.val, lt_trans k.isLt (by decide)⟩

/-- The product with the weight's transpose, over the arrays. -/
def G (a0 : Vec Ideal S4096x6144 .bf16) (a1 : Vec Ideal S4096x2048 .f32) (a2 : Vec Ideal S1024x8208 .bf16) : Vec Ideal S4096x1024 .f32 := fun i =>
  (∑ k : Fin 8192, gcat a0 a1 (i 0) k * a2 (ix2 (i 1) (w0 k)) : EReal)

variable (m : (ℓ : Loc nD τ sig) → Buf (Elt Ideal) ℓ) (ρ : Dev nD → PrngReg)

/-- A tile's product, the left one's entries of the short format. -/
def mm1 (x0 : Vec Ideal S1024x1024 .bf16) (x1 : Vec Ideal S1024x1024 .bf16) (r s : Fin 1024) : EReal :=
  ∑ k : Fin 1024, (x0 (ix2 r k) * x1 (ix2 s k) : EReal)

/-- A tile's product, the left one's entries of the long format. -/
def mm2 (x0 : Vec Ideal S1024x1024 .f32) (x1 : Vec Ideal S1024x1024 .bf16) (r s : Fin 1024) : EReal :=
  ∑ k : Fin 1024, (x0 (ix2 r k) * x1 (ix2 s k) : EReal)

/-- The part of the product that a row block and a reduction block give. -/
def part (a0 : Vec Ideal S4096x6144 .bf16) (a1 : Vec Ideal S4096x2048 .f32) (a2 : Vec Ideal S1024x8208 .bf16) (q : Fin 4) (b : Fin 8) (r s : Fin 1024) : EReal :=
  ∑ k : Fin 1024, (gcat a0 a1 (tile 4096 rfl q r) (tile 8192 rfl b k) * a2 (ix2 s (w0 (tile 8192 rfl b k))) : EReal)

/-- What a point adds. -/
def M (c : Dev nD) (t : Fin cfg0.N) (r s : Fin 1024) : EReal :=
  if t.val % 8 ≤ 5 then mm1 (iblk m c 0 t) (X0_2 m c t) r s else mm2 (iblk m c 1 t) (X0_2 m c t) r s

theorem w_eq (c : Dev nD) (t : Fin cfg0.N) (s k : Fin 1024) (b : Fin 8) (hb : b.val = t.val % 8) :
    (X0_2 m c t : Vec Ideal S1024x1024 .bf16) (ix2 s k) = (m ((c : Thread nD τ).loc main_arg2) : Vec Ideal S1024x8208 .bf16) (ix2 s (w0 (tile 8192 rfl b k))) := by
  obtain ⟨e0, e1, e2, e3, e4, e5, e6, e7⟩ := idx_facts t
  rw [← V_main_arg2 m c]
  refine (dif_pos (moved0_2 t (ix2 s k : (cfg0.win 2).block.Idx))).trans ?_
  show V m c main_arg2 (((cfg0.win 2).blk t).view.emb _) = V m c main_arg2 _
  refine congrArg (V m c main_arg2) (funext fun a => Fin.ext ?_)
  match a with
  | ⟨0, _⟩ => show win0_2.index t (0 : Fin 2) * 1024 + 1 * s.val = s.val; omega
  | ⟨1, _⟩ => show win0_2.index t (1 : Fin 2) * 1024 + 1 * k.val = b.val * 1024 + k.val; omega

theorem M_eq (c : Dev nD) (t : Fin cfg0.N) (r s : Fin 1024) (q : Fin 4) (b : Fin 8) (hq : q.val = t.val / 8) (hb : b.val = t.val % 8) :
    M m c t r s = part (m ((c : Thread nD τ).loc main_arg0)) (m ((c : Thread nD τ).loc main_arg1)) (m ((c : Thread nD τ).loc main_arg2)) q b r s := by
  obtain ⟨e0, e1, e2, e3, e4, e5, e6, e7⟩ := idx_facts t
  unfold M part
  by_cases h5 : t.val % 8 ≤ 5
  · rw [if_pos h5]
    unfold mm1
    refine Finset.sum_congr rfl fun k _ => congrArg₂ (fun a b : EReal => a * b) ?_ (w_eq m c t s k b hb)
    have hk : (tile 8192 rfl b k).val < 6144 := by show b.val * 1024 + k.val < 6144; have := k.isLt; omega
    unfold gcat
    rw [dif_pos hk, ← V_main_arg0 m c]
    show V m c main_arg0 (((cfg0.win 0).blk t).view.emb (ix2 r k)) = V m c main_arg0 _
    refine congrArg (V m c main_arg0) (funext fun a => Fin.ext ?_)
    have e1' := e1 h5
    match a with
    | ⟨0, _⟩ => show win0_0.index t (0 : Fin 2) * 1024 + 1 * r.val = q.val * 1024 + r.val; omega
    | ⟨1, _⟩ => show win0_0.index t (1 : Fin 2) * 1024 + 1 * k.val = b.val * 1024 + k.val; omega
  · rw [if_neg h5]
    unfold mm2
    refine Finset.sum_congr rfl fun k _ => congrArg₂ (fun a b : EReal => a * b) ?_ (w_eq m c t s k b hb)
    have hk : ¬(tile 8192 rfl b k).val < 6144 := by show ¬b.val * 1024 + k.val < 6144; omega
    unfold gcat
    rw [dif_neg hk, ← V_main_arg1 m c]
    show V m c main_arg1 (((cfg0.win 1).blk t).view.emb (ix2 r k)) = V m c main_arg1 _
    refine congrArg (V m c main_arg1) (funext fun a => Fin.ext ?_)
    have e3' := e3 (by omega)
    match a with
    | ⟨0, _⟩ => show win0_1.index t (0 : Fin 2) * 1024 + 1 * r.val = q.val * 1024 + r.val; omega
    | ⟨1, _⟩ => show win0_1.index t (1 : Fin 2) * 1024 + 1 * k.val = b.val * 1024 + k.val - 6144; omega

/-- What a point adds, by its number. -/
def MN (c : Dev nD) (r s : Fin 1024) (n : ℕ) : EReal := if h : n < cfg0.N then M m c ⟨n, h⟩ r s else 0

theorem MN_eq (c : Dev nD) (r s : Fin 1024) (n : ℕ) (h : n < cfg0.N) : MN m c r s n = M m c ⟨n, h⟩ r s := dif_pos h

theorem scr (c : Dev nD) (r s : Fin 1024) : ∀ n h, (outsAt0 m c n h).2 (ix2 r s)
    = ∑ b ∈ Finset.range (n % 8 + 1), MN m c r s (8 * (n / 8) + b) := by
  refine fold_eq 8 cfg0.N (by decide) (fun n h => (outsAt0 m c n h).2 (ix2 r s)) (MN m c r s) (fun n h hn => ?_) (fun n h hn => ?_)
  · rw [MN_eq m c r s n h]
    rw [outsAt0_A m c ⟨n, h⟩ hn (by dsimp only; omega) (by dsimp only; omega) (by dsimp only; omega)]
    dsimp only
    rw [sout_A, pay2_at, pay1_at, zero_add]
    unfold M
    rw [if_pos (by dsimp only; omega)]
    rfl
  · rw [MN_eq m c r s n h]
    unfold M
    by_cases h5 : n % 8 ≤ 5
    · rw [outsAt0_B m c ⟨n, h⟩ hn h5 (by dsimp only; omega) (by dsimp only; omega), if_pos h5]
      dsimp only
      rw [sout_B, pay2_at]
      rfl
    · by_cases h7 : n % 8 = 7
      · rw [outsAt0_D m c ⟨n, h⟩ hn h5 (by dsimp only; omega) h7, if_neg h5]
        dsimp only
        rw [sout_D, pay3_at]
        rfl
      · rw [outsAt0_C m c ⟨n, h⟩ hn h5 (by dsimp only; omega) h7, if_neg h5]
        dsimp only
        rw [sout_C, pay3_at]
        rfl

theorem flushed_eq (c : Dev nD) (t : Fin cfg0.N) (hf : (cfg0.win 3).flush t = true) :
    (dats m 0 c).flushed 3 t = ((cfg0.win 3).blk t).view.read (Elt Ideal) (G (m ((c : Thread nD τ).loc main_arg0)) (m ((c : Thread nD τ).loc main_arg1)) (m ((c : Thread nD τ).loc main_arg2))) := by
  have hm : t.val % 8 = 7 := (flush0_3 t).mp hf
  have hN : t.val < 32 := lt_of_lt_of_eq t.isLt N_0
  obtain ⟨e0, e1, e2, e3, e4, e5, e6, e7⟩ := idx_facts t
  rw [flushed3_D m c t (by omega) (by omega) (by omega) hm]
  funext j
  obtain ⟨r, s, rfl⟩ : ∃ (r s : Fin 1024), j = ix2 r s := ⟨j 0, j 1, funext fun a => by match a with | ⟨0, _⟩ => rfl | ⟨1, _⟩ => rfl⟩
  show out0_D_3 (F := Ideal) _ _ _ _ _ _ _ _ _ _ _ _ _ _ _ _ _ _ _ _ (ix2 r s) = G _ _ _ (((cfg0.win 3).blk t).view.emb (ix2 r s))
  have hs := scr m c r s t.val t.isLt
  rw [outsAt0_D m c t (by omega) (by omega) (by omega) hm] at hs
  dsimp only at hs
  rw [sout_D] at hs
  rw [out_D, hs, hm, Finset.sum_range]
  have hi : ((cfg0.win 3).blk t).view.emb (ix2 r s) = ix2 (tile 4096 rfl (⟨t.val / 8, by omega⟩ : Fin 4) r) s := funext fun a => Fin.ext (by
    match a with
    | ⟨0, _⟩ => show win0_3.index t (0 : Fin 2) * 1024 + 1 * r.val = t.val / 8 * 1024 + r.val; omega
    | ⟨1, _⟩ => show win0_3.index t (1 : Fin 2) * 1024 + 1 * s.val = s.val; omega)
  rw [hi]
  unfold G
  rw [sum_tile (n := 8) 8192 rfl]
  refine Finset.sum_congr rfl fun b _ => ?_
  have hb : 8 * (t.val / 8) + b.val < cfg0.N := lt_of_lt_of_eq (by have := b.isLt; omega : _ < 32) N_0.symm
  rw [MN_eq m c r s _ hb]
  exact M_eq m c ⟨_, hb⟩ r s ⟨t.val / 8, by omega⟩ b (by dsimp only; omega) (by dsimp only; omega)

theorem final (c : Dev nD) : (dats m 0 c).arrAt 3 cfg0.N = G (m ((c : Thread nD τ).loc main_arg0)) (m ((c : Thread nD τ).loc main_arg1)) (m ((c : Thread nD τ).loc main_arg2)) :=
  (dats m 0 c).arrAt_eq_of_cover 3 _ (fun t hf => flushed_eq m c t hf) (fun i => (covered_iff3 i).2 (by
    have h0 : (i 0).val < 4096 := (i 0).isLt; have h1 : (i 1).val < 1024 := (i 1).isLt; omega))

end Cert.FdxIdeal.Prod

namespace Cert.FdxRefIdeal.Prod

open Idealize.ShloMosaic Idealize.ShloMosaic.TcCoe Idealize.SL.Sem Cert.FdxRefIdeal Cert.FdxRefIdeal.Gen Cert.Tile

def cat (a0 : FVec Ideal S4096x6144 .bf16) (a1 : FVec Ideal S4096x2048 .f32) : FVec Ideal S4096x8208 .f32 :=
  addf (pad S4096x8208 ![0, 6144] ![0, 16] ![0, 0] a1 (constant S_ .f32 0x00000000#32) pads_S4096x2048_S4096x8208_000_6144160 h_S_) (pad S4096x8208 ![0, 0] ![0, 2064] ![0, 0] (extf .f32 a0 bitsLt_bf16_f32) (constant S_ .f32 0x00000000#32) pads_S4096x6144_S4096x8208_000_020640 h_S_)

def R (a0 : FVec Ideal S4096x6144 .bf16) (a1 : FVec Ideal S4096x2048 .f32) (a2 : FVec Ideal S1024x8208 .bf16) : FVec Ideal S4096x1024 .f32 :=
  Host.dotGeneral dot_S4096x8208_S1024x8208_S4096x1024_1_1_0_0_n_n none (cat a0 a1) (extf .f32 a2 bitsLt_bf16_f32)

theorem cat_lt (a0 : FVec Ideal S4096x6144 .bf16) (a1 : FVec Ideal S4096x2048 .f32) (r : Fin 4096) (k : Fin 8192) :
    cat a0 a1 (ix2 r (Cert.FdxIdeal.Prod.w0 k)) = Cert.FdxIdeal.Prod.gcat a0 a1 r k := by
  unfold Cert.FdxIdeal.Prod.gcat Cert.FdxIdeal.Prod.w0
  have := k.isLt
  split_ifs with h
  · pointwise [cat]
    rw [dif_neg (by omega), dif_pos h, zero_add]
  · pointwise [cat]
    rw [dif_pos (by omega), dif_neg h, add_zero]

theorem cat_ge (a0 : FVec Ideal S4096x6144 .bf16) (a1 : FVec Ideal S4096x2048 .f32) (r : Fin 4096) (k : Fin 16) :
    cat a0 a1 (ix2 r (⟨8192 + k.val, by have := k.isLt; omega⟩ : Fin 8208)) = 0 := by
  have := k.isLt
  pointwise [cat]
  rw [dif_neg (by omega), dif_neg (by omega), add_zero]

theorem R_eq (a0 : FVec Ideal S4096x6144 .bf16) (a1 : FVec Ideal S4096x2048 .f32) (a2 : FVec Ideal S1024x8208 .bf16) : R a0 a1 a2 = Cert.FdxIdeal.Prod.G a0 a1 a2 := by
  funext i
  obtain ⟨r, s, rfl⟩ := ix2_of i
  unfold Cert.FdxIdeal.Prod.G R
  have h : ∀ g : FVec Ideal S4096x8208 .f32, Host.dotGeneral dot_S4096x8208_S1024x8208_S4096x1024_1_1_0_0_n_n none g (extf .f32 a2 bitsLt_bf16_f32) (ix2 r s) = ∑ k : Fin 8208, g (ix2 r k) * a2 (ix2 s k) := by
    intro g
    pointwise
  have hs : ∀ f : Fin 8208 → EReal, ∑ k, f k = ∑ k : Fin 8192, f (Cert.FdxIdeal.Prod.w0 k) + ∑ k : Fin 16, f (⟨8192 + k.val, by have := k.isLt; omega⟩ : Fin 8208) :=
    fun f => Fin.sum_univ_add (a := 8192) (b := 16) f
  rw [h, hs]
  have hz : ∑ k : Fin 16, cat a0 a1 (ix2 r (⟨8192 + k.val, by have := k.isLt; omega⟩ : Fin 8208)) * a2 (ix2 s (⟨8192 + k.val, by have := k.isLt; omega⟩ : Fin 8208)) = 0 :=
    Finset.sum_eq_zero fun k _ => by rw [cat_ge, zero_mul]
  refine (congrArg₂ (fun a b : EReal => a + b) (Finset.sum_congr rfl fun k _ => congrArg₂ (fun a b : EReal => a * b) (cat_lt a0 a1 r k) rfl) hz).trans (add_zero _)

theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_mono (Value.run m ρ) fun r h => ⟨fun c => (h c).2, sem_eq_zero_of_no_sems rfl _⟩

end Cert.FdxRefIdeal.Prod

open Idealize.ShloMosaic Idealize.ShloMosaic.TcCoe Idealize.SL.Sem in
theorem Cert.FdxIdeal.Prod.claim : Cert.algebraic_FdxIdeal_FdxRefIdeal (hFdxIdeal := Cert.FdxIdeal.Gen.facts) (hFdxRefIdeal := Cert.FdxRefIdeal.Gen.facts) := fun m g m' g' _ hagree =>
  ⟨_, θ_run_mono (Cert.FdxIdeal.Value.run_blocks m g) fun r h c => ⟨(h c).1.trans (Cert.FdxIdeal.Prod.final m c), (h c).2⟩,
    θ_run_mono (Cert.FdxRefIdeal.Value.run m' g') fun r h c => ⟨(h c).1.trans (by
      rw [(hagree c).1, (hagree c).2.1, (hagree c).2.2]
      exact Cert.FdxRefIdeal.Prod.R_eq _ _ _), (h c).2⟩⟩

end
-- ==== Proof.FdwqVal.lean ====
module

public import proofs.«01_k».proof.Proof.Gen.Fdwq
public import proofs.«01_k».proof.Proof.Gen.FdwqIdeal
public import proofs.«01_k».proof.Proof.Gen.FdwqRefIdeal
public import proofs.«01_k».proof.Proof.Gen.Fdwq.Frame
public import proofs.«01_k».proof.Proof.Gen.FdwqIdeal.Frame
public import proofs.«01_k».proof.Proof.Gen.FdwqIdeal.Value
public import proofs.«01_k».proof.Proof.Gen.FdwqRefIdeal.Run
public import proofs.«01_k».proof.Defs
public import proofs.«01_k».proof.Proof.Tile
public import Idealize.ShloMosaic.Lib.Claim

@[expose] public section

set_option maxRecDepth 16384

noncomputable section

namespace Cert.FdwqIdeal.Prod

open Idealize.ShloMosaic Idealize.ShloMosaic.TcCoe Idealize.SL.Sem Cert.FdwqIdeal Cert.FdwqIdeal.Gen Cert.FdwqIdeal.Value Cert.Tile

section
variable (c : Dev nD) (i : grid0.Coords) (u3 : Memref sig .tc .vmem S1024x1024 .bf16) (z3 : u3.IsWhole) (u4 : Memref sig .tc .vmem S1024x1024 .bf16) (z4 : u4.IsWhole) (u5 : Memref sig .tc .vmem S1024x1024 .f32) (z5 : u5.IsWhole) (u6 : Memref sig .tc .vmem S1024x1024 .f32) (z6 : u6.IsWhole)
include c i u3 z3 u4 z4 u5 z5 u6 z6

theorem sout_A (hc0 : cond0_0 i) (hc1 : ¬cond0_1 i) (x0 : Vec Ideal S1024x1024 .bf16) (x1 : Vec Ideal S1024x1024 .bf16) :
    sout0_A_0 (F := Ideal) c i u3 z3 u4 z4 u5 z5 u6 z6 hc0 hc1 x0 x1 = k0_pay2 x0 (k0_pay1 (F := Ideal)) x1 := by
  unfold sout0_A_0
  rw [View.read_writes_junk_eq_canon]
  unfold kernelRun0_A
  dsimp only
  rw [View.canon_cons_unit_zero hz2]
  simp only [kernelRun0_A.sl.v5, kernelRun0_A.sl.HS0_1, readAt_zero u3 z3 hz2, readAt_zero u4 z4 hz2, readAt_zero u6 z6 hz2, readCov_cons_zero u6.view hz2 hz2]

theorem sout_B (hc0 : ¬cond0_0 i) (hc1 : ¬cond0_1 i) (x0 : Vec Ideal S1024x1024 .bf16) (x1 : Vec Ideal S1024x1024 .bf16) (xs0 : Vec Ideal S1024x1024 .f32) :
    sout0_B_0 (F := Ideal) c i u3 z3 u4 z4 u5 z5 u6 z6 hc0 hc1 x0 x1 xs0 = k0_pay2 x0 xs0 x1 := by
  unfold sout0_B_0
  rw [View.read_writes_junk_eq_canon]
  unfold kernelRun0_B
  dsimp only
  rw [View.canon_cons_unit_zero hz2]
  simp only [readAt_zero u3 z3 hz2, readAt_zero u4 z4 hz2, readAt_zero u6 z6 hz2, readCov_cons_zero u6.view hz2 hz2]

theorem sout_C (hc0 : ¬cond0_0 i) (hc1 : cond0_1 i) (x0 : Vec Ideal S1024x1024 .bf16) (x1 : Vec Ideal S1024x1024 .bf16) (xs0 : Vec Ideal S1024x1024 .f32) :
    sout0_C_0 (F := Ideal) c i u3 z3 u4 z4 u5 z5 u6 z6 hc0 hc1 x0 x1 xs0 = k0_pay2 x0 xs0 x1 := by
  unfold sout0_C_0
  rw [View.read_writes_junk_eq_canon]
  unfold kernelRun0_C
  dsimp only
  unfold kernelRun0_C.sl.HS0_1
  rw [View.canon_cons_unit_zero hz2]
  simp only [readAt_zero u3 z3 hz2, readAt_zero u4 z4 hz2, readAt_zero u6 z6 hz2, readCov_cons_zero u6.view hz2 hz2]

theorem out_C (hc0 : ¬cond0_0 i) (hc1 : cond0_1 i) (x0 : Vec Ideal S1024x1024 .bf16) (x1 : Vec Ideal S1024x1024 .bf16) (xs0 : Vec Ideal S1024x1024 .f32) :
    out0_C_2 (F := Ideal) c i u3 z3 u4 z4 u5 z5 u6 z6 hc0 hc1 x0 x1 xs0 = k0_pay2 x0 xs0 x1 := by
  unfold out0_C_2
  rw [View.read_writes_junk_eq_canon]
  unfold kernelRun0_C
  dsimp only
  rw [View.canon_cons_unit_zero hz2]
  simp only [kernelRun0_C.sl.v15, kernelRun0_C.sl.HS0_1, readAt_zero u3 z3 hz2, readAt_zero u4 z4 hz2, readAt_zero u6 z6 hz2, readCov_cons_zero u6.view hz2 hz2]

end

theorem pay2_at (a : Vec Ideal S1024x1024 .f32) (x0 : Vec Ideal S1024x1024 .bf16) (x1 : Vec Ideal S1024x1024 .bf16) (r : Fin 1024) (s : Fin 1024) :
    k0_pay2 x0 a x1 (ix2 r s) = a (ix2 r s) + ∑ k : Fin 1024, x0 (ix2 r k) * x1 (ix2 k s) := by
  pointwise [k0_pay2]

theorem pay1_at (r : Fin 1024) (s : Fin 1024) : k0_pay1 (F := Ideal) (ix2 r s) = 0 := by
  pointwise [k0_pay1]

theorem idx_facts : ∀ t : Fin cfg0.N, win0_0.index t (0 : Fin 2) = 0 ∧ win0_0.index t (1 : Fin 2) = t.val % 4
    ∧ win0_1.index t (0 : Fin 2) = t.val % 4 ∧ win0_1.index t (1 : Fin 2) = t.val / 4
    ∧ win0_2.index t (0 : Fin 2) = 0 ∧ win0_2.index t (1 : Fin 2) = t.val / 4 :=
  (by decide +kernel : ∀ t : Fin grid0.N, _)

/-- The weight's gradient. -/
def G (a0 : Vec Ideal S4096x1024 .f32) (a1 : Vec Ideal S4096x6144 .bf16) : Vec Ideal S1024x6144 .f32 := fun i =>
  (∑ k : Fin 4096, a0 (ix2 k (i 0)) * a1 (ix2 k (i 1)) : EReal)

variable (m : (ℓ : Loc nD τ sig) → Buf (Elt Ideal) ℓ) (ρ : Dev nD → PrngReg)

/-- The transposed copy the host makes of the first argument. -/
theorem V_v1 (c : Dev nD) : @Eq (FVec Ideal S1024x4096 .bf16) (V (F := Ideal) m c main_v1) (truncf .bf16 (transpose S1024x4096 [1, 0] (m (c.tc.loc main_arg0) : FVec Ideal S4096x1024 .f32) transposes_S4096x1024_S1024x4096_1_0) bitsLt_bf16_f32) := by
  unfold V hostOps0
  simp only [List.flatten_cons, List.flatten_nil, List.cons_append, List.nil_append, List.append_nil]
  after_results_simp

theorem V_v1_at (c : Dev nD) (p : Fin 1024) (k : Fin 4096) : (V (F := Ideal) m c main_v1 : FVec Ideal S1024x4096 .bf16) (ix2 p k) = (m (c.tc.loc main_arg0) : FVec Ideal S4096x1024 .f32) (ix2 k p) := by
  rw [V_v1]
  pointwise

/-- A tile's product. -/
def mm (x0 : Vec Ideal S1024x1024 .bf16) (x1 : Vec Ideal S1024x1024 .bf16) (r : Fin 1024) (s : Fin 1024) : EReal :=
  ∑ k : Fin 1024, (x0 (ix2 r k) * x1 (ix2 k s) : EReal)

/-- The part of the product that a reduction block gives. -/
def part (a0 : Vec Ideal S4096x1024 .f32) (a1 : Vec Ideal S4096x6144 .bf16) (b : Fin 4) (p : Fin 1024) (q : Fin 6144) : EReal :=
  ∑ k : Fin 1024, (a0 (ix2 (tile 4096 rfl b k) p) * a1 (ix2 (tile 4096 rfl b k) q) : EReal)

/-- What a point adds. -/
def M (c : Dev nD) (t : Fin cfg0.N) (r : Fin 1024) (s : Fin 1024) : EReal := mm (iblk m c 0 t) (iblk m c 1 t) r s

theorem M_eq (c : Dev nD) (t : Fin cfg0.N) (r s : Fin 1024) (b : Fin 4) (q : Fin 6144) (hb : b.val = t.val % 4) (hq : q.val = t.val / 4 * 1024 + s.val) :
    M m c t r s = part (m ((c : Thread nD τ).loc main_arg0)) (m ((c : Thread nD τ).loc main_arg1)) b r q := by
  obtain ⟨e0, e1, e2, e3, e4, e5⟩ := idx_facts t
  unfold M mm part
  refine Finset.sum_congr rfl fun k _ => congrArg₂ (fun a b : EReal => a * b) ?_ ?_
  · rw [← V_v1_at m c]
    show V m c main_v1 (((cfg0.win 0).blk t).view.emb (ix2 r k)) = V m c main_v1 _
    refine congrArg (V m c main_v1) (funext fun a => Fin.ext ?_)
    match a with
    | ⟨0, _⟩ => show win0_0.index t (0 : Fin 2) * 1024 + 1 * r.val = r.val; omega
    | ⟨1, _⟩ => show win0_0.index t (1 : Fin 2) * 1024 + 1 * k.val = b.val * 1024 + k.val; omega
  · rw [← V_main_arg1 m c]
    show V m c main_arg1 (((cfg0.win 1).blk t).view.emb (ix2 k s)) = V m c main_arg1 _
    refine congrArg (V m c main_arg1) (funext fun a => Fin.ext ?_)
    match a with
    | ⟨0, _⟩ => show win0_1.index t (0 : Fin 2) * 1024 + 1 * k.val = b.val * 1024 + k.val; omega
    | ⟨1, _⟩ => show win0_1.index t (1 : Fin 2) * 1024 + 1 * s.val = q.val; omega

/-- What a point adds, by its number. -/
def MN (c : Dev nD) (r : Fin 1024) (s : Fin 1024) (n : ℕ) : EReal := if h : n < cfg0.N then M m c ⟨n, h⟩ r s else 0

theorem MN_eq (c : Dev nD) (r : Fin 1024) (s : Fin 1024) (n : ℕ) (h : n < cfg0.N) : MN m c r s n = M m c ⟨n, h⟩ r s := dif_pos h

theorem scr (c : Dev nD) (r : Fin 1024) (s : Fin 1024) : ∀ n h, (outsAt0 m c n h).2 (ix2 r s)
    = ∑ b ∈ Finset.range (n % 4 + 1), MN m c r s (4 * (n / 4) + b) := by
  refine fold_eq 4 cfg0.N (by decide) (fun n h => (outsAt0 m c n h).2 (ix2 r s)) (MN m c r s) (fun n h hn => ?_) (fun n h hn => ?_)
  · rw [MN_eq m c r s n h]
    rw [outsAt0_A m c ⟨n, h⟩ hn (by dsimp only; omega)]
    dsimp only
    rw [sout_A, pay2_at, pay1_at, zero_add]
    rfl
  · rw [MN_eq m c r s n h]
    by_cases h7 : n % 4 = 3
    · rw [outsAt0_C m c ⟨n, h⟩ hn h7]
      dsimp only
      rw [sout_C, pay2_at]
      rfl
    · rw [outsAt0_B m c ⟨n, h⟩ hn h7]
      dsimp only
      rw [sout_B, pay2_at]
      rfl

theorem flushed_eq (c : Dev nD) (t : Fin cfg0.N) (hf : (cfg0.win 2).flush t = true) :
    (dats m 0 c).flushed 2 t = ((cfg0.win 2).blk t).view.read (Elt Ideal) (G (m ((c : Thread nD τ).loc main_arg0)) (m ((c : Thread nD τ).loc main_arg1))) := by
  have hm : t.val % 4 = 3 := (flush0_2 t).mp hf
  have hN : t.val < 24 := lt_of_lt_of_eq t.isLt N_0
  obtain ⟨e0, e1, e2, e3, e4, e5⟩ := idx_facts t
  rw [flushed2_C m c t (by omega) hm]
  funext j
  obtain ⟨r, s, rfl⟩ := ix2_of (a := 1024) (b := 1024) j
  show out0_C_2 (F := Ideal) _ _ _ _ _ _ _ _ _ _ _ _ _ _ _ (ix2 r s) = G _ _ (((cfg0.win 2).blk t).view.emb (ix2 r s))
  have hs := scr m c r s t.val t.isLt
  rw [outsAt0_C m c t (by omega) hm] at hs
  dsimp only at hs
  rw [sout_C] at hs
  rw [out_C, hs, hm, Finset.sum_range]
  have hq : t.val / 4 * 1024 + s.val < 6144 := by have := s.isLt; omega
  have hi : ((cfg0.win 2).blk t).view.emb (ix2 r s) = ix2 r (⟨t.val / 4 * 1024 + s.val, hq⟩ : Fin 6144) := funext fun a => Fin.ext (by
    match a with
    | ⟨0, _⟩ => show win0_2.index t (0 : Fin 2) * 1024 + 1 * r.val = r.val; omega
    | ⟨1, _⟩ => show win0_2.index t (1 : Fin 2) * 1024 + 1 * s.val = t.val / 4 * 1024 + s.val; omega)
  rw [hi]
  unfold G
  rw [sum_tile (n := 4) 4096 rfl]
  refine Finset.sum_congr rfl fun b _ => ?_
  have hb : 4 * (t.val / 4) + b.val < cfg0.N := lt_of_lt_of_eq (by have := b.isLt; omega : _ < 24) N_0.symm
  rw [MN_eq m c r s _ hb]
  exact M_eq m c ⟨_, hb⟩ r s b _ (by dsimp only; omega) (by show t.val / 4 * 1024 + s.val = (4 * (t.val / 4) + b.val) / 4 * 1024 + s.val; omega)

theorem final (c : Dev nD) : (dats m 0 c).arrAt 2 cfg0.N = G (m ((c : Thread nD τ).loc main_arg0)) (m ((c : Thread nD τ).loc main_arg1)) :=
  (dats m 0 c).arrAt_eq_of_cover 2 _ (fun t hf => flushed_eq m c t hf) (fun i => (covered_iff2 i).2 (by
    have h0 : (i 0).val < 1024 := (i 0).isLt; have h1 : (i 1).val < 6144 := (i 1).isLt; omega))

end Cert.FdwqIdeal.Prod

namespace Cert.FdwqRefIdeal.Prod

open Idealize.ShloMosaic Idealize.ShloMosaic.TcCoe Idealize.SL.Sem Cert.FdwqRefIdeal Cert.FdwqRefIdeal.Gen Cert.Tile

def R (a0 : FVec Ideal S4096x1024 .f32) (a1 : FVec Ideal S4096x6144 .bf16) : FVec Ideal S1024x6144 .f32 :=
  transpose S1024x6144 [1, 0] (Host.dotGeneral dot_S4096x6144_S4096x1024_S6144x1024_0_0_1_1_n_n none (extf .f32 a1 bitsLt_bf16_f32) a0) transposes_S6144x1024_S1024x6144_1_0

theorem R_eq (a0 : FVec Ideal S4096x1024 .f32) (a1 : FVec Ideal S4096x6144 .bf16) : R a0 a1 = Cert.FdwqIdeal.Prod.G a0 a1 := by
  funext i
  obtain ⟨r, s, rfl⟩ := ix2_of i
  unfold Cert.FdwqIdeal.Prod.G
  have h : R a0 a1 (ix2 r s) = ∑ k : Fin 4096, a1 (ix2 k s) * a0 (ix2 k r) := by
    pointwise [R]
  rw [h]
  exact Finset.sum_congr rfl fun k _ => mul_comm _ _

theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (Value.run m ρ) fun r h => ⟨fun c => (h c).2, sem_eq_zero_of_no_sems rfl _⟩

end Cert.FdwqRefIdeal.Prod

open Idealize.ShloMosaic Idealize.ShloMosaic.TcCoe Idealize.SL.Sem in
theorem Cert.FdwqIdeal.Prod.claim : Cert.algebraic_FdwqIdeal_FdwqRefIdeal (hFdwqIdeal := Cert.FdwqIdeal.Gen.facts) (hFdwqRefIdeal := Cert.FdwqRefIdeal.Gen.facts) := fun m g m' g' _ hagree =>
  ⟨_, θ_run_mono (Cert.FdwqIdeal.Value.run_blocks m g) fun r h c => ⟨(h c).1.trans (Cert.FdwqIdeal.Prod.final m c), (h c).2⟩,
    θ_run_mono (Cert.FdwqRefIdeal.Value.run m' g') fun r h c => ⟨(h c).1.trans (by
      rw [(hagree c).1, (hagree c).2]
      exact Cert.FdwqRefIdeal.Prod.R_eq _ _), (h c).2⟩⟩

end
-- ==== Proof.FdwgVal.lean ====
module

public import proofs.«01_k».proof.Proof.Gen.Fdwg
public import proofs.«01_k».proof.Proof.Gen.FdwgIdeal
public import proofs.«01_k».proof.Proof.Gen.FdwgRefIdeal
public import proofs.«01_k».proof.Proof.Gen.Fdwg.Frame
public import proofs.«01_k».proof.Proof.Gen.FdwgIdeal.Frame
public import proofs.«01_k».proof.Proof.Gen.FdwgIdeal.Value
public import proofs.«01_k».proof.Proof.Gen.FdwgRefIdeal.Run
public import proofs.«01_k».proof.Defs
public import proofs.«01_k».proof.Proof.Tile
public import Idealize.ShloMosaic.Lib.Claim

@[expose] public section

set_option maxRecDepth 16384

noncomputable section

namespace Cert.FdwgIdeal.Prod

open Idealize.ShloMosaic Idealize.ShloMosaic.TcCoe Idealize.SL.Sem Cert.FdwgIdeal Cert.FdwgIdeal.Gen Cert.FdwgIdeal.Value Cert.Tile

section
variable (c : Dev nD) (i : grid0.Coords) (u3 : Memref sig .tc .vmem S1024x1024 .bf16) (z3 : u3.IsWhole) (u4 : Memref sig .tc .vmem S1024x1024 .f32) (z4 : u4.IsWhole) (u5 : Memref sig .tc .vmem S1024x1024 .f32) (z5 : u5.IsWhole) (u6 : Memref sig .tc .vmem S1024x1024 .f32) (z6 : u6.IsWhole)
include c i u3 z3 u4 z4 u5 z5 u6 z6

theorem sout_A (hc0 : cond0_0 i) (hc1 : ¬cond0_1 i) (x0 : Vec Ideal S1024x1024 .bf16) (x1 : Vec Ideal S1024x1024 .f32) :
    sout0_A_0 (F := Ideal) c i u3 z3 u4 z4 u5 z5 u6 z6 hc0 hc1 x0 x1 = k0_pay2 x0 (k0_pay1 (F := Ideal)) x1 := by
  unfold sout0_A_0
  rw [View.read_writes_junk_eq_canon]
  unfold kernelRun0_A
  dsimp only
  rw [View.canon_cons_unit_zero hz2]
  simp only [kernelRun0_A.sl.v5, kernelRun0_A.sl.HS0_1, readAt_zero u3 z3 hz2, readAt_zero u4 z4 hz2, readAt_zero u6 z6 hz2, readCov_cons_zero u6.view hz2 hz2]

theorem sout_B (hc0 : ¬cond0_0 i) (hc1 : ¬cond0_1 i) (x0 : Vec Ideal S1024x1024 .bf16) (x1 : Vec Ideal S1024x1024 .f32) (xs0 : Vec Ideal S1024x1024 .f32) :
    sout0_B_0 (F := Ideal) c i u3 z3 u4 z4 u5 z5 u6 z6 hc0 hc1 x0 x1 xs0 = k0_pay2 x0 xs0 x1 := by
  unfold sout0_B_0
  rw [View.read_writes_junk_eq_canon]
  unfold kernelRun0_B
  dsimp only
  rw [View.canon_cons_unit_zero hz2]
  simp only [readAt_zero u3 z3 hz2, readAt_zero u4 z4 hz2, readAt_zero u6 z6 hz2, readCov_cons_zero u6.view hz2 hz2]

theorem sout_C (hc0 : ¬cond0_0 i) (hc1 : cond0_1 i) (x0 : Vec Ideal S1024x1024 .bf16) (x1 : Vec Ideal S1024x1024 .f32) (xs0 : Vec Ideal S1024x1024 .f32) :
    sout0_C_0 (F := Ideal) c i u3 z3 u4 z4 u5 z5 u6 z6 hc0 hc1 x0 x1 xs0 = k0_pay2 x0 xs0 x1 := by
  unfold sout0_C_0
  rw [View.read_writes_junk_eq_canon]
  unfold kernelRun0_C
  dsimp only
  unfold kernelRun0_C.sl.HS0_1
  rw [View.canon_cons_unit_zero hz2]
  simp only [readAt_zero u3 z3 hz2, readAt_zero u4 z4 hz2, readAt_zero u6 z6 hz2, readCov_cons_zero u6.view hz2 hz2]

theorem out_C (hc0 : ¬cond0_0 i) (hc1 : cond0_1 i) (x0 : Vec Ideal S1024x1024 .bf16) (x1 : Vec Ideal S1024x1024 .f32) (xs0 : Vec Ideal S1024x1024 .f32) :
    out0_C_2 (F := Ideal) c i u3 z3 u4 z4 u5 z5 u6 z6 hc0 hc1 x0 x1 xs0 = k0_pay2 x0 xs0 x1 := by
  unfold out0_C_2
  rw [View.read_writes_junk_eq_canon]
  unfold kernelRun0_C
  dsimp only
  rw [View.canon_cons_unit_zero hz2]
  simp only [kernelRun0_C.sl.v16, kernelRun0_C.sl.HS0_1, readAt_zero u3 z3 hz2, readAt_zero u4 z4 hz2, readAt_zero u6 z6 hz2, readCov_cons_zero u6.view hz2 hz2]

end

theorem pay2_at (a : Vec Ideal S1024x1024 .f32) (x0 : Vec Ideal S1024x1024 .bf16) (x1 : Vec Ideal S1024x1024 .f32) (r : Fin 1024) (s : Fin 1024) :
    k0_pay2 x0 a x1 (ix2 r s) = a (ix2 r s) + ∑ k : Fin 1024, x0 (ix2 r k) * x1 (ix2 k s) := by
  pointwise [k0_pay2]

theorem pay1_at (r : Fin 1024) (s : Fin 1024) : k0_pay1 (F := Ideal) (ix2 r s) = 0 := by
  pointwise [k0_pay1]

theorem idx_facts : ∀ t : Fin cfg0.N, win0_0.index t (0 : Fin 2) = 0 ∧ win0_0.index t (1 : Fin 2) = t.val % 4
    ∧ win0_1.index t (0 : Fin 2) = t.val % 4 ∧ win0_1.index t (1 : Fin 2) = t.val / 4
    ∧ win0_2.index t (0 : Fin 2) = 0 ∧ win0_2.index t (1 : Fin 2) = t.val / 4 :=
  (by decide +kernel : ∀ t : Fin grid0.N, _)

/-- The weight's gradient. -/
def G (a0 : Vec Ideal S4096x1024 .f32) (a1 : Vec Ideal S4096x2048 .f32) : Vec Ideal S1024x2048 .f32 := fun i =>
  (∑ k : Fin 4096, a0 (ix2 k (i 0)) * a1 (ix2 k (i 1)) : EReal)

variable (m : (ℓ : Loc nD τ sig) → Buf (Elt Ideal) ℓ) (ρ : Dev nD → PrngReg)

/-- The transposed copy the host makes of the first argument. -/
theorem V_v1 (c : Dev nD) : @Eq (FVec Ideal S1024x4096 .bf16) (V (F := Ideal) m c main_v1) (truncf .bf16 (transpose S1024x4096 [1, 0] (m (c.tc.loc main_arg0) : FVec Ideal S4096x1024 .f32) transposes_S4096x1024_S1024x4096_1_0) bitsLt_bf16_f32) := by
  unfold V hostOps0
  simp only [List.flatten_cons, List.flatten_nil, List.cons_append, List.nil_append, List.append_nil]
  after_results_simp

theorem V_v1_at (c : Dev nD) (p : Fin 1024) (k : Fin 4096) : (V (F := Ideal) m c main_v1 : FVec Ideal S1024x4096 .bf16) (ix2 p k) = (m (c.tc.loc main_arg0) : FVec Ideal S4096x1024 .f32) (ix2 k p) := by
  rw [V_v1]
  pointwise

/-- A tile's product. -/
def mm (x0 : Vec Ideal S1024x1024 .bf16) (x1 : Vec Ideal S1024x1024 .f32) (r : Fin 1024) (s : Fin 1024) : EReal :=
  ∑ k : Fin 1024, (x0 (ix2 r k) * x1 (ix2 k s) : EReal)

/-- The part of the product that a reduction block gives. -/
def part (a0 : Vec Ideal S4096x1024 .f32) (a1 : Vec Ideal S4096x2048 .f32) (b : Fin 4) (p : Fin 1024) (q : Fin 2048) : EReal :=
  ∑ k : Fin 1024, (a0 (ix2 (tile 4096 rfl b k) p) * a1 (ix2 (tile 4096 rfl b k) q) : EReal)

/-- What a point adds. -/
def M (c : Dev nD) (t : Fin cfg0.N) (r : Fin 1024) (s : Fin 1024) : EReal := mm (iblk m c 0 t) (iblk m c 1 t) r s

theorem M_eq (c : Dev nD) (t : Fin cfg0.N) (r s : Fin 1024) (b : Fin 4) (q : Fin 2048) (hb : b.val = t.val % 4) (hq : q.val = t.val / 4 * 1024 + s.val) :
    M m c t r s = part (m ((c : Thread nD τ).loc main_arg0)) (m ((c : Thread nD τ).loc main_arg1)) b r q := by
  obtain ⟨e0, e1, e2, e3, e4, e5⟩ := idx_facts t
  unfold M mm part
  refine Finset.sum_congr rfl fun k _ => congrArg₂ (fun a b : EReal => a * b) ?_ ?_
  · rw [← V_v1_at m c]
    show V m c main_v1 (((cfg0.win 0).blk t).view.emb (ix2 r k)) = V m c main_v1 _
    refine congrArg (V m c main_v1) (funext fun a => Fin.ext ?_)
    match a with
    | ⟨0, _⟩ => show win0_0.index t (0 : Fin 2) * 1024 + 1 * r.val = r.val; omega
    | ⟨1, _⟩ => show win0_0.index t (1 : Fin 2) * 1024 + 1 * k.val = b.val * 1024 + k.val; omega
  · rw [← V_main_arg1 m c]
    show V m c main_arg1 (((cfg0.win 1).blk t).view.emb (ix2 k s)) = V m c main_arg1 _
    refine congrArg (V m c main_arg1) (funext fun a => Fin.ext ?_)
    match a with
    | ⟨0, _⟩ => show win0_1.index t (0 : Fin 2) * 1024 + 1 * k.val = b.val * 1024 + k.val; omega
    | ⟨1, _⟩ => show win0_1.index t (1 : Fin 2) * 1024 + 1 * s.val = q.val; omega

/-- What a point adds, by its number. -/
def MN (c : Dev nD) (r : Fin 1024) (s : Fin 1024) (n : ℕ) : EReal := if h : n < cfg0.N then M m c ⟨n, h⟩ r s else 0

theorem MN_eq (c : Dev nD) (r : Fin 1024) (s : Fin 1024) (n : ℕ) (h : n < cfg0.N) : MN m c r s n = M m c ⟨n, h⟩ r s := dif_pos h

theorem scr (c : Dev nD) (r : Fin 1024) (s : Fin 1024) : ∀ n h, (outsAt0 m c n h).2 (ix2 r s)
    = ∑ b ∈ Finset.range (n % 4 + 1), MN m c r s (4 * (n / 4) + b) := by
  refine fold_eq 4 cfg0.N (by decide) (fun n h => (outsAt0 m c n h).2 (ix2 r s)) (MN m c r s) (fun n h hn => ?_) (fun n h hn => ?_)
  · rw [MN_eq m c r s n h]
    rw [outsAt0_A m c ⟨n, h⟩ hn (by dsimp only; omega)]
    dsimp only
    rw [sout_A, pay2_at, pay1_at, zero_add]
    rfl
  · rw [MN_eq m c r s n h]
    by_cases h7 : n % 4 = 3
    · rw [outsAt0_C m c ⟨n, h⟩ hn h7]
      dsimp only
      rw [sout_C, pay2_at]
      rfl
    · rw [outsAt0_B m c ⟨n, h⟩ hn h7]
      dsimp only
      rw [sout_B, pay2_at]
      rfl

theorem flushed_eq (c : Dev nD) (t : Fin cfg0.N) (hf : (cfg0.win 2).flush t = true) :
    (dats m 0 c).flushed 2 t = ((cfg0.win 2).blk t).view.read (Elt Ideal) (G (m ((c : Thread nD τ).loc main_arg0)) (m ((c : Thread nD τ).loc main_arg1))) := by
  have hm : t.val % 4 = 3 := (flush0_2 t).mp hf
  have hN : t.val < 8 := lt_of_lt_of_eq t.isLt N_0
  obtain ⟨e0, e1, e2, e3, e4, e5⟩ := idx_facts t
  rw [flushed2_C m c t (by omega) hm]
  funext j
  obtain ⟨r, s, rfl⟩ := ix2_of (a := 1024) (b := 1024) j
  show out0_C_2 (F := Ideal) _ _ _ _ _ _ _ _ _ _ _ _ _ _ _ (ix2 r s) = G _ _ (((cfg0.win 2).blk t).view.emb (ix2 r s))
  have hs := scr m c r s t.val t.isLt
  rw [outsAt0_C m c t (by omega) hm] at hs
  dsimp only at hs
  rw [sout_C] at hs
  rw [out_C, hs, hm, Finset.sum_range]
  have hq : t.val / 4 * 1024 + s.val < 2048 := by have := s.isLt; omega
  have hi : ((cfg0.win 2).blk t).view.emb (ix2 r s) = ix2 r (⟨t.val / 4 * 1024 + s.val, hq⟩ : Fin 2048) := funext fun a => Fin.ext (by
    match a with
    | ⟨0, _⟩ => show win0_2.index t (0 : Fin 2) * 1024 + 1 * r.val = r.val; omega
    | ⟨1, _⟩ => show win0_2.index t (1 : Fin 2) * 1024 + 1 * s.val = t.val / 4 * 1024 + s.val; omega)
  rw [hi]
  unfold G
  rw [sum_tile (n := 4) 4096 rfl]
  refine Finset.sum_congr rfl fun b _ => ?_
  have hb : 4 * (t.val / 4) + b.val < cfg0.N := lt_of_lt_of_eq (by have := b.isLt; omega : _ < 8) N_0.symm
  rw [MN_eq m c r s _ hb]
  exact M_eq m c ⟨_, hb⟩ r s b _ (by dsimp only; omega) (by show t.val / 4 * 1024 + s.val = (4 * (t.val / 4) + b.val) / 4 * 1024 + s.val; omega)

theorem final (c : Dev nD) : (dats m 0 c).arrAt 2 cfg0.N = G (m ((c : Thread nD τ).loc main_arg0)) (m ((c : Thread nD τ).loc main_arg1)) :=
  (dats m 0 c).arrAt_eq_of_cover 2 _ (fun t hf => flushed_eq m c t hf) (fun i => (covered_iff2 i).2 (by
    have h0 : (i 0).val < 1024 := (i 0).isLt; have h1 : (i 1).val < 2048 := (i 1).isLt; omega))

end Cert.FdwgIdeal.Prod

namespace Cert.FdwgRefIdeal.Prod

open Idealize.ShloMosaic Idealize.ShloMosaic.TcCoe Idealize.SL.Sem Cert.FdwgRefIdeal Cert.FdwgRefIdeal.Gen Cert.Tile

def R (a0 : FVec Ideal S4096x1024 .f32) (a1 : FVec Ideal S4096x2048 .f32) : FVec Ideal S1024x2048 .f32 :=
  transpose S1024x2048 [1, 0] (Host.dotGeneral dot_S4096x2048_S4096x1024_S2048x1024_0_0_1_1_n_n none a1 a0) transposes_S2048x1024_S1024x2048_1_0

theorem R_eq (a0 : FVec Ideal S4096x1024 .f32) (a1 : FVec Ideal S4096x2048 .f32) : R a0 a1 = Cert.FdwgIdeal.Prod.G a0 a1 := by
  funext i
  obtain ⟨r, s, rfl⟩ := ix2_of i
  unfold Cert.FdwgIdeal.Prod.G
  have h : R a0 a1 (ix2 r s) = ∑ k : Fin 4096, a1 (ix2 k s) * a0 (ix2 k r) := by
    pointwise [R]
  rw [h]
  exact Finset.sum_congr rfl fun k _ => mul_comm _ _

theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (Value.run m ρ) fun r h => ⟨fun c => (h c).2, sem_eq_zero_of_no_sems rfl _⟩

end Cert.FdwgRefIdeal.Prod

open Idealize.ShloMosaic Idealize.ShloMosaic.TcCoe Idealize.SL.Sem in
theorem Cert.FdwgIdeal.Prod.claim : Cert.algebraic_FdwgIdeal_FdwgRefIdeal (hFdwgIdeal := Cert.FdwgIdeal.Gen.facts) (hFdwgRefIdeal := Cert.FdwgRefIdeal.Gen.facts) := fun m g m' g' _ hagree =>
  ⟨_, θ_run_mono (Cert.FdwgIdeal.Value.run_blocks m g) fun r h c => ⟨(h c).1.trans (Cert.FdwgIdeal.Prod.final m c), (h c).2⟩,
    θ_run_mono (Cert.FdwgRefIdeal.Value.run m' g') fun r h c => ⟨(h c).1.trans (by
      rw [(hagree c).1, (hagree c).2]
      exact Cert.FdwgRefIdeal.Prod.R_eq _ _), (h c).2⟩⟩

end
-- ==== Proof.FqkvVal.lean ====
module

public import proofs.«01_k».proof.Proof.Gen.Fqkv
public import proofs.«01_k».proof.Proof.Gen.FqkvIdeal
public import proofs.«01_k».proof.Proof.Gen.FqkvRefIdeal
public import proofs.«01_k».proof.Proof.Gen.Fqkv.Frame
public import proofs.«01_k».proof.Proof.Gen.FqkvIdeal.Frame
public import proofs.«01_k».proof.Proof.Gen.FqkvIdeal.Value
public import proofs.«01_k».proof.Proof.Gen.FqkvRefIdeal.Run
public import proofs.«01_k».proof.Defs
public import proofs.«01_k».proof.Proof.Tile
public import Idealize.ShloMosaic.Lib.Claim

@[expose] public section

set_option maxRecDepth 16384

noncomputable section

namespace Cert.FqkvIdeal.Prod

open Idealize.ShloMosaic Idealize.ShloMosaic.TcCoe Idealize.SL.Sem Cert.FqkvIdeal Cert.FqkvIdeal.Gen Cert.FqkvIdeal.Value Cert.Tile

theorem out_eq (c : Dev nD) (i : grid0.Coords) (u3 : Memref sig .tc .vmem S1024x1024 .f32) (z3 : u3.IsWhole) (u4 : Memref sig .tc .vmem S1024x1024 .bf16) (z4 : u4.IsWhole) (u5 : Memref sig .tc .vmem S1024x1024 .bf16) (z5 : u5.IsWhole) (u6 : Memref sig .tc .vmem S1024x1024 .f32) (z6 : u6.IsWhole) (hc0 : cond0_0 i) (hc1 : cond0_1 i)
    (x0 : Vec Ideal S1024x1024 .f32) (x1 : Vec Ideal S1024x1024 .bf16) :
    out0_A_2 (F := Ideal) c i u3 z3 u4 z4 u5 z5 u6 z6 hc0 hc1 x0 x1 = k0_pay3 (k0_pay2 k0_pay1 x0 x1) := by
  unfold out0_A_2
  rw [View.read_writes_junk_eq_canon]
  unfold kernelRun0_A
  dsimp only
  rw [View.canon_cons_unit_zero hz2]
  unfold kernelRun0_A.sl.v15
  simp only [kernelRun0_A.sl.HS0_2, kernelRun0_A.sl.v3, kernelRun0_A.sl.HS0_1, readCov_cons_zero u6.view hz2 hz2, readAt_zero u3 z3 hz2, readAt_zero u4 z4 hz2]

theorem pay_at (x0 : Vec Ideal S1024x1024 .f32) (x1 : Vec Ideal S1024x1024 .bf16) (r s : Fin 1024) :
    k0_pay3 (k0_pay2 k0_pay1 x0 x1) (ix2 r s) = ∑ k : Fin 1024, x0 (ix2 r k) * x1 (ix2 k s) := by
  pointwise [k0_pay3, k0_pay2, k0_pay1]

theorem idx_facts : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) ∧ win0_2.index t (0 : Fin 2) < 4 ∧ win0_2.index t (1 : Fin 2) < 6 :=
  (by decide +kernel : ∀ t : Fin grid0.N, _)

theorem idx_onto : ∀ (a : Fin 4) (b : Fin 6), ∃ t : Fin cfg0.N, win0_2.index t (0 : Fin 2) = a.val ∧ win0_2.index t (1 : Fin 2) = b.val :=
  (by decide +kernel : ∀ (a : Fin 4) (b : Fin 6), ∃ t : Fin grid0.N, _)

/-- The product, over the arrays. -/
def G (a0 : Vec Ideal S4096x1024 .f32) (a1 : Vec Ideal S1024x8208 .bf16) : Vec Ideal S4096x6144 .bf16 := fun i =>
  (∑ k : Fin 1024, a0 (ix2 (i 0) k) * a1 (ix2 k ⟨(i 1).val, lt_trans (i 1).isLt (by decide)⟩) : EReal)

variable (m : (ℓ : Loc nD τ sig) → Buf (Elt Ideal) ℓ) (ρ : Dev nD → PrngReg)

theorem flushed_eq (c : Dev nD) (t : Fin cfg0.N) :
    (dats m 0 c).flushed 2 t = ((cfg0.win 2).blk t).view.read (Elt Ideal) (G (m ((c : Thread nD τ).loc main_arg0)) (m ((c : Thread nD τ).loc main_arg1))) := by
  rw [flushed2_A, out_eq]
  obtain ⟨e0, e1, e2, e3, e4, e5⟩ := idx_facts t
  funext j
  show k0_pay3 (k0_pay2 k0_pay1 (iblk m c 0 t) (X0_1 m c t)) j = G _ _ (((cfg0.win 2).blk t).view.emb j)
  obtain ⟨r, s, rfl⟩ : ∃ (r s : Fin 1024), j = ix2 r s := ⟨j 0, j 1, funext fun a => by match a with | ⟨0, _⟩ => rfl | ⟨1, _⟩ => rfl⟩
  rw [pay_at]
  unfold G
  refine Finset.sum_congr rfl fun k _ => congrArg₂ (fun a b : EReal => a * b) ?_ ?_
  · rw [← V_main_arg0 m c]
    show V m c main_arg0 (((cfg0.win 0).blk t).view.emb (ix2 r k)) = V m c main_arg0 _
    refine congrArg (V m c main_arg0) (funext fun a => Fin.ext ?_)
    match a with
    | ⟨0, _⟩ => show win0_0.index t (0 : Fin 2) * 1024 + 1 * r.val = win0_2.index t (0 : Fin 2) * 1024 + 1 * r.val; omega
    | ⟨1, _⟩ => show win0_0.index t (1 : Fin 2) * 1024 + 1 * k.val = k.val; omega
  · rw [← V_main_arg1 m c]
    refine (dif_pos (moved0_1 t (ix2 k s : (cfg0.win 1).block.Idx))).trans ?_
    show V m c main_arg1 (((cfg0.win 1).blk t).view.emb _) = V m c main_arg1 _
    refine congrArg (V m c main_arg1) (funext fun a => Fin.ext ?_)
    match a with
    | ⟨0, _⟩ => show win0_1.index t (0 : Fin 2) * 1024 + 1 * k.val = k.val; omega
    | ⟨1, _⟩ => show win0_1.index t (1 : Fin 2) * 1024 + 1 * s.val = win0_2.index t (1 : Fin 2) * 1024 + 1 * s.val; omega

theorem covered (i : S4096x6144.Idx) :
    ∃ t : Fin cfg0.N, (cfg0.win 2).flush t = true ∧ i ∈ ((cfg0.win 2).blk t).view.set := by
  have h0 : (i 0).val < 4096 := (i 0).isLt
  have h1 : (i 1).val < 6144 := (i 1).isLt
  obtain ⟨t, e0, e1⟩ := idx_onto ⟨(i 0).val / 1024, by omega⟩ ⟨(i 1).val / 1024, by omega⟩
  dsimp only at e0 e1
  refine ⟨t, flush0_2 t, ?_⟩
  have h : ((cfg0.win 2).blk t).view.emb (ix2 (⟨(i 0).val % 1024, Nat.mod_lt _ (by decide)⟩ : Fin 1024) (⟨(i 1).val % 1024, Nat.mod_lt _ (by decide)⟩ : Fin 1024)) = i := by
    funext a
    refine Fin.ext ?_
    match a with
    | ⟨0, _⟩ => show win0_2.index t (0 : Fin 2) * 1024 + 1 * ((i 0).val % 1024) = (i 0).val; omega
    | ⟨1, _⟩ => show win0_2.index t (1 : Fin 2) * 1024 + 1 * ((i 1).val % 1024) = (i 1).val; omega
  rw [← h]
  exact ((cfg0.win 2).blk t).view.emb_mem_set _

theorem final (c : Dev nD) : (dats m 0 c).arrAt 2 cfg0.N = G (m ((c : Thread nD τ).loc main_arg0)) (m ((c : Thread nD τ).loc main_arg1)) :=
  (dats m 0 c).arrAt_eq_of_cover 2 _ (fun t _ => flushed_eq m c t) covered

end Cert.FqkvIdeal.Prod

namespace Cert.FqkvRefIdeal.Prod

open Idealize.ShloMosaic Idealize.ShloMosaic.TcCoe Idealize.SL.Sem Cert.FqkvRefIdeal Cert.FqkvRefIdeal.Gen Cert.Tile

def R (a0 : FVec Ideal S4096x1024 .f32) (a1 : FVec Ideal S1024x8208 .bf16) : FVec Ideal S4096x6144 .bf16 :=
  truncf .bf16 (extractStridedSlice S4096x6144 ![0, 0] (Host.dotGeneral dot_S4096x1024_S1024x8208_S4096x8208_1_0_0_1_n_n none a0 (extf .f32 a1 bitsLt_bf16_f32)) slices_S4096x8208_S4096x6144_0_0) bitsLt_bf16_f32

theorem R_eq (a0 : FVec Ideal S4096x1024 .f32) (a1 : FVec Ideal S1024x8208 .bf16) : R a0 a1 = Cert.FqkvIdeal.Prod.G a0 a1 := by
  funext i
  obtain ⟨r, s, rfl⟩ := ix2_of i
  unfold Cert.FqkvIdeal.Prod.G
  pointwise [R]

theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (Value.run m ρ) fun r h => ⟨fun c => (h c).2, sem_eq_zero_of_no_sems rfl _⟩

end Cert.FqkvRefIdeal.Prod

open Idealize.ShloMosaic Idealize.ShloMosaic.TcCoe Idealize.SL.Sem in
theorem Cert.FqkvIdeal.Prod.claim : Cert.algebraic_FqkvIdeal_FqkvRefIdeal (hFqkvIdeal := Cert.FqkvIdeal.Gen.facts) (hFqkvRefIdeal := Cert.FqkvRefIdeal.Gen.facts) := fun m g m' g' _ hagree =>
  ⟨_, θ_run_mono (Cert.FqkvIdeal.Value.run_blocks m g) fun r h c => ⟨(h c).1.trans (Cert.FqkvIdeal.Prod.final m c), (h c).2⟩,
    θ_run_mono (Cert.FqkvRefIdeal.Value.run m' g') fun r h c => ⟨(h c).1.trans (by
      rw [(hagree c).1, (hagree c).2]
      exact Cert.FqkvRefIdeal.Prod.R_eq _ _), (h c).2⟩⟩

end
-- ==== Proof.FgateVal.lean ====
module

public import proofs.«01_k».proof.Proof.Gen.Fgate
public import proofs.«01_k».proof.Proof.Gen.FgateIdeal
public import proofs.«01_k».proof.Proof.Gen.FgateRefIdeal
public import proofs.«01_k».proof.Proof.Gen.Fgate.Frame
public import proofs.«01_k».proof.Proof.Gen.FgateIdeal.Frame
public import proofs.«01_k».proof.Proof.Gen.FgateIdeal.Value
public import proofs.«01_k».proof.Proof.Gen.FgateRefIdeal.Run
public import proofs.«01_k».proof.Defs
public import proofs.«01_k».proof.Proof.Tile
public import Idealize.ShloMosaic.Lib.Claim

@[expose] public section

set_option maxRecDepth 16384

noncomputable section

namespace Cert.FgateIdeal.Prod

open Idealize.ShloMosaic Idealize.ShloMosaic.TcCoe Idealize.SL.Sem Cert.FgateIdeal Cert.FgateIdeal.Gen Cert.FgateIdeal.Value Cert.Tile

theorem out_eq (c : Dev nD) (i : grid0.Coords) (u3 : Memref sig .tc .vmem S1024x1024 .f32) (z3 : u3.IsWhole) (u4 : Memref sig .tc .vmem S1024x1024 .bf16) (z4 : u4.IsWhole) (u5 : Memref sig .tc .vmem S1024x1024 .f32) (z5 : u5.IsWhole) (u6 : Memref sig .tc .vmem S1024x1024 .f32) (z6 : u6.IsWhole) (hc0 : cond0_0 i) (hc1 : cond0_1 i)
    (x0 : Vec Ideal S1024x1024 .f32) (x1 : Vec Ideal S1024x1024 .bf16) :
    out0_A_2 (F := Ideal) c i u3 z3 u4 z4 u5 z5 u6 z6 hc0 hc1 x0 x1 = k0_pay2 k0_pay1 x0 x1 := by
  unfold out0_A_2
  rw [View.read_writes_junk_eq_canon]
  unfold kernelRun0_A
  dsimp only
  rw [View.canon_cons_unit_zero hz2]
  unfold kernelRun0_A.sl.v15
  simp only [kernelRun0_A.sl.HS0_2, kernelRun0_A.sl.v3, kernelRun0_A.sl.HS0_1, readCov_cons_zero u6.view hz2 hz2, readAt_zero u3 z3 hz2, readAt_zero u4 z4 hz2]

theorem pay_at (x0 : Vec Ideal S1024x1024 .f32) (x1 : Vec Ideal S1024x1024 .bf16) (r s : Fin 1024) :
    k0_pay2 k0_pay1 x0 x1 (ix2 r s) = ∑ k : Fin 1024, x0 (ix2 r k) * x1 (ix2 k s) := by
  pointwise [k0_pay2, k0_pay1]

theorem idx_facts : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) + 6 ∧ win0_2.index t (0 : Fin 2) < 4 ∧ win0_2.index t (1 : Fin 2) < 2 :=
  (by decide +kernel : ∀ t : Fin grid0.N, _)

theorem idx_onto : ∀ (a : Fin 4) (b : Fin 2), ∃ t : Fin cfg0.N, win0_2.index t (0 : Fin 2) = a.val ∧ win0_2.index t (1 : Fin 2) = b.val :=
  (by decide +kernel : ∀ (a : Fin 4) (b : Fin 2), ∃ t : Fin grid0.N, _)

/-- The product, over the arrays. -/
def G (a0 : Vec Ideal S4096x1024 .f32) (a1 : Vec Ideal S1024x8208 .bf16) : Vec Ideal S4096x2048 .f32 := fun i =>
  (∑ k : Fin 1024, a0 (ix2 (i 0) k) * a1 (ix2 k ⟨6144 + (i 1).val, lt_trans (Nat.add_lt_add_left (i 1).isLt 6144) (by decide)⟩) : EReal)

variable (m : (ℓ : Loc nD τ sig) → Buf (Elt Ideal) ℓ) (ρ : Dev nD → PrngReg)

theorem flushed_eq (c : Dev nD) (t : Fin cfg0.N) :
    (dats m 0 c).flushed 2 t = ((cfg0.win 2).blk t).view.read (Elt Ideal) (G (m ((c : Thread nD τ).loc main_arg0)) (m ((c : Thread nD τ).loc main_arg1))) := by
  rw [flushed2_A, out_eq]
  obtain ⟨e0, e1, e2, e3, e4, e5⟩ := idx_facts t
  funext j
  show k0_pay2 k0_pay1 (iblk m c 0 t) (X0_1 m c t) j = G _ _ (((cfg0.win 2).blk t).view.emb j)
  obtain ⟨r, s, rfl⟩ : ∃ (r s : Fin 1024), j = ix2 r s := ⟨j 0, j 1, funext fun a => by match a with | ⟨0, _⟩ => rfl | ⟨1, _⟩ => rfl⟩
  rw [pay_at]
  unfold G
  refine Finset.sum_congr rfl fun k _ => congrArg₂ (fun a b : EReal => a * b) ?_ ?_
  · rw [← V_main_arg0 m c]
    show V m c main_arg0 (((cfg0.win 0).blk t).view.emb (ix2 r k)) = V m c main_arg0 _
    refine congrArg (V m c main_arg0) (funext fun a => Fin.ext ?_)
    match a with
    | ⟨0, _⟩ => show win0_0.index t (0 : Fin 2) * 1024 + 1 * r.val = win0_2.index t (0 : Fin 2) * 1024 + 1 * r.val; omega
    | ⟨1, _⟩ => show win0_0.index t (1 : Fin 2) * 1024 + 1 * k.val = k.val; omega
  · rw [← V_main_arg1 m c]
    refine (dif_pos (moved0_1 t (ix2 k s : (cfg0.win 1).block.Idx))).trans ?_
    show V m c main_arg1 (((cfg0.win 1).blk t).view.emb _) = V m c main_arg1 _
    refine congrArg (V m c main_arg1) (funext fun a => Fin.ext ?_)
    match a with
    | ⟨0, _⟩ => show win0_1.index t (0 : Fin 2) * 1024 + 1 * k.val = k.val; omega
    | ⟨1, _⟩ => show win0_1.index t (1 : Fin 2) * 1024 + 1 * s.val = 6144 + (win0_2.index t (1 : Fin 2) * 1024 + 1 * s.val); omega

theorem covered (i : S4096x2048.Idx) :
    ∃ t : Fin cfg0.N, (cfg0.win 2).flush t = true ∧ i ∈ ((cfg0.win 2).blk t).view.set := by
  have h0 : (i 0).val < 4096 := (i 0).isLt
  have h1 : (i 1).val < 2048 := (i 1).isLt
  obtain ⟨t, e0, e1⟩ := idx_onto ⟨(i 0).val / 1024, by omega⟩ ⟨(i 1).val / 1024, by omega⟩
  dsimp only at e0 e1
  refine ⟨t, flush0_2 t, ?_⟩
  have h : ((cfg0.win 2).blk t).view.emb (ix2 (⟨(i 0).val % 1024, Nat.mod_lt _ (by decide)⟩ : Fin 1024) (⟨(i 1).val % 1024, Nat.mod_lt _ (by decide)⟩ : Fin 1024)) = i := by
    funext a
    refine Fin.ext ?_
    match a with
    | ⟨0, _⟩ => show win0_2.index t (0 : Fin 2) * 1024 + 1 * ((i 0).val % 1024) = (i 0).val; omega
    | ⟨1, _⟩ => show win0_2.index t (1 : Fin 2) * 1024 + 1 * ((i 1).val % 1024) = (i 1).val; omega
  rw [← h]
  exact ((cfg0.win 2).blk t).view.emb_mem_set _

theorem final (c : Dev nD) : (dats m 0 c).arrAt 2 cfg0.N = G (m ((c : Thread nD τ).loc main_arg0)) (m ((c : Thread nD τ).loc main_arg1)) :=
  (dats m 0 c).arrAt_eq_of_cover 2 _ (fun t _ => flushed_eq m c t) covered

end Cert.FgateIdeal.Prod

namespace Cert.FgateRefIdeal.Prod

open Idealize.ShloMosaic Idealize.ShloMosaic.TcCoe Idealize.SL.Sem Cert.FgateRefIdeal Cert.FgateRefIdeal.Gen Cert.Tile

def R (a0 : FVec Ideal S4096x1024 .f32) (a1 : FVec Ideal S1024x8208 .bf16) : FVec Ideal S4096x2048 .f32 :=
  extractStridedSlice S4096x2048 ![0, 6144] (Host.dotGeneral dot_S4096x1024_S1024x8208_S4096x8208_1_0_0_1_n_n none a0 (extf .f32 a1 bitsLt_bf16_f32)) slices_S4096x8208_S4096x2048_0_6144

theorem R_eq (a0 : FVec Ideal S4096x1024 .f32) (a1 : FVec Ideal S1024x8208 .bf16) : R a0 a1 = Cert.FgateIdeal.Prod.G a0 a1 := by
  funext i
  obtain ⟨r, s, rfl⟩ := ix2_of i
  unfold Cert.FgateIdeal.Prod.G
  pointwise [R]

theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (Value.run m ρ) fun r h => ⟨fun c => (h c).2, sem_eq_zero_of_no_sems rfl _⟩

end Cert.FgateRefIdeal.Prod

open Idealize.ShloMosaic Idealize.ShloMosaic.TcCoe Idealize.SL.Sem in
theorem Cert.FgateIdeal.Prod.claim : Cert.algebraic_FgateIdeal_FgateRefIdeal (hFgateIdeal := Cert.FgateIdeal.Gen.facts) (hFgateRefIdeal := Cert.FgateRefIdeal.Gen.facts) := fun m g m' g' _ hagree =>
  ⟨_, θ_run_mono (Cert.FgateIdeal.Value.run_blocks m g) fun r h c => ⟨(h c).1.trans (Cert.FgateIdeal.Prod.final m c), (h c).2⟩,
    θ_run_mono (Cert.FgateRefIdeal.Value.run m' g') fun r h c => ⟨(h c).1.trans (by
      rw [(hagree c).1, (hagree c).2]
      exact Cert.FgateRefIdeal.Prod.R_eq _ _), (h c).2⟩⟩

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Gen.Mla
public import proofs.«01_k».proof.Proof.Gen.Mla.Skeleton
public import proofs.«01_k».proof.Proof.Gen.Mla.Loops
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Loops
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaRefIdeal
public import proofs.«01_k».proof.Proof.Gen.MlaRefIdeal.Run
public import proofs.«01_k».proof.Proof.Gen.Pre_finite_mla
public import proofs.«01_k».proof.Proof.Tail
public import proofs.«01_k».proof.Proof.Finite
public import proofs.«01_k».proof.Proof.MClaim
public import proofs.«01_k».proof.Proof.DxVal
public import proofs.«01_k».proof.Proof.DwVal
public import proofs.«01_k».proof.Proof.QkvVal
public import proofs.«01_k».proof.Proof.GateVal
public import proofs.«01_k».proof.Proof.OutVal
public import proofs.«01_k».proof.Proof.OutDxVal
public import proofs.«01_k».proof.Proof.OutDwVal
public import proofs.«01_k».proof.Proof.FdxVal
public import proofs.«01_k».proof.Proof.FdwqVal
public import proofs.«01_k».proof.Proof.FdwgVal
public import proofs.«01_k».proof.Proof.FqkvVal
public import proofs.«01_k».proof.Proof.FgateVal
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.KernelIdeal.Bwd

/-- The reference's frame: it has host operations only, so its arguments stay and it declares no semaphore. -/
theorem ref_frame (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  θ_run_mono (Cert.ReferenceIdeal.Value.run m ρ) fun r h => ⟨fun c => (h c).2.2, sem_eq_zero_of_no_sems rfl _⟩

section

open Cert.KernelIdeal Cert.KernelIdeal.Gen

/-- The kernel's run: the two results as the lines after the region leave them, the arguments unchanged. -/
theorem ker_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v54) = Pipeline.afterTail₀ cfgs (dats m) 0 (V0 m) [hostOps1] c main_v54
      ∧ r.2.mem ((c.tc : Thread nD τ).loc main_v53) = Pipeline.afterTail₀ cfgs (dats m) 0 (V0 m) [hostOps1] c main_v53
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  θ_run_mono (θ_run_and (run_main m g) (unchanged m g)) fun r h c =>
    ⟨(h.1 c).2 main_v54 (Pipeline.mem_restRefs_of main_v54 (by decide) (by decide)), (h.1 c).2 main_v53 (Pipeline.mem_restRefs_of main_v53 (by decide) (by decide)), h.2 c⟩

end

/-- The attention's gradient: the kernel's two results are the reference's. -/
theorem bwd_claim : Cert.algebraic_KernelIdeal_ReferenceIdeal_pre_finite (hKernelIdeal := Cert.KernelIdeal.Gen.facts) (hReferenceIdeal := Cert.ReferenceIdeal.Gen.facts) (hPre_finite := Cert.Pre_finite.Gen.facts) := fun m g m' g' hpre hagree => by
  refine ⟨_, _, ker_run m g, ?_⟩
  refine θ_run_mono (Cert.ReferenceIdeal.Value.run m' g') fun r h c => ?_
  obtain ⟨h0, h1, h2⟩ := hpre c
  obtain ⟨R, HQ, HK, HV, HG, HC, Hμ⟩ := Cert.Pre_finite.Ops.heads _ _ _ h0 h1 h2
  obtain ⟨e0, e1, e2⟩ := hagree c
  refine ⟨(h c).1.trans ?_, (h c).2.1.trans ?_, (h c).2.2⟩
  · refine (Cert.ReferenceIdeal.Ops.res0 m' c).trans ?_
    rw [e0, e1, e2]
    exact ((Cert.KernelIdeal.Ops.tail0 m c).trans (Cert.KernelIdeal.Ops.qkv_same m c R HQ HK HV HG HC Hμ)).symm
  · refine (Cert.ReferenceIdeal.Ops.res1 m' c).trans ?_
    rw [e0, e1, e2]
    exact ((Cert.KernelIdeal.Ops.tail1 m c).trans (Cert.KernelIdeal.Ops.gate_same m c R HQ HK HV HG HC Hμ)).symm

theorem claim : Cert.Claim := ⟨Cert.Kernel.Gen.facts, Cert.KernelIdeal.Gen.facts, Cert.ReferenceIdeal.Gen.facts,
  Cert.Dx.Gen.facts, Cert.DxIdeal.Gen.facts, Cert.DxRefIdeal.Gen.facts,
  Cert.Dw.Gen.facts, Cert.DwIdeal.Gen.facts, Cert.DwRefIdeal.Gen.facts,
  Cert.Qkv.Gen.facts, Cert.QkvIdeal.Gen.facts, Cert.QkvRefIdeal.Gen.facts,
  Cert.Gate.Gen.facts, Cert.GateIdeal.Gen.facts, Cert.GateRefIdeal.Gen.facts,
  Cert.Out.Gen.facts, Cert.OutIdeal.Gen.facts, Cert.OutRefIdeal.Gen.facts,
  Cert.OutDx.Gen.facts, Cert.OutDxIdeal.Gen.facts, Cert.OutDxRefIdeal.Gen.facts,
  Cert.OutDw.Gen.facts, Cert.OutDwIdeal.Gen.facts, Cert.OutDwRefIdeal.Gen.facts,
  Cert.Fdx.Gen.facts, Cert.FdxIdeal.Gen.facts, Cert.FdxRefIdeal.Gen.facts,
  Cert.Fdwq.Gen.facts, Cert.FdwqIdeal.Gen.facts, Cert.FdwqRefIdeal.Gen.facts,
  Cert.Fdwg.Gen.facts, Cert.FdwgIdeal.Gen.facts, Cert.FdwgRefIdeal.Gen.facts,
  Cert.Fqkv.Gen.facts, Cert.FqkvIdeal.Gen.facts, Cert.FqkvRefIdeal.Gen.facts,
  Cert.Fgate.Gen.facts, Cert.FgateIdeal.Gen.facts, Cert.FgateRefIdeal.Gen.facts,
  Cert.Mla.Gen.facts, Cert.MlaIdeal.Gen.facts, Cert.MlaRefIdeal.Gen.facts,
  Cert.Pre_finite.Gen.facts, Cert.Pre_finite_mla.Gen.facts,
  fun m ρ _ => Cert.Kernel.Gen.frame m ρ,
  fun m ρ _ => Cert.KernelIdeal.Gen.frame m ρ,
  fun m ρ _ => Cert.KernelIdeal.Gen.frame m ρ,
  fun m ρ _ => ref_frame m ρ,
  fun m ρ _ => ref_frame m ρ,
  fun m ρ _ => Cert.Dx.Gen.frame m ρ, fun m ρ _ => Cert.DxIdeal.Gen.frame m ρ, fun m ρ _ => Cert.DxRefIdeal.Prod.frame m ρ,
  fun m ρ _ => Cert.Dw.Gen.frame m ρ, fun m ρ _ => Cert.DwIdeal.Gen.frame m ρ, fun m ρ _ => Cert.DwRefIdeal.Prod.frame m ρ,
  fun m ρ _ => Cert.Qkv.Gen.frame m ρ, fun m ρ _ => Cert.QkvIdeal.Gen.frame m ρ, fun m ρ _ => Cert.QkvRefIdeal.Prod.frame m ρ,
  fun m ρ _ => Cert.Gate.Gen.frame m ρ, fun m ρ _ => Cert.GateIdeal.Gen.frame m ρ, fun m ρ _ => Cert.GateRefIdeal.Prod.frame m ρ,
  fun m ρ _ => Cert.Out.Gen.frame m ρ, fun m ρ _ => Cert.OutIdeal.Gen.frame m ρ, fun m ρ _ => Cert.OutRefIdeal.Prod.frame m ρ,
  fun m ρ _ => Cert.OutDx.Gen.frame m ρ, fun m ρ _ => Cert.OutDxIdeal.Gen.frame m ρ, fun m ρ _ => Cert.OutDxRefIdeal.Prod.frame m ρ,
  fun m ρ _ => Cert.OutDw.Gen.frame m ρ, fun m ρ _ => Cert.OutDwIdeal.Gen.frame m ρ, fun m ρ _ => Cert.OutDwRefIdeal.Prod.frame m ρ,
  fun m ρ _ => Cert.Fdx.Gen.frame m ρ, fun m ρ _ => Cert.FdxIdeal.Gen.frame m ρ, fun m ρ _ => Cert.FdxRefIdeal.Prod.frame m ρ,
  fun m ρ _ => Cert.Fdwq.Gen.frame m ρ, fun m ρ _ => Cert.FdwqIdeal.Gen.frame m ρ, fun m ρ _ => Cert.FdwqRefIdeal.Prod.frame m ρ,
  fun m ρ _ => Cert.Fdwg.Gen.frame m ρ, fun m ρ _ => Cert.FdwgIdeal.Gen.frame m ρ, fun m ρ _ => Cert.FdwgRefIdeal.Prod.frame m ρ,
  fun m ρ _ => Cert.Fqkv.Gen.frame m ρ, fun m ρ _ => Cert.FqkvIdeal.Gen.frame m ρ, fun m ρ _ => Cert.FqkvRefIdeal.Prod.frame m ρ,
  fun m ρ _ => Cert.Fgate.Gen.frame m ρ, fun m ρ _ => Cert.FgateIdeal.Gen.frame m ρ, fun m ρ _ => Cert.FgateRefIdeal.Prod.frame m ρ,
  fun m ρ _ => Cert.Mla.Gen.frame m ρ,
  fun m ρ _ => Cert.MlaIdeal.Gen.frame m ρ,
  fun m ρ _ => Cert.MlaIdeal.Gen.frame m ρ,
  fun m ρ _ => mref_frame m ρ,
  fun m ρ _ => mref_frame m ρ,
  trivial, bwd_claim,
  trivial, Cert.DxIdeal.Prod.claim,
  trivial, Cert.DwIdeal.Prod.claim,
  trivial, Cert.QkvIdeal.Prod.claim,
  trivial, Cert.GateIdeal.Prod.claim,
  trivial, Cert.OutIdeal.Prod.claim,
  trivial, Cert.OutDxIdeal.Prod.claim,
  trivial, Cert.OutDwIdeal.Prod.claim,
  trivial, Cert.FdxIdeal.Prod.claim,
  trivial, Cert.FdwqIdeal.Prod.claim,
  trivial, Cert.FdwgIdeal.Prod.claim,
  trivial, Cert.FqkvIdeal.Prod.claim,
  trivial, Cert.FgateIdeal.Prod.claim,
  trivial, mla_claim⟩

end Cert.Proof

end
